-- ==== Defs.lean ====
def Pre_FfnActKernel (m : (ℓ : Loc Cert.FfnActKernel.nD Cert.FfnActKernel.τ Cert.FfnActKernel.sig) → Buf (Elt Bits) ℓ) : Prop :=
  True

def Pre_FfnActKernelIdeal (m : (ℓ : Loc Cert.FfnActKernelIdeal.nD Cert.FfnActKernelIdeal.τ Cert.FfnActKernelIdeal.sig) → Buf (Elt Ideal) ℓ) : Prop :=
  True

def Pre_FfnActKernelIdeal_ffn_finite [hPre_ffn_finite : Cert.Pre_ffn_finite.Facts] (m : (ℓ : Loc Cert.FfnActKernelIdeal.nD Cert.FfnActKernelIdeal.τ Cert.FfnActKernelIdeal.sig) → Buf (Elt Ideal) ℓ) : Prop :=
  ∀ c : Dev Cert.FfnActKernelIdeal.nD,
    (Cert.Pre_ffn_finite.fn (F := Ideal) (m ((c.tc : Thread Cert.FfnActKernelIdeal.nD Cert.FfnActKernelIdeal.τ).loc Cert.FfnActKernelIdeal.main_arg0)) (m ((c.tc : Thread Cert.FfnActKernelIdeal.nD Cert.FfnActKernelIdeal.τ).loc Cert.FfnActKernelIdeal.main_arg1)) (m ((c.tc : Thread Cert.FfnActKernelIdeal.nD Cert.FfnActKernelIdeal.τ).loc Cert.FfnActKernelIdeal.main_arg2)) (m ((c.tc : Thread Cert.FfnActKernelIdeal.nD Cert.FfnActKernelIdeal.τ).loc Cert.FfnActKernelIdeal.main_arg3)) (m ((c.tc : Thread Cert.FfnActKernelIdeal.nD Cert.FfnActKernelIdeal.τ).loc Cert.FfnActKernelIdeal.main_arg4))) = (fun _ => 1#1)

def Pre_FfnActReferenceIdeal (m : (ℓ : Loc Cert.FfnActReferenceIdeal.nD Cert.FfnActReferenceIdeal.τ Cert.FfnActReferenceIdeal.sig) → Buf (Elt Ideal) ℓ) : Prop :=
  True

def Pre_FfnActReferenceIdeal_ffn_finite [hPre_ffn_finite : Cert.Pre_ffn_finite.Facts] (m : (ℓ : Loc Cert.FfnActReferenceIdeal.nD Cert.FfnActReferenceIdeal.τ Cert.FfnActReferenceIdeal.sig) → Buf (Elt Ideal) ℓ) : Prop :=
  ∀ c : Dev Cert.FfnActReferenceIdeal.nD,
    (Cert.Pre_ffn_finite.fn (F := Ideal) (m ((c.tc : Thread Cert.FfnActReferenceIdeal.nD Cert.FfnActReferenceIdeal.τ).loc Cert.FfnActReferenceIdeal.main_arg0)) (m ((c.tc : Thread Cert.FfnActReferenceIdeal.nD Cert.FfnActReferenceIdeal.τ).loc Cert.FfnActReferenceIdeal.main_arg1)) (m ((c.tc : Thread Cert.FfnActReferenceIdeal.nD Cert.FfnActReferenceIdeal.τ).loc Cert.FfnActReferenceIdeal.main_arg2)) (m ((c.tc : Thread Cert.FfnActReferenceIdeal.nD Cert.FfnActReferenceIdeal.τ).loc Cert.FfnActReferenceIdeal.main_arg3)) (m ((c.tc : Thread Cert.FfnActReferenceIdeal.nD Cert.FfnActReferenceIdeal.τ).loc Cert.FfnActReferenceIdeal.main_arg4))) = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_DiagKernel (m : (ℓ : Loc Cert.DiagKernel.nD Cert.DiagKernel.τ Cert.DiagKernel.sig) → Buf (Elt Bits) ℓ) : Prop :=
  True

def Pre_DiagKernelIdeal (m : (ℓ : Loc Cert.DiagKernelIdeal.nD Cert.DiagKernelIdeal.τ Cert.DiagKernelIdeal.sig) → Buf (Elt Ideal) ℓ) : Prop :=
  True

def Pre_DiagReferenceIdeal (m : (ℓ : Loc Cert.DiagReferenceIdeal.nD Cert.DiagReferenceIdeal.τ Cert.DiagReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))) = (fun _ => 1#1)

def Pre_AttnSumKernel (m : (ℓ : Loc Cert.AttnSumKernel.nD Cert.AttnSumKernel.τ Cert.AttnSumKernel.sig) → Buf (Elt Bits) ℓ) : Prop :=
  True

def Pre_AttnSumKernelIdeal (m : (ℓ : Loc Cert.AttnSumKernelIdeal.nD Cert.AttnSumKernelIdeal.τ Cert.AttnSumKernelIdeal.sig) → Buf (Elt Ideal) ℓ) : Prop :=
  True

def Pre_AttnSumReferenceIdeal (m : (ℓ : Loc Cert.AttnSumReferenceIdeal.nD Cert.AttnSumReferenceIdeal.τ Cert.AttnSumReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_GluKernel (m : (ℓ : Loc Cert.GluKernel.nD Cert.GluKernel.τ Cert.GluKernel.sig) → Buf (Elt Bits) ℓ) : Prop :=
  True

def Pre_GluKernelIdeal (m : (ℓ : Loc Cert.GluKernelIdeal.nD Cert.GluKernelIdeal.τ Cert.GluKernelIdeal.sig) → Buf (Elt Ideal) ℓ) : Prop :=
  True

def Pre_GluReferenceIdeal (m : (ℓ : Loc Cert.GluReferenceIdeal.nD Cert.GluReferenceIdeal.τ Cert.GluReferenceIdeal.sig) → Buf (Elt Ideal) ℓ) : Prop :=
  True

def Pre_PleKernel (m : (ℓ : Loc Cert.PleKernel.nD Cert.PleKernel.τ Cert.PleKernel.sig) → Buf (Elt Bits) ℓ) : Prop :=
  True

def Pre_PleKernelIdeal (m : (ℓ : Loc Cert.PleKernelIdeal.nD Cert.PleKernelIdeal.τ Cert.PleKernelIdeal.sig) → Buf (Elt Ideal) ℓ) : Prop :=
  True

def Pre_PleReferenceIdeal (m : (ℓ : Loc Cert.PleReferenceIdeal.nD Cert.PleReferenceIdeal.τ Cert.PleReferenceIdeal.sig) → Buf (Elt Ideal) ℓ) : Prop :=
  True

def Pre_FfnPostKernel (m : (ℓ : Loc Cert.FfnPostKernel.nD Cert.FfnPostKernel.τ Cert.FfnPostKernel.sig) → Buf (Elt Bits) ℓ) : Prop :=
  True

def Pre_FfnPostKernelIdeal (m : (ℓ : Loc Cert.FfnPostKernelIdeal.nD Cert.FfnPostKernelIdeal.τ Cert.FfnPostKernelIdeal.sig) → Buf (Elt Ideal) ℓ) : Prop :=
  True

def Pre_FfnPostReferenceIdeal (m : (ℓ : Loc Cert.FfnPostReferenceIdeal.nD Cert.FfnPostReferenceIdeal.τ Cert.FfnPostReferenceIdeal.sig) → Buf (Elt Ideal) ℓ) : Prop :=
  True

def Pre_FfnPreKernel (m : (ℓ : Loc Cert.FfnPreKernel.nD Cert.FfnPreKernel.τ Cert.FfnPreKernel.sig) → Buf (Elt Bits) ℓ) : Prop :=
  True

def Pre_FfnPreKernelIdeal (m : (ℓ : Loc Cert.FfnPreKernelIdeal.nD Cert.FfnPreKernelIdeal.τ Cert.FfnPreKernelIdeal.sig) → Buf (Elt Ideal) ℓ) : Prop :=
  True

def Pre_FfnPreReferenceIdeal (m : (ℓ : Loc Cert.FfnPreReferenceIdeal.nD Cert.FfnPreReferenceIdeal.τ Cert.FfnPreReferenceIdeal.sig) → Buf (Elt Ideal) ℓ) : Prop :=
  True

def Pre_MixInKernel (m : (ℓ : Loc Cert.MixInKernel.nD Cert.MixInKernel.τ Cert.MixInKernel.sig) → Buf (Elt Bits) ℓ) : Prop :=
  True

def Pre_MixInKernelIdeal (m : (ℓ : Loc Cert.MixInKernelIdeal.nD Cert.MixInKernelIdeal.τ Cert.MixInKernelIdeal.sig) → Buf (Elt Ideal) ℓ) : Prop :=
  True

def Pre_MixInReferenceIdeal (m : (ℓ : Loc Cert.MixInReferenceIdeal.nD Cert.MixInReferenceIdeal.τ Cert.MixInReferenceIdeal.sig) → Buf (Elt Ideal) ℓ) : Prop :=
  True

def Pre_FfnInKernel (m : (ℓ : Loc Cert.FfnInKernel.nD Cert.FfnInKernel.τ Cert.FfnInKernel.sig) → Buf (Elt Bits) ℓ) : Prop :=
  True

def Pre_FfnInKernelIdeal (m : (ℓ : Loc Cert.FfnInKernelIdeal.nD Cert.FfnInKernelIdeal.τ Cert.FfnInKernelIdeal.sig) → Buf (Elt Ideal) ℓ) : Prop :=
  True

def Pre_FfnInReferenceIdeal (m : (ℓ : Loc Cert.FfnInReferenceIdeal.nD Cert.FfnInReferenceIdeal.τ Cert.FfnInReferenceIdeal.sig) → Buf (Elt Ideal) ℓ) : Prop :=
  True

def Pre_PreNormKernel (m : (ℓ : Loc Cert.PreNormKernel.nD Cert.PreNormKernel.τ Cert.PreNormKernel.sig) → Buf (Elt Bits) ℓ) : Prop :=
  True

def Pre_PreNormKernelIdeal (m : (ℓ : Loc Cert.PreNormKernelIdeal.nD Cert.PreNormKernelIdeal.τ Cert.PreNormKernelIdeal.sig) → Buf (Elt Ideal) ℓ) : Prop :=
  True

def Pre_PreNormReferenceIdeal (m : (ℓ : Loc Cert.PreNormReferenceIdeal.nD Cert.PreNormReferenceIdeal.τ Cert.PreNormReferenceIdeal.sig) → Buf (Elt Ideal) ℓ) : Prop :=
  True

def Pre_FfnDownKernel (m : (ℓ : Loc Cert.FfnDownKernel.nD Cert.FfnDownKernel.τ Cert.FfnDownKernel.sig) → Buf (Elt Bits) ℓ) : Prop :=
  True

def Pre_FfnDownKernelIdeal (m : (ℓ : Loc Cert.FfnDownKernelIdeal.nD Cert.FfnDownKernelIdeal.τ Cert.FfnDownKernelIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_SsmGluKernel (m : (ℓ : Loc Cert.SsmGluKernel.nD Cert.SsmGluKernel.τ Cert.SsmGluKernel.sig) → Buf (Elt Bits) ℓ) : Prop :=
  True

def Pre_SsmGluKernelIdeal (m : (ℓ : Loc Cert.SsmGluKernelIdeal.nD Cert.SsmGluKernelIdeal.τ Cert.SsmGluKernelIdeal.sig) → Buf (Elt Ideal) ℓ) : Prop :=
  True

def Pre_SsmGluReferenceIdeal (m : (ℓ : Loc Cert.SsmGluReferenceIdeal.nD Cert.SsmGluReferenceIdeal.τ Cert.SsmGluReferenceIdeal.sig) → Buf (Elt Ideal) ℓ) : Prop :=
  True

def Pre_WOutKernel (m : (ℓ : Loc Cert.WOutKernel.nD Cert.WOutKernel.τ Cert.WOutKernel.sig) → Buf (Elt Bits) ℓ) : Prop :=
  True

def Pre_WOutKernelIdeal (m : (ℓ : Loc Cert.WOutKernelIdeal.nD Cert.WOutKernelIdeal.τ Cert.WOutKernelIdeal.sig) → Buf (Elt Ideal) ℓ) : Prop :=
  True

def Pre_WOutReferenceIdeal (m : (ℓ : Loc Cert.WOutReferenceIdeal.nD Cert.WOutReferenceIdeal.τ Cert.WOutReferenceIdeal.sig) → Buf (Elt Ideal) ℓ) : Prop :=
  True

def Pre_PleGateKernel (m : (ℓ : Loc Cert.PleGateKernel.nD Cert.PleGateKernel.τ Cert.PleGateKernel.sig) → Buf (Elt Bits) ℓ) : Prop :=
  True

def Pre_PleGateKernelIdeal (m : (ℓ : Loc Cert.PleGateKernelIdeal.nD Cert.PleGateKernelIdeal.τ Cert.PleGateKernelIdeal.sig) → Buf (Elt Ideal) ℓ) : Prop :=
  True

def Pre_PleGateReferenceIdeal (m : (ℓ : Loc Cert.PleGateReferenceIdeal.nD Cert.PleGateReferenceIdeal.τ Cert.PleGateReferenceIdeal.sig) → Buf (Elt Ideal) ℓ) : Prop :=
  True

def Pre_RopeKernel (m : (ℓ : Loc Cert.RopeKernel.nD Cert.RopeKernel.τ Cert.RopeKernel.sig) → Buf (Elt Bits) ℓ) : Prop :=
  True

def Pre_RopeKernelIdeal (m : (ℓ : Loc Cert.RopeKernelIdeal.nD Cert.RopeKernelIdeal.τ Cert.RopeKernelIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def quiescent_FfnActKernel [hFfnActKernel : Cert.FfnActKernel.Facts] : Prop :=
  ∀ (m : (ℓ : Loc Cert.FfnActKernel.nD Cert.FfnActKernel.τ Cert.FfnActKernel.sig) → Buf (Elt Bits) ℓ) (g : Dev Cert.FfnActKernel.nD → PrngReg), Pre_FfnActKernel m →
    θ_run (Cert.FfnActKernel.defs (F := Bits)) (onTc (τ := Cert.FfnActKernel.τ) (Cert.FfnActKernel.main (F := Bits))) ⟨m, fun _ => 0, g⟩ (fun r => (∀ c : Dev Cert.FfnActKernel.nD,
      r.2.mem ((c.tc : Thread Cert.FfnActKernel.nD Cert.FfnActKernel.τ).loc Cert.FfnActKernel.main_arg0) = m ((c.tc : Thread Cert.FfnActKernel.nD Cert.FfnActKernel.τ).loc Cert.FfnActKernel.main_arg0)
      ∧ r.2.mem ((c.tc : Thread Cert.FfnActKernel.nD Cert.FfnActKernel.τ).loc Cert.FfnActKernel.main_arg1) = m ((c.tc : Thread Cert.FfnActKernel.nD Cert.FfnActKernel.τ).loc Cert.FfnActKernel.main_arg1)
      ∧ r.2.mem ((c.tc : Thread Cert.FfnActKernel.nD Cert.FfnActKernel.τ).loc Cert.FfnActKernel.main_arg2) = m ((c.tc : Thread Cert.FfnActKernel.nD Cert.FfnActKernel.τ).loc Cert.FfnActKernel.main_arg2)
      ∧ r.2.mem ((c.tc : Thread Cert.FfnActKernel.nD Cert.FfnActKernel.τ).loc Cert.FfnActKernel.main_arg3) = m ((c.tc : Thread Cert.FfnActKernel.nD Cert.FfnActKernel.τ).loc Cert.FfnActKernel.main_arg3)
      ∧ r.2.mem ((c.tc : Thread Cert.FfnActKernel.nD Cert.FfnActKernel.τ).loc Cert.FfnActKernel.main_arg4) = m ((c.tc : Thread Cert.FfnActKernel.nD Cert.FfnActKernel.τ).loc Cert.FfnActKernel.main_arg4))
      ∧ r.2.sem = fun _ => 0)

def quiescent_FfnActKernelIdeal [hFfnActKernelIdeal : Cert.FfnActKernelIdeal.Facts] : Prop :=
  ∀ (m : (ℓ : Loc Cert.FfnActKernelIdeal.nD Cert.FfnActKernelIdeal.τ Cert.FfnActKernelIdeal.sig) → Buf (Elt Ideal) ℓ) (g : Dev Cert.FfnActKernelIdeal.nD → PrngReg), Pre_FfnActKernelIdeal m →
    θ_run (Cert.FfnActKernelIdeal.defs (F := Ideal)) (onTc (τ := Cert.FfnActKernelIdeal.τ) (Cert.FfnActKernelIdeal.main (F := Ideal))) ⟨m, fun _ => 0, g⟩ (fun r => (∀ c : Dev Cert.FfnActKernelIdeal.nD,
      r.2.mem ((c.tc : Thread Cert.FfnActKernelIdeal.nD Cert.FfnActKernelIdeal.τ).loc Cert.FfnActKernelIdeal.main_arg0) = m ((c.tc : Thread Cert.FfnActKernelIdeal.nD Cert.FfnActKernelIdeal.τ).loc Cert.FfnActKernelIdeal.main_arg0)
      ∧ r.2.mem ((c.tc : Thread Cert.FfnActKernelIdeal.nD Cert.FfnActKernelIdeal.τ).loc Cert.FfnActKernelIdeal.main_arg1) = m ((c.tc : Thread Cert.FfnActKernelIdeal.nD Cert.FfnActKernelIdeal.τ).loc Cert.FfnActKernelIdeal.main_arg1)
      ∧ r.2.mem ((c.tc : Thread Cert.FfnActKernelIdeal.nD Cert.FfnActKernelIdeal.τ).loc Cert.FfnActKernelIdeal.main_arg2) = m ((c.tc : Thread Cert.FfnActKernelIdeal.nD Cert.FfnActKernelIdeal.τ).loc Cert.FfnActKernelIdeal.main_arg2)
      ∧ r.2.mem ((c.tc : Thread Cert.FfnActKernelIdeal.nD Cert.FfnActKernelIdeal.τ).loc Cert.FfnActKernelIdeal.main_arg3) = m ((c.tc : Thread Cert.FfnActKernelIdeal.nD Cert.FfnActKernelIdeal.τ).loc Cert.FfnActKernelIdeal.main_arg3)
      ∧ r.2.mem ((c.tc : Thread Cert.FfnActKernelIdeal.nD Cert.FfnActKernelIdeal.τ).loc Cert.FfnActKernelIdeal.main_arg4) = m ((c.tc : Thread Cert.FfnActKernelIdeal.nD Cert.FfnActKernelIdeal.τ).loc Cert.FfnActKernelIdeal.main_arg4))
      ∧ r.2.sem = fun _ => 0)

def quiescent_FfnActKernelIdeal_pre_ffn_finite [hFfnActKernelIdeal : Cert.FfnActKernelIdeal.Facts] [hPre_ffn_finite : Cert.Pre_ffn_finite.Facts] : Prop :=
  ∀ (m : (ℓ : Loc Cert.FfnActKernelIdeal.nD Cert.FfnActKernelIdeal.τ Cert.FfnActKernelIdeal.sig) → Buf (Elt Ideal) ℓ) (g : Dev Cert.FfnActKernelIdeal.nD → PrngReg), Pre_FfnActKernelIdeal_ffn_finite m →
    θ_run (Cert.FfnActKernelIdeal.defs (F := Ideal)) (onTc (τ := Cert.FfnActKernelIdeal.τ) (Cert.FfnActKernelIdeal.main (F := Ideal))) ⟨m, fun _ => 0, g⟩ (fun r => (∀ c : Dev Cert.FfnActKernelIdeal.nD,
      r.2.mem ((c.tc : Thread Cert.FfnActKernelIdeal.nD Cert.FfnActKernelIdeal.τ).loc Cert.FfnActKernelIdeal.main_arg0) = m ((c.tc : Thread Cert.FfnActKernelIdeal.nD Cert.FfnActKernelIdeal.τ).loc Cert.FfnActKernelIdeal.main_arg0)
      ∧ r.2.mem ((c.tc : Thread Cert.FfnActKernelIdeal.nD Cert.FfnActKernelIdeal.τ).loc Cert.FfnActKernelIdeal.main_arg1) = m ((c.tc : Thread Cert.FfnActKernelIdeal.nD Cert.FfnActKernelIdeal.τ).loc Cert.FfnActKernelIdeal.main_arg1)
      ∧ r.2.mem ((c.tc : Thread Cert.FfnActKernelIdeal.nD Cert.FfnActKernelIdeal.τ).loc Cert.FfnActKernelIdeal.main_arg2) = m ((c.tc : Thread Cert.FfnActKernelIdeal.nD Cert.FfnActKernelIdeal.τ).loc Cert.FfnActKernelIdeal.main_arg2)
      ∧ r.2.mem ((c.tc : Thread Cert.FfnActKernelIdeal.nD Cert.FfnActKernelIdeal.τ).loc Cert.FfnActKernelIdeal.main_arg3) = m ((c.tc : Thread Cert.FfnActKernelIdeal.nD Cert.FfnActKernelIdeal.τ).loc Cert.FfnActKernelIdeal.main_arg3)
      ∧ r.2.mem ((c.tc : Thread Cert.FfnActKernelIdeal.nD Cert.FfnActKernelIdeal.τ).loc Cert.FfnActKernelIdeal.main_arg4) = m ((c.tc : Thread Cert.FfnActKernelIdeal.nD Cert.FfnActKernelIdeal.τ).loc Cert.FfnActKernelIdeal.main_arg4))
      ∧ r.2.sem = fun _ => 0)

def quiescent_FfnActReferenceIdeal [hFfnActReferenceIdeal : Cert.FfnActReferenceIdeal.Facts] : Prop :=
  ∀ (m : (ℓ : Loc Cert.FfnActReferenceIdeal.nD Cert.FfnActReferenceIdeal.τ Cert.FfnActReferenceIdeal.sig) → Buf (Elt Ideal) ℓ) (g : Dev Cert.FfnActReferenceIdeal.nD → PrngReg), Pre_FfnActReferenceIdeal m →
    θ_run (Cert.FfnActReferenceIdeal.defs (F := Ideal)) (onTc (τ := Cert.FfnActReferenceIdeal.τ) (Cert.FfnActReferenceIdeal.main (F := Ideal))) ⟨m, fun _ => 0, g⟩ (fun r => (∀ c : Dev Cert.FfnActReferenceIdeal.nD,
      r.2.mem ((c.tc : Thread Cert.FfnActReferenceIdeal.nD Cert.FfnActReferenceIdeal.τ).loc Cert.FfnActReferenceIdeal.main_arg0) = m ((c.tc : Thread Cert.FfnActReferenceIdeal.nD Cert.FfnActReferenceIdeal.τ).loc Cert.FfnActReferenceIdeal.main_arg0)
      ∧ r.2.mem ((c.tc : Thread Cert.FfnActReferenceIdeal.nD Cert.FfnActReferenceIdeal.τ).loc Cert.FfnActReferenceIdeal.main_arg1) = m ((c.tc : Thread Cert.FfnActReferenceIdeal.nD Cert.FfnActReferenceIdeal.τ).loc Cert.FfnActReferenceIdeal.main_arg1)
      ∧ r.2.mem ((c.tc : Thread Cert.FfnActReferenceIdeal.nD Cert.FfnActReferenceIdeal.τ).loc Cert.FfnActReferenceIdeal.main_arg2) = m ((c.tc : Thread Cert.FfnActReferenceIdeal.nD Cert.FfnActReferenceIdeal.τ).loc Cert.FfnActReferenceIdeal.main_arg2)
      ∧ r.2.mem ((c.tc : Thread Cert.FfnActReferenceIdeal.nD Cert.FfnActReferenceIdeal.τ).loc Cert.FfnActReferenceIdeal.main_arg3) = m ((c.tc : Thread Cert.FfnActReferenceIdeal.nD Cert.FfnActReferenceIdeal.τ).loc Cert.FfnActReferenceIdeal.main_arg3)
      ∧ r.2.mem ((c.tc : Thread Cert.FfnActReferenceIdeal.nD Cert.FfnActReferenceIdeal.τ).loc Cert.FfnActReferenceIdeal.main_arg4) = m ((c.tc : Thread Cert.FfnActReferenceIdeal.nD Cert.FfnActReferenceIdeal.τ).loc Cert.FfnActReferenceIdeal.main_arg4))
      ∧ r.2.sem = fun _ => 0)

def quiescent_FfnActReferenceIdeal_pre_ffn_finite [hFfnActReferenceIdeal : Cert.FfnActReferenceIdeal.Facts] [hPre_ffn_finite : Cert.Pre_ffn_finite.Facts] : Prop :=
  ∀ (m : (ℓ : Loc Cert.FfnActReferenceIdeal.nD Cert.FfnActReferenceIdeal.τ Cert.FfnActReferenceIdeal.sig) → Buf (Elt Ideal) ℓ) (g : Dev Cert.FfnActReferenceIdeal.nD → PrngReg), Pre_FfnActReferenceIdeal_ffn_finite m →
    θ_run (Cert.FfnActReferenceIdeal.defs (F := Ideal)) (onTc (τ := Cert.FfnActReferenceIdeal.τ) (Cert.FfnActReferenceIdeal.main (F := Ideal))) ⟨m, fun _ => 0, g⟩ (fun r => (∀ c : Dev Cert.FfnActReferenceIdeal.nD,
      r.2.mem ((c.tc : Thread Cert.FfnActReferenceIdeal.nD Cert.FfnActReferenceIdeal.τ).loc Cert.FfnActReferenceIdeal.main_arg0) = m ((c.tc : Thread Cert.FfnActReferenceIdeal.nD Cert.FfnActReferenceIdeal.τ).loc Cert.FfnActReferenceIdeal.main_arg0)
      ∧ r.2.mem ((c.tc : Thread Cert.FfnActReferenceIdeal.nD Cert.FfnActReferenceIdeal.τ).loc Cert.FfnActReferenceIdeal.main_arg1) = m ((c.tc : Thread Cert.FfnActReferenceIdeal.nD Cert.FfnActReferenceIdeal.τ).loc Cert.FfnActReferenceIdeal.main_arg1)
      ∧ r.2.mem ((c.tc : Thread Cert.FfnActReferenceIdeal.nD Cert.FfnActReferenceIdeal.τ).loc Cert.FfnActReferenceIdeal.main_arg2) = m ((c.tc : Thread Cert.FfnActReferenceIdeal.nD Cert.FfnActReferenceIdeal.τ).loc Cert.FfnActReferenceIdeal.main_arg2)
      ∧ r.2.mem ((c.tc : Thread Cert.FfnActReferenceIdeal.nD Cert.FfnActReferenceIdeal.τ).loc Cert.FfnActReferenceIdeal.main_arg3) = m ((c.tc : Thread Cert.FfnActReferenceIdeal.nD Cert.FfnActReferenceIdeal.τ).loc Cert.FfnActReferenceIdeal.main_arg3)
      ∧ r.2.mem ((c.tc : Thread Cert.FfnActReferenceIdeal.nD Cert.FfnActReferenceIdeal.τ).loc Cert.FfnActReferenceIdeal.main_arg4) = m ((c.tc : Thread Cert.FfnActReferenceIdeal.nD Cert.FfnActReferenceIdeal.τ).loc Cert.FfnActReferenceIdeal.main_arg4))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_DiagKernel [hDiagKernel : Cert.DiagKernel.Facts] : Prop :=
  ∀ (m : (ℓ : Loc Cert.DiagKernel.nD Cert.DiagKernel.τ Cert.DiagKernel.sig) → Buf (Elt Bits) ℓ) (g : Dev Cert.DiagKernel.nD → PrngReg), Pre_DiagKernel m →
    θ_run (Cert.DiagKernel.defs (F := Bits)) (onTc (τ := Cert.DiagKernel.τ) (Cert.DiagKernel.main (F := Bits))) ⟨m, fun _ => 0, g⟩ (fun r => (∀ c : Dev Cert.DiagKernel.nD,
      r.2.mem ((c.tc : Thread Cert.DiagKernel.nD Cert.DiagKernel.τ).loc Cert.DiagKernel.main_arg0) = m ((c.tc : Thread Cert.DiagKernel.nD Cert.DiagKernel.τ).loc Cert.DiagKernel.main_arg0))
      ∧ r.2.sem = fun _ => 0)

def quiescent_DiagKernelIdeal [hDiagKernelIdeal : Cert.DiagKernelIdeal.Facts] : Prop :=
  ∀ (m : (ℓ : Loc Cert.DiagKernelIdeal.nD Cert.DiagKernelIdeal.τ Cert.DiagKernelIdeal.sig) → Buf (Elt Ideal) ℓ) (g : Dev Cert.DiagKernelIdeal.nD → PrngReg), Pre_DiagKernelIdeal m →
    θ_run (Cert.DiagKernelIdeal.defs (F := Ideal)) (onTc (τ := Cert.DiagKernelIdeal.τ) (Cert.DiagKernelIdeal.main (F := Ideal))) ⟨m, fun _ => 0, g⟩ (fun r => (∀ c : Dev Cert.DiagKernelIdeal.nD,
      r.2.mem ((c.tc : Thread Cert.DiagKernelIdeal.nD Cert.DiagKernelIdeal.τ).loc Cert.DiagKernelIdeal.main_arg0) = m ((c.tc : Thread Cert.DiagKernelIdeal.nD Cert.DiagKernelIdeal.τ).loc Cert.DiagKernelIdeal.main_arg0))
      ∧ r.2.sem = fun _ => 0)

def quiescent_DiagReferenceIdeal [hDiagReferenceIdeal : Cert.DiagReferenceIdeal.Facts] : Prop :=
  ∀ (m : (ℓ : Loc Cert.DiagReferenceIdeal.nD Cert.DiagReferenceIdeal.τ Cert.DiagReferenceIdeal.sig) → Buf (Elt Ideal) ℓ) (g : Dev Cert.DiagReferenceIdeal.nD → PrngReg), Pre_DiagReferenceIdeal m →
    θ_run (Cert.DiagReferenceIdeal.defs (F := Ideal)) (onTc (τ := Cert.DiagReferenceIdeal.τ) (Cert.DiagReferenceIdeal.main (F := Ideal))) ⟨m, fun _ => 0, g⟩ (fun r => (∀ c : Dev Cert.DiagReferenceIdeal.nD,
      r.2.mem ((c.tc : Thread Cert.DiagReferenceIdeal.nD Cert.DiagReferenceIdeal.τ).loc Cert.DiagReferenceIdeal.main_arg0) = m ((c.tc : Thread Cert.DiagReferenceIdeal.nD Cert.DiagReferenceIdeal.τ).loc Cert.DiagReferenceIdeal.main_arg0))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnSumKernel [hAttnSumKernel : Cert.AttnSumKernel.Facts] : Prop :=
  ∀ (m : (ℓ : Loc Cert.AttnSumKernel.nD Cert.AttnSumKernel.τ Cert.AttnSumKernel.sig) → Buf (Elt Bits) ℓ) (g : Dev Cert.AttnSumKernel.nD → PrngReg), Pre_AttnSumKernel m →
    θ_run (Cert.AttnSumKernel.defs (F := Bits)) (onTc (τ := Cert.AttnSumKernel.τ) (Cert.AttnSumKernel.main (F := Bits))) ⟨m, fun _ => 0, g⟩ (fun r => (∀ c : Dev Cert.AttnSumKernel.nD,
      r.2.mem ((c.tc : Thread Cert.AttnSumKernel.nD Cert.AttnSumKernel.τ).loc Cert.AttnSumKernel.main_arg0) = m ((c.tc : Thread Cert.AttnSumKernel.nD Cert.AttnSumKernel.τ).loc Cert.AttnSumKernel.main_arg0)
      ∧ r.2.mem ((c.tc : Thread Cert.AttnSumKernel.nD Cert.AttnSumKernel.τ).loc Cert.AttnSumKernel.main_arg1) = m ((c.tc : Thread Cert.AttnSumKernel.nD Cert.AttnSumKernel.τ).loc Cert.AttnSumKernel.main_arg1)
      ∧ r.2.mem ((c.tc : Thread Cert.AttnSumKernel.nD Cert.AttnSumKernel.τ).loc Cert.AttnSumKernel.main_arg2) = m ((c.tc : Thread Cert.AttnSumKernel.nD Cert.AttnSumKernel.τ).loc Cert.AttnSumKernel.main_arg2)
      ∧ r.2.mem ((c.tc : Thread Cert.AttnSumKernel.nD Cert.AttnSumKernel.τ).loc Cert.AttnSumKernel.main_arg3) = m ((c.tc : Thread Cert.AttnSumKernel.nD Cert.AttnSumKernel.τ).loc Cert.AttnSumKernel.main_arg3)
      ∧ r.2.mem ((c.tc : Thread Cert.AttnSumKernel.nD Cert.AttnSumKernel.τ).loc Cert.AttnSumKernel.main_arg4) = m ((c.tc : Thread Cert.AttnSumKernel.nD Cert.AttnSumKernel.τ).loc Cert.AttnSumKernel.main_arg4)
      ∧ r.2.mem ((c.tc : Thread Cert.AttnSumKernel.nD Cert.AttnSumKernel.τ).loc Cert.AttnSumKernel.main_arg5) = m ((c.tc : Thread Cert.AttnSumKernel.nD Cert.AttnSumKernel.τ).loc Cert.AttnSumKernel.main_arg5)
      ∧ r.2.mem ((c.tc : Thread Cert.AttnSumKernel.nD Cert.AttnSumKernel.τ).loc Cert.AttnSumKernel.main_arg6) = m ((c.tc : Thread Cert.AttnSumKernel.nD Cert.AttnSumKernel.τ).loc Cert.AttnSumKernel.main_arg6)
      ∧ r.2.mem ((c.tc : Thread Cert.AttnSumKernel.nD Cert.AttnSumKernel.τ).loc Cert.AttnSumKernel.main_arg7) = m ((c.tc : Thread Cert.AttnSumKernel.nD Cert.AttnSumKernel.τ).loc Cert.AttnSumKernel.main_arg7)
      ∧ r.2.mem ((c.tc : Thread Cert.AttnSumKernel.nD Cert.AttnSumKernel.τ).loc Cert.AttnSumKernel.main_arg8) = m ((c.tc : Thread Cert.AttnSumKernel.nD Cert.AttnSumKernel.τ).loc Cert.AttnSumKernel.main_arg8)
      ∧ r.2.mem ((c.tc : Thread Cert.AttnSumKernel.nD Cert.AttnSumKernel.τ).loc Cert.AttnSumKernel.main_arg9) = m ((c.tc : Thread Cert.AttnSumKernel.nD Cert.AttnSumKernel.τ).loc Cert.AttnSumKernel.main_arg9)
      ∧ r.2.mem ((c.tc : Thread Cert.AttnSumKernel.nD Cert.AttnSumKernel.τ).loc Cert.AttnSumKernel.main_arg10) = m ((c.tc : Thread Cert.AttnSumKernel.nD Cert.AttnSumKernel.τ).loc Cert.AttnSumKernel.main_arg10)
      ∧ r.2.mem ((c.tc : Thread Cert.AttnSumKernel.nD Cert.AttnSumKernel.τ).loc Cert.AttnSumKernel.main_arg11) = m ((c.tc : Thread Cert.AttnSumKernel.nD Cert.AttnSumKernel.τ).loc Cert.AttnSumKernel.main_arg11)
      ∧ r.2.mem ((c.tc : Thread Cert.AttnSumKernel.nD Cert.AttnSumKernel.τ).loc Cert.AttnSumKernel.main_arg12) = m ((c.tc : Thread Cert.AttnSumKernel.nD Cert.AttnSumKernel.τ).loc Cert.AttnSumKernel.main_arg12)
      ∧ r.2.mem ((c.tc : Thread Cert.AttnSumKernel.nD Cert.AttnSumKernel.τ).loc Cert.AttnSumKernel.main_arg13) = m ((c.tc : Thread Cert.AttnSumKernel.nD Cert.AttnSumKernel.τ).loc Cert.AttnSumKernel.main_arg13)
      ∧ r.2.mem ((c.tc : Thread Cert.AttnSumKernel.nD Cert.AttnSumKernel.τ).loc Cert.AttnSumKernel.main_arg14) = m ((c.tc : Thread Cert.AttnSumKernel.nD Cert.AttnSumKernel.τ).loc Cert.AttnSumKernel.main_arg14)
      ∧ r.2.mem ((c.tc : Thread Cert.AttnSumKernel.nD Cert.AttnSumKernel.τ).loc Cert.AttnSumKernel.main_arg15) = m ((c.tc : Thread Cert.AttnSumKernel.nD Cert.AttnSumKernel.τ).loc Cert.AttnSumKernel.main_arg15)
      ∧ r.2.mem ((c.tc : Thread Cert.AttnSumKernel.nD Cert.AttnSumKernel.τ).loc Cert.AttnSumKernel.main_arg16) = m ((c.tc : Thread Cert.AttnSumKernel.nD Cert.AttnSumKernel.τ).loc Cert.AttnSumKernel.main_arg16))
      ∧ r.2.sem = fun _ => 0)

def quiescent_AttnSumKernelIdeal [hAttnSumKernelIdeal : Cert.AttnSumKernelIdeal.Facts] : Prop :=
  ∀ (m : (ℓ : Loc Cert.AttnSumKernelIdeal.nD Cert.AttnSumKernelIdeal.τ Cert.AttnSumKernelIdeal.sig) → Buf (Elt Ideal) ℓ) (g : Dev Cert.AttnSumKernelIdeal.nD → PrngReg), Pre_AttnSumKernelIdeal m →
    θ_run (Cert.AttnSumKernelIdeal.defs (F := Ideal)) (onTc (τ := Cert.AttnSumKernelIdeal.τ) (Cert.AttnSumKernelIdeal.main (F := Ideal))) ⟨m, fun _ => 0, g⟩ (fun r => (∀ c : Dev Cert.AttnSumKernelIdeal.nD,
      r.2.mem ((c.tc : Thread Cert.AttnSumKernelIdeal.nD Cert.AttnSumKernelIdeal.τ).loc Cert.AttnSumKernelIdeal.main_arg0) = m ((c.tc : Thread Cert.AttnSumKernelIdeal.nD Cert.AttnSumKernelIdeal.τ).loc Cert.AttnSumKernelIdeal.main_arg0)
      ∧ r.2.mem ((c.tc : Thread Cert.AttnSumKernelIdeal.nD Cert.AttnSumKernelIdeal.τ).loc Cert.AttnSumKernelIdeal.main_arg1) = m ((c.tc : Thread Cert.AttnSumKernelIdeal.nD Cert.AttnSumKernelIdeal.τ).loc Cert.AttnSumKernelIdeal.main_arg1)
      ∧ r.2.mem ((c.tc : Thread Cert.AttnSumKernelIdeal.nD Cert.AttnSumKernelIdeal.τ).loc Cert.AttnSumKernelIdeal.main_arg2) = m ((c.tc : Thread Cert.AttnSumKernelIdeal.nD Cert.AttnSumKernelIdeal.τ).loc Cert.AttnSumKernelIdeal.main_arg2)
      ∧ r.2.mem ((c.tc : Thread Cert.AttnSumKernelIdeal.nD Cert.AttnSumKernelIdeal.τ).loc Cert.AttnSumKernelIdeal.main_arg3) = m ((c.tc : Thread Cert.AttnSumKernelIdeal.nD Cert.AttnSumKernelIdeal.τ).loc Cert.AttnSumKernelIdeal.main_arg3)
      ∧ r.2.mem ((c.tc : Thread Cert.AttnSumKernelIdeal.nD Cert.AttnSumKernelIdeal.τ).loc Cert.AttnSumKernelIdeal.main_arg4) = m ((c.tc : Thread Cert.AttnSumKernelIdeal.nD Cert.AttnSumKernelIdeal.τ).loc Cert.AttnSumKernelIdeal.main_arg4)
      ∧ r.2.mem ((c.tc : Thread Cert.AttnSumKernelIdeal.nD Cert.AttnSumKernelIdeal.τ).loc Cert.AttnSumKernelIdeal.main_arg5) = m ((c.tc : Thread Cert.AttnSumKernelIdeal.nD Cert.AttnSumKernelIdeal.τ).loc Cert.AttnSumKernelIdeal.main_arg5)
      ∧ r.2.mem ((c.tc : Thread Cert.AttnSumKernelIdeal.nD Cert.AttnSumKernelIdeal.τ).loc Cert.AttnSumKernelIdeal.main_arg6) = m ((c.tc : Thread Cert.AttnSumKernelIdeal.nD Cert.AttnSumKernelIdeal.τ).loc Cert.AttnSumKernelIdeal.main_arg6)
      ∧ r.2.mem ((c.tc : Thread Cert.AttnSumKernelIdeal.nD Cert.AttnSumKernelIdeal.τ).loc Cert.AttnSumKernelIdeal.main_arg7) = m ((c.tc : Thread Cert.AttnSumKernelIdeal.nD Cert.AttnSumKernelIdeal.τ).loc Cert.AttnSumKernelIdeal.main_arg7)
      ∧ r.2.mem ((c.tc : Thread Cert.AttnSumKernelIdeal.nD Cert.AttnSumKernelIdeal.τ).loc Cert.AttnSumKernelIdeal.main_arg8) = m ((c.tc : Thread Cert.AttnSumKernelIdeal.nD Cert.AttnSumKernelIdeal.τ).loc Cert.AttnSumKernelIdeal.main_arg8)
      ∧ r.2.mem ((c.tc : Thread Cert.AttnSumKernelIdeal.nD Cert.AttnSumKernelIdeal.τ).loc Cert.AttnSumKernelIdeal.main_arg9) = m ((c.tc : Thread Cert.AttnSumKernelIdeal.nD Cert.AttnSumKernelIdeal.τ).loc Cert.AttnSumKernelIdeal.main_arg9)
      ∧ r.2.mem ((c.tc : Thread Cert.AttnSumKernelIdeal.nD Cert.AttnSumKernelIdeal.τ).loc Cert.AttnSumKernelIdeal.main_arg10) = m ((c.tc : Thread Cert.AttnSumKernelIdeal.nD Cert.AttnSumKernelIdeal.τ).loc Cert.AttnSumKernelIdeal.main_arg10)
      ∧ r.2.mem ((c.tc : Thread Cert.AttnSumKernelIdeal.nD Cert.AttnSumKernelIdeal.τ).loc Cert.AttnSumKernelIdeal.main_arg11) = m ((c.tc : Thread Cert.AttnSumKernelIdeal.nD Cert.AttnSumKernelIdeal.τ).loc Cert.AttnSumKernelIdeal.main_arg11)
      ∧ r.2.mem ((c.tc : Thread Cert.AttnSumKernelIdeal.nD Cert.AttnSumKernelIdeal.τ).loc Cert.AttnSumKernelIdeal.main_arg12) = m ((c.tc : Thread Cert.AttnSumKernelIdeal.nD Cert.AttnSumKernelIdeal.τ).loc Cert.AttnSumKernelIdeal.main_arg12)
      ∧ r.2.mem ((c.tc : Thread Cert.AttnSumKernelIdeal.nD Cert.AttnSumKernelIdeal.τ).loc Cert.AttnSumKernelIdeal.main_arg13) = m ((c.tc : Thread Cert.AttnSumKernelIdeal.nD Cert.AttnSumKernelIdeal.τ).loc Cert.AttnSumKernelIdeal.main_arg13)
      ∧ r.2.mem ((c.tc : Thread Cert.AttnSumKernelIdeal.nD Cert.AttnSumKernelIdeal.τ).loc Cert.AttnSumKernelIdeal.main_arg14) = m ((c.tc : Thread Cert.AttnSumKernelIdeal.nD Cert.AttnSumKernelIdeal.τ).loc Cert.AttnSumKernelIdeal.main_arg14)
      ∧ r.2.mem ((c.tc : Thread Cert.AttnSumKernelIdeal.nD Cert.AttnSumKernelIdeal.τ).loc Cert.AttnSumKernelIdeal.main_arg15) = m ((c.tc : Thread Cert.AttnSumKernelIdeal.nD Cert.AttnSumKernelIdeal.τ).loc Cert.AttnSumKernelIdeal.main_arg15)
      ∧ r.2.mem ((c.tc : Thread Cert.AttnSumKernelIdeal.nD Cert.AttnSumKernelIdeal.τ).loc Cert.AttnSumKernelIdeal.main_arg16) = m ((c.tc : Thread Cert.AttnSumKernelIdeal.nD Cert.AttnSumKernelIdeal.τ).loc Cert.AttnSumKernelIdeal.main_arg16))
      ∧ r.2.sem = fun _ => 0)

def quiescent_AttnSumReferenceIdeal [hAttnSumReferenceIdeal : Cert.AttnSumReferenceIdeal.Facts] : Prop :=
  ∀ (m : (ℓ : Loc Cert.AttnSumReferenceIdeal.nD Cert.AttnSumReferenceIdeal.τ Cert.AttnSumReferenceIdeal.sig) → Buf (Elt Ideal) ℓ) (g : Dev Cert.AttnSumReferenceIdeal.nD → PrngReg), Pre_AttnSumReferenceIdeal m →
    θ_run (Cert.AttnSumReferenceIdeal.defs (F := Ideal)) (onTc (τ := Cert.AttnSumReferenceIdeal.τ) (Cert.AttnSumReferenceIdeal.main (F := Ideal))) ⟨m, fun _ => 0, g⟩ (fun r => (∀ c : Dev Cert.AttnSumReferenceIdeal.nD,
      r.2.mem ((c.tc : Thread Cert.AttnSumReferenceIdeal.nD Cert.AttnSumReferenceIdeal.τ).loc Cert.AttnSumReferenceIdeal.main_arg0) = m ((c.tc : Thread Cert.AttnSumReferenceIdeal.nD Cert.AttnSumReferenceIdeal.τ).loc Cert.AttnSumReferenceIdeal.main_arg0)
      ∧ r.2.mem ((c.tc : Thread Cert.AttnSumReferenceIdeal.nD Cert.AttnSumReferenceIdeal.τ).loc Cert.AttnSumReferenceIdeal.main_arg1) = m ((c.tc : Thread Cert.AttnSumReferenceIdeal.nD Cert.AttnSumReferenceIdeal.τ).loc Cert.AttnSumReferenceIdeal.main_arg1)
      ∧ r.2.mem ((c.tc : Thread Cert.AttnSumReferenceIdeal.nD Cert.AttnSumReferenceIdeal.τ).loc Cert.AttnSumReferenceIdeal.main_arg2) = m ((c.tc : Thread Cert.AttnSumReferenceIdeal.nD Cert.AttnSumReferenceIdeal.τ).loc Cert.AttnSumReferenceIdeal.main_arg2)
      ∧ r.2.mem ((c.tc : Thread Cert.AttnSumReferenceIdeal.nD Cert.AttnSumReferenceIdeal.τ).loc Cert.AttnSumReferenceIdeal.main_arg3) = m ((c.tc : Thread Cert.AttnSumReferenceIdeal.nD Cert.AttnSumReferenceIdeal.τ).loc Cert.AttnSumReferenceIdeal.main_arg3)
      ∧ r.2.mem ((c.tc : Thread Cert.AttnSumReferenceIdeal.nD Cert.AttnSumReferenceIdeal.τ).loc Cert.AttnSumReferenceIdeal.main_arg4) = m ((c.tc : Thread Cert.AttnSumReferenceIdeal.nD Cert.AttnSumReferenceIdeal.τ).loc Cert.AttnSumReferenceIdeal.main_arg4)
      ∧ r.2.mem ((c.tc : Thread Cert.AttnSumReferenceIdeal.nD Cert.AttnSumReferenceIdeal.τ).loc Cert.AttnSumReferenceIdeal.main_arg5) = m ((c.tc : Thread Cert.AttnSumReferenceIdeal.nD Cert.AttnSumReferenceIdeal.τ).loc Cert.AttnSumReferenceIdeal.main_arg5)
      ∧ r.2.mem ((c.tc : Thread Cert.AttnSumReferenceIdeal.nD Cert.AttnSumReferenceIdeal.τ).loc Cert.AttnSumReferenceIdeal.main_arg6) = m ((c.tc : Thread Cert.AttnSumReferenceIdeal.nD Cert.AttnSumReferenceIdeal.τ).loc Cert.AttnSumReferenceIdeal.main_arg6)
      ∧ r.2.mem ((c.tc : Thread Cert.AttnSumReferenceIdeal.nD Cert.AttnSumReferenceIdeal.τ).loc Cert.AttnSumReferenceIdeal.main_arg7) = m ((c.tc : Thread Cert.AttnSumReferenceIdeal.nD Cert.AttnSumReferenceIdeal.τ).loc Cert.AttnSumReferenceIdeal.main_arg7)
      ∧ r.2.mem ((c.tc : Thread Cert.AttnSumReferenceIdeal.nD Cert.AttnSumReferenceIdeal.τ).loc Cert.AttnSumReferenceIdeal.main_arg8) = m ((c.tc : Thread Cert.AttnSumReferenceIdeal.nD Cert.AttnSumReferenceIdeal.τ).loc Cert.AttnSumReferenceIdeal.main_arg8)
      ∧ r.2.mem ((c.tc : Thread Cert.AttnSumReferenceIdeal.nD Cert.AttnSumReferenceIdeal.τ).loc Cert.AttnSumReferenceIdeal.main_arg9) = m ((c.tc : Thread Cert.AttnSumReferenceIdeal.nD Cert.AttnSumReferenceIdeal.τ).loc Cert.AttnSumReferenceIdeal.main_arg9)
      ∧ r.2.mem ((c.tc : Thread Cert.AttnSumReferenceIdeal.nD Cert.AttnSumReferenceIdeal.τ).loc Cert.AttnSumReferenceIdeal.main_arg10) = m ((c.tc : Thread Cert.AttnSumReferenceIdeal.nD Cert.AttnSumReferenceIdeal.τ).loc Cert.AttnSumReferenceIdeal.main_arg10)
      ∧ r.2.mem ((c.tc : Thread Cert.AttnSumReferenceIdeal.nD Cert.AttnSumReferenceIdeal.τ).loc Cert.AttnSumReferenceIdeal.main_arg11) = m ((c.tc : Thread Cert.AttnSumReferenceIdeal.nD Cert.AttnSumReferenceIdeal.τ).loc Cert.AttnSumReferenceIdeal.main_arg11)
      ∧ r.2.mem ((c.tc : Thread Cert.AttnSumReferenceIdeal.nD Cert.AttnSumReferenceIdeal.τ).loc Cert.AttnSumReferenceIdeal.main_arg12) = m ((c.tc : Thread Cert.AttnSumReferenceIdeal.nD Cert.AttnSumReferenceIdeal.τ).loc Cert.AttnSumReferenceIdeal.main_arg12)
      ∧ r.2.mem ((c.tc : Thread Cert.AttnSumReferenceIdeal.nD Cert.AttnSumReferenceIdeal.τ).loc Cert.AttnSumReferenceIdeal.main_arg13) = m ((c.tc : Thread Cert.AttnSumReferenceIdeal.nD Cert.AttnSumReferenceIdeal.τ).loc Cert.AttnSumReferenceIdeal.main_arg13)
      ∧ r.2.mem ((c.tc : Thread Cert.AttnSumReferenceIdeal.nD Cert.AttnSumReferenceIdeal.τ).loc Cert.AttnSumReferenceIdeal.main_arg14) = m ((c.tc : Thread Cert.AttnSumReferenceIdeal.nD Cert.AttnSumReferenceIdeal.τ).loc Cert.AttnSumReferenceIdeal.main_arg14)
      ∧ r.2.mem ((c.tc : Thread Cert.AttnSumReferenceIdeal.nD Cert.AttnSumReferenceIdeal.τ).loc Cert.AttnSumReferenceIdeal.main_arg15) = m ((c.tc : Thread Cert.AttnSumReferenceIdeal.nD Cert.AttnSumReferenceIdeal.τ).loc Cert.AttnSumReferenceIdeal.main_arg15)
      ∧ r.2.mem ((c.tc : Thread Cert.AttnSumReferenceIdeal.nD Cert.AttnSumReferenceIdeal.τ).loc Cert.AttnSumReferenceIdeal.main_arg16) = m ((c.tc : Thread Cert.AttnSumReferenceIdeal.nD Cert.AttnSumReferenceIdeal.τ).loc Cert.AttnSumReferenceIdeal.main_arg16))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4)
      ∧ r.2.mem ((c.tc : Thread Cert.MixKernel.nD Cert.MixKernel.τ).loc Cert.MixKernel.main_arg5) = m ((c.tc : Thread Cert.MixKernel.nD Cert.MixKernel.τ).loc Cert.MixKernel.main_arg5)
      ∧ r.2.mem ((c.tc : Thread Cert.MixKernel.nD Cert.MixKernel.τ).loc Cert.MixKernel.main_arg6) = m ((c.tc : Thread Cert.MixKernel.nD Cert.MixKernel.τ).loc Cert.MixKernel.main_arg6)
      ∧ r.2.mem ((c.tc : Thread Cert.MixKernel.nD Cert.MixKernel.τ).loc Cert.MixKernel.main_arg7) = m ((c.tc : Thread Cert.MixKernel.nD Cert.MixKernel.τ).loc Cert.MixKernel.main_arg7))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
      ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
      ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
      ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7))
      ∧ r.2.sem = fun _ => 0)

def quiescent_GluKernel [hGluKernel : Cert.GluKernel.Facts] : Prop :=
  ∀ (m : (ℓ : Loc Cert.GluKernel.nD Cert.GluKernel.τ Cert.GluKernel.sig) → Buf (Elt Bits) ℓ) (g : Dev Cert.GluKernel.nD → PrngReg), Pre_GluKernel m →
    θ_run (Cert.GluKernel.defs (F := Bits)) (onTc (τ := Cert.GluKernel.τ) (Cert.GluKernel.main (F := Bits))) ⟨m, fun _ => 0, g⟩ (fun r => (∀ c : Dev Cert.GluKernel.nD,
      r.2.mem ((c.tc : Thread Cert.GluKernel.nD Cert.GluKernel.τ).loc Cert.GluKernel.main_arg0) = m ((c.tc : Thread Cert.GluKernel.nD Cert.GluKernel.τ).loc Cert.GluKernel.main_arg0)
      ∧ r.2.mem ((c.tc : Thread Cert.GluKernel.nD Cert.GluKernel.τ).loc Cert.GluKernel.main_arg1) = m ((c.tc : Thread Cert.GluKernel.nD Cert.GluKernel.τ).loc Cert.GluKernel.main_arg1)
      ∧ r.2.mem ((c.tc : Thread Cert.GluKernel.nD Cert.GluKernel.τ).loc Cert.GluKernel.main_arg2) = m ((c.tc : Thread Cert.GluKernel.nD Cert.GluKernel.τ).loc Cert.GluKernel.main_arg2)
      ∧ r.2.mem ((c.tc : Thread Cert.GluKernel.nD Cert.GluKernel.τ).loc Cert.GluKernel.main_arg3) = m ((c.tc : Thread Cert.GluKernel.nD Cert.GluKernel.τ).loc Cert.GluKernel.main_arg3)
      ∧ r.2.mem ((c.tc : Thread Cert.GluKernel.nD Cert.GluKernel.τ).loc Cert.GluKernel.main_arg4) = m ((c.tc : Thread Cert.GluKernel.nD Cert.GluKernel.τ).loc Cert.GluKernel.main_arg4)
      ∧ r.2.mem ((c.tc : Thread Cert.GluKernel.nD Cert.GluKernel.τ).loc Cert.GluKernel.main_arg5) = m ((c.tc : Thread Cert.GluKernel.nD Cert.GluKernel.τ).loc Cert.GluKernel.main_arg5))
      ∧ r.2.sem = fun _ => 0)

def quiescent_GluKernelIdeal [hGluKernelIdeal : Cert.GluKernelIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg), Pre_GluKernelIdeal m →
    θ_run (Cert.GluKernelIdeal.defs (F := Ideal)) (onTc (τ := Cert.GluKernelIdeal.τ) (Cert.GluKernelIdeal.main (F := Ideal))) ⟨m, fun _ => 0, g⟩ (fun r => (∀ c : Dev Cert.GluKernelIdeal.nD,
      r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
      ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
      ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
      ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3)
      ∧ r.2.mem ((c.tc : Thread Cert.GluKernelIdeal.nD Cert.GluKernelIdeal.τ).loc Cert.GluKernelIdeal.main_arg4) = m ((c.tc : Thread Cert.GluKernelIdeal.nD Cert.GluKernelIdeal.τ).loc Cert.GluKernelIdeal.main_arg4)
      ∧ r.2.mem ((c.tc : Thread Cert.GluKernelIdeal.nD Cert.GluKernelIdeal.τ).loc Cert.GluKernelIdeal.main_arg5) = m ((c.tc : Thread Cert.GluKernelIdeal.nD Cert.GluKernelIdeal.τ).loc Cert.GluKernelIdeal.main_arg5))
      ∧ r.2.sem = fun _ => 0)

def quiescent_GluReferenceIdeal [hGluReferenceIdeal : Cert.GluReferenceIdeal.Facts] : Prop :=
  ∀ (m : (ℓ : Loc Cert.GluReferenceIdeal.nD Cert.GluReferenceIdeal.τ Cert.GluReferenceIdeal.sig) → Buf (Elt Ideal) ℓ) (g : Dev Cert.GluReferenceIdeal.nD → PrngReg), Pre_GluReferenceIdeal m →
    θ_run (Cert.GluReferenceIdeal.defs (F := Ideal)) (onTc (τ := Cert.GluReferenceIdeal.τ) (Cert.GluReferenceIdeal.main (F := Ideal))) ⟨m, fun _ => 0, g⟩ (fun r => (∀ c : Dev Cert.GluReferenceIdeal.nD,
      r.2.mem ((c.tc : Thread Cert.GluReferenceIdeal.nD Cert.GluReferenceIdeal.τ).loc Cert.GluReferenceIdeal.main_arg0) = m ((c.tc : Thread Cert.GluReferenceIdeal.nD Cert.GluReferenceIdeal.τ).loc Cert.GluReferenceIdeal.main_arg0)
      ∧ r.2.mem ((c.tc : Thread Cert.GluReferenceIdeal.nD Cert.GluReferenceIdeal.τ).loc Cert.GluReferenceIdeal.main_arg1) = m ((c.tc : Thread Cert.GluReferenceIdeal.nD Cert.GluReferenceIdeal.τ).loc Cert.GluReferenceIdeal.main_arg1)
      ∧ r.2.mem ((c.tc : Thread Cert.GluReferenceIdeal.nD Cert.GluReferenceIdeal.τ).loc Cert.GluReferenceIdeal.main_arg2) = m ((c.tc : Thread Cert.GluReferenceIdeal.nD Cert.GluReferenceIdeal.τ).loc Cert.GluReferenceIdeal.main_arg2)
      ∧ r.2.mem ((c.tc : Thread Cert.GluReferenceIdeal.nD Cert.GluReferenceIdeal.τ).loc Cert.GluReferenceIdeal.main_arg3) = m ((c.tc : Thread Cert.GluReferenceIdeal.nD Cert.GluReferenceIdeal.τ).loc Cert.GluReferenceIdeal.main_arg3)
      ∧ r.2.mem ((c.tc : Thread Cert.GluReferenceIdeal.nD Cert.GluReferenceIdeal.τ).loc Cert.GluReferenceIdeal.main_arg4) = m ((c.tc : Thread Cert.GluReferenceIdeal.nD Cert.GluReferenceIdeal.τ).loc Cert.GluReferenceIdeal.main_arg4)
      ∧ r.2.mem ((c.tc : Thread Cert.GluReferenceIdeal.nD Cert.GluReferenceIdeal.τ).loc Cert.GluReferenceIdeal.main_arg5) = m ((c.tc : Thread Cert.GluReferenceIdeal.nD Cert.GluReferenceIdeal.τ).loc Cert.GluReferenceIdeal.main_arg5))
      ∧ r.2.sem = fun _ => 0)

def quiescent_PleKernel [hPleKernel : Cert.PleKernel.Facts] : Prop :=
  ∀ (m : (ℓ : Loc Cert.PleKernel.nD Cert.PleKernel.τ Cert.PleKernel.sig) → Buf (Elt Bits) ℓ) (g : Dev Cert.PleKernel.nD → PrngReg), Pre_PleKernel m →
    θ_run (Cert.PleKernel.defs (F := Bits)) (onTc (τ := Cert.PleKernel.τ) (Cert.PleKernel.main (F := Bits))) ⟨m, fun _ => 0, g⟩ (fun r => (∀ c : Dev Cert.PleKernel.nD,
      r.2.mem ((c.tc : Thread Cert.PleKernel.nD Cert.PleKernel.τ).loc Cert.PleKernel.main_arg0) = m ((c.tc : Thread Cert.PleKernel.nD Cert.PleKernel.τ).loc Cert.PleKernel.main_arg0)
      ∧ r.2.mem ((c.tc : Thread Cert.PleKernel.nD Cert.PleKernel.τ).loc Cert.PleKernel.main_arg1) = m ((c.tc : Thread Cert.PleKernel.nD Cert.PleKernel.τ).loc Cert.PleKernel.main_arg1)
      ∧ r.2.mem ((c.tc : Thread Cert.PleKernel.nD Cert.PleKernel.τ).loc Cert.PleKernel.main_arg2) = m ((c.tc : Thread Cert.PleKernel.nD Cert.PleKernel.τ).loc Cert.PleKernel.main_arg2)
      ∧ r.2.mem ((c.tc : Thread Cert.PleKernel.nD Cert.PleKernel.τ).loc Cert.PleKernel.main_arg3) = m ((c.tc : Thread Cert.PleKernel.nD Cert.PleKernel.τ).loc Cert.PleKernel.main_arg3)
      ∧ r.2.mem ((c.tc : Thread Cert.PleKernel.nD Cert.PleKernel.τ).loc Cert.PleKernel.main_arg4) = m ((c.tc : Thread Cert.PleKernel.nD Cert.PleKernel.τ).loc Cert.PleKernel.main_arg4)
      ∧ r.2.mem ((c.tc : Thread Cert.PleKernel.nD Cert.PleKernel.τ).loc Cert.PleKernel.main_arg5) = m ((c.tc : Thread Cert.PleKernel.nD Cert.PleKernel.τ).loc Cert.PleKernel.main_arg5))
      ∧ r.2.sem = fun _ => 0)

def quiescent_PleKernelIdeal [hPleKernelIdeal : Cert.PleKernelIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg), Pre_PleKernelIdeal m →
    θ_run (Cert.PleKernelIdeal.defs (F := Ideal)) (onTc (τ := Cert.PleKernelIdeal.τ) (Cert.PleKernelIdeal.main (F := Ideal))) ⟨m, fun _ => 0, g⟩ (fun r => (∀ c : Dev Cert.PleKernelIdeal.nD,
      r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
      ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
      ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
      ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
      ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4)
      ∧ r.2.mem ((c.tc : Thread Cert.PleKernelIdeal.nD Cert.PleKernelIdeal.τ).loc Cert.PleKernelIdeal.main_arg5) = m ((c.tc : Thread Cert.PleKernelIdeal.nD Cert.PleKernelIdeal.τ).loc Cert.PleKernelIdeal.main_arg5))
      ∧ r.2.sem = fun _ => 0)

def quiescent_PleReferenceIdeal [hPleReferenceIdeal : Cert.PleReferenceIdeal.Facts] : Prop :=
  ∀ (m : (ℓ : Loc Cert.PleReferenceIdeal.nD Cert.PleReferenceIdeal.τ Cert.PleReferenceIdeal.sig) → Buf (Elt Ideal) ℓ) (g : Dev Cert.PleReferenceIdeal.nD → PrngReg), Pre_PleReferenceIdeal m →
    θ_run (Cert.PleReferenceIdeal.defs (F := Ideal)) (onTc (τ := Cert.PleReferenceIdeal.τ) (Cert.PleReferenceIdeal.main (F := Ideal))) ⟨m, fun _ => 0, g⟩ (fun r => (∀ c : Dev Cert.PleReferenceIdeal.nD,
      r.2.mem ((c.tc : Thread Cert.PleReferenceIdeal.nD Cert.PleReferenceIdeal.τ).loc Cert.PleReferenceIdeal.main_arg0) = m ((c.tc : Thread Cert.PleReferenceIdeal.nD Cert.PleReferenceIdeal.τ).loc Cert.PleReferenceIdeal.main_arg0)
      ∧ r.2.mem ((c.tc : Thread Cert.PleReferenceIdeal.nD Cert.PleReferenceIdeal.τ).loc Cert.PleReferenceIdeal.main_arg1) = m ((c.tc : Thread Cert.PleReferenceIdeal.nD Cert.PleReferenceIdeal.τ).loc Cert.PleReferenceIdeal.main_arg1)
      ∧ r.2.mem ((c.tc : Thread Cert.PleReferenceIdeal.nD Cert.PleReferenceIdeal.τ).loc Cert.PleReferenceIdeal.main_arg2) = m ((c.tc : Thread Cert.PleReferenceIdeal.nD Cert.PleReferenceIdeal.τ).loc Cert.PleReferenceIdeal.main_arg2)
      ∧ r.2.mem ((c.tc : Thread Cert.PleReferenceIdeal.nD Cert.PleReferenceIdeal.τ).loc Cert.PleReferenceIdeal.main_arg3) = m ((c.tc : Thread Cert.PleReferenceIdeal.nD Cert.PleReferenceIdeal.τ).loc Cert.PleReferenceIdeal.main_arg3)
      ∧ r.2.mem ((c.tc : Thread Cert.PleReferenceIdeal.nD Cert.PleReferenceIdeal.τ).loc Cert.PleReferenceIdeal.main_arg4) = m ((c.tc : Thread Cert.PleReferenceIdeal.nD Cert.PleReferenceIdeal.τ).loc Cert.PleReferenceIdeal.main_arg4)
      ∧ r.2.mem ((c.tc : Thread Cert.PleReferenceIdeal.nD Cert.PleReferenceIdeal.τ).loc Cert.PleReferenceIdeal.main_arg5) = m ((c.tc : Thread Cert.PleReferenceIdeal.nD Cert.PleReferenceIdeal.τ).loc Cert.PleReferenceIdeal.main_arg5))
      ∧ r.2.sem = fun _ => 0)

def quiescent_FfnPostKernel [hFfnPostKernel : Cert.FfnPostKernel.Facts] : Prop :=
  ∀ (m : (ℓ : Loc Cert.FfnPostKernel.nD Cert.FfnPostKernel.τ Cert.FfnPostKernel.sig) → Buf (Elt Bits) ℓ) (g : Dev Cert.FfnPostKernel.nD → PrngReg), Pre_FfnPostKernel m →
    θ_run (Cert.FfnPostKernel.defs (F := Bits)) (onTc (τ := Cert.FfnPostKernel.τ) (Cert.FfnPostKernel.main (F := Bits))) ⟨m, fun _ => 0, g⟩ (fun r => (∀ c : Dev Cert.FfnPostKernel.nD,
      r.2.mem ((c.tc : Thread Cert.FfnPostKernel.nD Cert.FfnPostKernel.τ).loc Cert.FfnPostKernel.main_arg0) = m ((c.tc : Thread Cert.FfnPostKernel.nD Cert.FfnPostKernel.τ).loc Cert.FfnPostKernel.main_arg0)
      ∧ r.2.mem ((c.tc : Thread Cert.FfnPostKernel.nD Cert.FfnPostKernel.τ).loc Cert.FfnPostKernel.main_arg1) = m ((c.tc : Thread Cert.FfnPostKernel.nD Cert.FfnPostKernel.τ).loc Cert.FfnPostKernel.main_arg1)
      ∧ r.2.mem ((c.tc : Thread Cert.FfnPostKernel.nD Cert.FfnPostKernel.τ).loc Cert.FfnPostKernel.main_arg2) = m ((c.tc : Thread Cert.FfnPostKernel.nD Cert.FfnPostKernel.τ).loc Cert.FfnPostKernel.main_arg2)
      ∧ r.2.mem ((c.tc : Thread Cert.FfnPostKernel.nD Cert.FfnPostKernel.τ).loc Cert.FfnPostKernel.main_arg3) = m ((c.tc : Thread Cert.FfnPostKernel.nD Cert.FfnPostKernel.τ).loc Cert.FfnPostKernel.main_arg3)
      ∧ r.2.mem ((c.tc : Thread Cert.FfnPostKernel.nD Cert.FfnPostKernel.τ).loc Cert.FfnPostKernel.main_arg4) = m ((c.tc : Thread Cert.FfnPostKernel.nD Cert.FfnPostKernel.τ).loc Cert.FfnPostKernel.main_arg4)
      ∧ r.2.mem ((c.tc : Thread Cert.FfnPostKernel.nD Cert.FfnPostKernel.τ).loc Cert.FfnPostKernel.main_arg5) = m ((c.tc : Thread Cert.FfnPostKernel.nD Cert.FfnPostKernel.τ).loc Cert.FfnPostKernel.main_arg5))
      ∧ r.2.sem = fun _ => 0)

def quiescent_FfnPostKernelIdeal [hFfnPostKernelIdeal : Cert.FfnPostKernelIdeal.Facts] : Prop :=
  ∀ (m : (ℓ : Loc Cert.FfnPostKernelIdeal.nD Cert.FfnPostKernelIdeal.τ Cert.FfnPostKernelIdeal.sig) → Buf (Elt Ideal) ℓ) (g : Dev Cert.FfnPostKernelIdeal.nD → PrngReg), Pre_FfnPostKernelIdeal m →
    θ_run (Cert.FfnPostKernelIdeal.defs (F := Ideal)) (onTc (τ := Cert.FfnPostKernelIdeal.τ) (Cert.FfnPostKernelIdeal.main (F := Ideal))) ⟨m, fun _ => 0, g⟩ (fun r => (∀ c : Dev Cert.FfnPostKernelIdeal.nD,
      r.2.mem ((c.tc : Thread Cert.FfnPostKernelIdeal.nD Cert.FfnPostKernelIdeal.τ).loc Cert.FfnPostKernelIdeal.main_arg0) = m ((c.tc : Thread Cert.FfnPostKernelIdeal.nD Cert.FfnPostKernelIdeal.τ).loc Cert.FfnPostKernelIdeal.main_arg0)
      ∧ r.2.mem ((c.tc : Thread Cert.FfnPostKernelIdeal.nD Cert.FfnPostKernelIdeal.τ).loc Cert.FfnPostKernelIdeal.main_arg1) = m ((c.tc : Thread Cert.FfnPostKernelIdeal.nD Cert.FfnPostKernelIdeal.τ).loc Cert.FfnPostKernelIdeal.main_arg1)
      ∧ r.2.mem ((c.tc : Thread Cert.FfnPostKernelIdeal.nD Cert.FfnPostKernelIdeal.τ).loc Cert.FfnPostKernelIdeal.main_arg2) = m ((c.tc : Thread Cert.FfnPostKernelIdeal.nD Cert.FfnPostKernelIdeal.τ).loc Cert.FfnPostKernelIdeal.main_arg2)
      ∧ r.2.mem ((c.tc : Thread Cert.FfnPostKernelIdeal.nD Cert.FfnPostKernelIdeal.τ).loc Cert.FfnPostKernelIdeal.main_arg3) = m ((c.tc : Thread Cert.FfnPostKernelIdeal.nD Cert.FfnPostKernelIdeal.τ).loc Cert.FfnPostKernelIdeal.main_arg3)
      ∧ r.2.mem ((c.tc : Thread Cert.FfnPostKernelIdeal.nD Cert.FfnPostKernelIdeal.τ).loc Cert.FfnPostKernelIdeal.main_arg4) = m ((c.tc : Thread Cert.FfnPostKernelIdeal.nD Cert.FfnPostKernelIdeal.τ).loc Cert.FfnPostKernelIdeal.main_arg4)
      ∧ r.2.mem ((c.tc : Thread Cert.FfnPostKernelIdeal.nD Cert.FfnPostKernelIdeal.τ).loc Cert.FfnPostKernelIdeal.main_arg5) = m ((c.tc : Thread Cert.FfnPostKernelIdeal.nD Cert.FfnPostKernelIdeal.τ).loc Cert.FfnPostKernelIdeal.main_arg5))
      ∧ r.2.sem = fun _ => 0)

def quiescent_FfnPostReferenceIdeal [hFfnPostReferenceIdeal : Cert.FfnPostReferenceIdeal.Facts] : Prop :=
  ∀ (m : (ℓ : Loc Cert.FfnPostReferenceIdeal.nD Cert.FfnPostReferenceIdeal.τ Cert.FfnPostReferenceIdeal.sig) → Buf (Elt Ideal) ℓ) (g : Dev Cert.FfnPostReferenceIdeal.nD → PrngReg), Pre_FfnPostReferenceIdeal m →
    θ_run (Cert.FfnPostReferenceIdeal.defs (F := Ideal)) (onTc (τ := Cert.FfnPostReferenceIdeal.τ) (Cert.FfnPostReferenceIdeal.main (F := Ideal))) ⟨m, fun _ => 0, g⟩ (fun r => (∀ c : Dev Cert.FfnPostReferenceIdeal.nD,
      r.2.mem ((c.tc : Thread Cert.FfnPostReferenceIdeal.nD Cert.FfnPostReferenceIdeal.τ).loc Cert.FfnPostReferenceIdeal.main_arg0) = m ((c.tc : Thread Cert.FfnPostReferenceIdeal.nD Cert.FfnPostReferenceIdeal.τ).loc Cert.FfnPostReferenceIdeal.main_arg0)
      ∧ r.2.mem ((c.tc : Thread Cert.FfnPostReferenceIdeal.nD Cert.FfnPostReferenceIdeal.τ).loc Cert.FfnPostReferenceIdeal.main_arg1) = m ((c.tc : Thread Cert.FfnPostReferenceIdeal.nD Cert.FfnPostReferenceIdeal.τ).loc Cert.FfnPostReferenceIdeal.main_arg1)
      ∧ r.2.mem ((c.tc : Thread Cert.FfnPostReferenceIdeal.nD Cert.FfnPostReferenceIdeal.τ).loc Cert.FfnPostReferenceIdeal.main_arg2) = m ((c.tc : Thread Cert.FfnPostReferenceIdeal.nD Cert.FfnPostReferenceIdeal.τ).loc Cert.FfnPostReferenceIdeal.main_arg2)
      ∧ r.2.mem ((c.tc : Thread Cert.FfnPostReferenceIdeal.nD Cert.FfnPostReferenceIdeal.τ).loc Cert.FfnPostReferenceIdeal.main_arg3) = m ((c.tc : Thread Cert.FfnPostReferenceIdeal.nD Cert.FfnPostReferenceIdeal.τ).loc Cert.FfnPostReferenceIdeal.main_arg3)
      ∧ r.2.mem ((c.tc : Thread Cert.FfnPostReferenceIdeal.nD Cert.FfnPostReferenceIdeal.τ).loc Cert.FfnPostReferenceIdeal.main_arg4) = m ((c.tc : Thread Cert.FfnPostReferenceIdeal.nD Cert.FfnPostReferenceIdeal.τ).loc Cert.FfnPostReferenceIdeal.main_arg4)
      ∧ r.2.mem ((c.tc : Thread Cert.FfnPostReferenceIdeal.nD Cert.FfnPostReferenceIdeal.τ).loc Cert.FfnPostReferenceIdeal.main_arg5) = m ((c.tc : Thread Cert.FfnPostReferenceIdeal.nD Cert.FfnPostReferenceIdeal.τ).loc Cert.FfnPostReferenceIdeal.main_arg5))
      ∧ r.2.sem = fun _ => 0)

def quiescent_FfnPreKernel [hFfnPreKernel : Cert.FfnPreKernel.Facts] : Prop :=
  ∀ (m : (ℓ : Loc Cert.FfnPreKernel.nD Cert.FfnPreKernel.τ Cert.FfnPreKernel.sig) → Buf (Elt Bits) ℓ) (g : Dev Cert.FfnPreKernel.nD → PrngReg), Pre_FfnPreKernel m →
    θ_run (Cert.FfnPreKernel.defs (F := Bits)) (onTc (τ := Cert.FfnPreKernel.τ) (Cert.FfnPreKernel.main (F := Bits))) ⟨m, fun _ => 0, g⟩ (fun r => (∀ c : Dev Cert.FfnPreKernel.nD,
      r.2.mem ((c.tc : Thread Cert.FfnPreKernel.nD Cert.FfnPreKernel.τ).loc Cert.FfnPreKernel.main_arg0) = m ((c.tc : Thread Cert.FfnPreKernel.nD Cert.FfnPreKernel.τ).loc Cert.FfnPreKernel.main_arg0)
      ∧ r.2.mem ((c.tc : Thread Cert.FfnPreKernel.nD Cert.FfnPreKernel.τ).loc Cert.FfnPreKernel.main_arg1) = m ((c.tc : Thread Cert.FfnPreKernel.nD Cert.FfnPreKernel.τ).loc Cert.FfnPreKernel.main_arg1)
      ∧ r.2.mem ((c.tc : Thread Cert.FfnPreKernel.nD Cert.FfnPreKernel.τ).loc Cert.FfnPreKernel.main_arg2) = m ((c.tc : Thread Cert.FfnPreKernel.nD Cert.FfnPreKernel.τ).loc Cert.FfnPreKernel.main_arg2)
      ∧ r.2.mem ((c.tc : Thread Cert.FfnPreKernel.nD Cert.FfnPreKernel.τ).loc Cert.FfnPreKernel.main_arg3) = m ((c.tc : Thread Cert.FfnPreKernel.nD Cert.FfnPreKernel.τ).loc Cert.FfnPreKernel.main_arg3)
      ∧ r.2.mem ((c.tc : Thread Cert.FfnPreKernel.nD Cert.FfnPreKernel.τ).loc Cert.FfnPreKernel.main_arg4) = m ((c.tc : Thread Cert.FfnPreKernel.nD Cert.FfnPreKernel.τ).loc Cert.FfnPreKernel.main_arg4)
      ∧ r.2.mem ((c.tc : Thread Cert.FfnPreKernel.nD Cert.FfnPreKernel.τ).loc Cert.FfnPreKernel.main_arg5) = m ((c.tc : Thread Cert.FfnPreKernel.nD Cert.FfnPreKernel.τ).loc Cert.FfnPreKernel.main_arg5)
      ∧ r.2.mem ((c.tc : Thread Cert.FfnPreKernel.nD Cert.FfnPreKernel.τ).loc Cert.FfnPreKernel.main_arg6) = m ((c.tc : Thread Cert.FfnPreKernel.nD Cert.FfnPreKernel.τ).loc Cert.FfnPreKernel.main_arg6)
      ∧ r.2.mem ((c.tc : Thread Cert.FfnPreKernel.nD Cert.FfnPreKernel.τ).loc Cert.FfnPreKernel.main_arg7) = m ((c.tc : Thread Cert.FfnPreKernel.nD Cert.FfnPreKernel.τ).loc Cert.FfnPreKernel.main_arg7)
      ∧ r.2.mem ((c.tc : Thread Cert.FfnPreKernel.nD Cert.FfnPreKernel.τ).loc Cert.FfnPreKernel.main_arg8) = m ((c.tc : Thread Cert.FfnPreKernel.nD Cert.FfnPreKernel.τ).loc Cert.FfnPreKernel.main_arg8)
      ∧ r.2.mem ((c.tc : Thread Cert.FfnPreKernel.nD Cert.FfnPreKernel.τ).loc Cert.FfnPreKernel.main_arg9) = m ((c.tc : Thread Cert.FfnPreKernel.nD Cert.FfnPreKernel.τ).loc Cert.FfnPreKernel.main_arg9)
      ∧ r.2.mem ((c.tc : Thread Cert.FfnPreKernel.nD Cert.FfnPreKernel.τ).loc Cert.FfnPreKernel.main_arg10) = m ((c.tc : Thread Cert.FfnPreKernel.nD Cert.FfnPreKernel.τ).loc Cert.FfnPreKernel.main_arg10)
      ∧ r.2.mem ((c.tc : Thread Cert.FfnPreKernel.nD Cert.FfnPreKernel.τ).loc Cert.FfnPreKernel.main_arg11) = m ((c.tc : Thread Cert.FfnPreKernel.nD Cert.FfnPreKernel.τ).loc Cert.FfnPreKernel.main_arg11)
      ∧ r.2.mem ((c.tc : Thread Cert.FfnPreKernel.nD Cert.FfnPreKernel.τ).loc Cert.FfnPreKernel.main_arg12) = m ((c.tc : Thread Cert.FfnPreKernel.nD Cert.FfnPreKernel.τ).loc Cert.FfnPreKernel.main_arg12))
      ∧ r.2.sem = fun _ => 0)

def quiescent_FfnPreKernelIdeal [hFfnPreKernelIdeal : Cert.FfnPreKernelIdeal.Facts] : Prop :=
  ∀ (m : (ℓ : Loc Cert.FfnPreKernelIdeal.nD Cert.FfnPreKernelIdeal.τ Cert.FfnPreKernelIdeal.sig) → Buf (Elt Ideal) ℓ) (g : Dev Cert.FfnPreKernelIdeal.nD → PrngReg), Pre_FfnPreKernelIdeal m →
    θ_run (Cert.FfnPreKernelIdeal.defs (F := Ideal)) (onTc (τ := Cert.FfnPreKernelIdeal.τ) (Cert.FfnPreKernelIdeal.main (F := Ideal))) ⟨m, fun _ => 0, g⟩ (fun r => (∀ c : Dev Cert.FfnPreKernelIdeal.nD,
      r.2.mem ((c.tc : Thread Cert.FfnPreKernelIdeal.nD Cert.FfnPreKernelIdeal.τ).loc Cert.FfnPreKernelIdeal.main_arg0) = m ((c.tc : Thread Cert.FfnPreKernelIdeal.nD Cert.FfnPreKernelIdeal.τ).loc Cert.FfnPreKernelIdeal.main_arg0)
      ∧ r.2.mem ((c.tc : Thread Cert.FfnPreKernelIdeal.nD Cert.FfnPreKernelIdeal.τ).loc Cert.FfnPreKernelIdeal.main_arg1) = m ((c.tc : Thread Cert.FfnPreKernelIdeal.nD Cert.FfnPreKernelIdeal.τ).loc Cert.FfnPreKernelIdeal.main_arg1)
      ∧ r.2.mem ((c.tc : Thread Cert.FfnPreKernelIdeal.nD Cert.FfnPreKernelIdeal.τ).loc Cert.FfnPreKernelIdeal.main_arg2) = m ((c.tc : Thread Cert.FfnPreKernelIdeal.nD Cert.FfnPreKernelIdeal.τ).loc Cert.FfnPreKernelIdeal.main_arg2)
      ∧ r.2.mem ((c.tc : Thread Cert.FfnPreKernelIdeal.nD Cert.FfnPreKernelIdeal.τ).loc Cert.FfnPreKernelIdeal.main_arg3) = m ((c.tc : Thread Cert.FfnPreKernelIdeal.nD Cert.FfnPreKernelIdeal.τ).loc Cert.FfnPreKernelIdeal.main_arg3)
      ∧ r.2.mem ((c.tc : Thread Cert.FfnPreKernelIdeal.nD Cert.FfnPreKernelIdeal.τ).loc Cert.FfnPreKernelIdeal.main_arg4) = m ((c.tc : Thread Cert.FfnPreKernelIdeal.nD Cert.FfnPreKernelIdeal.τ).loc Cert.FfnPreKernelIdeal.main_arg4)
      ∧ r.2.mem ((c.tc : Thread Cert.FfnPreKernelIdeal.nD Cert.FfnPreKernelIdeal.τ).loc Cert.FfnPreKernelIdeal.main_arg5) = m ((c.tc : Thread Cert.FfnPreKernelIdeal.nD Cert.FfnPreKernelIdeal.τ).loc Cert.FfnPreKernelIdeal.main_arg5)
      ∧ r.2.mem ((c.tc : Thread Cert.FfnPreKernelIdeal.nD Cert.FfnPreKernelIdeal.τ).loc Cert.FfnPreKernelIdeal.main_arg6) = m ((c.tc : Thread Cert.FfnPreKernelIdeal.nD Cert.FfnPreKernelIdeal.τ).loc Cert.FfnPreKernelIdeal.main_arg6)
      ∧ r.2.mem ((c.tc : Thread Cert.FfnPreKernelIdeal.nD Cert.FfnPreKernelIdeal.τ).loc Cert.FfnPreKernelIdeal.main_arg7) = m ((c.tc : Thread Cert.FfnPreKernelIdeal.nD Cert.FfnPreKernelIdeal.τ).loc Cert.FfnPreKernelIdeal.main_arg7)
      ∧ r.2.mem ((c.tc : Thread Cert.FfnPreKernelIdeal.nD Cert.FfnPreKernelIdeal.τ).loc Cert.FfnPreKernelIdeal.main_arg8) = m ((c.tc : Thread Cert.FfnPreKernelIdeal.nD Cert.FfnPreKernelIdeal.τ).loc Cert.FfnPreKernelIdeal.main_arg8)
      ∧ r.2.mem ((c.tc : Thread Cert.FfnPreKernelIdeal.nD Cert.FfnPreKernelIdeal.τ).loc Cert.FfnPreKernelIdeal.main_arg9) = m ((c.tc : Thread Cert.FfnPreKernelIdeal.nD Cert.FfnPreKernelIdeal.τ).loc Cert.FfnPreKernelIdeal.main_arg9)
      ∧ r.2.mem ((c.tc : Thread Cert.FfnPreKernelIdeal.nD Cert.FfnPreKernelIdeal.τ).loc Cert.FfnPreKernelIdeal.main_arg10) = m ((c.tc : Thread Cert.FfnPreKernelIdeal.nD Cert.FfnPreKernelIdeal.τ).loc Cert.FfnPreKernelIdeal.main_arg10)
      ∧ r.2.mem ((c.tc : Thread Cert.FfnPreKernelIdeal.nD Cert.FfnPreKernelIdeal.τ).loc Cert.FfnPreKernelIdeal.main_arg11) = m ((c.tc : Thread Cert.FfnPreKernelIdeal.nD Cert.FfnPreKernelIdeal.τ).loc Cert.FfnPreKernelIdeal.main_arg11)
      ∧ r.2.mem ((c.tc : Thread Cert.FfnPreKernelIdeal.nD Cert.FfnPreKernelIdeal.τ).loc Cert.FfnPreKernelIdeal.main_arg12) = m ((c.tc : Thread Cert.FfnPreKernelIdeal.nD Cert.FfnPreKernelIdeal.τ).loc Cert.FfnPreKernelIdeal.main_arg12))
      ∧ r.2.sem = fun _ => 0)

def quiescent_FfnPreReferenceIdeal [hFfnPreReferenceIdeal : Cert.FfnPreReferenceIdeal.Facts] : Prop :=
  ∀ (m : (ℓ : Loc Cert.FfnPreReferenceIdeal.nD Cert.FfnPreReferenceIdeal.τ Cert.FfnPreReferenceIdeal.sig) → Buf (Elt Ideal) ℓ) (g : Dev Cert.FfnPreReferenceIdeal.nD → PrngReg), Pre_FfnPreReferenceIdeal m →
    θ_run (Cert.FfnPreReferenceIdeal.defs (F := Ideal)) (onTc (τ := Cert.FfnPreReferenceIdeal.τ) (Cert.FfnPreReferenceIdeal.main (F := Ideal))) ⟨m, fun _ => 0, g⟩ (fun r => (∀ c : Dev Cert.FfnPreReferenceIdeal.nD,
      r.2.mem ((c.tc : Thread Cert.FfnPreReferenceIdeal.nD Cert.FfnPreReferenceIdeal.τ).loc Cert.FfnPreReferenceIdeal.main_arg0) = m ((c.tc : Thread Cert.FfnPreReferenceIdeal.nD Cert.FfnPreReferenceIdeal.τ).loc Cert.FfnPreReferenceIdeal.main_arg0)
      ∧ r.2.mem ((c.tc : Thread Cert.FfnPreReferenceIdeal.nD Cert.FfnPreReferenceIdeal.τ).loc Cert.FfnPreReferenceIdeal.main_arg1) = m ((c.tc : Thread Cert.FfnPreReferenceIdeal.nD Cert.FfnPreReferenceIdeal.τ).loc Cert.FfnPreReferenceIdeal.main_arg1)
      ∧ r.2.mem ((c.tc : Thread Cert.FfnPreReferenceIdeal.nD Cert.FfnPreReferenceIdeal.τ).loc Cert.FfnPreReferenceIdeal.main_arg2) = m ((c.tc : Thread Cert.FfnPreReferenceIdeal.nD Cert.FfnPreReferenceIdeal.τ).loc Cert.FfnPreReferenceIdeal.main_arg2)
      ∧ r.2.mem ((c.tc : Thread Cert.FfnPreReferenceIdeal.nD Cert.FfnPreReferenceIdeal.τ).loc Cert.FfnPreReferenceIdeal.main_arg3) = m ((c.tc : Thread Cert.FfnPreReferenceIdeal.nD Cert.FfnPreReferenceIdeal.τ).loc Cert.FfnPreReferenceIdeal.main_arg3)
      ∧ r.2.mem ((c.tc : Thread Cert.FfnPreReferenceIdeal.nD Cert.FfnPreReferenceIdeal.τ).loc Cert.FfnPreReferenceIdeal.main_arg4) = m ((c.tc : Thread Cert.FfnPreReferenceIdeal.nD Cert.FfnPreReferenceIdeal.τ).loc Cert.FfnPreReferenceIdeal.main_arg4)
      ∧ r.2.mem ((c.tc : Thread Cert.FfnPreReferenceIdeal.nD Cert.FfnPreReferenceIdeal.τ).loc Cert.FfnPreReferenceIdeal.main_arg5) = m ((c.tc : Thread Cert.FfnPreReferenceIdeal.nD Cert.FfnPreReferenceIdeal.τ).loc Cert.FfnPreReferenceIdeal.main_arg5)
      ∧ r.2.mem ((c.tc : Thread Cert.FfnPreReferenceIdeal.nD Cert.FfnPreReferenceIdeal.τ).loc Cert.FfnPreReferenceIdeal.main_arg6) = m ((c.tc : Thread Cert.FfnPreReferenceIdeal.nD Cert.FfnPreReferenceIdeal.τ).loc Cert.FfnPreReferenceIdeal.main_arg6)
      ∧ r.2.mem ((c.tc : Thread Cert.FfnPreReferenceIdeal.nD Cert.FfnPreReferenceIdeal.τ).loc Cert.FfnPreReferenceIdeal.main_arg7) = m ((c.tc : Thread Cert.FfnPreReferenceIdeal.nD Cert.FfnPreReferenceIdeal.τ).loc Cert.FfnPreReferenceIdeal.main_arg7)
      ∧ r.2.mem ((c.tc : Thread Cert.FfnPreReferenceIdeal.nD Cert.FfnPreReferenceIdeal.τ).loc Cert.FfnPreReferenceIdeal.main_arg8) = m ((c.tc : Thread Cert.FfnPreReferenceIdeal.nD Cert.FfnPreReferenceIdeal.τ).loc Cert.FfnPreReferenceIdeal.main_arg8)
      ∧ r.2.mem ((c.tc : Thread Cert.FfnPreReferenceIdeal.nD Cert.FfnPreReferenceIdeal.τ).loc Cert.FfnPreReferenceIdeal.main_arg9) = m ((c.tc : Thread Cert.FfnPreReferenceIdeal.nD Cert.FfnPreReferenceIdeal.τ).loc Cert.FfnPreReferenceIdeal.main_arg9)
      ∧ r.2.mem ((c.tc : Thread Cert.FfnPreReferenceIdeal.nD Cert.FfnPreReferenceIdeal.τ).loc Cert.FfnPreReferenceIdeal.main_arg10) = m ((c.tc : Thread Cert.FfnPreReferenceIdeal.nD Cert.FfnPreReferenceIdeal.τ).loc Cert.FfnPreReferenceIdeal.main_arg10)
      ∧ r.2.mem ((c.tc : Thread Cert.FfnPreReferenceIdeal.nD Cert.FfnPreReferenceIdeal.τ).loc Cert.FfnPreReferenceIdeal.main_arg11) = m ((c.tc : Thread Cert.FfnPreReferenceIdeal.nD Cert.FfnPreReferenceIdeal.τ).loc Cert.FfnPreReferenceIdeal.main_arg11)
      ∧ r.2.mem ((c.tc : Thread Cert.FfnPreReferenceIdeal.nD Cert.FfnPreReferenceIdeal.τ).loc Cert.FfnPreReferenceIdeal.main_arg12) = m ((c.tc : Thread Cert.FfnPreReferenceIdeal.nD Cert.FfnPreReferenceIdeal.τ).loc Cert.FfnPreReferenceIdeal.main_arg12))
      ∧ r.2.sem = fun _ => 0)

def quiescent_MixInKernel [hMixInKernel : Cert.MixInKernel.Facts] : Prop :=
  ∀ (m : (ℓ : Loc Cert.MixInKernel.nD Cert.MixInKernel.τ Cert.MixInKernel.sig) → Buf (Elt Bits) ℓ) (g : Dev Cert.MixInKernel.nD → PrngReg), Pre_MixInKernel m →
    θ_run (Cert.MixInKernel.defs (F := Bits)) (onTc (τ := Cert.MixInKernel.τ) (Cert.MixInKernel.main (F := Bits))) ⟨m, fun _ => 0, g⟩ (fun r => (∀ c : Dev Cert.MixInKernel.nD,
      r.2.mem ((c.tc : Thread Cert.MixInKernel.nD Cert.MixInKernel.τ).loc Cert.MixInKernel.main_arg0) = m ((c.tc : Thread Cert.MixInKernel.nD Cert.MixInKernel.τ).loc Cert.MixInKernel.main_arg0)
      ∧ r.2.mem ((c.tc : Thread Cert.MixInKernel.nD Cert.MixInKernel.τ).loc Cert.MixInKernel.main_arg1) = m ((c.tc : Thread Cert.MixInKernel.nD Cert.MixInKernel.τ).loc Cert.MixInKernel.main_arg1)
      ∧ r.2.mem ((c.tc : Thread Cert.MixInKernel.nD Cert.MixInKernel.τ).loc Cert.MixInKernel.main_arg2) = m ((c.tc : Thread Cert.MixInKernel.nD Cert.MixInKernel.τ).loc Cert.MixInKernel.main_arg2)
      ∧ r.2.mem ((c.tc : Thread Cert.MixInKernel.nD Cert.MixInKernel.τ).loc Cert.MixInKernel.main_arg3) = m ((c.tc : Thread Cert.MixInKernel.nD Cert.MixInKernel.τ).loc Cert.MixInKernel.main_arg3)
      ∧ r.2.mem ((c.tc : Thread Cert.MixInKernel.nD Cert.MixInKernel.τ).loc Cert.MixInKernel.main_arg4) = m ((c.tc : Thread Cert.MixInKernel.nD Cert.MixInKernel.τ).loc Cert.MixInKernel.main_arg4)
      ∧ r.2.mem ((c.tc : Thread Cert.MixInKernel.nD Cert.MixInKernel.τ).loc Cert.MixInKernel.main_arg5) = m ((c.tc : Thread Cert.MixInKernel.nD Cert.MixInKernel.τ).loc Cert.MixInKernel.main_arg5)
      ∧ r.2.mem ((c.tc : Thread Cert.MixInKernel.nD Cert.MixInKernel.τ).loc Cert.MixInKernel.main_arg6) = m ((c.tc : Thread Cert.MixInKernel.nD Cert.MixInKernel.τ).loc Cert.MixInKernel.main_arg6)
      ∧ r.2.mem ((c.tc : Thread Cert.MixInKernel.nD Cert.MixInKernel.τ).loc Cert.MixInKernel.main_arg7) = m ((c.tc : Thread Cert.MixInKernel.nD Cert.MixInKernel.τ).loc Cert.MixInKernel.main_arg7)
      ∧ r.2.mem ((c.tc : Thread Cert.MixInKernel.nD Cert.MixInKernel.τ).loc Cert.MixInKernel.main_arg8) = m ((c.tc : Thread Cert.MixInKernel.nD Cert.MixInKernel.τ).loc Cert.MixInKernel.main_arg8)
      ∧ r.2.mem ((c.tc : Thread Cert.MixInKernel.nD Cert.MixInKernel.τ).loc Cert.MixInKernel.main_arg9) = m ((c.tc : Thread Cert.MixInKernel.nD Cert.MixInKernel.τ).loc Cert.MixInKernel.main_arg9))
      ∧ r.2.sem = fun _ => 0)

def quiescent_MixInKernelIdeal [hMixInKernelIdeal : Cert.MixInKernelIdeal.Facts] : Prop :=
  ∀ (m : (ℓ : Loc Cert.MixInKernelIdeal.nD Cert.MixInKernelIdeal.τ Cert.MixInKernelIdeal.sig) → Buf (Elt Ideal) ℓ) (g : Dev Cert.MixInKernelIdeal.nD → PrngReg), Pre_MixInKernelIdeal m →
    θ_run (Cert.MixInKernelIdeal.defs (F := Ideal)) (onTc (τ := Cert.MixInKernelIdeal.τ) (Cert.MixInKernelIdeal.main (F := Ideal))) ⟨m, fun _ => 0, g⟩ (fun r => (∀ c : Dev Cert.MixInKernelIdeal.nD,
      r.2.mem ((c.tc : Thread Cert.MixInKernelIdeal.nD Cert.MixInKernelIdeal.τ).loc Cert.MixInKernelIdeal.main_arg0) = m ((c.tc : Thread Cert.MixInKernelIdeal.nD Cert.MixInKernelIdeal.τ).loc Cert.MixInKernelIdeal.main_arg0)
      ∧ r.2.mem ((c.tc : Thread Cert.MixInKernelIdeal.nD Cert.MixInKernelIdeal.τ).loc Cert.MixInKernelIdeal.main_arg1) = m ((c.tc : Thread Cert.MixInKernelIdeal.nD Cert.MixInKernelIdeal.τ).loc Cert.MixInKernelIdeal.main_arg1)
      ∧ r.2.mem ((c.tc : Thread Cert.MixInKernelIdeal.nD Cert.MixInKernelIdeal.τ).loc Cert.MixInKernelIdeal.main_arg2) = m ((c.tc : Thread Cert.MixInKernelIdeal.nD Cert.MixInKernelIdeal.τ).loc Cert.MixInKernelIdeal.main_arg2)
      ∧ r.2.mem ((c.tc : Thread Cert.MixInKernelIdeal.nD Cert.MixInKernelIdeal.τ).loc Cert.MixInKernelIdeal.main_arg3) = m ((c.tc : Thread Cert.MixInKernelIdeal.nD Cert.MixInKernelIdeal.τ).loc Cert.MixInKernelIdeal.main_arg3)
      ∧ r.2.mem ((c.tc : Thread Cert.MixInKernelIdeal.nD Cert.MixInKernelIdeal.τ).loc Cert.MixInKernelIdeal.main_arg4) = m ((c.tc : Thread Cert.MixInKernelIdeal.nD Cert.MixInKernelIdeal.τ).loc Cert.MixInKernelIdeal.main_arg4)
      ∧ r.2.mem ((c.tc : Thread Cert.MixInKernelIdeal.nD Cert.MixInKernelIdeal.τ).loc Cert.MixInKernelIdeal.main_arg5) = m ((c.tc : Thread Cert.MixInKernelIdeal.nD Cert.MixInKernelIdeal.τ).loc Cert.MixInKernelIdeal.main_arg5)
      ∧ r.2.mem ((c.tc : Thread Cert.MixInKernelIdeal.nD Cert.MixInKernelIdeal.τ).loc Cert.MixInKernelIdeal.main_arg6) = m ((c.tc : Thread Cert.MixInKernelIdeal.nD Cert.MixInKernelIdeal.τ).loc Cert.MixInKernelIdeal.main_arg6)
      ∧ r.2.mem ((c.tc : Thread Cert.MixInKernelIdeal.nD Cert.MixInKernelIdeal.τ).loc Cert.MixInKernelIdeal.main_arg7) = m ((c.tc : Thread Cert.MixInKernelIdeal.nD Cert.MixInKernelIdeal.τ).loc Cert.MixInKernelIdeal.main_arg7)
      ∧ r.2.mem ((c.tc : Thread Cert.MixInKernelIdeal.nD Cert.MixInKernelIdeal.τ).loc Cert.MixInKernelIdeal.main_arg8) = m ((c.tc : Thread Cert.MixInKernelIdeal.nD Cert.MixInKernelIdeal.τ).loc Cert.MixInKernelIdeal.main_arg8)
      ∧ r.2.mem ((c.tc : Thread Cert.MixInKernelIdeal.nD Cert.MixInKernelIdeal.τ).loc Cert.MixInKernelIdeal.main_arg9) = m ((c.tc : Thread Cert.MixInKernelIdeal.nD Cert.MixInKernelIdeal.τ).loc Cert.MixInKernelIdeal.main_arg9))
      ∧ r.2.sem = fun _ => 0)

def quiescent_MixInReferenceIdeal [hMixInReferenceIdeal : Cert.MixInReferenceIdeal.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1)
      ∧ r.2.mem ((c.tc : Thread Cert.MixInReferenceIdeal.nD Cert.MixInReferenceIdeal.τ).loc Cert.MixInReferenceIdeal.main_arg2) = m ((c.tc : Thread Cert.MixInReferenceIdeal.nD Cert.MixInReferenceIdeal.τ).loc Cert.MixInReferenceIdeal.main_arg2)
      ∧ r.2.mem ((c.tc : Thread Cert.MixInReferenceIdeal.nD Cert.MixInReferenceIdeal.τ).loc Cert.MixInReferenceIdeal.main_arg3) = m ((c.tc : Thread Cert.MixInReferenceIdeal.nD Cert.MixInReferenceIdeal.τ).loc Cert.MixInReferenceIdeal.main_arg3)
      ∧ r.2.mem ((c.tc : Thread Cert.MixInReferenceIdeal.nD Cert.MixInReferenceIdeal.τ).loc Cert.MixInReferenceIdeal.main_arg4) = m ((c.tc : Thread Cert.MixInReferenceIdeal.nD Cert.MixInReferenceIdeal.τ).loc Cert.MixInReferenceIdeal.main_arg4)
      ∧ r.2.mem ((c.tc : Thread Cert.MixInReferenceIdeal.nD Cert.MixInReferenceIdeal.τ).loc Cert.MixInReferenceIdeal.main_arg5) = m ((c.tc : Thread Cert.MixInReferenceIdeal.nD Cert.MixInReferenceIdeal.τ).loc Cert.MixInReferenceIdeal.main_arg5)
      ∧ r.2.mem ((c.tc : Thread Cert.MixInReferenceIdeal.nD Cert.MixInReferenceIdeal.τ).loc Cert.MixInReferenceIdeal.main_arg6) = m ((c.tc : Thread Cert.MixInReferenceIdeal.nD Cert.MixInReferenceIdeal.τ).loc Cert.MixInReferenceIdeal.main_arg6)
      ∧ r.2.mem ((c.tc : Thread Cert.MixInReferenceIdeal.nD Cert.MixInReferenceIdeal.τ).loc Cert.MixInReferenceIdeal.main_arg7) = m ((c.tc : Thread Cert.MixInReferenceIdeal.nD Cert.MixInReferenceIdeal.τ).loc Cert.MixInReferenceIdeal.main_arg7)
      ∧ r.2.mem ((c.tc : Thread Cert.MixInReferenceIdeal.nD Cert.MixInReferenceIdeal.τ).loc Cert.MixInReferenceIdeal.main_arg8) = m ((c.tc : Thread Cert.MixInReferenceIdeal.nD Cert.MixInReferenceIdeal.τ).loc Cert.MixInReferenceIdeal.main_arg8)
      ∧ r.2.mem ((c.tc : Thread Cert.MixInReferenceIdeal.nD Cert.MixInReferenceIdeal.τ).loc Cert.MixInReferenceIdeal.main_arg9) = m ((c.tc : Thread Cert.MixInReferenceIdeal.nD Cert.MixInReferenceIdeal.τ).loc Cert.MixInReferenceIdeal.main_arg9))
      ∧ r.2.sem = fun _ => 0)

def quiescent_FfnInKernel [hFfnInKernel : Cert.FfnInKernel.Facts] : Prop :=
  ∀ (m : (ℓ : Loc Cert.FfnInKernel.nD Cert.FfnInKernel.τ Cert.FfnInKernel.sig) → Buf (Elt Bits) ℓ) (g : Dev Cert.FfnInKernel.nD → PrngReg), Pre_FfnInKernel m →
    θ_run (Cert.FfnInKernel.defs (F := Bits)) (onTc (τ := Cert.FfnInKernel.τ) (Cert.FfnInKernel.main (F := Bits))) ⟨m, fun _ => 0, g⟩ (fun r => (∀ c : Dev Cert.FfnInKernel.nD,
      r.2.mem ((c.tc : Thread Cert.FfnInKernel.nD Cert.FfnInKernel.τ).loc Cert.FfnInKernel.main_arg0) = m ((c.tc : Thread Cert.FfnInKernel.nD Cert.FfnInKernel.τ).loc Cert.FfnInKernel.main_arg0)
      ∧ r.2.mem ((c.tc : Thread Cert.FfnInKernel.nD Cert.FfnInKernel.τ).loc Cert.FfnInKernel.main_arg1) = m ((c.tc : Thread Cert.FfnInKernel.nD Cert.FfnInKernel.τ).loc Cert.FfnInKernel.main_arg1)
      ∧ r.2.mem ((c.tc : Thread Cert.FfnInKernel.nD Cert.FfnInKernel.τ).loc Cert.FfnInKernel.main_arg2) = m ((c.tc : Thread Cert.FfnInKernel.nD Cert.FfnInKernel.τ).loc Cert.FfnInKernel.main_arg2)
      ∧ r.2.mem ((c.tc : Thread Cert.FfnInKernel.nD Cert.FfnInKernel.τ).loc Cert.FfnInKernel.main_arg3) = m ((c.tc : Thread Cert.FfnInKernel.nD Cert.FfnInKernel.τ).loc Cert.FfnInKernel.main_arg3)
      ∧ r.2.mem ((c.tc : Thread Cert.FfnInKernel.nD Cert.FfnInKernel.τ).loc Cert.FfnInKernel.main_arg4) = m ((c.tc : Thread Cert.FfnInKernel.nD Cert.FfnInKernel.τ).loc Cert.FfnInKernel.main_arg4)
      ∧ r.2.mem ((c.tc : Thread Cert.FfnInKernel.nD Cert.FfnInKernel.τ).loc Cert.FfnInKernel.main_arg5) = m ((c.tc : Thread Cert.FfnInKernel.nD Cert.FfnInKernel.τ).loc Cert.FfnInKernel.main_arg5)
      ∧ r.2.mem ((c.tc : Thread Cert.FfnInKernel.nD Cert.FfnInKernel.τ).loc Cert.FfnInKernel.main_arg6) = m ((c.tc : Thread Cert.FfnInKernel.nD Cert.FfnInKernel.τ).loc Cert.FfnInKernel.main_arg6))
      ∧ r.2.sem = fun _ => 0)

def quiescent_FfnInKernelIdeal [hFfnInKernelIdeal : Cert.FfnInKernelIdeal.Facts] : Prop :=
  ∀ (m : (ℓ : Loc Cert.FfnInKernelIdeal.nD Cert.FfnInKernelIdeal.τ Cert.FfnInKernelIdeal.sig) → Buf (Elt Ideal) ℓ) (g : Dev Cert.FfnInKernelIdeal.nD → PrngReg), Pre_FfnInKernelIdeal m →
    θ_run (Cert.FfnInKernelIdeal.defs (F := Ideal)) (onTc (τ := Cert.FfnInKernelIdeal.τ) (Cert.FfnInKernelIdeal.main (F := Ideal))) ⟨m, fun _ => 0, g⟩ (fun r => (∀ c : Dev Cert.FfnInKernelIdeal.nD,
      r.2.mem ((c.tc : Thread Cert.FfnInKernelIdeal.nD Cert.FfnInKernelIdeal.τ).loc Cert.FfnInKernelIdeal.main_arg0) = m ((c.tc : Thread Cert.FfnInKernelIdeal.nD Cert.FfnInKernelIdeal.τ).loc Cert.FfnInKernelIdeal.main_arg0)
      ∧ r.2.mem ((c.tc : Thread Cert.FfnInKernelIdeal.nD Cert.FfnInKernelIdeal.τ).loc Cert.FfnInKernelIdeal.main_arg1) = m ((c.tc : Thread Cert.FfnInKernelIdeal.nD Cert.FfnInKernelIdeal.τ).loc Cert.FfnInKernelIdeal.main_arg1)
      ∧ r.2.mem ((c.tc : Thread Cert.FfnInKernelIdeal.nD Cert.FfnInKernelIdeal.τ).loc Cert.FfnInKernelIdeal.main_arg2) = m ((c.tc : Thread Cert.FfnInKernelIdeal.nD Cert.FfnInKernelIdeal.τ).loc Cert.FfnInKernelIdeal.main_arg2)
      ∧ r.2.mem ((c.tc : Thread Cert.FfnInKernelIdeal.nD Cert.FfnInKernelIdeal.τ).loc Cert.FfnInKernelIdeal.main_arg3) = m ((c.tc : Thread Cert.FfnInKernelIdeal.nD Cert.FfnInKernelIdeal.τ).loc Cert.FfnInKernelIdeal.main_arg3)
      ∧ r.2.mem ((c.tc : Thread Cert.FfnInKernelIdeal.nD Cert.FfnInKernelIdeal.τ).loc Cert.FfnInKernelIdeal.main_arg4) = m ((c.tc : Thread Cert.FfnInKernelIdeal.nD Cert.FfnInKernelIdeal.τ).loc Cert.FfnInKernelIdeal.main_arg4)
      ∧ r.2.mem ((c.tc : Thread Cert.FfnInKernelIdeal.nD Cert.FfnInKernelIdeal.τ).loc Cert.FfnInKernelIdeal.main_arg5) = m ((c.tc : Thread Cert.FfnInKernelIdeal.nD Cert.FfnInKernelIdeal.τ).loc Cert.FfnInKernelIdeal.main_arg5)
      ∧ r.2.mem ((c.tc : Thread Cert.FfnInKernelIdeal.nD Cert.FfnInKernelIdeal.τ).loc Cert.FfnInKernelIdeal.main_arg6) = m ((c.tc : Thread Cert.FfnInKernelIdeal.nD Cert.FfnInKernelIdeal.τ).loc Cert.FfnInKernelIdeal.main_arg6))
      ∧ r.2.sem = fun _ => 0)

def quiescent_FfnInReferenceIdeal [hFfnInReferenceIdeal : Cert.FfnInReferenceIdeal.Facts] : Prop :=
  ∀ (m : (ℓ : Loc Cert.FfnInReferenceIdeal.nD Cert.FfnInReferenceIdeal.τ Cert.FfnInReferenceIdeal.sig) → Buf (Elt Ideal) ℓ) (g : Dev Cert.FfnInReferenceIdeal.nD → PrngReg), Pre_FfnInReferenceIdeal m →
    θ_run (Cert.FfnInReferenceIdeal.defs (F := Ideal)) (onTc (τ := Cert.FfnInReferenceIdeal.τ) (Cert.FfnInReferenceIdeal.main (F := Ideal))) ⟨m, fun _ => 0, g⟩ (fun r => (∀ c : Dev Cert.FfnInReferenceIdeal.nD,
      r.2.mem ((c.tc : Thread Cert.FfnInReferenceIdeal.nD Cert.FfnInReferenceIdeal.τ).loc Cert.FfnInReferenceIdeal.main_arg0) = m ((c.tc : Thread Cert.FfnInReferenceIdeal.nD Cert.FfnInReferenceIdeal.τ).loc Cert.FfnInReferenceIdeal.main_arg0)
      ∧ r.2.mem ((c.tc : Thread Cert.FfnInReferenceIdeal.nD Cert.FfnInReferenceIdeal.τ).loc Cert.FfnInReferenceIdeal.main_arg1) = m ((c.tc : Thread Cert.FfnInReferenceIdeal.nD Cert.FfnInReferenceIdeal.τ).loc Cert.FfnInReferenceIdeal.main_arg1)
      ∧ r.2.mem ((c.tc : Thread Cert.FfnInReferenceIdeal.nD Cert.FfnInReferenceIdeal.τ).loc Cert.FfnInReferenceIdeal.main_arg2) = m ((c.tc : Thread Cert.FfnInReferenceIdeal.nD Cert.FfnInReferenceIdeal.τ).loc Cert.FfnInReferenceIdeal.main_arg2)
      ∧ r.2.mem ((c.tc : Thread Cert.FfnInReferenceIdeal.nD Cert.FfnInReferenceIdeal.τ).loc Cert.FfnInReferenceIdeal.main_arg3) = m ((c.tc : Thread Cert.FfnInReferenceIdeal.nD Cert.FfnInReferenceIdeal.τ).loc Cert.FfnInReferenceIdeal.main_arg3)
      ∧ r.2.mem ((c.tc : Thread Cert.FfnInReferenceIdeal.nD Cert.FfnInReferenceIdeal.τ).loc Cert.FfnInReferenceIdeal.main_arg4) = m ((c.tc : Thread Cert.FfnInReferenceIdeal.nD Cert.FfnInReferenceIdeal.τ).loc Cert.FfnInReferenceIdeal.main_arg4)
      ∧ r.2.mem ((c.tc : Thread Cert.FfnInReferenceIdeal.nD Cert.FfnInReferenceIdeal.τ).loc Cert.FfnInReferenceIdeal.main_arg5) = m ((c.tc : Thread Cert.FfnInReferenceIdeal.nD Cert.FfnInReferenceIdeal.τ).loc Cert.FfnInReferenceIdeal.main_arg5)
      ∧ r.2.mem ((c.tc : Thread Cert.FfnInReferenceIdeal.nD Cert.FfnInReferenceIdeal.τ).loc Cert.FfnInReferenceIdeal.main_arg6) = m ((c.tc : Thread Cert.FfnInReferenceIdeal.nD Cert.FfnInReferenceIdeal.τ).loc Cert.FfnInReferenceIdeal.main_arg6))
      ∧ r.2.sem = fun _ => 0)

def quiescent_PreNormKernel [hPreNormKernel : Cert.PreNormKernel.Facts] : Prop :=
  ∀ (m : (ℓ : Loc Cert.PreNormKernel.nD Cert.PreNormKernel.τ Cert.PreNormKernel.sig) → Buf (Elt Bits) ℓ) (g : Dev Cert.PreNormKernel.nD → PrngReg), Pre_PreNormKernel m →
    θ_run (Cert.PreNormKernel.defs (F := Bits)) (onTc (τ := Cert.PreNormKernel.τ) (Cert.PreNormKernel.main (F := Bits))) ⟨m, fun _ => 0, g⟩ (fun r => (∀ c : Dev Cert.PreNormKernel.nD,
      r.2.mem ((c.tc : Thread Cert.PreNormKernel.nD Cert.PreNormKernel.τ).loc Cert.PreNormKernel.main_arg0) = m ((c.tc : Thread Cert.PreNormKernel.nD Cert.PreNormKernel.τ).loc Cert.PreNormKernel.main_arg0)
      ∧ r.2.mem ((c.tc : Thread Cert.PreNormKernel.nD Cert.PreNormKernel.τ).loc Cert.PreNormKernel.main_arg1) = m ((c.tc : Thread Cert.PreNormKernel.nD Cert.PreNormKernel.τ).loc Cert.PreNormKernel.main_arg1))
      ∧ r.2.sem = fun _ => 0)

def quiescent_PreNormKernelIdeal [hPreNormKernelIdeal : Cert.PreNormKernelIdeal.Facts] : Prop :=
  ∀ (m : (ℓ : Loc Cert.PreNormKernelIdeal.nD Cert.PreNormKernelIdeal.τ Cert.PreNormKernelIdeal.sig) → Buf (Elt Ideal) ℓ) (g : Dev Cert.PreNormKernelIdeal.nD → PrngReg), Pre_PreNormKernelIdeal m →
    θ_run (Cert.PreNormKernelIdeal.defs (F := Ideal)) (onTc (τ := Cert.PreNormKernelIdeal.τ) (Cert.PreNormKernelIdeal.main (F := Ideal))) ⟨m, fun _ => 0, g⟩ (fun r => (∀ c : Dev Cert.PreNormKernelIdeal.nD,
      r.2.mem ((c.tc : Thread Cert.PreNormKernelIdeal.nD Cert.PreNormKernelIdeal.τ).loc Cert.PreNormKernelIdeal.main_arg0) = m ((c.tc : Thread Cert.PreNormKernelIdeal.nD Cert.PreNormKernelIdeal.τ).loc Cert.PreNormKernelIdeal.main_arg0)
      ∧ r.2.mem ((c.tc : Thread Cert.PreNormKernelIdeal.nD Cert.PreNormKernelIdeal.τ).loc Cert.PreNormKernelIdeal.main_arg1) = m ((c.tc : Thread Cert.PreNormKernelIdeal.nD Cert.PreNormKernelIdeal.τ).loc Cert.PreNormKernelIdeal.main_arg1))
      ∧ r.2.sem = fun _ => 0)

def quiescent_PreNormReferenceIdeal [hPreNormReferenceIdeal : Cert.PreNormReferenceIdeal.Facts] : Prop :=
  ∀ (m : (ℓ : Loc Cert.PreNormReferenceIdeal.nD Cert.PreNormReferenceIdeal.τ Cert.PreNormReferenceIdeal.sig) → Buf (Elt Ideal) ℓ) (g : Dev Cert.PreNormReferenceIdeal.nD → PrngReg), Pre_PreNormReferenceIdeal m →
    θ_run (Cert.PreNormReferenceIdeal.defs (F := Ideal)) (onTc (τ := Cert.PreNormReferenceIdeal.τ) (Cert.PreNormReferenceIdeal.main (F := Ideal))) ⟨m, fun _ => 0, g⟩ (fun r => (∀ c : Dev Cert.PreNormReferenceIdeal.nD,
      r.2.mem ((c.tc : Thread Cert.PreNormReferenceIdeal.nD Cert.PreNormReferenceIdeal.τ).loc Cert.PreNormReferenceIdeal.main_arg0) = m ((c.tc : Thread Cert.PreNormReferenceIdeal.nD Cert.PreNormReferenceIdeal.τ).loc Cert.PreNormReferenceIdeal.main_arg0)
      ∧ r.2.mem ((c.tc : Thread Cert.PreNormReferenceIdeal.nD Cert.PreNormReferenceIdeal.τ).loc Cert.PreNormReferenceIdeal.main_arg1) = m ((c.tc : Thread Cert.PreNormReferenceIdeal.nD Cert.PreNormReferenceIdeal.τ).loc Cert.PreNormReferenceIdeal.main_arg1))
      ∧ r.2.sem = fun _ => 0)

def quiescent_FfnDownKernel [hFfnDownKernel : Cert.FfnDownKernel.Facts] : Prop :=
  ∀ (m : (ℓ : Loc Cert.FfnDownKernel.nD Cert.FfnDownKernel.τ Cert.FfnDownKernel.sig) → Buf (Elt Bits) ℓ) (g : Dev Cert.FfnDownKernel.nD → PrngReg), Pre_FfnDownKernel m →
    θ_run (Cert.FfnDownKernel.defs (F := Bits)) (onTc (τ := Cert.FfnDownKernel.τ) (Cert.FfnDownKernel.main (F := Bits))) ⟨m, fun _ => 0, g⟩ (fun r => (∀ c : Dev Cert.FfnDownKernel.nD,
      r.2.mem ((c.tc : Thread Cert.FfnDownKernel.nD Cert.FfnDownKernel.τ).loc Cert.FfnDownKernel.main_arg0) = m ((c.tc : Thread Cert.FfnDownKernel.nD Cert.FfnDownKernel.τ).loc Cert.FfnDownKernel.main_arg0)
      ∧ r.2.mem ((c.tc : Thread Cert.FfnDownKernel.nD Cert.FfnDownKernel.τ).loc Cert.FfnDownKernel.main_arg1) = m ((c.tc : Thread Cert.FfnDownKernel.nD Cert.FfnDownKernel.τ).loc Cert.FfnDownKernel.main_arg1)
      ∧ r.2.mem ((c.tc : Thread Cert.FfnDownKernel.nD Cert.FfnDownKernel.τ).loc Cert.FfnDownKernel.main_arg2) = m ((c.tc : Thread Cert.FfnDownKernel.nD Cert.FfnDownKernel.τ).loc Cert.FfnDownKernel.main_arg2)
      ∧ r.2.mem ((c.tc : Thread Cert.FfnDownKernel.nD Cert.FfnDownKernel.τ).loc Cert.FfnDownKernel.main_arg3) = m ((c.tc : Thread Cert.FfnDownKernel.nD Cert.FfnDownKernel.τ).loc Cert.FfnDownKernel.main_arg3)
      ∧ r.2.mem ((c.tc : Thread Cert.FfnDownKernel.nD Cert.FfnDownKernel.τ).loc Cert.FfnDownKernel.main_arg4) = m ((c.tc : Thread Cert.FfnDownKernel.nD Cert.FfnDownKernel.τ).loc Cert.FfnDownKernel.main_arg4))
      ∧ r.2.sem = fun _ => 0)

def quiescent_FfnDownKernelIdeal [hFfnDownKernelIdeal : Cert.FfnDownKernelIdeal.Facts] : Prop :=
  ∀ (m : (ℓ : Loc Cert.FfnDownKernelIdeal.nD Cert.FfnDownKernelIdeal.τ Cert.FfnDownKernelIdeal.sig) → Buf (Elt Ideal) ℓ) (g : Dev Cert.FfnDownKernelIdeal.nD → PrngReg), Pre_FfnDownKernelIdeal m →
    θ_run (Cert.FfnDownKernelIdeal.defs (F := Ideal)) (onTc (τ := Cert.FfnDownKernelIdeal.τ) (Cert.FfnDownKernelIdeal.main (F := Ideal))) ⟨m, fun _ => 0, g⟩ (fun r => (∀ c : Dev Cert.FfnDownKernelIdeal.nD,
      r.2.mem ((c.tc : Thread Cert.FfnDownKernelIdeal.nD Cert.FfnDownKernelIdeal.τ).loc Cert.FfnDownKernelIdeal.main_arg0) = m ((c.tc : Thread Cert.FfnDownKernelIdeal.nD Cert.FfnDownKernelIdeal.τ).loc Cert.FfnDownKernelIdeal.main_arg0)
      ∧ r.2.mem ((c.tc : Thread Cert.FfnDownKernelIdeal.nD Cert.FfnDownKernelIdeal.τ).loc Cert.FfnDownKernelIdeal.main_arg1) = m ((c.tc : Thread Cert.FfnDownKernelIdeal.nD Cert.FfnDownKernelIdeal.τ).loc Cert.FfnDownKernelIdeal.main_arg1)
      ∧ r.2.mem ((c.tc : Thread Cert.FfnDownKernelIdeal.nD Cert.FfnDownKernelIdeal.τ).loc Cert.FfnDownKernelIdeal.main_arg2) = m ((c.tc : Thread Cert.FfnDownKernelIdeal.nD Cert.FfnDownKernelIdeal.τ).loc Cert.FfnDownKernelIdeal.main_arg2)
      ∧ r.2.mem ((c.tc : Thread Cert.FfnDownKernelIdeal.nD Cert.FfnDownKernelIdeal.τ).loc Cert.FfnDownKernelIdeal.main_arg3) = m ((c.tc : Thread Cert.FfnDownKernelIdeal.nD Cert.FfnDownKernelIdeal.τ).loc Cert.FfnDownKernelIdeal.main_arg3)
      ∧ r.2.mem ((c.tc : Thread Cert.FfnDownKernelIdeal.nD Cert.FfnDownKernelIdeal.τ).loc Cert.FfnDownKernelIdeal.main_arg4) = m ((c.tc : Thread Cert.FfnDownKernelIdeal.nD Cert.FfnDownKernelIdeal.τ).loc Cert.FfnDownKernelIdeal.main_arg4))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2)
      ∧ r.2.mem ((c.tc : Thread Cert.FfnDownReferenceIdeal.nD Cert.FfnDownReferenceIdeal.τ).loc Cert.FfnDownReferenceIdeal.main_arg3) = m ((c.tc : Thread Cert.FfnDownReferenceIdeal.nD Cert.FfnDownReferenceIdeal.τ).loc Cert.FfnDownReferenceIdeal.main_arg3)
      ∧ r.2.mem ((c.tc : Thread Cert.FfnDownReferenceIdeal.nD Cert.FfnDownReferenceIdeal.τ).loc Cert.FfnDownReferenceIdeal.main_arg4) = m ((c.tc : Thread Cert.FfnDownReferenceIdeal.nD Cert.FfnDownReferenceIdeal.τ).loc Cert.FfnDownReferenceIdeal.main_arg4))
      ∧ r.2.sem = fun _ => 0)

def quiescent_SsmGluKernel [hSsmGluKernel : Cert.SsmGluKernel.Facts] : Prop :=
  ∀ (m : (ℓ : Loc Cert.SsmGluKernel.nD Cert.SsmGluKernel.τ Cert.SsmGluKernel.sig) → Buf (Elt Bits) ℓ) (g : Dev Cert.SsmGluKernel.nD → PrngReg), Pre_SsmGluKernel m →
    θ_run (Cert.SsmGluKernel.defs (F := Bits)) (onTc (τ := Cert.SsmGluKernel.τ) (Cert.SsmGluKernel.main (F := Bits))) ⟨m, fun _ => 0, g⟩ (fun r => (∀ c : Dev Cert.SsmGluKernel.nD,
      r.2.mem ((c.tc : Thread Cert.SsmGluKernel.nD Cert.SsmGluKernel.τ).loc Cert.SsmGluKernel.main_arg0) = m ((c.tc : Thread Cert.SsmGluKernel.nD Cert.SsmGluKernel.τ).loc Cert.SsmGluKernel.main_arg0)
      ∧ r.2.mem ((c.tc : Thread Cert.SsmGluKernel.nD Cert.SsmGluKernel.τ).loc Cert.SsmGluKernel.main_arg1) = m ((c.tc : Thread Cert.SsmGluKernel.nD Cert.SsmGluKernel.τ).loc Cert.SsmGluKernel.main_arg1)
      ∧ r.2.mem ((c.tc : Thread Cert.SsmGluKernel.nD Cert.SsmGluKernel.τ).loc Cert.SsmGluKernel.main_arg2) = m ((c.tc : Thread Cert.SsmGluKernel.nD Cert.SsmGluKernel.τ).loc Cert.SsmGluKernel.main_arg2)
      ∧ r.2.mem ((c.tc : Thread Cert.SsmGluKernel.nD Cert.SsmGluKernel.τ).loc Cert.SsmGluKernel.main_arg3) = m ((c.tc : Thread Cert.SsmGluKernel.nD Cert.SsmGluKernel.τ).loc Cert.SsmGluKernel.main_arg3)
      ∧ r.2.mem ((c.tc : Thread Cert.SsmGluKernel.nD Cert.SsmGluKernel.τ).loc Cert.SsmGluKernel.main_arg4) = m ((c.tc : Thread Cert.SsmGluKernel.nD Cert.SsmGluKernel.τ).loc Cert.SsmGluKernel.main_arg4))
      ∧ r.2.sem = fun _ => 0)

def quiescent_SsmGluKernelIdeal [hSsmGluKernelIdeal : Cert.SsmGluKernelIdeal.Facts] : Prop :=
  ∀ (m : (ℓ : Loc Cert.SsmGluKernelIdeal.nD Cert.SsmGluKernelIdeal.τ Cert.SsmGluKernelIdeal.sig) → Buf (Elt Ideal) ℓ) (g : Dev Cert.SsmGluKernelIdeal.nD → PrngReg), Pre_SsmGluKernelIdeal m →
    θ_run (Cert.SsmGluKernelIdeal.defs (F := Ideal)) (onTc (τ := Cert.SsmGluKernelIdeal.τ) (Cert.SsmGluKernelIdeal.main (F := Ideal))) ⟨m, fun _ => 0, g⟩ (fun r => (∀ c : Dev Cert.SsmGluKernelIdeal.nD,
      r.2.mem ((c.tc : Thread Cert.SsmGluKernelIdeal.nD Cert.SsmGluKernelIdeal.τ).loc Cert.SsmGluKernelIdeal.main_arg0) = m ((c.tc : Thread Cert.SsmGluKernelIdeal.nD Cert.SsmGluKernelIdeal.τ).loc Cert.SsmGluKernelIdeal.main_arg0)
      ∧ r.2.mem ((c.tc : Thread Cert.SsmGluKernelIdeal.nD Cert.SsmGluKernelIdeal.τ).loc Cert.SsmGluKernelIdeal.main_arg1) = m ((c.tc : Thread Cert.SsmGluKernelIdeal.nD Cert.SsmGluKernelIdeal.τ).loc Cert.SsmGluKernelIdeal.main_arg1)
      ∧ r.2.mem ((c.tc : Thread Cert.SsmGluKernelIdeal.nD Cert.SsmGluKernelIdeal.τ).loc Cert.SsmGluKernelIdeal.main_arg2) = m ((c.tc : Thread Cert.SsmGluKernelIdeal.nD Cert.SsmGluKernelIdeal.τ).loc Cert.SsmGluKernelIdeal.main_arg2)
      ∧ r.2.mem ((c.tc : Thread Cert.SsmGluKernelIdeal.nD Cert.SsmGluKernelIdeal.τ).loc Cert.SsmGluKernelIdeal.main_arg3) = m ((c.tc : Thread Cert.SsmGluKernelIdeal.nD Cert.SsmGluKernelIdeal.τ).loc Cert.SsmGluKernelIdeal.main_arg3)
      ∧ r.2.mem ((c.tc : Thread Cert.SsmGluKernelIdeal.nD Cert.SsmGluKernelIdeal.τ).loc Cert.SsmGluKernelIdeal.main_arg4) = m ((c.tc : Thread Cert.SsmGluKernelIdeal.nD Cert.SsmGluKernelIdeal.τ).loc Cert.SsmGluKernelIdeal.main_arg4))
      ∧ r.2.sem = fun _ => 0)

def quiescent_SsmGluReferenceIdeal [hSsmGluReferenceIdeal : Cert.SsmGluReferenceIdeal.Facts] : Prop :=
  ∀ (m : (ℓ : Loc Cert.SsmGluReferenceIdeal.nD Cert.SsmGluReferenceIdeal.τ Cert.SsmGluReferenceIdeal.sig) → Buf (Elt Ideal) ℓ) (g : Dev Cert.SsmGluReferenceIdeal.nD → PrngReg), Pre_SsmGluReferenceIdeal m →
    θ_run (Cert.SsmGluReferenceIdeal.defs (F := Ideal)) (onTc (τ := Cert.SsmGluReferenceIdeal.τ) (Cert.SsmGluReferenceIdeal.main (F := Ideal))) ⟨m, fun _ => 0, g⟩ (fun r => (∀ c : Dev Cert.SsmGluReferenceIdeal.nD,
      r.2.mem ((c.tc : Thread Cert.SsmGluReferenceIdeal.nD Cert.SsmGluReferenceIdeal.τ).loc Cert.SsmGluReferenceIdeal.main_arg0) = m ((c.tc : Thread Cert.SsmGluReferenceIdeal.nD Cert.SsmGluReferenceIdeal.τ).loc Cert.SsmGluReferenceIdeal.main_arg0)
      ∧ r.2.mem ((c.tc : Thread Cert.SsmGluReferenceIdeal.nD Cert.SsmGluReferenceIdeal.τ).loc Cert.SsmGluReferenceIdeal.main_arg1) = m ((c.tc : Thread Cert.SsmGluReferenceIdeal.nD Cert.SsmGluReferenceIdeal.τ).loc Cert.SsmGluReferenceIdeal.main_arg1)
      ∧ r.2.mem ((c.tc : Thread Cert.SsmGluReferenceIdeal.nD Cert.SsmGluReferenceIdeal.τ).loc Cert.SsmGluReferenceIdeal.main_arg2) = m ((c.tc : Thread Cert.SsmGluReferenceIdeal.nD Cert.SsmGluReferenceIdeal.τ).loc Cert.SsmGluReferenceIdeal.main_arg2)
      ∧ r.2.mem ((c.tc : Thread Cert.SsmGluReferenceIdeal.nD Cert.SsmGluReferenceIdeal.τ).loc Cert.SsmGluReferenceIdeal.main_arg3) = m ((c.tc : Thread Cert.SsmGluReferenceIdeal.nD Cert.SsmGluReferenceIdeal.τ).loc Cert.SsmGluReferenceIdeal.main_arg3)
      ∧ r.2.mem ((c.tc : Thread Cert.SsmGluReferenceIdeal.nD Cert.SsmGluReferenceIdeal.τ).loc Cert.SsmGluReferenceIdeal.main_arg4) = m ((c.tc : Thread Cert.SsmGluReferenceIdeal.nD Cert.SsmGluReferenceIdeal.τ).loc Cert.SsmGluReferenceIdeal.main_arg4))
      ∧ r.2.sem = fun _ => 0)

def quiescent_WOutKernel [hWOutKernel : Cert.WOutKernel.Facts] : Prop :=
  ∀ (m : (ℓ : Loc Cert.WOutKernel.nD Cert.WOutKernel.τ Cert.WOutKernel.sig) → Buf (Elt Bits) ℓ) (g : Dev Cert.WOutKernel.nD → PrngReg), Pre_WOutKernel m →
    θ_run (Cert.WOutKernel.defs (F := Bits)) (onTc (τ := Cert.WOutKernel.τ) (Cert.WOutKernel.main (F := Bits))) ⟨m, fun _ => 0, g⟩ (fun r => (∀ c : Dev Cert.WOutKernel.nD,
      r.2.mem ((c.tc : Thread Cert.WOutKernel.nD Cert.WOutKernel.τ).loc Cert.WOutKernel.main_arg0) = m ((c.tc : Thread Cert.WOutKernel.nD Cert.WOutKernel.τ).loc Cert.WOutKernel.main_arg0)
      ∧ r.2.mem ((c.tc : Thread Cert.WOutKernel.nD Cert.WOutKernel.τ).loc Cert.WOutKernel.main_arg1) = m ((c.tc : Thread Cert.WOutKernel.nD Cert.WOutKernel.τ).loc Cert.WOutKernel.main_arg1)
      ∧ r.2.mem ((c.tc : Thread Cert.WOutKernel.nD Cert.WOutKernel.τ).loc Cert.WOutKernel.main_arg2) = m ((c.tc : Thread Cert.WOutKernel.nD Cert.WOutKernel.τ).loc Cert.WOutKernel.main_arg2)
      ∧ r.2.mem ((c.tc : Thread Cert.WOutKernel.nD Cert.WOutKernel.τ).loc Cert.WOutKernel.main_arg3) = m ((c.tc : Thread Cert.WOutKernel.nD Cert.WOutKernel.τ).loc Cert.WOutKernel.main_arg3)
      ∧ r.2.mem ((c.tc : Thread Cert.WOutKernel.nD Cert.WOutKernel.τ).loc Cert.WOutKernel.main_arg4) = m ((c.tc : Thread Cert.WOutKernel.nD Cert.WOutKernel.τ).loc Cert.WOutKernel.main_arg4))
      ∧ r.2.sem = fun _ => 0)

def quiescent_WOutKernelIdeal [hWOutKernelIdeal : Cert.WOutKernelIdeal.Facts] : Prop :=
  ∀ (m : (ℓ : Loc Cert.WOutKernelIdeal.nD Cert.WOutKernelIdeal.τ Cert.WOutKernelIdeal.sig) → Buf (Elt Ideal) ℓ) (g : Dev Cert.WOutKernelIdeal.nD → PrngReg), Pre_WOutKernelIdeal m →
    θ_run (Cert.WOutKernelIdeal.defs (F := Ideal)) (onTc (τ := Cert.WOutKernelIdeal.τ) (Cert.WOutKernelIdeal.main (F := Ideal))) ⟨m, fun _ => 0, g⟩ (fun r => (∀ c : Dev Cert.WOutKernelIdeal.nD,
      r.2.mem ((c.tc : Thread Cert.WOutKernelIdeal.nD Cert.WOutKernelIdeal.τ).loc Cert.WOutKernelIdeal.main_arg0) = m ((c.tc : Thread Cert.WOutKernelIdeal.nD Cert.WOutKernelIdeal.τ).loc Cert.WOutKernelIdeal.main_arg0)
      ∧ r.2.mem ((c.tc : Thread Cert.WOutKernelIdeal.nD Cert.WOutKernelIdeal.τ).loc Cert.WOutKernelIdeal.main_arg1) = m ((c.tc : Thread Cert.WOutKernelIdeal.nD Cert.WOutKernelIdeal.τ).loc Cert.WOutKernelIdeal.main_arg1)
      ∧ r.2.mem ((c.tc : Thread Cert.WOutKernelIdeal.nD Cert.WOutKernelIdeal.τ).loc Cert.WOutKernelIdeal.main_arg2) = m ((c.tc : Thread Cert.WOutKernelIdeal.nD Cert.WOutKernelIdeal.τ).loc Cert.WOutKernelIdeal.main_arg2)
      ∧ r.2.mem ((c.tc : Thread Cert.WOutKernelIdeal.nD Cert.WOutKernelIdeal.τ).loc Cert.WOutKernelIdeal.main_arg3) = m ((c.tc : Thread Cert.WOutKernelIdeal.nD Cert.WOutKernelIdeal.τ).loc Cert.WOutKernelIdeal.main_arg3)
      ∧ r.2.mem ((c.tc : Thread Cert.WOutKernelIdeal.nD Cert.WOutKernelIdeal.τ).loc Cert.WOutKernelIdeal.main_arg4) = m ((c.tc : Thread Cert.WOutKernelIdeal.nD Cert.WOutKernelIdeal.τ).loc Cert.WOutKernelIdeal.main_arg4))
      ∧ r.2.sem = fun _ => 0)

def quiescent_WOutReferenceIdeal [hWOutReferenceIdeal : Cert.WOutReferenceIdeal.Facts] : Prop :=
  ∀ (m : (ℓ : Loc Cert.WOutReferenceIdeal.nD Cert.WOutReferenceIdeal.τ Cert.WOutReferenceIdeal.sig) → Buf (Elt Ideal) ℓ) (g : Dev Cert.WOutReferenceIdeal.nD → PrngReg), Pre_WOutReferenceIdeal m →
    θ_run (Cert.WOutReferenceIdeal.defs (F := Ideal)) (onTc (τ := Cert.WOutReferenceIdeal.τ) (Cert.WOutReferenceIdeal.main (F := Ideal))) ⟨m, fun _ => 0, g⟩ (fun r => (∀ c : Dev Cert.WOutReferenceIdeal.nD,
      r.2.mem ((c.tc : Thread Cert.WOutReferenceIdeal.nD Cert.WOutReferenceIdeal.τ).loc Cert.WOutReferenceIdeal.main_arg0) = m ((c.tc : Thread Cert.WOutReferenceIdeal.nD Cert.WOutReferenceIdeal.τ).loc Cert.WOutReferenceIdeal.main_arg0)
      ∧ r.2.mem ((c.tc : Thread Cert.WOutReferenceIdeal.nD Cert.WOutReferenceIdeal.τ).loc Cert.WOutReferenceIdeal.main_arg1) = m ((c.tc : Thread Cert.WOutReferenceIdeal.nD Cert.WOutReferenceIdeal.τ).loc Cert.WOutReferenceIdeal.main_arg1)
      ∧ r.2.mem ((c.tc : Thread Cert.WOutReferenceIdeal.nD Cert.WOutReferenceIdeal.τ).loc Cert.WOutReferenceIdeal.main_arg2) = m ((c.tc : Thread Cert.WOutReferenceIdeal.nD Cert.WOutReferenceIdeal.τ).loc Cert.WOutReferenceIdeal.main_arg2)
      ∧ r.2.mem ((c.tc : Thread Cert.WOutReferenceIdeal.nD Cert.WOutReferenceIdeal.τ).loc Cert.WOutReferenceIdeal.main_arg3) = m ((c.tc : Thread Cert.WOutReferenceIdeal.nD Cert.WOutReferenceIdeal.τ).loc Cert.WOutReferenceIdeal.main_arg3)
      ∧ r.2.mem ((c.tc : Thread Cert.WOutReferenceIdeal.nD Cert.WOutReferenceIdeal.τ).loc Cert.WOutReferenceIdeal.main_arg4) = m ((c.tc : Thread Cert.WOutReferenceIdeal.nD Cert.WOutReferenceIdeal.τ).loc Cert.WOutReferenceIdeal.main_arg4))
      ∧ r.2.sem = fun _ => 0)

def quiescent_PleGateKernel [hPleGateKernel : Cert.PleGateKernel.Facts] : Prop :=
  ∀ (m : (ℓ : Loc Cert.PleGateKernel.nD Cert.PleGateKernel.τ Cert.PleGateKernel.sig) → Buf (Elt Bits) ℓ) (g : Dev Cert.PleGateKernel.nD → PrngReg), Pre_PleGateKernel m →
    θ_run (Cert.PleGateKernel.defs (F := Bits)) (onTc (τ := Cert.PleGateKernel.τ) (Cert.PleGateKernel.main (F := Bits))) ⟨m, fun _ => 0, g⟩ (fun r => (∀ c : Dev Cert.PleGateKernel.nD,
      r.2.mem ((c.tc : Thread Cert.PleGateKernel.nD Cert.PleGateKernel.τ).loc Cert.PleGateKernel.main_arg0) = m ((c.tc : Thread Cert.PleGateKernel.nD Cert.PleGateKernel.τ).loc Cert.PleGateKernel.main_arg0)
      ∧ r.2.mem ((c.tc : Thread Cert.PleGateKernel.nD Cert.PleGateKernel.τ).loc Cert.PleGateKernel.main_arg1) = m ((c.tc : Thread Cert.PleGateKernel.nD Cert.PleGateKernel.τ).loc Cert.PleGateKernel.main_arg1)
      ∧ r.2.mem ((c.tc : Thread Cert.PleGateKernel.nD Cert.PleGateKernel.τ).loc Cert.PleGateKernel.main_arg2) = m ((c.tc : Thread Cert.PleGateKernel.nD Cert.PleGateKernel.τ).loc Cert.PleGateKernel.main_arg2)
      ∧ r.2.mem ((c.tc : Thread Cert.PleGateKernel.nD Cert.PleGateKernel.τ).loc Cert.PleGateKernel.main_arg3) = m ((c.tc : Thread Cert.PleGateKernel.nD Cert.PleGateKernel.τ).loc Cert.PleGateKernel.main_arg3)
      ∧ r.2.mem ((c.tc : Thread Cert.PleGateKernel.nD Cert.PleGateKernel.τ).loc Cert.PleGateKernel.main_arg4) = m ((c.tc : Thread Cert.PleGateKernel.nD Cert.PleGateKernel.τ).loc Cert.PleGateKernel.main_arg4))
      ∧ r.2.sem = fun _ => 0)

def quiescent_PleGateKernelIdeal [hPleGateKernelIdeal : Cert.PleGateKernelIdeal.Facts] : Prop :=
  ∀ (m : (ℓ : Loc Cert.PleGateKernelIdeal.nD Cert.PleGateKernelIdeal.τ Cert.PleGateKernelIdeal.sig) → Buf (Elt Ideal) ℓ) (g : Dev Cert.PleGateKernelIdeal.nD → PrngReg), Pre_PleGateKernelIdeal m →
    θ_run (Cert.PleGateKernelIdeal.defs (F := Ideal)) (onTc (τ := Cert.PleGateKernelIdeal.τ) (Cert.PleGateKernelIdeal.main (F := Ideal))) ⟨m, fun _ => 0, g⟩ (fun r => (∀ c : Dev Cert.PleGateKernelIdeal.nD,
      r.2.mem ((c.tc : Thread Cert.PleGateKernelIdeal.nD Cert.PleGateKernelIdeal.τ).loc Cert.PleGateKernelIdeal.main_arg0) = m ((c.tc : Thread Cert.PleGateKernelIdeal.nD Cert.PleGateKernelIdeal.τ).loc Cert.PleGateKernelIdeal.main_arg0)
      ∧ r.2.mem ((c.tc : Thread Cert.PleGateKernelIdeal.nD Cert.PleGateKernelIdeal.τ).loc Cert.PleGateKernelIdeal.main_arg1) = m ((c.tc : Thread Cert.PleGateKernelIdeal.nD Cert.PleGateKernelIdeal.τ).loc Cert.PleGateKernelIdeal.main_arg1)
      ∧ r.2.mem ((c.tc : Thread Cert.PleGateKernelIdeal.nD Cert.PleGateKernelIdeal.τ).loc Cert.PleGateKernelIdeal.main_arg2) = m ((c.tc : Thread Cert.PleGateKernelIdeal.nD Cert.PleGateKernelIdeal.τ).loc Cert.PleGateKernelIdeal.main_arg2)
      ∧ r.2.mem ((c.tc : Thread Cert.PleGateKernelIdeal.nD Cert.PleGateKernelIdeal.τ).loc Cert.PleGateKernelIdeal.main_arg3) = m ((c.tc : Thread Cert.PleGateKernelIdeal.nD Cert.PleGateKernelIdeal.τ).loc Cert.PleGateKernelIdeal.main_arg3)
      ∧ r.2.mem ((c.tc : Thread Cert.PleGateKernelIdeal.nD Cert.PleGateKernelIdeal.τ).loc Cert.PleGateKernelIdeal.main_arg4) = m ((c.tc : Thread Cert.PleGateKernelIdeal.nD Cert.PleGateKernelIdeal.τ).loc Cert.PleGateKernelIdeal.main_arg4))
      ∧ r.2.sem = fun _ => 0)

def quiescent_PleGateReferenceIdeal [hPleGateReferenceIdeal : Cert.PleGateReferenceIdeal.Facts] : Prop :=
  ∀ (m : (ℓ : Loc Cert.PleGateReferenceIdeal.nD Cert.PleGateReferenceIdeal.τ Cert.PleGateReferenceIdeal.sig) → Buf (Elt Ideal) ℓ) (g : Dev Cert.PleGateReferenceIdeal.nD → PrngReg), Pre_PleGateReferenceIdeal m →
    θ_run (Cert.PleGateReferenceIdeal.defs (F := Ideal)) (onTc (τ := Cert.PleGateReferenceIdeal.τ) (Cert.PleGateReferenceIdeal.main (F := Ideal))) ⟨m, fun _ => 0, g⟩ (fun r => (∀ c : Dev Cert.PleGateReferenceIdeal.nD,
      r.2.mem ((c.tc : Thread Cert.PleGateReferenceIdeal.nD Cert.PleGateReferenceIdeal.τ).loc Cert.PleGateReferenceIdeal.main_arg0) = m ((c.tc : Thread Cert.PleGateReferenceIdeal.nD Cert.PleGateReferenceIdeal.τ).loc Cert.PleGateReferenceIdeal.main_arg0)
      ∧ r.2.mem ((c.tc : Thread Cert.PleGateReferenceIdeal.nD Cert.PleGateReferenceIdeal.τ).loc Cert.PleGateReferenceIdeal.main_arg1) = m ((c.tc : Thread Cert.PleGateReferenceIdeal.nD Cert.PleGateReferenceIdeal.τ).loc Cert.PleGateReferenceIdeal.main_arg1)
      ∧ r.2.mem ((c.tc : Thread Cert.PleGateReferenceIdeal.nD Cert.PleGateReferenceIdeal.τ).loc Cert.PleGateReferenceIdeal.main_arg2) = m ((c.tc : Thread Cert.PleGateReferenceIdeal.nD Cert.PleGateReferenceIdeal.τ).loc Cert.PleGateReferenceIdeal.main_arg2)
      ∧ r.2.mem ((c.tc : Thread Cert.PleGateReferenceIdeal.nD Cert.PleGateReferenceIdeal.τ).loc Cert.PleGateReferenceIdeal.main_arg3) = m ((c.tc : Thread Cert.PleGateReferenceIdeal.nD Cert.PleGateReferenceIdeal.τ).loc Cert.PleGateReferenceIdeal.main_arg3)
      ∧ r.2.mem ((c.tc : Thread Cert.PleGateReferenceIdeal.nD Cert.PleGateReferenceIdeal.τ).loc Cert.PleGateReferenceIdeal.main_arg4) = m ((c.tc : Thread Cert.PleGateReferenceIdeal.nD Cert.PleGateReferenceIdeal.τ).loc Cert.PleGateReferenceIdeal.main_arg4))
      ∧ r.2.sem = fun _ => 0)

def quiescent_RopeKernel [hRopeKernel : Cert.RopeKernel.Facts] : Prop :=
  ∀ (m : (ℓ : Loc Cert.RopeKernel.nD Cert.RopeKernel.τ Cert.RopeKernel.sig) → Buf (Elt Bits) ℓ) (g : Dev Cert.RopeKernel.nD → PrngReg), Pre_RopeKernel m →
    θ_run (Cert.RopeKernel.defs (F := Bits)) (onTc (τ := Cert.RopeKernel.τ) (Cert.RopeKernel.main (F := Bits))) ⟨m, fun _ => 0, g⟩ (fun r => (∀ c : Dev Cert.RopeKernel.nD,
      r.2.mem ((c.tc : Thread Cert.RopeKernel.nD Cert.RopeKernel.τ).loc Cert.RopeKernel.main_arg0) = m ((c.tc : Thread Cert.RopeKernel.nD Cert.RopeKernel.τ).loc Cert.RopeKernel.main_arg0)
      ∧ r.2.mem ((c.tc : Thread Cert.RopeKernel.nD Cert.RopeKernel.τ).loc Cert.RopeKernel.main_arg1) = m ((c.tc : Thread Cert.RopeKernel.nD Cert.RopeKernel.τ).loc Cert.RopeKernel.main_arg1))
      ∧ r.2.sem = fun _ => 0)

def quiescent_RopeKernelIdeal [hRopeKernelIdeal : Cert.RopeKernelIdeal.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg), Pre_RopeKernelIdeal m →
    θ_run (Cert.RopeKernelIdeal.defs (F := Ideal)) (onTc (τ := Cert.RopeKernelIdeal.τ) (Cert.RopeKernelIdeal.main (F := Ideal))) ⟨m, fun _ => 0, g⟩ (fun r => (∀ c : Dev Cert.RopeKernelIdeal.nD,
      r.2.mem ((c.tc : Thread Cert.RopeKernelIdeal.nD Cert.RopeKernelIdeal.τ).loc Cert.RopeKernelIdeal.main_arg0) = m ((c.tc : Thread Cert.RopeKernelIdeal.nD Cert.RopeKernelIdeal.τ).loc Cert.RopeKernelIdeal.main_arg0)
      ∧ r.2.mem ((c.tc : Thread Cert.RopeKernelIdeal.nD Cert.RopeKernelIdeal.τ).loc Cert.RopeKernelIdeal.main_arg1) = m ((c.tc : Thread Cert.RopeKernelIdeal.nD Cert.RopeKernelIdeal.τ).loc Cert.RopeKernelIdeal.main_arg1))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1))
      ∧ r.2.sem = fun _ => 0)

def preserves_FfnActKernel_FfnActKernelIdeal : Prop :=
  True

def algebraic_FfnActKernelIdeal_FfnActReferenceIdeal_pre_ffn_finite [hFfnActKernelIdeal : Cert.FfnActKernelIdeal.Facts] [hFfnActReferenceIdeal : Cert.FfnActReferenceIdeal.Facts] [hPre_ffn_finite : Cert.Pre_ffn_finite.Facts] : Prop :=
  ∀ (m : (ℓ : Loc Cert.FfnActKernelIdeal.nD Cert.FfnActKernelIdeal.τ Cert.FfnActKernelIdeal.sig) → Buf (Elt Ideal) ℓ) (g : Dev Cert.FfnActKernelIdeal.nD → PrngReg)
    (m' : (ℓ : Loc Cert.FfnActReferenceIdeal.nD Cert.FfnActReferenceIdeal.τ Cert.FfnActReferenceIdeal.sig) → Buf (Elt Ideal) ℓ) (g' : Dev Cert.FfnActReferenceIdeal.nD → PrngReg), Pre_FfnActKernelIdeal_ffn_finite m →
    (∀ c : Dev Cert.FfnActKernelIdeal.nD,
      m' ((c.tc : Thread Cert.FfnActReferenceIdeal.nD Cert.FfnActReferenceIdeal.τ).loc Cert.FfnActReferenceIdeal.main_arg0) = m ((c.tc : Thread Cert.FfnActKernelIdeal.nD Cert.FfnActKernelIdeal.τ).loc Cert.FfnActKernelIdeal.main_arg0)
      ∧ m' ((c.tc : Thread Cert.FfnActReferenceIdeal.nD Cert.FfnActReferenceIdeal.τ).loc Cert.FfnActReferenceIdeal.main_arg1) = m ((c.tc : Thread Cert.FfnActKernelIdeal.nD Cert.FfnActKernelIdeal.τ).loc Cert.FfnActKernelIdeal.main_arg1)
      ∧ m' ((c.tc : Thread Cert.FfnActReferenceIdeal.nD Cert.FfnActReferenceIdeal.τ).loc Cert.FfnActReferenceIdeal.main_arg2) = m ((c.tc : Thread Cert.FfnActKernelIdeal.nD Cert.FfnActKernelIdeal.τ).loc Cert.FfnActKernelIdeal.main_arg2)
      ∧ m' ((c.tc : Thread Cert.FfnActReferenceIdeal.nD Cert.FfnActReferenceIdeal.τ).loc Cert.FfnActReferenceIdeal.main_arg3) = m ((c.tc : Thread Cert.FfnActKernelIdeal.nD Cert.FfnActKernelIdeal.τ).loc Cert.FfnActKernelIdeal.main_arg3)
      ∧ m' ((c.tc : Thread Cert.FfnActReferenceIdeal.nD Cert.FfnActReferenceIdeal.τ).loc Cert.FfnActReferenceIdeal.main_arg4) = m ((c.tc : Thread Cert.FfnActKernelIdeal.nD Cert.FfnActKernelIdeal.τ).loc Cert.FfnActKernelIdeal.main_arg4)) →
    ∃ (v0 : (c : Dev Cert.FfnActKernelIdeal.nD) → Buf (Elt Ideal) ((c.tc : Thread Cert.FfnActKernelIdeal.nD Cert.FfnActKernelIdeal.τ).loc Cert.FfnActKernelIdeal.main_v7)),
      θ_run (Cert.FfnActKernelIdeal.defs (F := Ideal)) (onTc (τ := Cert.FfnActKernelIdeal.τ) (Cert.FfnActKernelIdeal.main (F := Ideal))) ⟨m, fun _ => 0, g⟩ (fun r => ∀ c : Dev Cert.FfnActKernelIdeal.nD,
          r.2.mem ((c.tc : Thread Cert.FfnActKernelIdeal.nD Cert.FfnActKernelIdeal.τ).loc Cert.FfnActKernelIdeal.main_v7) = v0 c
          ∧ r.2.mem ((c.tc : Thread Cert.FfnActKernelIdeal.nD Cert.FfnActKernelIdeal.τ).loc Cert.FfnActKernelIdeal.main_arg0) = m ((c.tc : Thread Cert.FfnActKernelIdeal.nD Cert.FfnActKernelIdeal.τ).loc Cert.FfnActKernelIdeal.main_arg0)
          ∧ r.2.mem ((c.tc : Thread Cert.FfnActKernelIdeal.nD Cert.FfnActKernelIdeal.τ).loc Cert.FfnActKernelIdeal.main_arg1) = m ((c.tc : Thread Cert.FfnActKernelIdeal.nD Cert.FfnActKernelIdeal.τ).loc Cert.FfnActKernelIdeal.main_arg1)
          ∧ r.2.mem ((c.tc : Thread Cert.FfnActKernelIdeal.nD Cert.FfnActKernelIdeal.τ).loc Cert.FfnActKernelIdeal.main_arg2) = m ((c.tc : Thread Cert.FfnActKernelIdeal.nD Cert.FfnActKernelIdeal.τ).loc Cert.FfnActKernelIdeal.main_arg2)
          ∧ r.2.mem ((c.tc : Thread Cert.FfnActKernelIdeal.nD Cert.FfnActKernelIdeal.τ).loc Cert.FfnActKernelIdeal.main_arg3) = m ((c.tc : Thread Cert.FfnActKernelIdeal.nD Cert.FfnActKernelIdeal.τ).loc Cert.FfnActKernelIdeal.main_arg3)
          ∧ r.2.mem ((c.tc : Thread Cert.FfnActKernelIdeal.nD Cert.FfnActKernelIdeal.τ).loc Cert.FfnActKernelIdeal.main_arg4) = m ((c.tc : Thread Cert.FfnActKernelIdeal.nD Cert.FfnActKernelIdeal.τ).loc Cert.FfnActKernelIdeal.main_arg4))
      ∧ θ_run (Cert.FfnActReferenceIdeal.defs (F := Ideal)) (onTc (τ := Cert.FfnActReferenceIdeal.τ) (Cert.FfnActReferenceIdeal.main (F := Ideal))) ⟨m', fun _ => 0, g'⟩ (fun r => ∀ c : Dev Cert.FfnActReferenceIdeal.nD,
          r.2.mem ((c.tc : Thread Cert.FfnActReferenceIdeal.nD Cert.FfnActReferenceIdeal.τ).loc Cert.FfnActReferenceIdeal.main_v10) = v0 c
          ∧ r.2.mem ((c.tc : Thread Cert.FfnActReferenceIdeal.nD Cert.FfnActReferenceIdeal.τ).loc Cert.FfnActReferenceIdeal.main_arg0) = m' ((c.tc : Thread Cert.FfnActReferenceIdeal.nD Cert.FfnActReferenceIdeal.τ).loc Cert.FfnActReferenceIdeal.main_arg0)
          ∧ r.2.mem ((c.tc : Thread Cert.FfnActReferenceIdeal.nD Cert.FfnActReferenceIdeal.τ).loc Cert.FfnActReferenceIdeal.main_arg1) = m' ((c.tc : Thread Cert.FfnActReferenceIdeal.nD Cert.FfnActReferenceIdeal.τ).loc Cert.FfnActReferenceIdeal.main_arg1)
          ∧ r.2.mem ((c.tc : Thread Cert.FfnActReferenceIdeal.nD Cert.FfnActReferenceIdeal.τ).loc Cert.FfnActReferenceIdeal.main_arg2) = m' ((c.tc : Thread Cert.FfnActReferenceIdeal.nD Cert.FfnActReferenceIdeal.τ).loc Cert.FfnActReferenceIdeal.main_arg2)
          ∧ r.2.mem ((c.tc : Thread Cert.FfnActReferenceIdeal.nD Cert.FfnActReferenceIdeal.τ).loc Cert.FfnActReferenceIdeal.main_arg3) = m' ((c.tc : Thread Cert.FfnActReferenceIdeal.nD Cert.FfnActReferenceIdeal.τ).loc Cert.FfnActReferenceIdeal.main_arg3)
          ∧ r.2.mem ((c.tc : Thread Cert.FfnActReferenceIdeal.nD Cert.FfnActReferenceIdeal.τ).loc Cert.FfnActReferenceIdeal.main_arg4) = m' ((c.tc : Thread Cert.FfnActReferenceIdeal.nD Cert.FfnActReferenceIdeal.τ).loc Cert.FfnActReferenceIdeal.main_arg4))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v3)) (v1 : (c : Dev Cert.LossKernelIdeal.nD) → Buf (Elt Ideal) ((c.tc : Thread Cert.LossKernelIdeal.nD Cert.LossKernelIdeal.τ).loc Cert.LossKernelIdeal.main_v0_0)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v3) = v0 c
          ∧ r.2.mem ((c.tc : Thread Cert.LossKernelIdeal.nD Cert.LossKernelIdeal.τ).loc Cert.LossKernelIdeal.main_v0_0) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v8) = v0 c
          ∧ r.2.mem ((c.tc : Thread Cert.LossReferenceIdeal.nD Cert.LossReferenceIdeal.τ).loc Cert.LossReferenceIdeal.main_v14) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_DiagKernel_DiagKernelIdeal : Prop :=
  True

def algebraic_DiagKernelIdeal_DiagReferenceIdeal [hDiagKernelIdeal : Cert.DiagKernelIdeal.Facts] [hDiagReferenceIdeal : Cert.DiagReferenceIdeal.Facts] : Prop :=
  ∀ (m : (ℓ : Loc Cert.DiagKernelIdeal.nD Cert.DiagKernelIdeal.τ Cert.DiagKernelIdeal.sig) → Buf (Elt Ideal) ℓ) (g : Dev Cert.DiagKernelIdeal.nD → PrngReg)
    (m' : (ℓ : Loc Cert.DiagReferenceIdeal.nD Cert.DiagReferenceIdeal.τ Cert.DiagReferenceIdeal.sig) → Buf (Elt Ideal) ℓ) (g' : Dev Cert.DiagReferenceIdeal.nD → PrngReg), Pre_DiagKernelIdeal m →
    (∀ c : Dev Cert.DiagKernelIdeal.nD,
      m' ((c.tc : Thread Cert.DiagReferenceIdeal.nD Cert.DiagReferenceIdeal.τ).loc Cert.DiagReferenceIdeal.main_arg0) = m ((c.tc : Thread Cert.DiagKernelIdeal.nD Cert.DiagKernelIdeal.τ).loc Cert.DiagKernelIdeal.main_arg0)) →
    ∃ (v0 : (c : Dev Cert.DiagKernelIdeal.nD) → Buf (Elt Ideal) ((c.tc : Thread Cert.DiagKernelIdeal.nD Cert.DiagKernelIdeal.τ).loc Cert.DiagKernelIdeal.main_v0)),
      θ_run (Cert.DiagKernelIdeal.defs (F := Ideal)) (onTc (τ := Cert.DiagKernelIdeal.τ) (Cert.DiagKernelIdeal.main (F := Ideal))) ⟨m, fun _ => 0, g⟩ (fun r => ∀ c : Dev Cert.DiagKernelIdeal.nD,
          r.2.mem ((c.tc : Thread Cert.DiagKernelIdeal.nD Cert.DiagKernelIdeal.τ).loc Cert.DiagKernelIdeal.main_v0) = v0 c
          ∧ r.2.mem ((c.tc : Thread Cert.DiagKernelIdeal.nD Cert.DiagKernelIdeal.τ).loc Cert.DiagKernelIdeal.main_arg0) = m ((c.tc : Thread Cert.DiagKernelIdeal.nD Cert.DiagKernelIdeal.τ).loc Cert.DiagKernelIdeal.main_arg0))
      ∧ θ_run (Cert.DiagReferenceIdeal.defs (F := Ideal)) (onTc (τ := Cert.DiagReferenceIdeal.τ) (Cert.DiagReferenceIdeal.main (F := Ideal))) ⟨m', fun _ => 0, g'⟩ (fun r => ∀ c : Dev Cert.DiagReferenceIdeal.nD,
          r.2.mem ((c.tc : Thread Cert.DiagReferenceIdeal.nD Cert.DiagReferenceIdeal.τ).loc Cert.DiagReferenceIdeal.main_v18) = v0 c
          ∧ r.2.mem ((c.tc : Thread Cert.DiagReferenceIdeal.nD Cert.DiagReferenceIdeal.τ).loc Cert.DiagReferenceIdeal.main_arg0) = m' ((c.tc : Thread Cert.DiagReferenceIdeal.nD Cert.DiagReferenceIdeal.τ).loc Cert.DiagReferenceIdeal.main_arg0))

def preserves_AttnKernel_AttnKernelIdeal : Prop :=
  IdealRules.named_const.Statement Cert.AttnKernelIdeal.κ "mask" .f32 0xF149F2CA#32 ⊥

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)) →
    ∃ (v0 : (c : Dev Cert.AttnKernelIdeal.nD) → Buf (Elt Ideal) ((c.tc : Thread Cert.AttnKernelIdeal.nD Cert.AttnKernelIdeal.τ).loc Cert.AttnKernelIdeal.main_v37)) (v1 : (c : Dev Cert.AttnKernelIdeal.nD) → Buf (Elt Ideal) ((c.tc : Thread Cert.AttnKernelIdeal.nD Cert.AttnKernelIdeal.τ).loc Cert.AttnKernelIdeal.main_v91)) (v2 : (c : Dev Cert.AttnKernelIdeal.nD) → Buf (Elt Ideal) ((c.tc : Thread Cert.AttnKernelIdeal.nD Cert.AttnKernelIdeal.τ).loc Cert.AttnKernelIdeal.main_v100)) (v3 : (c : Dev Cert.AttnKernelIdeal.nD) → Buf (Elt Ideal) ((c.tc : Thread Cert.AttnKernelIdeal.nD Cert.AttnKernelIdeal.τ).loc Cert.AttnKernelIdeal.main_v109)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v37) = v0 c
          ∧ r.2.mem ((c.tc : Thread Cert.AttnKernelIdeal.nD Cert.AttnKernelIdeal.τ).loc Cert.AttnKernelIdeal.main_v91) = v1 c
          ∧ r.2.mem ((c.tc : Thread Cert.AttnKernelIdeal.nD Cert.AttnKernelIdeal.τ).loc Cert.AttnKernelIdeal.main_v100) = v2 c
          ∧ r.2.mem ((c.tc : Thread Cert.AttnKernelIdeal.nD Cert.AttnKernelIdeal.τ).loc Cert.AttnKernelIdeal.main_v109) = v3 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v317) = v0 c
          ∧ r.2.mem ((c.tc : Thread Cert.AttnReferenceIdeal.nD Cert.AttnReferenceIdeal.τ).loc Cert.AttnReferenceIdeal.main_v576) = v1 c
          ∧ r.2.mem ((c.tc : Thread Cert.AttnReferenceIdeal.nD Cert.AttnReferenceIdeal.τ).loc Cert.AttnReferenceIdeal.main_v575) = v2 c
          ∧ r.2.mem ((c.tc : Thread Cert.AttnReferenceIdeal.nD Cert.AttnReferenceIdeal.τ).loc Cert.AttnReferenceIdeal.main_v574) = v3 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3))

def preserves_AttnSumKernel_AttnSumKernelIdeal : Prop :=
  True

def algebraic_AttnSumKernelIdeal_AttnSumReferenceIdeal [hAttnSumKernelIdeal : Cert.AttnSumKernelIdeal.Facts] [hAttnSumReferenceIdeal : Cert.AttnSumReferenceIdeal.Facts] : Prop :=
  ∀ (m : (ℓ : Loc Cert.AttnSumKernelIdeal.nD Cert.AttnSumKernelIdeal.τ Cert.AttnSumKernelIdeal.sig) → Buf (Elt Ideal) ℓ) (g : Dev Cert.AttnSumKernelIdeal.nD → PrngReg)
    (m' : (ℓ : Loc Cert.AttnSumReferenceIdeal.nD Cert.AttnSumReferenceIdeal.τ Cert.AttnSumReferenceIdeal.sig) → Buf (Elt Ideal) ℓ) (g' : Dev Cert.AttnSumReferenceIdeal.nD → PrngReg), Pre_AttnSumKernelIdeal m →
    (∀ c : Dev Cert.AttnSumKernelIdeal.nD,
      m' ((c.tc : Thread Cert.AttnSumReferenceIdeal.nD Cert.AttnSumReferenceIdeal.τ).loc Cert.AttnSumReferenceIdeal.main_arg0) = m ((c.tc : Thread Cert.AttnSumKernelIdeal.nD Cert.AttnSumKernelIdeal.τ).loc Cert.AttnSumKernelIdeal.main_arg0)
      ∧ m' ((c.tc : Thread Cert.AttnSumReferenceIdeal.nD Cert.AttnSumReferenceIdeal.τ).loc Cert.AttnSumReferenceIdeal.main_arg1) = m ((c.tc : Thread Cert.AttnSumKernelIdeal.nD Cert.AttnSumKernelIdeal.τ).loc Cert.AttnSumKernelIdeal.main_arg1)
      ∧ m' ((c.tc : Thread Cert.AttnSumReferenceIdeal.nD Cert.AttnSumReferenceIdeal.τ).loc Cert.AttnSumReferenceIdeal.main_arg2) = m ((c.tc : Thread Cert.AttnSumKernelIdeal.nD Cert.AttnSumKernelIdeal.τ).loc Cert.AttnSumKernelIdeal.main_arg2)
      ∧ m' ((c.tc : Thread Cert.AttnSumReferenceIdeal.nD Cert.AttnSumReferenceIdeal.τ).loc Cert.AttnSumReferenceIdeal.main_arg3) = m ((c.tc : Thread Cert.AttnSumKernelIdeal.nD Cert.AttnSumKernelIdeal.τ).loc Cert.AttnSumKernelIdeal.main_arg3)
      ∧ m' ((c.tc : Thread Cert.AttnSumReferenceIdeal.nD Cert.AttnSumReferenceIdeal.τ).loc Cert.AttnSumReferenceIdeal.main_arg4) = m ((c.tc : Thread Cert.AttnSumKernelIdeal.nD Cert.AttnSumKernelIdeal.τ).loc Cert.AttnSumKernelIdeal.main_arg4)
      ∧ m' ((c.tc : Thread Cert.AttnSumReferenceIdeal.nD Cert.AttnSumReferenceIdeal.τ).loc Cert.AttnSumReferenceIdeal.main_arg5) = m ((c.tc : Thread Cert.AttnSumKernelIdeal.nD Cert.AttnSumKernelIdeal.τ).loc Cert.AttnSumKernelIdeal.main_arg5)
      ∧ m' ((c.tc : Thread Cert.AttnSumReferenceIdeal.nD Cert.AttnSumReferenceIdeal.τ).loc Cert.AttnSumReferenceIdeal.main_arg6) = m ((c.tc : Thread Cert.AttnSumKernelIdeal.nD Cert.AttnSumKernelIdeal.τ).loc Cert.AttnSumKernelIdeal.main_arg6)
      ∧ m' ((c.tc : Thread Cert.AttnSumReferenceIdeal.nD Cert.AttnSumReferenceIdeal.τ).loc Cert.AttnSumReferenceIdeal.main_arg7) = m ((c.tc : Thread Cert.AttnSumKernelIdeal.nD Cert.AttnSumKernelIdeal.τ).loc Cert.AttnSumKernelIdeal.main_arg7)
      ∧ m' ((c.tc : Thread Cert.AttnSumReferenceIdeal.nD Cert.AttnSumReferenceIdeal.τ).loc Cert.AttnSumReferenceIdeal.main_arg8) = m ((c.tc : Thread Cert.AttnSumKernelIdeal.nD Cert.AttnSumKernelIdeal.τ).loc Cert.AttnSumKernelIdeal.main_arg8)
      ∧ m' ((c.tc : Thread Cert.AttnSumReferenceIdeal.nD Cert.AttnSumReferenceIdeal.τ).loc Cert.AttnSumReferenceIdeal.main_arg9) = m ((c.tc : Thread Cert.AttnSumKernelIdeal.nD Cert.AttnSumKernelIdeal.τ).loc Cert.AttnSumKernelIdeal.main_arg9)
      ∧ m' ((c.tc : Thread Cert.AttnSumReferenceIdeal.nD Cert.AttnSumReferenceIdeal.τ).loc Cert.AttnSumReferenceIdeal.main_arg10) = m ((c.tc : Thread Cert.AttnSumKernelIdeal.nD Cert.AttnSumKernelIdeal.τ).loc Cert.AttnSumKernelIdeal.main_arg10)
      ∧ m' ((c.tc : Thread Cert.AttnSumReferenceIdeal.nD Cert.AttnSumReferenceIdeal.τ).loc Cert.AttnSumReferenceIdeal.main_arg11) = m ((c.tc : Thread Cert.AttnSumKernelIdeal.nD Cert.AttnSumKernelIdeal.τ).loc Cert.AttnSumKernelIdeal.main_arg11)
      ∧ m' ((c.tc : Thread Cert.AttnSumReferenceIdeal.nD Cert.AttnSumReferenceIdeal.τ).loc Cert.AttnSumReferenceIdeal.main_arg12) = m ((c.tc : Thread Cert.AttnSumKernelIdeal.nD Cert.AttnSumKernelIdeal.τ).loc Cert.AttnSumKernelIdeal.main_arg12)
      ∧ m' ((c.tc : Thread Cert.AttnSumReferenceIdeal.nD Cert.AttnSumReferenceIdeal.τ).loc Cert.AttnSumReferenceIdeal.main_arg13) = m ((c.tc : Thread Cert.AttnSumKernelIdeal.nD Cert.AttnSumKernelIdeal.τ).loc Cert.AttnSumKernelIdeal.main_arg13)
      ∧ m' ((c.tc : Thread Cert.AttnSumReferenceIdeal.nD Cert.AttnSumReferenceIdeal.τ).loc Cert.AttnSumReferenceIdeal.main_arg14) = m ((c.tc : Thread Cert.AttnSumKernelIdeal.nD Cert.AttnSumKernelIdeal.τ).loc Cert.AttnSumKernelIdeal.main_arg14)
      ∧ m' ((c.tc : Thread Cert.AttnSumReferenceIdeal.nD Cert.AttnSumReferenceIdeal.τ).loc Cert.AttnSumReferenceIdeal.main_arg15) = m ((c.tc : Thread Cert.AttnSumKernelIdeal.nD Cert.AttnSumKernelIdeal.τ).loc Cert.AttnSumKernelIdeal.main_arg15)
      ∧ m' ((c.tc : Thread Cert.AttnSumReferenceIdeal.nD Cert.AttnSumReferenceIdeal.τ).loc Cert.AttnSumReferenceIdeal.main_arg16) = m ((c.tc : Thread Cert.AttnSumKernelIdeal.nD Cert.AttnSumKernelIdeal.τ).loc Cert.AttnSumKernelIdeal.main_arg16)) →
    ∃ (v0 : (c : Dev Cert.AttnSumKernelIdeal.nD) → Buf (Elt Ideal) ((c.tc : Thread Cert.AttnSumKernelIdeal.nD Cert.AttnSumKernelIdeal.τ).loc Cert.AttnSumKernelIdeal.main_v46)),
      θ_run (Cert.AttnSumKernelIdeal.defs (F := Ideal)) (onTc (τ := Cert.AttnSumKernelIdeal.τ) (Cert.AttnSumKernelIdeal.main (F := Ideal))) ⟨m, fun _ => 0, g⟩ (fun r => ∀ c : Dev Cert.AttnSumKernelIdeal.nD,
          r.2.mem ((c.tc : Thread Cert.AttnSumKernelIdeal.nD Cert.AttnSumKernelIdeal.τ).loc Cert.AttnSumKernelIdeal.main_v46) = v0 c
          ∧ r.2.mem ((c.tc : Thread Cert.AttnSumKernelIdeal.nD Cert.AttnSumKernelIdeal.τ).loc Cert.AttnSumKernelIdeal.main_arg0) = m ((c.tc : Thread Cert.AttnSumKernelIdeal.nD Cert.AttnSumKernelIdeal.τ).loc Cert.AttnSumKernelIdeal.main_arg0)
          ∧ r.2.mem ((c.tc : Thread Cert.AttnSumKernelIdeal.nD Cert.AttnSumKernelIdeal.τ).loc Cert.AttnSumKernelIdeal.main_arg1) = m ((c.tc : Thread Cert.AttnSumKernelIdeal.nD Cert.AttnSumKernelIdeal.τ).loc Cert.AttnSumKernelIdeal.main_arg1)
          ∧ r.2.mem ((c.tc : Thread Cert.AttnSumKernelIdeal.nD Cert.AttnSumKernelIdeal.τ).loc Cert.AttnSumKernelIdeal.main_arg2) = m ((c.tc : Thread Cert.AttnSumKernelIdeal.nD Cert.AttnSumKernelIdeal.τ).loc Cert.AttnSumKernelIdeal.main_arg2)
          ∧ r.2.mem ((c.tc : Thread Cert.AttnSumKernelIdeal.nD Cert.AttnSumKernelIdeal.τ).loc Cert.AttnSumKernelIdeal.main_arg3) = m ((c.tc : Thread Cert.AttnSumKernelIdeal.nD Cert.AttnSumKernelIdeal.τ).loc Cert.AttnSumKernelIdeal.main_arg3)
          ∧ r.2.mem ((c.tc : Thread Cert.AttnSumKernelIdeal.nD Cert.AttnSumKernelIdeal.τ).loc Cert.AttnSumKernelIdeal.main_arg4) = m ((c.tc : Thread Cert.AttnSumKernelIdeal.nD Cert.AttnSumKernelIdeal.τ).loc Cert.AttnSumKernelIdeal.main_arg4)
          ∧ r.2.mem ((c.tc : Thread Cert.AttnSumKernelIdeal.nD Cert.AttnSumKernelIdeal.τ).loc Cert.AttnSumKernelIdeal.main_arg5) = m ((c.tc : Thread Cert.AttnSumKernelIdeal.nD Cert.AttnSumKernelIdeal.τ).loc Cert.AttnSumKernelIdeal.main_arg5)
          ∧ r.2.mem ((c.tc : Thread Cert.AttnSumKernelIdeal.nD Cert.AttnSumKernelIdeal.τ).loc Cert.AttnSumKernelIdeal.main_arg6) = m ((c.tc : Thread Cert.AttnSumKernelIdeal.nD Cert.AttnSumKernelIdeal.τ).loc Cert.AttnSumKernelIdeal.main_arg6)
          ∧ r.2.mem ((c.tc : Thread Cert.AttnSumKernelIdeal.nD Cert.AttnSumKernelIdeal.τ).loc Cert.AttnSumKernelIdeal.main_arg7) = m ((c.tc : Thread Cert.AttnSumKernelIdeal.nD Cert.AttnSumKernelIdeal.τ).loc Cert.AttnSumKernelIdeal.main_arg7)
          ∧ r.2.mem ((c.tc : Thread Cert.AttnSumKernelIdeal.nD Cert.AttnSumKernelIdeal.τ).loc Cert.AttnSumKernelIdeal.main_arg8) = m ((c.tc : Thread Cert.AttnSumKernelIdeal.nD Cert.AttnSumKernelIdeal.τ).loc Cert.AttnSumKernelIdeal.main_arg8)
          ∧ r.2.mem ((c.tc : Thread Cert.AttnSumKernelIdeal.nD Cert.AttnSumKernelIdeal.τ).loc Cert.AttnSumKernelIdeal.main_arg9) = m ((c.tc : Thread Cert.AttnSumKernelIdeal.nD Cert.AttnSumKernelIdeal.τ).loc Cert.AttnSumKernelIdeal.main_arg9)
          ∧ r.2.mem ((c.tc : Thread Cert.AttnSumKernelIdeal.nD Cert.AttnSumKernelIdeal.τ).loc Cert.AttnSumKernelIdeal.main_arg10) = m ((c.tc : Thread Cert.AttnSumKernelIdeal.nD Cert.AttnSumKernelIdeal.τ).loc Cert.AttnSumKernelIdeal.main_arg10)
          ∧ r.2.mem ((c.tc : Thread Cert.AttnSumKernelIdeal.nD Cert.AttnSumKernelIdeal.τ).loc Cert.AttnSumKernelIdeal.main_arg11) = m ((c.tc : Thread Cert.AttnSumKernelIdeal.nD Cert.AttnSumKernelIdeal.τ).loc Cert.AttnSumKernelIdeal.main_arg11)
          ∧ r.2.mem ((c.tc : Thread Cert.AttnSumKernelIdeal.nD Cert.AttnSumKernelIdeal.τ).loc Cert.AttnSumKernelIdeal.main_arg12) = m ((c.tc : Thread Cert.AttnSumKernelIdeal.nD Cert.AttnSumKernelIdeal.τ).loc Cert.AttnSumKernelIdeal.main_arg12)
          ∧ r.2.mem ((c.tc : Thread Cert.AttnSumKernelIdeal.nD Cert.AttnSumKernelIdeal.τ).loc Cert.AttnSumKernelIdeal.main_arg13) = m ((c.tc : Thread Cert.AttnSumKernelIdeal.nD Cert.AttnSumKernelIdeal.τ).loc Cert.AttnSumKernelIdeal.main_arg13)
          ∧ r.2.mem ((c.tc : Thread Cert.AttnSumKernelIdeal.nD Cert.AttnSumKernelIdeal.τ).loc Cert.AttnSumKernelIdeal.main_arg14) = m ((c.tc : Thread Cert.AttnSumKernelIdeal.nD Cert.AttnSumKernelIdeal.τ).loc Cert.AttnSumKernelIdeal.main_arg14)
          ∧ r.2.mem ((c.tc : Thread Cert.AttnSumKernelIdeal.nD Cert.AttnSumKernelIdeal.τ).loc Cert.AttnSumKernelIdeal.main_arg15) = m ((c.tc : Thread Cert.AttnSumKernelIdeal.nD Cert.AttnSumKernelIdeal.τ).loc Cert.AttnSumKernelIdeal.main_arg15)
          ∧ r.2.mem ((c.tc : Thread Cert.AttnSumKernelIdeal.nD Cert.AttnSumKernelIdeal.τ).loc Cert.AttnSumKernelIdeal.main_arg16) = m ((c.tc : Thread Cert.AttnSumKernelIdeal.nD Cert.AttnSumKernelIdeal.τ).loc Cert.AttnSumKernelIdeal.main_arg16))
      ∧ θ_run (Cert.AttnSumReferenceIdeal.defs (F := Ideal)) (onTc (τ := Cert.AttnSumReferenceIdeal.τ) (Cert.AttnSumReferenceIdeal.main (F := Ideal))) ⟨m', fun _ => 0, g'⟩ (fun r => ∀ c : Dev Cert.AttnSumReferenceIdeal.nD,
          r.2.mem ((c.tc : Thread Cert.AttnSumReferenceIdeal.nD Cert.AttnSumReferenceIdeal.τ).loc Cert.AttnSumReferenceIdeal.main_v350) = v0 c
          ∧ r.2.mem ((c.tc : Thread Cert.AttnSumReferenceIdeal.nD Cert.AttnSumReferenceIdeal.τ).loc Cert.AttnSumReferenceIdeal.main_arg0) = m' ((c.tc : Thread Cert.AttnSumReferenceIdeal.nD Cert.AttnSumReferenceIdeal.τ).loc Cert.AttnSumReferenceIdeal.main_arg0)
          ∧ r.2.mem ((c.tc : Thread Cert.AttnSumReferenceIdeal.nD Cert.AttnSumReferenceIdeal.τ).loc Cert.AttnSumReferenceIdeal.main_arg1) = m' ((c.tc : Thread Cert.AttnSumReferenceIdeal.nD Cert.AttnSumReferenceIdeal.τ).loc Cert.AttnSumReferenceIdeal.main_arg1)
          ∧ r.2.mem ((c.tc : Thread Cert.AttnSumReferenceIdeal.nD Cert.AttnSumReferenceIdeal.τ).loc Cert.AttnSumReferenceIdeal.main_arg2) = m' ((c.tc : Thread Cert.AttnSumReferenceIdeal.nD Cert.AttnSumReferenceIdeal.τ).loc Cert.AttnSumReferenceIdeal.main_arg2)
          ∧ r.2.mem ((c.tc : Thread Cert.AttnSumReferenceIdeal.nD Cert.AttnSumReferenceIdeal.τ).loc Cert.AttnSumReferenceIdeal.main_arg3) = m' ((c.tc : Thread Cert.AttnSumReferenceIdeal.nD Cert.AttnSumReferenceIdeal.τ).loc Cert.AttnSumReferenceIdeal.main_arg3)
          ∧ r.2.mem ((c.tc : Thread Cert.AttnSumReferenceIdeal.nD Cert.AttnSumReferenceIdeal.τ).loc Cert.AttnSumReferenceIdeal.main_arg4) = m' ((c.tc : Thread Cert.AttnSumReferenceIdeal.nD Cert.AttnSumReferenceIdeal.τ).loc Cert.AttnSumReferenceIdeal.main_arg4)
          ∧ r.2.mem ((c.tc : Thread Cert.AttnSumReferenceIdeal.nD Cert.AttnSumReferenceIdeal.τ).loc Cert.AttnSumReferenceIdeal.main_arg5) = m' ((c.tc : Thread Cert.AttnSumReferenceIdeal.nD Cert.AttnSumReferenceIdeal.τ).loc Cert.AttnSumReferenceIdeal.main_arg5)
          ∧ r.2.mem ((c.tc : Thread Cert.AttnSumReferenceIdeal.nD Cert.AttnSumReferenceIdeal.τ).loc Cert.AttnSumReferenceIdeal.main_arg6) = m' ((c.tc : Thread Cert.AttnSumReferenceIdeal.nD Cert.AttnSumReferenceIdeal.τ).loc Cert.AttnSumReferenceIdeal.main_arg6)
          ∧ r.2.mem ((c.tc : Thread Cert.AttnSumReferenceIdeal.nD Cert.AttnSumReferenceIdeal.τ).loc Cert.AttnSumReferenceIdeal.main_arg7) = m' ((c.tc : Thread Cert.AttnSumReferenceIdeal.nD Cert.AttnSumReferenceIdeal.τ).loc Cert.AttnSumReferenceIdeal.main_arg7)
          ∧ r.2.mem ((c.tc : Thread Cert.AttnSumReferenceIdeal.nD Cert.AttnSumReferenceIdeal.τ).loc Cert.AttnSumReferenceIdeal.main_arg8) = m' ((c.tc : Thread Cert.AttnSumReferenceIdeal.nD Cert.AttnSumReferenceIdeal.τ).loc Cert.AttnSumReferenceIdeal.main_arg8)
          ∧ r.2.mem ((c.tc : Thread Cert.AttnSumReferenceIdeal.nD Cert.AttnSumReferenceIdeal.τ).loc Cert.AttnSumReferenceIdeal.main_arg9) = m' ((c.tc : Thread Cert.AttnSumReferenceIdeal.nD Cert.AttnSumReferenceIdeal.τ).loc Cert.AttnSumReferenceIdeal.main_arg9)
          ∧ r.2.mem ((c.tc : Thread Cert.AttnSumReferenceIdeal.nD Cert.AttnSumReferenceIdeal.τ).loc Cert.AttnSumReferenceIdeal.main_arg10) = m' ((c.tc : Thread Cert.AttnSumReferenceIdeal.nD Cert.AttnSumReferenceIdeal.τ).loc Cert.AttnSumReferenceIdeal.main_arg10)
          ∧ r.2.mem ((c.tc : Thread Cert.AttnSumReferenceIdeal.nD Cert.AttnSumReferenceIdeal.τ).loc Cert.AttnSumReferenceIdeal.main_arg11) = m' ((c.tc : Thread Cert.AttnSumReferenceIdeal.nD Cert.AttnSumReferenceIdeal.τ).loc Cert.AttnSumReferenceIdeal.main_arg11)
          ∧ r.2.mem ((c.tc : Thread Cert.AttnSumReferenceIdeal.nD Cert.AttnSumReferenceIdeal.τ).loc Cert.AttnSumReferenceIdeal.main_arg12) = m' ((c.tc : Thread Cert.AttnSumReferenceIdeal.nD Cert.AttnSumReferenceIdeal.τ).loc Cert.AttnSumReferenceIdeal.main_arg12)
          ∧ r.2.mem ((c.tc : Thread Cert.AttnSumReferenceIdeal.nD Cert.AttnSumReferenceIdeal.τ).loc Cert.AttnSumReferenceIdeal.main_arg13) = m' ((c.tc : Thread Cert.AttnSumReferenceIdeal.nD Cert.AttnSumReferenceIdeal.τ).loc Cert.AttnSumReferenceIdeal.main_arg13)
          ∧ r.2.mem ((c.tc : Thread Cert.AttnSumReferenceIdeal.nD Cert.AttnSumReferenceIdeal.τ).loc Cert.AttnSumReferenceIdeal.main_arg14) = m' ((c.tc : Thread Cert.AttnSumReferenceIdeal.nD Cert.AttnSumReferenceIdeal.τ).loc Cert.AttnSumReferenceIdeal.main_arg14)
          ∧ r.2.mem ((c.tc : Thread Cert.AttnSumReferenceIdeal.nD Cert.AttnSumReferenceIdeal.τ).loc Cert.AttnSumReferenceIdeal.main_arg15) = m' ((c.tc : Thread Cert.AttnSumReferenceIdeal.nD Cert.AttnSumReferenceIdeal.τ).loc Cert.AttnSumReferenceIdeal.main_arg15)
          ∧ r.2.mem ((c.tc : Thread Cert.AttnSumReferenceIdeal.nD Cert.AttnSumReferenceIdeal.τ).loc Cert.AttnSumReferenceIdeal.main_arg16) = m' ((c.tc : Thread Cert.AttnSumReferenceIdeal.nD Cert.AttnSumReferenceIdeal.τ).loc Cert.AttnSumReferenceIdeal.main_arg16))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)
      ∧ m' ((c.tc : Thread Cert.MixReferenceIdeal.nD Cert.MixReferenceIdeal.τ).loc Cert.MixReferenceIdeal.main_arg5) = m ((c.tc : Thread Cert.MixKernelIdeal.nD Cert.MixKernelIdeal.τ).loc Cert.MixKernelIdeal.main_arg5)
      ∧ m' ((c.tc : Thread Cert.MixReferenceIdeal.nD Cert.MixReferenceIdeal.τ).loc Cert.MixReferenceIdeal.main_arg6) = m ((c.tc : Thread Cert.MixKernelIdeal.nD Cert.MixKernelIdeal.τ).loc Cert.MixKernelIdeal.main_arg6)
      ∧ m' ((c.tc : Thread Cert.MixReferenceIdeal.nD Cert.MixReferenceIdeal.τ).loc Cert.MixReferenceIdeal.main_arg7) = m ((c.tc : Thread Cert.MixKernelIdeal.nD Cert.MixKernelIdeal.τ).loc Cert.MixKernelIdeal.main_arg7)) →
    ∃ (v0 : (c : Dev Cert.MixKernelIdeal.nD) → Buf (Elt Ideal) ((c.tc : Thread Cert.MixKernelIdeal.nD Cert.MixKernelIdeal.τ).loc Cert.MixKernelIdeal.main_v30_0)) (v1 : (c : Dev Cert.MixKernelIdeal.nD) → Buf (Elt Ideal) ((c.tc : Thread Cert.MixKernelIdeal.nD Cert.MixKernelIdeal.τ).loc Cert.MixKernelIdeal.main_v30_1)) (v2 : (c : Dev Cert.MixKernelIdeal.nD) → Buf (Elt Ideal) ((c.tc : Thread Cert.MixKernelIdeal.nD Cert.MixKernelIdeal.τ).loc Cert.MixKernelIdeal.main_v30_2)) (v3 : (c : Dev Cert.MixKernelIdeal.nD) → Buf (Elt Ideal) ((c.tc : Thread Cert.MixKernelIdeal.nD Cert.MixKernelIdeal.τ).loc Cert.MixKernelIdeal.main_v30_3)) (v4 : (c : Dev Cert.MixKernelIdeal.nD) → Buf (Elt Ideal) ((c.tc : Thread Cert.MixKernelIdeal.nD Cert.MixKernelIdeal.τ).loc Cert.MixKernelIdeal.main_v30_4)) (v5 : (c : Dev Cert.MixKernelIdeal.nD) → Buf (Elt Ideal) ((c.tc : Thread Cert.MixKernelIdeal.nD Cert.MixKernelIdeal.τ).loc Cert.MixKernelIdeal.main_v30_5)) (v6 : (c : Dev Cert.MixKernelIdeal.nD) → Buf (Elt Ideal) ((c.tc : Thread Cert.MixKernelIdeal.nD Cert.MixKernelIdeal.τ).loc Cert.MixKernelIdeal.main_v30_6)) (v7 : (c : Dev Cert.MixKernelIdeal.nD) → Buf (Elt Ideal) ((c.tc : Thread Cert.MixKernelIdeal.nD Cert.MixKernelIdeal.τ).loc Cert.MixKernelIdeal.main_v30_7)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v30_0) = v0 c
          ∧ r.2.mem ((c.tc : Thread Cert.MixKernelIdeal.nD Cert.MixKernelIdeal.τ).loc Cert.MixKernelIdeal.main_v30_1) = v1 c
          ∧ r.2.mem ((c.tc : Thread Cert.MixKernelIdeal.nD Cert.MixKernelIdeal.τ).loc Cert.MixKernelIdeal.main_v30_2) = v2 c
          ∧ r.2.mem ((c.tc : Thread Cert.MixKernelIdeal.nD Cert.MixKernelIdeal.τ).loc Cert.MixKernelIdeal.main_v30_3) = v3 c
          ∧ r.2.mem ((c.tc : Thread Cert.MixKernelIdeal.nD Cert.MixKernelIdeal.τ).loc Cert.MixKernelIdeal.main_v30_4) = v4 c
          ∧ r.2.mem ((c.tc : Thread Cert.MixKernelIdeal.nD Cert.MixKernelIdeal.τ).loc Cert.MixKernelIdeal.main_v30_5) = v5 c
          ∧ r.2.mem ((c.tc : Thread Cert.MixKernelIdeal.nD Cert.MixKernelIdeal.τ).loc Cert.MixKernelIdeal.main_v30_6) = v6 c
          ∧ r.2.mem ((c.tc : Thread Cert.MixKernelIdeal.nD Cert.MixKernelIdeal.τ).loc Cert.MixKernelIdeal.main_v30_7) = v7 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4)
          ∧ r.2.mem ((c.tc : Thread Cert.MixKernelIdeal.nD Cert.MixKernelIdeal.τ).loc Cert.MixKernelIdeal.main_arg5) = m ((c.tc : Thread Cert.MixKernelIdeal.nD Cert.MixKernelIdeal.τ).loc Cert.MixKernelIdeal.main_arg5)
          ∧ r.2.mem ((c.tc : Thread Cert.MixKernelIdeal.nD Cert.MixKernelIdeal.τ).loc Cert.MixKernelIdeal.main_arg6) = m ((c.tc : Thread Cert.MixKernelIdeal.nD Cert.MixKernelIdeal.τ).loc Cert.MixKernelIdeal.main_arg6)
          ∧ r.2.mem ((c.tc : Thread Cert.MixKernelIdeal.nD Cert.MixKernelIdeal.τ).loc Cert.MixKernelIdeal.main_arg7) = m ((c.tc : Thread Cert.MixKernelIdeal.nD Cert.MixKernelIdeal.τ).loc Cert.MixKernelIdeal.main_arg7))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v103) = v0 c
          ∧ r.2.mem ((c.tc : Thread Cert.MixReferenceIdeal.nD Cert.MixReferenceIdeal.τ).loc Cert.MixReferenceIdeal.main_v110) = v1 c
          ∧ r.2.mem ((c.tc : Thread Cert.MixReferenceIdeal.nD Cert.MixReferenceIdeal.τ).loc Cert.MixReferenceIdeal.main_v111) = v2 c
          ∧ r.2.mem ((c.tc : Thread Cert.MixReferenceIdeal.nD Cert.MixReferenceIdeal.τ).loc Cert.MixReferenceIdeal.main_v112) = v3 c
          ∧ r.2.mem ((c.tc : Thread Cert.MixReferenceIdeal.nD Cert.MixReferenceIdeal.τ).loc Cert.MixReferenceIdeal.main_v105) = v4 c
          ∧ r.2.mem ((c.tc : Thread Cert.MixReferenceIdeal.nD Cert.MixReferenceIdeal.τ).loc Cert.MixReferenceIdeal.main_v113) = v5 c
          ∧ r.2.mem ((c.tc : Thread Cert.MixReferenceIdeal.nD Cert.MixReferenceIdeal.τ).loc Cert.MixReferenceIdeal.main_v114) = v6 c
          ∧ r.2.mem ((c.tc : Thread Cert.MixReferenceIdeal.nD Cert.MixReferenceIdeal.τ).loc Cert.MixReferenceIdeal.main_v115) = v7 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7))

def preserves_GluKernel_GluKernelIdeal : Prop :=
  True

def algebraic_GluKernelIdeal_GluReferenceIdeal [hGluKernelIdeal : Cert.GluKernelIdeal.Facts] [hGluReferenceIdeal : Cert.GluReferenceIdeal.Facts] : Prop :=
  ∀ (m : (ℓ : Loc Cert.GluKernelIdeal.nD Cert.GluKernelIdeal.τ Cert.GluKernelIdeal.sig) → Buf (Elt Ideal) ℓ) (g : Dev Cert.GluKernelIdeal.nD → PrngReg)
    (m' : (ℓ : Loc Cert.GluReferenceIdeal.nD Cert.GluReferenceIdeal.τ Cert.GluReferenceIdeal.sig) → Buf (Elt Ideal) ℓ) (g' : Dev Cert.GluReferenceIdeal.nD → PrngReg), Pre_GluKernelIdeal m →
    (∀ c : Dev Cert.GluKernelIdeal.nD,
      m' ((c.tc : Thread Cert.GluReferenceIdeal.nD Cert.GluReferenceIdeal.τ).loc Cert.GluReferenceIdeal.main_arg0) = m ((c.tc : Thread Cert.GluKernelIdeal.nD Cert.GluKernelIdeal.τ).loc Cert.GluKernelIdeal.main_arg0)
      ∧ m' ((c.tc : Thread Cert.GluReferenceIdeal.nD Cert.GluReferenceIdeal.τ).loc Cert.GluReferenceIdeal.main_arg1) = m ((c.tc : Thread Cert.GluKernelIdeal.nD Cert.GluKernelIdeal.τ).loc Cert.GluKernelIdeal.main_arg1)
      ∧ m' ((c.tc : Thread Cert.GluReferenceIdeal.nD Cert.GluReferenceIdeal.τ).loc Cert.GluReferenceIdeal.main_arg2) = m ((c.tc : Thread Cert.GluKernelIdeal.nD Cert.GluKernelIdeal.τ).loc Cert.GluKernelIdeal.main_arg2)
      ∧ m' ((c.tc : Thread Cert.GluReferenceIdeal.nD Cert.GluReferenceIdeal.τ).loc Cert.GluReferenceIdeal.main_arg3) = m ((c.tc : Thread Cert.GluKernelIdeal.nD Cert.GluKernelIdeal.τ).loc Cert.GluKernelIdeal.main_arg3)
      ∧ m' ((c.tc : Thread Cert.GluReferenceIdeal.nD Cert.GluReferenceIdeal.τ).loc Cert.GluReferenceIdeal.main_arg4) = m ((c.tc : Thread Cert.GluKernelIdeal.nD Cert.GluKernelIdeal.τ).loc Cert.GluKernelIdeal.main_arg4)
      ∧ m' ((c.tc : Thread Cert.GluReferenceIdeal.nD Cert.GluReferenceIdeal.τ).loc Cert.GluReferenceIdeal.main_arg5) = m ((c.tc : Thread Cert.GluKernelIdeal.nD Cert.GluKernelIdeal.τ).loc Cert.GluKernelIdeal.main_arg5)) →
    ∃ (v0 : (c : Dev Cert.GluKernelIdeal.nD) → Buf (Elt Ideal) ((c.tc : Thread Cert.GluKernelIdeal.nD Cert.GluKernelIdeal.τ).loc Cert.GluKernelIdeal.main_v6_0)) (v1 : (c : Dev Cert.GluKernelIdeal.nD) → Buf (Elt Ideal) ((c.tc : Thread Cert.GluKernelIdeal.nD Cert.GluKernelIdeal.τ).loc Cert.GluKernelIdeal.main_v6_1)) (v2 : (c : Dev Cert.GluKernelIdeal.nD) → Buf (Elt Ideal) ((c.tc : Thread Cert.GluKernelIdeal.nD Cert.GluKernelIdeal.τ).loc Cert.GluKernelIdeal.main_v6_2)),
      θ_run (Cert.GluKernelIdeal.defs (F := Ideal)) (onTc (τ := Cert.GluKernelIdeal.τ) (Cert.GluKernelIdeal.main (F := Ideal))) ⟨m, fun _ => 0, g⟩ (fun r => ∀ c : Dev Cert.GluKernelIdeal.nD,
          r.2.mem ((c.tc : Thread Cert.GluKernelIdeal.nD Cert.GluKernelIdeal.τ).loc Cert.GluKernelIdeal.main_v6_0) = v0 c
          ∧ r.2.mem ((c.tc : Thread Cert.GluKernelIdeal.nD Cert.GluKernelIdeal.τ).loc Cert.GluKernelIdeal.main_v6_1) = v1 c
          ∧ r.2.mem ((c.tc : Thread Cert.GluKernelIdeal.nD Cert.GluKernelIdeal.τ).loc Cert.GluKernelIdeal.main_v6_2) = v2 c
          ∧ r.2.mem ((c.tc : Thread Cert.GluKernelIdeal.nD Cert.GluKernelIdeal.τ).loc Cert.GluKernelIdeal.main_arg0) = m ((c.tc : Thread Cert.GluKernelIdeal.nD Cert.GluKernelIdeal.τ).loc Cert.GluKernelIdeal.main_arg0)
          ∧ r.2.mem ((c.tc : Thread Cert.GluKernelIdeal.nD Cert.GluKernelIdeal.τ).loc Cert.GluKernelIdeal.main_arg1) = m ((c.tc : Thread Cert.GluKernelIdeal.nD Cert.GluKernelIdeal.τ).loc Cert.GluKernelIdeal.main_arg1)
          ∧ r.2.mem ((c.tc : Thread Cert.GluKernelIdeal.nD Cert.GluKernelIdeal.τ).loc Cert.GluKernelIdeal.main_arg2) = m ((c.tc : Thread Cert.GluKernelIdeal.nD Cert.GluKernelIdeal.τ).loc Cert.GluKernelIdeal.main_arg2)
          ∧ r.2.mem ((c.tc : Thread Cert.GluKernelIdeal.nD Cert.GluKernelIdeal.τ).loc Cert.GluKernelIdeal.main_arg3) = m ((c.tc : Thread Cert.GluKernelIdeal.nD Cert.GluKernelIdeal.τ).loc Cert.GluKernelIdeal.main_arg3)
          ∧ r.2.mem ((c.tc : Thread Cert.GluKernelIdeal.nD Cert.GluKernelIdeal.τ).loc Cert.GluKernelIdeal.main_arg4) = m ((c.tc : Thread Cert.GluKernelIdeal.nD Cert.GluKernelIdeal.τ).loc Cert.GluKernelIdeal.main_arg4)
          ∧ r.2.mem ((c.tc : Thread Cert.GluKernelIdeal.nD Cert.GluKernelIdeal.τ).loc Cert.GluKernelIdeal.main_arg5) = m ((c.tc : Thread Cert.GluKernelIdeal.nD Cert.GluKernelIdeal.τ).loc Cert.GluKernelIdeal.main_arg5))
      ∧ θ_run (Cert.GluReferenceIdeal.defs (F := Ideal)) (onTc (τ := Cert.GluReferenceIdeal.τ) (Cert.GluReferenceIdeal.main (F := Ideal))) ⟨m', fun _ => 0, g'⟩ (fun r => ∀ c : Dev Cert.GluReferenceIdeal.nD,
          r.2.mem ((c.tc : Thread Cert.GluReferenceIdeal.nD Cert.GluReferenceIdeal.τ).loc Cert.GluReferenceIdeal.main_v46) = v0 c
          ∧ r.2.mem ((c.tc : Thread Cert.GluReferenceIdeal.nD Cert.GluReferenceIdeal.τ).loc Cert.GluReferenceIdeal.main_v41) = v1 c
          ∧ r.2.mem ((c.tc : Thread Cert.GluReferenceIdeal.nD Cert.GluReferenceIdeal.τ).loc Cert.GluReferenceIdeal.main_v47) = v2 c
          ∧ r.2.mem ((c.tc : Thread Cert.GluReferenceIdeal.nD Cert.GluReferenceIdeal.τ).loc Cert.GluReferenceIdeal.main_arg0) = m' ((c.tc : Thread Cert.GluReferenceIdeal.nD Cert.GluReferenceIdeal.τ).loc Cert.GluReferenceIdeal.main_arg0)
          ∧ r.2.mem ((c.tc : Thread Cert.GluReferenceIdeal.nD Cert.GluReferenceIdeal.τ).loc Cert.GluReferenceIdeal.main_arg1) = m' ((c.tc : Thread Cert.GluReferenceIdeal.nD Cert.GluReferenceIdeal.τ).loc Cert.GluReferenceIdeal.main_arg1)
          ∧ r.2.mem ((c.tc : Thread Cert.GluReferenceIdeal.nD Cert.GluReferenceIdeal.τ).loc Cert.GluReferenceIdeal.main_arg2) = m' ((c.tc : Thread Cert.GluReferenceIdeal.nD Cert.GluReferenceIdeal.τ).loc Cert.GluReferenceIdeal.main_arg2)
          ∧ r.2.mem ((c.tc : Thread Cert.GluReferenceIdeal.nD Cert.GluReferenceIdeal.τ).loc Cert.GluReferenceIdeal.main_arg3) = m' ((c.tc : Thread Cert.GluReferenceIdeal.nD Cert.GluReferenceIdeal.τ).loc Cert.GluReferenceIdeal.main_arg3)
          ∧ r.2.mem ((c.tc : Thread Cert.GluReferenceIdeal.nD Cert.GluReferenceIdeal.τ).loc Cert.GluReferenceIdeal.main_arg4) = m' ((c.tc : Thread Cert.GluReferenceIdeal.nD Cert.GluReferenceIdeal.τ).loc Cert.GluReferenceIdeal.main_arg4)
          ∧ r.2.mem ((c.tc : Thread Cert.GluReferenceIdeal.nD Cert.GluReferenceIdeal.τ).loc Cert.GluReferenceIdeal.main_arg5) = m' ((c.tc : Thread Cert.GluReferenceIdeal.nD Cert.GluReferenceIdeal.τ).loc Cert.GluReferenceIdeal.main_arg5))

def preserves_PleKernel_PleKernelIdeal : Prop :=
  True

def algebraic_PleKernelIdeal_PleReferenceIdeal [hPleKernelIdeal : Cert.PleKernelIdeal.Facts] [hPleReferenceIdeal : Cert.PleReferenceIdeal.Facts] : Prop :=
  ∀ (m : (ℓ : Loc Cert.PleKernelIdeal.nD Cert.PleKernelIdeal.τ Cert.PleKernelIdeal.sig) → Buf (Elt Ideal) ℓ) (g : Dev Cert.PleKernelIdeal.nD → PrngReg)
    (m' : (ℓ : Loc Cert.PleReferenceIdeal.nD Cert.PleReferenceIdeal.τ Cert.PleReferenceIdeal.sig) → Buf (Elt Ideal) ℓ) (g' : Dev Cert.PleReferenceIdeal.nD → PrngReg), Pre_PleKernelIdeal m →
    (∀ c : Dev Cert.PleKernelIdeal.nD,
      m' ((c.tc : Thread Cert.PleReferenceIdeal.nD Cert.PleReferenceIdeal.τ).loc Cert.PleReferenceIdeal.main_arg0) = m ((c.tc : Thread Cert.PleKernelIdeal.nD Cert.PleKernelIdeal.τ).loc Cert.PleKernelIdeal.main_arg0)
      ∧ m' ((c.tc : Thread Cert.PleReferenceIdeal.nD Cert.PleReferenceIdeal.τ).loc Cert.PleReferenceIdeal.main_arg1) = m ((c.tc : Thread Cert.PleKernelIdeal.nD Cert.PleKernelIdeal.τ).loc Cert.PleKernelIdeal.main_arg1)
      ∧ m' ((c.tc : Thread Cert.PleReferenceIdeal.nD Cert.PleReferenceIdeal.τ).loc Cert.PleReferenceIdeal.main_arg2) = m ((c.tc : Thread Cert.PleKernelIdeal.nD Cert.PleKernelIdeal.τ).loc Cert.PleKernelIdeal.main_arg2)
      ∧ m' ((c.tc : Thread Cert.PleReferenceIdeal.nD Cert.PleReferenceIdeal.τ).loc Cert.PleReferenceIdeal.main_arg3) = m ((c.tc : Thread Cert.PleKernelIdeal.nD Cert.PleKernelIdeal.τ).loc Cert.PleKernelIdeal.main_arg3)
      ∧ m' ((c.tc : Thread Cert.PleReferenceIdeal.nD Cert.PleReferenceIdeal.τ).loc Cert.PleReferenceIdeal.main_arg4) = m ((c.tc : Thread Cert.PleKernelIdeal.nD Cert.PleKernelIdeal.τ).loc Cert.PleKernelIdeal.main_arg4)
      ∧ m' ((c.tc : Thread Cert.PleReferenceIdeal.nD Cert.PleReferenceIdeal.τ).loc Cert.PleReferenceIdeal.main_arg5) = m ((c.tc : Thread Cert.PleKernelIdeal.nD Cert.PleKernelIdeal.τ).loc Cert.PleKernelIdeal.main_arg5)) →
    ∃ (v0 : (c : Dev Cert.PleKernelIdeal.nD) → Buf (Elt Ideal) ((c.tc : Thread Cert.PleKernelIdeal.nD Cert.PleKernelIdeal.τ).loc Cert.PleKernelIdeal.main_v7_0)) (v1 : (c : Dev Cert.PleKernelIdeal.nD) → Buf (Elt Ideal) ((c.tc : Thread Cert.PleKernelIdeal.nD Cert.PleKernelIdeal.τ).loc Cert.PleKernelIdeal.main_v7_1)) (v2 : (c : Dev Cert.PleKernelIdeal.nD) → Buf (Elt Ideal) ((c.tc : Thread Cert.PleKernelIdeal.nD Cert.PleKernelIdeal.τ).loc Cert.PleKernelIdeal.main_v7_2)),
      θ_run (Cert.PleKernelIdeal.defs (F := Ideal)) (onTc (τ := Cert.PleKernelIdeal.τ) (Cert.PleKernelIdeal.main (F := Ideal))) ⟨m, fun _ => 0, g⟩ (fun r => ∀ c : Dev Cert.PleKernelIdeal.nD,
          r.2.mem ((c.tc : Thread Cert.PleKernelIdeal.nD Cert.PleKernelIdeal.τ).loc Cert.PleKernelIdeal.main_v7_0) = v0 c
          ∧ r.2.mem ((c.tc : Thread Cert.PleKernelIdeal.nD Cert.PleKernelIdeal.τ).loc Cert.PleKernelIdeal.main_v7_1) = v1 c
          ∧ r.2.mem ((c.tc : Thread Cert.PleKernelIdeal.nD Cert.PleKernelIdeal.τ).loc Cert.PleKernelIdeal.main_v7_2) = v2 c
          ∧ r.2.mem ((c.tc : Thread Cert.PleKernelIdeal.nD Cert.PleKernelIdeal.τ).loc Cert.PleKernelIdeal.main_arg0) = m ((c.tc : Thread Cert.PleKernelIdeal.nD Cert.PleKernelIdeal.τ).loc Cert.PleKernelIdeal.main_arg0)
          ∧ r.2.mem ((c.tc : Thread Cert.PleKernelIdeal.nD Cert.PleKernelIdeal.τ).loc Cert.PleKernelIdeal.main_arg1) = m ((c.tc : Thread Cert.PleKernelIdeal.nD Cert.PleKernelIdeal.τ).loc Cert.PleKernelIdeal.main_arg1)
          ∧ r.2.mem ((c.tc : Thread Cert.PleKernelIdeal.nD Cert.PleKernelIdeal.τ).loc Cert.PleKernelIdeal.main_arg2) = m ((c.tc : Thread Cert.PleKernelIdeal.nD Cert.PleKernelIdeal.τ).loc Cert.PleKernelIdeal.main_arg2)
          ∧ r.2.mem ((c.tc : Thread Cert.PleKernelIdeal.nD Cert.PleKernelIdeal.τ).loc Cert.PleKernelIdeal.main_arg3) = m ((c.tc : Thread Cert.PleKernelIdeal.nD Cert.PleKernelIdeal.τ).loc Cert.PleKernelIdeal.main_arg3)
          ∧ r.2.mem ((c.tc : Thread Cert.PleKernelIdeal.nD Cert.PleKernelIdeal.τ).loc Cert.PleKernelIdeal.main_arg4) = m ((c.tc : Thread Cert.PleKernelIdeal.nD Cert.PleKernelIdeal.τ).loc Cert.PleKernelIdeal.main_arg4)
          ∧ r.2.mem ((c.tc : Thread Cert.PleKernelIdeal.nD Cert.PleKernelIdeal.τ).loc Cert.PleKernelIdeal.main_arg5) = m ((c.tc : Thread Cert.PleKernelIdeal.nD Cert.PleKernelIdeal.τ).loc Cert.PleKernelIdeal.main_arg5))
      ∧ θ_run (Cert.PleReferenceIdeal.defs (F := Ideal)) (onTc (τ := Cert.PleReferenceIdeal.τ) (Cert.PleReferenceIdeal.main (F := Ideal))) ⟨m', fun _ => 0, g'⟩ (fun r => ∀ c : Dev Cert.PleReferenceIdeal.nD,
          r.2.mem ((c.tc : Thread Cert.PleReferenceIdeal.nD Cert.PleReferenceIdeal.τ).loc Cert.PleReferenceIdeal.main_v52) = v0 c
          ∧ r.2.mem ((c.tc : Thread Cert.PleReferenceIdeal.nD Cert.PleReferenceIdeal.τ).loc Cert.PleReferenceIdeal.main_v53) = v1 c
          ∧ r.2.mem ((c.tc : Thread Cert.PleReferenceIdeal.nD Cert.PleReferenceIdeal.τ).loc Cert.PleReferenceIdeal.main_v54) = v2 c
          ∧ r.2.mem ((c.tc : Thread Cert.PleReferenceIdeal.nD Cert.PleReferenceIdeal.τ).loc Cert.PleReferenceIdeal.main_arg0) = m' ((c.tc : Thread Cert.PleReferenceIdeal.nD Cert.PleReferenceIdeal.τ).loc Cert.PleReferenceIdeal.main_arg0)
          ∧ r.2.mem ((c.tc : Thread Cert.PleReferenceIdeal.nD Cert.PleReferenceIdeal.τ).loc Cert.PleReferenceIdeal.main_arg1) = m' ((c.tc : Thread Cert.PleReferenceIdeal.nD Cert.PleReferenceIdeal.τ).loc Cert.PleReferenceIdeal.main_arg1)
          ∧ r.2.mem ((c.tc : Thread Cert.PleReferenceIdeal.nD Cert.PleReferenceIdeal.τ).loc Cert.PleReferenceIdeal.main_arg2) = m' ((c.tc : Thread Cert.PleReferenceIdeal.nD Cert.PleReferenceIdeal.τ).loc Cert.PleReferenceIdeal.main_arg2)
          ∧ r.2.mem ((c.tc : Thread Cert.PleReferenceIdeal.nD Cert.PleReferenceIdeal.τ).loc Cert.PleReferenceIdeal.main_arg3) = m' ((c.tc : Thread Cert.PleReferenceIdeal.nD Cert.PleReferenceIdeal.τ).loc Cert.PleReferenceIdeal.main_arg3)
          ∧ r.2.mem ((c.tc : Thread Cert.PleReferenceIdeal.nD Cert.PleReferenceIdeal.τ).loc Cert.PleReferenceIdeal.main_arg4) = m' ((c.tc : Thread Cert.PleReferenceIdeal.nD Cert.PleReferenceIdeal.τ).loc Cert.PleReferenceIdeal.main_arg4)
          ∧ r.2.mem ((c.tc : Thread Cert.PleReferenceIdeal.nD Cert.PleReferenceIdeal.τ).loc Cert.PleReferenceIdeal.main_arg5) = m' ((c.tc : Thread Cert.PleReferenceIdeal.nD Cert.PleReferenceIdeal.τ).loc Cert.PleReferenceIdeal.main_arg5))

def preserves_FfnPostKernel_FfnPostKernelIdeal : Prop :=
  True

def algebraic_FfnPostKernelIdeal_FfnPostReferenceIdeal [hFfnPostKernelIdeal : Cert.FfnPostKernelIdeal.Facts] [hFfnPostReferenceIdeal : Cert.FfnPostReferenceIdeal.Facts] : Prop :=
  ∀ (m : (ℓ : Loc Cert.FfnPostKernelIdeal.nD Cert.FfnPostKernelIdeal.τ Cert.FfnPostKernelIdeal.sig) → Buf (Elt Ideal) ℓ) (g : Dev Cert.FfnPostKernelIdeal.nD → PrngReg)
    (m' : (ℓ : Loc Cert.FfnPostReferenceIdeal.nD Cert.FfnPostReferenceIdeal.τ Cert.FfnPostReferenceIdeal.sig) → Buf (Elt Ideal) ℓ) (g' : Dev Cert.FfnPostReferenceIdeal.nD → PrngReg), Pre_FfnPostKernelIdeal m →
    (∀ c : Dev Cert.FfnPostKernelIdeal.nD,
      m' ((c.tc : Thread Cert.FfnPostReferenceIdeal.nD Cert.FfnPostReferenceIdeal.τ).loc Cert.FfnPostReferenceIdeal.main_arg0) = m ((c.tc : Thread Cert.FfnPostKernelIdeal.nD Cert.FfnPostKernelIdeal.τ).loc Cert.FfnPostKernelIdeal.main_arg0)
      ∧ m' ((c.tc : Thread Cert.FfnPostReferenceIdeal.nD Cert.FfnPostReferenceIdeal.τ).loc Cert.FfnPostReferenceIdeal.main_arg1) = m ((c.tc : Thread Cert.FfnPostKernelIdeal.nD Cert.FfnPostKernelIdeal.τ).loc Cert.FfnPostKernelIdeal.main_arg1)
      ∧ m' ((c.tc : Thread Cert.FfnPostReferenceIdeal.nD Cert.FfnPostReferenceIdeal.τ).loc Cert.FfnPostReferenceIdeal.main_arg2) = m ((c.tc : Thread Cert.FfnPostKernelIdeal.nD Cert.FfnPostKernelIdeal.τ).loc Cert.FfnPostKernelIdeal.main_arg2)
      ∧ m' ((c.tc : Thread Cert.FfnPostReferenceIdeal.nD Cert.FfnPostReferenceIdeal.τ).loc Cert.FfnPostReferenceIdeal.main_arg3) = m ((c.tc : Thread Cert.FfnPostKernelIdeal.nD Cert.FfnPostKernelIdeal.τ).loc Cert.FfnPostKernelIdeal.main_arg3)
      ∧ m' ((c.tc : Thread Cert.FfnPostReferenceIdeal.nD Cert.FfnPostReferenceIdeal.τ).loc Cert.FfnPostReferenceIdeal.main_arg4) = m ((c.tc : Thread Cert.FfnPostKernelIdeal.nD Cert.FfnPostKernelIdeal.τ).loc Cert.FfnPostKernelIdeal.main_arg4)
      ∧ m' ((c.tc : Thread Cert.FfnPostReferenceIdeal.nD Cert.FfnPostReferenceIdeal.τ).loc Cert.FfnPostReferenceIdeal.main_arg5) = m ((c.tc : Thread Cert.FfnPostKernelIdeal.nD Cert.FfnPostKernelIdeal.τ).loc Cert.FfnPostKernelIdeal.main_arg5)) →
    ∃ (v0 : (c : Dev Cert.FfnPostKernelIdeal.nD) → Buf (Elt Ideal) ((c.tc : Thread Cert.FfnPostKernelIdeal.nD Cert.FfnPostKernelIdeal.τ).loc Cert.FfnPostKernelIdeal.main_v6_0)) (v1 : (c : Dev Cert.FfnPostKernelIdeal.nD) → Buf (Elt Ideal) ((c.tc : Thread Cert.FfnPostKernelIdeal.nD Cert.FfnPostKernelIdeal.τ).loc Cert.FfnPostKernelIdeal.main_v6_1)) (v2 : (c : Dev Cert.FfnPostKernelIdeal.nD) → Buf (Elt Ideal) ((c.tc : Thread Cert.FfnPostKernelIdeal.nD Cert.FfnPostKernelIdeal.τ).loc Cert.FfnPostKernelIdeal.main_v6_2)),
      θ_run (Cert.FfnPostKernelIdeal.defs (F := Ideal)) (onTc (τ := Cert.FfnPostKernelIdeal.τ) (Cert.FfnPostKernelIdeal.main (F := Ideal))) ⟨m, fun _ => 0, g⟩ (fun r => ∀ c : Dev Cert.FfnPostKernelIdeal.nD,
          r.2.mem ((c.tc : Thread Cert.FfnPostKernelIdeal.nD Cert.FfnPostKernelIdeal.τ).loc Cert.FfnPostKernelIdeal.main_v6_0) = v0 c
          ∧ r.2.mem ((c.tc : Thread Cert.FfnPostKernelIdeal.nD Cert.FfnPostKernelIdeal.τ).loc Cert.FfnPostKernelIdeal.main_v6_1) = v1 c
          ∧ r.2.mem ((c.tc : Thread Cert.FfnPostKernelIdeal.nD Cert.FfnPostKernelIdeal.τ).loc Cert.FfnPostKernelIdeal.main_v6_2) = v2 c
          ∧ r.2.mem ((c.tc : Thread Cert.FfnPostKernelIdeal.nD Cert.FfnPostKernelIdeal.τ).loc Cert.FfnPostKernelIdeal.main_arg0) = m ((c.tc : Thread Cert.FfnPostKernelIdeal.nD Cert.FfnPostKernelIdeal.τ).loc Cert.FfnPostKernelIdeal.main_arg0)
          ∧ r.2.mem ((c.tc : Thread Cert.FfnPostKernelIdeal.nD Cert.FfnPostKernelIdeal.τ).loc Cert.FfnPostKernelIdeal.main_arg1) = m ((c.tc : Thread Cert.FfnPostKernelIdeal.nD Cert.FfnPostKernelIdeal.τ).loc Cert.FfnPostKernelIdeal.main_arg1)
          ∧ r.2.mem ((c.tc : Thread Cert.FfnPostKernelIdeal.nD Cert.FfnPostKernelIdeal.τ).loc Cert.FfnPostKernelIdeal.main_arg2) = m ((c.tc : Thread Cert.FfnPostKernelIdeal.nD Cert.FfnPostKernelIdeal.τ).loc Cert.FfnPostKernelIdeal.main_arg2)
          ∧ r.2.mem ((c.tc : Thread Cert.FfnPostKernelIdeal.nD Cert.FfnPostKernelIdeal.τ).loc Cert.FfnPostKernelIdeal.main_arg3) = m ((c.tc : Thread Cert.FfnPostKernelIdeal.nD Cert.FfnPostKernelIdeal.τ).loc Cert.FfnPostKernelIdeal.main_arg3)
          ∧ r.2.mem ((c.tc : Thread Cert.FfnPostKernelIdeal.nD Cert.FfnPostKernelIdeal.τ).loc Cert.FfnPostKernelIdeal.main_arg4) = m ((c.tc : Thread Cert.FfnPostKernelIdeal.nD Cert.FfnPostKernelIdeal.τ).loc Cert.FfnPostKernelIdeal.main_arg4)
          ∧ r.2.mem ((c.tc : Thread Cert.FfnPostKernelIdeal.nD Cert.FfnPostKernelIdeal.τ).loc Cert.FfnPostKernelIdeal.main_arg5) = m ((c.tc : Thread Cert.FfnPostKernelIdeal.nD Cert.FfnPostKernelIdeal.τ).loc Cert.FfnPostKernelIdeal.main_arg5))
      ∧ θ_run (Cert.FfnPostReferenceIdeal.defs (F := Ideal)) (onTc (τ := Cert.FfnPostReferenceIdeal.τ) (Cert.FfnPostReferenceIdeal.main (F := Ideal))) ⟨m', fun _ => 0, g'⟩ (fun r => ∀ c : Dev Cert.FfnPostReferenceIdeal.nD,
          r.2.mem ((c.tc : Thread Cert.FfnPostReferenceIdeal.nD Cert.FfnPostReferenceIdeal.τ).loc Cert.FfnPostReferenceIdeal.main_v24) = v0 c
          ∧ r.2.mem ((c.tc : Thread Cert.FfnPostReferenceIdeal.nD Cert.FfnPostReferenceIdeal.τ).loc Cert.FfnPostReferenceIdeal.main_v48) = v1 c
          ∧ r.2.mem ((c.tc : Thread Cert.FfnPostReferenceIdeal.nD Cert.FfnPostReferenceIdeal.τ).loc Cert.FfnPostReferenceIdeal.main_v49) = v2 c
          ∧ r.2.mem ((c.tc : Thread Cert.FfnPostReferenceIdeal.nD Cert.FfnPostReferenceIdeal.τ).loc Cert.FfnPostReferenceIdeal.main_arg0) = m' ((c.tc : Thread Cert.FfnPostReferenceIdeal.nD Cert.FfnPostReferenceIdeal.τ).loc Cert.FfnPostReferenceIdeal.main_arg0)
          ∧ r.2.mem ((c.tc : Thread Cert.FfnPostReferenceIdeal.nD Cert.FfnPostReferenceIdeal.τ).loc Cert.FfnPostReferenceIdeal.main_arg1) = m' ((c.tc : Thread Cert.FfnPostReferenceIdeal.nD Cert.FfnPostReferenceIdeal.τ).loc Cert.FfnPostReferenceIdeal.main_arg1)
          ∧ r.2.mem ((c.tc : Thread Cert.FfnPostReferenceIdeal.nD Cert.FfnPostReferenceIdeal.τ).loc Cert.FfnPostReferenceIdeal.main_arg2) = m' ((c.tc : Thread Cert.FfnPostReferenceIdeal.nD Cert.FfnPostReferenceIdeal.τ).loc Cert.FfnPostReferenceIdeal.main_arg2)
          ∧ r.2.mem ((c.tc : Thread Cert.FfnPostReferenceIdeal.nD Cert.FfnPostReferenceIdeal.τ).loc Cert.FfnPostReferenceIdeal.main_arg3) = m' ((c.tc : Thread Cert.FfnPostReferenceIdeal.nD Cert.FfnPostReferenceIdeal.τ).loc Cert.FfnPostReferenceIdeal.main_arg3)
          ∧ r.2.mem ((c.tc : Thread Cert.FfnPostReferenceIdeal.nD Cert.FfnPostReferenceIdeal.τ).loc Cert.FfnPostReferenceIdeal.main_arg4) = m' ((c.tc : Thread Cert.FfnPostReferenceIdeal.nD Cert.FfnPostReferenceIdeal.τ).loc Cert.FfnPostReferenceIdeal.main_arg4)
          ∧ r.2.mem ((c.tc : Thread Cert.FfnPostReferenceIdeal.nD Cert.FfnPostReferenceIdeal.τ).loc Cert.FfnPostReferenceIdeal.main_arg5) = m' ((c.tc : Thread Cert.FfnPostReferenceIdeal.nD Cert.FfnPostReferenceIdeal.τ).loc Cert.FfnPostReferenceIdeal.main_arg5))

def preserves_FfnPreKernel_FfnPreKernelIdeal : Prop :=
  True

def algebraic_FfnPreKernelIdeal_FfnPreReferenceIdeal [hFfnPreKernelIdeal : Cert.FfnPreKernelIdeal.Facts] [hFfnPreReferenceIdeal : Cert.FfnPreReferenceIdeal.Facts] : Prop :=
  ∀ (m : (ℓ : Loc Cert.FfnPreKernelIdeal.nD Cert.FfnPreKernelIdeal.τ Cert.FfnPreKernelIdeal.sig) → Buf (Elt Ideal) ℓ) (g : Dev Cert.FfnPreKernelIdeal.nD → PrngReg)
    (m' : (ℓ : Loc Cert.FfnPreReferenceIdeal.nD Cert.FfnPreReferenceIdeal.τ Cert.FfnPreReferenceIdeal.sig) → Buf (Elt Ideal) ℓ) (g' : Dev Cert.FfnPreReferenceIdeal.nD → PrngReg), Pre_FfnPreKernelIdeal m →
    (∀ c : Dev Cert.FfnPreKernelIdeal.nD,
      m' ((c.tc : Thread Cert.FfnPreReferenceIdeal.nD Cert.FfnPreReferenceIdeal.τ).loc Cert.FfnPreReferenceIdeal.main_arg0) = m ((c.tc : Thread Cert.FfnPreKernelIdeal.nD Cert.FfnPreKernelIdeal.τ).loc Cert.FfnPreKernelIdeal.main_arg0)
      ∧ m' ((c.tc : Thread Cert.FfnPreReferenceIdeal.nD Cert.FfnPreReferenceIdeal.τ).loc Cert.FfnPreReferenceIdeal.main_arg1) = m ((c.tc : Thread Cert.FfnPreKernelIdeal.nD Cert.FfnPreKernelIdeal.τ).loc Cert.FfnPreKernelIdeal.main_arg1)
      ∧ m' ((c.tc : Thread Cert.FfnPreReferenceIdeal.nD Cert.FfnPreReferenceIdeal.τ).loc Cert.FfnPreReferenceIdeal.main_arg2) = m ((c.tc : Thread Cert.FfnPreKernelIdeal.nD Cert.FfnPreKernelIdeal.τ).loc Cert.FfnPreKernelIdeal.main_arg2)
      ∧ m' ((c.tc : Thread Cert.FfnPreReferenceIdeal.nD Cert.FfnPreReferenceIdeal.τ).loc Cert.FfnPreReferenceIdeal.main_arg3) = m ((c.tc : Thread Cert.FfnPreKernelIdeal.nD Cert.FfnPreKernelIdeal.τ).loc Cert.FfnPreKernelIdeal.main_arg3)
      ∧ m' ((c.tc : Thread Cert.FfnPreReferenceIdeal.nD Cert.FfnPreReferenceIdeal.τ).loc Cert.FfnPreReferenceIdeal.main_arg4) = m ((c.tc : Thread Cert.FfnPreKernelIdeal.nD Cert.FfnPreKernelIdeal.τ).loc Cert.FfnPreKernelIdeal.main_arg4)
      ∧ m' ((c.tc : Thread Cert.FfnPreReferenceIdeal.nD Cert.FfnPreReferenceIdeal.τ).loc Cert.FfnPreReferenceIdeal.main_arg5) = m ((c.tc : Thread Cert.FfnPreKernelIdeal.nD Cert.FfnPreKernelIdeal.τ).loc Cert.FfnPreKernelIdeal.main_arg5)
      ∧ m' ((c.tc : Thread Cert.FfnPreReferenceIdeal.nD Cert.FfnPreReferenceIdeal.τ).loc Cert.FfnPreReferenceIdeal.main_arg6) = m ((c.tc : Thread Cert.FfnPreKernelIdeal.nD Cert.FfnPreKernelIdeal.τ).loc Cert.FfnPreKernelIdeal.main_arg6)
      ∧ m' ((c.tc : Thread Cert.FfnPreReferenceIdeal.nD Cert.FfnPreReferenceIdeal.τ).loc Cert.FfnPreReferenceIdeal.main_arg7) = m ((c.tc : Thread Cert.FfnPreKernelIdeal.nD Cert.FfnPreKernelIdeal.τ).loc Cert.FfnPreKernelIdeal.main_arg7)
      ∧ m' ((c.tc : Thread Cert.FfnPreReferenceIdeal.nD Cert.FfnPreReferenceIdeal.τ).loc Cert.FfnPreReferenceIdeal.main_arg8) = m ((c.tc : Thread Cert.FfnPreKernelIdeal.nD Cert.FfnPreKernelIdeal.τ).loc Cert.FfnPreKernelIdeal.main_arg8)
      ∧ m' ((c.tc : Thread Cert.FfnPreReferenceIdeal.nD Cert.FfnPreReferenceIdeal.τ).loc Cert.FfnPreReferenceIdeal.main_arg9) = m ((c.tc : Thread Cert.FfnPreKernelIdeal.nD Cert.FfnPreKernelIdeal.τ).loc Cert.FfnPreKernelIdeal.main_arg9)
      ∧ m' ((c.tc : Thread Cert.FfnPreReferenceIdeal.nD Cert.FfnPreReferenceIdeal.τ).loc Cert.FfnPreReferenceIdeal.main_arg10) = m ((c.tc : Thread Cert.FfnPreKernelIdeal.nD Cert.FfnPreKernelIdeal.τ).loc Cert.FfnPreKernelIdeal.main_arg10)
      ∧ m' ((c.tc : Thread Cert.FfnPreReferenceIdeal.nD Cert.FfnPreReferenceIdeal.τ).loc Cert.FfnPreReferenceIdeal.main_arg11) = m ((c.tc : Thread Cert.FfnPreKernelIdeal.nD Cert.FfnPreKernelIdeal.τ).loc Cert.FfnPreKernelIdeal.main_arg11)
      ∧ m' ((c.tc : Thread Cert.FfnPreReferenceIdeal.nD Cert.FfnPreReferenceIdeal.τ).loc Cert.FfnPreReferenceIdeal.main_arg12) = m ((c.tc : Thread Cert.FfnPreKernelIdeal.nD Cert.FfnPreKernelIdeal.τ).loc Cert.FfnPreKernelIdeal.main_arg12)) →
    ∃ (v0 : (c : Dev Cert.FfnPreKernelIdeal.nD) → Buf (Elt Ideal) ((c.tc : Thread Cert.FfnPreKernelIdeal.nD Cert.FfnPreKernelIdeal.τ).loc Cert.FfnPreKernelIdeal.main_v51_0)) (v1 : (c : Dev Cert.FfnPreKernelIdeal.nD) → Buf (Elt Ideal) ((c.tc : Thread Cert.FfnPreKernelIdeal.nD Cert.FfnPreKernelIdeal.τ).loc Cert.FfnPreKernelIdeal.main_v51_1)) (v2 : (c : Dev Cert.FfnPreKernelIdeal.nD) → Buf (Elt Ideal) ((c.tc : Thread Cert.FfnPreKernelIdeal.nD Cert.FfnPreKernelIdeal.τ).loc Cert.FfnPreKernelIdeal.main_v51_2)) (v3 : (c : Dev Cert.FfnPreKernelIdeal.nD) → Buf (Elt Ideal) ((c.tc : Thread Cert.FfnPreKernelIdeal.nD Cert.FfnPreKernelIdeal.τ).loc Cert.FfnPreKernelIdeal.main_v51_3)),
      θ_run (Cert.FfnPreKernelIdeal.defs (F := Ideal)) (onTc (τ := Cert.FfnPreKernelIdeal.τ) (Cert.FfnPreKernelIdeal.main (F := Ideal))) ⟨m, fun _ => 0, g⟩ (fun r => ∀ c : Dev Cert.FfnPreKernelIdeal.nD,
          r.2.mem ((c.tc : Thread Cert.FfnPreKernelIdeal.nD Cert.FfnPreKernelIdeal.τ).loc Cert.FfnPreKernelIdeal.main_v51_0) = v0 c
          ∧ r.2.mem ((c.tc : Thread Cert.FfnPreKernelIdeal.nD Cert.FfnPreKernelIdeal.τ).loc Cert.FfnPreKernelIdeal.main_v51_1) = v1 c
          ∧ r.2.mem ((c.tc : Thread Cert.FfnPreKernelIdeal.nD Cert.FfnPreKernelIdeal.τ).loc Cert.FfnPreKernelIdeal.main_v51_2) = v2 c
          ∧ r.2.mem ((c.tc : Thread Cert.FfnPreKernelIdeal.nD Cert.FfnPreKernelIdeal.τ).loc Cert.FfnPreKernelIdeal.main_v51_3) = v3 c
          ∧ r.2.mem ((c.tc : Thread Cert.FfnPreKernelIdeal.nD Cert.FfnPreKernelIdeal.τ).loc Cert.FfnPreKernelIdeal.main_arg0) = m ((c.tc : Thread Cert.FfnPreKernelIdeal.nD Cert.FfnPreKernelIdeal.τ).loc Cert.FfnPreKernelIdeal.main_arg0)
          ∧ r.2.mem ((c.tc : Thread Cert.FfnPreKernelIdeal.nD Cert.FfnPreKernelIdeal.τ).loc Cert.FfnPreKernelIdeal.main_arg1) = m ((c.tc : Thread Cert.FfnPreKernelIdeal.nD Cert.FfnPreKernelIdeal.τ).loc Cert.FfnPreKernelIdeal.main_arg1)
          ∧ r.2.mem ((c.tc : Thread Cert.FfnPreKernelIdeal.nD Cert.FfnPreKernelIdeal.τ).loc Cert.FfnPreKernelIdeal.main_arg2) = m ((c.tc : Thread Cert.FfnPreKernelIdeal.nD Cert.FfnPreKernelIdeal.τ).loc Cert.FfnPreKernelIdeal.main_arg2)
          ∧ r.2.mem ((c.tc : Thread Cert.FfnPreKernelIdeal.nD Cert.FfnPreKernelIdeal.τ).loc Cert.FfnPreKernelIdeal.main_arg3) = m ((c.tc : Thread Cert.FfnPreKernelIdeal.nD Cert.FfnPreKernelIdeal.τ).loc Cert.FfnPreKernelIdeal.main_arg3)
          ∧ r.2.mem ((c.tc : Thread Cert.FfnPreKernelIdeal.nD Cert.FfnPreKernelIdeal.τ).loc Cert.FfnPreKernelIdeal.main_arg4) = m ((c.tc : Thread Cert.FfnPreKernelIdeal.nD Cert.FfnPreKernelIdeal.τ).loc Cert.FfnPreKernelIdeal.main_arg4)
          ∧ r.2.mem ((c.tc : Thread Cert.FfnPreKernelIdeal.nD Cert.FfnPreKernelIdeal.τ).loc Cert.FfnPreKernelIdeal.main_arg5) = m ((c.tc : Thread Cert.FfnPreKernelIdeal.nD Cert.FfnPreKernelIdeal.τ).loc Cert.FfnPreKernelIdeal.main_arg5)
          ∧ r.2.mem ((c.tc : Thread Cert.FfnPreKernelIdeal.nD Cert.FfnPreKernelIdeal.τ).loc Cert.FfnPreKernelIdeal.main_arg6) = m ((c.tc : Thread Cert.FfnPreKernelIdeal.nD Cert.FfnPreKernelIdeal.τ).loc Cert.FfnPreKernelIdeal.main_arg6)
          ∧ r.2.mem ((c.tc : Thread Cert.FfnPreKernelIdeal.nD Cert.FfnPreKernelIdeal.τ).loc Cert.FfnPreKernelIdeal.main_arg7) = m ((c.tc : Thread Cert.FfnPreKernelIdeal.nD Cert.FfnPreKernelIdeal.τ).loc Cert.FfnPreKernelIdeal.main_arg7)
          ∧ r.2.mem ((c.tc : Thread Cert.FfnPreKernelIdeal.nD Cert.FfnPreKernelIdeal.τ).loc Cert.FfnPreKernelIdeal.main_arg8) = m ((c.tc : Thread Cert.FfnPreKernelIdeal.nD Cert.FfnPreKernelIdeal.τ).loc Cert.FfnPreKernelIdeal.main_arg8)
          ∧ r.2.mem ((c.tc : Thread Cert.FfnPreKernelIdeal.nD Cert.FfnPreKernelIdeal.τ).loc Cert.FfnPreKernelIdeal.main_arg9) = m ((c.tc : Thread Cert.FfnPreKernelIdeal.nD Cert.FfnPreKernelIdeal.τ).loc Cert.FfnPreKernelIdeal.main_arg9)
          ∧ r.2.mem ((c.tc : Thread Cert.FfnPreKernelIdeal.nD Cert.FfnPreKernelIdeal.τ).loc Cert.FfnPreKernelIdeal.main_arg10) = m ((c.tc : Thread Cert.FfnPreKernelIdeal.nD Cert.FfnPreKernelIdeal.τ).loc Cert.FfnPreKernelIdeal.main_arg10)
          ∧ r.2.mem ((c.tc : Thread Cert.FfnPreKernelIdeal.nD Cert.FfnPreKernelIdeal.τ).loc Cert.FfnPreKernelIdeal.main_arg11) = m ((c.tc : Thread Cert.FfnPreKernelIdeal.nD Cert.FfnPreKernelIdeal.τ).loc Cert.FfnPreKernelIdeal.main_arg11)
          ∧ r.2.mem ((c.tc : Thread Cert.FfnPreKernelIdeal.nD Cert.FfnPreKernelIdeal.τ).loc Cert.FfnPreKernelIdeal.main_arg12) = m ((c.tc : Thread Cert.FfnPreKernelIdeal.nD Cert.FfnPreKernelIdeal.τ).loc Cert.FfnPreKernelIdeal.main_arg12))
      ∧ θ_run (Cert.FfnPreReferenceIdeal.defs (F := Ideal)) (onTc (τ := Cert.FfnPreReferenceIdeal.τ) (Cert.FfnPreReferenceIdeal.main (F := Ideal))) ⟨m', fun _ => 0, g'⟩ (fun r => ∀ c : Dev Cert.FfnPreReferenceIdeal.nD,
          r.2.mem ((c.tc : Thread Cert.FfnPreReferenceIdeal.nD Cert.FfnPreReferenceIdeal.τ).loc Cert.FfnPreReferenceIdeal.main_v86) = v0 c
          ∧ r.2.mem ((c.tc : Thread Cert.FfnPreReferenceIdeal.nD Cert.FfnPreReferenceIdeal.τ).loc Cert.FfnPreReferenceIdeal.main_v108) = v1 c
          ∧ r.2.mem ((c.tc : Thread Cert.FfnPreReferenceIdeal.nD Cert.FfnPreReferenceIdeal.τ).loc Cert.FfnPreReferenceIdeal.main_v109) = v2 c
          ∧ r.2.mem ((c.tc : Thread Cert.FfnPreReferenceIdeal.nD Cert.FfnPreReferenceIdeal.τ).loc Cert.FfnPreReferenceIdeal.main_v110) = v3 c
          ∧ r.2.mem ((c.tc : Thread Cert.FfnPreReferenceIdeal.nD Cert.FfnPreReferenceIdeal.τ).loc Cert.FfnPreReferenceIdeal.main_arg0) = m' ((c.tc : Thread Cert.FfnPreReferenceIdeal.nD Cert.FfnPreReferenceIdeal.τ).loc Cert.FfnPreReferenceIdeal.main_arg0)
          ∧ r.2.mem ((c.tc : Thread Cert.FfnPreReferenceIdeal.nD Cert.FfnPreReferenceIdeal.τ).loc Cert.FfnPreReferenceIdeal.main_arg1) = m' ((c.tc : Thread Cert.FfnPreReferenceIdeal.nD Cert.FfnPreReferenceIdeal.τ).loc Cert.FfnPreReferenceIdeal.main_arg1)
          ∧ r.2.mem ((c.tc : Thread Cert.FfnPreReferenceIdeal.nD Cert.FfnPreReferenceIdeal.τ).loc Cert.FfnPreReferenceIdeal.main_arg2) = m' ((c.tc : Thread Cert.FfnPreReferenceIdeal.nD Cert.FfnPreReferenceIdeal.τ).loc Cert.FfnPreReferenceIdeal.main_arg2)
          ∧ r.2.mem ((c.tc : Thread Cert.FfnPreReferenceIdeal.nD Cert.FfnPreReferenceIdeal.τ).loc Cert.FfnPreReferenceIdeal.main_arg3) = m' ((c.tc : Thread Cert.FfnPreReferenceIdeal.nD Cert.FfnPreReferenceIdeal.τ).loc Cert.FfnPreReferenceIdeal.main_arg3)
          ∧ r.2.mem ((c.tc : Thread Cert.FfnPreReferenceIdeal.nD Cert.FfnPreReferenceIdeal.τ).loc Cert.FfnPreReferenceIdeal.main_arg4) = m' ((c.tc : Thread Cert.FfnPreReferenceIdeal.nD Cert.FfnPreReferenceIdeal.τ).loc Cert.FfnPreReferenceIdeal.main_arg4)
          ∧ r.2.mem ((c.tc : Thread Cert.FfnPreReferenceIdeal.nD Cert.FfnPreReferenceIdeal.τ).loc Cert.FfnPreReferenceIdeal.main_arg5) = m' ((c.tc : Thread Cert.FfnPreReferenceIdeal.nD Cert.FfnPreReferenceIdeal.τ).loc Cert.FfnPreReferenceIdeal.main_arg5)
          ∧ r.2.mem ((c.tc : Thread Cert.FfnPreReferenceIdeal.nD Cert.FfnPreReferenceIdeal.τ).loc Cert.FfnPreReferenceIdeal.main_arg6) = m' ((c.tc : Thread Cert.FfnPreReferenceIdeal.nD Cert.FfnPreReferenceIdeal.τ).loc Cert.FfnPreReferenceIdeal.main_arg6)
          ∧ r.2.mem ((c.tc : Thread Cert.FfnPreReferenceIdeal.nD Cert.FfnPreReferenceIdeal.τ).loc Cert.FfnPreReferenceIdeal.main_arg7) = m' ((c.tc : Thread Cert.FfnPreReferenceIdeal.nD Cert.FfnPreReferenceIdeal.τ).loc Cert.FfnPreReferenceIdeal.main_arg7)
          ∧ r.2.mem ((c.tc : Thread Cert.FfnPreReferenceIdeal.nD Cert.FfnPreReferenceIdeal.τ).loc Cert.FfnPreReferenceIdeal.main_arg8) = m' ((c.tc : Thread Cert.FfnPreReferenceIdeal.nD Cert.FfnPreReferenceIdeal.τ).loc Cert.FfnPreReferenceIdeal.main_arg8)
          ∧ r.2.mem ((c.tc : Thread Cert.FfnPreReferenceIdeal.nD Cert.FfnPreReferenceIdeal.τ).loc Cert.FfnPreReferenceIdeal.main_arg9) = m' ((c.tc : Thread Cert.FfnPreReferenceIdeal.nD Cert.FfnPreReferenceIdeal.τ).loc Cert.FfnPreReferenceIdeal.main_arg9)
          ∧ r.2.mem ((c.tc : Thread Cert.FfnPreReferenceIdeal.nD Cert.FfnPreReferenceIdeal.τ).loc Cert.FfnPreReferenceIdeal.main_arg10) = m' ((c.tc : Thread Cert.FfnPreReferenceIdeal.nD Cert.FfnPreReferenceIdeal.τ).loc Cert.FfnPreReferenceIdeal.main_arg10)
          ∧ r.2.mem ((c.tc : Thread Cert.FfnPreReferenceIdeal.nD Cert.FfnPreReferenceIdeal.τ).loc Cert.FfnPreReferenceIdeal.main_arg11) = m' ((c.tc : Thread Cert.FfnPreReferenceIdeal.nD Cert.FfnPreReferenceIdeal.τ).loc Cert.FfnPreReferenceIdeal.main_arg11)
          ∧ r.2.mem ((c.tc : Thread Cert.FfnPreReferenceIdeal.nD Cert.FfnPreReferenceIdeal.τ).loc Cert.FfnPreReferenceIdeal.main_arg12) = m' ((c.tc : Thread Cert.FfnPreReferenceIdeal.nD Cert.FfnPreReferenceIdeal.τ).loc Cert.FfnPreReferenceIdeal.main_arg12))

def preserves_MixInKernel_MixInKernelIdeal : Prop :=
  True

def algebraic_MixInKernelIdeal_MixInReferenceIdeal [hMixInKernelIdeal : Cert.MixInKernelIdeal.Facts] [hMixInReferenceIdeal : Cert.MixInReferenceIdeal.Facts] : Prop :=
  ∀ (m : (ℓ : Loc Cert.MixInKernelIdeal.nD Cert.MixInKernelIdeal.τ Cert.MixInKernelIdeal.sig) → Buf (Elt Ideal) ℓ) (g : Dev Cert.MixInKernelIdeal.nD → PrngReg)
    (m' : (ℓ : Loc Cert.MixInReferenceIdeal.nD Cert.MixInReferenceIdeal.τ Cert.MixInReferenceIdeal.sig) → Buf (Elt Ideal) ℓ) (g' : Dev Cert.MixInReferenceIdeal.nD → PrngReg), Pre_MixInKernelIdeal m →
    (∀ c : Dev Cert.MixInKernelIdeal.nD,
      m' ((c.tc : Thread Cert.MixInReferenceIdeal.nD Cert.MixInReferenceIdeal.τ).loc Cert.MixInReferenceIdeal.main_arg0) = m ((c.tc : Thread Cert.MixInKernelIdeal.nD Cert.MixInKernelIdeal.τ).loc Cert.MixInKernelIdeal.main_arg0)
      ∧ m' ((c.tc : Thread Cert.MixInReferenceIdeal.nD Cert.MixInReferenceIdeal.τ).loc Cert.MixInReferenceIdeal.main_arg1) = m ((c.tc : Thread Cert.MixInKernelIdeal.nD Cert.MixInKernelIdeal.τ).loc Cert.MixInKernelIdeal.main_arg1)
      ∧ m' ((c.tc : Thread Cert.MixInReferenceIdeal.nD Cert.MixInReferenceIdeal.τ).loc Cert.MixInReferenceIdeal.main_arg2) = m ((c.tc : Thread Cert.MixInKernelIdeal.nD Cert.MixInKernelIdeal.τ).loc Cert.MixInKernelIdeal.main_arg2)
      ∧ m' ((c.tc : Thread Cert.MixInReferenceIdeal.nD Cert.MixInReferenceIdeal.τ).loc Cert.MixInReferenceIdeal.main_arg3) = m ((c.tc : Thread Cert.MixInKernelIdeal.nD Cert.MixInKernelIdeal.τ).loc Cert.MixInKernelIdeal.main_arg3)
      ∧ m' ((c.tc : Thread Cert.MixInReferenceIdeal.nD Cert.MixInReferenceIdeal.τ).loc Cert.MixInReferenceIdeal.main_arg4) = m ((c.tc : Thread Cert.MixInKernelIdeal.nD Cert.MixInKernelIdeal.τ).loc Cert.MixInKernelIdeal.main_arg4)
      ∧ m' ((c.tc : Thread Cert.MixInReferenceIdeal.nD Cert.MixInReferenceIdeal.τ).loc Cert.MixInReferenceIdeal.main_arg5) = m ((c.tc : Thread Cert.MixInKernelIdeal.nD Cert.MixInKernelIdeal.τ).loc Cert.MixInKernelIdeal.main_arg5)
      ∧ m' ((c.tc : Thread Cert.MixInReferenceIdeal.nD Cert.MixInReferenceIdeal.τ).loc Cert.MixInReferenceIdeal.main_arg6) = m ((c.tc : Thread Cert.MixInKernelIdeal.nD Cert.MixInKernelIdeal.τ).loc Cert.MixInKernelIdeal.main_arg6)
      ∧ m' ((c.tc : Thread Cert.MixInReferenceIdeal.nD Cert.MixInReferenceIdeal.τ).loc Cert.MixInReferenceIdeal.main_arg7) = m ((c.tc : Thread Cert.MixInKernelIdeal.nD Cert.MixInKernelIdeal.τ).loc Cert.MixInKernelIdeal.main_arg7)
      ∧ m' ((c.tc : Thread Cert.MixInReferenceIdeal.nD Cert.MixInReferenceIdeal.τ).loc Cert.MixInReferenceIdeal.main_arg8) = m ((c.tc : Thread Cert.MixInKernelIdeal.nD Cert.MixInKernelIdeal.τ).loc Cert.MixInKernelIdeal.main_arg8)
      ∧ m' ((c.tc : Thread Cert.MixInReferenceIdeal.nD Cert.MixInReferenceIdeal.τ).loc Cert.MixInReferenceIdeal.main_arg9) = m ((c.tc : Thread Cert.MixInKernelIdeal.nD Cert.MixInKernelIdeal.τ).loc Cert.MixInKernelIdeal.main_arg9)) →
    ∃ (v0 : (c : Dev Cert.MixInKernelIdeal.nD) → Buf (Elt Ideal) ((c.tc : Thread Cert.MixInKernelIdeal.nD Cert.MixInKernelIdeal.τ).loc Cert.MixInKernelIdeal.main_v49_0)) (v1 : (c : Dev Cert.MixInKernelIdeal.nD) → Buf (Elt Ideal) ((c.tc : Thread Cert.MixInKernelIdeal.nD Cert.MixInKernelIdeal.τ).loc Cert.MixInKernelIdeal.main_v49_1)) (v2 : (c : Dev Cert.MixInKernelIdeal.nD) → Buf (Elt Ideal) ((c.tc : Thread Cert.MixInKernelIdeal.nD Cert.MixInKernelIdeal.τ).loc Cert.MixInKernelIdeal.main_v49_2)) (v3 : (c : Dev Cert.MixInKernelIdeal.nD) → Buf (Elt Ideal) ((c.tc : Thread Cert.MixInKernelIdeal.nD Cert.MixInKernelIdeal.τ).loc Cert.MixInKernelIdeal.main_v49_3)),
      θ_run (Cert.MixInKernelIdeal.defs (F := Ideal)) (onTc (τ := Cert.MixInKernelIdeal.τ) (Cert.MixInKernelIdeal.main (F := Ideal))) ⟨m, fun _ => 0, g⟩ (fun r => ∀ c : Dev Cert.MixInKernelIdeal.nD,
          r.2.mem ((c.tc : Thread Cert.MixInKernelIdeal.nD Cert.MixInKernelIdeal.τ).loc Cert.MixInKernelIdeal.main_v49_0) = v0 c
          ∧ r.2.mem ((c.tc : Thread Cert.MixInKernelIdeal.nD Cert.MixInKernelIdeal.τ).loc Cert.MixInKernelIdeal.main_v49_1) = v1 c
          ∧ r.2.mem ((c.tc : Thread Cert.MixInKernelIdeal.nD Cert.MixInKernelIdeal.τ).loc Cert.MixInKernelIdeal.main_v49_2) = v2 c
          ∧ r.2.mem ((c.tc : Thread Cert.MixInKernelIdeal.nD Cert.MixInKernelIdeal.τ).loc Cert.MixInKernelIdeal.main_v49_3) = v3 c
          ∧ r.2.mem ((c.tc : Thread Cert.MixInKernelIdeal.nD Cert.MixInKernelIdeal.τ).loc Cert.MixInKernelIdeal.main_arg0) = m ((c.tc : Thread Cert.MixInKernelIdeal.nD Cert.MixInKernelIdeal.τ).loc Cert.MixInKernelIdeal.main_arg0)
          ∧ r.2.mem ((c.tc : Thread Cert.MixInKernelIdeal.nD Cert.MixInKernelIdeal.τ).loc Cert.MixInKernelIdeal.main_arg1) = m ((c.tc : Thread Cert.MixInKernelIdeal.nD Cert.MixInKernelIdeal.τ).loc Cert.MixInKernelIdeal.main_arg1)
          ∧ r.2.mem ((c.tc : Thread Cert.MixInKernelIdeal.nD Cert.MixInKernelIdeal.τ).loc Cert.MixInKernelIdeal.main_arg2) = m ((c.tc : Thread Cert.MixInKernelIdeal.nD Cert.MixInKernelIdeal.τ).loc Cert.MixInKernelIdeal.main_arg2)
          ∧ r.2.mem ((c.tc : Thread Cert.MixInKernelIdeal.nD Cert.MixInKernelIdeal.τ).loc Cert.MixInKernelIdeal.main_arg3) = m ((c.tc : Thread Cert.MixInKernelIdeal.nD Cert.MixInKernelIdeal.τ).loc Cert.MixInKernelIdeal.main_arg3)
          ∧ r.2.mem ((c.tc : Thread Cert.MixInKernelIdeal.nD Cert.MixInKernelIdeal.τ).loc Cert.MixInKernelIdeal.main_arg4) = m ((c.tc : Thread Cert.MixInKernelIdeal.nD Cert.MixInKernelIdeal.τ).loc Cert.MixInKernelIdeal.main_arg4)
          ∧ r.2.mem ((c.tc : Thread Cert.MixInKernelIdeal.nD Cert.MixInKernelIdeal.τ).loc Cert.MixInKernelIdeal.main_arg5) = m ((c.tc : Thread Cert.MixInKernelIdeal.nD Cert.MixInKernelIdeal.τ).loc Cert.MixInKernelIdeal.main_arg5)
          ∧ r.2.mem ((c.tc : Thread Cert.MixInKernelIdeal.nD Cert.MixInKernelIdeal.τ).loc Cert.MixInKernelIdeal.main_arg6) = m ((c.tc : Thread Cert.MixInKernelIdeal.nD Cert.MixInKernelIdeal.τ).loc Cert.MixInKernelIdeal.main_arg6)
          ∧ r.2.mem ((c.tc : Thread Cert.MixInKernelIdeal.nD Cert.MixInKernelIdeal.τ).loc Cert.MixInKernelIdeal.main_arg7) = m ((c.tc : Thread Cert.MixInKernelIdeal.nD Cert.MixInKernelIdeal.τ).loc Cert.MixInKernelIdeal.main_arg7)
          ∧ r.2.mem ((c.tc : Thread Cert.MixInKernelIdeal.nD Cert.MixInKernelIdeal.τ).loc Cert.MixInKernelIdeal.main_arg8) = m ((c.tc : Thread Cert.MixInKernelIdeal.nD Cert.MixInKernelIdeal.τ).loc Cert.MixInKernelIdeal.main_arg8)
          ∧ r.2.mem ((c.tc : Thread Cert.MixInKernelIdeal.nD Cert.MixInKernelIdeal.τ).loc Cert.MixInKernelIdeal.main_arg9) = m ((c.tc : Thread Cert.MixInKernelIdeal.nD Cert.MixInKernelIdeal.τ).loc Cert.MixInKernelIdeal.main_arg9))
      ∧ θ_run (Cert.MixInReferenceIdeal.defs (F := Ideal)) (onTc (τ := Cert.MixInReferenceIdeal.τ) (Cert.MixInReferenceIdeal.main (F := Ideal))) ⟨m', fun _ => 0, g'⟩ (fun r => ∀ c : Dev Cert.MixInReferenceIdeal.nD,
          r.2.mem ((c.tc : Thread Cert.MixInReferenceIdeal.nD Cert.MixInReferenceIdeal.τ).loc Cert.MixInReferenceIdeal.main_v75) = v0 c
          ∧ r.2.mem ((c.tc : Thread Cert.MixInReferenceIdeal.nD Cert.MixInReferenceIdeal.τ).loc Cert.MixInReferenceIdeal.main_v99) = v1 c
          ∧ r.2.mem ((c.tc : Thread Cert.MixInReferenceIdeal.nD Cert.MixInReferenceIdeal.τ).loc Cert.MixInReferenceIdeal.main_v100) = v2 c
          ∧ r.2.mem ((c.tc : Thread Cert.MixInReferenceIdeal.nD Cert.MixInReferenceIdeal.τ).loc Cert.MixInReferenceIdeal.main_v101) = v3 c
          ∧ r.2.mem ((c.tc : Thread Cert.MixInReferenceIdeal.nD Cert.MixInReferenceIdeal.τ).loc Cert.MixInReferenceIdeal.main_arg0) = m' ((c.tc : Thread Cert.MixInReferenceIdeal.nD Cert.MixInReferenceIdeal.τ).loc Cert.MixInReferenceIdeal.main_arg0)
          ∧ r.2.mem ((c.tc : Thread Cert.MixInReferenceIdeal.nD Cert.MixInReferenceIdeal.τ).loc Cert.MixInReferenceIdeal.main_arg1) = m' ((c.tc : Thread Cert.MixInReferenceIdeal.nD Cert.MixInReferenceIdeal.τ).loc Cert.MixInReferenceIdeal.main_arg1)
          ∧ r.2.mem ((c.tc : Thread Cert.MixInReferenceIdeal.nD Cert.MixInReferenceIdeal.τ).loc Cert.MixInReferenceIdeal.main_arg2) = m' ((c.tc : Thread Cert.MixInReferenceIdeal.nD Cert.MixInReferenceIdeal.τ).loc Cert.MixInReferenceIdeal.main_arg2)
          ∧ r.2.mem ((c.tc : Thread Cert.MixInReferenceIdeal.nD Cert.MixInReferenceIdeal.τ).loc Cert.MixInReferenceIdeal.main_arg3) = m' ((c.tc : Thread Cert.MixInReferenceIdeal.nD Cert.MixInReferenceIdeal.τ).loc Cert.MixInReferenceIdeal.main_arg3)
          ∧ r.2.mem ((c.tc : Thread Cert.MixInReferenceIdeal.nD Cert.MixInReferenceIdeal.τ).loc Cert.MixInReferenceIdeal.main_arg4) = m' ((c.tc : Thread Cert.MixInReferenceIdeal.nD Cert.MixInReferenceIdeal.τ).loc Cert.MixInReferenceIdeal.main_arg4)
          ∧ r.2.mem ((c.tc : Thread Cert.MixInReferenceIdeal.nD Cert.MixInReferenceIdeal.τ).loc Cert.MixInReferenceIdeal.main_arg5) = m' ((c.tc : Thread Cert.MixInReferenceIdeal.nD Cert.MixInReferenceIdeal.τ).loc Cert.MixInReferenceIdeal.main_arg5)
          ∧ r.2.mem ((c.tc : Thread Cert.MixInReferenceIdeal.nD Cert.MixInReferenceIdeal.τ).loc Cert.MixInReferenceIdeal.main_arg6) = m' ((c.tc : Thread Cert.MixInReferenceIdeal.nD Cert.MixInReferenceIdeal.τ).loc Cert.MixInReferenceIdeal.main_arg6)
          ∧ r.2.mem ((c.tc : Thread Cert.MixInReferenceIdeal.nD Cert.MixInReferenceIdeal.τ).loc Cert.MixInReferenceIdeal.main_arg7) = m' ((c.tc : Thread Cert.MixInReferenceIdeal.nD Cert.MixInReferenceIdeal.τ).loc Cert.MixInReferenceIdeal.main_arg7)
          ∧ r.2.mem ((c.tc : Thread Cert.MixInReferenceIdeal.nD Cert.MixInReferenceIdeal.τ).loc Cert.MixInReferenceIdeal.main_arg8) = m' ((c.tc : Thread Cert.MixInReferenceIdeal.nD Cert.MixInReferenceIdeal.τ).loc Cert.MixInReferenceIdeal.main_arg8)
          ∧ r.2.mem ((c.tc : Thread Cert.MixInReferenceIdeal.nD Cert.MixInReferenceIdeal.τ).loc Cert.MixInReferenceIdeal.main_arg9) = m' ((c.tc : Thread Cert.MixInReferenceIdeal.nD Cert.MixInReferenceIdeal.τ).loc Cert.MixInReferenceIdeal.main_arg9))

def preserves_FfnInKernel_FfnInKernelIdeal : Prop :=
  True

def algebraic_FfnInKernelIdeal_FfnInReferenceIdeal [hFfnInKernelIdeal : Cert.FfnInKernelIdeal.Facts] [hFfnInReferenceIdeal : Cert.FfnInReferenceIdeal.Facts] : Prop :=
  ∀ (m : (ℓ : Loc Cert.FfnInKernelIdeal.nD Cert.FfnInKernelIdeal.τ Cert.FfnInKernelIdeal.sig) → Buf (Elt Ideal) ℓ) (g : Dev Cert.FfnInKernelIdeal.nD → PrngReg)
    (m' : (ℓ : Loc Cert.FfnInReferenceIdeal.nD Cert.FfnInReferenceIdeal.τ Cert.FfnInReferenceIdeal.sig) → Buf (Elt Ideal) ℓ) (g' : Dev Cert.FfnInReferenceIdeal.nD → PrngReg), Pre_FfnInKernelIdeal m →
    (∀ c : Dev Cert.FfnInKernelIdeal.nD,
      m' ((c.tc : Thread Cert.FfnInReferenceIdeal.nD Cert.FfnInReferenceIdeal.τ).loc Cert.FfnInReferenceIdeal.main_arg0) = m ((c.tc : Thread Cert.FfnInKernelIdeal.nD Cert.FfnInKernelIdeal.τ).loc Cert.FfnInKernelIdeal.main_arg0)
      ∧ m' ((c.tc : Thread Cert.FfnInReferenceIdeal.nD Cert.FfnInReferenceIdeal.τ).loc Cert.FfnInReferenceIdeal.main_arg1) = m ((c.tc : Thread Cert.FfnInKernelIdeal.nD Cert.FfnInKernelIdeal.τ).loc Cert.FfnInKernelIdeal.main_arg1)
      ∧ m' ((c.tc : Thread Cert.FfnInReferenceIdeal.nD Cert.FfnInReferenceIdeal.τ).loc Cert.FfnInReferenceIdeal.main_arg2) = m ((c.tc : Thread Cert.FfnInKernelIdeal.nD Cert.FfnInKernelIdeal.τ).loc Cert.FfnInKernelIdeal.main_arg2)
      ∧ m' ((c.tc : Thread Cert.FfnInReferenceIdeal.nD Cert.FfnInReferenceIdeal.τ).loc Cert.FfnInReferenceIdeal.main_arg3) = m ((c.tc : Thread Cert.FfnInKernelIdeal.nD Cert.FfnInKernelIdeal.τ).loc Cert.FfnInKernelIdeal.main_arg3)
      ∧ m' ((c.tc : Thread Cert.FfnInReferenceIdeal.nD Cert.FfnInReferenceIdeal.τ).loc Cert.FfnInReferenceIdeal.main_arg4) = m ((c.tc : Thread Cert.FfnInKernelIdeal.nD Cert.FfnInKernelIdeal.τ).loc Cert.FfnInKernelIdeal.main_arg4)
      ∧ m' ((c.tc : Thread Cert.FfnInReferenceIdeal.nD Cert.FfnInReferenceIdeal.τ).loc Cert.FfnInReferenceIdeal.main_arg5) = m ((c.tc : Thread Cert.FfnInKernelIdeal.nD Cert.FfnInKernelIdeal.τ).loc Cert.FfnInKernelIdeal.main_arg5)
      ∧ m' ((c.tc : Thread Cert.FfnInReferenceIdeal.nD Cert.FfnInReferenceIdeal.τ).loc Cert.FfnInReferenceIdeal.main_arg6) = m ((c.tc : Thread Cert.FfnInKernelIdeal.nD Cert.FfnInKernelIdeal.τ).loc Cert.FfnInKernelIdeal.main_arg6)) →
    ∃ (v0 : (c : Dev Cert.FfnInKernelIdeal.nD) → Buf (Elt Ideal) ((c.tc : Thread Cert.FfnInKernelIdeal.nD Cert.FfnInKernelIdeal.τ).loc Cert.FfnInKernelIdeal.main_v7_0)) (v1 : (c : Dev Cert.FfnInKernelIdeal.nD) → Buf (Elt Ideal) ((c.tc : Thread Cert.FfnInKernelIdeal.nD Cert.FfnInKernelIdeal.τ).loc Cert.FfnInKernelIdeal.main_v7_1)),
      θ_run (Cert.FfnInKernelIdeal.defs (F := Ideal)) (onTc (τ := Cert.FfnInKernelIdeal.τ) (Cert.FfnInKernelIdeal.main (F := Ideal))) ⟨m, fun _ => 0, g⟩ (fun r => ∀ c : Dev Cert.FfnInKernelIdeal.nD,
          r.2.mem ((c.tc : Thread Cert.FfnInKernelIdeal.nD Cert.FfnInKernelIdeal.τ).loc Cert.FfnInKernelIdeal.main_v7_0) = v0 c
          ∧ r.2.mem ((c.tc : Thread Cert.FfnInKernelIdeal.nD Cert.FfnInKernelIdeal.τ).loc Cert.FfnInKernelIdeal.main_v7_1) = v1 c
          ∧ r.2.mem ((c.tc : Thread Cert.FfnInKernelIdeal.nD Cert.FfnInKernelIdeal.τ).loc Cert.FfnInKernelIdeal.main_arg0) = m ((c.tc : Thread Cert.FfnInKernelIdeal.nD Cert.FfnInKernelIdeal.τ).loc Cert.FfnInKernelIdeal.main_arg0)
          ∧ r.2.mem ((c.tc : Thread Cert.FfnInKernelIdeal.nD Cert.FfnInKernelIdeal.τ).loc Cert.FfnInKernelIdeal.main_arg1) = m ((c.tc : Thread Cert.FfnInKernelIdeal.nD Cert.FfnInKernelIdeal.τ).loc Cert.FfnInKernelIdeal.main_arg1)
          ∧ r.2.mem ((c.tc : Thread Cert.FfnInKernelIdeal.nD Cert.FfnInKernelIdeal.τ).loc Cert.FfnInKernelIdeal.main_arg2) = m ((c.tc : Thread Cert.FfnInKernelIdeal.nD Cert.FfnInKernelIdeal.τ).loc Cert.FfnInKernelIdeal.main_arg2)
          ∧ r.2.mem ((c.tc : Thread Cert.FfnInKernelIdeal.nD Cert.FfnInKernelIdeal.τ).loc Cert.FfnInKernelIdeal.main_arg3) = m ((c.tc : Thread Cert.FfnInKernelIdeal.nD Cert.FfnInKernelIdeal.τ).loc Cert.FfnInKernelIdeal.main_arg3)
          ∧ r.2.mem ((c.tc : Thread Cert.FfnInKernelIdeal.nD Cert.FfnInKernelIdeal.τ).loc Cert.FfnInKernelIdeal.main_arg4) = m ((c.tc : Thread Cert.FfnInKernelIdeal.nD Cert.FfnInKernelIdeal.τ).loc Cert.FfnInKernelIdeal.main_arg4)
          ∧ r.2.mem ((c.tc : Thread Cert.FfnInKernelIdeal.nD Cert.FfnInKernelIdeal.τ).loc Cert.FfnInKernelIdeal.main_arg5) = m ((c.tc : Thread Cert.FfnInKernelIdeal.nD Cert.FfnInKernelIdeal.τ).loc Cert.FfnInKernelIdeal.main_arg5)
          ∧ r.2.mem ((c.tc : Thread Cert.FfnInKernelIdeal.nD Cert.FfnInKernelIdeal.τ).loc Cert.FfnInKernelIdeal.main_arg6) = m ((c.tc : Thread Cert.FfnInKernelIdeal.nD Cert.FfnInKernelIdeal.τ).loc Cert.FfnInKernelIdeal.main_arg6))
      ∧ θ_run (Cert.FfnInReferenceIdeal.defs (F := Ideal)) (onTc (τ := Cert.FfnInReferenceIdeal.τ) (Cert.FfnInReferenceIdeal.main (F := Ideal))) ⟨m', fun _ => 0, g'⟩ (fun r => ∀ c : Dev Cert.FfnInReferenceIdeal.nD,
          r.2.mem ((c.tc : Thread Cert.FfnInReferenceIdeal.nD Cert.FfnInReferenceIdeal.τ).loc Cert.FfnInReferenceIdeal.main_v41) = v0 c
          ∧ r.2.mem ((c.tc : Thread Cert.FfnInReferenceIdeal.nD Cert.FfnInReferenceIdeal.τ).loc Cert.FfnInReferenceIdeal.main_v42) = v1 c
          ∧ r.2.mem ((c.tc : Thread Cert.FfnInReferenceIdeal.nD Cert.FfnInReferenceIdeal.τ).loc Cert.FfnInReferenceIdeal.main_arg0) = m' ((c.tc : Thread Cert.FfnInReferenceIdeal.nD Cert.FfnInReferenceIdeal.τ).loc Cert.FfnInReferenceIdeal.main_arg0)
          ∧ r.2.mem ((c.tc : Thread Cert.FfnInReferenceIdeal.nD Cert.FfnInReferenceIdeal.τ).loc Cert.FfnInReferenceIdeal.main_arg1) = m' ((c.tc : Thread Cert.FfnInReferenceIdeal.nD Cert.FfnInReferenceIdeal.τ).loc Cert.FfnInReferenceIdeal.main_arg1)
          ∧ r.2.mem ((c.tc : Thread Cert.FfnInReferenceIdeal.nD Cert.FfnInReferenceIdeal.τ).loc Cert.FfnInReferenceIdeal.main_arg2) = m' ((c.tc : Thread Cert.FfnInReferenceIdeal.nD Cert.FfnInReferenceIdeal.τ).loc Cert.FfnInReferenceIdeal.main_arg2)
          ∧ r.2.mem ((c.tc : Thread Cert.FfnInReferenceIdeal.nD Cert.FfnInReferenceIdeal.τ).loc Cert.FfnInReferenceIdeal.main_arg3) = m' ((c.tc : Thread Cert.FfnInReferenceIdeal.nD Cert.FfnInReferenceIdeal.τ).loc Cert.FfnInReferenceIdeal.main_arg3)
          ∧ r.2.mem ((c.tc : Thread Cert.FfnInReferenceIdeal.nD Cert.FfnInReferenceIdeal.τ).loc Cert.FfnInReferenceIdeal.main_arg4) = m' ((c.tc : Thread Cert.FfnInReferenceIdeal.nD Cert.FfnInReferenceIdeal.τ).loc Cert.FfnInReferenceIdeal.main_arg4)
          ∧ r.2.mem ((c.tc : Thread Cert.FfnInReferenceIdeal.nD Cert.FfnInReferenceIdeal.τ).loc Cert.FfnInReferenceIdeal.main_arg5) = m' ((c.tc : Thread Cert.FfnInReferenceIdeal.nD Cert.FfnInReferenceIdeal.τ).loc Cert.FfnInReferenceIdeal.main_arg5)
          ∧ r.2.mem ((c.tc : Thread Cert.FfnInReferenceIdeal.nD Cert.FfnInReferenceIdeal.τ).loc Cert.FfnInReferenceIdeal.main_arg6) = m' ((c.tc : Thread Cert.FfnInReferenceIdeal.nD Cert.FfnInReferenceIdeal.τ).loc Cert.FfnInReferenceIdeal.main_arg6))

def preserves_PreNormKernel_PreNormKernelIdeal : Prop :=
  True

def algebraic_PreNormKernelIdeal_PreNormReferenceIdeal [hPreNormKernelIdeal : Cert.PreNormKernelIdeal.Facts] [hPreNormReferenceIdeal : Cert.PreNormReferenceIdeal.Facts] : Prop :=
  ∀ (m : (ℓ : Loc Cert.PreNormKernelIdeal.nD Cert.PreNormKernelIdeal.τ Cert.PreNormKernelIdeal.sig) → Buf (Elt Ideal) ℓ) (g : Dev Cert.PreNormKernelIdeal.nD → PrngReg)
    (m' : (ℓ : Loc Cert.PreNormReferenceIdeal.nD Cert.PreNormReferenceIdeal.τ Cert.PreNormReferenceIdeal.sig) → Buf (Elt Ideal) ℓ) (g' : Dev Cert.PreNormReferenceIdeal.nD → PrngReg), Pre_PreNormKernelIdeal m →
    (∀ c : Dev Cert.PreNormKernelIdeal.nD,
      m' ((c.tc : Thread Cert.PreNormReferenceIdeal.nD Cert.PreNormReferenceIdeal.τ).loc Cert.PreNormReferenceIdeal.main_arg0) = m ((c.tc : Thread Cert.PreNormKernelIdeal.nD Cert.PreNormKernelIdeal.τ).loc Cert.PreNormKernelIdeal.main_arg0)
      ∧ m' ((c.tc : Thread Cert.PreNormReferenceIdeal.nD Cert.PreNormReferenceIdeal.τ).loc Cert.PreNormReferenceIdeal.main_arg1) = m ((c.tc : Thread Cert.PreNormKernelIdeal.nD Cert.PreNormKernelIdeal.τ).loc Cert.PreNormKernelIdeal.main_arg1)) →
    ∃ (v0 : (c : Dev Cert.PreNormKernelIdeal.nD) → Buf (Elt Ideal) ((c.tc : Thread Cert.PreNormKernelIdeal.nD Cert.PreNormKernelIdeal.τ).loc Cert.PreNormKernelIdeal.main_v1)),
      θ_run (Cert.PreNormKernelIdeal.defs (F := Ideal)) (onTc (τ := Cert.PreNormKernelIdeal.τ) (Cert.PreNormKernelIdeal.main (F := Ideal))) ⟨m, fun _ => 0, g⟩ (fun r => ∀ c : Dev Cert.PreNormKernelIdeal.nD,
          r.2.mem ((c.tc : Thread Cert.PreNormKernelIdeal.nD Cert.PreNormKernelIdeal.τ).loc Cert.PreNormKernelIdeal.main_v1) = v0 c
          ∧ r.2.mem ((c.tc : Thread Cert.PreNormKernelIdeal.nD Cert.PreNormKernelIdeal.τ).loc Cert.PreNormKernelIdeal.main_arg0) = m ((c.tc : Thread Cert.PreNormKernelIdeal.nD Cert.PreNormKernelIdeal.τ).loc Cert.PreNormKernelIdeal.main_arg0)
          ∧ r.2.mem ((c.tc : Thread Cert.PreNormKernelIdeal.nD Cert.PreNormKernelIdeal.τ).loc Cert.PreNormKernelIdeal.main_arg1) = m ((c.tc : Thread Cert.PreNormKernelIdeal.nD Cert.PreNormKernelIdeal.τ).loc Cert.PreNormKernelIdeal.main_arg1))
      ∧ θ_run (Cert.PreNormReferenceIdeal.defs (F := Ideal)) (onTc (τ := Cert.PreNormReferenceIdeal.τ) (Cert.PreNormReferenceIdeal.main (F := Ideal))) ⟨m', fun _ => 0, g'⟩ (fun r => ∀ c : Dev Cert.PreNormReferenceIdeal.nD,
          r.2.mem ((c.tc : Thread Cert.PreNormReferenceIdeal.nD Cert.PreNormReferenceIdeal.τ).loc Cert.PreNormReferenceIdeal.main_v13) = v0 c
          ∧ r.2.mem ((c.tc : Thread Cert.PreNormReferenceIdeal.nD Cert.PreNormReferenceIdeal.τ).loc Cert.PreNormReferenceIdeal.main_arg0) = m' ((c.tc : Thread Cert.PreNormReferenceIdeal.nD Cert.PreNormReferenceIdeal.τ).loc Cert.PreNormReferenceIdeal.main_arg0)
          ∧ r.2.mem ((c.tc : Thread Cert.PreNormReferenceIdeal.nD Cert.PreNormReferenceIdeal.τ).loc Cert.PreNormReferenceIdeal.main_arg1) = m' ((c.tc : Thread Cert.PreNormReferenceIdeal.nD Cert.PreNormReferenceIdeal.τ).loc Cert.PreNormReferenceIdeal.main_arg1))

def preserves_FfnDownKernel_FfnDownKernelIdeal : Prop :=
  True

def algebraic_FfnDownKernelIdeal_FfnDownReferenceIdeal [hFfnDownKernelIdeal : Cert.FfnDownKernelIdeal.Facts] [hFfnDownReferenceIdeal : Cert.FfnDownReferenceIdeal.Facts] : Prop :=
  ∀ (m : (ℓ : Loc Cert.FfnDownKernelIdeal.nD Cert.FfnDownKernelIdeal.τ Cert.FfnDownKernelIdeal.sig) → Buf (Elt Ideal) ℓ) (g : Dev Cert.FfnDownKernelIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownKernelIdeal m →
    (∀ c : Dev Cert.FfnDownKernelIdeal.nD,
      m' ((c.tc : Thread Cert.FfnDownReferenceIdeal.nD Cert.FfnDownReferenceIdeal.τ).loc Cert.FfnDownReferenceIdeal.main_arg0) = m ((c.tc : Thread Cert.FfnDownKernelIdeal.nD Cert.FfnDownKernelIdeal.τ).loc Cert.FfnDownKernelIdeal.main_arg0)
      ∧ m' ((c.tc : Thread Cert.FfnDownReferenceIdeal.nD Cert.FfnDownReferenceIdeal.τ).loc Cert.FfnDownReferenceIdeal.main_arg1) = m ((c.tc : Thread Cert.FfnDownKernelIdeal.nD Cert.FfnDownKernelIdeal.τ).loc Cert.FfnDownKernelIdeal.main_arg1)
      ∧ m' ((c.tc : Thread Cert.FfnDownReferenceIdeal.nD Cert.FfnDownReferenceIdeal.τ).loc Cert.FfnDownReferenceIdeal.main_arg2) = m ((c.tc : Thread Cert.FfnDownKernelIdeal.nD Cert.FfnDownKernelIdeal.τ).loc Cert.FfnDownKernelIdeal.main_arg2)
      ∧ m' ((c.tc : Thread Cert.FfnDownReferenceIdeal.nD Cert.FfnDownReferenceIdeal.τ).loc Cert.FfnDownReferenceIdeal.main_arg3) = m ((c.tc : Thread Cert.FfnDownKernelIdeal.nD Cert.FfnDownKernelIdeal.τ).loc Cert.FfnDownKernelIdeal.main_arg3)
      ∧ m' ((c.tc : Thread Cert.FfnDownReferenceIdeal.nD Cert.FfnDownReferenceIdeal.τ).loc Cert.FfnDownReferenceIdeal.main_arg4) = m ((c.tc : Thread Cert.FfnDownKernelIdeal.nD Cert.FfnDownKernelIdeal.τ).loc Cert.FfnDownKernelIdeal.main_arg4)) →
    ∃ (v0 : (c : Dev Cert.FfnDownKernelIdeal.nD) → Buf (Elt Ideal) ((c.tc : Thread Cert.FfnDownKernelIdeal.nD Cert.FfnDownKernelIdeal.τ).loc Cert.FfnDownKernelIdeal.main_v4_0)) (v1 : (c : Dev Cert.FfnDownKernelIdeal.nD) → Buf (Elt Ideal) ((c.tc : Thread Cert.FfnDownKernelIdeal.nD Cert.FfnDownKernelIdeal.τ).loc Cert.FfnDownKernelIdeal.main_v4_1)) (v2 : (c : Dev Cert.FfnDownKernelIdeal.nD) → Buf (Elt Ideal) ((c.tc : Thread Cert.FfnDownKernelIdeal.nD Cert.FfnDownKernelIdeal.τ).loc Cert.FfnDownKernelIdeal.main_v4_2)),
      θ_run (Cert.FfnDownKernelIdeal.defs (F := Ideal)) (onTc (τ := Cert.FfnDownKernelIdeal.τ) (Cert.FfnDownKernelIdeal.main (F := Ideal))) ⟨m, fun _ => 0, g⟩ (fun r => ∀ c : Dev Cert.FfnDownKernelIdeal.nD,
          r.2.mem ((c.tc : Thread Cert.FfnDownKernelIdeal.nD Cert.FfnDownKernelIdeal.τ).loc Cert.FfnDownKernelIdeal.main_v4_0) = v0 c
          ∧ r.2.mem ((c.tc : Thread Cert.FfnDownKernelIdeal.nD Cert.FfnDownKernelIdeal.τ).loc Cert.FfnDownKernelIdeal.main_v4_1) = v1 c
          ∧ r.2.mem ((c.tc : Thread Cert.FfnDownKernelIdeal.nD Cert.FfnDownKernelIdeal.τ).loc Cert.FfnDownKernelIdeal.main_v4_2) = v2 c
          ∧ r.2.mem ((c.tc : Thread Cert.FfnDownKernelIdeal.nD Cert.FfnDownKernelIdeal.τ).loc Cert.FfnDownKernelIdeal.main_arg0) = m ((c.tc : Thread Cert.FfnDownKernelIdeal.nD Cert.FfnDownKernelIdeal.τ).loc Cert.FfnDownKernelIdeal.main_arg0)
          ∧ r.2.mem ((c.tc : Thread Cert.FfnDownKernelIdeal.nD Cert.FfnDownKernelIdeal.τ).loc Cert.FfnDownKernelIdeal.main_arg1) = m ((c.tc : Thread Cert.FfnDownKernelIdeal.nD Cert.FfnDownKernelIdeal.τ).loc Cert.FfnDownKernelIdeal.main_arg1)
          ∧ r.2.mem ((c.tc : Thread Cert.FfnDownKernelIdeal.nD Cert.FfnDownKernelIdeal.τ).loc Cert.FfnDownKernelIdeal.main_arg2) = m ((c.tc : Thread Cert.FfnDownKernelIdeal.nD Cert.FfnDownKernelIdeal.τ).loc Cert.FfnDownKernelIdeal.main_arg2)
          ∧ r.2.mem ((c.tc : Thread Cert.FfnDownKernelIdeal.nD Cert.FfnDownKernelIdeal.τ).loc Cert.FfnDownKernelIdeal.main_arg3) = m ((c.tc : Thread Cert.FfnDownKernelIdeal.nD Cert.FfnDownKernelIdeal.τ).loc Cert.FfnDownKernelIdeal.main_arg3)
          ∧ r.2.mem ((c.tc : Thread Cert.FfnDownKernelIdeal.nD Cert.FfnDownKernelIdeal.τ).loc Cert.FfnDownKernelIdeal.main_arg4) = m ((c.tc : Thread Cert.FfnDownKernelIdeal.nD Cert.FfnDownKernelIdeal.τ).loc Cert.FfnDownKernelIdeal.main_arg4))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v0) = v0 c
          ∧ r.2.mem ((c.tc : Thread Cert.FfnDownReferenceIdeal.nD Cert.FfnDownReferenceIdeal.τ).loc Cert.FfnDownReferenceIdeal.main_v16) = v1 c
          ∧ r.2.mem ((c.tc : Thread Cert.FfnDownReferenceIdeal.nD Cert.FfnDownReferenceIdeal.τ).loc Cert.FfnDownReferenceIdeal.main_v30) = v2 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2)
          ∧ r.2.mem ((c.tc : Thread Cert.FfnDownReferenceIdeal.nD Cert.FfnDownReferenceIdeal.τ).loc Cert.FfnDownReferenceIdeal.main_arg3) = m' ((c.tc : Thread Cert.FfnDownReferenceIdeal.nD Cert.FfnDownReferenceIdeal.τ).loc Cert.FfnDownReferenceIdeal.main_arg3)
          ∧ r.2.mem ((c.tc : Thread Cert.FfnDownReferenceIdeal.nD Cert.FfnDownReferenceIdeal.τ).loc Cert.FfnDownReferenceIdeal.main_arg4) = m' ((c.tc : Thread Cert.FfnDownReferenceIdeal.nD Cert.FfnDownReferenceIdeal.τ).loc Cert.FfnDownReferenceIdeal.main_arg4))

def preserves_SsmGluKernel_SsmGluKernelIdeal : Prop :=
  True

def algebraic_SsmGluKernelIdeal_SsmGluReferenceIdeal [hSsmGluKernelIdeal : Cert.SsmGluKernelIdeal.Facts] [hSsmGluReferenceIdeal : Cert.SsmGluReferenceIdeal.Facts] : Prop :=
  ∀ (m : (ℓ : Loc Cert.SsmGluKernelIdeal.nD Cert.SsmGluKernelIdeal.τ Cert.SsmGluKernelIdeal.sig) → Buf (Elt Ideal) ℓ) (g : Dev Cert.SsmGluKernelIdeal.nD → PrngReg)
    (m' : (ℓ : Loc Cert.SsmGluReferenceIdeal.nD Cert.SsmGluReferenceIdeal.τ Cert.SsmGluReferenceIdeal.sig) → Buf (Elt Ideal) ℓ) (g' : Dev Cert.SsmGluReferenceIdeal.nD → PrngReg), Pre_SsmGluKernelIdeal m →
    (∀ c : Dev Cert.SsmGluKernelIdeal.nD,
      m' ((c.tc : Thread Cert.SsmGluReferenceIdeal.nD Cert.SsmGluReferenceIdeal.τ).loc Cert.SsmGluReferenceIdeal.main_arg0) = m ((c.tc : Thread Cert.SsmGluKernelIdeal.nD Cert.SsmGluKernelIdeal.τ).loc Cert.SsmGluKernelIdeal.main_arg0)
      ∧ m' ((c.tc : Thread Cert.SsmGluReferenceIdeal.nD Cert.SsmGluReferenceIdeal.τ).loc Cert.SsmGluReferenceIdeal.main_arg1) = m ((c.tc : Thread Cert.SsmGluKernelIdeal.nD Cert.SsmGluKernelIdeal.τ).loc Cert.SsmGluKernelIdeal.main_arg1)
      ∧ m' ((c.tc : Thread Cert.SsmGluReferenceIdeal.nD Cert.SsmGluReferenceIdeal.τ).loc Cert.SsmGluReferenceIdeal.main_arg2) = m ((c.tc : Thread Cert.SsmGluKernelIdeal.nD Cert.SsmGluKernelIdeal.τ).loc Cert.SsmGluKernelIdeal.main_arg2)
      ∧ m' ((c.tc : Thread Cert.SsmGluReferenceIdeal.nD Cert.SsmGluReferenceIdeal.τ).loc Cert.SsmGluReferenceIdeal.main_arg3) = m ((c.tc : Thread Cert.SsmGluKernelIdeal.nD Cert.SsmGluKernelIdeal.τ).loc Cert.SsmGluKernelIdeal.main_arg3)
      ∧ m' ((c.tc : Thread Cert.SsmGluReferenceIdeal.nD Cert.SsmGluReferenceIdeal.τ).loc Cert.SsmGluReferenceIdeal.main_arg4) = m ((c.tc : Thread Cert.SsmGluKernelIdeal.nD Cert.SsmGluKernelIdeal.τ).loc Cert.SsmGluKernelIdeal.main_arg4)) →
    ∃ (v0 : (c : Dev Cert.SsmGluKernelIdeal.nD) → Buf (Elt Ideal) ((c.tc : Thread Cert.SsmGluKernelIdeal.nD Cert.SsmGluKernelIdeal.τ).loc Cert.SsmGluKernelIdeal.main_v4_0)) (v1 : (c : Dev Cert.SsmGluKernelIdeal.nD) → Buf (Elt Ideal) ((c.tc : Thread Cert.SsmGluKernelIdeal.nD Cert.SsmGluKernelIdeal.τ).loc Cert.SsmGluKernelIdeal.main_v4_1)) (v2 : (c : Dev Cert.SsmGluKernelIdeal.nD) → Buf (Elt Ideal) ((c.tc : Thread Cert.SsmGluKernelIdeal.nD Cert.SsmGluKernelIdeal.τ).loc Cert.SsmGluKernelIdeal.main_v4_2)) (v3 : (c : Dev Cert.SsmGluKernelIdeal.nD) → Buf (Elt Ideal) ((c.tc : Thread Cert.SsmGluKernelIdeal.nD Cert.SsmGluKernelIdeal.τ).loc Cert.SsmGluKernelIdeal.main_v4_3)),
      θ_run (Cert.SsmGluKernelIdeal.defs (F := Ideal)) (onTc (τ := Cert.SsmGluKernelIdeal.τ) (Cert.SsmGluKernelIdeal.main (F := Ideal))) ⟨m, fun _ => 0, g⟩ (fun r => ∀ c : Dev Cert.SsmGluKernelIdeal.nD,
          r.2.mem ((c.tc : Thread Cert.SsmGluKernelIdeal.nD Cert.SsmGluKernelIdeal.τ).loc Cert.SsmGluKernelIdeal.main_v4_0) = v0 c
          ∧ r.2.mem ((c.tc : Thread Cert.SsmGluKernelIdeal.nD Cert.SsmGluKernelIdeal.τ).loc Cert.SsmGluKernelIdeal.main_v4_1) = v1 c
          ∧ r.2.mem ((c.tc : Thread Cert.SsmGluKernelIdeal.nD Cert.SsmGluKernelIdeal.τ).loc Cert.SsmGluKernelIdeal.main_v4_2) = v2 c
          ∧ r.2.mem ((c.tc : Thread Cert.SsmGluKernelIdeal.nD Cert.SsmGluKernelIdeal.τ).loc Cert.SsmGluKernelIdeal.main_v4_3) = v3 c
          ∧ r.2.mem ((c.tc : Thread Cert.SsmGluKernelIdeal.nD Cert.SsmGluKernelIdeal.τ).loc Cert.SsmGluKernelIdeal.main_arg0) = m ((c.tc : Thread Cert.SsmGluKernelIdeal.nD Cert.SsmGluKernelIdeal.τ).loc Cert.SsmGluKernelIdeal.main_arg0)
          ∧ r.2.mem ((c.tc : Thread Cert.SsmGluKernelIdeal.nD Cert.SsmGluKernelIdeal.τ).loc Cert.SsmGluKernelIdeal.main_arg1) = m ((c.tc : Thread Cert.SsmGluKernelIdeal.nD Cert.SsmGluKernelIdeal.τ).loc Cert.SsmGluKernelIdeal.main_arg1)
          ∧ r.2.mem ((c.tc : Thread Cert.SsmGluKernelIdeal.nD Cert.SsmGluKernelIdeal.τ).loc Cert.SsmGluKernelIdeal.main_arg2) = m ((c.tc : Thread Cert.SsmGluKernelIdeal.nD Cert.SsmGluKernelIdeal.τ).loc Cert.SsmGluKernelIdeal.main_arg2)
          ∧ r.2.mem ((c.tc : Thread Cert.SsmGluKernelIdeal.nD Cert.SsmGluKernelIdeal.τ).loc Cert.SsmGluKernelIdeal.main_arg3) = m ((c.tc : Thread Cert.SsmGluKernelIdeal.nD Cert.SsmGluKernelIdeal.τ).loc Cert.SsmGluKernelIdeal.main_arg3)
          ∧ r.2.mem ((c.tc : Thread Cert.SsmGluKernelIdeal.nD Cert.SsmGluKernelIdeal.τ).loc Cert.SsmGluKernelIdeal.main_arg4) = m ((c.tc : Thread Cert.SsmGluKernelIdeal.nD Cert.SsmGluKernelIdeal.τ).loc Cert.SsmGluKernelIdeal.main_arg4))
      ∧ θ_run (Cert.SsmGluReferenceIdeal.defs (F := Ideal)) (onTc (τ := Cert.SsmGluReferenceIdeal.τ) (Cert.SsmGluReferenceIdeal.main (F := Ideal))) ⟨m', fun _ => 0, g'⟩ (fun r => ∀ c : Dev Cert.SsmGluReferenceIdeal.nD,
          r.2.mem ((c.tc : Thread Cert.SsmGluReferenceIdeal.nD Cert.SsmGluReferenceIdeal.τ).loc Cert.SsmGluReferenceIdeal.main_v12) = v0 c
          ∧ r.2.mem ((c.tc : Thread Cert.SsmGluReferenceIdeal.nD Cert.SsmGluReferenceIdeal.τ).loc Cert.SsmGluReferenceIdeal.main_v16) = v1 c
          ∧ r.2.mem ((c.tc : Thread Cert.SsmGluReferenceIdeal.nD Cert.SsmGluReferenceIdeal.τ).loc Cert.SsmGluReferenceIdeal.main_v23) = v2 c
          ∧ r.2.mem ((c.tc : Thread Cert.SsmGluReferenceIdeal.nD Cert.SsmGluReferenceIdeal.τ).loc Cert.SsmGluReferenceIdeal.main_v39) = v3 c
          ∧ r.2.mem ((c.tc : Thread Cert.SsmGluReferenceIdeal.nD Cert.SsmGluReferenceIdeal.τ).loc Cert.SsmGluReferenceIdeal.main_arg0) = m' ((c.tc : Thread Cert.SsmGluReferenceIdeal.nD Cert.SsmGluReferenceIdeal.τ).loc Cert.SsmGluReferenceIdeal.main_arg0)
          ∧ r.2.mem ((c.tc : Thread Cert.SsmGluReferenceIdeal.nD Cert.SsmGluReferenceIdeal.τ).loc Cert.SsmGluReferenceIdeal.main_arg1) = m' ((c.tc : Thread Cert.SsmGluReferenceIdeal.nD Cert.SsmGluReferenceIdeal.τ).loc Cert.SsmGluReferenceIdeal.main_arg1)
          ∧ r.2.mem ((c.tc : Thread Cert.SsmGluReferenceIdeal.nD Cert.SsmGluReferenceIdeal.τ).loc Cert.SsmGluReferenceIdeal.main_arg2) = m' ((c.tc : Thread Cert.SsmGluReferenceIdeal.nD Cert.SsmGluReferenceIdeal.τ).loc Cert.SsmGluReferenceIdeal.main_arg2)
          ∧ r.2.mem ((c.tc : Thread Cert.SsmGluReferenceIdeal.nD Cert.SsmGluReferenceIdeal.τ).loc Cert.SsmGluReferenceIdeal.main_arg3) = m' ((c.tc : Thread Cert.SsmGluReferenceIdeal.nD Cert.SsmGluReferenceIdeal.τ).loc Cert.SsmGluReferenceIdeal.main_arg3)
          ∧ r.2.mem ((c.tc : Thread Cert.SsmGluReferenceIdeal.nD Cert.SsmGluReferenceIdeal.τ).loc Cert.SsmGluReferenceIdeal.main_arg4) = m' ((c.tc : Thread Cert.SsmGluReferenceIdeal.nD Cert.SsmGluReferenceIdeal.τ).loc Cert.SsmGluReferenceIdeal.main_arg4))

def preserves_WOutKernel_WOutKernelIdeal : Prop :=
  True

def algebraic_WOutKernelIdeal_WOutReferenceIdeal [hWOutKernelIdeal : Cert.WOutKernelIdeal.Facts] [hWOutReferenceIdeal : Cert.WOutReferenceIdeal.Facts] : Prop :=
  ∀ (m : (ℓ : Loc Cert.WOutKernelIdeal.nD Cert.WOutKernelIdeal.τ Cert.WOutKernelIdeal.sig) → Buf (Elt Ideal) ℓ) (g : Dev Cert.WOutKernelIdeal.nD → PrngReg)
    (m' : (ℓ : Loc Cert.WOutReferenceIdeal.nD Cert.WOutReferenceIdeal.τ Cert.WOutReferenceIdeal.sig) → Buf (Elt Ideal) ℓ) (g' : Dev Cert.WOutReferenceIdeal.nD → PrngReg), Pre_WOutKernelIdeal m →
    (∀ c : Dev Cert.WOutKernelIdeal.nD,
      m' ((c.tc : Thread Cert.WOutReferenceIdeal.nD Cert.WOutReferenceIdeal.τ).loc Cert.WOutReferenceIdeal.main_arg0) = m ((c.tc : Thread Cert.WOutKernelIdeal.nD Cert.WOutKernelIdeal.τ).loc Cert.WOutKernelIdeal.main_arg0)
      ∧ m' ((c.tc : Thread Cert.WOutReferenceIdeal.nD Cert.WOutReferenceIdeal.τ).loc Cert.WOutReferenceIdeal.main_arg1) = m ((c.tc : Thread Cert.WOutKernelIdeal.nD Cert.WOutKernelIdeal.τ).loc Cert.WOutKernelIdeal.main_arg1)
      ∧ m' ((c.tc : Thread Cert.WOutReferenceIdeal.nD Cert.WOutReferenceIdeal.τ).loc Cert.WOutReferenceIdeal.main_arg2) = m ((c.tc : Thread Cert.WOutKernelIdeal.nD Cert.WOutKernelIdeal.τ).loc Cert.WOutKernelIdeal.main_arg2)
      ∧ m' ((c.tc : Thread Cert.WOutReferenceIdeal.nD Cert.WOutReferenceIdeal.τ).loc Cert.WOutReferenceIdeal.main_arg3) = m ((c.tc : Thread Cert.WOutKernelIdeal.nD Cert.WOutKernelIdeal.τ).loc Cert.WOutKernelIdeal.main_arg3)
      ∧ m' ((c.tc : Thread Cert.WOutReferenceIdeal.nD Cert.WOutReferenceIdeal.τ).loc Cert.WOutReferenceIdeal.main_arg4) = m ((c.tc : Thread Cert.WOutKernelIdeal.nD Cert.WOutKernelIdeal.τ).loc Cert.WOutKernelIdeal.main_arg4)) →
    ∃ (v0 : (c : Dev Cert.WOutKernelIdeal.nD) → Buf (Elt Ideal) ((c.tc : Thread Cert.WOutKernelIdeal.nD Cert.WOutKernelIdeal.τ).loc Cert.WOutKernelIdeal.main_v4_0)) (v1 : (c : Dev Cert.WOutKernelIdeal.nD) → Buf (Elt Ideal) ((c.tc : Thread Cert.WOutKernelIdeal.nD Cert.WOutKernelIdeal.τ).loc Cert.WOutKernelIdeal.main_v4_1)) (v2 : (c : Dev Cert.WOutKernelIdeal.nD) → Buf (Elt Ideal) ((c.tc : Thread Cert.WOutKernelIdeal.nD Cert.WOutKernelIdeal.τ).loc Cert.WOutKernelIdeal.main_v4_2)),
      θ_run (Cert.WOutKernelIdeal.defs (F := Ideal)) (onTc (τ := Cert.WOutKernelIdeal.τ) (Cert.WOutKernelIdeal.main (F := Ideal))) ⟨m, fun _ => 0, g⟩ (fun r => ∀ c : Dev Cert.WOutKernelIdeal.nD,
          r.2.mem ((c.tc : Thread Cert.WOutKernelIdeal.nD Cert.WOutKernelIdeal.τ).loc Cert.WOutKernelIdeal.main_v4_0) = v0 c
          ∧ r.2.mem ((c.tc : Thread Cert.WOutKernelIdeal.nD Cert.WOutKernelIdeal.τ).loc Cert.WOutKernelIdeal.main_v4_1) = v1 c
          ∧ r.2.mem ((c.tc : Thread Cert.WOutKernelIdeal.nD Cert.WOutKernelIdeal.τ).loc Cert.WOutKernelIdeal.main_v4_2) = v2 c
          ∧ r.2.mem ((c.tc : Thread Cert.WOutKernelIdeal.nD Cert.WOutKernelIdeal.τ).loc Cert.WOutKernelIdeal.main_arg0) = m ((c.tc : Thread Cert.WOutKernelIdeal.nD Cert.WOutKernelIdeal.τ).loc Cert.WOutKernelIdeal.main_arg0)
          ∧ r.2.mem ((c.tc : Thread Cert.WOutKernelIdeal.nD Cert.WOutKernelIdeal.τ).loc Cert.WOutKernelIdeal.main_arg1) = m ((c.tc : Thread Cert.WOutKernelIdeal.nD Cert.WOutKernelIdeal.τ).loc Cert.WOutKernelIdeal.main_arg1)
          ∧ r.2.mem ((c.tc : Thread Cert.WOutKernelIdeal.nD Cert.WOutKernelIdeal.τ).loc Cert.WOutKernelIdeal.main_arg2) = m ((c.tc : Thread Cert.WOutKernelIdeal.nD Cert.WOutKernelIdeal.τ).loc Cert.WOutKernelIdeal.main_arg2)
          ∧ r.2.mem ((c.tc : Thread Cert.WOutKernelIdeal.nD Cert.WOutKernelIdeal.τ).loc Cert.WOutKernelIdeal.main_arg3) = m ((c.tc : Thread Cert.WOutKernelIdeal.nD Cert.WOutKernelIdeal.τ).loc Cert.WOutKernelIdeal.main_arg3)
          ∧ r.2.mem ((c.tc : Thread Cert.WOutKernelIdeal.nD Cert.WOutKernelIdeal.τ).loc Cert.WOutKernelIdeal.main_arg4) = m ((c.tc : Thread Cert.WOutKernelIdeal.nD Cert.WOutKernelIdeal.τ).loc Cert.WOutKernelIdeal.main_arg4))
      ∧ θ_run (Cert.WOutReferenceIdeal.defs (F := Ideal)) (onTc (τ := Cert.WOutReferenceIdeal.τ) (Cert.WOutReferenceIdeal.main (F := Ideal))) ⟨m', fun _ => 0, g'⟩ (fun r => ∀ c : Dev Cert.WOutReferenceIdeal.nD,
          r.2.mem ((c.tc : Thread Cert.WOutReferenceIdeal.nD Cert.WOutReferenceIdeal.τ).loc Cert.WOutReferenceIdeal.main_v0) = v0 c
          ∧ r.2.mem ((c.tc : Thread Cert.WOutReferenceIdeal.nD Cert.WOutReferenceIdeal.τ).loc Cert.WOutReferenceIdeal.main_v14) = v1 c
          ∧ r.2.mem ((c.tc : Thread Cert.WOutReferenceIdeal.nD Cert.WOutReferenceIdeal.τ).loc Cert.WOutReferenceIdeal.main_v28) = v2 c
          ∧ r.2.mem ((c.tc : Thread Cert.WOutReferenceIdeal.nD Cert.WOutReferenceIdeal.τ).loc Cert.WOutReferenceIdeal.main_arg0) = m' ((c.tc : Thread Cert.WOutReferenceIdeal.nD Cert.WOutReferenceIdeal.τ).loc Cert.WOutReferenceIdeal.main_arg0)
          ∧ r.2.mem ((c.tc : Thread Cert.WOutReferenceIdeal.nD Cert.WOutReferenceIdeal.τ).loc Cert.WOutReferenceIdeal.main_arg1) = m' ((c.tc : Thread Cert.WOutReferenceIdeal.nD Cert.WOutReferenceIdeal.τ).loc Cert.WOutReferenceIdeal.main_arg1)
          ∧ r.2.mem ((c.tc : Thread Cert.WOutReferenceIdeal.nD Cert.WOutReferenceIdeal.τ).loc Cert.WOutReferenceIdeal.main_arg2) = m' ((c.tc : Thread Cert.WOutReferenceIdeal.nD Cert.WOutReferenceIdeal.τ).loc Cert.WOutReferenceIdeal.main_arg2)
          ∧ r.2.mem ((c.tc : Thread Cert.WOutReferenceIdeal.nD Cert.WOutReferenceIdeal.τ).loc Cert.WOutReferenceIdeal.main_arg3) = m' ((c.tc : Thread Cert.WOutReferenceIdeal.nD Cert.WOutReferenceIdeal.τ).loc Cert.WOutReferenceIdeal.main_arg3)
          ∧ r.2.mem ((c.tc : Thread Cert.WOutReferenceIdeal.nD Cert.WOutReferenceIdeal.τ).loc Cert.WOutReferenceIdeal.main_arg4) = m' ((c.tc : Thread Cert.WOutReferenceIdeal.nD Cert.WOutReferenceIdeal.τ).loc Cert.WOutReferenceIdeal.main_arg4))

def preserves_PleGateKernel_PleGateKernelIdeal : Prop :=
  True

def algebraic_PleGateKernelIdeal_PleGateReferenceIdeal [hPleGateKernelIdeal : Cert.PleGateKernelIdeal.Facts] [hPleGateReferenceIdeal : Cert.PleGateReferenceIdeal.Facts] : Prop :=
  ∀ (m : (ℓ : Loc Cert.PleGateKernelIdeal.nD Cert.PleGateKernelIdeal.τ Cert.PleGateKernelIdeal.sig) → Buf (Elt Ideal) ℓ) (g : Dev Cert.PleGateKernelIdeal.nD → PrngReg)
    (m' : (ℓ : Loc Cert.PleGateReferenceIdeal.nD Cert.PleGateReferenceIdeal.τ Cert.PleGateReferenceIdeal.sig) → Buf (Elt Ideal) ℓ) (g' : Dev Cert.PleGateReferenceIdeal.nD → PrngReg), Pre_PleGateKernelIdeal m →
    (∀ c : Dev Cert.PleGateKernelIdeal.nD,
      m' ((c.tc : Thread Cert.PleGateReferenceIdeal.nD Cert.PleGateReferenceIdeal.τ).loc Cert.PleGateReferenceIdeal.main_arg0) = m ((c.tc : Thread Cert.PleGateKernelIdeal.nD Cert.PleGateKernelIdeal.τ).loc Cert.PleGateKernelIdeal.main_arg0)
      ∧ m' ((c.tc : Thread Cert.PleGateReferenceIdeal.nD Cert.PleGateReferenceIdeal.τ).loc Cert.PleGateReferenceIdeal.main_arg1) = m ((c.tc : Thread Cert.PleGateKernelIdeal.nD Cert.PleGateKernelIdeal.τ).loc Cert.PleGateKernelIdeal.main_arg1)
      ∧ m' ((c.tc : Thread Cert.PleGateReferenceIdeal.nD Cert.PleGateReferenceIdeal.τ).loc Cert.PleGateReferenceIdeal.main_arg2) = m ((c.tc : Thread Cert.PleGateKernelIdeal.nD Cert.PleGateKernelIdeal.τ).loc Cert.PleGateKernelIdeal.main_arg2)
      ∧ m' ((c.tc : Thread Cert.PleGateReferenceIdeal.nD Cert.PleGateReferenceIdeal.τ).loc Cert.PleGateReferenceIdeal.main_arg3) = m ((c.tc : Thread Cert.PleGateKernelIdeal.nD Cert.PleGateKernelIdeal.τ).loc Cert.PleGateKernelIdeal.main_arg3)
      ∧ m' ((c.tc : Thread Cert.PleGateReferenceIdeal.nD Cert.PleGateReferenceIdeal.τ).loc Cert.PleGateReferenceIdeal.main_arg4) = m ((c.tc : Thread Cert.PleGateKernelIdeal.nD Cert.PleGateKernelIdeal.τ).loc Cert.PleGateKernelIdeal.main_arg4)) →
    ∃ (v0 : (c : Dev Cert.PleGateKernelIdeal.nD) → Buf (Elt Ideal) ((c.tc : Thread Cert.PleGateKernelIdeal.nD Cert.PleGateKernelIdeal.τ).loc Cert.PleGateKernelIdeal.main_v3_0)) (v1 : (c : Dev Cert.PleGateKernelIdeal.nD) → Buf (Elt Ideal) ((c.tc : Thread Cert.PleGateKernelIdeal.nD Cert.PleGateKernelIdeal.τ).loc Cert.PleGateKernelIdeal.main_v3_1)) (v2 : (c : Dev Cert.PleGateKernelIdeal.nD) → Buf (Elt Ideal) ((c.tc : Thread Cert.PleGateKernelIdeal.nD Cert.PleGateKernelIdeal.τ).loc Cert.PleGateKernelIdeal.main_v3_2)),
      θ_run (Cert.PleGateKernelIdeal.defs (F := Ideal)) (onTc (τ := Cert.PleGateKernelIdeal.τ) (Cert.PleGateKernelIdeal.main (F := Ideal))) ⟨m, fun _ => 0, g⟩ (fun r => ∀ c : Dev Cert.PleGateKernelIdeal.nD,
          r.2.mem ((c.tc : Thread Cert.PleGateKernelIdeal.nD Cert.PleGateKernelIdeal.τ).loc Cert.PleGateKernelIdeal.main_v3_0) = v0 c
          ∧ r.2.mem ((c.tc : Thread Cert.PleGateKernelIdeal.nD Cert.PleGateKernelIdeal.τ).loc Cert.PleGateKernelIdeal.main_v3_1) = v1 c
          ∧ r.2.mem ((c.tc : Thread Cert.PleGateKernelIdeal.nD Cert.PleGateKernelIdeal.τ).loc Cert.PleGateKernelIdeal.main_v3_2) = v2 c
          ∧ r.2.mem ((c.tc : Thread Cert.PleGateKernelIdeal.nD Cert.PleGateKernelIdeal.τ).loc Cert.PleGateKernelIdeal.main_arg0) = m ((c.tc : Thread Cert.PleGateKernelIdeal.nD Cert.PleGateKernelIdeal.τ).loc Cert.PleGateKernelIdeal.main_arg0)
          ∧ r.2.mem ((c.tc : Thread Cert.PleGateKernelIdeal.nD Cert.PleGateKernelIdeal.τ).loc Cert.PleGateKernelIdeal.main_arg1) = m ((c.tc : Thread Cert.PleGateKernelIdeal.nD Cert.PleGateKernelIdeal.τ).loc Cert.PleGateKernelIdeal.main_arg1)
          ∧ r.2.mem ((c.tc : Thread Cert.PleGateKernelIdeal.nD Cert.PleGateKernelIdeal.τ).loc Cert.PleGateKernelIdeal.main_arg2) = m ((c.tc : Thread Cert.PleGateKernelIdeal.nD Cert.PleGateKernelIdeal.τ).loc Cert.PleGateKernelIdeal.main_arg2)
          ∧ r.2.mem ((c.tc : Thread Cert.PleGateKernelIdeal.nD Cert.PleGateKernelIdeal.τ).loc Cert.PleGateKernelIdeal.main_arg3) = m ((c.tc : Thread Cert.PleGateKernelIdeal.nD Cert.PleGateKernelIdeal.τ).loc Cert.PleGateKernelIdeal.main_arg3)
          ∧ r.2.mem ((c.tc : Thread Cert.PleGateKernelIdeal.nD Cert.PleGateKernelIdeal.τ).loc Cert.PleGateKernelIdeal.main_arg4) = m ((c.tc : Thread Cert.PleGateKernelIdeal.nD Cert.PleGateKernelIdeal.τ).loc Cert.PleGateKernelIdeal.main_arg4))
      ∧ θ_run (Cert.PleGateReferenceIdeal.defs (F := Ideal)) (onTc (τ := Cert.PleGateReferenceIdeal.τ) (Cert.PleGateReferenceIdeal.main (F := Ideal))) ⟨m', fun _ => 0, g'⟩ (fun r => ∀ c : Dev Cert.PleGateReferenceIdeal.nD,
          r.2.mem ((c.tc : Thread Cert.PleGateReferenceIdeal.nD Cert.PleGateReferenceIdeal.τ).loc Cert.PleGateReferenceIdeal.main_v0) = v0 c
          ∧ r.2.mem ((c.tc : Thread Cert.PleGateReferenceIdeal.nD Cert.PleGateReferenceIdeal.τ).loc Cert.PleGateReferenceIdeal.main_v21) = v1 c
          ∧ r.2.mem ((c.tc : Thread Cert.PleGateReferenceIdeal.nD Cert.PleGateReferenceIdeal.τ).loc Cert.PleGateReferenceIdeal.main_v35) = v2 c
          ∧ r.2.mem ((c.tc : Thread Cert.PleGateReferenceIdeal.nD Cert.PleGateReferenceIdeal.τ).loc Cert.PleGateReferenceIdeal.main_arg0) = m' ((c.tc : Thread Cert.PleGateReferenceIdeal.nD Cert.PleGateReferenceIdeal.τ).loc Cert.PleGateReferenceIdeal.main_arg0)
          ∧ r.2.mem ((c.tc : Thread Cert.PleGateReferenceIdeal.nD Cert.PleGateReferenceIdeal.τ).loc Cert.PleGateReferenceIdeal.main_arg1) = m' ((c.tc : Thread Cert.PleGateReferenceIdeal.nD Cert.PleGateReferenceIdeal.τ).loc Cert.PleGateReferenceIdeal.main_arg1)
          ∧ r.2.mem ((c.tc : Thread Cert.PleGateReferenceIdeal.nD Cert.PleGateReferenceIdeal.τ).loc Cert.PleGateReferenceIdeal.main_arg2) = m' ((c.tc : Thread Cert.PleGateReferenceIdeal.nD Cert.PleGateReferenceIdeal.τ).loc Cert.PleGateReferenceIdeal.main_arg2)
          ∧ r.2.mem ((c.tc : Thread Cert.PleGateReferenceIdeal.nD Cert.PleGateReferenceIdeal.τ).loc Cert.PleGateReferenceIdeal.main_arg3) = m' ((c.tc : Thread Cert.PleGateReferenceIdeal.nD Cert.PleGateReferenceIdeal.τ).loc Cert.PleGateReferenceIdeal.main_arg3)
          ∧ r.2.mem ((c.tc : Thread Cert.PleGateReferenceIdeal.nD Cert.PleGateReferenceIdeal.τ).loc Cert.PleGateReferenceIdeal.main_arg4) = m' ((c.tc : Thread Cert.PleGateReferenceIdeal.nD Cert.PleGateReferenceIdeal.τ).loc Cert.PleGateReferenceIdeal.main_arg4))

def preserves_RopeKernel_RopeKernelIdeal : Prop :=
  True

def algebraic_RopeKernelIdeal_RopeReferenceIdeal [hRopeKernelIdeal : Cert.RopeKernelIdeal.Facts] [hRopeReferenceIdeal : Cert.RopeReferenceIdeal.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeKernelIdeal m →
    (∀ c : Dev Cert.RopeKernelIdeal.nD,
      m' ((c.tc : Thread Cert.RopeReferenceIdeal.nD Cert.RopeReferenceIdeal.τ).loc Cert.RopeReferenceIdeal.main_arg0) = m ((c.tc : Thread Cert.RopeKernelIdeal.nD Cert.RopeKernelIdeal.τ).loc Cert.RopeKernelIdeal.main_arg0)
      ∧ m' ((c.tc : Thread Cert.RopeReferenceIdeal.nD Cert.RopeReferenceIdeal.τ).loc Cert.RopeReferenceIdeal.main_arg1) = m ((c.tc : Thread Cert.RopeKernelIdeal.nD Cert.RopeKernelIdeal.τ).loc Cert.RopeKernelIdeal.main_arg1)) →
    ∃ (v0 : (c : Dev Cert.RopeKernelIdeal.nD) → Buf (Elt Ideal) ((c.tc : Thread Cert.RopeKernelIdeal.nD Cert.RopeKernelIdeal.τ).loc Cert.RopeKernelIdeal.main_v30_0)) (v1 : (c : Dev Cert.RopeKernelIdeal.nD) → Buf (Elt Ideal) ((c.tc : Thread Cert.RopeKernelIdeal.nD Cert.RopeKernelIdeal.τ).loc Cert.RopeKernelIdeal.main_v30_1)) (v2 : (c : Dev Cert.RopeKernelIdeal.nD) → Buf (Elt Ideal) ((c.tc : Thread Cert.RopeKernelIdeal.nD Cert.RopeKernelIdeal.τ).loc Cert.RopeKernelIdeal.main_v30_2)) (v3 : (c : Dev Cert.RopeKernelIdeal.nD) → Buf (Elt Ideal) ((c.tc : Thread Cert.RopeKernelIdeal.nD Cert.RopeKernelIdeal.τ).loc Cert.RopeKernelIdeal.main_v30_3)) (v4 : (c : Dev Cert.RopeKernelIdeal.nD) → Buf (Elt Ideal) ((c.tc : Thread Cert.RopeKernelIdeal.nD Cert.RopeKernelIdeal.τ).loc Cert.RopeKernelIdeal.main_v30_4)) (v5 : (c : Dev Cert.RopeKernelIdeal.nD) → Buf (Elt Ideal) ((c.tc : Thread Cert.RopeKernelIdeal.nD Cert.RopeKernelIdeal.τ).loc Cert.RopeKernelIdeal.main_v30_5)) (v6 : (c : Dev Cert.RopeKernelIdeal.nD) → Buf (Elt Ideal) ((c.tc : Thread Cert.RopeKernelIdeal.nD Cert.RopeKernelIdeal.τ).loc Cert.RopeKernelIdeal.main_v30_6)) (v7 : (c : Dev Cert.RopeKernelIdeal.nD) → Buf (Elt Ideal) ((c.tc : Thread Cert.RopeKernelIdeal.nD Cert.RopeKernelIdeal.τ).loc Cert.RopeKernelIdeal.main_v30_7)) (v8 : (c : Dev Cert.RopeKernelIdeal.nD) → Buf (Elt Ideal) ((c.tc : Thread Cert.RopeKernelIdeal.nD Cert.RopeKernelIdeal.τ).loc Cert.RopeKernelIdeal.main_v30_8)),
      θ_run (Cert.RopeKernelIdeal.defs (F := Ideal)) (onTc (τ := Cert.RopeKernelIdeal.τ) (Cert.RopeKernelIdeal.main (F := Ideal))) ⟨m, fun _ => 0, g⟩ (fun r => ∀ c : Dev Cert.RopeKernelIdeal.nD,
          r.2.mem ((c.tc : Thread Cert.RopeKernelIdeal.nD Cert.RopeKernelIdeal.τ).loc Cert.RopeKernelIdeal.main_v30_0) = v0 c
          ∧ r.2.mem ((c.tc : Thread Cert.RopeKernelIdeal.nD Cert.RopeKernelIdeal.τ).loc Cert.RopeKernelIdeal.main_v30_1) = v1 c
          ∧ r.2.mem ((c.tc : Thread Cert.RopeKernelIdeal.nD Cert.RopeKernelIdeal.τ).loc Cert.RopeKernelIdeal.main_v30_2) = v2 c
          ∧ r.2.mem ((c.tc : Thread Cert.RopeKernelIdeal.nD Cert.RopeKernelIdeal.τ).loc Cert.RopeKernelIdeal.main_v30_3) = v3 c
          ∧ r.2.mem ((c.tc : Thread Cert.RopeKernelIdeal.nD Cert.RopeKernelIdeal.τ).loc Cert.RopeKernelIdeal.main_v30_4) = v4 c
          ∧ r.2.mem ((c.tc : Thread Cert.RopeKernelIdeal.nD Cert.RopeKernelIdeal.τ).loc Cert.RopeKernelIdeal.main_v30_5) = v5 c
          ∧ r.2.mem ((c.tc : Thread Cert.RopeKernelIdeal.nD Cert.RopeKernelIdeal.τ).loc Cert.RopeKernelIdeal.main_v30_6) = v6 c
          ∧ r.2.mem ((c.tc : Thread Cert.RopeKernelIdeal.nD Cert.RopeKernelIdeal.τ).loc Cert.RopeKernelIdeal.main_v30_7) = v7 c
          ∧ r.2.mem ((c.tc : Thread Cert.RopeKernelIdeal.nD Cert.RopeKernelIdeal.τ).loc Cert.RopeKernelIdeal.main_v30_8) = v8 c
          ∧ r.2.mem ((c.tc : Thread Cert.RopeKernelIdeal.nD Cert.RopeKernelIdeal.τ).loc Cert.RopeKernelIdeal.main_arg0) = m ((c.tc : Thread Cert.RopeKernelIdeal.nD Cert.RopeKernelIdeal.τ).loc Cert.RopeKernelIdeal.main_arg0)
          ∧ r.2.mem ((c.tc : Thread Cert.RopeKernelIdeal.nD Cert.RopeKernelIdeal.τ).loc Cert.RopeKernelIdeal.main_arg1) = m ((c.tc : Thread Cert.RopeKernelIdeal.nD Cert.RopeKernelIdeal.τ).loc Cert.RopeKernelIdeal.main_arg1))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v65) = v0 c
          ∧ r.2.mem ((c.tc : Thread Cert.RopeReferenceIdeal.nD Cert.RopeReferenceIdeal.τ).loc Cert.RopeReferenceIdeal.main_v66) = v1 c
          ∧ r.2.mem ((c.tc : Thread Cert.RopeReferenceIdeal.nD Cert.RopeReferenceIdeal.τ).loc Cert.RopeReferenceIdeal.main_v64) = v2 c
          ∧ r.2.mem ((c.tc : Thread Cert.RopeReferenceIdeal.nD Cert.RopeReferenceIdeal.τ).loc Cert.RopeReferenceIdeal.main_v67) = v3 c
          ∧ r.2.mem ((c.tc : Thread Cert.RopeReferenceIdeal.nD Cert.RopeReferenceIdeal.τ).loc Cert.RopeReferenceIdeal.main_v68) = v4 c
          ∧ r.2.mem ((c.tc : Thread Cert.RopeReferenceIdeal.nD Cert.RopeReferenceIdeal.τ).loc Cert.RopeReferenceIdeal.main_v69) = v5 c
          ∧ r.2.mem ((c.tc : Thread Cert.RopeReferenceIdeal.nD Cert.RopeReferenceIdeal.τ).loc Cert.RopeReferenceIdeal.main_v70) = v6 c
          ∧ r.2.mem ((c.tc : Thread Cert.RopeReferenceIdeal.nD Cert.RopeReferenceIdeal.τ).loc Cert.RopeReferenceIdeal.main_v71) = v7 c
          ∧ r.2.mem ((c.tc : Thread Cert.RopeReferenceIdeal.nD Cert.RopeReferenceIdeal.τ).loc Cert.RopeReferenceIdeal.main_v72) = v8 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0)
          ∧ r.2.mem ((c.tc : Thread Cert.RopeReferenceIdeal.nD Cert.RopeReferenceIdeal.τ).loc Cert.RopeReferenceIdeal.main_arg1) = m' ((c.tc : Thread Cert.RopeReferenceIdeal.nD Cert.RopeReferenceIdeal.τ).loc Cert.RopeReferenceIdeal.main_arg1))

def Claim : Prop :=
  ∃ (hFfnActKernel : Cert.FfnActKernel.Facts) (hFfnActKernelIdeal : Cert.FfnActKernelIdeal.Facts) (hFfnActReferenceIdeal : Cert.FfnActReferenceIdeal.Facts) (hLossKernel : Cert.LossKernel.Facts) (hLossKernelIdeal : Cert.LossKernelIdeal.Facts) (hLossReferenceIdeal : Cert.LossReferenceIdeal.Facts) (hDiagKernel : Cert.DiagKernel.Facts) (hDiagKernelIdeal : Cert.DiagKernelIdeal.Facts) (hDiagReferenceIdeal : Cert.DiagReferenceIdeal.Facts) (hAttnKernel : Cert.AttnKernel.Facts) (hAttnKernelIdeal : Cert.AttnKernelIdeal.Facts) (hAttnReferenceIdeal : Cert.AttnReferenceIdeal.Facts) (hAttnSumKernel : Cert.AttnSumKernel.Facts) (hAttnSumKernelIdeal : Cert.AttnSumKernelIdeal.Facts) (hAttnSumReferenceIdeal : Cert.AttnSumReferenceIdeal.Facts) (hMixKernel : Cert.MixKernel.Facts) (hMixKernelIdeal : Cert.MixKernelIdeal.Facts) (hMixReferenceIdeal : Cert.MixReferenceIdeal.Facts) (hGluKernel : Cert.GluKernel.Facts) (hGluKernelIdeal : Cert.GluKernelIdeal.Facts) (hGluReferenceIdeal : Cert.GluReferenceIdeal.Facts) (hPleKernel : Cert.PleKernel.Facts) (hPleKernelIdeal : Cert.PleKernelIdeal.Facts) (hPleReferenceIdeal : Cert.PleReferenceIdeal.Facts) (hFfnPostKernel : Cert.FfnPostKernel.Facts) (hFfnPostKernelIdeal : Cert.FfnPostKernelIdeal.Facts) (hFfnPostReferenceIdeal : Cert.FfnPostReferenceIdeal.Facts) (hFfnPreKernel : Cert.FfnPreKernel.Facts) (hFfnPreKernelIdeal : Cert.FfnPreKernelIdeal.Facts) (hFfnPreReferenceIdeal : Cert.FfnPreReferenceIdeal.Facts) (hMixInKernel : Cert.MixInKernel.Facts) (hMixInKernelIdeal : Cert.MixInKernelIdeal.Facts) (hMixInReferenceIdeal : Cert.MixInReferenceIdeal.Facts) (hFfnInKernel : Cert.FfnInKernel.Facts) (hFfnInKernelIdeal : Cert.FfnInKernelIdeal.Facts) (hFfnInReferenceIdeal : Cert.FfnInReferenceIdeal.Facts) (hPreNormKernel : Cert.PreNormKernel.Facts) (hPreNormKernelIdeal : Cert.PreNormKernelIdeal.Facts) (hPreNormReferenceIdeal : Cert.PreNormReferenceIdeal.Facts) (hFfnDownKernel : Cert.FfnDownKernel.Facts) (hFfnDownKernelIdeal : Cert.FfnDownKernelIdeal.Facts) (hFfnDownReferenceIdeal : Cert.FfnDownReferenceIdeal.Facts) (hSsmGluKernel : Cert.SsmGluKernel.Facts) (hSsmGluKernelIdeal : Cert.SsmGluKernelIdeal.Facts) (hSsmGluReferenceIdeal : Cert.SsmGluReferenceIdeal.Facts) (hWOutKernel : Cert.WOutKernel.Facts) (hWOutKernelIdeal : Cert.WOutKernelIdeal.Facts) (hWOutReferenceIdeal : Cert.WOutReferenceIdeal.Facts) (hPleGateKernel : Cert.PleGateKernel.Facts) (hPleGateKernelIdeal : Cert.PleGateKernelIdeal.Facts) (hPleGateReferenceIdeal : Cert.PleGateReferenceIdeal.Facts) (hRopeKernel : Cert.RopeKernel.Facts) (hRopeKernelIdeal : Cert.RopeKernelIdeal.Facts) (hRopeReferenceIdeal : Cert.RopeReferenceIdeal.Facts) (hPre_ffn_finite : Cert.Pre_ffn_finite.Facts) (hPre_attn_finite : Cert.Pre_attn_finite.Facts),
    quiescent_FfnActKernel (hFfnActKernel := hFfnActKernel)
    ∧ quiescent_FfnActKernelIdeal (hFfnActKernelIdeal := hFfnActKernelIdeal)
    ∧ quiescent_FfnActKernelIdeal_pre_ffn_finite (hFfnActKernelIdeal := hFfnActKernelIdeal) (hPre_ffn_finite := hPre_ffn_finite)
    ∧ quiescent_FfnActReferenceIdeal (hFfnActReferenceIdeal := hFfnActReferenceIdeal)
    ∧ quiescent_FfnActReferenceIdeal_pre_ffn_finite (hFfnActReferenceIdeal := hFfnActReferenceIdeal) (hPre_ffn_finite := hPre_ffn_finite)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_DiagKernel (hDiagKernel := hDiagKernel)
    ∧ quiescent_DiagKernelIdeal (hDiagKernelIdeal := hDiagKernelIdeal)
    ∧ quiescent_DiagReferenceIdeal (hDiagReferenceIdeal := hDiagReferenceIdeal)
    ∧ quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_AttnSumKernel (hAttnSumKernel := hAttnSumKernel)
    ∧ quiescent_AttnSumKernelIdeal (hAttnSumKernelIdeal := hAttnSumKernelIdeal)
    ∧ quiescent_AttnSumReferenceIdeal (hAttnSumReferenceIdeal := hAttnSumReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_GluKernel (hGluKernel := hGluKernel)
    ∧ quiescent_GluKernelIdeal (hGluKernelIdeal := hGluKernelIdeal)
    ∧ quiescent_GluReferenceIdeal (hGluReferenceIdeal := hGluReferenceIdeal)
    ∧ quiescent_PleKernel (hPleKernel := hPleKernel)
    ∧ quiescent_PleKernelIdeal (hPleKernelIdeal := hPleKernelIdeal)
    ∧ quiescent_PleReferenceIdeal (hPleReferenceIdeal := hPleReferenceIdeal)
    ∧ quiescent_FfnPostKernel (hFfnPostKernel := hFfnPostKernel)
    ∧ quiescent_FfnPostKernelIdeal (hFfnPostKernelIdeal := hFfnPostKernelIdeal)
    ∧ quiescent_FfnPostReferenceIdeal (hFfnPostReferenceIdeal := hFfnPostReferenceIdeal)
    ∧ quiescent_FfnPreKernel (hFfnPreKernel := hFfnPreKernel)
    ∧ quiescent_FfnPreKernelIdeal (hFfnPreKernelIdeal := hFfnPreKernelIdeal)
    ∧ quiescent_FfnPreReferenceIdeal (hFfnPreReferenceIdeal := hFfnPreReferenceIdeal)
    ∧ quiescent_MixInKernel (hMixInKernel := hMixInKernel)
    ∧ quiescent_MixInKernelIdeal (hMixInKernelIdeal := hMixInKernelIdeal)
    ∧ quiescent_MixInReferenceIdeal (hMixInReferenceIdeal := hMixInReferenceIdeal)
    ∧ quiescent_FfnInKernel (hFfnInKernel := hFfnInKernel)
    ∧ quiescent_FfnInKernelIdeal (hFfnInKernelIdeal := hFfnInKernelIdeal)
    ∧ quiescent_FfnInReferenceIdeal (hFfnInReferenceIdeal := hFfnInReferenceIdeal)
    ∧ quiescent_PreNormKernel (hPreNormKernel := hPreNormKernel)
    ∧ quiescent_PreNormKernelIdeal (hPreNormKernelIdeal := hPreNormKernelIdeal)
    ∧ quiescent_PreNormReferenceIdeal (hPreNormReferenceIdeal := hPreNormReferenceIdeal)
    ∧ quiescent_FfnDownKernel (hFfnDownKernel := hFfnDownKernel)
    ∧ quiescent_FfnDownKernelIdeal (hFfnDownKernelIdeal := hFfnDownKernelIdeal)
    ∧ quiescent_FfnDownReferenceIdeal (hFfnDownReferenceIdeal := hFfnDownReferenceIdeal)
    ∧ quiescent_SsmGluKernel (hSsmGluKernel := hSsmGluKernel)
    ∧ quiescent_SsmGluKernelIdeal (hSsmGluKernelIdeal := hSsmGluKernelIdeal)
    ∧ quiescent_SsmGluReferenceIdeal (hSsmGluReferenceIdeal := hSsmGluReferenceIdeal)
    ∧ quiescent_WOutKernel (hWOutKernel := hWOutKernel)
    ∧ quiescent_WOutKernelIdeal (hWOutKernelIdeal := hWOutKernelIdeal)
    ∧ quiescent_WOutReferenceIdeal (hWOutReferenceIdeal := hWOutReferenceIdeal)
    ∧ quiescent_PleGateKernel (hPleGateKernel := hPleGateKernel)
    ∧ quiescent_PleGateKernelIdeal (hPleGateKernelIdeal := hPleGateKernelIdeal)
    ∧ quiescent_PleGateReferenceIdeal (hPleGateReferenceIdeal := hPleGateReferenceIdeal)
    ∧ quiescent_RopeKernel (hRopeKernel := hRopeKernel)
    ∧ quiescent_RopeKernelIdeal (hRopeKernelIdeal := hRopeKernelIdeal)
    ∧ quiescent_RopeReferenceIdeal (hRopeReferenceIdeal := hRopeReferenceIdeal)
    ∧ preserves_FfnActKernel_FfnActKernelIdeal
    ∧ algebraic_FfnActKernelIdeal_FfnActReferenceIdeal_pre_ffn_finite (hFfnActKernelIdeal := hFfnActKernelIdeal) (hFfnActReferenceIdeal := hFfnActReferenceIdeal) (hPre_ffn_finite := hPre_ffn_finite)
    ∧ preserves_LossKernel_LossKernelIdeal
    ∧ algebraic_LossKernelIdeal_LossReferenceIdeal (hLossKernelIdeal := hLossKernelIdeal) (hLossReferenceIdeal := hLossReferenceIdeal)
    ∧ preserves_DiagKernel_DiagKernelIdeal
    ∧ algebraic_DiagKernelIdeal_DiagReferenceIdeal (hDiagKernelIdeal := hDiagKernelIdeal) (hDiagReferenceIdeal := hDiagReferenceIdeal)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
    ∧ preserves_AttnSumKernel_AttnSumKernelIdeal
    ∧ algebraic_AttnSumKernelIdeal_AttnSumReferenceIdeal (hAttnSumKernelIdeal := hAttnSumKernelIdeal) (hAttnSumReferenceIdeal := hAttnSumReferenceIdeal)
    ∧ preserves_MixKernel_MixKernelIdeal
    ∧ algebraic_MixKernelIdeal_MixReferenceIdeal (hMixKernelIdeal := hMixKernelIdeal) (hMixReferenceIdeal := hMixReferenceIdeal)
    ∧ preserves_GluKernel_GluKernelIdeal
    ∧ algebraic_GluKernelIdeal_GluReferenceIdeal (hGluKernelIdeal := hGluKernelIdeal) (hGluReferenceIdeal := hGluReferenceIdeal)
    ∧ preserves_PleKernel_PleKernelIdeal
    ∧ algebraic_PleKernelIdeal_PleReferenceIdeal (hPleKernelIdeal := hPleKernelIdeal) (hPleReferenceIdeal := hPleReferenceIdeal)
    ∧ preserves_FfnPostKernel_FfnPostKernelIdeal
    ∧ algebraic_FfnPostKernelIdeal_FfnPostReferenceIdeal (hFfnPostKernelIdeal := hFfnPostKernelIdeal) (hFfnPostReferenceIdeal := hFfnPostReferenceIdeal)
    ∧ preserves_FfnPreKernel_FfnPreKernelIdeal
    ∧ algebraic_FfnPreKernelIdeal_FfnPreReferenceIdeal (hFfnPreKernelIdeal := hFfnPreKernelIdeal) (hFfnPreReferenceIdeal := hFfnPreReferenceIdeal)
    ∧ preserves_MixInKernel_MixInKernelIdeal
    ∧ algebraic_MixInKernelIdeal_MixInReferenceIdeal (hMixInKernelIdeal := hMixInKernelIdeal) (hMixInReferenceIdeal := hMixInReferenceIdeal)
    ∧ preserves_FfnInKernel_FfnInKernelIdeal
    ∧ algebraic_FfnInKernelIdeal_FfnInReferenceIdeal (hFfnInKernelIdeal := hFfnInKernelIdeal) (hFfnInReferenceIdeal := hFfnInReferenceIdeal)
    ∧ preserves_PreNormKernel_PreNormKernelIdeal
    ∧ algebraic_PreNormKernelIdeal_PreNormReferenceIdeal (hPreNormKernelIdeal := hPreNormKernelIdeal) (hPreNormReferenceIdeal := hPreNormReferenceIdeal)
    ∧ preserves_FfnDownKernel_FfnDownKernelIdeal
    ∧ algebraic_FfnDownKernelIdeal_FfnDownReferenceIdeal (hFfnDownKernelIdeal := hFfnDownKernelIdeal) (hFfnDownReferenceIdeal := hFfnDownReferenceIdeal)
    ∧ preserves_SsmGluKernel_SsmGluKernelIdeal
    ∧ algebraic_SsmGluKernelIdeal_SsmGluReferenceIdeal (hSsmGluKernelIdeal := hSsmGluKernelIdeal) (hSsmGluReferenceIdeal := hSsmGluReferenceIdeal)
    ∧ preserves_WOutKernel_WOutKernelIdeal
    ∧ algebraic_WOutKernelIdeal_WOutReferenceIdeal (hWOutKernelIdeal := hWOutKernelIdeal) (hWOutReferenceIdeal := hWOutReferenceIdeal)
    ∧ preserves_PleGateKernel_PleGateKernelIdeal
    ∧ algebraic_PleGateKernelIdeal_PleGateReferenceIdeal (hPleGateKernelIdeal := hPleGateKernelIdeal) (hPleGateReferenceIdeal := hPleGateReferenceIdeal)
    ∧ preserves_RopeKernel_RopeKernelIdeal
    ∧ algebraic_RopeKernelIdeal_RopeReferenceIdeal (hRopeKernelIdeal := hRopeKernelIdeal) (hRopeReferenceIdeal := hRopeReferenceIdeal)
-- ==== Pre_attn_finite.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn_part1 {F : FTy → Type} [FloatOps F] (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  main_v18

def fn {F : FTy → Type} [FloatOps F] (main_arg0 : FVec F S4096x512 .f32) (main_arg1 : FVec F S4096x512 .f32) (main_arg2 : FVec F S4096x512 .f32) (main_arg3 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_v13 main_v16
-- ==== Pre_ffn_finite.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S1024x2816 .f32) (main_arg2 : FVec F S1024x2816 .f32) (main_arg3 : FVec F S2816x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2816 .f32 := Host.absf main_arg2
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : IVec S_ 1 := andi main_v3 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== FfnActKernel.lean ====
abbrev S4096x1024 : Shape := ⟨2, ![4096, 1024]⟩
abbrev S1024x2816 : Shape := ⟨2, ![1024, 2816]⟩
abbrev S2816x1024 : Shape := ⟨2, ![2816, 1024]⟩
abbrev S1024x5632 : Shape := ⟨2, ![1024, 5632]⟩
abbrev S4096x5632 : Shape := ⟨2, ![4096, 5632]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩

abbrev nBuf : Space → Nat
  | .hbm => 14
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x1024, .bf16⟩
  | .hbm, ⟨6, _⟩ => ⟨S4096x1024, .bf16⟩
  | .hbm, ⟨7, _⟩ => ⟨S1024x2816, .bf16⟩
  | .hbm, ⟨8, _⟩ => ⟨S1024x2816, .bf16⟩
  | .hbm, ⟨9, _⟩ => ⟨S1024x5632, .bf16⟩
  | .hbm, ⟨10, _⟩ => ⟨S2816x1024, .bf16⟩
  | .hbm, ⟨11, _⟩ => ⟨S4096x5632, .bf16⟩
  | .hbm, ⟨12, _⟩ => ⟨S4096x2816, .bf16⟩
  | .hbm, ⟨13, _⟩ => ⟨S4096x5632, .bf16⟩
  | .local _ .vmem, ⟨0, _⟩ => ⟨S256x1024, .bf16⟩
  | .local _ .vmem, ⟨1, _⟩ => ⟨S256x1024, .bf16⟩
  | .local _ .vmem, ⟨2, _⟩ => ⟨S1024x5632, .bf16⟩
  | .local _ .vmem, ⟨3, _⟩ => ⟨S256x5632, .bf16⟩
  | .local _ .vmem, ⟨4, _⟩ => ⟨S256x5632, .bf16⟩
  | .local _ .vmem, ⟨5, _⟩ => ⟨S256x2816, .bf16⟩
  | .local _ .vmem, ⟨6, _⟩ => ⟨S256x2816, .bf16⟩
  | .local _ .vmem, ⟨7, _⟩ => ⟨S256x1024, .bf16⟩
  | .local _ .vmem, ⟨8, _⟩ => ⟨S256x1024, .bf16⟩
  | .local _ .vmem, ⟨9, _⟩ => ⟨S2816x1024, .bf16⟩
  | .local _ .vmem, ⟨10, _⟩ => ⟨S256x5632, .bf16⟩
  | .local _ .vmem, ⟨11, _⟩ => ⟨S256x5632, .bf16⟩
  | .local _ .vmem, ⟨12, _⟩ => ⟨S256x5632, .bf16⟩
  | .local _ .vmem, ⟨13, _⟩ => ⟨S256x5632, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev grid1 : Pipeline.Grid := ⟨3, ![16, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S256x5632 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S256x5632 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]
-- ==== FfnActReferenceIdeal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S4096x5632 : Shape := ⟨2, ![4096, 5632]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x5632, .f32⟩
  | .hbm, ⟨30, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== LossKernel.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v10 : BitVec 32 := Scalar.extui v8
  let c0_i32_6 : BitVec 32 := 0#32
  let v11 : BitVec 1 := Scalar.cmpi .ne v10 c0_i32_6
  v11

def k0_cond2 (i : grid0.Coords) : BitVec 1 :=
  let arg0 : BitVec 32 := BitVec.ofNat 32 (i 0).val
  let c0_i32 : BitVec 32 := 0#32
  let v8 : BitVec 1 := Scalar.cmpi .eq arg0 c0_i32
  let v_true : BitVec 1 := 1#1
  let v12 : BitVec 1 := Scalar.xori v8 v_true
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S4096x1024 : Shape := ⟨2, ![4096, 1024]⟩
abbrev S_ : Shape := ⟨0, ![]⟩
abbrev S4096 : Shape := ⟨1, ![4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== DiagKernel.lean ====
abbrev S512x2048 : Shape := ⟨2, ![512, 2048]⟩
abbrev S32x16x64 : Shape := ⟨3, ![32, 16, 64]⟩
abbrev S32x128 : Shape := ⟨2, ![32, 128]⟩
abbrev S2x16x64 : Shape := ⟨3, ![2, 16, 64]⟩
abbrev S16x64 : Shape := ⟨2, ![16, 64]⟩
abbrev S1x16x64 : Shape := ⟨3, ![1, 16, 64]⟩

abbrev nBuf : Space → Nat
  | .hbm => 2
  | .vmem => 4
  | .smem => 0
  | _ => 0

abbrev bufTy : (tb : Table) → Fin (tcTables nBuf tb) → BufTy
  | .hbm, ⟨0, _⟩ => ⟨S512x2048, .f32⟩
  | .hbm, ⟨1, _⟩ => ⟨S32x16x64, .f32⟩
  | .local _ .vmem, ⟨0, _⟩ => ⟨S32x128, .f32⟩
  | .local _ .vmem, ⟨1, _⟩ => ⟨S32x128, .f32⟩
  | .local _ .vmem, ⟨2, _⟩ => ⟨S2x16x64, .f32⟩
  | .local _ .vmem, ⟨3, _⟩ => ⟨S2x16x64, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  ![arg0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== DiagReferenceIdeal.lean ====
abbrev S512x2048 : Shape := ⟨2, ![512, 2048]⟩
abbrev S_ : Shape := ⟨0, ![]⟩
abbrev S32x16x64 : Shape := ⟨3, ![32, 16, 64]⟩
abbrev S32x16x1x64 : Shape := ⟨4, ![32, 16, 1, 64]⟩
abbrev S32x32 : Shape := ⟨2, ![32, 32]⟩
abbrev S32x1x32x1 : Shape := ⟨4, ![32, 1, 32, 1]⟩
abbrev S32x16x32x64 : Shape := ⟨4, ![32, 16, 32, 64]⟩

abbrev nBuf : Space → Nat
  | .hbm => 24
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S_, .f32⟩
  | .hbm, ⟨2, _⟩ => ⟨S32x16x64, .f32⟩
  | .hbm, ⟨3, _⟩ => ⟨S32x16x1x64, .f32⟩
  | .hbm, ⟨4, _⟩ => ⟨S32x32, .i32⟩
  | .hbm, ⟨5, _⟩ => ⟨S32x32, .i32⟩
  | .hbm, ⟨6, _⟩ => ⟨S_, .i32⟩
  | .hbm, ⟨7, _⟩ => ⟨S32x32, .i32⟩
  | .hbm, ⟨8, _⟩ => ⟨S32x32, .i32⟩
  | .hbm, ⟨9, _⟩ => ⟨S32x32, .i1⟩
  | .hbm, ⟨10, _⟩ => ⟨S32x32, .f32⟩
  | .hbm, ⟨11, _⟩ => ⟨S32x1x32x1, .f32⟩
  | .hbm, ⟨12, _⟩ => ⟨S32x16x32x64, .f32⟩
  | .hbm, ⟨13, _⟩ => ⟨S32x16x32x64, .f32⟩
  | .hbm, ⟨14, _⟩ => ⟨S32x16x32x64, .f32⟩
  | .hbm, ⟨15, _⟩ => ⟨S512x2048, .f32⟩
  | .hbm, ⟨16, _⟩ => ⟨S32x16x32x64, .f32⟩
  | .hbm, ⟨17, _⟩ => ⟨S32x16x32x64, .f32⟩
  | .hbm, ⟨18, _⟩ => ⟨S32x16x32x64, .f32⟩
  | .hbm, ⟨19, _⟩ => ⟨S_, .f32⟩
  | .hbm, ⟨20, _⟩ => ⟨S32x16x64, .f32⟩
  | .hbm, ⟨21, _⟩ => ⟨S32x16x1x64, .f32⟩
  | .hbm, ⟨22, _⟩ => ⟨S_, .f32⟩
  | .hbm, ⟨23, _⟩ => ⟨S32x16x64, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== AttnKernel.lean ====
abbrev S4096x512 : Shape := ⟨2, ![4096, 512]⟩
abbrev S1024x2048 : Shape := ⟨2, ![1024, 2048]⟩
abbrev S256x8192 : Shape := ⟨2, ![256, 8192]⟩
abbrev S128x512 : Shape := ⟨2, ![128, 512]⟩
abbrev S128x256 : Shape := ⟨2, ![128, 256]⟩
abbrev S128x128 : Shape := ⟨2, ![128, 128]⟩
abbrev S256x512 : Shape := ⟨2, ![256, 512]⟩
abbrev S256x128 : Shape := ⟨2, ![256, 128]⟩
abbrev S128 : Shape := ⟨1, ![128]⟩
abbrev S128x1 : Shape := ⟨2, ![128, 1]⟩
abbrev S_ : Shape := ⟨0, ![]⟩
abbrev S3968x512 : Shape := ⟨2, ![3968, 512]⟩
abbrev S3584x512 : Shape := ⟨2, ![3584, 512]⟩
abbrev S512x512 : Shape := ⟨2, ![512, 512]⟩
abbrev S2048x512 : Shape := ⟨2, ![2048, 512]⟩

abbrev nBuf : Space → Nat
  | .hbm => 138
  | .vmem => 120
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x512, .bf16⟩
  | 5 => ⟨S4096x512, .bf16⟩
  | 6 => ⟨S4096x512, .bf16⟩
  | 7 => ⟨S4096x512, .bf16⟩
  | 8 => ⟨S1024x2048, .bf16⟩
  | 9 => ⟨S4096x512, .bf16⟩
  | 10 => ⟨S1024x2048, .bf16⟩
  | 11 => ⟨S4096x512, .bf16⟩
  | 12 => ⟨S1024x2048, .bf16⟩
  | 13 => ⟨S4096x512, .bf16⟩
  | 14 => ⟨S256x8192, .bf16⟩
  | 15 => ⟨S4096x512, .bf16⟩
  | 16 => ⟨S256x8192, .bf16⟩
  | 17 => ⟨S4096x512, .bf16⟩
  | 18 => ⟨S256x8192, .bf16⟩
  | 19 => ⟨S4096x512, .f32⟩
  | 20 => ⟨S4096x512, .f32⟩
  | 21 => ⟨S1024x2048, .f32⟩
  | 22 => ⟨S1024x2048, .f32⟩
  | 23 => ⟨S256x8192, .f32⟩
  | 24 => ⟨S256x8192, .f32⟩
  | 25 => ⟨S4096x512, .f32⟩
  | 26 => ⟨S4096x512, .f32⟩
  | 27 => ⟨S4096x512, .f32⟩
  | 28 => ⟨S4096x512, .f32⟩
  | 29 => ⟨S4096x512, .f32⟩
  | 30 => ⟨S4096x512, .f32⟩
  | 31 => ⟨S4096x512, .f32⟩
  | 32 => ⟨S4096x512, .f32⟩
  | 33 => ⟨S4096x512, .f32⟩
  | 34 => ⟨S4096x512, .f32⟩
  | 35 => ⟨S4096x512, .f32⟩
  | 36 => ⟨S4096x512, .f32⟩
  | 37 => ⟨S4096x512, .f32⟩
  | 38 => ⟨S4096x512, .f32⟩
  | 39 => ⟨S4096x512, .f32⟩
  | 40 => ⟨S4096x512, .f32⟩
  | 41 => ⟨S4096x512, .f32⟩
  | 42 => ⟨S4096x512, .f32⟩
  | 43 => ⟨S4096x512, .f32⟩
  | 44 => ⟨S4096x512, .f32⟩
  | 45 => ⟨S4096x512, .f32⟩
  | 46 => ⟨S4096x512, .f32⟩
  | 47 => ⟨S4096x512, .bf16⟩
  | 48 => ⟨S4096x512, .bf16⟩
  | 49 => ⟨S4096x512, .bf16⟩
  | 50 => ⟨S4096x512, .bf16⟩
  | 51 => ⟨S4096x512, .bf16⟩
  | 52 => ⟨S4096x512, .f32⟩
  | 53 => ⟨S_, .f32⟩
  | 54 => ⟨S4096x512, .f32⟩
  | 55 => ⟨S4096x512, .f32⟩
  | 56 => ⟨S4096x512, .f32⟩
  | 57 => ⟨S_, .f32⟩
  | 58 => ⟨S4096x512, .f32⟩
  | 59 => ⟨S4096x512, .f32⟩
  | 60 => ⟨S4096x512, .f32⟩
  | 61 => ⟨S3968x512, .f32⟩
  | 62 => ⟨S_, .f32⟩
  | 63 => ⟨S128x512, .f32⟩
  | 64 => ⟨S4096x512, .f32⟩
  | 65 => ⟨S4096x512, .f32⟩
  | 66 => ⟨S4096x512, .f32⟩
  | 67 => ⟨S_, .f32⟩
  | 68 => ⟨S4096x512, .f32⟩
  | 69 => ⟨S4096x512, .f32⟩
  | 70 => ⟨S4096x512, .f32⟩
  | 71 => ⟨S3968x512, .f32⟩
  | 72 => ⟨S_, .f32⟩
  | 73 => ⟨S128x512, .f32⟩
  | 74 => ⟨S4096x512, .f32⟩
  | 75 => ⟨S4096x512, .f32⟩
  | 76 => ⟨S1024x2048, .f32⟩
  | 77 => ⟨S1024x2048, .f32⟩
  | 78 => ⟨S1024x2048, .f32⟩
  | 79 => ⟨S1024x2048, .bf16⟩
  | 80 => ⟨S1024x2048, .bf16⟩
  | 81 => ⟨S1024x2048, .bf16⟩
  | 82 => ⟨S1024x2048, .bf16⟩
  | 83 => ⟨S1024x2048, .bf16⟩
  | 84 => ⟨S1024x2048, .f32⟩
  | 85 => ⟨S4096x512, .f32⟩
  | 86 => ⟨S4096x512, .f32⟩
  | 87 => ⟨S1024x2048, .f32⟩
  | 88 => ⟨S4096x512, .f32⟩
  | 89 => ⟨S4096x512, .f32⟩
  | 90 => ⟨S1024x2048, .f32⟩
  | 91 => ⟨S4096x512, .f32⟩
  | 92 => ⟨S3584x512, .f32⟩
  | 93 => ⟨S_, .f32⟩
  | 94 => ⟨S512x512, .f32⟩
  | 95 => ⟨S4096x512, .f32⟩
  | 96 => ⟨S4096x512, .f32⟩
  | 97 => ⟨S1024x2048, .f32⟩
  | 98 => ⟨S4096x512, .f32⟩
  | 99 => ⟨S4096x512, .f32⟩
  | 100 => ⟨S1024x2048, .f32⟩
  | 101 => ⟨S4096x512, .f32⟩
  | 102 => ⟨S3584x512, .f32⟩
  | 103 => ⟨S_, .f32⟩
  | 104 => ⟨S512x512, .f32⟩
  | 105 => ⟨S4096x512, .f32⟩
  | 106 => ⟨S4096x512, .f32⟩
  | 107 => ⟨S256x8192, .f32⟩
  | 108 => ⟨S256x8192, .f32⟩
  | 109 => ⟨S256x8192, .f32⟩
  | 110 => ⟨S256x8192, .bf16⟩
  | 111 => ⟨S256x8192, .bf16⟩
  | 112 => ⟨S256x8192, .bf16⟩
  | 113 => ⟨S256x8192, .bf16⟩
  | 114 => ⟨S256x8192, .bf16⟩
  | 115 => ⟨S256x8192, .f32⟩
  | 116 => ⟨S4096x512, .f32⟩
  | 117 => ⟨S4096x512, .f32⟩
  | 118 => ⟨S256x8192, .f32⟩
  | 119 => ⟨S4096x512, .f32⟩
  | 120 => ⟨S4096x512, .f32⟩
  | 121 => ⟨S256x8192, .f32⟩
  | 122 => ⟨S4096x512, .f32⟩
  | 123 => ⟨S2048x512, .f32⟩
  | 124 => ⟨S_, .f32⟩
  | 125 => ⟨S2048x512, .f32⟩
  | 126 => ⟨S4096x512, .f32⟩
  | 127 => ⟨S4096x512, .f32⟩
  | _ => ⟨S4096x512, .f32⟩

abbrev hbmTy0_1 (i : Nat) : BufTy := match i % 128 with
  | 0 => ⟨S256x8192, .f32⟩
  | 1 => ⟨S4096x512, .f32⟩
  | 2 => ⟨S4096x512, .f32⟩
  | 3 => ⟨S256x8192, .f32⟩
  | 4 => ⟨S4096x512, .f32⟩
  | 5 => ⟨S2048x512, .f32⟩
  | 6 => ⟨S_, .f32⟩
  | 7 => ⟨S2048x512, .f32⟩
  | 8 => ⟨S4096x512, .f32⟩
  | 9 => ⟨S4096x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | .local _ .vmem, ⟨0, _⟩ => ⟨S128x512, .bf16⟩
  | .local _ .vmem, ⟨1, _⟩ => ⟨S128x512, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S128x512, .bf16⟩
  | .local _ .vmem, ⟨9, _⟩ => ⟨S128x512, .bf16⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .bf16⟩
  | .local _ .vmem, ⟨15, _⟩ => ⟨S128x512, .bf16⟩
  | .local _ .vmem, ⟨16, _⟩ => ⟨S128x512, .bf16⟩
  | .local _ .vmem, ⟨17, _⟩ => ⟨S128x512, .bf16⟩
  | .local _ .vmem, ⟨18, _⟩ => ⟨S128x512, .bf16⟩
  | .local _ .vmem, ⟨19, _⟩ => ⟨S128x512, .bf16⟩
  | .local _ .vmem, ⟨20, _⟩ => ⟨S128x512, .bf16⟩
  | .local _ .vmem, ⟨21, _⟩ => ⟨S128x512, .bf16⟩
  | .local _ .vmem, ⟨22, _⟩ => ⟨S128x512, .bf16⟩
  | .local _ .vmem, ⟨23, _⟩ => ⟨S128x512, .bf16⟩
  | .local _ .vmem, ⟨24, _⟩ => ⟨S128x512, .f32⟩
  | .local _ .vmem, ⟨25, _⟩ => ⟨S128x512, .f32⟩
  | .local _ .vmem, ⟨26, _⟩ => ⟨S128x512, .f32⟩
  | .local _ .vmem, ⟨27, _⟩ => ⟨S128x512, .f32⟩
  | .local _ .vmem, ⟨28, _⟩ => ⟨S128x512, .bf16⟩
  | .local _ .vmem, ⟨29, _⟩ => ⟨S128x512, .bf16⟩
  | .local _ .vmem, ⟨30, _⟩ => ⟨S128x512, .bf16⟩
  | .local _ .vmem, ⟨31, _⟩ => ⟨S128x512, .bf16⟩
  | .local _ .vmem, ⟨32, _⟩ => ⟨S128x512, .bf16⟩
  | .local _ .vmem, ⟨33, _⟩ => ⟨S128x512, .bf16⟩
  | .local _ .vmem, ⟨34, _⟩ => ⟨S128x512, .bf16⟩
  | .local _ .vmem, ⟨35, _⟩ => ⟨S128x512, .bf16⟩
  | .local _ .vmem, ⟨36, _⟩ => ⟨S128x512, .bf16⟩
  | .local _ .vmem, ⟨37, _⟩ => ⟨S128x512, .bf16⟩
  | .local _ .vmem, ⟨38, _⟩ => ⟨S128x512, .f32⟩
  | .local _ .vmem, ⟨39, _⟩ => ⟨S128x512, .f32⟩
  | .local _ .vmem, ⟨40, _⟩ => ⟨S128x512, .f32⟩
  | .local _ .vmem, ⟨41, _⟩ => ⟨S128x512, .f32⟩
  | .local _ .vmem, ⟨42, _⟩ => ⟨S128x512, .bf16⟩
  | .local _ .vmem, ⟨43, _⟩ => ⟨S128x512, .bf16⟩
  | .local _ .vmem, ⟨44, _⟩ => ⟨S128x512, .bf16⟩
  | .local _ .vmem, ⟨45, _⟩ => ⟨S128x512, .bf16⟩
  | .local _ .vmem, ⟨46, _⟩ => ⟨S128x512, .bf16⟩
  | .local _ .vmem, ⟨47, _⟩ => ⟨S128x512, .bf16⟩
  | .local _ .vmem, ⟨48, _⟩ => ⟨S128x512, .bf16⟩
  | .local _ .vmem, ⟨49, _⟩ => ⟨S128x512, .bf16⟩
  | .local _ .vmem, ⟨50, _⟩ => ⟨S128x512, .bf16⟩
  | .local _ .vmem, ⟨51, _⟩ => ⟨S128x512, .bf16⟩
  | .local _ .vmem, ⟨52, _⟩ => ⟨S128x512, .f32⟩
  | .local _ .vmem, ⟨53, _⟩ => ⟨S128x512, .f32⟩
  | .local _ .vmem, ⟨54, _⟩ => ⟨S128x512, .f32⟩
  | .local _ .vmem, ⟨55, _⟩ => ⟨S128x512, .f32⟩
  | .local _ .vmem, ⟨56, _⟩ => ⟨S128x512, .f32⟩
  | .local _ .vmem, ⟨57, _⟩ => ⟨S128x512, .f32⟩
  | .local _ .vmem, ⟨58, _⟩ => ⟨S128x512, .bf16⟩
  | .local _ .vmem, ⟨59, _⟩ => ⟨S128x512, .bf16⟩
  | .local _ .vmem, ⟨60, _⟩ => ⟨S128x512, .bf16⟩
  | .local _ .vmem, ⟨61, _⟩ => ⟨S128x512, .bf16⟩
  | .local _ .vmem, ⟨62, _⟩ => ⟨S128x512, .bf16⟩
  | .local _ .vmem, ⟨63, _⟩ => ⟨S128x512, .bf16⟩
  | .local _ .vmem, ⟨64, _⟩ => ⟨S128x512, .bf16⟩
  | .local _ .vmem, ⟨65, _⟩ => ⟨S128x512, .bf16⟩
  | .local _ .vmem, ⟨66, _⟩ => ⟨S128x512, .bf16⟩
  | .local _ .vmem, ⟨67, _⟩ => ⟨S128x512, .bf16⟩
  | .local _ .vmem, ⟨68, _⟩ => ⟨S128x512, .bf16⟩
  | .local _ .vmem, ⟨69, _⟩ => ⟨S128x512, .bf16⟩
  | .local _ .vmem, ⟨70, _⟩ => ⟨S128x512, .bf16⟩
  | .local _ .vmem, ⟨71, _⟩ => ⟨S128x512, .bf16⟩
  | .local _ .vmem, ⟨72, _⟩ => ⟨S128x512, .bf16⟩
  | .local _ .vmem, ⟨73, _⟩ => ⟨S128x512, .bf16⟩
  | .local _ .vmem, ⟨74, _⟩ => ⟨S128x512, .bf16⟩
  | .local _ .vmem, ⟨75, _⟩ => ⟨S128x512, .bf16⟩
  | .local _ .vmem, ⟨76, _⟩ => ⟨S128x512, .bf16⟩
  | .local _ .vmem, ⟨77, _⟩ => ⟨S128x512, .bf16⟩
  | .local _ .vmem, ⟨78, _⟩ => ⟨S128x512, .f32⟩
  | .local _ .vmem, ⟨79, _⟩ => ⟨S128x512, .f32⟩
  | .local _ .vmem, ⟨80, _⟩ => ⟨S128x512, .f32⟩
  | .local _ .vmem, ⟨81, _⟩ => ⟨S128x512, .f32⟩
  | .local _ .vmem, ⟨82, _⟩ => ⟨S128x512, .f32⟩
  | .local _ .vmem, ⟨83, _⟩ => ⟨S128x512, .f32⟩
  | .local _ .vmem, ⟨84, _⟩ => ⟨S128x512, .bf16⟩
  | .local _ .vmem, ⟨85, _⟩ => ⟨S128x512, .bf16⟩
  | .local _ .vmem, ⟨86, _⟩ => ⟨S128x512, .bf16⟩
  | .local _ .vmem, ⟨87, _⟩ => ⟨S128x512, .bf16⟩
  | .local _ .vmem, ⟨88, _⟩ => ⟨S128x512, .bf16⟩
  | .local _ .vmem, ⟨89, _⟩ => ⟨S128x512, .bf16⟩
  | .local _ .vmem, ⟨90, _⟩ => ⟨S128x512, .bf16⟩
  | .local _ .vmem, ⟨91, _⟩ => ⟨S128x512, .bf16⟩
  | .local _ .vmem, ⟨92, _⟩ => ⟨S128x512, .bf16⟩
  | .local _ .vmem, ⟨93, _⟩ => ⟨S128x512, .bf16⟩
  | .local _ .vmem, ⟨94, _⟩ => ⟨S128x512, .bf16⟩
  | .local _ .vmem, ⟨95, _⟩ => ⟨S128x512, .bf16⟩
  | .local _ .vmem, ⟨96, _⟩ => ⟨S128x512, .bf16⟩
  | .local _ .vmem, ⟨97, _⟩ => ⟨S128x512, .bf16⟩
  | .local _ .vmem, ⟨98, _⟩ => ⟨S128x512, .bf16⟩
  | .local _ .vmem, ⟨99, _⟩ => ⟨S128x512, .bf16⟩
  | .local _ .vmem, ⟨100, _⟩ => ⟨S128x512, .bf16⟩
  | .local _ .vmem, ⟨101, _⟩ => ⟨S128x512, .bf16⟩
  | .local _ .vmem, ⟨102, _⟩ => ⟨S128x512, .bf16⟩
  | .local _ .vmem, ⟨103, _⟩ => ⟨S128x512, .bf16⟩
  | .local _ .vmem, ⟨104, _⟩ => ⟨S128x512, .f32⟩
  | .local _ .vmem, ⟨105, _⟩ => ⟨S128x512, .f32⟩
  | .local _ .vmem, ⟨106, _⟩ => ⟨S128x512, .f32⟩
  | .local _ .vmem, ⟨107, _⟩ => ⟨S128x512, .f32⟩
  | .local _ .vmem, ⟨108, _⟩ => ⟨S128x512, .f32⟩
  | .local _ .vmem, ⟨109, _⟩ => ⟨S128x512, .f32⟩
  | .local _ .vmem, ⟨110, _⟩ => ⟨S128x512, .bf16⟩
  | .local _ .vmem, ⟨111, _⟩ => ⟨S128x512, .bf16⟩
  | .local _ .vmem, ⟨112, _⟩ => ⟨S128x512, .bf16⟩
  | .local _ .vmem, ⟨113, _⟩ => ⟨S128x512, .bf16⟩
  | .local _ .vmem, ⟨114, _⟩ => ⟨S128x512, .bf16⟩
  | .local _ .vmem, ⟨115, _⟩ => ⟨S128x512, .bf16⟩
  | .local _ .vmem, ⟨116, _⟩ => ⟨S128x512, .bf16⟩
  | .local _ .vmem, ⟨117, _⟩ => ⟨S128x512, .bf16⟩
  | .local _ .vmem, ⟨118, _⟩ => ⟨S128x512, .bf16⟩
  | .local _ .vmem, ⟨119, _⟩ => ⟨S128x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | .vmem, ⟨115, _⟩ => true
  | .vmem, ⟨116, _⟩ => true
  | .vmem, ⟨117, _⟩ => true
  | .vmem, ⟨118, _⟩ => true
  | .vmem, ⟨119, _⟩ => true
  | _, _ => false

abbrev semScoped : Fin 0 → Bool
  | ⟨_, h⟩ => absurd h (Nat.not_lt_zero _)

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  ofTc nBuf bufTy 0 120 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15_0 : Ref sig .tc := ⟨.hbm, 19, rfl⟩
abbrev main_v15_1 : Ref sig .tc := ⟨.hbm, 20, rfl⟩
abbrev main_v16_0 : Ref sig .tc := ⟨.hbm, 21, rfl⟩
abbrev main_v16_1 : Ref sig .tc := ⟨.hbm, 22, rfl⟩
abbrev main_v17_0 : Ref sig .tc := ⟨.hbm, 23, rfl⟩
abbrev main_v17_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40_0 : Ref sig .tc := ⟨.hbm, 47, rfl⟩
abbrev main_v40_1 : Ref sig .tc := ⟨.hbm, 48, rfl⟩
abbrev main_v40_2 : Ref sig .tc := ⟨.hbm, 49, rfl⟩
abbrev main_v40_3 : Ref sig .tc := ⟨.hbm, 50, rfl⟩
abbrev main_v40_4 : Ref sig .tc := ⟨.hbm, 51, rfl⟩
abbrev main_v41 : Ref sig .tc := ⟨.hbm, 52, rfl⟩
abbrev main_cst : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_0 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_1 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_2 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_3 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63_0 : Ref sig .tc := ⟨.hbm, 79, rfl⟩
abbrev main_v63_1 : Ref sig .tc := ⟨.hbm, 80, rfl⟩
abbrev main_v63_2 : Ref sig .tc := ⟨.hbm, 81, rfl⟩
abbrev main_v63_3 : Ref sig .tc := ⟨.hbm, 82, rfl⟩
abbrev main_v63_4 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_4 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_5 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88_0 : Ref sig .tc := ⟨.hbm, 110, rfl⟩
abbrev main_v88_1 : Ref sig .tc := ⟨.hbm, 111, rfl⟩
abbrev main_v88_2 : Ref sig .tc := ⟨.hbm, 112, rfl⟩
abbrev main_v88_3 : Ref sig .tc := ⟨.hbm, 113, rfl⟩
abbrev main_v88_4 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_cst_6 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_7 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc2_stg6_0 : Ref sig .tc := ⟨.vmem, 40, rfl⟩
abbrev cc2_stg6_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc3_stg2_1 : Ref sig .tc := ⟨.vmem, 47, rfl⟩
abbrev cc3_stg3_0 : Ref sig .tc := ⟨.vmem, 48, rfl⟩
abbrev cc3_stg3_1 : Ref sig .tc := ⟨.vmem, 49, rfl⟩
abbrev cc3_stg4_0 : Ref sig .tc := ⟨.vmem, 50, rfl⟩
abbrev cc3_stg4_1 : Ref sig .tc := ⟨.vmem, 51, rfl⟩
abbrev cc3_stg5_0 : Ref sig .tc := ⟨.vmem, 52, rfl⟩
abbrev cc3_stg5_1 : Ref sig .tc := ⟨.vmem, 53, rfl⟩
abbrev cc3_stg6_0 : Ref sig .tc := ⟨.vmem, 54, rfl⟩
abbrev cc3_stg6_1 : Ref sig .tc := ⟨.vmem, 55, rfl⟩
abbrev cc3_stg7_0 : Ref sig .tc := ⟨.vmem, 56, rfl⟩
abbrev cc3_stg7_1 : Ref sig .tc := ⟨.vmem, 57, rfl⟩
abbrev cc3_stg8_0 : Ref sig .tc := ⟨.vmem, 58, rfl⟩
abbrev cc3_stg8_1 : Ref sig .tc := ⟨.vmem, 59, rfl⟩
abbrev cc3_stg9_0 : Ref sig .tc := ⟨.vmem, 60, rfl⟩
abbrev cc3_stg9_1 : Ref sig .tc := ⟨.vmem, 61, rfl⟩
abbrev cc3_stg10_0 : Ref sig .tc := ⟨.vmem, 62, rfl⟩
abbrev cc3_stg10_1 : Ref sig .tc := ⟨.vmem, 63, rfl⟩
abbrev cc3_stg11_0 : Ref sig .tc := ⟨.vmem, 64, rfl⟩
abbrev cc3_stg11_1 : Ref sig .tc := ⟨.vmem, 65, rfl⟩
abbrev cc3_stg12_0 : Ref sig .tc := ⟨.vmem, 66, rfl⟩
abbrev cc3_stg12_1 : Ref sig .tc := ⟨.vmem, 67, rfl⟩
abbrev cc4_stg0_0 : Ref sig .tc := ⟨.vmem, 68, rfl⟩
abbrev cc4_stg0_1 : Ref sig .tc := ⟨.vmem, 69, rfl⟩
abbrev cc4_stg1_0 : Ref sig .tc := ⟨.vmem, 70, rfl⟩
abbrev cc4_stg1_1 : Ref sig .tc := ⟨.vmem, 71, rfl⟩
abbrev cc4_stg2_0 : Ref sig .tc := ⟨.vmem, 72, rfl⟩
abbrev cc4_stg2_1 : Ref sig .tc := ⟨.vmem, 73, rfl⟩
abbrev cc4_stg3_0 : Ref sig .tc := ⟨.vmem, 74, rfl⟩
abbrev cc4_stg3_1 : Ref sig .tc := ⟨.vmem, 75, rfl⟩
abbrev cc4_stg4_0 : Ref sig .tc := ⟨.vmem, 76, rfl⟩
abbrev cc4_stg4_1 : Ref sig .tc := ⟨.vmem, 77, rfl⟩
abbrev cc4_stg5_0 : Ref sig .tc := ⟨.vmem, 78, rfl⟩
abbrev cc4_stg5_1 : Ref sig .tc := ⟨.vmem, 79, rfl⟩
abbrev cc4_stg6_0 : Ref sig .tc := ⟨.vmem, 80, rfl⟩
abbrev cc4_stg6_1 : Ref sig .tc := ⟨.vmem, 81, rfl⟩
abbrev cc4_stg7_0 : Ref sig .tc := ⟨.vmem, 82, rfl⟩
abbrev cc4_stg7_1 : Ref sig .tc := ⟨.vmem, 83, rfl⟩
abbrev cc4_stg8_0 : Ref sig .tc := ⟨.vmem, 84, rfl⟩
abbrev cc4_stg8_1 : Ref sig .tc := ⟨.vmem, 85, rfl⟩
abbrev cc4_stg9_0 : Ref sig .tc := ⟨.vmem, 86, rfl⟩
abbrev cc4_stg9_1 : Ref sig .tc := ⟨.vmem, 87, rfl⟩
abbrev cc4_stg10_0 : Ref sig .tc := ⟨.vmem, 88, rfl⟩
abbrev cc4_stg10_1 : Ref sig .tc := ⟨.vmem, 89, rfl⟩
abbrev cc4_stg11_0 : Ref sig .tc := ⟨.vmem, 90, rfl⟩
abbrev cc4_stg11_1 : Ref sig .tc := ⟨.vmem, 91, rfl⟩
abbrev cc4_stg12_0 : Ref sig .tc := ⟨.vmem, 92, rfl⟩
abbrev cc4_stg12_1 : Ref sig .tc := ⟨.vmem, 93, rfl⟩
abbrev cc5_stg0_0 : Ref sig .tc := ⟨.vmem, 94, rfl⟩
abbrev cc5_stg0_1 : Ref sig .tc := ⟨.vmem, 95, rfl⟩
abbrev cc5_stg1_0 : Ref sig .tc := ⟨.vmem, 96, rfl⟩
abbrev cc5_stg1_1 : Ref sig .tc := ⟨.vmem, 97, rfl⟩
abbrev cc5_stg2_0 : Ref sig .tc := ⟨.vmem, 98, rfl⟩
abbrev cc5_stg2_1 : Ref sig .tc := ⟨.vmem, 99, rfl⟩
abbrev cc5_stg3_0 : Ref sig .tc := ⟨.vmem, 100, rfl⟩
abbrev cc5_stg3_1 : Ref sig .tc := ⟨.vmem, 101, rfl⟩
abbrev cc5_stg4_0 : Ref sig .tc := ⟨.vmem, 102, rfl⟩
abbrev cc5_stg4_1 : Ref sig .tc := ⟨.vmem, 103, rfl⟩
abbrev cc5_stg5_0 : Ref sig .tc := ⟨.vmem, 104, rfl⟩
abbrev cc5_stg5_1 : Ref sig .tc := ⟨.vmem, 105, rfl⟩
abbrev cc5_stg6_0 : Ref sig .tc := ⟨.vmem, 106, rfl⟩
abbrev cc5_stg6_1 : Ref sig .tc := ⟨.vmem, 107, rfl⟩
abbrev cc5_stg7_0 : Ref sig .tc := ⟨.vmem, 108, rfl⟩
abbrev cc5_stg7_1 : Ref sig .tc := ⟨.vmem, 109, rfl⟩
abbrev cc5_stg8_0 : Ref sig .tc := ⟨.vmem, 110, rfl⟩
abbrev cc5_stg8_1 : Ref sig .tc := ⟨.vmem, 111, rfl⟩
abbrev cc5_stg9_0 : Ref sig .tc := ⟨.vmem, 112, rfl⟩
abbrev cc5_stg9_1 : Ref sig .tc := ⟨.vmem, 113, rfl⟩
abbrev cc5_stg10_0 : Ref sig .tc := ⟨.vmem, 114, rfl⟩
abbrev cc5_stg10_1 : Ref sig .tc := ⟨.vmem, 115, rfl⟩
abbrev cc5_stg11_0 : Ref sig .tc := ⟨.vmem, 116, rfl⟩
abbrev cc5_stg11_1 : Ref sig .tc := ⟨.vmem, 117, rfl⟩
abbrev cc5_stg12_0 : Ref sig .tc := ⟨.vmem, 118, rfl⟩
abbrev cc5_stg12_1 : Ref sig .tc := ⟨.vmem, 119, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc2_sem6_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem3_1 : DmaSem sig := 49
abbrev cc3_sem4_0 : DmaSem sig := 50
abbrev cc3_sem4_1 : DmaSem sig := 51
abbrev cc3_sem5_0 : DmaSem sig := 52
abbrev cc3_sem5_1 : DmaSem sig := 53
abbrev cc3_sem6_0 : DmaSem sig := 54
abbrev cc3_sem6_1 : DmaSem sig := 55
abbrev cc3_sem7_0 : DmaSem sig := 56
abbrev cc3_sem7_1 : DmaSem sig := 57
abbrev cc3_sem8_0 : DmaSem sig := 58
abbrev cc3_sem8_1 : DmaSem sig := 59
abbrev cc3_sem9_0 : DmaSem sig := 60
abbrev cc3_sem9_1 : DmaSem sig := 61
abbrev cc3_sem10_0 : DmaSem sig := 62
abbrev cc3_sem10_1 : DmaSem sig := 63
abbrev cc3_sem11_0 : DmaSem sig := 64
abbrev cc3_sem11_1 : DmaSem sig := 65
abbrev cc3_sem12_0 : DmaSem sig := 66
abbrev cc3_sem12_1 : DmaSem sig := 67
abbrev cc4_sem0_0 : DmaSem sig := 68
abbrev cc4_sem0_1 : DmaSem sig := 69
abbrev cc4_sem1_0 : DmaSem sig := 70
abbrev cc4_sem1_1 : DmaSem sig := 71
abbrev cc4_sem2_0 : DmaSem sig := 72
abbrev cc4_sem2_1 : DmaSem sig := 73
abbrev cc4_sem3_0 : DmaSem sig := 74
abbrev cc4_sem3_1 : DmaSem sig := 75
abbrev cc4_sem4_0 : DmaSem sig := 76
abbrev cc4_sem4_1 : DmaSem sig := 77
abbrev cc4_sem5_0 : DmaSem sig := 78
abbrev cc4_sem5_1 : DmaSem sig := 79
abbrev cc4_sem6_0 : DmaSem sig := 80
abbrev cc4_sem6_1 : DmaSem sig := 81
abbrev cc4_sem7_0 : DmaSem sig := 82
abbrev cc4_sem7_1 : DmaSem sig := 83
abbrev cc4_sem8_0 : DmaSem sig := 84
abbrev cc4_sem8_1 : DmaSem sig := 85
abbrev cc4_sem9_0 : DmaSem sig := 86
abbrev cc4_sem9_1 : DmaSem sig := 87
abbrev cc4_sem10_0 : DmaSem sig := 88
abbrev cc4_sem10_1 : DmaSem sig := 89
abbrev cc4_sem11_0 : DmaSem sig := 90
abbrev cc4_sem11_1 : DmaSem sig := 91
abbrev cc4_sem12_0 : DmaSem sig := 92
abbrev cc4_sem12_1 : DmaSem sig := 93
abbrev cc5_sem0_0 : DmaSem sig := 94
abbrev cc5_sem0_1 : DmaSem sig := 95
abbrev cc5_sem1_0 : DmaSem sig := 96
abbrev cc5_sem1_1 : DmaSem sig := 97
abbrev cc5_sem2_0 : DmaSem sig := 98
abbrev cc5_sem2_1 : DmaSem sig := 99
abbrev cc5_sem3_0 : DmaSem sig := 100
abbrev cc5_sem3_1 : DmaSem sig := 101
abbrev cc5_sem4_0 : DmaSem sig := 102
abbrev cc5_sem4_1 : DmaSem sig := 103
abbrev cc5_sem5_0 : DmaSem sig := 104
abbrev cc5_sem5_1 : DmaSem sig := 105
abbrev cc5_sem6_0 : DmaSem sig := 106
abbrev cc5_sem6_1 : DmaSem sig := 107
abbrev cc5_sem7_0 : DmaSem sig := 108
abbrev cc5_sem7_1 : DmaSem sig := 109
abbrev cc5_sem8_0 : DmaSem sig := 110
abbrev cc5_sem8_1 : DmaSem sig := 111
abbrev cc5_sem9_0 : DmaSem sig := 112
abbrev cc5_sem9_1 : DmaSem sig := 113
abbrev cc5_sem10_0 : DmaSem sig := 114
abbrev cc5_sem10_1 : DmaSem sig := 115
abbrev cc5_sem11_0 : DmaSem sig := 116
abbrev cc5_sem11_1 : DmaSem sig := 117
abbrev cc5_sem12_0 : DmaSem sig := 118
abbrev cc5_sem12_1 : DmaSem sig := 119

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S128x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S128x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![16, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S128x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S128x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S128x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S128x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S128x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S128x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S128x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨2, ![1, 32], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_1 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_3 (i : grid3.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_11 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_12 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S128x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S128x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S128x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S128x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S128x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S128x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S128x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S128x512 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S128x512 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 2 → Memref sig .tc .vmem S128x512 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S128x512 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]

abbrev stage3_11 : Fin 2 → Memref sig .tc .vmem S128x512 .bf16 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, true]

abbrev stage3_12 : Fin 2 → Memref sig .tc .vmem S128x512 .bf16 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true, true]

abbrev grid4 : Pipeline.Grid := ⟨2, ![4, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_1 (i : grid4.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_3 (i : grid4.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_9 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_10 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_11 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_12 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S128x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S128x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S128x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S128x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S128x512 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S128x512 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S128x512 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev stage4_7 : Fin 2 → Memref sig .tc .vmem S128x512 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev stage4_8 : Fin 2 → Memref sig .tc .vmem S128x512 .bf16 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, true]

abbrev stage4_9 : Fin 2 → Memref sig .tc .vmem S128x512 .bf16 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true, true]

abbrev stage4_10 : Fin 2 → Memref sig .tc .vmem S128x512 .bf16 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true, true]

abbrev stage4_11 : Fin 2 → Memref sig .tc .vmem S128x512 .bf16 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true, true]

abbrev stage4_12 : Fin 2 → Memref sig .tc .vmem S128x512 .bf16 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true, true]

abbrev grid5 : Pipeline.Grid := ⟨2, ![16, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_1 (i : grid5.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_3 (i : grid5.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_8 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_9 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_10 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_11 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_12 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S128x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S128x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S128x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S128x512 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 2 → Memref sig .tc .vmem S128x512 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true]

abbrev stage5_5 : Fin 2 → Memref sig .tc .vmem S128x512 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]

abbrev stage5_6 : Fin 2 → Memref sig .tc .vmem S128x512 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, true]

abbrev stage5_7 : Fin 2 → Memref sig .tc .vmem S128x512 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, true]

abbrev stage5_8 : Fin 2 → Memref sig .tc .vmem S128x512 .bf16 := fun | 0 => Memref.whole cc5_stg8_0 | 1 => Memref.whole cc5_stg8_1 | ⟨_ + 2, h⟩ => absurd h (Nat.not_lt.2 (Nat.le_add_left _ _))
abbrev sem5_8 : Fin 2 → DmaSem sig := fun | 0 => cc5_sem8_0 | 1 => cc5_sem8_1 | ⟨_ + 2, h⟩ => absurd h (Nat.not_lt.2 (Nat.le_add_left _ _))
abbrev reads5_8 : Fin grid5.rank → Bool := ![true, true]

abbrev stage5_9 : Fin 2 → Memref sig .tc .vmem S128x512 .bf16 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true, true]

abbrev stage5_10 : Fin 2 → Memref sig .tc .vmem S128x512 .bf16 := fun | 0 => Memref.whole cc5_stg10_0 | 1 => Memref.whole cc5_stg10_1 | ⟨_ + 2, h⟩ => absurd h (Nat.not_lt.2 (Nat.le_add_left _ _))
abbrev sem5_10 : Fin 2 → DmaSem sig := fun | 0 => cc5_sem10_0 | 1 => cc5_sem10_1 | ⟨_ + 2, h⟩ => absurd h (Nat.not_lt.2 (Nat.le_add_left _ _))
abbrev reads5_10 : Fin grid5.rank → Bool := ![true, true]

abbrev stage5_11 : Fin 2 → Memref sig .tc .vmem S128x512 .bf16 := fun | 0 => Memref.whole cc5_stg11_0 | 1 => Memref.whole cc5_stg11_1 | ⟨_ + 2, h⟩ => absurd h (Nat.not_lt.2 (Nat.le_add_left _ _))
abbrev sem5_11 : Fin 2 → DmaSem sig := fun | 0 => cc5_sem11_0 | 1 => cc5_sem11_1 | ⟨_ + 2, h⟩ => absurd h (Nat.not_lt.2 (Nat.le_add_left _ _))
abbrev reads5_11 : Fin grid5.rank → Bool := ![true, true]

abbrev stage5_12 : Fin 2 → Memref sig .tc .vmem S128x512 .bf16 := fun | 0 => Memref.whole cc5_stg12_0 | 1 => Memref.whole cc5_stg12_1 | ⟨_ + 2, h⟩ => absurd h (Nat.not_lt.2 (Nat.le_add_left _ _))
abbrev sem5_12 : Fin 2 → DmaSem sig := fun | 0 => cc5_sem12_0 | 1 => cc5_sem12_1 | ⟨_ + 2, h⟩ => absurd h (Nat.not_lt.2 (Nat.le_add_left _ _))
abbrev reads5_12 : Fin grid5.rank → Bool := ![true, true]
-- ==== AttnKernelIdeal.lean ====
variable {F : FTy → Type} [FloatOps F] [Named F]
def κ : String → Option EReal := fun
  | "mask" => some ⊥
  | _ => none
-- ==== AttnReferenceIdeal.lean ====
abbrev S4096x512 : Shape := ⟨2, ![4096, 512]⟩
abbrev S1x4096x8x64 : Shape := ⟨4, ![1, 4096, 8, 64]⟩
abbrev S1x4096x1x8x64 : Shape := ⟨5, ![1, 4096, 1, 8, 64]⟩
abbrev S1x1x4096x8x64 : Shape := ⟨5, ![1, 1, 4096, 8, 64]⟩
abbrev S_ : Shape := ⟨0, ![]⟩
abbrev S1x32x128x8x64 : Shape := ⟨5, ![1, 32, 128, 8, 64]⟩
abbrev S1x1x128x8x64 : Shape := ⟨5, ![1, 1, 128, 8, 64]⟩
abbrev S1x31x128x8x64 : Shape := ⟨5, ![1, 31, 128, 8, 64]⟩
abbrev S1x32x256x8x64 : Shape := ⟨5, ![1, 32, 256, 8, 64]⟩
abbrev S1x32x8x128x256 : Shape := ⟨5, ![1, 32, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x128x256 : Shape := ⟨3, ![1, 128, 256]⟩
abbrev S1x1x256 : Shape := ⟨3, ![1, 1, 256]⟩
abbrev S32x1x256 : Shape := ⟨3, ![32, 1, 256]⟩
abbrev S32x128x256 : Shape := ⟨3, ![32, 128, 256]⟩
abbrev S1x32x1x128x256 : Shape := ⟨5, ![1, 32, 1, 128, 256]⟩
abbrev S1x32x8x128 : Shape := ⟨4, ![1, 32, 8, 128]⟩
abbrev S1x32x8x128x1 : Shape := ⟨5, ![1, 32, 8, 128, 1]⟩
abbrev S1x32x8x64x128 : Shape := ⟨5, ![1, 32, 8, 64, 128]⟩
abbrev S1x32x128x8 : Shape := ⟨4, ![1, 32, 128, 8]⟩
abbrev S1x4096x8 : Shape := ⟨3, ![1, 4096, 8]⟩
abbrev S1x1x4096x8 : Shape := ⟨4, ![1, 1, 4096, 8]⟩
abbrev S1x4096x1x8 : Shape := ⟨4, ![1, 4096, 1, 8]⟩
abbrev S1x1024x4x8x64 : Shape := ⟨5, ![1, 1024, 4, 8, 64]⟩
abbrev S1x4x1024x8x64 : Shape := ⟨5, ![1, 4, 1024, 8, 64]⟩
abbrev S4x1024x8x64 : Shape := ⟨4, ![4, 1024, 8, 64]⟩
abbrev S4x8x128x8x64 : Shape := ⟨5, ![4, 8, 128, 8, 64]⟩
abbrev S4x1x128x8x64 : Shape := ⟨5, ![4, 1, 128, 8, 64]⟩
abbrev S4x7x128x8x64 : Shape := ⟨5, ![4, 7, 128, 8, 64]⟩
abbrev S4x8x256x8x64 : Shape := ⟨5, ![4, 8, 256, 8, 64]⟩
abbrev S4x8x8x128x256 : Shape := ⟨5, ![4, 8, 8, 128, 256]⟩
abbrev S8 : Shape := ⟨1, ![8]⟩
abbrev S8x1x1 : Shape := ⟨3, ![8, 1, 1]⟩
abbrev S8x1x256 : Shape := ⟨3, ![8, 1, 256]⟩
abbrev S8x128x256 : Shape := ⟨3, ![8, 128, 256]⟩
abbrev S1x8x1x128x256 : Shape := ⟨5, ![1, 8, 1, 128, 256]⟩
abbrev S4x8x8x128 : Shape := ⟨4, ![4, 8, 8, 128]⟩
abbrev S4x8x8x128x1 : Shape := ⟨5, ![4, 8, 8, 128, 1]⟩
abbrev S4x8x8x64x128 : Shape := ⟨5, ![4, 8, 8, 64, 128]⟩
abbrev S4x8x128x8 : Shape := ⟨4, ![4, 8, 128, 8]⟩
abbrev S4x1024x8 : Shape := ⟨3, ![4, 1024, 8]⟩
abbrev S1x4x1024x8 : Shape := ⟨4, ![1, 4, 1024, 8]⟩
abbrev S1x1024x4x8 : Shape := ⟨4, ![1, 1024, 4, 8]⟩
abbrev S1x256x16x8x64 : Shape := ⟨5, ![1, 256, 16, 8, 64]⟩
abbrev S1x16x256x8x64 : Shape := ⟨5, ![1, 16, 256, 8, 64]⟩
abbrev S16x256x8x64 : Shape := ⟨4, ![16, 256, 8, 64]⟩
abbrev S16x2x128x8x64 : Shape := ⟨5, ![16, 2, 128, 8, 64]⟩
abbrev S16x1x128x8x64 : Shape := ⟨5, ![16, 1, 128, 8, 64]⟩
abbrev S16x2x256x8x64 : Shape := ⟨5, ![16, 2, 256, 8, 64]⟩
abbrev S16x2x8x128x256 : Shape := ⟨5, ![16, 2, 8, 128, 256]⟩
abbrev S2 : Shape := ⟨1, ![2]⟩
abbrev S2x1x1 : Shape := ⟨3, ![2, 1, 1]⟩
abbrev S2x1x256 : Shape := ⟨3, ![2, 1, 256]⟩
abbrev S2x128x256 : Shape := ⟨3, ![2, 128, 256]⟩
abbrev S1x2x1x128x256 : Shape := ⟨5, ![1, 2, 1, 128, 256]⟩
abbrev S16x2x8x128 : Shape := ⟨4, ![16, 2, 8, 128]⟩
abbrev S16x2x8x128x1 : Shape := ⟨5, ![16, 2, 8, 128, 1]⟩
abbrev S16x2x8x64x128 : Shape := ⟨5, ![16, 2, 8, 64, 128]⟩
abbrev S16x2x128x8 : Shape := ⟨4, ![16, 2, 128, 8]⟩
abbrev S16x256x8 : Shape := ⟨3, ![16, 256, 8]⟩
abbrev S1x16x256x8 : Shape := ⟨4, ![1, 16, 256, 8]⟩
abbrev S1x256x16x8 : Shape := ⟨4, ![1, 256, 16, 8]⟩
abbrev S3x1x4096x8 : Shape := ⟨4, ![3, 1, 4096, 8]⟩
abbrev S3x1x4096x8x1 : Shape := ⟨5, ![3, 1, 4096, 8, 1]⟩
abbrev S3x1x4096x8x64 : Shape := ⟨5, ![3, 1, 4096, 8, 64]⟩
abbrev S1x4096x512 : Shape := ⟨3, ![1, 4096, 512]⟩
abbrev S3x4096x8 : Shape := ⟨3, ![3, 4096, 8]⟩
abbrev S4096x8 : Shape := ⟨2, ![4096, 8]⟩
abbrev S16x2x8x64x256 : Shape := ⟨5, ![16, 2, 8, 64, 256]⟩
abbrev S16x2x8x256x64 : Shape := ⟨5, ![16, 2, 8, 256, 64]⟩
abbrev S16x2x8x128x64 : Shape := ⟨5, ![16, 2, 8, 128, 64]⟩
abbrev S4x8x8x64x256 : Shape := ⟨5, ![4, 8, 8, 64, 256]⟩
abbrev S4x8x8x256x64 : Shape := ⟨5, ![4, 8, 8, 256, 64]⟩
abbrev S4x8x8x128x64 : Shape := ⟨5, ![4, 8, 8, 128, 64]⟩
abbrev S1x32x8x64x256 : Shape := ⟨5, ![1, 32, 8, 64, 256]⟩
abbrev S32x8x128 : Shape := ⟨3, ![32, 8, 128]⟩
abbrev S1x32x8x256x64 : Shape := ⟨5, ![1, 32, 8, 256, 64]⟩
abbrev S1x32x8x128x64 : Shape := ⟨5, ![1, 32, 8, 128, 64]⟩

abbrev nBuf : Space → Nat
  | .hbm => 728
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S1x4096x8x64, .f32⟩
  | 5 => ⟨S1x4096x8x64, .f32⟩
  | 6 => ⟨S1x4096x8x64, .f32⟩
  | 7 => ⟨S1x4096x1x8x64, .f32⟩
  | 8 => ⟨S1x1x4096x8x64, .f32⟩
  | 9 => ⟨S1x4096x8x64, .f32⟩
  | 10 => ⟨S_, .i32⟩
  | 11 => ⟨S_, .f32⟩
  | 12 => ⟨S1x4096x8x64, .f32⟩
  | 13 => ⟨S_, .f32⟩
  | 14 => ⟨S1x32x128x8x64, .f32⟩
  | 15 => ⟨S1x4096x1x8x64, .f32⟩
  | 16 => ⟨S1x1x4096x8x64, .f32⟩
  | 17 => ⟨S1x4096x8x64, .f32⟩
  | 18 => ⟨S_, .i32⟩
  | 19 => ⟨S_, .f32⟩
  | 20 => ⟨S1x4096x8x64, .f32⟩
  | 21 => ⟨S_, .f32⟩
  | 22 => ⟨S1x32x128x8x64, .f32⟩
  | 23 => ⟨S1x1x128x8x64, .f32⟩
  | 24 => ⟨S_, .f32⟩
  | 25 => ⟨S1x1x128x8x64, .f32⟩
  | 26 => ⟨S1x31x128x8x64, .f32⟩
  | 27 => ⟨S1x32x128x8x64, .f32⟩
  | 28 => ⟨S_, .f32⟩
  | 29 => ⟨S1x1x128x8x64, .f32⟩
  | 30 => ⟨S1x32x256x8x64, .f32⟩
  | 31 => ⟨S1x4096x1x8x64, .f32⟩
  | 32 => ⟨S1x1x4096x8x64, .f32⟩
  | 33 => ⟨S1x4096x8x64, .f32⟩
  | 34 => ⟨S_, .i32⟩
  | 35 => ⟨S_, .f32⟩
  | 36 => ⟨S1x4096x8x64, .f32⟩
  | 37 => ⟨S_, .f32⟩
  | 38 => ⟨S1x32x128x8x64, .f32⟩
  | 39 => ⟨S1x1x128x8x64, .f32⟩
  | 40 => ⟨S_, .f32⟩
  | 41 => ⟨S1x1x128x8x64, .f32⟩
  | 42 => ⟨S1x31x128x8x64, .f32⟩
  | 43 => ⟨S1x32x128x8x64, .f32⟩
  | 44 => ⟨S_, .f32⟩
  | 45 => ⟨S1x1x128x8x64, .f32⟩
  | 46 => ⟨S1x32x256x8x64, .f32⟩
  | 47 => ⟨S1x32x8x128x256, .f32⟩
  | 48 => ⟨S_, .f32⟩
  | 49 => ⟨S1x32x8x128x256, .f32⟩
  | 50 => ⟨S1x32x8x128x256, .f32⟩
  | 51 => ⟨S128, .i32⟩
  | 52 => ⟨S128x1, .i32⟩
  | 53 => ⟨S256, .i32⟩
  | 54 => ⟨S1x256, .i32⟩
  | 55 => ⟨S_, .i32⟩
  | 56 => ⟨S128x1, .i32⟩
  | 57 => ⟨S128x1, .i32⟩
  | 58 => ⟨S128x256, .i32⟩
  | 59 => ⟨S128x256, .i32⟩
  | 60 => ⟨S128x256, .i32⟩
  | 61 => ⟨S_, .i32⟩
  | 62 => ⟨S128x256, .i32⟩
  | 63 => ⟨S128x256, .i1⟩
  | 64 => ⟨S_, .i32⟩
  | 65 => ⟨S128x256, .i32⟩
  | 66 => ⟨S128x256, .i1⟩
  | 67 => ⟨S128x256, .i1⟩
  | 68 => ⟨S32, .i32⟩
  | 69 => ⟨S32x1x1, .i32⟩
  | 70 => ⟨S1x128x256, .i1⟩
  | 71 => ⟨S_, .i32⟩
  | 72 => ⟨S32x1x1, .i32⟩
  | 73 => ⟨S32x1x1, .i1⟩
  | 74 => ⟨S_, .i32⟩
  | 75 => ⟨S1x256, .i32⟩
  | 76 => ⟨S1x256, .i1⟩
  | 77 => ⟨S1x1x256, .i1⟩
  | 78 => ⟨S32x1x256, .i1⟩
  | 79 => ⟨S32x1x256, .i1⟩
  | 80 => ⟨S32x1x256, .i1⟩
  | 81 => ⟨S32x128x256, .i1⟩
  | 82 => ⟨S32x128x256, .i1⟩
  | 83 => ⟨S32x128x256, .i1⟩
  | 84 => ⟨S1x32x1x128x256, .i1⟩
  | 85 => ⟨S_, .f32⟩
  | 86 => ⟨S_, .f32⟩
  | 87 => ⟨S1x32x8x128x256, .i1⟩
  | 88 => ⟨S1x32x8x128x256, .f32⟩
  | 89 => ⟨S1x32x8x128x256, .f32⟩
  | 90 => ⟨S_, .f32⟩
  | 91 => ⟨S1x32x8x128x256, .f32⟩
  | 92 => ⟨S_, .f32⟩
  | 93 => ⟨S1x32x8x128, .f32⟩
  | 94 => ⟨S1x32x8x128x1, .f32⟩
  | 95 => ⟨S1x32x8x128x256, .f32⟩
  | 96 => ⟨S1x32x8x128x256, .i1⟩
  | 97 => ⟨S1x32x8x128x256, .f32⟩
  | 98 => ⟨S_, .f32⟩
  | 99 => ⟨S1x32x8x128, .f32⟩
  | 100 => ⟨S1x32x8x128x1, .f32⟩
  | 101 => ⟨S1x32x8x128x256, .f32⟩
  | 102 => ⟨S1x32x8x128x256, .f32⟩
  | 103 => ⟨S1x32x8x128x256, .f32⟩
  | 104 => ⟨S_, .f32⟩
  | 105 => ⟨S1x32x8x128, .f32⟩
  | 106 => ⟨S1x32x8x128x1, .f32⟩
  | 107 => ⟨S1x32x8x128x256, .f32⟩
  | 108 => ⟨S1x32x8x128x256, .f32⟩
  | 109 => ⟨S1x32x8x128x1, .f32⟩
  | 110 => ⟨S_, .f32⟩
  | 111 => ⟨S1x32x8x128x1, .f32⟩
  | 112 => ⟨S1x32x8x128x1, .f32⟩
  | 113 => ⟨S1x32x8x64x128, .f32⟩
  | 114 => ⟨S1x32x128x8x64, .f32⟩
  | 115 => ⟨S1x32x8x128x1, .f32⟩
  | 116 => ⟨S1x32x8x128x1, .f32⟩
  | 117 => ⟨S1x32x8x128, .f32⟩
  | 118 => ⟨S1x4096x8x64, .f32⟩
  | 119 => ⟨S1x1x4096x8x64, .f32⟩
  | 120 => ⟨S1x4096x1x8x64, .f32⟩
  | 121 => ⟨S1x4096x8x64, .f32⟩
  | 122 => ⟨S1x32x128x8, .f32⟩
  | 123 => ⟨S1x4096x8, .f32⟩
  | 124 => ⟨S1x1x4096x8, .f32⟩
  | 125 => ⟨S1x4096x1x8, .f32⟩
  | 126 => ⟨S1x4096x8, .f32⟩
  | 127 => ⟨S1x1024x4x8x64, .f32⟩
  | _ => ⟨S4096x512, .f32⟩

abbrev hbmTy0_1 (i : Nat) : BufTy := match i % 128 with
  | 0 => ⟨S1x4x1024x8x64, .f32⟩
  | 1 => ⟨S4x1024x8x64, .f32⟩
  | 2 => ⟨S_, .i32⟩
  | 3 => ⟨S_, .f32⟩
  | 4 => ⟨S4x1024x8x64, .f32⟩
  | 5 => ⟨S_, .f32⟩
  | 6 => ⟨S4x8x128x8x64, .f32⟩
  | 7 => ⟨S1x1024x4x8x64, .f32⟩
  | 8 => ⟨S1x4x1024x8x64, .f32⟩
  | 9 => ⟨S4x1024x8x64, .f32⟩
  | 10 => ⟨S_, .i32⟩
  | 11 => ⟨S_, .f32⟩
  | 12 => ⟨S4x1024x8x64, .f32⟩
  | 13 => ⟨S_, .f32⟩
  | 14 => ⟨S4x8x128x8x64, .f32⟩
  | 15 => ⟨S4x1x128x8x64, .f32⟩
  | 16 => ⟨S_, .f32⟩
  | 17 => ⟨S4x1x128x8x64, .f32⟩
  | 18 => ⟨S4x7x128x8x64, .f32⟩
  | 19 => ⟨S4x8x128x8x64, .f32⟩
  | 20 => ⟨S_, .f32⟩
  | 21 => ⟨S4x1x128x8x64, .f32⟩
  | 22 => ⟨S4x8x256x8x64, .f32⟩
  | 23 => ⟨S1x1024x4x8x64, .f32⟩
  | 24 => ⟨S1x4x1024x8x64, .f32⟩
  | 25 => ⟨S4x1024x8x64, .f32⟩
  | 26 => ⟨S_, .i32⟩
  | 27 => ⟨S_, .f32⟩
  | 28 => ⟨S4x1024x8x64, .f32⟩
  | 29 => ⟨S_, .f32⟩
  | 30 => ⟨S4x8x128x8x64, .f32⟩
  | 31 => ⟨S4x1x128x8x64, .f32⟩
  | 32 => ⟨S_, .f32⟩
  | 33 => ⟨S4x1x128x8x64, .f32⟩
  | 34 => ⟨S4x7x128x8x64, .f32⟩
  | 35 => ⟨S4x8x128x8x64, .f32⟩
  | 36 => ⟨S_, .f32⟩
  | 37 => ⟨S4x1x128x8x64, .f32⟩
  | 38 => ⟨S4x8x256x8x64, .f32⟩
  | 39 => ⟨S4x8x8x128x256, .f32⟩
  | 40 => ⟨S_, .f32⟩
  | 41 => ⟨S4x8x8x128x256, .f32⟩
  | 42 => ⟨S4x8x8x128x256, .f32⟩
  | 43 => ⟨S128, .i32⟩
  | 44 => ⟨S128x1, .i32⟩
  | 45 => ⟨S256, .i32⟩
  | 46 => ⟨S1x256, .i32⟩
  | 47 => ⟨S_, .i32⟩
  | 48 => ⟨S128x1, .i32⟩
  | 49 => ⟨S128x1, .i32⟩
  | 50 => ⟨S128x256, .i32⟩
  | 51 => ⟨S128x256, .i32⟩
  | 52 => ⟨S128x256, .i32⟩
  | 53 => ⟨S_, .i32⟩
  | 54 => ⟨S128x256, .i32⟩
  | 55 => ⟨S128x256, .i1⟩
  | 56 => ⟨S_, .i32⟩
  | 57 => ⟨S128x256, .i32⟩
  | 58 => ⟨S128x256, .i1⟩
  | 59 => ⟨S128x256, .i1⟩
  | 60 => ⟨S8, .i32⟩
  | 61 => ⟨S8x1x1, .i32⟩
  | 62 => ⟨S1x128x256, .i1⟩
  | 63 => ⟨S_, .i32⟩
  | 64 => ⟨S8x1x1, .i32⟩
  | 65 => ⟨S8x1x1, .i1⟩
  | 66 => ⟨S_, .i32⟩
  | 67 => ⟨S1x256, .i32⟩
  | 68 => ⟨S1x256, .i1⟩
  | 69 => ⟨S1x1x256, .i1⟩
  | 70 => ⟨S8x1x256, .i1⟩
  | 71 => ⟨S8x1x256, .i1⟩
  | 72 => ⟨S8x1x256, .i1⟩
  | 73 => ⟨S8x128x256, .i1⟩
  | 74 => ⟨S8x128x256, .i1⟩
  | 75 => ⟨S8x128x256, .i1⟩
  | 76 => ⟨S1x8x1x128x256, .i1⟩
  | 77 => ⟨S_, .f32⟩
  | 78 => ⟨S_, .f32⟩
  | 79 => ⟨S4x8x8x128x256, .i1⟩
  | 80 => ⟨S4x8x8x128x256, .f32⟩
  | 81 => ⟨S4x8x8x128x256, .f32⟩
  | 82 => ⟨S_, .f32⟩
  | 83 => ⟨S4x8x8x128x256, .f32⟩
  | 84 => ⟨S_, .f32⟩
  | 85 => ⟨S4x8x8x128, .f32⟩
  | 86 => ⟨S4x8x8x128x1, .f32⟩
  | 87 => ⟨S4x8x8x128x256, .f32⟩
  | 88 => ⟨S4x8x8x128x256, .i1⟩
  | 89 => ⟨S4x8x8x128x256, .f32⟩
  | 90 => ⟨S_, .f32⟩
  | 91 => ⟨S4x8x8x128, .f32⟩
  | 92 => ⟨S4x8x8x128x1, .f32⟩
  | 93 => ⟨S4x8x8x128x256, .f32⟩
  | 94 => ⟨S4x8x8x128x256, .f32⟩
  | 95 => ⟨S4x8x8x128x256, .f32⟩
  | 96 => ⟨S_, .f32⟩
  | 97 => ⟨S4x8x8x128, .f32⟩
  | 98 => ⟨S4x8x8x128x1, .f32⟩
  | 99 => ⟨S4x8x8x128x256, .f32⟩
  | 100 => ⟨S4x8x8x128x256, .f32⟩
  | 101 => ⟨S4x8x8x128x1, .f32⟩
  | 102 => ⟨S_, .f32⟩
  | 103 => ⟨S4x8x8x128x1, .f32⟩
  | 104 => ⟨S4x8x8x128x1, .f32⟩
  | 105 => ⟨S4x8x8x64x128, .f32⟩
  | 106 => ⟨S4x8x128x8x64, .f32⟩
  | 107 => ⟨S4x8x8x128x1, .f32⟩
  | 108 => ⟨S4x8x8x128x1, .f32⟩
  | 109 => ⟨S4x8x8x128, .f32⟩
  | 110 => ⟨S4x1024x8x64, .f32⟩
  | 111 => ⟨S1x4x1024x8x64, .f32⟩
  | 112 => ⟨S1x1024x4x8x64, .f32⟩
  | 113 => ⟨S1x4096x8x64, .f32⟩
  | 114 => ⟨S4x8x128x8, .f32⟩
  | 115 => ⟨S4x1024x8, .f32⟩
  | 116 => ⟨S1x4x1024x8, .f32⟩
  | 117 => ⟨S1x1024x4x8, .f32⟩
  | 118 => ⟨S1x4096x8, .f32⟩
  | 119 => ⟨S1x256x16x8x64, .f32⟩
  | 120 => ⟨S1x16x256x8x64, .f32⟩
  | 121 => ⟨S16x256x8x64, .f32⟩
  | 122 => ⟨S_, .i32⟩
  | 123 => ⟨S_, .f32⟩
  | 124 => ⟨S16x256x8x64, .f32⟩
  | 125 => ⟨S_, .f32⟩
  | 126 => ⟨S16x2x128x8x64, .f32⟩
  | 127 => ⟨S1x256x16x8x64, .f32⟩
  | _ => ⟨S4096x512, .f32⟩

abbrev hbmTy0_2 (i : Nat) : BufTy := match i % 128 with
  | 0 => ⟨S1x16x256x8x64, .f32⟩
  | 1 => ⟨S16x256x8x64, .f32⟩
  | 2 => ⟨S_, .i32⟩
  | 3 => ⟨S_, .f32⟩
  | 4 => ⟨S16x256x8x64, .f32⟩
  | 5 => ⟨S_, .f32⟩
  | 6 => ⟨S16x2x128x8x64, .f32⟩
  | 7 => ⟨S16x1x128x8x64, .f32⟩
  | 8 => ⟨S_, .f32⟩
  | 9 => ⟨S16x1x128x8x64, .f32⟩
  | 10 => ⟨S16x1x128x8x64, .f32⟩
  | 11 => ⟨S16x2x128x8x64, .f32⟩
  | 12 => ⟨S_, .f32⟩
  | 13 => ⟨S16x1x128x8x64, .f32⟩
  | 14 => ⟨S16x2x256x8x64, .f32⟩
  | 15 => ⟨S1x256x16x8x64, .f32⟩
  | 16 => ⟨S1x16x256x8x64, .f32⟩
  | 17 => ⟨S16x256x8x64, .f32⟩
  | 18 => ⟨S_, .i32⟩
  | 19 => ⟨S_, .f32⟩
  | 20 => ⟨S16x256x8x64, .f32⟩
  | 21 => ⟨S_, .f32⟩
  | 22 => ⟨S16x2x128x8x64, .f32⟩
  | 23 => ⟨S16x1x128x8x64, .f32⟩
  | 24 => ⟨S_, .f32⟩
  | 25 => ⟨S16x1x128x8x64, .f32⟩
  | 26 => ⟨S16x1x128x8x64, .f32⟩
  | 27 => ⟨S16x2x128x8x64, .f32⟩
  | 28 => ⟨S_, .f32⟩
  | 29 => ⟨S16x1x128x8x64, .f32⟩
  | 30 => ⟨S16x2x256x8x64, .f32⟩
  | 31 => ⟨S16x2x8x128x256, .f32⟩
  | 32 => ⟨S_, .f32⟩
  | 33 => ⟨S16x2x8x128x256, .f32⟩
  | 34 => ⟨S16x2x8x128x256, .f32⟩
  | 35 => ⟨S128, .i32⟩
  | 36 => ⟨S128x1, .i32⟩
  | 37 => ⟨S256, .i32⟩
  | 38 => ⟨S1x256, .i32⟩
  | 39 => ⟨S_, .i32⟩
  | 40 => ⟨S128x1, .i32⟩
  | 41 => ⟨S128x1, .i32⟩
  | 42 => ⟨S128x256, .i32⟩
  | 43 => ⟨S128x256, .i32⟩
  | 44 => ⟨S128x256, .i32⟩
  | 45 => ⟨S_, .i32⟩
  | 46 => ⟨S128x256, .i32⟩
  | 47 => ⟨S128x256, .i1⟩
  | 48 => ⟨S_, .i32⟩
  | 49 => ⟨S128x256, .i32⟩
  | 50 => ⟨S128x256, .i1⟩
  | 51 => ⟨S128x256, .i1⟩
  | 52 => ⟨S2, .i32⟩
  | 53 => ⟨S2x1x1, .i32⟩
  | 54 => ⟨S1x128x256, .i1⟩
  | 55 => ⟨S_, .i32⟩
  | 56 => ⟨S2x1x1, .i32⟩
  | 57 => ⟨S2x1x1, .i1⟩
  | 58 => ⟨S_, .i32⟩
  | 59 => ⟨S1x256, .i32⟩
  | 60 => ⟨S1x256, .i1⟩
  | 61 => ⟨S1x1x256, .i1⟩
  | 62 => ⟨S2x1x256, .i1⟩
  | 63 => ⟨S2x1x256, .i1⟩
  | 64 => ⟨S2x1x256, .i1⟩
  | 65 => ⟨S2x128x256, .i1⟩
  | 66 => ⟨S2x128x256, .i1⟩
  | 67 => ⟨S2x128x256, .i1⟩
  | 68 => ⟨S1x2x1x128x256, .i1⟩
  | 69 => ⟨S_, .f32⟩
  | 70 => ⟨S_, .f32⟩
  | 71 => ⟨S16x2x8x128x256, .i1⟩
  | 72 => ⟨S16x2x8x128x256, .f32⟩
  | 73 => ⟨S16x2x8x128x256, .f32⟩
  | 74 => ⟨S_, .f32⟩
  | 75 => ⟨S16x2x8x128x256, .f32⟩
  | 76 => ⟨S_, .f32⟩
  | 77 => ⟨S16x2x8x128, .f32⟩
  | 78 => ⟨S16x2x8x128x1, .f32⟩
  | 79 => ⟨S16x2x8x128x256, .f32⟩
  | 80 => ⟨S16x2x8x128x256, .i1⟩
  | 81 => ⟨S16x2x8x128x256, .f32⟩
  | 82 => ⟨S_, .f32⟩
  | 83 => ⟨S16x2x8x128, .f32⟩
  | 84 => ⟨S16x2x8x128x1, .f32⟩
  | 85 => ⟨S16x2x8x128x256, .f32⟩
  | 86 => ⟨S16x2x8x128x256, .f32⟩
  | 87 => ⟨S16x2x8x128x256, .f32⟩
  | 88 => ⟨S_, .f32⟩
  | 89 => ⟨S16x2x8x128, .f32⟩
  | 90 => ⟨S16x2x8x128x1, .f32⟩
  | 91 => ⟨S16x2x8x128x256, .f32⟩
  | 92 => ⟨S16x2x8x128x256, .f32⟩
  | 93 => ⟨S16x2x8x128x1, .f32⟩
  | 94 => ⟨S_, .f32⟩
  | 95 => ⟨S16x2x8x128x1, .f32⟩
  | 96 => ⟨S16x2x8x128x1, .f32⟩
  | 97 => ⟨S16x2x8x64x128, .f32⟩
  | 98 => ⟨S16x2x128x8x64, .f32⟩
  | 99 => ⟨S16x2x8x128x1, .f32⟩
  | 100 => ⟨S16x2x8x128x1, .f32⟩
  | 101 => ⟨S16x2x8x128, .f32⟩
  | 102 => ⟨S16x256x8x64, .f32⟩
  | 103 => ⟨S1x16x256x8x64, .f32⟩
  | 104 => ⟨S1x256x16x8x64, .f32⟩
  | 105 => ⟨S1x4096x8x64, .f32⟩
  | 106 => ⟨S16x2x128x8, .f32⟩
  | 107 => ⟨S16x256x8, .f32⟩
  | 108 => ⟨S1x16x256x8, .f32⟩
  | 109 => ⟨S1x256x16x8, .f32⟩
  | 110 => ⟨S1x4096x8, .f32⟩
  | 111 => ⟨S1x1x4096x8, .f32⟩
  | 112 => ⟨S1x1x4096x8, .f32⟩
  | 113 => ⟨S1x1x4096x8, .f32⟩
  | 114 => ⟨S3x1x4096x8, .f32⟩
  | 115 => ⟨S_, .f32⟩
  | 116 => ⟨S1x4096x8, .f32⟩
  | 117 => ⟨S1x1x4096x8, .f32⟩
  | 118 => ⟨S3x1x4096x8, .f32⟩
  | 119 => ⟨S3x1x4096x8, .i1⟩
  | 120 => ⟨S3x1x4096x8, .f32⟩
  | 121 => ⟨S_, .f32⟩
  | 122 => ⟨S1x4096x8, .f32⟩
  | 123 => ⟨S_, .f32⟩
  | 124 => ⟨S1x4096x8, .f32⟩
  | 125 => ⟨S1x4096x8, .f32⟩
  | 126 => ⟨S_, .f32⟩
  | 127 => ⟨S1x4096x8, .f32⟩
  | _ => ⟨S4096x512, .f32⟩

abbrev hbmTy0_3 (i : Nat) : BufTy := match i % 128 with
  | 0 => ⟨S1x4096x8, .i1⟩
  | 1 => ⟨S_, .f32⟩
  | 2 => ⟨S1x4096x8, .f32⟩
  | 3 => ⟨S1x4096x8, .i1⟩
  | 4 => ⟨S_, .f32⟩
  | 5 => ⟨S1x4096x8, .f32⟩
  | 6 => ⟨S_, .f32⟩
  | 7 => ⟨S1x4096x8, .f32⟩
  | 8 => ⟨S_, .f32⟩
  | 9 => ⟨S1x4096x8, .f32⟩
  | 10 => ⟨S1x4096x8, .f32⟩
  | 11 => ⟨S1x4096x8, .f32⟩
  | 12 => ⟨S1x1x4096x8, .f32⟩
  | 13 => ⟨S3x1x4096x8, .f32⟩
  | 14 => ⟨S3x1x4096x8, .f32⟩
  | 15 => ⟨S3x1x4096x8, .f32⟩
  | 16 => ⟨S_, .f32⟩
  | 17 => ⟨S1x4096x8, .f32⟩
  | 18 => ⟨S1x1x4096x8, .f32⟩
  | 19 => ⟨S3x1x4096x8, .f32⟩
  | 20 => ⟨S3x1x4096x8, .f32⟩
  | 21 => ⟨S1x1x4096x8, .f32⟩
  | 22 => ⟨S_, .f32⟩
  | 23 => ⟨S1x1x4096x8, .f32⟩
  | 24 => ⟨S1x1x4096x8, .f32⟩
  | 25 => ⟨S3x1x4096x8x1, .f32⟩
  | 26 => ⟨S1x1x4096x8x64, .f32⟩
  | 27 => ⟨S1x1x4096x8x64, .f32⟩
  | 28 => ⟨S1x1x4096x8x64, .f32⟩
  | 29 => ⟨S3x1x4096x8x64, .f32⟩
  | 30 => ⟨S3x1x4096x8x64, .f32⟩
  | 31 => ⟨S3x1x4096x8x64, .f32⟩
  | 32 => ⟨S_, .f32⟩
  | 33 => ⟨S1x4096x8x64, .f32⟩
  | 34 => ⟨S1x4096x512, .f32⟩
  | 35 => ⟨S4096x512, .f32⟩
  | 36 => ⟨S1x4096x512, .f32⟩
  | 37 => ⟨S1x4096x8x64, .f32⟩
  | 38 => ⟨S3x1x4096x8x64, .f32⟩
  | 39 => ⟨S3x1x4096x8x64, .f32⟩
  | 40 => ⟨S3x1x4096x8x64, .f32⟩
  | 41 => ⟨S3x1x4096x8x64, .f32⟩
  | 42 => ⟨S_, .f32⟩
  | 43 => ⟨S3x1x4096x8, .f32⟩
  | 44 => ⟨S3x1x4096x8x1, .f32⟩
  | 45 => ⟨S1x1x4096x8x64, .f32⟩
  | 46 => ⟨S1x4096x8x64, .f32⟩
  | 47 => ⟨S1x1x4096x8x64, .f32⟩
  | 48 => ⟨S1x4096x8x64, .f32⟩
  | 49 => ⟨S1x1x4096x8x64, .f32⟩
  | 50 => ⟨S1x4096x8x64, .f32⟩
  | 51 => ⟨S_, .f32⟩
  | 52 => ⟨S3x4096x8, .f32⟩
  | 53 => ⟨S3x1x4096x8, .f32⟩
  | 54 => ⟨S3x1x4096x8, .f32⟩
  | 55 => ⟨S3x1x4096x8, .f32⟩
  | 56 => ⟨S3x1x4096x8, .f32⟩
  | 57 => ⟨S_, .f32⟩
  | 58 => ⟨S1x4096x8, .f32⟩
  | 59 => ⟨S1x1x4096x8, .f32⟩
  | 60 => ⟨S1x1x4096x8, .f32⟩
  | 61 => ⟨S3x1x4096x8, .f32⟩
  | 62 => ⟨S3x1x4096x8, .f32⟩
  | 63 => ⟨S_, .f32⟩
  | 64 => ⟨S4096x8, .f32⟩
  | 65 => ⟨S1x4096x8, .f32⟩
  | 66 => ⟨S3x1x4096x8, .f32⟩
  | 67 => ⟨S3x1x4096x8, .f32⟩
  | 68 => ⟨S3x1x4096x8, .f32⟩
  | 69 => ⟨S1x1x4096x8, .f32⟩
  | 70 => ⟨S1x4096x8, .f32⟩
  | 71 => ⟨S1x1x4096x8, .f32⟩
  | 72 => ⟨S1x4096x8, .f32⟩
  | 73 => ⟨S1x1x4096x8, .f32⟩
  | 74 => ⟨S1x4096x8, .f32⟩
  | 75 => ⟨S1x256x16x8, .f32⟩
  | 76 => ⟨S1x16x256x8, .f32⟩
  | 77 => ⟨S16x256x8, .f32⟩
  | 78 => ⟨S16x2x128x8, .f32⟩
  | 79 => ⟨S16x2x8x128, .f32⟩
  | 80 => ⟨S1x256x16x8x64, .f32⟩
  | 81 => ⟨S1x16x256x8x64, .f32⟩
  | 82 => ⟨S16x256x8x64, .f32⟩
  | 83 => ⟨S16x2x128x8x64, .f32⟩
  | 84 => ⟨S16x2x8x128x1, .f32⟩
  | 85 => ⟨S16x2x8x128x1, .f32⟩
  | 86 => ⟨S16x2x8x64x128, .f32⟩
  | 87 => ⟨S16x2x8x128x256, .f32⟩
  | 88 => ⟨S16x2x8x64x256, .f32⟩
  | 89 => ⟨S16x2x256x8x64, .f32⟩
  | 90 => ⟨S16x2x8x128x256, .f32⟩
  | 91 => ⟨S16x2x8x128x256, .f32⟩
  | 92 => ⟨S16x2x8x128x256, .f32⟩
  | 93 => ⟨S_, .f32⟩
  | 94 => ⟨S16x2x8x128, .f32⟩
  | 95 => ⟨S16x2x8x128x1, .f32⟩
  | 96 => ⟨S16x2x8x128x1, .f32⟩
  | 97 => ⟨S16x2x8x128x1, .f32⟩
  | 98 => ⟨S16x2x8x128x256, .f32⟩
  | 99 => ⟨S16x2x8x128x256, .f32⟩
  | 100 => ⟨S_, .f32⟩
  | 101 => ⟨S16x2x8x128, .f32⟩
  | 102 => ⟨S16x2x8x128x256, .f32⟩
  | 103 => ⟨S16x2x8x128x256, .f32⟩
  | 104 => ⟨S16x2x8x128x256, .f32⟩
  | 105 => ⟨S16x2x8x128x256, .f32⟩
  | 106 => ⟨S_, .f32⟩
  | 107 => ⟨S16x2x8x128, .f32⟩
  | 108 => ⟨S16x2x8x128x1, .f32⟩
  | 109 => ⟨S16x2x8x128x1, .f32⟩
  | 110 => ⟨S_, .f32⟩
  | 111 => ⟨S16x2x8x128, .f32⟩
  | 112 => ⟨S16x2x8x128, .f32⟩
  | 113 => ⟨S16x2x8x128x256, .f32⟩
  | 114 => ⟨S16x2x8x128x256, .f32⟩
  | 115 => ⟨S16x2x8x128x256, .f32⟩
  | 116 => ⟨S_, .f32⟩
  | 117 => ⟨S16x2x8x128x256, .f32⟩
  | 118 => ⟨S16x2x8x128x256, .f32⟩
  | 119 => ⟨S_, .f32⟩
  | 120 => ⟨S16x2x8x128x256, .f32⟩
  | 121 => ⟨S16x2x8x128x256, .f32⟩
  | 122 => ⟨S16x2x8x256x64, .f32⟩
  | 123 => ⟨S16x2x256x8x64, .f32⟩
  | 124 => ⟨S16x2x8x128x64, .f32⟩
  | 125 => ⟨S16x2x128x8x64, .f32⟩
  | 126 => ⟨S16x2x128x8x64, .f32⟩
  | 127 => ⟨S16x2x128x8x64, .f32⟩
  | _ => ⟨S4096x512, .f32⟩

abbrev hbmTy0_4 (i : Nat) : BufTy := match i % 128 with
  | 0 => ⟨S16x1x128x8x64, .f32⟩
  | 1 => ⟨S16x1x128x8x64, .f32⟩
  | 2 => ⟨S_, .f32⟩
  | 3 => ⟨S16x2x128x8x64, .f32⟩
  | 4 => ⟨S16x2x128x8x64, .f32⟩
  | 5 => ⟨S16x256x8x64, .f32⟩
  | 6 => ⟨S_, .f32⟩
  | 7 => ⟨S16x256x8x64, .f32⟩
  | 8 => ⟨S16x256x8x64, .f32⟩
  | 9 => ⟨S1x16x256x8x64, .f32⟩
  | 10 => ⟨S1x256x16x8x64, .f32⟩
  | 11 => ⟨S1x4096x8x64, .f32⟩
  | 12 => ⟨S16x2x128x8x64, .f32⟩
  | 13 => ⟨S16x2x128x8x64, .f32⟩
  | 14 => ⟨S16x1x128x8x64, .f32⟩
  | 15 => ⟨S16x1x128x8x64, .f32⟩
  | 16 => ⟨S_, .f32⟩
  | 17 => ⟨S16x2x128x8x64, .f32⟩
  | 18 => ⟨S16x2x128x8x64, .f32⟩
  | 19 => ⟨S16x256x8x64, .f32⟩
  | 20 => ⟨S_, .f32⟩
  | 21 => ⟨S16x256x8x64, .f32⟩
  | 22 => ⟨S16x256x8x64, .f32⟩
  | 23 => ⟨S1x16x256x8x64, .f32⟩
  | 24 => ⟨S1x256x16x8x64, .f32⟩
  | 25 => ⟨S1x4096x8x64, .f32⟩
  | 26 => ⟨S16x256x8x64, .f32⟩
  | 27 => ⟨S_, .f32⟩
  | 28 => ⟨S16x256x8x64, .f32⟩
  | 29 => ⟨S16x256x8x64, .f32⟩
  | 30 => ⟨S1x16x256x8x64, .f32⟩
  | 31 => ⟨S1x256x16x8x64, .f32⟩
  | 32 => ⟨S1x4096x8x64, .f32⟩
  | 33 => ⟨S1x1024x4x8, .f32⟩
  | 34 => ⟨S1x4x1024x8, .f32⟩
  | 35 => ⟨S4x1024x8, .f32⟩
  | 36 => ⟨S4x8x128x8, .f32⟩
  | 37 => ⟨S4x8x8x128, .f32⟩
  | 38 => ⟨S1x1024x4x8x64, .f32⟩
  | 39 => ⟨S1x4x1024x8x64, .f32⟩
  | 40 => ⟨S4x1024x8x64, .f32⟩
  | 41 => ⟨S4x8x128x8x64, .f32⟩
  | 42 => ⟨S4x8x8x128x1, .f32⟩
  | 43 => ⟨S4x8x8x128x1, .f32⟩
  | 44 => ⟨S4x8x8x64x128, .f32⟩
  | 45 => ⟨S4x8x8x128x256, .f32⟩
  | 46 => ⟨S4x8x8x64x256, .f32⟩
  | 47 => ⟨S4x8x256x8x64, .f32⟩
  | 48 => ⟨S4x8x8x128x256, .f32⟩
  | 49 => ⟨S4x8x8x128x256, .f32⟩
  | 50 => ⟨S4x8x8x128x256, .f32⟩
  | 51 => ⟨S_, .f32⟩
  | 52 => ⟨S4x8x8x128, .f32⟩
  | 53 => ⟨S4x8x8x128x1, .f32⟩
  | 54 => ⟨S4x8x8x128x1, .f32⟩
  | 55 => ⟨S4x8x8x128x1, .f32⟩
  | 56 => ⟨S4x8x8x128x256, .f32⟩
  | 57 => ⟨S4x8x8x128x256, .f32⟩
  | 58 => ⟨S_, .f32⟩
  | 59 => ⟨S4x8x8x128, .f32⟩
  | 60 => ⟨S4x8x8x128x256, .f32⟩
  | 61 => ⟨S4x8x8x128x256, .f32⟩
  | 62 => ⟨S4x8x8x128x256, .f32⟩
  | 63 => ⟨S4x8x8x128x256, .f32⟩
  | 64 => ⟨S_, .f32⟩
  | 65 => ⟨S4x8x8x128, .f32⟩
  | 66 => ⟨S4x8x8x128x1, .f32⟩
  | 67 => ⟨S4x8x8x128x1, .f32⟩
  | 68 => ⟨S_, .f32⟩
  | 69 => ⟨S4x8x8x128, .f32⟩
  | 70 => ⟨S4x8x8x128, .f32⟩
  | 71 => ⟨S4x8x8x128x256, .f32⟩
  | 72 => ⟨S4x8x8x128x256, .f32⟩
  | 73 => ⟨S4x8x8x128x256, .f32⟩
  | 74 => ⟨S_, .f32⟩
  | 75 => ⟨S4x8x8x128x256, .f32⟩
  | 76 => ⟨S4x8x8x128x256, .f32⟩
  | 77 => ⟨S_, .f32⟩
  | 78 => ⟨S4x8x8x128x256, .f32⟩
  | 79 => ⟨S4x8x8x128x256, .f32⟩
  | 80 => ⟨S4x8x8x256x64, .f32⟩
  | 81 => ⟨S4x8x256x8x64, .f32⟩
  | 82 => ⟨S4x8x8x128x64, .f32⟩
  | 83 => ⟨S4x8x128x8x64, .f32⟩
  | 84 => ⟨S4x8x128x8x64, .f32⟩
  | 85 => ⟨S4x8x128x8x64, .f32⟩
  | 86 => ⟨S4x1x128x8x64, .f32⟩
  | 87 => ⟨S4x7x128x8x64, .f32⟩
  | 88 => ⟨S_, .f32⟩
  | 89 => ⟨S4x8x128x8x64, .f32⟩
  | 90 => ⟨S4x8x128x8x64, .f32⟩
  | 91 => ⟨S4x1024x8x64, .f32⟩
  | 92 => ⟨S_, .f32⟩
  | 93 => ⟨S4x1024x8x64, .f32⟩
  | 94 => ⟨S4x1024x8x64, .f32⟩
  | 95 => ⟨S1x4x1024x8x64, .f32⟩
  | 96 => ⟨S1x1024x4x8x64, .f32⟩
  | 97 => ⟨S1x4096x8x64, .f32⟩
  | 98 => ⟨S1x4096x8x64, .f32⟩
  | 99 => ⟨S4x8x128x8x64, .f32⟩
  | 100 => ⟨S4x8x128x8x64, .f32⟩
  | 101 => ⟨S4x1x128x8x64, .f32⟩
  | 102 => ⟨S4x7x128x8x64, .f32⟩
  | 103 => ⟨S_, .f32⟩
  | 104 => ⟨S4x8x128x8x64, .f32⟩
  | 105 => ⟨S4x8x128x8x64, .f32⟩
  | 106 => ⟨S4x1024x8x64, .f32⟩
  | 107 => ⟨S_, .f32⟩
  | 108 => ⟨S4x1024x8x64, .f32⟩
  | 109 => ⟨S4x1024x8x64, .f32⟩
  | 110 => ⟨S1x4x1024x8x64, .f32⟩
  | 111 => ⟨S1x1024x4x8x64, .f32⟩
  | 112 => ⟨S1x4096x8x64, .f32⟩
  | 113 => ⟨S1x4096x8x64, .f32⟩
  | 114 => ⟨S4x1024x8x64, .f32⟩
  | 115 => ⟨S_, .f32⟩
  | 116 => ⟨S4x1024x8x64, .f32⟩
  | 117 => ⟨S4x1024x8x64, .f32⟩
  | 118 => ⟨S1x4x1024x8x64, .f32⟩
  | 119 => ⟨S1x1024x4x8x64, .f32⟩
  | 120 => ⟨S1x4096x8x64, .f32⟩
  | 121 => ⟨S1x4096x8x64, .f32⟩
  | 122 => ⟨S1x4096x1x8, .f32⟩
  | 123 => ⟨S1x1x4096x8, .f32⟩
  | 124 => ⟨S1x4096x8, .f32⟩
  | 125 => ⟨S1x32x128x8, .f32⟩
  | 126 => ⟨S1x32x8x128, .f32⟩
  | 127 => ⟨S1x4096x1x8x64, .f32⟩
  | _ => ⟨S4096x512, .f32⟩

abbrev hbmTy0_5 (i : Nat) : BufTy := match i % 128 with
  | 0 => ⟨S1x1x4096x8x64, .f32⟩
  | 1 => ⟨S1x4096x8x64, .f32⟩
  | 2 => ⟨S1x32x128x8x64, .f32⟩
  | 3 => ⟨S1x32x8x128x1, .f32⟩
  | 4 => ⟨S1x32x8x128x1, .f32⟩
  | 5 => ⟨S1x32x8x64x128, .f32⟩
  | 6 => ⟨S1x32x8x128x256, .f32⟩
  | 7 => ⟨S1x32x8x64x256, .f32⟩
  | 8 => ⟨S1x32x256x8x64, .f32⟩
  | 9 => ⟨S1x32x8x128x256, .f32⟩
  | 10 => ⟨S1x32x8x128x256, .f32⟩
  | 11 => ⟨S1x32x8x128x256, .f32⟩
  | 12 => ⟨S_, .f32⟩
  | 13 => ⟨S1x32x8x128, .f32⟩
  | 14 => ⟨S1x32x8x128x1, .f32⟩
  | 15 => ⟨S1x32x8x128x1, .f32⟩
  | 16 => ⟨S1x32x8x128x1, .f32⟩
  | 17 => ⟨S1x32x8x128x256, .f32⟩
  | 18 => ⟨S1x32x8x128x256, .f32⟩
  | 19 => ⟨S_, .f32⟩
  | 20 => ⟨S32x8x128, .f32⟩
  | 21 => ⟨S1x32x8x128, .f32⟩
  | 22 => ⟨S1x32x8x128x256, .f32⟩
  | 23 => ⟨S1x32x8x128x256, .f32⟩
  | 24 => ⟨S1x32x8x128x256, .f32⟩
  | 25 => ⟨S1x32x8x128x256, .f32⟩
  | 26 => ⟨S_, .f32⟩
  | 27 => ⟨S1x32x8x128, .f32⟩
  | 28 => ⟨S1x32x8x128x1, .f32⟩
  | 29 => ⟨S1x32x8x128x1, .f32⟩
  | 30 => ⟨S_, .f32⟩
  | 31 => ⟨S32x8x128, .f32⟩
  | 32 => ⟨S1x32x8x128, .f32⟩
  | 33 => ⟨S1x32x8x128, .f32⟩
  | 34 => ⟨S1x32x8x128x256, .f32⟩
  | 35 => ⟨S1x32x8x128x256, .f32⟩
  | 36 => ⟨S1x32x8x128x256, .f32⟩
  | 37 => ⟨S_, .f32⟩
  | 38 => ⟨S1x32x8x128x256, .f32⟩
  | 39 => ⟨S1x32x8x128x256, .f32⟩
  | 40 => ⟨S_, .f32⟩
  | 41 => ⟨S1x32x8x128x256, .f32⟩
  | 42 => ⟨S1x32x8x128x256, .f32⟩
  | 43 => ⟨S1x32x8x256x64, .f32⟩
  | 44 => ⟨S1x32x256x8x64, .f32⟩
  | 45 => ⟨S1x32x8x128x64, .f32⟩
  | 46 => ⟨S1x32x128x8x64, .f32⟩
  | 47 => ⟨S1x32x128x8x64, .f32⟩
  | 48 => ⟨S1x32x128x8x64, .f32⟩
  | 49 => ⟨S1x1x128x8x64, .f32⟩
  | 50 => ⟨S1x31x128x8x64, .f32⟩
  | 51 => ⟨S_, .f32⟩
  | 52 => ⟨S1x32x128x8x64, .f32⟩
  | 53 => ⟨S1x32x128x8x64, .f32⟩
  | 54 => ⟨S1x4096x8x64, .f32⟩
  | 55 => ⟨S_, .f32⟩
  | 56 => ⟨S1x4096x8x64, .f32⟩
  | 57 => ⟨S1x4096x8x64, .f32⟩
  | 58 => ⟨S1x1x4096x8x64, .f32⟩
  | 59 => ⟨S1x4096x1x8x64, .f32⟩
  | 60 => ⟨S1x4096x8x64, .f32⟩
  | 61 => ⟨S1x4096x8x64, .f32⟩
  | 62 => ⟨S1x32x128x8x64, .f32⟩
  | 63 => ⟨S1x32x128x8x64, .f32⟩
  | 64 => ⟨S1x1x128x8x64, .f32⟩
  | 65 => ⟨S1x31x128x8x64, .f32⟩
  | 66 => ⟨S_, .f32⟩
  | 67 => ⟨S1x32x128x8x64, .f32⟩
  | 68 => ⟨S1x32x128x8x64, .f32⟩
  | 69 => ⟨S1x4096x8x64, .f32⟩
  | 70 => ⟨S_, .f32⟩
  | 71 => ⟨S1x4096x8x64, .f32⟩
  | 72 => ⟨S1x4096x8x64, .f32⟩
  | 73 => ⟨S1x1x4096x8x64, .f32⟩
  | 74 => ⟨S1x4096x1x8x64, .f32⟩
  | 75 => ⟨S1x4096x8x64, .f32⟩
  | 76 => ⟨S1x4096x8x64, .f32⟩
  | 77 => ⟨S1x4096x8x64, .f32⟩
  | 78 => ⟨S_, .f32⟩
  | 79 => ⟨S1x4096x8x64, .f32⟩
  | 80 => ⟨S1x4096x8x64, .f32⟩
  | 81 => ⟨S1x1x4096x8x64, .f32⟩
  | 82 => ⟨S1x4096x1x8x64, .f32⟩
  | 83 => ⟨S1x4096x8x64, .f32⟩
  | 84 => ⟨S1x4096x8x64, .f32⟩
  | 85 => ⟨S4096x512, .f32⟩
  | 86 => ⟨S4096x512, .f32⟩
  | 87 => ⟨S4096x512, .f32⟩
  | _ => ⟨S4096x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call1_v0 : Ref sig .tc := ⟨.hbm, 19, rfl⟩
abbrev main_v11_0 : Ref sig .tc := ⟨.hbm, 20, rfl⟩
abbrev main_v11_1 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_call2_v0 : Ref sig .tc := ⟨.hbm, 35, rfl⟩
abbrev main_v22_0 : Ref sig .tc := ⟨.hbm, 36, rfl⟩
abbrev main_v22_1 : Ref sig .tc := ⟨.hbm, 37, rfl⟩
abbrev main_v23 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_7 : Ref sig .tc := ⟨.hbm, 61, rfl⟩
abbrev main_v42 : Ref sig .tc := ⟨.hbm, 62, rfl⟩
abbrev main_v43 : Ref sig .tc := ⟨.hbm, 63, rfl⟩
abbrev main_c_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_call3_v0 : Ref sig .tc := ⟨.hbm, 86, rfl⟩
abbrev main_v62_1 : Ref sig .tc := ⟨.hbm, 87, rfl⟩
abbrev main_call3_v2 : Ref sig .tc := ⟨.hbm, 88, rfl⟩
abbrev main_v62_0 : Ref sig .tc := ⟨.hbm, 89, rfl⟩
abbrev main_call3_cst : Ref sig .tc := ⟨.hbm, 90, rfl⟩
abbrev main_v62_2 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_13 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_14 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_15 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_c_16 : Ref sig .tc := ⟨.hbm, 130, rfl⟩
abbrev main_call4_v0 : Ref sig .tc := ⟨.hbm, 131, rfl⟩
abbrev main_v97_0 : Ref sig .tc := ⟨.hbm, 132, rfl⟩
abbrev main_v97_1 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_c_17 : Ref sig .tc := ⟨.hbm, 138, rfl⟩
abbrev main_call5_v0 : Ref sig .tc := ⟨.hbm, 139, rfl⟩
abbrev main_v102_0 : Ref sig .tc := ⟨.hbm, 140, rfl⟩
abbrev main_v102_1 : Ref sig .tc := ⟨.hbm, 141, rfl⟩
abbrev main_v103 : Ref sig .tc := ⟨.hbm, 142, rfl⟩
abbrev main_v104 : Ref sig .tc := ⟨.hbm, 143, rfl⟩
abbrev main_cst_18 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_19 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_c_20 : Ref sig .tc := ⟨.hbm, 154, rfl⟩
abbrev main_call6_v0 : Ref sig .tc := ⟨.hbm, 155, rfl⟩
abbrev main_v113_0 : Ref sig .tc := ⟨.hbm, 156, rfl⟩
abbrev main_v113_1 : Ref sig .tc := ⟨.hbm, 157, rfl⟩
abbrev main_v114 : Ref sig .tc := ⟨.hbm, 158, rfl⟩
abbrev main_v115 : Ref sig .tc := ⟨.hbm, 159, rfl⟩
abbrev main_cst_21 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_22 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_23 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_c_24 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_c_25 : Ref sig .tc := ⟨.hbm, 181, rfl⟩
abbrev main_v133 : Ref sig .tc := ⟨.hbm, 182, rfl⟩
abbrev main_v134 : Ref sig .tc := ⟨.hbm, 183, rfl⟩
abbrev main_c_26 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_c_27 : Ref sig .tc := ⟨.hbm, 191, rfl⟩
abbrev main_v141 : Ref sig .tc := ⟨.hbm, 192, rfl⟩
abbrev main_v142 : Ref sig .tc := ⟨.hbm, 193, rfl⟩
abbrev main_c_28 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_cst_29 : Ref sig .tc := ⟨.hbm, 205, rfl⟩
abbrev main_call7_v0 : Ref sig .tc := ⟨.hbm, 206, rfl⟩
abbrev main_v153_1 : Ref sig .tc := ⟨.hbm, 207, rfl⟩
abbrev main_call7_v2 : Ref sig .tc := ⟨.hbm, 208, rfl⟩
abbrev main_v153_0 : Ref sig .tc := ⟨.hbm, 209, rfl⟩
abbrev main_call7_cst : Ref sig .tc := ⟨.hbm, 210, rfl⟩
abbrev main_v153_2 : Ref sig .tc := ⟨.hbm, 211, rfl⟩
abbrev main_cst_30 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_cst_31 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_cst_32 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_cst_33 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_c_34 : Ref sig .tc := ⟨.hbm, 250, rfl⟩
abbrev main_call8_v0 : Ref sig .tc := ⟨.hbm, 251, rfl⟩
abbrev main_v188_0 : Ref sig .tc := ⟨.hbm, 252, rfl⟩
abbrev main_v188_1 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_c_35 : Ref sig .tc := ⟨.hbm, 258, rfl⟩
abbrev main_call9_v0 : Ref sig .tc := ⟨.hbm, 259, rfl⟩
abbrev main_v193_0 : Ref sig .tc := ⟨.hbm, 260, rfl⟩
abbrev main_v193_1 : Ref sig .tc := ⟨.hbm, 261, rfl⟩
abbrev main_v194 : Ref sig .tc := ⟨.hbm, 262, rfl⟩
abbrev main_v195 : Ref sig .tc := ⟨.hbm, 263, rfl⟩
abbrev main_cst_36 : Ref sig .tc := ⟨.hbm, 264, rfl⟩
abbrev main_v196 : Ref sig .tc := ⟨.hbm, 265, rfl⟩
abbrev main_v197 : Ref sig .tc := ⟨.hbm, 266, rfl⟩
abbrev main_v198 : Ref sig .tc := ⟨.hbm, 267, rfl⟩
abbrev main_cst_37 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_v203 : Ref sig .tc := ⟨.hbm, 273, rfl⟩
abbrev main_c_38 : Ref sig .tc := ⟨.hbm, 274, rfl⟩
abbrev main_call10_v0 : Ref sig .tc := ⟨.hbm, 275, rfl⟩
abbrev main_v204_0 : Ref sig .tc := ⟨.hbm, 276, rfl⟩
abbrev main_v204_1 : Ref sig .tc := ⟨.hbm, 277, rfl⟩
abbrev main_v205 : Ref sig .tc := ⟨.hbm, 278, rfl⟩
abbrev main_v206 : Ref sig .tc := ⟨.hbm, 279, rfl⟩
abbrev main_cst_39 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_cst_40 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_cst_41 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_c_42 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_v223 : Ref sig .tc := ⟨.hbm, 300, rfl⟩
abbrev main_c_43 : Ref sig .tc := ⟨.hbm, 301, rfl⟩
abbrev main_v224 : Ref sig .tc := ⟨.hbm, 302, rfl⟩
abbrev main_v225 : Ref sig .tc := ⟨.hbm, 303, rfl⟩
abbrev main_c_44 : Ref sig .tc := ⟨.hbm, 304, rfl⟩
abbrev main_v226 : Ref sig .tc := ⟨.hbm, 305, rfl⟩
abbrev main_v227 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_v231 : Ref sig .tc := ⟨.hbm, 310, rfl⟩
abbrev main_c_45 : Ref sig .tc := ⟨.hbm, 311, rfl⟩
abbrev main_v232 : Ref sig .tc := ⟨.hbm, 312, rfl⟩
abbrev main_v233 : Ref sig .tc := ⟨.hbm, 313, rfl⟩
abbrev main_c_46 : Ref sig .tc := ⟨.hbm, 314, rfl⟩
abbrev main_v234 : Ref sig .tc := ⟨.hbm, 315, rfl⟩
abbrev main_v235 : Ref sig .tc := ⟨.hbm, 316, rfl⟩
abbrev main_v236 : Ref sig .tc := ⟨.hbm, 317, rfl⟩
abbrev main_v237 : Ref sig .tc := ⟨.hbm, 318, rfl⟩
abbrev main_v238 : Ref sig .tc := ⟨.hbm, 319, rfl⟩
abbrev main_v239 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_v243 : Ref sig .tc := ⟨.hbm, 324, rfl⟩
abbrev main_cst_47 : Ref sig .tc := ⟨.hbm, 325, rfl⟩
abbrev main_call11_v0 : Ref sig .tc := ⟨.hbm, 326, rfl⟩
abbrev main_v244_1 : Ref sig .tc := ⟨.hbm, 327, rfl⟩
abbrev main_call11_v2 : Ref sig .tc := ⟨.hbm, 328, rfl⟩
abbrev main_v244_0 : Ref sig .tc := ⟨.hbm, 329, rfl⟩
abbrev main_call11_cst : Ref sig .tc := ⟨.hbm, 330, rfl⟩
abbrev main_v244_2 : Ref sig .tc := ⟨.hbm, 331, rfl⟩
abbrev main_cst_48 : Ref sig .tc := ⟨.hbm, 332, rfl⟩
abbrev main_v245 : Ref sig .tc := ⟨.hbm, 333, rfl⟩
abbrev main_v246 : Ref sig .tc := ⟨.hbm, 334, rfl⟩
abbrev main_v247 : Ref sig .tc := ⟨.hbm, 335, rfl⟩
abbrev main_v248 : Ref sig .tc := ⟨.hbm, 336, rfl⟩
abbrev main_v249 : Ref sig .tc := ⟨.hbm, 337, rfl⟩
abbrev main_cst_49 : Ref sig .tc := ⟨.hbm, 338, rfl⟩
abbrev main_v250 : Ref sig .tc := ⟨.hbm, 339, rfl⟩
abbrev main_v251 : Ref sig .tc := ⟨.hbm, 340, rfl⟩
abbrev main_v252 : Ref sig .tc := ⟨.hbm, 341, rfl⟩
abbrev main_v253 : Ref sig .tc := ⟨.hbm, 342, rfl⟩
abbrev main_v254 : Ref sig .tc := ⟨.hbm, 343, rfl⟩
abbrev main_cst_50 : Ref sig .tc := ⟨.hbm, 344, rfl⟩
abbrev main_v255 : Ref sig .tc := ⟨.hbm, 345, rfl⟩
abbrev main_v256 : Ref sig .tc := ⟨.hbm, 346, rfl⟩
abbrev main_v257 : Ref sig .tc := ⟨.hbm, 347, rfl⟩
abbrev main_v258 : Ref sig .tc := ⟨.hbm, 348, rfl⟩
abbrev main_v259 : Ref sig .tc := ⟨.hbm, 349, rfl⟩
abbrev main_cst_51 : Ref sig .tc := ⟨.hbm, 350, rfl⟩
abbrev main_v260 : Ref sig .tc := ⟨.hbm, 351, rfl⟩
abbrev main_v261 : Ref sig .tc := ⟨.hbm, 352, rfl⟩
abbrev main_v262 : Ref sig .tc := ⟨.hbm, 353, rfl⟩
abbrev main_v263 : Ref sig .tc := ⟨.hbm, 354, rfl⟩
abbrev main_v264 : Ref sig .tc := ⟨.hbm, 355, rfl⟩
abbrev main_v265 : Ref sig .tc := ⟨.hbm, 356, rfl⟩
abbrev main_v266 : Ref sig .tc := ⟨.hbm, 357, rfl⟩
abbrev main_v267 : Ref sig .tc := ⟨.hbm, 358, rfl⟩
abbrev main_v268 : Ref sig .tc := ⟨.hbm, 359, rfl⟩
abbrev main_v269 : Ref sig .tc := ⟨.hbm, 360, rfl⟩
abbrev main_v270 : Ref sig .tc := ⟨.hbm, 361, rfl⟩
abbrev main_v271 : Ref sig .tc := ⟨.hbm, 362, rfl⟩
abbrev main_v272 : Ref sig .tc := ⟨.hbm, 363, rfl⟩
abbrev main_v273 : Ref sig .tc := ⟨.hbm, 364, rfl⟩
abbrev main_v274 : Ref sig .tc := ⟨.hbm, 365, rfl⟩
abbrev main_v275 : Ref sig .tc := ⟨.hbm, 366, rfl⟩
abbrev main_v276 : Ref sig .tc := ⟨.hbm, 367, rfl⟩
abbrev main_v277 : Ref sig .tc := ⟨.hbm, 368, rfl⟩
abbrev main_v278 : Ref sig .tc := ⟨.hbm, 369, rfl⟩
abbrev main_v279 : Ref sig .tc := ⟨.hbm, 370, rfl⟩
abbrev main_cst_52 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_v284 : Ref sig .tc := ⟨.hbm, 376, rfl⟩
abbrev main_cst_53 : Ref sig .tc := ⟨.hbm, 377, rfl⟩
abbrev main_v285 : Ref sig .tc := ⟨.hbm, 378, rfl⟩
abbrev main_cst_54 : Ref sig .tc := ⟨.hbm, 379, rfl⟩
abbrev main_v286 : Ref sig .tc := ⟨.hbm, 380, rfl⟩
abbrev main_v287 : Ref sig .tc := ⟨.hbm, 381, rfl⟩
abbrev main_cst_55 : Ref sig .tc := ⟨.hbm, 382, rfl⟩
abbrev main_v288 : Ref sig .tc := ⟨.hbm, 383, rfl⟩
abbrev main_v289 : Ref sig .tc := ⟨.hbm, 384, rfl⟩
abbrev main_cst_56 : Ref sig .tc := ⟨.hbm, 385, rfl⟩
abbrev main_v290 : Ref sig .tc := ⟨.hbm, 386, rfl⟩
abbrev main_v291 : Ref sig .tc := ⟨.hbm, 387, rfl⟩
abbrev main_cst_57 : Ref sig .tc := ⟨.hbm, 388, rfl⟩
abbrev main_v292 : Ref sig .tc := ⟨.hbm, 389, rfl⟩
abbrev main_cst_58 : Ref sig .tc := ⟨.hbm, 390, rfl⟩
abbrev main_v293 : Ref sig .tc := ⟨.hbm, 391, rfl⟩
abbrev main_cst_59 : Ref sig .tc := ⟨.hbm, 392, rfl⟩
abbrev main_v294 : Ref sig .tc := ⟨.hbm, 393, rfl⟩
abbrev main_v295 : Ref sig .tc := ⟨.hbm, 394, rfl⟩
abbrev main_v296 : Ref sig .tc := ⟨.hbm, 395, rfl⟩
abbrev main_v297 : Ref sig .tc := ⟨.hbm, 396, rfl⟩
abbrev main_v298 : Ref sig .tc := ⟨.hbm, 397, rfl⟩
abbrev main_v299 : Ref sig .tc := ⟨.hbm, 398, rfl⟩
abbrev main_v300 : Ref sig .tc := ⟨.hbm, 399, rfl⟩
abbrev main_cst_60 : Ref sig .tc := ⟨.hbm, 400, rfl⟩
abbrev main_v301 : Ref sig .tc := ⟨.hbm, 401, rfl⟩
abbrev main_v302 : Ref sig .tc := ⟨.hbm, 402, rfl⟩
abbrev main_v303 : Ref sig .tc := ⟨.hbm, 403, rfl⟩
abbrev main_v304 : Ref sig .tc := ⟨.hbm, 404, rfl⟩
abbrev main_v305 : Ref sig .tc := ⟨.hbm, 405, rfl⟩
abbrev main_cst_61 : Ref sig .tc := ⟨.hbm, 406, rfl⟩
abbrev main_v306 : Ref sig .tc := ⟨.hbm, 407, rfl⟩
abbrev main_v307 : Ref sig .tc := ⟨.hbm, 408, rfl⟩
abbrev main_v308 : Ref sig .tc := ⟨.hbm, 409, rfl⟩
abbrev main_v309 : Ref sig .tc := ⟨.hbm, 410, rfl⟩
abbrev main_v310 : Ref sig .tc := ⟨.hbm, 411, rfl⟩
abbrev main_v311 : Ref sig .tc := ⟨.hbm, 412, rfl⟩
abbrev main_v312 : Ref sig .tc := ⟨.hbm, 413, rfl⟩
abbrev main_v313 : Ref sig .tc := ⟨.hbm, 414, rfl⟩
abbrev main_v314 : Ref sig .tc := ⟨.hbm, 415, rfl⟩
abbrev main_cst_62 : Ref sig .tc := ⟨.hbm, 416, rfl⟩
abbrev main_v315 : Ref sig .tc := ⟨.hbm, 417, rfl⟩
abbrev main_v316 : Ref sig .tc := ⟨.hbm, 418, rfl⟩
abbrev main_v317 : Ref sig .tc := ⟨.hbm, 419, rfl⟩
abbrev main_v318 : Ref sig .tc := ⟨.hbm, 420, rfl⟩
abbrev main_v319 : Ref sig .tc := ⟨.hbm, 421, rfl⟩
abbrev main_v320 : Ref sig .tc := ⟨.hbm, 422, rfl⟩
abbrev main_v321 : Ref sig .tc := ⟨.hbm, 423, rfl⟩
abbrev main_v322 : Ref sig .tc := ⟨.hbm, 424, rfl⟩
abbrev main_v323 : Ref sig .tc := ⟨.hbm, 425, rfl⟩
abbrev main_cst_63 : Ref sig .tc := ⟨.hbm, 426, rfl⟩
abbrev main_v324 : Ref sig .tc := ⟨.hbm, 427, rfl⟩
abbrev main_v325 : Ref sig .tc := ⟨.hbm, 428, rfl⟩
abbrev main_v326 : Ref sig .tc := ⟨.hbm, 429, rfl⟩
abbrev main_v327 : Ref sig .tc := ⟨.hbm, 430, rfl⟩
abbrev main_v328 : Ref sig .tc := ⟨.hbm, 431, rfl⟩
abbrev main_v329 : Ref sig .tc := ⟨.hbm, 432, rfl⟩
abbrev main_v330 : Ref sig .tc := ⟨.hbm, 433, rfl⟩
abbrev main_v331 : Ref sig .tc := ⟨.hbm, 434, rfl⟩
abbrev main_cst_64 : Ref sig .tc := ⟨.hbm, 435, rfl⟩
abbrev main_v332 : Ref sig .tc := ⟨.hbm, 436, rfl⟩
abbrev main_v333 : Ref sig .tc := ⟨.hbm, 437, rfl⟩
abbrev main_v334 : Ref sig .tc := ⟨.hbm, 438, rfl⟩
abbrev main_v335 : Ref sig .tc := ⟨.hbm, 439, rfl⟩
abbrev main_v336 : Ref sig .tc := ⟨.hbm, 440, rfl⟩
abbrev main_cst_65 : Ref sig .tc := ⟨.hbm, 441, rfl⟩
abbrev main_v337 : Ref sig .tc := ⟨.hbm, 442, rfl⟩
abbrev main_v338 : Ref sig .tc := ⟨.hbm, 443, rfl⟩
abbrev main_v339 : Ref sig .tc := ⟨.hbm, 444, rfl⟩
abbrev main_v340 : Ref sig .tc := ⟨.hbm, 445, rfl⟩
abbrev main_v341 : Ref sig .tc := ⟨.hbm, 446, rfl⟩
abbrev main_cst_66 : Ref sig .tc := ⟨.hbm, 447, rfl⟩
abbrev main_v342 : Ref sig .tc := ⟨.hbm, 448, rfl⟩
abbrev main_v343 : Ref sig .tc := ⟨.hbm, 449, rfl⟩
abbrev main_v344 : Ref sig .tc := ⟨.hbm, 450, rfl⟩
abbrev main_v345 : Ref sig .tc := ⟨.hbm, 451, rfl⟩
abbrev main_v346 : Ref sig .tc := ⟨.hbm, 452, rfl⟩
abbrev main_v347 : Ref sig .tc := ⟨.hbm, 453, rfl⟩
abbrev main_v348 : Ref sig .tc := ⟨.hbm, 454, rfl⟩
abbrev main_v349 : Ref sig .tc := ⟨.hbm, 455, rfl⟩
abbrev main_v350 : Ref sig .tc := ⟨.hbm, 456, rfl⟩
abbrev main_v351 : Ref sig .tc := ⟨.hbm, 457, rfl⟩
abbrev main_v352 : Ref sig .tc := ⟨.hbm, 458, rfl⟩
abbrev main_v353 : Ref sig .tc := ⟨.hbm, 459, rfl⟩
abbrev main_v354 : Ref sig .tc := ⟨.hbm, 460, rfl⟩
abbrev main_v355 : Ref sig .tc := ⟨.hbm, 461, rfl⟩
abbrev main_v356 : Ref sig .tc := ⟨.hbm, 462, rfl⟩
abbrev main_v357 : Ref sig .tc := ⟨.hbm, 463, rfl⟩
abbrev main_v358 : Ref sig .tc := ⟨.hbm, 464, rfl⟩
abbrev main_v359 : Ref sig .tc := ⟨.hbm, 465, rfl⟩
abbrev main_v360 : Ref sig .tc := ⟨.hbm, 466, rfl⟩
abbrev main_v361 : Ref sig .tc := ⟨.hbm, 467, rfl⟩
abbrev main_v362 : Ref sig .tc := ⟨.hbm, 468, rfl⟩
abbrev main_v363 : Ref sig .tc := ⟨.hbm, 469, rfl⟩
abbrev main_v364 : Ref sig .tc := ⟨.hbm, 470, rfl⟩
abbrev main_v365 : Ref sig .tc := ⟨.hbm, 471, rfl⟩
abbrev main_v366 : Ref sig .tc := ⟨.hbm, 472, rfl⟩
abbrev main_v367 : Ref sig .tc := ⟨.hbm, 473, rfl⟩
abbrev main_v368 : Ref sig .tc := ⟨.hbm, 474, rfl⟩
abbrev main_v369 : Ref sig .tc := ⟨.hbm, 475, rfl⟩
abbrev main_v370 : Ref sig .tc := ⟨.hbm, 476, rfl⟩
abbrev main_cst_67 : Ref sig .tc := ⟨.hbm, 477, rfl⟩
abbrev main_v371 : Ref sig .tc := ⟨.hbm, 478, rfl⟩
abbrev main_v372 : Ref sig .tc := ⟨.hbm, 479, rfl⟩
abbrev main_v373 : Ref sig .tc := ⟨.hbm, 480, rfl⟩
abbrev main_v374 : Ref sig .tc := ⟨.hbm, 481, rfl⟩
abbrev main_v375 : Ref sig .tc := ⟨.hbm, 482, rfl⟩
abbrev main_v376 : Ref sig .tc := ⟨.hbm, 483, rfl⟩
abbrev main_cst_68 : Ref sig .tc := ⟨.hbm, 484, rfl⟩
abbrev main_v377 : Ref sig .tc := ⟨.hbm, 485, rfl⟩
abbrev main_v378 : Ref sig .tc := ⟨.hbm, 486, rfl⟩
abbrev main_v379 : Ref sig .tc := ⟨.hbm, 487, rfl⟩
abbrev main_v380 : Ref sig .tc := ⟨.hbm, 488, rfl⟩
abbrev main_v381 : Ref sig .tc := ⟨.hbm, 489, rfl⟩
abbrev main_cst_69 : Ref sig .tc := ⟨.hbm, 490, rfl⟩
abbrev main_v382 : Ref sig .tc := ⟨.hbm, 491, rfl⟩
abbrev main_v383 : Ref sig .tc := ⟨.hbm, 492, rfl⟩
abbrev main_v384 : Ref sig .tc := ⟨.hbm, 493, rfl⟩
abbrev main_cst_70 : Ref sig .tc := ⟨.hbm, 494, rfl⟩
abbrev main_v385 : Ref sig .tc := ⟨.hbm, 495, rfl⟩
abbrev main_v386 : Ref sig .tc := ⟨.hbm, 496, rfl⟩
abbrev main_v387 : Ref sig .tc := ⟨.hbm, 497, rfl⟩
abbrev main_v388 : Ref sig .tc := ⟨.hbm, 498, rfl⟩
abbrev main_v389 : Ref sig .tc := ⟨.hbm, 499, rfl⟩
abbrev main_call12_cst : Ref sig .tc := ⟨.hbm, 500, rfl⟩
abbrev main_call12_v0 : Ref sig .tc := ⟨.hbm, 501, rfl⟩
abbrev main_v390 : Ref sig .tc := ⟨.hbm, 502, rfl⟩
abbrev main_cst_71 : Ref sig .tc := ⟨.hbm, 503, rfl⟩
abbrev main_v391 : Ref sig .tc := ⟨.hbm, 504, rfl⟩
abbrev main_v392 : Ref sig .tc := ⟨.hbm, 505, rfl⟩
abbrev main_v393 : Ref sig .tc := ⟨.hbm, 506, rfl⟩
abbrev main_v394 : Ref sig .tc := ⟨.hbm, 507, rfl⟩
abbrev main_v395 : Ref sig .tc := ⟨.hbm, 508, rfl⟩
abbrev main_v396 : Ref sig .tc := ⟨.hbm, 509, rfl⟩
abbrev main_v397 : Ref sig .tc := ⟨.hbm, 510, rfl⟩
abbrev main_v398 : Ref sig .tc := ⟨.hbm, 511, rfl⟩
abbrev main_v399 : Ref sig .tc := ⟨.hbm, 512, rfl⟩
abbrev main_v400 : Ref sig .tc := ⟨.hbm, 513, rfl⟩
abbrev main_cst_72 : Ref sig .tc := ⟨.hbm, 514, rfl⟩
abbrev main_v401 : Ref sig .tc := ⟨.hbm, 515, rfl⟩
abbrev main_v402 : Ref sig .tc := ⟨.hbm, 516, rfl⟩
abbrev main_v403 : Ref sig .tc := ⟨.hbm, 517, rfl⟩
abbrev main_call13_cst : Ref sig .tc := ⟨.hbm, 518, rfl⟩
abbrev main_call13_v0 : Ref sig .tc := ⟨.hbm, 519, rfl⟩
abbrev main_v404 : Ref sig .tc := ⟨.hbm, 520, rfl⟩
abbrev main_v405 : Ref sig .tc := ⟨.hbm, 521, rfl⟩
abbrev main_v406 : Ref sig .tc := ⟨.hbm, 522, rfl⟩
abbrev main_v407 : Ref sig .tc := ⟨.hbm, 523, rfl⟩
abbrev main_v408 : Ref sig .tc := ⟨.hbm, 524, rfl⟩
abbrev main_v409 : Ref sig .tc := ⟨.hbm, 525, rfl⟩
abbrev main_v410 : Ref sig .tc := ⟨.hbm, 526, rfl⟩
abbrev main_v411 : Ref sig .tc := ⟨.hbm, 527, rfl⟩
abbrev main_cst_73 : Ref sig .tc := ⟨.hbm, 528, rfl⟩
abbrev main_v412 : Ref sig .tc := ⟨.hbm, 529, rfl⟩
abbrev main_v413 : Ref sig .tc := ⟨.hbm, 530, rfl⟩
abbrev main_v414 : Ref sig .tc := ⟨.hbm, 531, rfl⟩
abbrev main_call14_cst : Ref sig .tc := ⟨.hbm, 532, rfl⟩
abbrev main_call14_v0 : Ref sig .tc := ⟨.hbm, 533, rfl⟩
abbrev main_v415 : Ref sig .tc := ⟨.hbm, 534, rfl⟩
abbrev main_v416 : Ref sig .tc := ⟨.hbm, 535, rfl⟩
abbrev main_v417 : Ref sig .tc := ⟨.hbm, 536, rfl⟩
abbrev main_v418 : Ref sig .tc := ⟨.hbm, 537, rfl⟩
abbrev main_v419 : Ref sig .tc := ⟨.hbm, 538, rfl⟩
abbrev main_call15_cst : Ref sig .tc := ⟨.hbm, 539, rfl⟩
abbrev main_call15_v0 : Ref sig .tc := ⟨.hbm, 540, rfl⟩
abbrev main_v420 : Ref sig .tc := ⟨.hbm, 541, rfl⟩
abbrev main_v421 : Ref sig .tc := ⟨.hbm, 542, rfl⟩
abbrev main_v422 : Ref sig .tc := ⟨.hbm, 543, rfl⟩
abbrev main_v423 : Ref sig .tc := ⟨.hbm, 544, rfl⟩
abbrev main_v424 : Ref sig .tc := ⟨.hbm, 545, rfl⟩
abbrev main_v425 : Ref sig .tc := ⟨.hbm, 546, rfl⟩
abbrev main_v426 : Ref sig .tc := ⟨.hbm, 547, rfl⟩
abbrev main_v427 : Ref sig .tc := ⟨.hbm, 548, rfl⟩
abbrev main_v428 : Ref sig .tc := ⟨.hbm, 549, rfl⟩
abbrev main_v429 : Ref sig .tc := ⟨.hbm, 550, rfl⟩
abbrev main_v430 : Ref sig .tc := ⟨.hbm, 551, rfl⟩
abbrev main_v431 : Ref sig .tc := ⟨.hbm, 552, rfl⟩
abbrev main_v432 : Ref sig .tc := ⟨.hbm, 553, rfl⟩
abbrev main_v433 : Ref sig .tc := ⟨.hbm, 554, rfl⟩
abbrev main_v434 : Ref sig .tc := ⟨.hbm, 555, rfl⟩
abbrev main_v435 : Ref sig .tc := ⟨.hbm, 556, rfl⟩
abbrev main_v436 : Ref sig .tc := ⟨.hbm, 557, rfl⟩
abbrev main_v437 : Ref sig .tc := ⟨.hbm, 558, rfl⟩
abbrev main_v438 : Ref sig .tc := ⟨.hbm, 559, rfl⟩
abbrev main_v439 : Ref sig .tc := ⟨.hbm, 560, rfl⟩
abbrev main_v440 : Ref sig .tc := ⟨.hbm, 561, rfl⟩
abbrev main_v441 : Ref sig .tc := ⟨.hbm, 562, rfl⟩
abbrev main_cst_74 : Ref sig .tc := ⟨.hbm, 563, rfl⟩
abbrev main_v442 : Ref sig .tc := ⟨.hbm, 564, rfl⟩
abbrev main_v443 : Ref sig .tc := ⟨.hbm, 565, rfl⟩
abbrev main_v444 : Ref sig .tc := ⟨.hbm, 566, rfl⟩
abbrev main_v445 : Ref sig .tc := ⟨.hbm, 567, rfl⟩
abbrev main_v446 : Ref sig .tc := ⟨.hbm, 568, rfl⟩
abbrev main_v447 : Ref sig .tc := ⟨.hbm, 569, rfl⟩
abbrev main_cst_75 : Ref sig .tc := ⟨.hbm, 570, rfl⟩
abbrev main_v448 : Ref sig .tc := ⟨.hbm, 571, rfl⟩
abbrev main_v449 : Ref sig .tc := ⟨.hbm, 572, rfl⟩
abbrev main_v450 : Ref sig .tc := ⟨.hbm, 573, rfl⟩
abbrev main_v451 : Ref sig .tc := ⟨.hbm, 574, rfl⟩
abbrev main_v452 : Ref sig .tc := ⟨.hbm, 575, rfl⟩
abbrev main_cst_76 : Ref sig .tc := ⟨.hbm, 576, rfl⟩
abbrev main_v453 : Ref sig .tc := ⟨.hbm, 577, rfl⟩
abbrev main_v454 : Ref sig .tc := ⟨.hbm, 578, rfl⟩
abbrev main_v455 : Ref sig .tc := ⟨.hbm, 579, rfl⟩
abbrev main_cst_77 : Ref sig .tc := ⟨.hbm, 580, rfl⟩
abbrev main_v456 : Ref sig .tc := ⟨.hbm, 581, rfl⟩
abbrev main_v457 : Ref sig .tc := ⟨.hbm, 582, rfl⟩
abbrev main_v458 : Ref sig .tc := ⟨.hbm, 583, rfl⟩
abbrev main_v459 : Ref sig .tc := ⟨.hbm, 584, rfl⟩
abbrev main_v460 : Ref sig .tc := ⟨.hbm, 585, rfl⟩
abbrev main_call16_cst : Ref sig .tc := ⟨.hbm, 586, rfl⟩
abbrev main_call16_v0 : Ref sig .tc := ⟨.hbm, 587, rfl⟩
abbrev main_v461 : Ref sig .tc := ⟨.hbm, 588, rfl⟩
abbrev main_cst_78 : Ref sig .tc := ⟨.hbm, 589, rfl⟩
abbrev main_v462 : Ref sig .tc := ⟨.hbm, 590, rfl⟩
abbrev main_v463 : Ref sig .tc := ⟨.hbm, 591, rfl⟩
abbrev main_v464 : Ref sig .tc := ⟨.hbm, 592, rfl⟩
abbrev main_v465 : Ref sig .tc := ⟨.hbm, 593, rfl⟩
abbrev main_v466 : Ref sig .tc := ⟨.hbm, 594, rfl⟩
abbrev main_v467 : Ref sig .tc := ⟨.hbm, 595, rfl⟩
abbrev main_v468 : Ref sig .tc := ⟨.hbm, 596, rfl⟩
abbrev main_v469 : Ref sig .tc := ⟨.hbm, 597, rfl⟩
abbrev main_v470 : Ref sig .tc := ⟨.hbm, 598, rfl⟩
abbrev main_v471 : Ref sig .tc := ⟨.hbm, 599, rfl⟩
abbrev main_cst_79 : Ref sig .tc := ⟨.hbm, 600, rfl⟩
abbrev main_v472 : Ref sig .tc := ⟨.hbm, 601, rfl⟩
abbrev main_v473 : Ref sig .tc := ⟨.hbm, 602, rfl⟩
abbrev main_v474 : Ref sig .tc := ⟨.hbm, 603, rfl⟩
abbrev main_call17_cst : Ref sig .tc := ⟨.hbm, 604, rfl⟩
abbrev main_call17_v0 : Ref sig .tc := ⟨.hbm, 605, rfl⟩
abbrev main_v475 : Ref sig .tc := ⟨.hbm, 606, rfl⟩
abbrev main_v476 : Ref sig .tc := ⟨.hbm, 607, rfl⟩
abbrev main_v477 : Ref sig .tc := ⟨.hbm, 608, rfl⟩
abbrev main_v478 : Ref sig .tc := ⟨.hbm, 609, rfl⟩
abbrev main_v479 : Ref sig .tc := ⟨.hbm, 610, rfl⟩
abbrev main_v480 : Ref sig .tc := ⟨.hbm, 611, rfl⟩
abbrev main_v481 : Ref sig .tc := ⟨.hbm, 612, rfl⟩
abbrev main_v482 : Ref sig .tc := ⟨.hbm, 613, rfl⟩
abbrev main_v483 : Ref sig .tc := ⟨.hbm, 614, rfl⟩
abbrev main_cst_80 : Ref sig .tc := ⟨.hbm, 615, rfl⟩
abbrev main_v484 : Ref sig .tc := ⟨.hbm, 616, rfl⟩
abbrev main_v485 : Ref sig .tc := ⟨.hbm, 617, rfl⟩
abbrev main_v486 : Ref sig .tc := ⟨.hbm, 618, rfl⟩
abbrev main_call18_cst : Ref sig .tc := ⟨.hbm, 619, rfl⟩
abbrev main_call18_v0 : Ref sig .tc := ⟨.hbm, 620, rfl⟩
abbrev main_v487 : Ref sig .tc := ⟨.hbm, 621, rfl⟩
abbrev main_v488 : Ref sig .tc := ⟨.hbm, 622, rfl⟩
abbrev main_v489 : Ref sig .tc := ⟨.hbm, 623, rfl⟩
abbrev main_v490 : Ref sig .tc := ⟨.hbm, 624, rfl⟩
abbrev main_v491 : Ref sig .tc := ⟨.hbm, 625, rfl⟩
abbrev main_v492 : Ref sig .tc := ⟨.hbm, 626, rfl⟩
abbrev main_call19_cst : Ref sig .tc := ⟨.hbm, 627, rfl⟩
abbrev main_call19_v0 : Ref sig .tc := ⟨.hbm, 628, rfl⟩
abbrev main_v493 : Ref sig .tc := ⟨.hbm, 629, rfl⟩
abbrev main_v494 : Ref sig .tc := ⟨.hbm, 630, rfl⟩
abbrev main_v495 : Ref sig .tc := ⟨.hbm, 631, rfl⟩
abbrev main_v496 : Ref sig .tc := ⟨.hbm, 632, rfl⟩
abbrev main_v497 : Ref sig .tc := ⟨.hbm, 633, rfl⟩
abbrev main_v498 : Ref sig .tc := ⟨.hbm, 634, rfl⟩
abbrev main_v499 : Ref sig .tc := ⟨.hbm, 635, rfl⟩
abbrev main_v500 : Ref sig .tc := ⟨.hbm, 636, rfl⟩
abbrev main_v501 : Ref sig .tc := ⟨.hbm, 637, rfl⟩
abbrev main_v502 : Ref sig .tc := ⟨.hbm, 638, rfl⟩
abbrev main_v503 : Ref sig .tc := ⟨.hbm, 639, rfl⟩
abbrev main_v504 : Ref sig .tc := ⟨.hbm, 640, rfl⟩
abbrev main_v505 : Ref sig .tc := ⟨.hbm, 641, rfl⟩
abbrev main_v506 : Ref sig .tc := ⟨.hbm, 642, rfl⟩
abbrev main_v507 : Ref sig .tc := ⟨.hbm, 643, rfl⟩
abbrev main_v508 : Ref sig .tc := ⟨.hbm, 644, rfl⟩
abbrev main_v509 : Ref sig .tc := ⟨.hbm, 645, rfl⟩
abbrev main_v510 : Ref sig .tc := ⟨.hbm, 646, rfl⟩
abbrev main_v511 : Ref sig .tc := ⟨.hbm, 647, rfl⟩
abbrev main_v512 : Ref sig .tc := ⟨.hbm, 648, rfl⟩
abbrev main_v513 : Ref sig .tc := ⟨.hbm, 649, rfl⟩
abbrev main_v514 : Ref sig .tc := ⟨.hbm, 650, rfl⟩
abbrev main_v515 : Ref sig .tc := ⟨.hbm, 651, rfl⟩
abbrev main_cst_81 : Ref sig .tc := ⟨.hbm, 652, rfl⟩
abbrev main_v516 : Ref sig .tc := ⟨.hbm, 653, rfl⟩
abbrev main_v517 : Ref sig .tc := ⟨.hbm, 654, rfl⟩
abbrev main_v518 : Ref sig .tc := ⟨.hbm, 655, rfl⟩
abbrev main_v519 : Ref sig .tc := ⟨.hbm, 656, rfl⟩
abbrev main_v520 : Ref sig .tc := ⟨.hbm, 657, rfl⟩
abbrev main_v521 : Ref sig .tc := ⟨.hbm, 658, rfl⟩
abbrev main_cst_82 : Ref sig .tc := ⟨.hbm, 659, rfl⟩
abbrev main_v522 : Ref sig .tc := ⟨.hbm, 660, rfl⟩
abbrev main_v523 : Ref sig .tc := ⟨.hbm, 661, rfl⟩
abbrev main_v524 : Ref sig .tc := ⟨.hbm, 662, rfl⟩
abbrev main_v525 : Ref sig .tc := ⟨.hbm, 663, rfl⟩
abbrev main_v526 : Ref sig .tc := ⟨.hbm, 664, rfl⟩
abbrev main_v527 : Ref sig .tc := ⟨.hbm, 665, rfl⟩
abbrev main_cst_83 : Ref sig .tc := ⟨.hbm, 666, rfl⟩
abbrev main_v528 : Ref sig .tc := ⟨.hbm, 667, rfl⟩
abbrev main_v529 : Ref sig .tc := ⟨.hbm, 668, rfl⟩
abbrev main_v530 : Ref sig .tc := ⟨.hbm, 669, rfl⟩
abbrev main_cst_84 : Ref sig .tc := ⟨.hbm, 670, rfl⟩
abbrev main_v531 : Ref sig .tc := ⟨.hbm, 671, rfl⟩
abbrev main_v532 : Ref sig .tc := ⟨.hbm, 672, rfl⟩
abbrev main_v533 : Ref sig .tc := ⟨.hbm, 673, rfl⟩
abbrev main_v534 : Ref sig .tc := ⟨.hbm, 674, rfl⟩
abbrev main_v535 : Ref sig .tc := ⟨.hbm, 675, rfl⟩
abbrev main_v536 : Ref sig .tc := ⟨.hbm, 676, rfl⟩
abbrev main_call20_cst : Ref sig .tc := ⟨.hbm, 677, rfl⟩
abbrev main_call20_v0 : Ref sig .tc := ⟨.hbm, 678, rfl⟩
abbrev main_v537 : Ref sig .tc := ⟨.hbm, 679, rfl⟩
abbrev main_cst_85 : Ref sig .tc := ⟨.hbm, 680, rfl⟩
abbrev main_v538 : Ref sig .tc := ⟨.hbm, 681, rfl⟩
abbrev main_v539 : Ref sig .tc := ⟨.hbm, 682, rfl⟩
abbrev main_v540 : Ref sig .tc := ⟨.hbm, 683, rfl⟩
abbrev main_v541 : Ref sig .tc := ⟨.hbm, 684, rfl⟩
abbrev main_v542 : Ref sig .tc := ⟨.hbm, 685, rfl⟩
abbrev main_v543 : Ref sig .tc := ⟨.hbm, 686, rfl⟩
abbrev main_v544 : Ref sig .tc := ⟨.hbm, 687, rfl⟩
abbrev main_v545 : Ref sig .tc := ⟨.hbm, 688, rfl⟩
abbrev main_v546 : Ref sig .tc := ⟨.hbm, 689, rfl⟩
abbrev main_v547 : Ref sig .tc := ⟨.hbm, 690, rfl⟩
abbrev main_cst_86 : Ref sig .tc := ⟨.hbm, 691, rfl⟩
abbrev main_v548 : Ref sig .tc := ⟨.hbm, 692, rfl⟩
abbrev main_v549 : Ref sig .tc := ⟨.hbm, 693, rfl⟩
abbrev main_v550 : Ref sig .tc := ⟨.hbm, 694, rfl⟩
abbrev main_call21_cst : Ref sig .tc := ⟨.hbm, 695, rfl⟩
abbrev main_call21_v0 : Ref sig .tc := ⟨.hbm, 696, rfl⟩
abbrev main_v551 : Ref sig .tc := ⟨.hbm, 697, rfl⟩
abbrev main_v552 : Ref sig .tc := ⟨.hbm, 698, rfl⟩
abbrev main_v553 : Ref sig .tc := ⟨.hbm, 699, rfl⟩
abbrev main_v554 : Ref sig .tc := ⟨.hbm, 700, rfl⟩
abbrev main_v555 : Ref sig .tc := ⟨.hbm, 701, rfl⟩
abbrev main_v556 : Ref sig .tc := ⟨.hbm, 702, rfl⟩
abbrev main_v557 : Ref sig .tc := ⟨.hbm, 703, rfl⟩
abbrev main_v558 : Ref sig .tc := ⟨.hbm, 704, rfl⟩
abbrev main_v559 : Ref sig .tc := ⟨.hbm, 705, rfl⟩
abbrev main_cst_87 : Ref sig .tc := ⟨.hbm, 706, rfl⟩
abbrev main_v560 : Ref sig .tc := ⟨.hbm, 707, rfl⟩
abbrev main_v561 : Ref sig .tc := ⟨.hbm, 708, rfl⟩
abbrev main_v562 : Ref sig .tc := ⟨.hbm, 709, rfl⟩
abbrev main_call22_cst : Ref sig .tc := ⟨.hbm, 710, rfl⟩
abbrev main_call22_v0 : Ref sig .tc := ⟨.hbm, 711, rfl⟩
abbrev main_v563 : Ref sig .tc := ⟨.hbm, 712, rfl⟩
abbrev main_v564 : Ref sig .tc := ⟨.hbm, 713, rfl⟩
abbrev main_v565 : Ref sig .tc := ⟨.hbm, 714, rfl⟩
abbrev main_v566 : Ref sig .tc := ⟨.hbm, 715, rfl⟩
abbrev main_v567 : Ref sig .tc := ⟨.hbm, 716, rfl⟩
abbrev main_v568 : Ref sig .tc := ⟨.hbm, 717, rfl⟩
abbrev main_call23_cst : Ref sig .tc := ⟨.hbm, 718, rfl⟩
abbrev main_call23_v0 : Ref sig .tc := ⟨.hbm, 719, rfl⟩
abbrev main_v569 : Ref sig .tc := ⟨.hbm, 720, rfl⟩
abbrev main_v570 : Ref sig .tc := ⟨.hbm, 721, rfl⟩
abbrev main_v571 : Ref sig .tc := ⟨.hbm, 722, rfl⟩
abbrev main_v572 : Ref sig .tc := ⟨.hbm, 723, rfl⟩
abbrev main_v573 : Ref sig .tc := ⟨.hbm, 724, rfl⟩
abbrev main_v574 : Ref sig .tc := ⟨.hbm, 725, rfl⟩
abbrev main_v575 : Ref sig .tc := ⟨.hbm, 726, rfl⟩
abbrev main_v576 : Ref sig .tc := ⟨.hbm, 727, rfl⟩

abbrev nD : Nat := 1
abbrev τ : Topo := Topo.v7x

variable {F : FTy → Type} [FloatOps F]
-- ==== AttnSumKernel.lean ====
abbrev S4096 : Shape := ⟨1, ![4096]⟩
abbrev S4096x512 : Shape := ⟨2, ![4096, 512]⟩
abbrev S1024x2048 : Shape := ⟨2, ![1024, 2048]⟩
abbrev S256x8192 : Shape := ⟨2, ![256, 8192]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x8x64 : Shape := ⟨4, ![1, 4096, 8, 64]⟩
abbrev S4096x2048 : Shape := ⟨2, ![4096, 2048]⟩
abbrev S256x512 : Shape := ⟨2, ![256, 512]⟩
abbrev S64x2048 : Shape := ⟨2, ![64, 2048]⟩
abbrev S16x8192 : Shape := ⟨2, ![16, 8192]⟩
abbrev S256x2048 : Shape := ⟨2, ![256, 2048]⟩
abbrev S4x256x128 : Shape := ⟨3, ![4, 256, 128]⟩
abbrev S128x512 : Shape := ⟨2, ![128, 512]⟩
abbrev S64x128 : Shape := ⟨2, ![64, 128]⟩
abbrev S1x256x128 : Shape := ⟨3, ![1, 256, 128]⟩
abbrev S256x128 : Shape := ⟨2, ![256, 128]⟩
abbrev S16x128 : Shape := ⟨2, ![16, 128]⟩

abbrev nBuf : Space → Nat
  | .hbm => 69
  | .vmem => 45
  | .smem => 0
  | _ => 0

abbrev bufTy : (tb : Table) → Fin (tcTables nBuf tb) → BufTy
  | .hbm, ⟨0, _⟩ => ⟨S4096, .i32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .hbm, ⟨11, _⟩ => ⟨S1024x2048, .f32⟩
  | .hbm, ⟨12, _⟩ => ⟨S256x8192, .f32⟩
  | .hbm, ⟨13, _⟩ => ⟨S256x8192, .f32⟩
  | .hbm, ⟨14, _⟩ => ⟨S256x8192, .f32⟩
  | .hbm, ⟨15, _⟩ => ⟨S256x8192, .f32⟩
  | .hbm, ⟨16, _⟩ => ⟨S256x8192, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S4096, .f32⟩
  | .hbm, ⟨26, _⟩ => ⟨S4096x1, .f32⟩
  | .hbm, ⟨27, _⟩ => ⟨S1x8, .f32⟩
  | .hbm, ⟨28, _⟩ => ⟨S4096x8, .f32⟩
  | .hbm, ⟨29, _⟩ => ⟨S4096x8, .f32⟩
  | .hbm, ⟨30, _⟩ => ⟨S4096x8, .f32⟩
  | .hbm, ⟨31, _⟩ => ⟨S4096x8, .f32⟩
  | .hbm, ⟨32, _⟩ => ⟨S4096x8, .f32⟩
  | .hbm, ⟨33, _⟩ => ⟨S_, .f32⟩
  | .hbm, ⟨34, _⟩ => ⟨S4096x48, .f32⟩
  | .hbm, ⟨35, _⟩ => ⟨S_, .f32⟩
  | .hbm, ⟨36, _⟩ => ⟨S4096x8, .f32⟩
  | .hbm, ⟨37, _⟩ => ⟨S_, .f32⟩
  | .hbm, ⟨38, _⟩ => ⟨S4096x48, .f32⟩
  | .hbm, ⟨39, _⟩ => ⟨S4096x64, .f32⟩
  | .hbm, ⟨40, _⟩ => ⟨S4096x64, .f32⟩
  | .hbm, ⟨41, _⟩ => ⟨S4096x8, .f32⟩
  | .hbm, ⟨42, _⟩ => ⟨S4096x64, .f32⟩
  | .hbm, ⟨43, _⟩ => ⟨S1x4096x1x64, .f32⟩
  | .hbm, ⟨44, _⟩ => ⟨S1x4096x8x64, .f32⟩
  | .hbm, ⟨45, _⟩ => ⟨S4096x512, .f32⟩
  | .hbm, ⟨46, _⟩ => ⟨S1x4096x1x64, .f32⟩
  | .hbm, ⟨47, _⟩ => ⟨S1x4096x8x64, .f32⟩
  | .hbm, ⟨48, _⟩ => ⟨S4096x512, .f32⟩
  | .hbm, ⟨49, _⟩ => ⟨S1x4096x1x64, .f32⟩
  | .hbm, ⟨50, _⟩ => ⟨S1x4096x8x64, .f32⟩
  | .hbm, ⟨51, _⟩ => ⟨S4096x512, .f32⟩
  | .hbm, ⟨52, _⟩ => ⟨S4096x512, .bf16⟩
  | .hbm, ⟨53, _⟩ => ⟨S4096x512, .bf16⟩
  | .hbm, ⟨54, _⟩ => ⟨S4096x512, .bf16⟩
  | .hbm, ⟨55, _⟩ => ⟨S4096x512, .bf16⟩
  | .hbm, ⟨56, _⟩ => ⟨S4096x512, .bf16⟩
  | .hbm, ⟨57, _⟩ => ⟨S4096x512, .bf16⟩
  | .hbm, ⟨58, _⟩ => ⟨S1024x2048, .bf16⟩
  | .hbm, ⟨59, _⟩ => ⟨S1024x2048, .bf16⟩
  | .hbm, ⟨60, _⟩ => ⟨S1024x2048, .bf16⟩
  | .hbm, ⟨61, _⟩ => ⟨S1024x2048, .bf16⟩
  | .hbm, ⟨62, _⟩ => ⟨S1024x2048, .bf16⟩
  | .hbm, ⟨63, _⟩ => ⟨S256x8192, .bf16⟩
  | .hbm, ⟨64, _⟩ => ⟨S256x8192, .bf16⟩
  | .hbm, ⟨65, _⟩ => ⟨S256x8192, .bf16⟩
  | .hbm, ⟨66, _⟩ => ⟨S256x8192, .bf16⟩
  | .hbm, ⟨67, _⟩ => ⟨S256x8192, .bf16⟩
  | .hbm, ⟨68, _⟩ => ⟨S4096x2048, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S64x2048, .bf16⟩
  | .local _ .vmem, ⟨15, _⟩ => ⟨S64x2048, .bf16⟩
  | .local _ .vmem, ⟨16, _⟩ => ⟨S64x2048, .bf16⟩
  | .local _ .vmem, ⟨17, _⟩ => ⟨S64x2048, .bf16⟩
  | .local _ .vmem, ⟨18, _⟩ => ⟨S64x2048, .bf16⟩
  | .local _ .vmem, ⟨19, _⟩ => ⟨S64x2048, .bf16⟩
  | .local _ .vmem, ⟨20, _⟩ => ⟨S64x2048, .bf16⟩
  | .local _ .vmem, ⟨21, _⟩ => ⟨S64x2048, .bf16⟩
  | .local _ .vmem, ⟨22, _⟩ => ⟨S64x2048, .bf16⟩
  | .local _ .vmem, ⟨23, _⟩ => ⟨S64x2048, .bf16⟩
  | .local _ .vmem, ⟨24, _⟩ => ⟨S16x8192, .bf16⟩
  | .local _ .vmem, ⟨25, _⟩ => ⟨S16x8192, .bf16⟩
  | .local _ .vmem, ⟨26, _⟩ => ⟨S16x8192, .bf16⟩
  | .local _ .vmem, ⟨27, _⟩ => ⟨S16x8192, .bf16⟩
  | .local _ .vmem, ⟨28, _⟩ => ⟨S16x8192, .bf16⟩
  | .local _ .vmem, ⟨29, _⟩ => ⟨S16x8192, .bf16⟩
  | .local _ .vmem, ⟨30, _⟩ => ⟨S16x8192, .bf16⟩
  | .local _ .vmem, ⟨31, _⟩ => ⟨S16x8192, .bf16⟩
  | .local _ .vmem, ⟨32, _⟩ => ⟨S16x8192, .bf16⟩
  | .local _ .vmem, ⟨33, _⟩ => ⟨S16x8192, .bf16⟩
  | .local _ .vmem, ⟨34, _⟩ => ⟨S256x512, .f32⟩
  | .local _ .vmem, ⟨35, _⟩ => ⟨S256x512, .f32⟩
  | .local _ .vmem, ⟨36, _⟩ => ⟨S256x512, .f32⟩
  | .local _ .vmem, ⟨37, _⟩ => ⟨S256x512, .f32⟩
  | .local _ .vmem, ⟨38, _⟩ => ⟨S256x512, .f32⟩
  | .local _ .vmem, ⟨39, _⟩ => ⟨S256x512, .f32⟩
  | .local _ .vmem, ⟨40, _⟩ => ⟨S256x512, .bf16⟩
  | .local _ .vmem, ⟨41, _⟩ => ⟨S256x512, .bf16⟩
  | .local _ .vmem, ⟨42, _⟩ => ⟨S256x2048, .bf16⟩
  | .local _ .vmem, ⟨43, _⟩ => ⟨S256x2048, .bf16⟩
  | .local _ .vmem, ⟨44, _⟩ => ⟨S4x256x128, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_scratch0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c2_i32 : BitVec 32 := 2#32
  let v0 : BitVec 32 := Scalar.addi arg0 c2_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c2_i32 : BitVec 32 := 2#32
  let v0 : BitVec 32 := Scalar.addi arg0 c2_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c8_i32 : BitVec 32 := 8#32
  let v0 : BitVec 32 := Scalar.addi arg0 c8_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c8_i32 : BitVec 32 := 8#32
  let v0 : BitVec 32 := Scalar.addi arg0 c8_i32
  let c15_i32 : BitVec 32 := 15#32
  let v1 : BitVec 32 := Scalar.minsi v0 c15_i32
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x8192 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x8192 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x8192 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x8192 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x8192 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== AttnSumReferenceIdeal.lean ====
abbrev S4096 : Shape := ⟨1, ![4096]⟩
abbrev S4096x512 : Shape := ⟨2, ![4096, 512]⟩
abbrev S1024x2048 : Shape := ⟨2, ![1024, 2048]⟩
abbrev S256x8192 : Shape := ⟨2, ![256, 8192]⟩
abbrev S1x4096x1x8x64 : Shape := ⟨5, ![1, 4096, 1, 8, 64]⟩
abbrev S1x1x4096x8x64 : Shape := ⟨5, ![1, 1, 4096, 8, 64]⟩
abbrev S1x32x128x8x64 : Shape := ⟨5, ![1, 32, 128, 8, 64]⟩
abbrev S1x1x128x8x64 : Shape := ⟨5, ![1, 1, 128, 8, 64]⟩
abbrev S_ : Shape := ⟨0, ![]⟩
abbrev S1x31x128x8x64 : Shape := ⟨5, ![1, 31, 128, 8, 64]⟩
abbrev S1x1024x4x8x64 : Shape := ⟨5, ![1, 1024, 4, 8, 64]⟩
abbrev S1x4x1024x8x64 : Shape := ⟨5, ![1, 4, 1024, 8, 64]⟩
abbrev S4x8x128x8x64 : Shape := ⟨5, ![4, 8, 128, 8, 64]⟩
abbrev S4x1x128x8x64 : Shape := ⟨5, ![4, 1, 128, 8, 64]⟩
abbrev S4x7x128x8x64 : Shape := ⟨5, ![4, 7, 128, 8, 64]⟩
abbrev S1x256x16x8x64 : Shape := ⟨5, ![1, 256, 16, 8, 64]⟩
abbrev S1x16x256x8x64 : Shape := ⟨5, ![1, 16, 256, 8, 64]⟩
abbrev S16x2x128x8x64 : Shape := ⟨5, ![16, 2, 128, 8, 64]⟩
abbrev S16x1x128x8x64 : Shape := ⟨5, ![16, 1, 128, 8, 64]⟩
abbrev S4096x2048 : Shape := ⟨2, ![4096, 2048]⟩
abbrev S1x4096x512 : Shape := ⟨3, ![1, 4096, 512]⟩
abbrev S1x4096x8x64 : Shape := ⟨4, ![1, 4096, 8, 64]⟩
abbrev S8 : Shape := ⟨1, ![8]⟩
abbrev S1x4096x1x1 : Shape := ⟨4, ![1, 4096, 1, 1]⟩
abbrev S1x1x1x8 : Shape := ⟨4, ![1, 1, 1, 8]⟩
abbrev S1x4096x1x8 : Shape := ⟨4, ![1, 4096, 1, 8]⟩
abbrev S1x4096x8x8 : Shape := ⟨4, ![1, 4096, 8, 8]⟩
abbrev S1x4096x8x48 : Shape := ⟨4, ![1, 4096, 8, 48]⟩

abbrev nBuf : Space → Nat
  | .hbm => 422
  | .vmem => 0
  | .smem => 0
  | _ => 0

abbrev hbmTy0_0 (i : Nat) : BufTy := match i % 128 with
  | 0 => ⟨S4096, .i32⟩
  | 1 => ⟨S4096x512, .f32⟩
  | 2 => ⟨S4096x512, .f32⟩
  | 3 => ⟨S4096x512, .f32⟩
  | 4 => ⟨S4096x512, .f32⟩
  | 5 => ⟨S4096x512, .f32⟩
  | 6 => ⟨S4096x512, .f32⟩
  | 7 => ⟨S1024x2048, .f32⟩
  | 8 => ⟨S1024x2048, .f32⟩
  | 9 => ⟨S1024x2048, .f32⟩
  | 10 => ⟨S1024x2048, .f32⟩
  | 11 => ⟨S1024x2048, .f32⟩
  | 12 => ⟨S256x8192, .f32⟩
  | 13 => ⟨S256x8192, .f32⟩
  | 14 => ⟨S256x8192, .f32⟩
  | 15 => ⟨S256x8192, .f32⟩
  | 16 => ⟨S256x8192, .f32⟩
  | 17 => ⟨S1x4096x1x8x64, .f32⟩
  | 18 => ⟨S1x1x4096x8x64, .f32⟩
  | 19 => ⟨S1x32x128x8x64, .f32⟩
  | 20 => ⟨S1x1x128x8x64, .f32⟩
  | 21 => ⟨S_, .f32⟩
  | 22 => ⟨S1x1x128x8x64, .f32⟩
  | 23 => ⟨S1x31x128x8x64, .f32⟩
  | 24 => ⟨S1x32x128x8x64, .f32⟩
  | 25 => ⟨S1x4096x1x8x64, .f32⟩
  | 26 => ⟨S1x1x4096x8x64, .f32⟩
  | 27 => ⟨S1x32x128x8x64, .f32⟩
  | 28 => ⟨S1x1x128x8x64, .f32⟩
  | 29 => ⟨S_, .f32⟩
  | 30 => ⟨S1x1x128x8x64, .f32⟩
  | 31 => ⟨S1x31x128x8x64, .f32⟩
  | 32 => ⟨S1x32x128x8x64, .f32⟩
  | 33 => ⟨S1x4096x1x8x64, .f32⟩
  | 34 => ⟨S1x1x4096x8x64, .f32⟩
  | 35 => ⟨S1x32x128x8x64, .f32⟩
  | 36 => ⟨S1x1x128x8x64, .f32⟩
  | 37 => ⟨S_, .f32⟩
  | 38 => ⟨S1x1x128x8x64, .f32⟩
  | 39 => ⟨S1x31x128x8x64, .f32⟩
  | 40 => ⟨S1x32x128x8x64, .f32⟩
  | 41 => ⟨S1x4096x1x8x64, .f32⟩
  | 42 => ⟨S1x1x4096x8x64, .f32⟩
  | 43 => ⟨S1x32x128x8x64, .f32⟩
  | 44 => ⟨S1x1x128x8x64, .f32⟩
  | 45 => ⟨S_, .f32⟩
  | 46 => ⟨S1x1x128x8x64, .f32⟩
  | 47 => ⟨S1x31x128x8x64, .f32⟩
  | 48 => ⟨S1x32x128x8x64, .f32⟩
  | 49 => ⟨S1x4096x1x8x64, .f32⟩
  | 50 => ⟨S1x1x4096x8x64, .f32⟩
  | 51 => ⟨S1x32x128x8x64, .f32⟩
  | 52 => ⟨S1x1x128x8x64, .f32⟩
  | 53 => ⟨S_, .f32⟩
  | 54 => ⟨S1x1x128x8x64, .f32⟩
  | 55 => ⟨S1x31x128x8x64, .f32⟩
  | 56 => ⟨S1x32x128x8x64, .f32⟩
  | 57 => ⟨S1x1024x4x8x64, .f32⟩
  | 58 => ⟨S1x4x1024x8x64, .f32⟩
  | 59 => ⟨S4x8x128x8x64, .f32⟩
  | 60 => ⟨S4x1x128x8x64, .f32⟩
  | 61 => ⟨S_, .f32⟩
  | 62 => ⟨S4x1x128x8x64, .f32⟩
  | 63 => ⟨S4x7x128x8x64, .f32⟩
  | 64 => ⟨S4x8x128x8x64, .f32⟩
  | 65 => ⟨S1x1024x4x8x64, .f32⟩
  | 66 => ⟨S1x4x1024x8x64, .f32⟩
  | 67 => ⟨S4x8x128x8x64, .f32⟩
  | 68 => ⟨S4x1x128x8x64, .f32⟩
  | 69 => ⟨S_, .f32⟩
  | 70 => ⟨S4x1x128x8x64, .f32⟩
  | 71 => ⟨S4x7x128x8x64, .f32⟩
  | 72 => ⟨S4x8x128x8x64, .f32⟩
  | 73 => ⟨S1x1024x4x8x64, .f32⟩
  | 74 => ⟨S1x4x1024x8x64, .f32⟩
  | 75 => ⟨S4x8x128x8x64, .f32⟩
  | 76 => ⟨S4x1x128x8x64, .f32⟩
  | 77 => ⟨S_, .f32⟩
  | 78 => ⟨S4x1x128x8x64, .f32⟩
  | 79 => ⟨S4x7x128x8x64, .f32⟩
  | 80 => ⟨S4x8x128x8x64, .f32⟩
  | 81 => ⟨S1x1024x4x8x64, .f32⟩
  | 82 => ⟨S1x4x1024x8x64, .f32⟩
  | 83 => ⟨S4x8x128x8x64, .f32⟩
  | 84 => ⟨S4x1x128x8x64, .f32⟩
  | 85 => ⟨S_, .f32⟩
  | 86 => ⟨S4x1x128x8x64, .f32⟩
  | 87 => ⟨S4x7x128x8x64, .f32⟩
  | 88 => ⟨S4x8x128x8x64, .f32⟩
  | 89 => ⟨S1x1024x4x8x64, .f32⟩
  | 90 => ⟨S1x4x1024x8x64, .f32⟩
  | 91 => ⟨S4x8x128x8x64, .f32⟩
  | 92 => ⟨S4x1x128x8x64, .f32⟩
  | 93 => ⟨S_, .f32⟩
  | 94 => ⟨S4x1x128x8x64, .f32⟩
  | 95 => ⟨S4x7x128x8x64, .f32⟩
  | 96 => ⟨S4x8x128x8x64, .f32⟩
  | 97 => ⟨S1x256x16x8x64, .f32⟩
  | 98 => ⟨S1x16x256x8x64, .f32⟩
  | 99 => ⟨S16x2x128x8x64, .f32⟩
  | 100 => ⟨S16x1x128x8x64, .f32⟩
  | 101 => ⟨S_, .f32⟩
  | 102 => ⟨S16x1x128x8x64, .f32⟩
  | 103 => ⟨S16x1x128x8x64, .f32⟩
  | 104 => ⟨S16x2x128x8x64, .f32⟩
  | 105 => ⟨S1x256x16x8x64, .f32⟩
  | 106 => ⟨S1x16x256x8x64, .f32⟩
  | 107 => ⟨S16x2x128x8x64, .f32⟩
  | 108 => ⟨S16x1x128x8x64, .f32⟩
  | 109 => ⟨S_, .f32⟩
  | 110 => ⟨S16x1x128x8x64, .f32⟩
  | 111 => ⟨S16x1x128x8x64, .f32⟩
  | 112 => ⟨S16x2x128x8x64, .f32⟩
  | 113 => ⟨S1x256x16x8x64, .f32⟩
  | 114 => ⟨S1x16x256x8x64, .f32⟩
  | 115 => ⟨S16x2x128x8x64, .f32⟩
  | 116 => ⟨S16x1x128x8x64, .f32⟩
  | 117 => ⟨S_, .f32⟩
  | 118 => ⟨S16x1x128x8x64, .f32⟩
  | 119 => ⟨S16x1x128x8x64, .f32⟩
  | 120 => ⟨S16x2x128x8x64, .f32⟩
  | 121 => ⟨S1x256x16x8x64, .f32⟩
  | 122 => ⟨S1x16x256x8x64, .f32⟩
  | 123 => ⟨S16x2x128x8x64, .f32⟩
  | 124 => ⟨S16x1x128x8x64, .f32⟩
  | 125 => ⟨S_, .f32⟩
  | 126 => ⟨S16x1x128x8x64, .f32⟩
  | 127 => ⟨S16x1x128x8x64, .f32⟩
  | _ => ⟨S4096, .i32⟩

abbrev hbmTy0_1 (i : Nat) : BufTy := match i % 128 with
  | 0 => ⟨S16x2x128x8x64, .f32⟩
  | 1 => ⟨S1x256x16x8x64, .f32⟩
  | 2 => ⟨S1x16x256x8x64, .f32⟩
  | 3 => ⟨S16x2x128x8x64, .f32⟩
  | 4 => ⟨S16x1x128x8x64, .f32⟩
  | 5 => ⟨S_, .f32⟩
  | 6 => ⟨S16x1x128x8x64, .f32⟩
  | 7 => ⟨S16x1x128x8x64, .f32⟩
  | 8 => ⟨S16x2x128x8x64, .f32⟩
  | 9 => ⟨S_, .f32⟩
  | 10 => ⟨S4096x2048, .f32⟩
  | 11 => ⟨S4096x512, .f32⟩
  | 12 => ⟨S4096x512, .f32⟩
  | 13 => ⟨S4096x512, .f32⟩
  | 14 => ⟨S4096x512, .f32⟩
  | 15 => ⟨S1x4096x512, .f32⟩
  | 16 => ⟨S1x4096x512, .f32⟩
  | 17 => ⟨S1x4096x512, .f32⟩
  | 18 => ⟨S1x4096x512, .f32⟩
  | 19 => ⟨S1x4096x8x64, .f32⟩
  | 20 => ⟨S8, .f32⟩
  | 21 => ⟨S8, .f32⟩
  | 22 => ⟨S_, .f32⟩
  | 23 => ⟨S8, .f32⟩
  | 24 => ⟨S8, .f32⟩
  | 25 => ⟨S_, .f32⟩
  | 26 => ⟨S8, .f32⟩
  | 27 => ⟨S8, .f32⟩
  | 28 => ⟨S4096, .f32⟩
  | 29 => ⟨S1x4096x1x1, .f32⟩
  | 30 => ⟨S1x1x1x8, .f32⟩
  | 31 => ⟨S1x4096x1x8, .f32⟩
  | 32 => ⟨S1x4096x1x8, .f32⟩
  | 33 => ⟨S1x4096x1x8, .f32⟩
  | 34 => ⟨S1x4096x1x8, .f32⟩
  | 35 => ⟨S1x4096x1x8, .f32⟩
  | 36 => ⟨S1x4096x8x8, .f32⟩
  | 37 => ⟨S1x4096x8x8, .f32⟩
  | 38 => ⟨S1x4096x8x48, .f32⟩
  | 39 => ⟨S1x4096x8x8, .f32⟩
  | 40 => ⟨S1x4096x8x8, .f32⟩
  | 41 => ⟨S1x4096x8x8, .f32⟩
  | 42 => ⟨S1x4096x8x8, .f32⟩
  | 43 => ⟨S1x4096x8x8, .f32⟩
  | 44 => ⟨S1x4096x8x8, .f32⟩
  | 45 => ⟨S1x4096x8x8, .f32⟩
  | 46 => ⟨S1x4096x8x8, .f32⟩
  | 47 => ⟨S1x4096x8x8, .f32⟩
  | 48 => ⟨S1x4096x8x8, .f32⟩
  | 49 => ⟨S1x4096x8x64, .f32⟩
  | 50 => ⟨S1x4096x8x64, .f32⟩
  | 51 => ⟨S8, .f32⟩
  | 52 => ⟨S8, .f32⟩
  | 53 => ⟨S_, .f32⟩
  | 54 => ⟨S8, .f32⟩
  | 55 => ⟨S8, .f32⟩
  | 56 => ⟨S_, .f32⟩
  | 57 => ⟨S8, .f32⟩
  | 58 => ⟨S8, .f32⟩
  | 59 => ⟨S4096, .f32⟩
  | 60 => ⟨S1x4096x1x1, .f32⟩
  | 61 => ⟨S1x1x1x8, .f32⟩
  | 62 => ⟨S1x4096x1x8, .f32⟩
  | 63 => ⟨S1x4096x1x8, .f32⟩
  | 64 => ⟨S1x4096x1x8, .f32⟩
  | 65 => ⟨S1x4096x1x8, .f32⟩
  | 66 => ⟨S1x4096x1x8, .f32⟩
  | 67 => ⟨S1x4096x8x8, .f32⟩
  | 68 => ⟨S1x4096x8x8, .f32⟩
  | 69 => ⟨S1x4096x8x48, .f32⟩
  | 70 => ⟨S1x4096x8x8, .f32⟩
  | 71 => ⟨S1x4096x8x8, .f32⟩
  | 72 => ⟨S1x4096x8x8, .f32⟩
  | 73 => ⟨S1x4096x8x8, .f32⟩
  | 74 => ⟨S1x4096x8x8, .f32⟩
  | 75 => ⟨S1x4096x8x8, .f32⟩
  | 76 => ⟨S1x4096x8x8, .f32⟩
  | 77 => ⟨S1x4096x8x8, .f32⟩
  | 78 => ⟨S1x4096x8x8, .f32⟩
  | 79 => ⟨S1x4096x8x8, .f32⟩
  | 80 => ⟨S1x4096x8x64, .f32⟩
  | 81 => ⟨S1x4096x8x64, .f32⟩
  | 82 => ⟨S1x4096x1x8x64, .f32⟩
  | 83 => ⟨S1x1x4096x8x64, .f32⟩
  | 84 => ⟨S1x32x128x8x64, .f32⟩
  | 85 => ⟨S1x1x128x8x64, .f32⟩
  | 86 => ⟨S_, .f32⟩
  | 87 => ⟨S1x1x128x8x64, .f32⟩
  | 88 => ⟨S1x31x128x8x64, .f32⟩
  | 89 => ⟨S1x32x128x8x64, .f32⟩
  | 90 => ⟨S_, .f32⟩
  | 91 => ⟨S1x1x128x8x64, .f32⟩
  | 92 => ⟨S1x4096x1x8x64, .f32⟩
  | 93 => ⟨S1x1x4096x8x64, .f32⟩
  | 94 => ⟨S1x32x128x8x64, .f32⟩
  | 95 => ⟨S1x1x128x8x64, .f32⟩
  | 96 => ⟨S_, .f32⟩
  | 97 => ⟨S1x1x128x8x64, .f32⟩
  | 98 => ⟨S1x31x128x8x64, .f32⟩
  | 99 => ⟨S1x32x128x8x64, .f32⟩
  | 100 => ⟨S_, .f32⟩
  | 101 => ⟨S1x1x128x8x64, .f32⟩
  | 102 => ⟨S1x4096x1x8x64, .f32⟩
  | 103 => ⟨S1x1x4096x8x64, .f32⟩
  | 104 => ⟨S1x32x128x8x64, .f32⟩
  | 105 => ⟨S1x1x128x8x64, .f32⟩
  | 106 => ⟨S_, .f32⟩
  | 107 => ⟨S1x1x128x8x64, .f32⟩
  | 108 => ⟨S1x31x128x8x64, .f32⟩
  | 109 => ⟨S1x32x128x8x64, .f32⟩
  | 110 => ⟨S_, .f32⟩
  | 111 => ⟨S1x1x128x8x64, .f32⟩
  | 112 => ⟨S1x1024x4x8x64, .f32⟩
  | 113 => ⟨S1x4x1024x8x64, .f32⟩
  | 114 => ⟨S4x8x128x8x64, .f32⟩
  | 115 => ⟨S4x1x128x8x64, .f32⟩
  | 116 => ⟨S_, .f32⟩
  | 117 => ⟨S4x1x128x8x64, .f32⟩
  | 118 => ⟨S4x7x128x8x64, .f32⟩
  | 119 => ⟨S4x8x128x8x64, .f32⟩
  | 120 => ⟨S_, .f32⟩
  | 121 => ⟨S4x1x128x8x64, .f32⟩
  | 122 => ⟨S1x1024x4x8x64, .f32⟩
  | 123 => ⟨S1x4x1024x8x64, .f32⟩
  | 124 => ⟨S4x8x128x8x64, .f32⟩
  | 125 => ⟨S4x1x128x8x64, .f32⟩
  | 126 => ⟨S_, .f32⟩
  | 127 => ⟨S4x1x128x8x64, .f32⟩
  | _ => ⟨S4096, .i32⟩

abbrev hbmTy0_2 (i : Nat) : BufTy := match i % 128 with
  | 0 => ⟨S4x7x128x8x64, .f32⟩
  | 1 => ⟨S4x8x128x8x64, .f32⟩
  | 2 => ⟨S_, .f32⟩
  | 3 => ⟨S4x1x128x8x64, .f32⟩
  | 4 => ⟨S1x1024x4x8x64, .f32⟩
  | 5 => ⟨S1x4x1024x8x64, .f32⟩
  | 6 => ⟨S4x8x128x8x64, .f32⟩
  | 7 => ⟨S4x1x128x8x64, .f32⟩
  | 8 => ⟨S_, .f32⟩
  | 9 => ⟨S4x1x128x8x64, .f32⟩
  | 10 => ⟨S4x7x128x8x64, .f32⟩
  | 11 => ⟨S4x8x128x8x64, .f32⟩
  | 12 => ⟨S_, .f32⟩
  | 13 => ⟨S4x1x128x8x64, .f32⟩
  | 14 => ⟨S1x256x16x8x64, .f32⟩
  | 15 => ⟨S1x16x256x8x64, .f32⟩
  | 16 => ⟨S16x2x128x8x64, .f32⟩
  | 17 => ⟨S16x1x128x8x64, .f32⟩
  | 18 => ⟨S_, .f32⟩
  | 19 => ⟨S16x1x128x8x64, .f32⟩
  | 20 => ⟨S16x1x128x8x64, .f32⟩
  | 21 => ⟨S16x2x128x8x64, .f32⟩
  | 22 => ⟨S_, .f32⟩
  | 23 => ⟨S16x1x128x8x64, .f32⟩
  | 24 => ⟨S1x256x16x8x64, .f32⟩
  | 25 => ⟨S1x16x256x8x64, .f32⟩
  | 26 => ⟨S16x2x128x8x64, .f32⟩
  | 27 => ⟨S16x1x128x8x64, .f32⟩
  | 28 => ⟨S_, .f32⟩
  | 29 => ⟨S16x1x128x8x64, .f32⟩
  | 30 => ⟨S16x1x128x8x64, .f32⟩
  | 31 => ⟨S16x2x128x8x64, .f32⟩
  | 32 => ⟨S_, .f32⟩
  | 33 => ⟨S16x1x128x8x64, .f32⟩
  | 34 => ⟨S1x256x16x8x64, .f32⟩
  | 35 => ⟨S1x16x256x8x64, .f32⟩
  | 36 => ⟨S16x2x128x8x64, .f32⟩
  | 37 => ⟨S16x1x128x8x64, .f32⟩
  | 38 => ⟨S_, .f32⟩
  | 39 => ⟨S16x1x128x8x64, .f32⟩
  | 40 => ⟨S16x1x128x8x64, .f32⟩
  | 41 => ⟨S16x2x128x8x64, .f32⟩
  | 42 => ⟨S_, .f32⟩
  | 43 => ⟨S16x1x128x8x64, .f32⟩
  | 44 => ⟨S4096x512, .f32⟩
  | 45 => ⟨S1x4096x512, .f32⟩
  | 46 => ⟨S16x1x128x8x64, .f32⟩
  | 47 => ⟨S16x1x128x8x64, .f32⟩
  | 48 => ⟨S_, .f32⟩
  | 49 => ⟨S16x2x128x8x64, .f32⟩
  | 50 => ⟨S16x2x128x8x64, .f32⟩
  | 51 => ⟨S1x16x256x8x64, .f32⟩
  | 52 => ⟨S1x256x16x8x64, .f32⟩
  | 53 => ⟨S1x4096x8x64, .f32⟩
  | 54 => ⟨S16x1x128x8x64, .f32⟩
  | 55 => ⟨S16x1x128x8x64, .f32⟩
  | 56 => ⟨S_, .f32⟩
  | 57 => ⟨S16x2x128x8x64, .f32⟩
  | 58 => ⟨S16x2x128x8x64, .f32⟩
  | 59 => ⟨S1x16x256x8x64, .f32⟩
  | 60 => ⟨S1x256x16x8x64, .f32⟩
  | 61 => ⟨S1x4096x8x64, .f32⟩
  | 62 => ⟨S1x16x256x8x64, .f32⟩
  | 63 => ⟨S1x256x16x8x64, .f32⟩
  | 64 => ⟨S1x4096x8x64, .f32⟩
  | 65 => ⟨S4x1x128x8x64, .f32⟩
  | 66 => ⟨S4x7x128x8x64, .f32⟩
  | 67 => ⟨S_, .f32⟩
  | 68 => ⟨S4x8x128x8x64, .f32⟩
  | 69 => ⟨S4x8x128x8x64, .f32⟩
  | 70 => ⟨S1x4x1024x8x64, .f32⟩
  | 71 => ⟨S1x1024x4x8x64, .f32⟩
  | 72 => ⟨S1x4096x8x64, .f32⟩
  | 73 => ⟨S1x4096x8x64, .f32⟩
  | 74 => ⟨S4x1x128x8x64, .f32⟩
  | 75 => ⟨S4x7x128x8x64, .f32⟩
  | 76 => ⟨S_, .f32⟩
  | 77 => ⟨S4x8x128x8x64, .f32⟩
  | 78 => ⟨S4x8x128x8x64, .f32⟩
  | 79 => ⟨S1x4x1024x8x64, .f32⟩
  | 80 => ⟨S1x1024x4x8x64, .f32⟩
  | 81 => ⟨S1x4096x8x64, .f32⟩
  | 82 => ⟨S1x4096x8x64, .f32⟩
  | 83 => ⟨S1x4x1024x8x64, .f32⟩
  | 84 => ⟨S1x1024x4x8x64, .f32⟩
  | 85 => ⟨S1x4096x8x64, .f32⟩
  | 86 => ⟨S1x4096x8x64, .f32⟩
  | 87 => ⟨S1x1x128x8x64, .f32⟩
  | 88 => ⟨S1x31x128x8x64, .f32⟩
  | 89 => ⟨S_, .f32⟩
  | 90 => ⟨S1x32x128x8x64, .f32⟩
  | 91 => ⟨S1x32x128x8x64, .f32⟩
  | 92 => ⟨S1x1x4096x8x64, .f32⟩
  | 93 => ⟨S1x4096x1x8x64, .f32⟩
  | 94 => ⟨S1x4096x8x64, .f32⟩
  | 95 => ⟨S1x4096x8x64, .f32⟩
  | 96 => ⟨S1x1x128x8x64, .f32⟩
  | 97 => ⟨S1x31x128x8x64, .f32⟩
  | 98 => ⟨S_, .f32⟩
  | 99 => ⟨S1x32x128x8x64, .f32⟩
  | 100 => ⟨S1x32x128x8x64, .f32⟩
  | 101 => ⟨S1x1x4096x8x64, .f32⟩
  | 102 => ⟨S1x4096x1x8x64, .f32⟩
  | 103 => ⟨S1x4096x8x64, .f32⟩
  | 104 => ⟨S1x4096x8x64, .f32⟩
  | 105 => ⟨S1x1x4096x8x64, .f32⟩
  | 106 => ⟨S1x4096x1x8x64, .f32⟩
  | 107 => ⟨S1x4096x8x64, .f32⟩
  | 108 => ⟨S1x4096x8x64, .f32⟩
  | 109 => ⟨S1x4096x512, .f32⟩
  | 110 => ⟨S1x4096x8x8, .f32⟩
  | 111 => ⟨S1x4096x8x8, .f32⟩
  | 112 => ⟨S1x4096x8x48, .f32⟩
  | 113 => ⟨S1x4096x8x8, .f32⟩
  | 114 => ⟨S1x4096x8x8, .f32⟩
  | 115 => ⟨S1x4096x8x8, .f32⟩
  | 116 => ⟨S1x4096x8x8, .f32⟩
  | 117 => ⟨S1x4096x8x8, .f32⟩
  | 118 => ⟨S1x4096x8x8, .f32⟩
  | 119 => ⟨S1x4096x8x8, .f32⟩
  | 120 => ⟨S1x4096x8x8, .f32⟩
  | 121 => ⟨S1x4096x8x8, .f32⟩
  | 122 => ⟨S1x4096x8x8, .f32⟩
  | 123 => ⟨S1x4096x8x8, .f32⟩
  | 124 => ⟨S_, .f32⟩
  | 125 => ⟨S1x4096x8x64, .f32⟩
  | 126 => ⟨S_, .f32⟩
  | 127 => ⟨S1x4096x8x64, .f32⟩
  | _ => ⟨S4096, .i32⟩

abbrev hbmTy0_3 (i : Nat) : BufTy := match i % 128 with
  | 0 => ⟨S1x4096x8x64, .f32⟩
  | 1 => ⟨S_, .f32⟩
  | 2 => ⟨S1x4096x8x64, .f32⟩
  | 3 => ⟨S1x4096x8x64, .f32⟩
  | 4 => ⟨S1x4096x512, .f32⟩
  | 5 => ⟨S1x4096x8x8, .f32⟩
  | 6 => ⟨S1x4096x8x8, .f32⟩
  | 7 => ⟨S1x4096x8x48, .f32⟩
  | 8 => ⟨S1x4096x8x8, .f32⟩
  | 9 => ⟨S1x4096x8x8, .f32⟩
  | 10 => ⟨S1x4096x8x8, .f32⟩
  | 11 => ⟨S1x4096x8x8, .f32⟩
  | 12 => ⟨S1x4096x8x8, .f32⟩
  | 13 => ⟨S1x4096x8x8, .f32⟩
  | 14 => ⟨S1x4096x8x8, .f32⟩
  | 15 => ⟨S1x4096x8x8, .f32⟩
  | 16 => ⟨S1x4096x8x8, .f32⟩
  | 17 => ⟨S1x4096x8x8, .f32⟩
  | 18 => ⟨S1x4096x8x8, .f32⟩
  | 19 => ⟨S_, .f32⟩
  | 20 => ⟨S1x4096x8x64, .f32⟩
  | 21 => ⟨S_, .f32⟩
  | 22 => ⟨S1x4096x8x64, .f32⟩
  | 23 => ⟨S1x4096x8x64, .f32⟩
  | 24 => ⟨S_, .f32⟩
  | 25 => ⟨S1x4096x8x64, .f32⟩
  | 26 => ⟨S1x4096x8x64, .f32⟩
  | 27 => ⟨S1x4096x512, .f32⟩
  | 28 => ⟨S_, .f32⟩
  | 29 => ⟨S4096x512, .f32⟩
  | 30 => ⟨S_, .f32⟩
  | 31 => ⟨S4096x512, .f32⟩
  | 32 => ⟨S_, .f32⟩
  | 33 => ⟨S4096x512, .f32⟩
  | 34 => ⟨S_, .f32⟩
  | 35 => ⟨S4096x512, .f32⟩
  | 36 => ⟨S4096x2048, .f32⟩
  | 37 => ⟨S4096x2048, .bf16⟩
  | _ => ⟨S4096, .i32⟩

abbrev hbmTy (i : Nat) : BufTy := match i / 128 with
  | 0 => hbmTy0_0 i
  | 1 => hbmTy0_1 i
  | 2 => hbmTy0_2 i
  | 3 => hbmTy0_3 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_3 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_4 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_5 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_6 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_7 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_8 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_9 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_10 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_11 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_cst_12 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_13 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_14 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_15 : Ref sig .tc := ⟨.hbm, 150, rfl⟩
abbrev main_v117 : Ref sig .tc := ⟨.hbm, 151, rfl⟩
abbrev main_v118 : Ref sig .tc := ⟨.hbm, 152, rfl⟩
abbrev main_cst_16 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_cst_17 : Ref sig .tc := ⟨.hbm, 181, rfl⟩
abbrev main_v146 : Ref sig .tc := ⟨.hbm, 182, rfl⟩
abbrev main_v147 : Ref sig .tc := ⟨.hbm, 183, rfl⟩
abbrev main_cst_18 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_cst_19 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_cst_20 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_cst_21 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_cst_22 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_v192 : Ref sig .tc := ⟨.hbm, 233, rfl⟩
abbrev main_cst_23 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_cst_24 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_cst_25 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_cst_26 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_cst_27 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_cst_28 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_cst_29 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_cst_30 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_cst_31 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_cst_32 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_cst_33 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_cst_34 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_cst_35 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_cst_36 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_cst_37 : Ref sig .tc := ⟨.hbm, 304, rfl⟩
abbrev main_v249 : Ref sig .tc := ⟨.hbm, 305, rfl⟩
abbrev main_v250 : Ref sig .tc := ⟨.hbm, 306, rfl⟩
abbrev main_v251 : Ref sig .tc := ⟨.hbm, 307, rfl⟩
abbrev main_v252 : Ref sig .tc := ⟨.hbm, 308, rfl⟩
abbrev main_v253 : Ref sig .tc := ⟨.hbm, 309, rfl⟩
abbrev main_v254 : Ref sig .tc := ⟨.hbm, 310, rfl⟩
abbrev main_v255 : Ref sig .tc := ⟨.hbm, 311, rfl⟩
abbrev main_cst_38 : Ref sig .tc := ⟨.hbm, 312, rfl⟩
abbrev main_v256 : Ref sig .tc := ⟨.hbm, 313, rfl⟩
abbrev main_v257 : Ref sig .tc := ⟨.hbm, 314, rfl⟩
abbrev main_v258 : Ref sig .tc := ⟨.hbm, 315, rfl⟩
abbrev main_v259 : Ref sig .tc := ⟨.hbm, 316, rfl⟩
abbrev main_v260 : Ref sig .tc := ⟨.hbm, 317, rfl⟩
abbrev main_v261 : Ref sig .tc := ⟨.hbm, 318, rfl⟩
abbrev main_v262 : Ref sig .tc := ⟨.hbm, 319, rfl⟩
abbrev main_v263 : Ref sig .tc := ⟨.hbm, 320, rfl⟩
abbrev main_v264 : Ref sig .tc := ⟨.hbm, 321, rfl⟩
abbrev main_v265 : Ref sig .tc := ⟨.hbm, 322, rfl⟩
abbrev main_cst_39 : Ref sig .tc := ⟨.hbm, 323, rfl⟩
abbrev main_v266 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩
abbrev main_v272 : Ref sig .tc := ⟨.hbm, 330, rfl⟩
abbrev main_v273 : Ref sig .tc := ⟨.hbm, 331, rfl⟩
abbrev main_cst_40 : Ref sig .tc := ⟨.hbm, 332, rfl⟩
abbrev main_v274 : Ref sig .tc := ⟨.hbm, 333, rfl⟩
abbrev main_v275 : Ref sig .tc := ⟨.hbm, 334, rfl⟩
abbrev main_v276 : Ref sig .tc := ⟨.hbm, 335, rfl⟩
abbrev main_v277 : Ref sig .tc := ⟨.hbm, 336, rfl⟩
abbrev main_v278 : Ref sig .tc := ⟨.hbm, 337, rfl⟩
abbrev main_v279 : Ref sig .tc := ⟨.hbm, 338, rfl⟩
abbrev main_v280 : Ref sig .tc := ⟨.hbm, 339, rfl⟩
abbrev main_v281 : Ref sig .tc := ⟨.hbm, 340, rfl⟩
abbrev main_v282 : Ref sig .tc := ⟨.hbm, 341, rfl⟩
abbrev main_v283 : Ref sig .tc := ⟨.hbm, 342, rfl⟩
abbrev main_v284 : Ref sig .tc := ⟨.hbm, 343, rfl⟩
abbrev main_v285 : Ref sig .tc := ⟨.hbm, 344, rfl⟩
abbrev main_cst_41 : Ref sig .tc := ⟨.hbm, 345, rfl⟩
abbrev main_v286 : Ref sig .tc := ⟨.hbm, 346, rfl⟩
abbrev main_v287 : Ref sig .tc := ⟨.hbm, 347, rfl⟩
abbrev main_v288 : Ref sig .tc := ⟨.hbm, 348, rfl⟩
abbrev main_v289 : Ref sig .tc := ⟨.hbm, 349, rfl⟩
abbrev main_v290 : Ref sig .tc := ⟨.hbm, 350, rfl⟩
abbrev main_v291 : Ref sig .tc := ⟨.hbm, 351, rfl⟩
abbrev main_v292 : Ref sig .tc := ⟨.hbm, 352, rfl⟩
abbrev main_v293 : Ref sig .tc := ⟨.hbm, 353, rfl⟩
abbrev main_cst_42 : Ref sig .tc := ⟨.hbm, 354, rfl⟩
abbrev main_v294 : Ref sig .tc := ⟨.hbm, 355, rfl⟩
abbrev main_v295 : Ref sig .tc := ⟨.hbm, 356, rfl⟩
abbrev main_v296 : Ref sig .tc := ⟨.hbm, 357, rfl⟩
abbrev main_v297 : Ref sig .tc := ⟨.hbm, 358, rfl⟩
abbrev main_v298 : Ref sig .tc := ⟨.hbm, 359, rfl⟩
abbrev main_v299 : Ref sig .tc := ⟨.hbm, 360, rfl⟩
abbrev main_v300 : Ref sig .tc := ⟨.hbm, 361, rfl⟩
abbrev main_v301 : Ref sig .tc := ⟨.hbm, 362, rfl⟩
abbrev main_v302 : Ref sig .tc := ⟨.hbm, 363, rfl⟩
abbrev main_v303 : Ref sig .tc := ⟨.hbm, 364, rfl⟩
abbrev main_v304 : Ref sig .tc := ⟨.hbm, 365, rfl⟩
abbrev main_v305 : Ref sig .tc := ⟨.hbm, 366, rfl⟩
abbrev main_v306 : Ref sig .tc := ⟨.hbm, 367, rfl⟩
abbrev main_v307 : Ref sig .tc := ⟨.hbm, 368, rfl⟩
abbrev main_v308 : Ref sig .tc := ⟨.hbm, 369, rfl⟩
abbrev main_v309 : Ref sig .tc := ⟨.hbm, 370, rfl⟩
abbrev main_v310 : Ref sig .tc := ⟨.hbm, 371, rfl⟩
abbrev main_v311 : Ref sig .tc := ⟨.hbm, 372, rfl⟩
abbrev main_v312 : Ref sig .tc := ⟨.hbm, 373, rfl⟩
abbrev main_v313 : Ref sig .tc := ⟨.hbm, 374, rfl⟩
abbrev main_v314 : Ref sig .tc := ⟨.hbm, 375, rfl⟩
abbrev main_v315 : Ref sig .tc := ⟨.hbm, 376, rfl⟩
abbrev main_v316 : Ref sig .tc := ⟨.hbm, 377, rfl⟩
abbrev main_v317 : Ref sig .tc := ⟨.hbm, 378, rfl⟩
abbrev main_v318 : Ref sig .tc := ⟨.hbm, 379, rfl⟩
abbrev main_cst_43 : Ref sig .tc := ⟨.hbm, 380, rfl⟩
abbrev main_v319 : Ref sig .tc := ⟨.hbm, 381, rfl⟩
abbrev main_cst_44 : Ref sig .tc := ⟨.hbm, 382, rfl⟩
abbrev main_v320 : Ref sig .tc := ⟨.hbm, 383, rfl⟩
abbrev main_v321 : Ref sig .tc := ⟨.hbm, 384, rfl⟩
abbrev main_cst_45 : Ref sig .tc := ⟨.hbm, 385, rfl⟩
abbrev main_v322 : Ref sig .tc := ⟨.hbm, 386, rfl⟩
abbrev main_v323 : Ref sig .tc := ⟨.hbm, 387, rfl⟩
abbrev main_v324 : Ref sig .tc := ⟨.hbm, 388, rfl⟩
abbrev main_v325 : Ref sig .tc := ⟨.hbm, 389, rfl⟩
abbrev main_v326 : Ref sig .tc := ⟨.hbm, 390, rfl⟩
abbrev main_v327 : Ref sig .tc := ⟨.hbm, 391, rfl⟩
abbrev main_v328 : Ref sig .tc := ⟨.hbm, 392, rfl⟩
abbrev main_v329 : Ref sig .tc := ⟨.hbm, 393, rfl⟩
abbrev main_v330 : Ref sig .tc := ⟨.hbm, 394, rfl⟩
abbrev main_v331 : Ref sig .tc := ⟨.hbm, 395, rfl⟩
abbrev main_v332 : Ref sig .tc := ⟨.hbm, 396, rfl⟩
abbrev main_v333 : Ref sig .tc := ⟨.hbm, 397, rfl⟩
abbrev main_v334 : Ref sig .tc := ⟨.hbm, 398, rfl⟩
abbrev main_v335 : Ref sig .tc := ⟨.hbm, 399, rfl⟩
abbrev main_v336 : Ref sig .tc := ⟨.hbm, 400, rfl⟩
abbrev main_v337 : Ref sig .tc := ⟨.hbm, 401, rfl⟩
abbrev main_v338 : Ref sig .tc := ⟨.hbm, 402, rfl⟩
abbrev main_cst_46 : Ref sig .tc := ⟨.hbm, 403, rfl⟩
abbrev main_v339 : Ref sig .tc := ⟨.hbm, 404, rfl⟩
abbrev main_cst_47 : Ref sig .tc := ⟨.hbm, 405, rfl⟩
abbrev main_v340 : Ref sig .tc := ⟨.hbm, 406, rfl⟩
abbrev main_v341 : Ref sig .tc := ⟨.hbm, 407, rfl⟩
abbrev main_cst_48 : Ref sig .tc := ⟨.hbm, 408, rfl⟩
abbrev main_v342 : Ref sig .tc := ⟨.hbm, 409, rfl⟩
abbrev main_v343 : Ref sig .tc := ⟨.hbm, 410, rfl⟩
abbrev main_v344 : Ref sig .tc := ⟨.hbm, 411, rfl⟩
abbrev main_cst_49 : Ref sig .tc := ⟨.hbm, 412, rfl⟩
abbrev main_v345 : Ref sig .tc := ⟨.hbm, 413, rfl⟩
abbrev main_cst_50 : Ref sig .tc := ⟨.hbm, 414, rfl⟩
abbrev main_v346 : Ref sig .tc := ⟨.hbm, 415, rfl⟩
abbrev main_cst_51 : Ref sig .tc := ⟨.hbm, 416, rfl⟩
abbrev main_v347 : Ref sig .tc := ⟨.hbm, 417, rfl⟩
abbrev main_cst_52 : Ref sig .tc := ⟨.hbm, 418, rfl⟩
abbrev main_v348 : Ref sig .tc := ⟨.hbm, 419, rfl⟩
abbrev main_v349 : Ref sig .tc := ⟨.hbm, 420, rfl⟩
abbrev main_v350 : Ref sig .tc := ⟨.hbm, 421, rfl⟩

abbrev nD : Nat := 1
abbrev τ : Topo := Topo.v7x

variable {F : FTy → Type} [FloatOps F]
-- ==== MixKernel.lean ====
abbrev S4096x512 : Shape := ⟨2, ![4096, 512]⟩
abbrev S512x512 : Shape := ⟨2, ![512, 512]⟩
abbrev S512 : Shape := ⟨1, ![512]⟩
abbrev S1024x1024 : Shape := ⟨2, ![1024, 1024]⟩
abbrev S4096x1024 : Shape := ⟨2, ![4096, 1024]⟩
abbrev S1x512 : Shape := ⟨2, ![1, 512]⟩
abbrev S_ : Shape := ⟨0, ![]⟩
abbrev S1024x2048 : Shape := ⟨2, ![1024, 2048]⟩
abbrev S256x8192 : Shape := ⟨2, ![256, 8192]⟩
abbrev S512x1024 : Shape := ⟨2, ![512, 1024]⟩
abbrev S128x2048 : Shape := ⟨2, ![128, 2048]⟩
abbrev S32x8192 : Shape := ⟨2, ![32, 8192]⟩
abbrev S4x512x128 : Shape := ⟨3, ![4, 512, 128]⟩
abbrev S512x1 : Shape := ⟨2, ![512, 1]⟩
abbrev S512x128 : Shape := ⟨2, ![512, 128]⟩
abbrev S1x512x128 : Shape := ⟨3, ![1, 512, 128]⟩
abbrev S128x128 : Shape := ⟨2, ![128, 128]⟩
abbrev S32x128 : Shape := ⟨2, ![32, 128]⟩

abbrev nBuf : Space → Nat
  | .hbm => 52
  | .vmem => 27
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S4096x1024, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1024x1024, .bf16⟩
  | .hbm, ⟨12, _⟩ => ⟨S4096x1024, .bf16⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S_, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .bf16⟩
  | .hbm, ⟨31, _⟩ => ⟨S512x512, .bf16⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096x512, .f32⟩
  | .hbm, ⟨39, _⟩ => ⟨S4096x512, .f32⟩
  | .hbm, ⟨40, _⟩ => ⟨S_, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S1024x2048, .f32⟩
  | .hbm, ⟨46, _⟩ => ⟨S256x8192, .f32⟩
  | .hbm, ⟨47, _⟩ => ⟨S4096x512, .bf16⟩
  | .hbm, ⟨48, _⟩ => ⟨S4096x512, .f32⟩
  | .hbm, ⟨49, _⟩ => ⟨S1x512, .f32⟩
  | .hbm, ⟨50, _⟩ => ⟨S1x512, .f32⟩
  | .hbm, ⟨51, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S1x512, .f32⟩
  | .local _ .vmem, ⟨12, _⟩ => ⟨S1x512, .f32⟩
  | .local _ .vmem, ⟨13, _⟩ => ⟨S512x512, .f32⟩
  | .local _ .vmem, ⟨14, _⟩ => ⟨S512x512, .f32⟩
  | .local _ .vmem, ⟨15, _⟩ => ⟨S128x2048, .f32⟩
  | .local _ .vmem, ⟨16, _⟩ => ⟨S128x2048, .f32⟩
  | .local _ .vmem, ⟨17, _⟩ => ⟨S32x8192, .f32⟩
  | .local _ .vmem, ⟨18, _⟩ => ⟨S32x8192, .f32⟩
  | .local _ .vmem, ⟨19, _⟩ => ⟨S512x512, .bf16⟩
  | .local _ .vmem, ⟨20, _⟩ => ⟨S512x512, .bf16⟩
  | .local _ .vmem, ⟨21, _⟩ => ⟨S512x512, .f32⟩
  | .local _ .vmem, ⟨22, _⟩ => ⟨S512x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S4x512x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30_0 : Ref sig .tc := ⟨.hbm, 44, rfl⟩
abbrev main_v30_1 : Ref sig .tc := ⟨.hbm, 45, rfl⟩
abbrev main_v30_2 : Ref sig .tc := ⟨.hbm, 46, rfl⟩
abbrev main_v30_3 : Ref sig .tc := ⟨.hbm, 47, rfl⟩
abbrev main_v30_4 : Ref sig .tc := ⟨.hbm, 48, rfl⟩
abbrev main_v30_5 : Ref sig .tc := ⟨.hbm, 49, rfl⟩
abbrev main_v30_6 : Ref sig .tc := ⟨.hbm, 50, rfl⟩
abbrev main_v30_7 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v380 : BitVec 32 := Scalar.extui v5
  let c0_i32_452 : BitVec 32 := 0#32
  let v381 : BitVec 1 := Scalar.cmpi .ne v380 c0_i32_452
  v381

def k0_cond2 (i : grid0.Coords) : BitVec 1 :=
  let arg0 : BitVec 32 := BitVec.ofNat 32 (i 0).val
  let c0_i32 : BitVec 32 := 0#32
  let v5 : BitVec 1 := Scalar.cmpi .eq arg0 c0_i32
  let v_true : BitVec 1 := 1#1
  let v382 : BitVec 1 := Scalar.xori v5 v_true
  let v383 : BitVec 32 := Scalar.extui v382
  let c0_i32_453 : BitVec 32 := 0#32
  let v384 : BitVec 1 := Scalar.cmpi .ne v383 c0_i32_453
  v384

def k0_cond3 (i : grid0.Coords) : BitVec 1 :=
  let arg0 : BitVec 32 := BitVec.ofNat 32 (i 0).val
  let c0_i32 : BitVec 32 := 0#32
  let v5 : BitVec 1 := Scalar.cmpi .eq arg0 c0_i32
  let v385 : BitVec 32 := Scalar.extui v5
  let c0_i32_454 : BitVec 32 := 0#32
  let v386 : BitVec 1 := Scalar.cmpi .ne v385 c0_i32_454
  v386

def k0_cond4 (i : grid0.Coords) : BitVec 1 :=
  let arg0 : BitVec 32 := BitVec.ofNat 32 (i 0).val
  let c0_i32 : BitVec 32 := 0#32
  let v5 : BitVec 1 := Scalar.cmpi .eq arg0 c0_i32
  let true_455 : BitVec 1 := 1#1
  let v387 : BitVec 1 := Scalar.xori v5 true_455
  let v388 : BitVec 32 := Scalar.extui v387
  let c0_i32_456 : BitVec 32 := 0#32
  let v389 : BitVec 1 := Scalar.cmpi .ne v388 c0_i32_456
  v389

def k0_cond5 (i : grid0.Coords) : BitVec 1 :=
  let arg0 : BitVec 32 := BitVec.ofNat 32 (i 0).val
  let c0_i32 : BitVec 32 := 0#32
  let v5 : BitVec 1 := Scalar.cmpi .eq arg0 c0_i32
  let v390 : BitVec 32 := Scalar.extui v5
  let c0_i32_457 : BitVec 32 := 0#32
  let v391 : BitVec 1 := Scalar.cmpi .ne v390 c0_i32_457
  v391

def k0_cond6 (i : grid0.Coords) : BitVec 1 :=
  let arg0 : BitVec 32 := BitVec.ofNat 32 (i 0).val
  let c0_i32 : BitVec 32 := 0#32
  let v5 : BitVec 1 := Scalar.cmpi .eq arg0 c0_i32
  let true_458 : BitVec 1 := 1#1
  let v392 : BitVec 1 := Scalar.xori v5 true_458
  let v393 : BitVec 32 := Scalar.extui v392
  let c0_i32_459 : BitVec 32 := 0#32
  let v394 : BitVec 1 := Scalar.cmpi .ne v393 c0_i32_459
  v394

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S32x8192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false, false]
-- ==== MixReferenceIdeal.lean ====
abbrev S4096x512 : Shape := ⟨2, ![4096, 512]⟩
abbrev S512x512 : Shape := ⟨2, ![512, 512]⟩
abbrev S512 : Shape := ⟨1, ![512]⟩
abbrev S1024x1024 : Shape := ⟨2, ![1024, 1024]⟩
abbrev S4096x1024 : Shape := ⟨2, ![4096, 1024]⟩
abbrev S_ : Shape := ⟨0, ![]⟩
abbrev S1x512 : Shape := ⟨2, ![1, 512]⟩
abbrev S4096 : Shape := ⟨1, ![4096]⟩
abbrev S4096x1 : Shape := ⟨2, ![4096, 1]⟩
abbrev S1024x2048 : Shape := ⟨2, ![1024, 2048]⟩
abbrev S256x8192 : Shape := ⟨2, ![256, 8192]⟩

abbrev nBuf : Space → Nat
  | .hbm => 151
  | .vmem => 0
  | .smem => 0
  | _ => 0

abbrev hbmTy0_0 (i : Nat) : BufTy := match i % 128 with
  | 0 => ⟨S4096x512, .f32⟩
  | 1 => ⟨S4096x512, .f32⟩
  | 2 => ⟨S512x512, .f32⟩
  | 3 => ⟨S512, .f32⟩
  | 4 => ⟨S512, .f32⟩
  | 5 => ⟨S512, .f32⟩
  | 6 => ⟨S1024x1024, .f32⟩
  | 7 => ⟨S4096x1024, .f32⟩
  | 8 => ⟨S4096x512, .f32⟩
  | 9 => ⟨S4096x512, .f32⟩
  | 10 => ⟨S_, .f32⟩
  | 11 => ⟨S4096x512, .f32⟩
  | 12 => ⟨S4096x512, .f32⟩
  | 13 => ⟨S4096x512, .f32⟩
  | 14 => ⟨S_, .f32⟩
  | 15 => ⟨S4096x512, .f32⟩
  | 16 => ⟨S4096x512, .f32⟩
  | 17 => ⟨S4096x512, .f32⟩
  | 18 => ⟨S_, .f32⟩
  | 19 => ⟨S4096x512, .f32⟩
  | 20 => ⟨S4096x512, .f32⟩
  | 21 => ⟨S_, .f32⟩
  | 22 => ⟨S4096x512, .f32⟩
  | 23 => ⟨S4096x512, .f32⟩
  | 24 => ⟨S4096x512, .f32⟩
  | 25 => ⟨S4096x512, .f32⟩
  | 26 => ⟨S1x512, .f32⟩
  | 27 => ⟨S4096x512, .f32⟩
  | 28 => ⟨S4096x512, .f32⟩
  | 29 => ⟨S4096x512, .f32⟩
  | 30 => ⟨S4096x512, .f32⟩
  | 31 => ⟨S_, .f32⟩
  | 32 => ⟨S4096x512, .f32⟩
  | 33 => ⟨S4096x512, .f32⟩
  | 34 => ⟨S_, .f32⟩
  | 35 => ⟨S4096x512, .f32⟩
  | 36 => ⟨S4096x512, .f32⟩
  | 37 => ⟨S_, .f32⟩
  | 38 => ⟨S4096x512, .f32⟩
  | 39 => ⟨S4096x512, .f32⟩
  | 40 => ⟨S4096x512, .f32⟩
  | 41 => ⟨S4096x512, .f32⟩
  | 42 => ⟨S4096x512, .f32⟩
  | 43 => ⟨S_, .f32⟩
  | 44 => ⟨S4096, .f32⟩
  | 45 => ⟨S4096x1, .f32⟩
  | 46 => ⟨S_, .f32⟩
  | 47 => ⟨S4096x1, .f32⟩
  | 48 => ⟨S4096x1, .f32⟩
  | 49 => ⟨S_, .f32⟩
  | 50 => ⟨S4096x1, .f32⟩
  | 51 => ⟨S4096x1, .f32⟩
  | 52 => ⟨S4096x1, .f32⟩
  | 53 => ⟨S4096x1, .f32⟩
  | 54 => ⟨S_, .f32⟩
  | 55 => ⟨S4096x1, .f32⟩
  | 56 => ⟨S4096x1, .f32⟩
  | 57 => ⟨S4096x512, .f32⟩
  | 58 => ⟨S4096x512, .f32⟩
  | 59 => ⟨S1x512, .f32⟩
  | 60 => ⟨S4096x512, .f32⟩
  | 61 => ⟨S4096x512, .f32⟩
  | 62 => ⟨S4096x512, .f32⟩
  | 63 => ⟨S_, .f32⟩
  | 64 => ⟨S4096, .f32⟩
  | 65 => ⟨S4096x1, .f32⟩
  | 66 => ⟨S_, .f32⟩
  | 67 => ⟨S4096x1, .f32⟩
  | 68 => ⟨S4096x1, .f32⟩
  | 69 => ⟨S_, .f32⟩
  | 70 => ⟨S4096x1, .f32⟩
  | 71 => ⟨S4096x1, .f32⟩
  | 72 => ⟨S4096x1, .f32⟩
  | 73 => ⟨S4096x1, .f32⟩
  | 74 => ⟨S_, .f32⟩
  | 75 => ⟨S4096x1, .f32⟩
  | 76 => ⟨S4096x1, .f32⟩
  | 77 => ⟨S4096x512, .f32⟩
  | 78 => ⟨S4096x512, .f32⟩
  | 79 => ⟨S1x512, .f32⟩
  | 80 => ⟨S4096x512, .f32⟩
  | 81 => ⟨S4096x512, .f32⟩
  | 82 => ⟨S4096x1024, .f32⟩
  | 83 => ⟨S4096x1024, .f32⟩
  | 84 => ⟨S4096x1024, .f32⟩
  | 85 => ⟨S4096x512, .f32⟩
  | 86 => ⟨S4096x512, .f32⟩
  | 87 => ⟨S4096x512, .f32⟩
  | 88 => ⟨S_, .f32⟩
  | 89 => ⟨S512, .f32⟩
  | 90 => ⟨S1x512, .f32⟩
  | 91 => ⟨S4096x512, .f32⟩
  | 92 => ⟨S4096x512, .f32⟩
  | 93 => ⟨S_, .f32⟩
  | 94 => ⟨S512, .f32⟩
  | 95 => ⟨S4096x512, .f32⟩
  | 96 => ⟨S_, .f32⟩
  | 97 => ⟨S4096, .f32⟩
  | 98 => ⟨S4096x1, .f32⟩
  | 99 => ⟨S4096x512, .f32⟩
  | 100 => ⟨S4096x512, .f32⟩
  | 101 => ⟨S4096x1, .f32⟩
  | 102 => ⟨S_, .f32⟩
  | 103 => ⟨S4096x1, .f32⟩
  | 104 => ⟨S4096x1, .f32⟩
  | 105 => ⟨S_, .f32⟩
  | 106 => ⟨S4096, .f32⟩
  | 107 => ⟨S4096x512, .f32⟩
  | 108 => ⟨S4096x512, .f32⟩
  | 109 => ⟨S4096x512, .f32⟩
  | 110 => ⟨S4096x512, .f32⟩
  | 111 => ⟨S4096x512, .f32⟩
  | 112 => ⟨S4096x512, .f32⟩
  | 113 => ⟨S_, .f32⟩
  | 114 => ⟨S512, .f32⟩
  | 115 => ⟨S1x512, .f32⟩
  | 116 => ⟨S4096x512, .f32⟩
  | 117 => ⟨S4096x512, .f32⟩
  | 118 => ⟨S_, .f32⟩
  | 119 => ⟨S512, .f32⟩
  | 120 => ⟨S4096x512, .f32⟩
  | 121 => ⟨S_, .f32⟩
  | 122 => ⟨S4096, .f32⟩
  | 123 => ⟨S4096x1, .f32⟩
  | 124 => ⟨S4096x512, .f32⟩
  | 125 => ⟨S4096x512, .f32⟩
  | 126 => ⟨S4096x1, .f32⟩
  | 127 => ⟨S_, .f32⟩
  | _ => ⟨S4096x512, .f32⟩

abbrev hbmTy0_1 (i : Nat) : BufTy := match i % 128 with
  | 0 => ⟨S4096x1, .f32⟩
  | 1 => ⟨S4096x1, .f32⟩
  | 2 => ⟨S_, .f32⟩
  | 3 => ⟨S4096, .f32⟩
  | 4 => ⟨S4096x512, .f32⟩
  | 5 => ⟨S4096x512, .f32⟩
  | 6 => ⟨S4096x512, .f32⟩
  | 7 => ⟨S4096x512, .f32⟩
  | 8 => ⟨S4096x512, .f32⟩
  | 9 => ⟨S4096x512, .f32⟩
  | 10 => ⟨S4096x512, .f32⟩
  | 11 => ⟨S4096x512, .f32⟩
  | 12 => ⟨S_, .f32⟩
  | 13 => ⟨S512, .f32⟩
  | 14 => ⟨S1x512, .f32⟩
  | 15 => ⟨S_, .f32⟩
  | 16 => ⟨S512, .f32⟩
  | 17 => ⟨S1024x2048, .f32⟩
  | 18 => ⟨S256x8192, .f32⟩
  | 19 => ⟨S4096x512, .bf16⟩
  | 20 => ⟨S1x512, .f32⟩
  | 21 => ⟨S1x512, .f32⟩
  | 22 => ⟨S1x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_14 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_15 : Ref sig .tc := ⟨.hbm, 93, rfl⟩
abbrev main_v69 : Ref sig .tc := ⟨.hbm, 94, rfl⟩
abbrev main_v70 : Ref sig .tc := ⟨.hbm, 95, rfl⟩
abbrev main_cst_16 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_17 : Ref sig .tc := ⟨.hbm, 102, rfl⟩
abbrev main_v76 : Ref sig .tc := ⟨.hbm, 103, rfl⟩
abbrev main_v77 : Ref sig .tc := ⟨.hbm, 104, rfl⟩
abbrev main_cst_18 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_19 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_20 : Ref sig .tc := ⟨.hbm, 118, rfl⟩
abbrev main_v89 : Ref sig .tc := ⟨.hbm, 119, rfl⟩
abbrev main_v90 : Ref sig .tc := ⟨.hbm, 120, rfl⟩
abbrev main_cst_21 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_22 : Ref sig .tc := ⟨.hbm, 127, rfl⟩
abbrev main_v96 : Ref sig .tc := ⟨.hbm, 128, rfl⟩
abbrev main_v97 : Ref sig .tc := ⟨.hbm, 129, rfl⟩
abbrev main_cst_23 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_24 : Ref sig .tc := ⟨.hbm, 140, rfl⟩
abbrev main_v107 : Ref sig .tc := ⟨.hbm, 141, rfl⟩
abbrev main_v108 : Ref sig .tc := ⟨.hbm, 142, rfl⟩
abbrev main_cst_25 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩

abbrev nD : Nat := 1
abbrev τ : Topo := Topo.v7x

variable {F : FTy → Type} [FloatOps F]
-- ==== GluKernel.lean ====
abbrev S4096x512 : Shape := ⟨2, ![4096, 512]⟩
abbrev S512 : Shape := ⟨1, ![512]⟩
abbrev S512x512 : Shape := ⟨2, ![512, 512]⟩
abbrev S1x512 : Shape := ⟨2, ![1, 512]⟩

abbrev nBuf : Space → Nat
  | .hbm => 15
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512, .f32⟩
  | .hbm, ⟨3, _⟩ => ⟨S512x512, .f32⟩
  | .hbm, ⟨4, _⟩ => ⟨S4096x512, .f32⟩
  | .hbm, ⟨5, _⟩ => ⟨S4096x512, .f32⟩
  | .hbm, ⟨6, _⟩ => ⟨S1x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .bf16⟩
  | .hbm, ⟨11, _⟩ => ⟨S512x512, .bf16⟩
  | .hbm, ⟨12, _⟩ => ⟨S4096x512, .bf16⟩
  | .hbm, ⟨13, _⟩ => ⟨S4096x512, .f32⟩
  | .hbm, ⟨14, _⟩ => ⟨S1x512, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S1x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v55 : BitVec 32 := Scalar.extui v5
  let c0_i32_25 : BitVec 32 := 0#32
  let v56 : BitVec 1 := Scalar.cmpi .ne v55 c0_i32_25
  v56

def k0_cond2 (i : grid0.Coords) : BitVec 1 :=
  let arg0 : BitVec 32 := BitVec.ofNat 32 (i 0).val
  let c0_i32 : BitVec 32 := 0#32
  let v5 : BitVec 1 := Scalar.cmpi .eq arg0 c0_i32
  let v_true : BitVec 1 := 1#1
  let v57 : BitVec 1 := Scalar.xori v5 v_true
  let v58 : BitVec 32 := Scalar.extui v57
  let c0_i32_26 : BitVec 32 := 0#32
  let v59 : BitVec 1 := Scalar.cmpi .ne v58 c0_i32_26
  v59

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== GluReferenceIdeal.lean ====
abbrev S4096x512 : Shape := ⟨2, ![4096, 512]⟩
abbrev S512 : Shape := ⟨1, ![512]⟩
abbrev S512x512 : Shape := ⟨2, ![512, 512]⟩
abbrev S1x512 : Shape := ⟨2, ![1, 512]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512, .f32⟩
  | .hbm, ⟨3, _⟩ => ⟨S512x512, .f32⟩
  | .hbm, ⟨4, _⟩ => ⟨S4096x512, .f32⟩
  | .hbm, ⟨5, _⟩ => ⟨S4096x512, .f32⟩
  | .hbm, ⟨6, _⟩ => ⟨S1x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S_, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S_, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S_, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S_, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S_, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S_, .f32⟩
  | .hbm, ⟨60, _⟩ => ⟨S512, .f32⟩
  | .hbm, ⟨61, _⟩ => ⟨S1x512, .f32⟩
  | .hbm, ⟨62, _⟩ => ⟨S_, .f32⟩
  | .hbm, ⟨63, _⟩ => ⟨S512, .f32⟩
  | .hbm, ⟨64, _⟩ => ⟨S4096x512, .bf16⟩
  | .hbm, ⟨65, _⟩ => ⟨S1x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== PleKernel.lean ====
abbrev S4096x1024 : Shape := ⟨2, ![4096, 1024]⟩
abbrev S4096x256 : Shape := ⟨2, ![4096, 256]⟩
abbrev S256x1024 : Shape := ⟨2, ![256, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S256x1024, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S1x1024, .f32⟩
  | .hbm, ⟨7, _⟩ => ⟨S4096x256, .bf16⟩
  | .hbm, ⟨8, _⟩ => ⟨S256x1024, .bf16⟩
  | .hbm, ⟨9, _⟩ => ⟨S4096x1024, .f32⟩
  | .hbm, ⟨10, _⟩ => ⟨S4096x1024, .bf16⟩
  | .hbm, ⟨11, _⟩ => ⟨S1024x1024, .bf16⟩
  | .hbm, ⟨12, _⟩ => ⟨S4096x1024, .f32⟩
  | .hbm, ⟨13, _⟩ => ⟨S4096x1024, .bf16⟩
  | .hbm, ⟨14, _⟩ => ⟨S4096x1024, .bf16⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v61 : BitVec 1 := Scalar.cmpi .eq arg0 c0_i32
  let v66 : BitVec 32 := Scalar.extui v61
  let c0_i32_25 : BitVec 32 := 0#32
  let v67 : BitVec 1 := Scalar.cmpi .ne v66 c0_i32_25
  v67

def k0_cond2 (i : grid0.Coords) : BitVec 1 :=
  let arg0 : BitVec 32 := BitVec.ofNat 32 (i 0).val
  let c0_i32 : BitVec 32 := 0#32
  let v61 : BitVec 1 := Scalar.cmpi .eq arg0 c0_i32
  let v_true : BitVec 1 := 1#1
  let v68 : BitVec 1 := Scalar.xori v61 v_true
  let v69 : BitVec 32 := Scalar.extui v68
  let c0_i32_26 : BitVec 32 := 0#32
  let v70 : BitVec 1 := Scalar.cmpi .ne v69 c0_i32_26
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PleReferenceIdeal.lean ====
abbrev S4096x1024 : Shape := ⟨2, ![4096, 1024]⟩
abbrev S4096x256 : Shape := ⟨2, ![4096, 256]⟩
abbrev S256x1024 : Shape := ⟨2, ![256, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S256x1024, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .bf16⟩
  | .hbm, ⟨71, _⟩ => ⟨S4096x1024, .bf16⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== FfnPostKernel.lean ====
abbrev S4096x2816 : Shape := ⟨2, ![4096, 2816]⟩
abbrev S2816x1024 : Shape := ⟨2, ![2816, 1024]⟩
abbrev S1024 : Shape := ⟨1, ![1024]⟩
abbrev S1024x1024 : Shape := ⟨2, ![1024, 1024]⟩
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 15
  | .vmem => 13
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1024x1024, .bf16⟩
  | .hbm, ⟨8, _⟩ => ⟨S4096x2816, .bf16⟩
  | .hbm, ⟨9, _⟩ => ⟨S2816x1024, .bf16⟩
  | .hbm, ⟨10, _⟩ => ⟨S4096x1024, .f32⟩
  | .hbm, ⟨11, _⟩ => ⟨S4096x1024, .bf16⟩
  | .hbm, ⟨12, _⟩ => ⟨S4096x1024, .f32⟩
  | .hbm, ⟨13, _⟩ => ⟨S4096x1024, .bf16⟩
  | .hbm, ⟨14, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v50 : BitVec 32 := Scalar.extui v5
  let c0_i32_22 : BitVec 32 := 0#32
  let v51 : BitVec 1 := Scalar.cmpi .ne v50 c0_i32_22
  v51

def k0_cond2 (i : grid0.Coords) : BitVec 1 :=
  let arg0 : BitVec 32 := BitVec.ofNat 32 (i 0).val
  let c0_i32 : BitVec 32 := 0#32
  let v5 : BitVec 1 := Scalar.cmpi .eq arg0 c0_i32
  let v_true : BitVec 1 := 1#1
  let v52 : BitVec 1 := Scalar.xori v5 v_true
  let v53 : BitVec 32 := Scalar.extui v52
  let c0_i32_23 : BitVec 32 := 0#32
  let v54 : BitVec 1 := Scalar.cmpi .ne v53 c0_i32_23
  v54

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== FfnPostReferenceIdeal.lean ====
abbrev S4096x2816 : Shape := ⟨2, ![4096, 2816]⟩
abbrev S2816x1024 : Shape := ⟨2, ![2816, 1024]⟩
abbrev S1024 : Shape := ⟨1, ![1024]⟩
abbrev S1024x1024 : Shape := ⟨2, ![1024, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x1024, .f32⟩
  | .hbm, ⟨54, _⟩ => ⟨S4096x1024, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .bf16⟩
  | .hbm, ⟨67, _⟩ => ⟨S1x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== FfnPreKernel.lean ====
abbrev S4096x512 : Shape := ⟨2, ![4096, 512]⟩
abbrev S512 : Shape := ⟨1, ![512]⟩
abbrev S1024x1024 : Shape := ⟨2, ![1024, 1024]⟩
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S1x1024 : Shape := ⟨2, ![1, 1024]⟩
abbrev S1x512 : Shape := ⟨2, ![1, 512]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩

abbrev nBuf : Space → Nat
  | .hbm => 77
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512, .f32⟩
  | .hbm, ⟨3, _⟩ => ⟨S512, .f32⟩
  | .hbm, ⟨4, _⟩ => ⟨S1024x1024, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S1024x2816, .f32⟩
  | .hbm, ⟨9, _⟩ => ⟨S1024x2816, .f32⟩
  | .hbm, ⟨10, _⟩ => ⟨S4096x1024, .f32⟩
  | .hbm, ⟨11, _⟩ => ⟨S4096x2816, .f32⟩
  | .hbm, ⟨12, _⟩ => ⟨S4096x2816, .f32⟩
  | .hbm, ⟨13, _⟩ => ⟨S1x1024, .f32⟩
  | .hbm, ⟨14, _⟩ => ⟨S1x1024, .f32⟩
  | .hbm, ⟨15, _⟩ => ⟨S1x512, .f32⟩
  | .hbm, ⟨16, _⟩ => ⟨S1x512, .f32⟩
  | .hbm, ⟨17, _⟩ => ⟨S1024x2816, .bf16⟩
  | .hbm, ⟨18, _⟩ => ⟨S1024x2816, .bf16⟩
  | .hbm, ⟨19, _⟩ => ⟨S1024x5632, .bf16⟩
  | .hbm, ⟨20, _⟩ => ⟨S4096x2816, .bf16⟩
  | .hbm, ⟨21, _⟩ => ⟨S4096x2816, .bf16⟩
  | .hbm, ⟨22, _⟩ => ⟨S4096x5632, .bf16⟩
  | .hbm, ⟨23, _⟩ => ⟨S4096x512, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x1, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .f32⟩
  | .hbm, ⟨53, _⟩ => ⟨S4096x1024, .f32⟩
  | .hbm, ⟨54, _⟩ => ⟨S4096x1024, .bf16⟩
  | .hbm, ⟨55, _⟩ => ⟨S1024x1024, .bf16⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .bf16⟩
  | .hbm, ⟨75, _⟩ => ⟨S1x1024, .f32⟩
  | .hbm, ⟨76, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S1024x5632, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S1x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_cst_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_5 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51_0 : Ref sig .tc := ⟨.hbm, 73, rfl⟩
abbrev main_v51_1 : Ref sig .tc := ⟨.hbm, 74, rfl⟩
abbrev main_v51_2 : Ref sig .tc := ⟨.hbm, 75, rfl⟩
abbrev main_v51_3 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v85 : BitVec 32 := Scalar.extui v5
  let c0_i32_33 : BitVec 32 := 0#32
  let v86 : BitVec 1 := Scalar.cmpi .ne v85 c0_i32_33
  v86

def k0_cond2 (i : grid0.Coords) : BitVec 1 :=
  let arg0 : BitVec 32 := BitVec.ofNat 32 (i 0).val
  let c0_i32 : BitVec 32 := 0#32
  let v5 : BitVec 1 := Scalar.cmpi .eq arg0 c0_i32
  let v_true : BitVec 1 := 1#1
  let v87 : BitVec 1 := Scalar.xori v5 v_true
  let v88 : BitVec 32 := Scalar.extui v87
  let c0_i32_34 : BitVec 32 := 0#32
  let v89 : BitVec 1 := Scalar.cmpi .ne v88 c0_i32_34
  v89

def k0_cond3 (i : grid0.Coords) : BitVec 1 :=
  let arg0 : BitVec 32 := BitVec.ofNat 32 (i 0).val
  let c0_i32 : BitVec 32 := 0#32
  let v5 : BitVec 1 := Scalar.cmpi .eq arg0 c0_i32
  let v90 : BitVec 32 := Scalar.extui v5
  let c0_i32_35 : BitVec 32 := 0#32
  let v91 : BitVec 1 := Scalar.cmpi .ne v90 c0_i32_35
  v91

def k0_cond4 (i : grid0.Coords) : BitVec 1 :=
  let arg0 : BitVec 32 := BitVec.ofNat 32 (i 0).val
  let c0_i32 : BitVec 32 := 0#32
  let v5 : BitVec 1 := Scalar.cmpi .eq arg0 c0_i32
  let true_36 : BitVec 1 := 1#1
  let v92 : BitVec 1 := Scalar.xori v5 true_36
  let v93 : BitVec 32 := Scalar.extui v92
  let c0_i32_37 : BitVec 32 := 0#32
  let v94 : BitVec 1 := Scalar.cmpi .ne v93 c0_i32_37
  v94

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== FfnPreReferenceIdeal.lean ====
abbrev S4096x512 : Shape := ⟨2, ![4096, 512]⟩
abbrev S512 : Shape := ⟨1, ![512]⟩
abbrev S1024x1024 : Shape := ⟨2, ![1024, 1024]⟩
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S1x1024 : Shape := ⟨2, ![1, 1024]⟩

abbrev nBuf : Space → Nat
  | .hbm => 148
  | .vmem => 0
  | .smem => 0
  | _ => 0

abbrev hbmTy0_0 (i : Nat) : BufTy := match i % 128 with
  | 0 => ⟨S4096x512, .f32⟩
  | 1 => ⟨S4096x512, .f32⟩
  | 2 => ⟨S512, .f32⟩
  | 3 => ⟨S512, .f32⟩
  | 4 => ⟨S1024x1024, .f32⟩
  | 5 => ⟨S4096x1024, .f32⟩
  | 6 => ⟨S1024, .f32⟩
  | 7 => ⟨S1024, .f32⟩
  | 8 => ⟨S1024x2816, .f32⟩
  | 9 => ⟨S1024x2816, .f32⟩
  | 10 => ⟨S4096x1024, .f32⟩
  | 11 => ⟨S4096x2816, .f32⟩
  | 12 => ⟨S4096x2816, .f32⟩
  | 13 => ⟨S4096x512, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1, .f32⟩
  | 24 => ⟨S4096x512, .f32⟩
  | 25 => ⟨S4096x512, .f32⟩
  | 26 => ⟨S1x512, .f32⟩
  | 27 => ⟨S4096x512, .f32⟩
  | 28 => ⟨S4096x512, .f32⟩
  | 29 => ⟨S4096x512, .f32⟩
  | 30 => ⟨S_, .f32⟩
  | 31 => ⟨S4096, .f32⟩
  | 32 => ⟨S4096x1, .f32⟩
  | 33 => ⟨S_, .f32⟩
  | 34 => ⟨S4096x1, .f32⟩
  | 35 => ⟨S4096x1, .f32⟩
  | 36 => ⟨S_, .f32⟩
  | 37 => ⟨S4096x1, .f32⟩
  | 38 => ⟨S4096x1, .f32⟩
  | 39 => ⟨S4096x1, .f32⟩
  | 40 => ⟨S4096x512, .f32⟩
  | 41 => ⟨S4096x512, .f32⟩
  | 42 => ⟨S1x512, .f32⟩
  | 43 => ⟨S4096x512, .f32⟩
  | 44 => ⟨S4096x512, .f32⟩
  | 45 => ⟨S4096x1024, .f32⟩
  | 46 => ⟨S4096x1024, .f32⟩
  | 47 => ⟨S4096x1024, .f32⟩
  | 48 => ⟨S_, .f32⟩
  | 49 => ⟨S4096, .f32⟩
  | 50 => ⟨S4096x1, .f32⟩
  | 51 => ⟨S_, .f32⟩
  | 52 => ⟨S4096x1, .f32⟩
  | 53 => ⟨S4096x1, .f32⟩
  | 54 => ⟨S_, .f32⟩
  | 55 => ⟨S4096x1, .f32⟩
  | 56 => ⟨S4096x1, .f32⟩
  | 57 => ⟨S4096x1, .f32⟩
  | 58 => ⟨S4096x1, .f32⟩
  | 59 => ⟨S_, .f32⟩
  | 60 => ⟨S4096x1, .f32⟩
  | 61 => ⟨S4096x1, .f32⟩
  | 62 => ⟨S4096x1024, .f32⟩
  | 63 => ⟨S4096x1024, .f32⟩
  | 64 => ⟨S1x1024, .f32⟩
  | 65 => ⟨S4096x1024, .f32⟩
  | 66 => ⟨S4096x1024, .f32⟩
  | 67 => ⟨S4096x1024, .f32⟩
  | 68 => ⟨S4096x1024, .f32⟩
  | 69 => ⟨S_, .f32⟩
  | 70 => ⟨S4096, .f32⟩
  | 71 => ⟨S4096x1, .f32⟩
  | 72 => ⟨S_, .f32⟩
  | 73 => ⟨S4096x1, .f32⟩
  | 74 => ⟨S4096x1, .f32⟩
  | 75 => ⟨S_, .f32⟩
  | 76 => ⟨S4096x1, .f32⟩
  | 77 => ⟨S4096x1, .f32⟩
  | 78 => ⟨S4096x1, .f32⟩
  | 79 => ⟨S4096x1, .f32⟩
  | 80 => ⟨S_, .f32⟩
  | 81 => ⟨S4096x1, .f32⟩
  | 82 => ⟨S4096x1, .f32⟩
  | 83 => ⟨S4096x1024, .f32⟩
  | 84 => ⟨S4096x1024, .f32⟩
  | 85 => ⟨S1x1024, .f32⟩
  | 86 => ⟨S4096x1024, .f32⟩
  | 87 => ⟨S4096x1024, .f32⟩
  | 88 => ⟨S4096x2816, .f32⟩
  | 89 => ⟨S4096x2816, .f32⟩
  | 90 => ⟨S4096x1024, .f32⟩
  | 91 => ⟨S4096x1024, .f32⟩
  | 92 => ⟨S4096x1024, .f32⟩
  | 93 => ⟨S4096x1024, .f32⟩
  | 94 => ⟨S_, .f32⟩
  | 95 => ⟨S1024, .f32⟩
  | 96 => ⟨S1x1024, .f32⟩
  | 97 => ⟨S4096x1024, .f32⟩
  | 98 => ⟨S4096x1024, .f32⟩
  | 99 => ⟨S_, .f32⟩
  | 100 => ⟨S1024, .f32⟩
  | 101 => ⟨S4096x1024, .f32⟩
  | 102 => ⟨S_, .f32⟩
  | 103 => ⟨S4096, .f32⟩
  | 104 => ⟨S4096x1, .f32⟩
  | 105 => ⟨S4096x1024, .f32⟩
  | 106 => ⟨S4096x1024, .f32⟩
  | 107 => ⟨S4096x1024, .f32⟩
  | 108 => ⟨S4096x1, .f32⟩
  | 109 => ⟨S_, .f32⟩
  | 110 => ⟨S4096x1, .f32⟩
  | 111 => ⟨S4096x1, .f32⟩
  | 112 => ⟨S_, .f32⟩
  | 113 => ⟨S4096, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S_, .f32⟩
  | 122 => ⟨S1024, .f32⟩
  | 123 => ⟨S1x1024, .f32⟩
  | 124 => ⟨S4096x1024, .f32⟩
  | 125 => ⟨S4096x1024, .f32⟩
  | 126 => ⟨S_, .f32⟩
  | 127 => ⟨S1024, .f32⟩
  | _ => ⟨S4096x512, .f32⟩

abbrev hbmTy0_1 (i : Nat) : BufTy := match i % 128 with
  | 0 => ⟨S4096x1024, .f32⟩
  | 1 => ⟨S_, .f32⟩
  | 2 => ⟨S4096, .f32⟩
  | 3 => ⟨S4096x1, .f32⟩
  | 4 => ⟨S4096x1024, .f32⟩
  | 5 => ⟨S4096x1024, .f32⟩
  | 6 => ⟨S4096x1, .f32⟩
  | 7 => ⟨S_, .f32⟩
  | 8 => ⟨S4096x1, .f32⟩
  | 9 => ⟨S4096x1, .f32⟩
  | 10 => ⟨S_, .f32⟩
  | 11 => ⟨S4096, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S4096x1024, .bf16⟩
  | 18 => ⟨S1x1024, .f32⟩
  | 19 => ⟨S1x1024, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_cst_11 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_cst_15 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_16 : Ref sig .tc := ⟨.hbm, 109, rfl⟩
abbrev main_v79 : Ref sig .tc := ⟨.hbm, 110, rfl⟩
abbrev main_v80 : Ref sig .tc := ⟨.hbm, 111, rfl⟩
abbrev main_cst_17 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_18 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_19 : Ref sig .tc := ⟨.hbm, 126, rfl⟩
abbrev main_v93 : Ref sig .tc := ⟨.hbm, 127, rfl⟩
abbrev main_v94 : Ref sig .tc := ⟨.hbm, 128, rfl⟩
abbrev main_cst_20 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_21 : Ref sig .tc := ⟨.hbm, 135, rfl⟩
abbrev main_v100 : Ref sig .tc := ⟨.hbm, 136, rfl⟩
abbrev main_v101 : Ref sig .tc := ⟨.hbm, 137, rfl⟩
abbrev main_cst_22 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩

abbrev nD : Nat := 1
abbrev τ : Topo := Topo.v7x

variable {F : FTy → Type} [FloatOps F]
-- ==== MixInKernel.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S1024x2048 : Shape := ⟨2, ![1024, 2048]⟩
abbrev S4096x2048 : Shape := ⟨2, ![4096, 2048]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 72
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024x2048, .f32⟩
  | .hbm, ⟨8, _⟩ => ⟨S4096x1024, .f32⟩
  | .hbm, ⟨9, _⟩ => ⟨S4096x2048, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .bf16⟩
  | .hbm, ⟨29, _⟩ => ⟨S1024x2816, .bf16⟩
  | .hbm, ⟨30, _⟩ => ⟨S4096x2816, .f32⟩
  | .hbm, ⟨31, _⟩ => ⟨S4096x1024, .bf16⟩
  | .hbm, ⟨32, _⟩ => ⟨S1024x2816, .bf16⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .bf16⟩
  | .hbm, ⟨45, _⟩ => ⟨S2816x1024, .bf16⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x2048, .bf16⟩
  | .hbm, ⟨67, _⟩ => ⟨S1024x2048, .bf16⟩
  | .hbm, ⟨68, _⟩ => ⟨S4096x1024, .f32⟩
  | .hbm, ⟨69, _⟩ => ⟨S4096x1024, .bf16⟩
  | .hbm, ⟨70, _⟩ => ⟨S1x1024, .f32⟩
  | .hbm, ⟨71, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49_0 : Ref sig .tc := ⟨.hbm, 68, rfl⟩
abbrev main_v49_1 : Ref sig .tc := ⟨.hbm, 69, rfl⟩
abbrev main_v49_2 : Ref sig .tc := ⟨.hbm, 70, rfl⟩
abbrev main_v49_3 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v87 : BitVec 32 := Scalar.extui v5
  let c0_i32_34 : BitVec 32 := 0#32
  let v88 : BitVec 1 := Scalar.cmpi .ne v87 c0_i32_34
  v88

def k0_cond2 (i : grid0.Coords) : BitVec 1 :=
  let arg0 : BitVec 32 := BitVec.ofNat 32 (i 0).val
  let c0_i32 : BitVec 32 := 0#32
  let v5 : BitVec 1 := Scalar.cmpi .eq arg0 c0_i32
  let v_true : BitVec 1 := 1#1
  let v89 : BitVec 1 := Scalar.xori v5 v_true
  let v90 : BitVec 32 := Scalar.extui v89
  let c0_i32_35 : BitVec 32 := 0#32
  let v91 : BitVec 1 := Scalar.cmpi .ne v90 c0_i32_35
  v91

def k0_cond3 (i : grid0.Coords) : BitVec 1 :=
  let arg0 : BitVec 32 := BitVec.ofNat 32 (i 0).val
  let c0_i32 : BitVec 32 := 0#32
  let v5 : BitVec 1 := Scalar.cmpi .eq arg0 c0_i32
  let v92 : BitVec 32 := Scalar.extui v5
  let c0_i32_36 : BitVec 32 := 0#32
  let v93 : BitVec 1 := Scalar.cmpi .ne v92 c0_i32_36
  v93

def k0_cond4 (i : grid0.Coords) : BitVec 1 :=
  let arg0 : BitVec 32 := BitVec.ofNat 32 (i 0).val
  let c0_i32 : BitVec 32 := 0#32
  let v5 : BitVec 1 := Scalar.cmpi .eq arg0 c0_i32
  let true_37 : BitVec 1 := 1#1
  let v94 : BitVec 1 := Scalar.xori v5 true_37
  let v95 : BitVec 32 := Scalar.extui v94
  let c0_i32_38 : BitVec 32 := 0#32
  let v96 : BitVec 1 := Scalar.cmpi .ne v95 c0_i32_38
  v96

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== MixInReferenceIdeal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S1024x2048 : Shape := ⟨2, ![1024, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 143
  | .vmem => 0
  | .smem => 0
  | _ => 0

abbrev hbmTy0_0 (i : Nat) : BufTy := match i % 128 with
  | 0 => ⟨S4096x1024, .f32⟩
  | 1 => ⟨S1024, .f32⟩
  | 2 => ⟨S1024x2816, .f32⟩
  | 3 => ⟨S1024x2816, .f32⟩
  | 4 => ⟨S2816x1024, .f32⟩
  | 5 => ⟨S1024, .f32⟩
  | 6 => ⟨S1024, .f32⟩
  | 7 => ⟨S1024x2048, .f32⟩
  | 8 => ⟨S4096x1024, .f32⟩
  | 9 => ⟨S4096x2048, .f32⟩
  | 10 => ⟨S4096x1024, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S_, .f32⟩
  | 18 => ⟨S4096x1, .f32⟩
  | 19 => ⟨S4096x1, .f32⟩
  | 20 => ⟨S4096x1, .f32⟩
  | 21 => ⟨S4096x1024, .f32⟩
  | 22 => ⟨S4096x1024, .f32⟩
  | 23 => ⟨S1x1024, .f32⟩
  | 24 => ⟨S4096x1024, .f32⟩
  | 25 => ⟨S4096x1024, .f32⟩
  | 26 => ⟨S4096x2816, .f32⟩
  | 27 => ⟨S4096x2816, .f32⟩
  | 28 => ⟨S4096x2816, .f32⟩
  | 29 => ⟨S_, .f32⟩
  | 30 => ⟨S4096x2816, .f32⟩
  | 31 => ⟨S4096x2816, .f32⟩
  | 32 => ⟨S_, .f32⟩
  | 33 => ⟨S4096x2816, .f32⟩
  | 34 => ⟨S4096x2816, .f32⟩
  | 35 => ⟨S4096x2816, .f32⟩
  | 36 => ⟨S4096x2816, .f32⟩
  | 37 => ⟨S4096x2816, .f32⟩
  | 38 => ⟨S4096x1024, .f32⟩
  | 39 => ⟨S4096x1024, .f32⟩
  | 40 => ⟨S_, .f32⟩
  | 41 => ⟨S4096, .f32⟩
  | 42 => ⟨S4096x1, .f32⟩
  | 43 => ⟨S_, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1024, .f32⟩
  | 55 => ⟨S4096x1024, .f32⟩
  | 56 => ⟨S1x1024, .f32⟩
  | 57 => ⟨S4096x1024, .f32⟩
  | 58 => ⟨S4096x1024, .f32⟩
  | 59 => ⟨S_, .f32⟩
  | 60 => ⟨S4096x1024, .f32⟩
  | 61 => ⟨S4096x1024, .f32⟩
  | 62 => ⟨S4096x1024, .f32⟩
  | 63 => ⟨S4096x1024, .f32⟩
  | 64 => ⟨S_, .f32⟩
  | 65 => ⟨S4096, .f32⟩
  | 66 => ⟨S4096x1, .f32⟩
  | 67 => ⟨S_, .f32⟩
  | 68 => ⟨S4096x1, .f32⟩
  | 69 => ⟨S4096x1, .f32⟩
  | 70 => ⟨S_, .f32⟩
  | 71 => ⟨S4096x1, .f32⟩
  | 72 => ⟨S4096x1, .f32⟩
  | 73 => ⟨S4096x1, .f32⟩
  | 74 => ⟨S4096x1, .f32⟩
  | 75 => ⟨S_, .f32⟩
  | 76 => ⟨S4096x1, .f32⟩
  | 77 => ⟨S4096x1, .f32⟩
  | 78 => ⟨S4096x1024, .f32⟩
  | 79 => ⟨S4096x1024, .f32⟩
  | 80 => ⟨S1x1024, .f32⟩
  | 81 => ⟨S4096x1024, .f32⟩
  | 82 => ⟨S4096x1024, .f32⟩
  | 83 => ⟨S4096x2048, .f32⟩
  | 84 => ⟨S4096x1024, .f32⟩
  | 85 => ⟨S4096x1024, .f32⟩
  | 86 => ⟨S_, .f32⟩
  | 87 => ⟨S1024, .f32⟩
  | 88 => ⟨S1x1024, .f32⟩
  | 89 => ⟨S4096x1024, .f32⟩
  | 90 => ⟨S4096x1024, .f32⟩
  | 91 => ⟨S_, .f32⟩
  | 92 => ⟨S1024, .f32⟩
  | 93 => ⟨S4096x1024, .f32⟩
  | 94 => ⟨S_, .f32⟩
  | 95 => ⟨S4096, .f32⟩
  | 96 => ⟨S4096x1, .f32⟩
  | 97 => ⟨S4096x1024, .f32⟩
  | 98 => ⟨S4096x1024, .f32⟩
  | 99 => ⟨S4096x1024, .f32⟩
  | 100 => ⟨S4096x1, .f32⟩
  | 101 => ⟨S_, .f32⟩
  | 102 => ⟨S4096x1, .f32⟩
  | 103 => ⟨S4096x1, .f32⟩
  | 104 => ⟨S_, .f32⟩
  | 105 => ⟨S4096, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S_, .f32⟩
  | 113 => ⟨S4096x1024, .f32⟩
  | 114 => ⟨S4096x1024, .f32⟩
  | 115 => ⟨S4096x1024, .f32⟩
  | 116 => ⟨S_, .f32⟩
  | 117 => ⟨S1024, .f32⟩
  | 118 => ⟨S1x1024, .f32⟩
  | 119 => ⟨S4096x1024, .f32⟩
  | 120 => ⟨S4096x1024, .f32⟩
  | 121 => ⟨S_, .f32⟩
  | 122 => ⟨S1024, .f32⟩
  | 123 => ⟨S4096x1024, .f32⟩
  | 124 => ⟨S_, .f32⟩
  | 125 => ⟨S4096, .f32⟩
  | 126 => ⟨S4096x1, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1, .f32⟩
  | 2 => ⟨S_, .f32⟩
  | 3 => ⟨S4096x1, .f32⟩
  | 4 => ⟨S4096x1, .f32⟩
  | 5 => ⟨S_, .f32⟩
  | 6 => ⟨S4096, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .bf16⟩
  | 13 => ⟨S1x1024, .f32⟩
  | 14 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_2 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_v39 : Ref sig .tc := ⟨.hbm, 66, rfl⟩
abbrev main_cst_8 : Ref sig .tc := ⟨.hbm, 67, rfl⟩
abbrev main_v40 : Ref sig .tc := ⟨.hbm, 68, rfl⟩
abbrev main_v41 : Ref sig .tc := ⟨.hbm, 69, rfl⟩
abbrev main_cst_9 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_10 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_12 : Ref sig .tc := ⟨.hbm, 91, rfl⟩
abbrev main_v60 : Ref sig .tc := ⟨.hbm, 92, rfl⟩
abbrev main_v61 : Ref sig .tc := ⟨.hbm, 93, rfl⟩
abbrev main_cst_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_14 : Ref sig .tc := ⟨.hbm, 101, rfl⟩
abbrev main_v68 : Ref sig .tc := ⟨.hbm, 102, rfl⟩
abbrev main_v69 : Ref sig .tc := ⟨.hbm, 103, rfl⟩
abbrev main_cst_15 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_16 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_17 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_18 : Ref sig .tc := ⟨.hbm, 121, rfl⟩
abbrev main_v84 : Ref sig .tc := ⟨.hbm, 122, rfl⟩
abbrev main_v85 : Ref sig .tc := ⟨.hbm, 123, rfl⟩
abbrev main_cst_19 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_20 : Ref sig .tc := ⟨.hbm, 130, rfl⟩
abbrev main_v91 : Ref sig .tc := ⟨.hbm, 131, rfl⟩
abbrev main_v92 : Ref sig .tc := ⟨.hbm, 132, rfl⟩
abbrev main_cst_21 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩

abbrev nD : Nat := 1
abbrev τ : Topo := Topo.v7x

variable {F : FTy → Type} [FloatOps F]
-- ==== FfnInKernel.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S1x1024 : Shape := ⟨2, ![1, 1024]⟩
abbrev S1024x5632 : Shape := ⟨2, ![1024, 5632]⟩
abbrev S4096x5632 : Shape := ⟨2, ![4096, 5632]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩

abbrev nBuf : Space → Nat
  | .hbm => 16
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S1024x5632, .bf16⟩
  | .hbm, ⟨11, _⟩ => ⟨S4096x2816, .bf16⟩
  | .hbm, ⟨12, _⟩ => ⟨S4096x2816, .bf16⟩
  | .hbm, ⟨13, _⟩ => ⟨S4096x5632, .bf16⟩
  | .hbm, ⟨14, _⟩ => ⟨S4096x1024, .f32⟩
  | .hbm, ⟨15, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S1024x5632, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v45 : BitVec 32 := Scalar.extui v5
  let c0_i32_19 : BitVec 32 := 0#32
  let v46 : BitVec 1 := Scalar.cmpi .ne v45 c0_i32_19
  v46

def k0_cond2 (i : grid0.Coords) : BitVec 1 :=
  let arg0 : BitVec 32 := BitVec.ofNat 32 (i 0).val
  let c0_i32 : BitVec 32 := 0#32
  let v5 : BitVec 1 := Scalar.cmpi .eq arg0 c0_i32
  let v_true : BitVec 1 := 1#1
  let v47 : BitVec 1 := Scalar.xori v5 v_true
  let v48 : BitVec 32 := Scalar.extui v47
  let c0_i32_20 : BitVec 32 := 0#32
  let v49 : BitVec 1 := Scalar.cmpi .ne v48 c0_i32_20
  v49

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== FfnInReferenceIdeal.lean ====
abbrev S4096x1024 : Shape := ⟨2, ![4096, 1024]⟩
abbrev S1024 : Shape := ⟨1, ![1024]⟩
abbrev S1024x2816 : Shape := ⟨2, ![1024, 2816]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== PreNormKernel.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PreNormReferenceIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FfnDownKernel.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x2816, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== FfnDownReferenceIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== SsmGluKernel.lean ====
abbrev S4096x512 : Shape := ⟨2, ![4096, 512]⟩
abbrev S512x512 : Shape := ⟨2, ![512, 512]⟩
abbrev S512 : Shape := ⟨1, ![512]⟩
abbrev S4096x1024 : Shape := ⟨2, ![4096, 1024]⟩
abbrev S1x512 : Shape := ⟨2, ![1, 512]⟩
abbrev S512x1 : Shape := ⟨2, ![512, 1]⟩

abbrev nBuf : Space → Nat
  | .hbm => 13
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S4096x1024, .f32⟩
  | .hbm, ⟨5, _⟩ => ⟨S4096x1024, .bf16⟩
  | .hbm, ⟨6, _⟩ => ⟨S512x512, .bf16⟩
  | .hbm, ⟨7, _⟩ => ⟨S1x512, .f32⟩
  | .hbm, ⟨8, _⟩ => ⟨S1x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .f32⟩
  | .local _ .vmem, ⟨4, _⟩ => ⟨S512x512, .f32⟩
  | .local _ .vmem, ⟨5, _⟩ => ⟨S1x512, .f32⟩
  | .local _ .vmem, ⟨6, _⟩ => ⟨S1x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== SsmGluReferenceIdeal.lean ====
abbrev S4096x512 : Shape := ⟨2, ![4096, 512]⟩
abbrev S512x512 : Shape := ⟨2, ![512, 512]⟩
abbrev S512 : Shape := ⟨1, ![512]⟩
abbrev S4096x1024 : Shape := ⟨2, ![4096, 1024]⟩
abbrev S_ : Shape := ⟨0, ![]⟩
abbrev S1x512 : Shape := ⟨2, ![1, 512]⟩
abbrev S4096 : Shape := ⟨1, ![4096]⟩
abbrev S4096x1 : Shape := ⟨2, ![4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S4096x1024, .f32⟩
  | .hbm, ⟨5, _⟩ => ⟨S4096x512, .f32⟩
  | .hbm, ⟨6, _⟩ => ⟨S4096x512, .f32⟩
  | .hbm, ⟨7, _⟩ => ⟨S_, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S1x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S_, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x512, .f32⟩
  | .hbm, ⟨48, _⟩ => ⟨S4096x512, .f32⟩
  | .hbm, ⟨49, _⟩ => ⟨S1x512, .f32⟩
  | .hbm, ⟨50, _⟩ => ⟨S4096x512, .f32⟩
  | .hbm, ⟨51, _⟩ => ⟨S4096x512, .f32⟩
  | .hbm, ⟨52, _⟩ => ⟨S4096x1024, .f32⟩
  | .hbm, ⟨53, _⟩ => ⟨S4096x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== WOutKernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== WOutReferenceIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== PleGateKernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== PleGateReferenceIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== RopeKernel.lean ====
abbrev S4096 : Shape := ⟨1, ![4096]⟩
abbrev S4096x2048 : Shape := ⟨2, ![4096, 2048]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x8x64 : Shape := ⟨4, ![1, 4096, 8, 64]⟩
abbrev S4096x512 : Shape := ⟨2, ![4096, 512]⟩
abbrev S1024x2048 : Shape := ⟨2, ![1024, 2048]⟩
abbrev S256x8192 : Shape := ⟨2, ![256, 8192]⟩
abbrev S512x512 : Shape := ⟨2, ![512, 512]⟩
abbrev S128x2048 : Shape := ⟨2, ![128, 2048]⟩
abbrev S32x8192 : Shape := ⟨2, ![32, 8192]⟩
abbrev S4x512x128 : Shape := ⟨3, ![4, 512, 128]⟩
abbrev S512x128 : Shape := ⟨2, ![512, 128]⟩
abbrev S1x512x128 : Shape := ⟨3, ![1, 512, 128]⟩
abbrev S128x128 : Shape := ⟨2, ![128, 128]⟩
abbrev S32x128 : Shape := ⟨2, ![32, 128]⟩

abbrev nBuf : Space → Nat
  | .hbm => 46
  | .vmem => 31
  | .smem => 0
  | _ => 0

abbrev bufTy : (tb : Table) → Fin (tcTables nBuf tb) → BufTy
  | .hbm, ⟨0, _⟩ => ⟨S4096, .i32⟩
  | .hbm, ⟨1, _⟩ => ⟨S4096x2048, .f32⟩
  | .hbm, ⟨2, _⟩ => ⟨S8, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S4096, .f32⟩
  | .hbm, ⟨11, _⟩ => ⟨S4096x1, .f32⟩
  | .hbm, ⟨12, _⟩ => ⟨S1x8, .f32⟩
  | .hbm, ⟨13, _⟩ => ⟨S4096x8, .f32⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S_, .f32⟩
  | .hbm, ⟨19, _⟩ => ⟨S4096x48, .f32⟩
  | .hbm, ⟨20, _⟩ => ⟨S_, .f32⟩
  | .hbm, ⟨21, _⟩ => ⟨S4096x8, .f32⟩
  | .hbm, ⟨22, _⟩ => ⟨S_, .f32⟩
  | .hbm, ⟨23, _⟩ => ⟨S4096x48, .f32⟩
  | .hbm, ⟨24, _⟩ => ⟨S4096x64, .f32⟩
  | .hbm, ⟨25, _⟩ => ⟨S4096x64, .f32⟩
  | .hbm, ⟨26, _⟩ => ⟨S4096x8, .f32⟩
  | .hbm, ⟨27, _⟩ => ⟨S4096x64, .f32⟩
  | .hbm, ⟨28, _⟩ => ⟨S1x4096x1x64, .f32⟩
  | .hbm, ⟨29, _⟩ => ⟨S1x4096x8x64, .f32⟩
  | .hbm, ⟨30, _⟩ => ⟨S4096x512, .f32⟩
  | .hbm, ⟨31, _⟩ => ⟨S1x4096x1x64, .f32⟩
  | .hbm, ⟨32, _⟩ => ⟨S1x4096x8x64, .f32⟩
  | .hbm, ⟨33, _⟩ => ⟨S4096x512, .f32⟩
  | .hbm, ⟨34, _⟩ => ⟨S1x4096x1x64, .f32⟩
  | .hbm, ⟨35, _⟩ => ⟨S1x4096x8x64, .f32⟩
  | .hbm, ⟨36, _⟩ => ⟨S4096x512, .f32⟩
  | .hbm, ⟨37, _⟩ => ⟨S4096x512, .bf16⟩
  | .hbm, ⟨38, _⟩ => ⟨S4096x512, .bf16⟩
  | .hbm, ⟨39, _⟩ => ⟨S4096x512, .bf16⟩
  | .hbm, ⟨40, _⟩ => ⟨S1024x2048, .bf16⟩
  | .hbm, ⟨41, _⟩ => ⟨S1024x2048, .bf16⟩
  | .hbm, ⟨42, _⟩ => ⟨S1024x2048, .bf16⟩
  | .hbm, ⟨43, _⟩ => ⟨S256x8192, .bf16⟩
  | .hbm, ⟨44, _⟩ => ⟨S256x8192, .bf16⟩
  | .hbm, ⟨45, _⟩ => ⟨S256x8192, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S128x2048, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .bf16⟩
  | .local _ .vmem, ⟨22, _⟩ => ⟨S128x2048, .bf16⟩
  | .local _ .vmem, ⟨23, _⟩ => ⟨S128x2048, .bf16⟩
  | .local _ .vmem, ⟨24, _⟩ => ⟨S32x8192, .bf16⟩
  | .local _ .vmem, ⟨25, _⟩ => ⟨S32x8192, .bf16⟩
  | .local _ .vmem, ⟨26, _⟩ => ⟨S32x8192, .bf16⟩
  | .local _ .vmem, ⟨27, _⟩ => ⟨S32x8192, .bf16⟩
  | .local _ .vmem, ⟨28, _⟩ => ⟨S32x8192, .bf16⟩
  | .local _ .vmem, ⟨29, _⟩ => ⟨S32x8192, .bf16⟩
  | .local _ .vmem, ⟨30, _⟩ => ⟨S4x512x128, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30_0 : Ref sig .tc := ⟨.hbm, 37, rfl⟩
abbrev main_v30_1 : Ref sig .tc := ⟨.hbm, 38, rfl⟩
abbrev main_v30_2 : Ref sig .tc := ⟨.hbm, 39, rfl⟩
abbrev main_v30_3 : Ref sig .tc := ⟨.hbm, 40, rfl⟩
abbrev main_v30_4 : Ref sig .tc := ⟨.hbm, 41, rfl⟩
abbrev main_v30_5 : Ref sig .tc := ⟨.hbm, 42, rfl⟩
abbrev main_v30_6 : Ref sig .tc := ⟨.hbm, 43, rfl⟩
abbrev main_v30_7 : Ref sig .tc := ⟨.hbm, 44, rfl⟩
abbrev main_v30_8 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x8192 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x8192 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x8192 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== RopeReferenceIdeal.lean ====
abbrev S4096 : Shape := ⟨1, ![4096]⟩
abbrev S4096x2048 : Shape := ⟨2, ![4096, 2048]⟩
abbrev S4096x512 : Shape := ⟨2, ![4096, 512]⟩
abbrev S1x4096x8x64 : Shape := ⟨4, ![1, 4096, 8, 64]⟩
abbrev S8 : Shape := ⟨1, ![8]⟩
abbrev S_ : Shape := ⟨0, ![]⟩
abbrev S1x4096x1x1 : Shape := ⟨4, ![1, 4096, 1, 1]⟩
abbrev S1x1x1x8 : Shape := ⟨4, ![1, 1, 1, 8]⟩
abbrev S1x4096x1x8 : Shape := ⟨4, ![1, 4096, 1, 8]⟩
abbrev S1x4096x8x8 : Shape := ⟨4, ![1, 4096, 8, 8]⟩
abbrev S1x4096x8x48 : Shape := ⟨4, ![1, 4096, 8, 48]⟩
abbrev S1024x2048 : Shape := ⟨2, ![1024, 2048]⟩
abbrev S256x8192 : Shape := ⟨2, ![256, 8192]⟩

abbrev nBuf : Space → Nat
  | .hbm => 79
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096x2048, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S1x4096x8x64, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S4096, .f32⟩
  | .hbm, ⟨16, _⟩ => ⟨S1x4096x1x1, .f32⟩
  | .hbm, ⟨17, _⟩ => ⟨S1x1x1x8, .f32⟩
  | .hbm, ⟨18, _⟩ => ⟨S1x4096x1x8, .f32⟩
  | .hbm, ⟨19, _⟩ => ⟨S1x4096x1x8, .f32⟩
  | .hbm, ⟨20, _⟩ => ⟨S1x4096x1x8, .f32⟩
  | .hbm, ⟨21, _⟩ => ⟨S1x4096x1x8, .f32⟩
  | .hbm, ⟨22, _⟩ => ⟨S1x4096x1x8, .f32⟩
  | .hbm, ⟨23, _⟩ => ⟨S1x4096x8x8, .f32⟩
  | .hbm, ⟨24, _⟩ => ⟨S1x4096x8x8, .f32⟩
  | .hbm, ⟨25, _⟩ => ⟨S1x4096x8x48, .f32⟩
  | .hbm, ⟨26, _⟩ => ⟨S1x4096x8x8, .f32⟩
  | .hbm, ⟨27, _⟩ => ⟨S1x4096x8x8, .f32⟩
  | .hbm, ⟨28, _⟩ => ⟨S1x4096x8x8, .f32⟩
  | .hbm, ⟨29, _⟩ => ⟨S1x4096x8x8, .f32⟩
  | .hbm, ⟨30, _⟩ => ⟨S1x4096x8x8, .f32⟩
  | .hbm, ⟨31, _⟩ => ⟨S1x4096x8x8, .f32⟩
  | .hbm, ⟨32, _⟩ => ⟨S1x4096x8x8, .f32⟩
  | .hbm, ⟨33, _⟩ => ⟨S1x4096x8x8, .f32⟩
  | .hbm, ⟨34, _⟩ => ⟨S1x4096x8x8, .f32⟩
  | .hbm, ⟨35, _⟩ => ⟨S1x4096x8x8, .f32⟩
  | .hbm, ⟨36, _⟩ => ⟨S1x4096x8x64, .f32⟩
  | .hbm, ⟨37, _⟩ => ⟨S1x4096x8x64, .bf16⟩
  | .hbm, ⟨38, _⟩ => ⟨S1x4096x8x64, .f32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S4096, .f32⟩
  | .hbm, ⟨48, _⟩ => ⟨S1x4096x1x1, .f32⟩
  | .hbm, ⟨49, _⟩ => ⟨S1x1x1x8, .f32⟩
  | .hbm, ⟨50, _⟩ => ⟨S1x4096x1x8, .f32⟩
  | .hbm, ⟨51, _⟩ => ⟨S1x4096x1x8, .f32⟩
  | .hbm, ⟨52, _⟩ => ⟨S1x4096x1x8, .f32⟩
  | .hbm, ⟨53, _⟩ => ⟨S1x4096x1x8, .f32⟩
  | .hbm, ⟨54, _⟩ => ⟨S1x4096x1x8, .f32⟩
  | .hbm, ⟨55, _⟩ => ⟨S1x4096x8x8, .f32⟩
  | .hbm, ⟨56, _⟩ => ⟨S1x4096x8x8, .f32⟩
  | .hbm, ⟨57, _⟩ => ⟨S1x4096x8x48, .f32⟩
  | .hbm, ⟨58, _⟩ => ⟨S1x4096x8x8, .f32⟩
  | .hbm, ⟨59, _⟩ => ⟨S1x4096x8x8, .f32⟩
  | .hbm, ⟨60, _⟩ => ⟨S1x4096x8x8, .f32⟩
  | .hbm, ⟨61, _⟩ => ⟨S1x4096x8x8, .f32⟩
  | .hbm, ⟨62, _⟩ => ⟨S1x4096x8x8, .f32⟩
  | .hbm, ⟨63, _⟩ => ⟨S1x4096x8x8, .f32⟩
  | .hbm, ⟨64, _⟩ => ⟨S1x4096x8x8, .f32⟩
  | .hbm, ⟨65, _⟩ => ⟨S1x4096x8x8, .f32⟩
  | .hbm, ⟨66, _⟩ => ⟨S1x4096x8x8, .f32⟩
  | .hbm, ⟨67, _⟩ => ⟨S1x4096x8x8, .f32⟩
  | .hbm, ⟨68, _⟩ => ⟨S1x4096x8x64, .f32⟩
  | .hbm, ⟨69, _⟩ => ⟨S1x4096x8x64, .bf16⟩
  | .hbm, ⟨70, _⟩ => ⟨S4096x512, .bf16⟩
  | .hbm, ⟨71, _⟩ => ⟨S4096x512, .bf16⟩
  | .hbm, ⟨72, _⟩ => ⟨S4096x512, .bf16⟩
  | .hbm, ⟨73, _⟩ => ⟨S1024x2048, .bf16⟩
  | .hbm, ⟨74, _⟩ => ⟨S1024x2048, .bf16⟩
  | .hbm, ⟨75, _⟩ => ⟨S1024x2048, .bf16⟩
  | .hbm, ⟨76, _⟩ => ⟨S256x8192, .bf16⟩
  | .hbm, ⟨77, _⟩ => ⟨S256x8192, .bf16⟩
  | .hbm, ⟨78, _⟩ => ⟨S256x8192, .bf16⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_cst_1 : Ref sig .tc := ⟨.hbm, 41, rfl⟩
abbrev main_v37 : Ref sig .tc := ⟨.hbm, 42, rfl⟩
abbrev main_v38 : Ref sig .tc := ⟨.hbm, 43, rfl⟩
abbrev main_cst_2 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩

abbrev nD : Nat := 1
abbrev τ : Topo := Topo.v7x

variable {F : FTy → Type} [FloatOps F]
-- ==== Proof.Attn.Run.lean ====
/- The run of the six regions of the attention's program: every array ends at the last valuation of the chain. -/
module

public import proofs.«01_k».proof.Proof.Gen.AttnKernelIdeal.Frame
public import Idealize.ShloMosaic.Lib.Pipeline.ValueKit

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.K.Attn

open Cert.AttnKernelIdeal Cert.AttnKernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with each array of the core at `W11`: the host's casts, then what the two
    pipelines leave. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => h)

/-- The four results and the arguments, by name. -/
theorem run_named : θ_run defs (onTc (τ := τ) (main (F := F))) ⟨m, fun _ => 0, ρ⟩ (fun r => ∀ c : Dev nD,
      r.2.mem ((c.tc : Thread nD τ).loc main_v37) = W11 m ρ c (Proc.devRef .tc main_v37)
      ∧ r.2.mem ((c.tc : Thread nD τ).loc main_v91) = W11 m ρ c (Proc.devRef .tc main_v91)
      ∧ r.2.mem ((c.tc : Thread nD τ).loc main_v100) = W11 m ρ c (Proc.devRef .tc main_v100)
      ∧ r.2.mem ((c.tc : Thread nD τ).loc main_v109) = W11 m ρ c (Proc.devRef .tc main_v109)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨h c _ (mem_uc main_v37 (by decide)), h c _ (mem_uc main_v91 (by decide)),
     h c _ (mem_uc main_v100 (by decide)), h c _ (mem_uc main_v109 (by decide)),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c)⟩)
    (run_main m ρ)

end Cert.K.Attn

end
-- ==== Proof.Attn.Block.lean ====
/- The two operations of a block of the banded attention, and of its gradient, on one pair of heads, as functions of
   the block's arrays: the printed bodies spell the same text once for every pair. -/
module

public import proofs.«01_k».proof.Proof.Gen.AttnKernelIdeal.Skeleton
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.K.Attn

open Cert.AttnKernelIdeal Cert.AttnKernelIdeal.Gen

variable {F : FTy → Type} [FloatOps F] [Named F]

/-- The keys a query of block `b` may see, of the block before and its own. -/
def band (b : BitVec 32) : IVec S128x256 1 :=
  andi (andi (cmpi .sge (iota .tc S128x256 32 [1] iota_S128x256_d1_w32) (iota .tc S128x256 32 [0] iota_S128x256_d0_w32))
      (cmpi .sle (iota .tc S128x256 32 [1] iota_S128x256_d1_w32)
        (addi (iota .tc S128x256 32 [0] iota_S128x256_d0_w32) (broadcast S128x256 128#32))))
    (ori (broadcast S128x256 (Scalar.xori (Scalar.cmpi .eq b 0#32) 1#1))
      (cmpi .sge (iota .tc S128x256 32 [1] iota_S128x256_d1_w32) (broadcast S128x256 128#32)))

/-- The lanes of the first or the second head of a pair. -/
def lanes : Bool → IVec S128x128 1
  | false => cmpi .slt (iota .tc S128x128 32 [1] iota_S128x128_d1_w32) (broadcast S128x128 64#32)
  | true => xori (cmpi .slt (iota .tc S128x128 32 [1] iota_S128x128_d1_w32) (broadcast S128x128 64#32))
      (constantI S128x128 1 1#1)

/-- The lanes of one head, zero on the other's. -/
def half (s : Bool) (t : FVec F S128x128 .bf16) : FVec F S128x128 .bf16 :=
  select (lanes s) t (broadcast S128x128 (Scalar.ofBits .bf16 0x0000#16))

/-- One head's products of queries and keys. -/
def dots (s : Bool) (q : FVec F S128x128 .bf16) (k : FVec F S256x128 .bf16) : FVec F S128x256 .f32 :=
  matmul dot_S128x128_S256x128_S128x256_1_1_0_0_n_n none (half s q) k (constant S128x256 .f32 0x00000000#32)

/-- The scores, the mask's constant where a key may not be seen. -/
def score (m : IVec S128x256 1) (s : Bool) (q : FVec F S128x128 .bf16) (k : FVec F S256x128 .bf16) : FVec F S128x256 .f32 :=
  select m (dots s q k) (broadcast S128x256 (Named.named κ "mask" 0xF149F2CA#32))

def rmax (t : FVec F S128x256 .f32) : FVec F S128x1 .f32 :=
  shapeCast S128x1 (multiReduction .maximumf [1] S128 t 0xFF800000#32 reduces_S128x256_S128 (.inl rfl) rfl) shapeCasts_S128_S128x1

def rexp (t : FVec F S128x256 .f32) : FVec F S128x256 .f32 :=
  exp (subf t (broadcastTo S128x256 (rmax t) broadcasts_S128x1_S128x256))

def rsum (t : FVec F S128x256 .f32) : FVec F S128x1 .f32 :=
  shapeCast S128x1 (multiReduction .add [1] S128 (rexp t) 0x00000000#32 reduces_S128x256_S128 (.inl rfl) rfl) shapeCasts_S128_S128x1

def headO (t : FVec F S128x256 .f32) (v : FVec F S256x128 .bf16) : FVec F S128x128 .f32 :=
  matmul dot_S128x256_S256x128_S128x128_1_0_0_1_n_n none
    (truncf .bf16 (divf (rexp t) (broadcastTo S128x256 (rsum t) broadcasts_S128x1_S128x256)) bitsLt_bf16_f32) v
    (constant S128x128 .f32 0x00000000#32)

def headL (t : FVec F S128x256 .f32) : FVec F S128x1 .f32 := addf (rmax t) (log (rsum t))

/-- A pair's outputs of the attention. -/
def pairO (m : IVec S128x256 1) (q : FVec F S128x128 .bf16) (k v : FVec F S256x128 .bf16) : FVec F S128x128 .f32 :=
  select (lanes false) (headO (score m false q k) v) (headO (score m true q k) v)

/-- A pair's logarithms of the sums, on every lane of its head. -/
def pairL (m : IVec S128x256 1) (q : FVec F S128x128 .bf16) (k : FVec F S256x128 .bf16) : FVec F S128x128 .f32 :=
  select (lanes false)
    (broadcastTo S128x128 (shapeCast S128x1 (headL (score m false q k)) shapeCasts_S128x1_S128x1) broadcasts_S128x1_S128x128)
    (broadcastTo S128x128 (shapeCast S128x1 (headL (score m true q k)) shapeCasts_S128x1_S128x1) broadcasts_S128x1_S128x128)

/-- One head's probabilities again, from the logarithm of the sum. -/
def prob (m : IVec S128x256 1) (s : Bool) (q : FVec F S128x128 .bf16) (k : FVec F S256x128 .bf16) (l : FVec F S128x1 .f32) :
    FVec F S128x256 .f32 :=
  select m (exp (subf (dots s q k) (broadcastTo S128x256 (shapeCast S128x1 l shapeCasts_S128x1_S128x1) broadcasts_S128x1_S128x256)))
    (broadcast S128x256 (Scalar.ofBits .f32 0x00000000#32))

/-- One head's sums over the lanes of the products of the gradient and the output. -/
def dcol (s : Bool) (p : FVec F S128x128 .f32) : FVec F S128x1 .f32 :=
  shapeCast S128x1 (multiReduction .add [1] S128
    (select (lanes s) p (broadcast S128x128 (Scalar.ofBits .f32 0x00000000#32))) 0x00000000#32 reduces_S128x128_S128 (.inl rfl) rfl)
    shapeCasts_S128_S128x1

/-- One head's gradient of the scores. -/
def dscore (m : IVec S128x256 1) (s : Bool) (q : FVec F S128x128 .bf16) (k v : FVec F S256x128 .bf16)
    (da : FVec F S128x128 .bf16) (p : FVec F S128x128 .f32) (l : FVec F S128x1 .f32) : FVec F S128x256 .f32 :=
  mulf (prob m s q k l)
    (subf (dots s da v) (broadcastTo S128x256 (dcol s p) broadcasts_S128x1_S128x256))

def headDq (m : IVec S128x256 1) (s : Bool) (q : FVec F S128x128 .bf16) (k v : FVec F S256x128 .bf16)
    (da : FVec F S128x128 .bf16) (p : FVec F S128x128 .f32) (l : FVec F S128x1 .f32) : FVec F S128x128 .f32 :=
  mulf (matmul dot_S128x256_S256x128_S128x128_1_0_0_1_n_n none (truncf .bf16 (dscore m s q k v da p l) bitsLt_bf16_f32) k
    (constant S128x128 .f32 0x00000000#32)) (broadcast S128x128 (Scalar.ofBits .f32 0x3E000000#32))

/-- One head's sums over the queries, by key and lane. -/
def back (s : Bool) (t : FVec F S128x256 .f32) (q : FVec F S128x128 .bf16) : FVec F S256x128 .f32 :=
  matmul dot_S128x256_S128x128_S256x128_0_0_1_1_n_n none (truncf .bf16 t bitsLt_bf16_f32) (half s q)
    (constant S256x128 .f32 0x00000000#32)

/-- A pair's gradient of the queries. -/
def pairDq (m : IVec S128x256 1) (q : FVec F S128x128 .bf16) (k v : FVec F S256x128 .bf16)
    (da : FVec F S128x128 .bf16) (p : FVec F S128x128 .f32) (l l' : FVec F S128x1 .f32) : FVec F S128x128 .bf16 :=
  truncf .bf16 (select (lanes false) (headDq m false q k v da p l) (headDq m true q k v da p l')) bitsLt_bf16_f32

/-- A pair's gradient of the keys: the block before, then its own. -/
def pairDk (m : IVec S128x256 1) (q : FVec F S128x128 .bf16) (k v : FVec F S256x128 .bf16)
    (da : FVec F S128x128 .bf16) (p : FVec F S128x128 .f32) (l l' : FVec F S128x1 .f32) : FVec F S256x128 .f32 :=
  addf (addf (broadcast S256x128 (Scalar.ofBits .f32 0x00000000#32)) (back false (dscore m false q k v da p l) q))
    (back true (dscore m true q k v da p l') q)

/-- A pair's gradient of the values: the block before, then its own. -/
def pairDv (m : IVec S128x256 1) (q : FVec F S128x128 .bf16) (k : FVec F S256x128 .bf16)
    (da : FVec F S128x128 .bf16) (l l' : FVec F S128x1 .f32) : FVec F S256x128 .f32 :=
  addf (addf (broadcast S256x128 (Scalar.ofBits .f32 0x00000000#32)) (back false (prob m false q k l) da))
    (back true (prob m true q k l') da)

end Cert.K.Attn

end
-- ==== Proof.Finite.lean ====
/- Finite entries: what a precondition `jnp.all(jnp.abs(x) < jnp.inf)` gives, and the sums and products of finite numbers. -/
module

public import Idealize.ShloMosaic.PureOps.Ideal
public import Idealize.ShloMosaic.Lib.Pointwise
public import Idealize.ShloMosaic.Lib.ReduceAll
public import Idealize.ShloMosaic.Lib.WordCmp
public import Idealize.ShloMosaic.Lib.Affine

@[expose] public section

noncomputable section

open Idealize.ShloMosaic Idealize.ShloMosaic.TcCoe Idealize.SL.Sem

namespace Cert.K

/-- The extended real `x` is a real number. -/
def IsReal (x : EReal) : Prop := ∃ r : ℝ, x = (r : EReal)

theorem isReal_coe (r : ℝ) : IsReal (r : EReal) := ⟨r, rfl⟩

theorem IsReal.add {x y : EReal} : IsReal x → IsReal y → IsReal (x + y) := by
  rintro ⟨a, rfl⟩ ⟨b, rfl⟩; exact ⟨a + b, by push_cast; rfl⟩

theorem IsReal.sub {x y : EReal} : IsReal x → IsReal y → IsReal (x - y) := by
  rintro ⟨a, rfl⟩ ⟨b, rfl⟩; exact ⟨a - b, by push_cast; rfl⟩

theorem IsReal.mul {x y : EReal} : IsReal x → IsReal y → IsReal (x * y) := by
  rintro ⟨a, rfl⟩ ⟨b, rfl⟩; exact ⟨a * b, by push_cast; rfl⟩

theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- The 32-bit pattern of infinity. -/
theorem ofBits_inf : Ideal.ofBits .f32 0x7F800000#32 = ⊤ := by
  simp [Ideal.ofBits, Ideal.ieee]

theorem isReal_of_abs_lt {x : EReal} (h : max x (-x) < ⊤) : IsReal x := by
  induction x using EReal.rec with
  | bot => simp at h
  | coe r => exact ⟨r, rfl⟩
  | top => simp at h

theorem andi_left {a b : BitVec 1} (h : IntOp.andi a b = 1#1) : a = 1#1 := by
  revert a b; decide
theorem andi_right {a b : BitVec 1} (h : IntOp.andi a b = 1#1) : b = 1#1 := by
  revert a b; decide

/-- The entries of an array of which `jnp.all(jnp.abs(x) < jnp.inf)` holds are real. -/
theorem isReal_of_all {s t v : Shape} {axes : List (Fin s.rank)} [Subsingleton t.Idx] (x : FVec Ideal s .f32) (d : Fin 0 → Fin s.rank)
    (hb : (⟨0, ![]⟩ : Shape).BroadcastsInDim s d) (init : v.Idx → BitVec 1) (h : s.ReducesTo axes t) (hu : 0 < v.numel) (j : t.Idx)
    (e : Host.reduce IntOp.andi (cmpf .olt (Host.absf x) (broadcastInDim s d hb (constant ⟨0, ![]⟩ .f32 0x7F800000#32))) init h hu j = 1#1)
    (i : s.Idx) : IsReal (x i) := by
  have := Host.reduce_andi_all _ init h hu j e i
  pointwise at this
  refine isReal_of_abs_lt ?_
  rw [ofBits_inf] at this
  by_contra hn
  rw [show decide ((FloatOps.absf (F := Ideal) (x i)) < (⊤ : EReal)) = false from decide_eq_false hn] at this
  exact absurd this (by decide)

end Cert.K

end
-- ==== Proof.Attn.Math.lean ====
/- Softmax over a masked row, its gradient, and the sums they are made of, over the reals and lifted to the extended
   reals. -/
module

public import proofs.«01_k».proof.Proof.Finite

@[expose] public section

noncomputable section

open Idealize.ShloMosaic

namespace Cert.K

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih]; push_cast; rfl

/-- Sums of real numbers, term by term. -/
theorem sum_eq_coe {ι : Type} (s : Finset ι) {x : ι → EReal} {f : ι → ℝ} (h : ∀ i, x i = ((f i : ℝ) : EReal)) :
    ∑ i ∈ s, x i = ((∑ i ∈ s, f i : ℝ) : EReal) := by
  rw [← coe_sum]; exact Finset.sum_congr rfl fun i _ => h i

theorem div_real {a b : ℝ} (h : b ≠ 0) : Ideal.div (a : EReal) (b : EReal) = ((a / b : ℝ) : EReal) := by
  rw [Ideal.div_coe h, ← EReal.coe_mul]; congr 1; rw [mul_one_div]

theorem log_real {a : ℝ} (h : 0 < a) : Ideal.log (a : EReal) = ((Real.log a : ℝ) : EReal) := by
  rw [Ideal.log_coe, if_neg (not_le.mpr h)]

namespace Attn

/-- A score's weight: the exponential where the key may be seen. -/
def ew (P : Prop) [Decidable P] (s : ℝ) : ℝ := if P then Real.exp s else 0

theorem ew_nonneg (P : Prop) [Decidable P] (s : ℝ) : 0 ≤ ew P s := by
  unfold ew; split
  · exact (Real.exp_pos s).le
  · exact le_refl _

section row

variable {κ : Type} [Fintype κ] (M : κ → Prop) [DecidablePred M] (s : κ → ℝ)

theorem ew_sum_pos (hne : ∃ j, M j) : 0 < ∑ j, ew (M j) (s j) := by
  obtain ⟨j, hj⟩ := hne
  refine Finset.sum_pos' (fun j _ => ew_nonneg _ _) ⟨j, Finset.mem_univ _, ?_⟩
  unfold ew; rw [if_pos hj]; exact Real.exp_pos _

/-- The greatest masked score is a real number where some key may be seen. -/
theorem max_real (t : κ → EReal) (h : ∀ j, t j = if M j then ((s j : ℝ) : EReal) else ⊥) (hne : ∃ j, M j) :
    ∃ μ : ℝ, Finset.fold max (⊥ : EReal) t Finset.univ = (μ : EReal) := by
  classical
  obtain ⟨j, hj⟩ := hne
  have htop : Finset.fold max (⊥ : EReal) t Finset.univ ≠ ⊤ := by
    refine ne_of_lt ((Finset.fold_max_lt (⊤ : EReal)).mpr ⟨bot_lt_top, fun x _ => ?_⟩)
    rw [h x]; split
    · exact EReal.coe_lt_top _
    · exact bot_lt_top
  have hbot : Finset.fold max (⊥ : EReal) t Finset.univ ≠ ⊥ := by
    have h1 : ((s j : ℝ) : EReal) ≤ Finset.fold max (⊥ : EReal) t Finset.univ :=
      (Finset.le_fold_max _).mpr (.inr ⟨j, Finset.mem_univ _, by rw [h j, if_pos hj]⟩)
    exact ne_of_gt (lt_of_lt_of_le (EReal.bot_lt_coe _) h1)
  exact ⟨_, (EReal.coe_toReal htop hbot).symm⟩

theorem exp_masked (P : Prop) [Decidable P] (s μ : ℝ) :
    Ideal.exp ((if P then ((s : ℝ) : EReal) else ⊥) - (μ : EReal)) = ((ew P s * Real.exp (-μ) : ℝ) : EReal) := by
  unfold ew
  split
  · rw [← EReal.coe_sub, Ideal.exp_coe, ← Real.exp_add, sub_eq_add_neg]
  · rw [EReal.bot_sub, Ideal.exp_bot, zero_mul, EReal.coe_zero]

/-- The logarithm of the sum of the exponentials, past the subtracted maximum. -/
theorem lse_real (hne : ∃ j, M j) (μ : ℝ) :
    (μ : EReal) + Ideal.log ((∑ j, ew (M j) (s j) * Real.exp (-μ) : ℝ) : EReal) = ((Real.log (∑ j, ew (M j) (s j)) : ℝ) : EReal) := by
  have hz := ew_sum_pos M s hne
  have he := Real.exp_pos (-μ)
  rw [← Finset.sum_mul, log_real (mul_pos hz he), Real.log_mul hz.ne' he.ne', Real.log_exp, ← EReal.coe_add]
  congr 1; ring

end row

/-- A sum over the lanes of a pair that is zero off one half is the sum over the half. -/
theorem sum_half (n : Bool) (f : ℕ → ℝ) :
    (∑ l : Fin 128, if l.val / 64 = n.toNat then f l.val else 0) = ∑ e : Fin 64, f (64 * n.toNat + e.val) := by
  rw [Fin.sum_univ_add (a := 64) (b := 64)]
  cases n
  · rw [Finset.sum_eq_zero (s := Finset.univ) (f := fun i : Fin 64 => if (Fin.natAdd 64 i).val / 64 = false.toNat then f (Fin.natAdd 64 i).val else 0)]
    · rw [add_zero]
      refine Finset.sum_congr rfl fun e _ => ?_
      rw [if_pos (by simp only [Fin.val_castAdd, Bool.toNat_false]; omega)]
      simp [Nat.add_comm]
    · intro e _
      rw [if_neg (by simp only [Fin.val_natAdd, Bool.toNat_false]; omega)]
  · rw [Finset.sum_eq_zero (s := Finset.univ) (f := fun i : Fin 64 => if (Fin.castAdd 64 i).val / 64 = true.toNat then f (Fin.castAdd 64 i).val else 0)]
    · rw [zero_add]
      refine Finset.sum_congr rfl fun e _ => ?_
      rw [if_pos (by simp only [Fin.val_natAdd, Bool.toNat_true]; omega)]
      simp [Nat.add_comm]
    · intro e _
      rw [if_neg (by simp only [Fin.val_castAdd, Bool.toNat_true]; omega)]

/-- The keys that query `i` of block `b` may see, of the 256 of the block before and its own. -/
def bandP (b i j : ℕ) : Prop := i ≤ j ∧ j ≤ i + 128 ∧ (b ≠ 0 ∨ 128 ≤ j)

instance (b i j : ℕ) : Decidable (bandP b i j) := by unfold bandP; infer_instance

theorem bandP_self (b : ℕ) (i : Fin 128) : ∃ j : Fin 256, bandP b i.val j.val :=
  ⟨⟨i.val + 128, by omega⟩, by unfold bandP; simp⟩

/-- The score of a key, of one head. -/
def sR (q k : ℕ → ℕ → ℝ) (s i j : ℕ) : ℝ := ∑ e : Fin 64, q i (64 * s + e.val) * k j (64 * s + e.val)

/-- The sum of the weights of a row. -/
def zR (b : ℕ) (q k : ℕ → ℕ → ℝ) (s i : ℕ) : ℝ := ∑ j : Fin 256, ew (bandP b i j.val) (sR q k s i j.val)

/-- The weighted sum of the values. -/
def nR (b : ℕ) (q k v : ℕ → ℕ → ℝ) (s i l : ℕ) : ℝ := ∑ j : Fin 256, ew (bandP b i j.val) (sR q k s i j.val) * v j.val l

theorem zR_pos (b : ℕ) (q k : ℕ → ℕ → ℝ) (s : ℕ) (i : Fin 128) : 0 < zR b q k s i.val :=
  ew_sum_pos (fun j : Fin 256 => bandP b i.val j.val) _ (bandP_self b i)

/-- A probability again, from the logarithm `lam s i` of the row's sum. -/
def pR (b : ℕ) (q k lam : ℕ → ℕ → ℝ) (s i j : ℕ) : ℝ := if bandP b i j then Real.exp (sR q k s i j - lam s i) else 0

/-- The gradient of a score; `p` holds the products of the output's gradient and the output. -/
def dR (b : ℕ) (q k v da p lam : ℕ → ℕ → ℝ) (s i j : ℕ) : ℝ :=
  pR b q k lam s i j * (sR da v s i j - ∑ e : Fin 64, p i (64 * s + e.val))

end Attn
end Cert.K

end
-- ==== Proof.Attn.Forward.lean ====
/- One pair of heads of a block of the attention, over real entries: the outputs and the logarithms of the sums. -/
module

public import proofs.«01_k».proof.Proof.Attn.Block
public import proofs.«01_k».proof.Proof.Attn.Math

@[expose] public section

set_option maxRecDepth 16384

noncomputable section

open Idealize.ShloMosaic Idealize.ShloMosaic.TcCoe Idealize.SL.Sem

namespace Cert.K.Attn

open Cert.AttnKernelIdeal Cert.AttnKernelIdeal.Gen

theorem mask_bot : Named.named (F := Ideal) κ "mask" (φ := .f32) 0xF149F2CA#32 = (⊥ : EReal) := rfl

theorem ofBits_ninf : Ideal.ofBits .f32 0xFF800000#32 = ⊥ := by simp [Ideal.ofBits, Ideal.ieee]

theorem ofBool_if (p : Prop) [Decidable p] : BitVec.ofBool (decide p) = if p then 1#1 else 0#1 := by
  by_cases h : p <;> simp [h]

theorem word_le (i : Fin 128) (j : Fin 256) :
    IntOp.cmpi .sge (BitVec.ofNat 32 j.val) (BitVec.ofNat 32 i.val) = if i.val ≤ j.val then 1#1 else 0#1 := by
  rw [WordCmp.cmpi_sge_ofNat (by omega) (by omega), ofBool_if]
theorem word_far (i : Fin 128) (j : Fin 256) :
    IntOp.cmpi .sle (BitVec.ofNat 32 j.val) (IntOp.addi (BitVec.ofNat 32 i.val) 128#32) = if j.val ≤ i.val + 128 then 1#1 else 0#1 := by
  rw [show IntOp.addi (BitVec.ofNat 32 i.val) 128#32 = BitVec.ofNat 32 (i.val + 128) from (BitVec.ofNat_add ..).symm,
    WordCmp.cmpi_sle_ofNat (by omega) (by omega), ofBool_if]
theorem word_own (j : Fin 256) : IntOp.cmpi .sge (BitVec.ofNat 32 j.val) 128#32 = if 128 ≤ j.val then 1#1 else 0#1 := by
  rw [WordCmp.cmpi_sge_ofNat (by omega) (by omega), ofBool_if]
theorem word_first : ∀ b : Fin 32, Scalar.xori (Scalar.cmpi .eq (BitVec.ofNat 32 b.val) 0#32) 1#1 = if b.val ≠ 0 then 1#1 else 0#1 := by
  decide +kernel
theorem word_lane : ∀ l : Fin 128, IntOp.cmpi .slt (BitVec.ofNat 32 l.val) 64#32 = if l.val / 64 = 0 then 1#1 else 0#1 := by
  decide +kernel

theorem and_if (p q : Prop) [Decidable p] [Decidable q] :
    IntOp.andi (if p then 1#1 else 0#1) (if q then 1#1 else 0#1) = if p ∧ q then 1#1 else (0#1 : BitVec 1) := by
  by_cases hp : p <;> by_cases hq : q <;> simp [hp, hq, IntOp.andi]
theorem or_if (p q : Prop) [Decidable p] [Decidable q] :
    IntOp.ori (if p then 1#1 else 0#1) (if q then 1#1 else 0#1) = if p ∨ q then 1#1 else (0#1 : BitVec 1) := by
  by_cases hp : p <;> by_cases hq : q <;> simp [hp, hq, IntOp.ori]
theorem select_if {α : Type} (p : Prop) [Decidable p] (x y : α) :
    Scalar.select (if p then 1#1 else 0#1) x y = if p then x else y := by
  by_cases hp : p <;> simp [hp, Scalar.select]

theorem band_apply (b : ℕ) (hb : b < 32) (i : Fin 128) (j : Fin 256) :
    band (BitVec.ofNat 32 b) (ix2 i j) = if bandP b i.val j.val then 1#1 else 0#1 := by
  pointwise [band]
  rw [word_le, word_far, word_own, word_first ⟨b, hb⟩, and_if, or_if, and_if]
  unfold bandP
  simp only [and_assoc]

theorem lanes_apply (s : Bool) (i l : Fin 128) : lanes s (ix2 i l) = if l.val / 64 = s.toNat then 1#1 else 0#1 := by
  cases s
  · pointwise [lanes]; rw [word_lane]; rfl
  · pointwise [lanes]; rw [word_lane]; revert l; decide +kernel

variable {q k v : ℕ → ℕ → ℝ} {Q : FVec Ideal S128x128 .bf16} {K V : FVec Ideal S256x128 .bf16}

theorem dots_real (hq : ∀ i l, Q (ix2 i l) = ((q i.val l.val : ℝ) : EReal)) (hk : ∀ j l, K (ix2 j l) = ((k j.val l.val : ℝ) : EReal))
    (s : Bool) (i : Fin 128) (j : Fin 256) : dots s Q K (ix2 i j) = ((sR q k s.toNat i.val j.val : ℝ) : EReal) := by
  pointwise [dots, half]
  refine (sum_eq_coe _ (f := fun l : Fin 128 => if l.val / 64 = s.toNat then q i.val l.val * k j.val l.val else 0) fun l => ?_).trans ?_
  · rw [lanes_apply, select_if, hq, hk]
    split
    · push_cast; rfl
    · rfl
  · rw [sum_half s (fun l => q i.val l * k j.val l)]; rfl

theorem score_real (hq : ∀ i l, Q (ix2 i l) = ((q i.val l.val : ℝ) : EReal)) (hk : ∀ j l, K (ix2 j l) = ((k j.val l.val : ℝ) : EReal))
    (b : ℕ) (hb : b < 32) (s : Bool) (i : Fin 128) (j : Fin 256) :
    score (band (BitVec.ofNat 32 b)) s Q K (ix2 i j) = if bandP b i.val j.val then ((sR q k s.toNat i.val j.val : ℝ) : EReal) else ⊥ := by
  pointwise [score]
  rw [band_apply b hb, select_if, dots_real hq hk, mask_bot]

theorem rmax_apply (t : FVec Ideal S128x256 .f32) (i : Fin 128) (j : Fin 1) :
    rmax t (ix2 i j) = Finset.fold max (⊥ : EReal) (fun x => t (ix2 i x)) Finset.univ := by
  have h := ofBits_ninf
  rw [← h]
  pointwise [rmax]

section head
variable {b : ℕ} {n : ℕ} {t : FVec Ideal S128x256 .f32} {i : Fin 128}
    (ht : ∀ j : Fin 256, t (ix2 i j) = if bandP b i.val j.val then ((sR q k n i.val j.val : ℝ) : EReal) else ⊥)
include ht

theorem row_real : ∃ μ : ℝ, rmax t (ix2 i 0) = (μ : EReal)
    ∧ (∀ j : Fin 256, rexp t (ix2 i j) = ((ew (bandP b i.val j.val) (sR q k n i.val j.val) * Real.exp (-μ) : ℝ) : EReal))
    ∧ rsum t (ix2 i 0) = ((zR b q k n i.val * Real.exp (-μ) : ℝ) : EReal) := by
  obtain ⟨μ, hμ⟩ := max_real (fun j : Fin 256 => bandP b i.val j.val) (fun j => sR q k n i.val j.val)
    (fun j => t (ix2 i j)) ht (bandP_self b i)
  have hm : rmax t (ix2 i 0) = (μ : EReal) := by
    rw [← hμ, rmax_apply]
  have he : ∀ j : Fin 256, rexp t (ix2 i j) = ((ew (bandP b i.val j.val) (sR q k n i.val j.val) * Real.exp (-μ) : ℝ) : EReal) := by
    intro j
    pointwise [rexp]
    rw [hm, ht j, exp_masked]
  refine ⟨μ, hm, he, ?_⟩
  pointwise [rsum]
  rw [sum_eq_coe _ he, ← Finset.sum_mul]; rfl

theorem headO_real (hv : ∀ j l, V (ix2 j l) = ((v j.val l.val : ℝ) : EReal)) (l : Fin 128) :
    headO t V (ix2 i l) = ((nR b q k v n i.val l.val / zR b q k n i.val : ℝ) : EReal) := by
  obtain ⟨μ, hm, he, hs⟩ := row_real ht
  have hz := zR_pos b q k n i
  have hx := Real.exp_pos (-μ)
  pointwise [headO]
  refine (sum_eq_coe _ (f := fun j : Fin 256 => ew (bandP b i.val j.val) (sR q k n i.val j.val) * v j.val l.val / zR b q k n i.val) fun j => ?_).trans ?_
  · refine (Ideal.mul_congr ((congrArg₂ Ideal.div (he j) hs).trans (div_real (mul_pos hz hx).ne')) (hv j l)).trans ?_
    rw [← EReal.coe_mul]
    refine congrArg _ ?_
    rw [mul_div_mul_right _ _ hx.ne', div_mul_eq_mul_div]
  · rw [← Finset.sum_div]; rfl

theorem headL_real : headL t (ix2 i 0) = ((Real.log (zR b q k n i.val) : ℝ) : EReal) := by
  obtain ⟨μ, hm, he, hs⟩ := row_real ht
  pointwise [headL]
  rw [hm, hs]
  refine Eq.trans ?_ (lse_real (fun j : Fin 256 => bandP b i.val j.val) (fun j => sR q k n i.val j.val) (bandP_self b i) μ)
  rw [← Finset.sum_mul]; rfl
end head

/-- A pair's outputs. -/
theorem pairO_real (hq : ∀ i l, Q (ix2 i l) = ((q i.val l.val : ℝ) : EReal)) (hk : ∀ j l, K (ix2 j l) = ((k j.val l.val : ℝ) : EReal))
    (hv : ∀ j l, V (ix2 j l) = ((v j.val l.val : ℝ) : EReal)) (b : ℕ) (hb : b < 32) (i l : Fin 128) :
    pairO (band (BitVec.ofNat 32 b)) Q K V (ix2 i l)
      = ((nR b q k v (l.val / 64) i.val l.val / zR b q k (l.val / 64) i.val : ℝ) : EReal) := by
  pointwise [pairO]
  rw [lanes_apply, select_if, headO_real (fun j => score_real hq hk b hb false i j) hv, headO_real (fun j => score_real hq hk b hb true i j) hv]
  have hl : l.val / 64 = 0 ∨ l.val / 64 = 1 := by omega
  rcases hl with h | h <;> rw [h] <;> rfl

/-- A pair's logarithms of the sums. -/
theorem pairL_real (hq : ∀ i l, Q (ix2 i l) = ((q i.val l.val : ℝ) : EReal)) (hk : ∀ j l, K (ix2 j l) = ((k j.val l.val : ℝ) : EReal))
    (b : ℕ) (hb : b < 32) (i l : Fin 128) :
    pairL (band (BitVec.ofNat 32 b)) Q K (ix2 i l) = ((Real.log (zR b q k (l.val / 64) i.val) : ℝ) : EReal) := by
  pointwise [pairL]
  rw [lanes_apply, select_if, headL_real (fun j => score_real hq hk b hb false i j), headL_real (fun j => score_real hq hk b hb true i j)]
  have hl : l.val / 64 = 0 ∨ l.val / 64 = 1 := by omega
  rcases hl with h | h <;> rw [h] <;> rfl

end Cert.K.Attn

end
-- ==== Proof.Attn.Backward.lean ====
/- One pair of heads of a block of the attention's gradient, over real entries. -/
module

public import proofs.«01_k».proof.Proof.Attn.Forward

@[expose] public section

set_option maxRecDepth 16384

noncomputable section

open Idealize.ShloMosaic Idealize.ShloMosaic.TcCoe Idealize.SL.Sem

namespace Cert.K.Attn

open Cert.AttnKernelIdeal Cert.AttnKernelIdeal.Gen

theorem ofBits_eighth : Ideal.ofBits .f32 0x3E000000#32 = (((1 / 8 : ℝ)) : EReal) := by
  simp [Ideal.ofBits, Ideal.ieee, -EReal.coe_mul]; norm_num
theorem ofBits_eighth_bf16 : Ideal.ofBits .bf16 0x3E00#16 = (((1 / 8 : ℝ)) : EReal) := by
  simp [Ideal.ofBits, Ideal.ieee, -EReal.coe_mul]; norm_num

variable {q k v da p lam : ℕ → ℕ → ℝ} {Q DA : FVec Ideal S128x128 .bf16} {K V : FVec Ideal S256x128 .bf16}
  {P : FVec Ideal S128x128 .f32} {L L' : FVec Ideal S128x1 .f32}

theorem prob_real (hq : ∀ i l, Q (ix2 i l) = ((q i.val l.val : ℝ) : EReal)) (hk : ∀ j l, K (ix2 j l) = ((k j.val l.val : ℝ) : EReal))
    (b : ℕ) (hb : b < 32) (s : Bool) (hl : ∀ i, L (ix2 i 0) = ((lam s.toNat i.val : ℝ) : EReal)) (i : Fin 128) (j : Fin 256) :
    prob (band (BitVec.ofNat 32 b)) s Q K L (ix2 i j) = ((pR b q k lam s.toNat i.val j.val : ℝ) : EReal) := by
  pointwise [prob]
  rw [band_apply b hb, select_if]
  unfold pR
  split
  · refine (congrArg₂ (fun x y : EReal => Ideal.exp (x - y)) (dots_real hq hk s i j) (hl i)).trans ?_
    rw [← EReal.coe_sub, Ideal.exp_coe]
  · rfl

theorem dcol_real (hp : ∀ i l, P (ix2 i l) = ((p i.val l.val : ℝ) : EReal)) (s : Bool) (i : Fin 128) :
    dcol s P (ix2 i 0) = ((∑ e : Fin 64, p i.val (64 * s.toNat + e.val) : ℝ) : EReal) := by
  pointwise [dcol]
  refine (sum_eq_coe _ (f := fun l : Fin 128 => if l.val / 64 = s.toNat then p i.val l.val else 0) fun l => ?_).trans ?_
  · rw [lanes_apply, select_if, hp]
    split
    · rfl
    · rfl
  · rw [sum_half s (fun l => p i.val l)]

section pair
variable (hq : ∀ i l, Q (ix2 i l) = ((q i.val l.val : ℝ) : EReal)) (hk : ∀ j l, K (ix2 j l) = ((k j.val l.val : ℝ) : EReal))
    (hv : ∀ j l, V (ix2 j l) = ((v j.val l.val : ℝ) : EReal)) (hda : ∀ i l, DA (ix2 i l) = ((da i.val l.val : ℝ) : EReal))
    (hp : ∀ i l, P (ix2 i l) = ((p i.val l.val : ℝ) : EReal)) (b : ℕ) (hb : b < 32)
include hq hk hv hda hp hb

theorem dscore_real (s : Bool) (hl : ∀ i, L (ix2 i 0) = ((lam s.toNat i.val : ℝ) : EReal)) (i : Fin 128) (j : Fin 256) :
    dscore (band (BitVec.ofNat 32 b)) s Q K V DA P L (ix2 i j) = ((dR b q k v da p lam s.toNat i.val j.val : ℝ) : EReal) := by
  pointwise [dscore]
  refine (Ideal.mul_congr (prob_real hq hk b hb s hl i j)
    (congrArg₂ (fun x y : EReal => x - y) (dots_real hda hv s i j) (dcol_real hp s i))).trans ?_
  rw [← EReal.coe_sub, ← EReal.coe_mul]; rfl

theorem headDq_real (s : Bool) (hl : ∀ i, L (ix2 i 0) = ((lam s.toNat i.val : ℝ) : EReal)) (i l : Fin 128) :
    headDq (band (BitVec.ofNat 32 b)) s Q K V DA P L (ix2 i l)
      = (((∑ j : Fin 256, dR b q k v da p lam s.toNat i.val j.val * k j.val l.val) * (1 / 8) : ℝ) : EReal) := by
  pointwise [headDq]
  refine (Ideal.mul_congr (sum_eq_coe _ (f := fun j : Fin 256 => dR b q k v da p lam s.toNat i.val j.val * k j.val l.val) fun j => ?_)
    ofBits_eighth).trans ?_
  · refine (Ideal.mul_congr (dscore_real hq hk hv hda hp b hb s hl i j) (hk j l)).trans ?_
    rw [← EReal.coe_mul]
  · rw [← EReal.coe_mul]
end pair

/-- A head's sums over the queries, zero on the lanes of the other head. -/
theorem back_real {T : FVec Ideal S128x256 .f32} {t : ℕ → ℕ → ℝ} (ht : ∀ i j, T (ix2 i j) = ((t i.val j.val : ℝ) : EReal))
    (hq : ∀ i l, Q (ix2 i l) = ((q i.val l.val : ℝ) : EReal)) (s : Bool) (j : Fin 256) (l : Fin 128) :
    back s T Q (ix2 j l) = ((if l.val / 64 = s.toNat then ∑ i : Fin 128, t i.val j.val * q i.val l.val else 0 : ℝ) : EReal) := by
  pointwise [back, half]
  refine (sum_eq_coe _ (f := fun i : Fin 128 => if l.val / 64 = s.toNat then t i.val j.val * q i.val l.val else 0) fun i => ?_).trans ?_
  · rw [lanes_apply, select_if, ht, hq]
    split
    · push_cast; rfl
    · rfl
  · split <;> simp

theorem pair_sum {l : Fin 128} (f : ℕ → ℝ) :
    (0 : ℝ) + (if l.val / 64 = false.toNat then f 0 else 0) + (if l.val / 64 = true.toNat then f 1 else 0) = f (l.val / 64) := by
  have hl : l.val / 64 = 0 ∨ l.val / 64 = 1 := by omega
  rcases hl with h | h <;> rw [h] <;> simp

section pairs
variable (hq : ∀ i l, Q (ix2 i l) = ((q i.val l.val : ℝ) : EReal)) (hk : ∀ j l, K (ix2 j l) = ((k j.val l.val : ℝ) : EReal))
    (hv : ∀ j l, V (ix2 j l) = ((v j.val l.val : ℝ) : EReal)) (hda : ∀ i l, DA (ix2 i l) = ((da i.val l.val : ℝ) : EReal))
    (hp : ∀ i l, P (ix2 i l) = ((p i.val l.val : ℝ) : EReal)) (b : ℕ) (hb : b < 32)
    (hl : ∀ i, L (ix2 i 0) = ((lam 0 i.val : ℝ) : EReal)) (hl' : ∀ i, L' (ix2 i 0) = ((lam 1 i.val : ℝ) : EReal))
include hq hk hda hb hl hl'

/-- A pair's gradient of the values. -/
theorem pairDv_real (j : Fin 256) (l : Fin 128) :
    pairDv (band (BitVec.ofNat 32 b)) Q K DA L L' (ix2 j l)
      = ((∑ i : Fin 128, pR b q k lam (l.val / 64) i.val j.val * da i.val l.val : ℝ) : EReal) := by
  pointwise [pairDv]
  rw [back_real (t := fun i j => pR b q k lam 0 i j) (fun i j => prob_real hq hk b hb false hl i j) hda,
    back_real (t := fun i j => pR b q k lam 1 i j) (fun i j => prob_real hq hk b hb true hl' i j) hda]
  rw [← pair_sum (l := l) (fun n => ∑ i : Fin 128, pR b q k lam n i.val j.val * da i.val l.val)]
  push_cast; simp

include hv hp

/-- A pair's gradient of the queries. -/
theorem pairDq_real (i l : Fin 128) :
    pairDq (band (BitVec.ofNat 32 b)) Q K V DA P L L' (ix2 i l)
      = (((∑ j : Fin 256, dR b q k v da p lam (l.val / 64) i.val j.val * k j.val l.val) * (1 / 8) : ℝ) : EReal) := by
  pointwise [pairDq]
  rw [lanes_apply, select_if, headDq_real hq hk hv hda hp b hb false hl, headDq_real hq hk hv hda hp b hb true hl']
  have hl : l.val / 64 = 0 ∨ l.val / 64 = 1 := by omega
  rcases hl with h | h <;> rw [h] <;> rfl

/-- A pair's gradient of the keys. -/
theorem pairDk_real (j : Fin 256) (l : Fin 128) :
    pairDk (band (BitVec.ofNat 32 b)) Q K V DA P L L' (ix2 j l)
      = ((∑ i : Fin 128, dR b q k v da p lam (l.val / 64) i.val j.val * q i.val l.val : ℝ) : EReal) := by
  pointwise [pairDk]
  rw [back_real (t := fun i j => dR b q k v da p lam 0 i j) (fun i j => dscore_real hq hk hv hda hp b hb false hl i j) hq,
    back_real (t := fun i j => dR b q k v da p lam 1 i j) (fun i j => dscore_real hq hk hv hda hp b hb true hl' i j) hq]
  rw [← pair_sum (l := l) (fun n => ∑ i : Fin 128, dR b q k v da p lam n i.val j.val * q i.val l.val)]
  push_cast; simp
end pairs

end Cert.K.Attn

end
-- ==== Proof.Attn.Slices.lean ====
/- The blocks' columns of one pair of heads, and the blocks' results as the four pairs' results side by side. -/
module

public import proofs.«01_k».proof.Proof.Attn.Backward

@[expose] public section

set_option maxRecDepth 16384

noncomputable section

open Idealize.ShloMosaic Idealize.ShloMosaic.TcCoe Idealize.SL.Sem

namespace Cert.K.Attn

open Cert.AttnKernelIdeal Cert.AttnKernelIdeal.Gen

section defs
variable {F : FTy → Type} [FloatOps F] [Named F]

/-- The queries of a pair, scaled. -/
def qP (c : ℕ) (h : S128x512.Slices ![0, c] S128x128) (x : Vec F S128x512 .bf16) : FVec F S128x128 .bf16 :=
  mulf (extractStridedSlice S128x128 ![0, c] (shapeCast S128x512 x shapeCasts_S128x512_S128x512 : FVec F S128x512 .bf16) h)
    (broadcast S128x128 (Scalar.ofBits .bf16 0x3E00#16))

/-- The keys or the values of a pair: the block before, then its own. -/
def kP (c : ℕ) (h : S256x512.Slices ![0, c] S256x128) (x y : Vec F S128x512 .bf16) : FVec F S256x128 .bf16 :=
  extractStridedSlice S256x128 ![0, c] (concatenate S256x512 0 [⟨S128x512, (shapeCast S128x512 x shapeCasts_S128x512_S128x512 : FVec F S128x512 .bf16)⟩,
    ⟨S128x512, (shapeCast S128x512 y shapeCasts_S128x512_S128x512 : FVec F S128x512 .bf16)⟩] concatenates_S128x512_S128x512_S256x512_d0) h

end defs

/-- Four tiles side by side. -/
def tiles4 {F : FTy → Type} [FloatOps F] {e : EltTy} (p0 p1 p2 p3 : Vec F S128x128 e) : Vec F S128x512 e :=
  View.canon [⟨Rect.unit (s := S128x512) ![0, 384] S128x128.size inb_S128x512_S128x128_0_384, p3⟩,
    ⟨Rect.unit (s := S128x512) ![0, 256] S128x128.size inb_S128x512_S128x128_0_256, p2⟩,
    ⟨Rect.unit (s := S128x512) ![0, 128] S128x128.size inb_S128x512_S128x128_0_128, p1⟩,
    ⟨Rect.unit (s := S128x512) ![0, 0] S128x128.size inb_S128x512_S128x128_0_0, p0⟩]

theorem tiles4_apply {e : EltTy} {p0 p1 p2 p3 : Vec Ideal S128x128 e} (g : ℕ → ℕ → Elt Ideal e)
    (w0 : ∀ i l : Fin 128, p0 (ix2 i l) = g i.val (0 + l.val)) (w1 : ∀ i l : Fin 128, p1 (ix2 i l) = g i.val (128 + l.val))
    (w2 : ∀ i l : Fin 128, p2 (ix2 i l) = g i.val (256 + l.val)) (w3 : ∀ i l : Fin 128, p3 (ix2 i l) = g i.val (384 + l.val))
    (i : Fin 128) (l : Fin 512) : tiles4 p0 p1 p2 p3 (ix2 i l) = g i.val l.val := by
  unfold tiles4
  canon_tiles x h
  · exact ((congrArg p3 (eq_ix2 x)).trans (w3 _ _)).trans (congrArg₂ g h0.symm h1.symm)
  · exact ((congrArg p2 (eq_ix2 x)).trans (w2 _ _)).trans (congrArg₂ g h0.symm h1.symm)
  · exact ((congrArg p1 (eq_ix2 x)).trans (w1 _ _)).trans (congrArg₂ g h0.symm h1.symm)
  · exact ((congrArg p0 (eq_ix2 x)).trans (w0 _ _)).trans (congrArg₂ g h0.symm ((Nat.zero_add _).trans h1.symm))

variable {a a' : ℕ → ℕ → ℝ} {x y : Vec Ideal S128x512 .bf16}

theorem qP_real (c : ℕ) (hc : c + 128 ≤ 512) (h : S128x512.Slices ![0, c] S128x128)
    (hx : ∀ (i : Fin 128) (l : Fin 512), x (ix2 i l) = ((a i.val l.val : ℝ) : EReal)) (i l : Fin 128) :
    qP c h x (ix2 i l) = ((a i.val (c + l.val) * (1 / 8) : ℝ) : EReal) := by
  pointwise [qP]
  rw [hx, ofBits_eighth_bf16, ← EReal.coe_mul]

theorem kP_real (c : ℕ) (hc : c + 128 ≤ 512) (h : S256x512.Slices ![0, c] S256x128)
    (hx : ∀ (i : Fin 128) (l : Fin 512), x (ix2 i l) = ((a i.val l.val : ℝ) : EReal))
    (hy : ∀ (i : Fin 128) (l : Fin 512), y (ix2 i l) = ((a' i.val l.val : ℝ) : EReal)) (j : Fin 256) (l : Fin 128) :
    kP c h x y (ix2 j l) = ((if j.val < 128 then a j.val (c + l.val) else a' (j.val - 128) (c + l.val) : ℝ) : EReal) := by
  pointwise [kP]
  split_ifs with h1 h2
  · rw [hx]
  · rw [hy]
  · exact absurd rfl h2

end Cert.K.Attn

end
-- ==== Proof.Attn.ForwardBlock.lean ====
/- The two results of a block of the attention in closed form, and that each of the three kernels computes them. -/
module

public import proofs.«01_k».proof.Proof.Attn.Slices
public import proofs.«01_k».proof.Proof.Gen.AttnKernelIdeal.Frame

@[expose] public section

set_option maxRecDepth 16384

noncomputable section

open Idealize.ShloMosaic Idealize.ShloMosaic.TcCoe Idealize.SL.Sem

namespace Cert.K.Attn

open Cert.AttnKernelIdeal Cert.AttnKernelIdeal.Gen

section defs
variable {F : FTy → Type} [FloatOps F] [Named F]

/-- The whole of a block's buffer, read. -/
def whole {e : EltTy} (x : Vec F S128x512 e) : Vec F S128x512 e := View.ld x r0_0

def fwdO (b : BitVec 32) (x0 x1 x2 x3 x4 : Vec F S128x512 .bf16) : Vec F S128x512 .f32 :=
  tiles4
    (pairO (band b) (qP 0 slices_S128x512_o0_0_S128x128 (whole x0)) (kP 0 slices_S256x512_o0_0_S256x128 (whole x1) (whole x2)) (kP 0 slices_S256x512_o0_0_S256x128 (whole x3) (whole x4)))
    (pairO (band b) (qP 128 slices_S128x512_o0_128_S128x128 (whole x0)) (kP 128 slices_S256x512_o0_128_S256x128 (whole x1) (whole x2)) (kP 128 slices_S256x512_o0_128_S256x128 (whole x3) (whole x4)))
    (pairO (band b) (qP 256 slices_S128x512_o0_256_S128x128 (whole x0)) (kP 256 slices_S256x512_o0_256_S256x128 (whole x1) (whole x2)) (kP 256 slices_S256x512_o0_256_S256x128 (whole x3) (whole x4)))
    (pairO (band b) (qP 384 slices_S128x512_o0_384_S128x128 (whole x0)) (kP 384 slices_S256x512_o0_384_S256x128 (whole x1) (whole x2)) (kP 384 slices_S256x512_o0_384_S256x128 (whole x3) (whole x4)))

def fwdL (b : BitVec 32) (x0 x1 x2 : Vec F S128x512 .bf16) : Vec F S128x512 .f32 :=
  tiles4
    (pairL (band b) (qP 0 slices_S128x512_o0_0_S128x128 (whole x0)) (kP 0 slices_S256x512_o0_0_S256x128 (whole x1) (whole x2)))
    (pairL (band b) (qP 128 slices_S128x512_o0_128_S128x128 (whole x0)) (kP 128 slices_S256x512_o0_128_S256x128 (whole x1) (whole x2)))
    (pairL (band b) (qP 256 slices_S128x512_o0_256_S128x128 (whole x0)) (kP 256 slices_S256x512_o0_256_S256x128 (whole x1) (whole x2)))
    (pairL (band b) (qP 384 slices_S128x512_o0_384_S128x128 (whole x0)) (kP 384 slices_S256x512_o0_384_S256x128 (whole x1) (whole x2)))

theorem out0_5_eq (i : grid0.Coords) (x0 x1 x2 x3 x4 : Vec F S128x512 .bf16) :
    out0_5 i x0 x1 x2 x3 x4 = fwdO (BitVec.ofNat 32 (i 1).val) x0 x1 x2 x3 x4 := rfl
theorem out0_6_eq (i : grid0.Coords) (x0 x1 x2 x3 x4 : Vec F S128x512 .bf16) :
    out0_6 i x0 x1 x2 x3 x4 = fwdL (BitVec.ofNat 32 (i 1).val) x0 x1 x2 := rfl
theorem out1_5_eq (i : grid1.Coords) (x0 x1 x2 x3 x4 : Vec F S128x512 .bf16) :
    out1_5 i x0 x1 x2 x3 x4 = fwdO (BitVec.ofNat 32 (i 1).val) x0 x1 x2 x3 x4 := rfl
theorem out1_6_eq (i : grid1.Coords) (x0 x1 x2 x3 x4 : Vec F S128x512 .bf16) :
    out1_6 i x0 x1 x2 x3 x4 = fwdL (BitVec.ofNat 32 (i 1).val) x0 x1 x2 := rfl
theorem out2_5_eq (i : grid2.Coords) (x0 x1 x2 x3 x4 : Vec F S128x512 .bf16) :
    out2_5 i x0 x1 x2 x3 x4 = fwdO (BitVec.ofNat 32 (i 1).val) x0 x1 x2 x3 x4 := rfl
theorem out2_6_eq (i : grid2.Coords) (x0 x1 x2 x3 x4 : Vec F S128x512 .bf16) :
    out2_6 i x0 x1 x2 x3 x4 = fwdL (BitVec.ofNat 32 (i 1).val) x0 x1 x2 := rfl

end defs

/-- Two blocks of keys or values, one after the other. -/
def cat (a a' : ℕ → ℕ → ℝ) (j l : ℕ) : ℝ := if j < 128 then a j l else a' (j - 128) l
/-- The queries, scaled. -/
def eighth (a : ℕ → ℕ → ℝ) (i l : ℕ) : ℝ := a i l * (1 / 8)

section shift
variable (q k v : ℕ → ℕ → ℝ) (b m : ℕ)

/-- The lanes of a pair are the lanes of the whole from the pair's first on. -/
theorem sR_shift (s i j : ℕ) : sR (fun i l => q i (128 * m + l)) (fun j l => k j (128 * m + l)) s i j = sR q k (2 * m + s) i j := by
  unfold sR
  refine Finset.sum_congr rfl fun e _ => ?_
  dsimp only
  rw [show 128 * m + (64 * s + e.val) = 64 * (2 * m + s) + e.val by ring]

theorem zR_shift (s i : ℕ) : zR b (fun i l => q i (128 * m + l)) (fun j l => k j (128 * m + l)) s i = zR b q k (2 * m + s) i := by
  unfold zR; simp only [sR_shift]

theorem nR_shift (s i l : ℕ) : nR b (fun i l => q i (128 * m + l)) (fun j l => k j (128 * m + l)) (fun j l => v j (128 * m + l)) s i l
    = nR b q k v (2 * m + s) i (128 * m + l) := by
  unfold nR; simp only [sR_shift]

theorem head_shift (l : ℕ) : 2 * m + l / 64 = (128 * m + l) / 64 := by omega
end shift

section block
variable {a0 a1 a2 a3 a4 : ℕ → ℕ → ℝ} {x0 x1 x2 x3 x4 : Vec Ideal S128x512 .bf16}

theorem whole_real {e : EltTy} (x : Vec Ideal S128x512 e) : whole x = x := View.ld_unit_zero (by decide) _ x

variable (h0 : ∀ (i : Fin 128) (l : Fin 512), x0 (ix2 i l) = ((a0 i.val l.val : ℝ) : EReal))
  (h1 : ∀ (i : Fin 128) (l : Fin 512), x1 (ix2 i l) = ((a1 i.val l.val : ℝ) : EReal))
  (h2 : ∀ (i : Fin 128) (l : Fin 512), x2 (ix2 i l) = ((a2 i.val l.val : ℝ) : EReal))
  (h3 : ∀ (i : Fin 128) (l : Fin 512), x3 (ix2 i l) = ((a3 i.val l.val : ℝ) : EReal))
  (h4 : ∀ (i : Fin 128) (l : Fin 512), x4 (ix2 i l) = ((a4 i.val l.val : ℝ) : EReal)) (b : ℕ) (hb : b < 32)
include h0 h1 h2 hb

/-- One pair's logarithms, by the lanes of the whole. -/
theorem tileL (m : ℕ) (hm : m < 4) (hs : S128x512.Slices ![0, 128 * m] S128x128) (hs' : S256x512.Slices ![0, 128 * m] S256x128)
    (i l : Fin 128) :
    pairL (band (BitVec.ofNat 32 b)) (qP (128 * m) hs x0) (kP (128 * m) hs' x1 x2) (ix2 i l)
      = ((Real.log (zR b (eighth a0) (cat a1 a2) ((128 * m + l.val) / 64) i.val) : ℝ) : EReal) := by
  refine (pairL_real (q := fun i l => eighth a0 i (128 * m + l)) (k := fun j l => cat a1 a2 j (128 * m + l))
    (fun i l => qP_real _ (by omega) hs h0 i l) (fun j l => kP_real _ (by omega) hs' h1 h2 j l) b hb i l).trans ?_
  rw [zR_shift, head_shift]

/-- A block's logarithms of the sums, on every lane of their head. -/
theorem fwdL_real (i : Fin 128) (l : Fin 512) :
    fwdL (BitVec.ofNat 32 b) x0 x1 x2 (ix2 i l)
      = ((Real.log (zR b (eighth a0) (cat a1 a2) (l.val / 64) i.val) : ℝ) : EReal) := by
  unfold fwdL
  simp only [whole_real]
  exact tiles4_apply (e := .f32) (fun i l => ((Real.log (zR b (eighth a0) (cat a1 a2) (l / 64) i) : ℝ) : EReal))
    (tileL h0 h1 h2 b hb 0 (by norm_num) _ _) (tileL h0 h1 h2 b hb 1 (by norm_num) _ _)
    (tileL h0 h1 h2 b hb 2 (by norm_num) _ _) (tileL h0 h1 h2 b hb 3 (by norm_num) _ _) i l

include h3 h4

/-- One pair's outputs, by the lanes of the whole. -/
theorem tileO (m : ℕ) (hm : m < 4) (hs : S128x512.Slices ![0, 128 * m] S128x128) (hs' : S256x512.Slices ![0, 128 * m] S256x128)
    (i l : Fin 128) :
    pairO (band (BitVec.ofNat 32 b)) (qP (128 * m) hs x0) (kP (128 * m) hs' x1 x2) (kP (128 * m) hs' x3 x4) (ix2 i l)
      = ((nR b (eighth a0) (cat a1 a2) (cat a3 a4) ((128 * m + l.val) / 64) i.val (128 * m + l.val)
          / zR b (eighth a0) (cat a1 a2) ((128 * m + l.val) / 64) i.val : ℝ) : EReal) := by
  refine (pairO_real (q := fun i l => eighth a0 i (128 * m + l)) (k := fun j l => cat a1 a2 j (128 * m + l)) (v := fun j l => cat a3 a4 j (128 * m + l))
    (fun i l => qP_real _ (by omega) hs h0 i l) (fun j l => kP_real _ (by omega) hs' h1 h2 j l) (fun j l => kP_real _ (by omega) hs' h3 h4 j l) b hb i l).trans ?_
  rw [nR_shift, zR_shift, head_shift]

/-- A block's outputs. -/
theorem fwdO_real (i : Fin 128) (l : Fin 512) :
    fwdO (BitVec.ofNat 32 b) x0 x1 x2 x3 x4 (ix2 i l)
      = ((nR b (eighth a0) (cat a1 a2) (cat a3 a4) (l.val / 64) i.val l.val / zR b (eighth a0) (cat a1 a2) (l.val / 64) i.val : ℝ) : EReal) := by
  unfold fwdO
  simp only [whole_real]
  exact tiles4_apply (e := .f32) (fun i l => ((nR b (eighth a0) (cat a1 a2) (cat a3 a4) (l / 64) i l / zR b (eighth a0) (cat a1 a2) (l / 64) i : ℝ) : EReal))
    (tileO h0 h1 h2 h3 h4 b hb 0 (by norm_num) _ _) (tileO h0 h1 h2 h3 h4 b hb 1 (by norm_num) _ _)
    (tileO h0 h1 h2 h3 h4 b hb 2 (by norm_num) _ _) (tileO h0 h1 h2 h3 h4 b hb 3 (by norm_num) _ _) i l

end block
end Cert.K.Attn

end
-- ==== Proof.Attn.BackwardBlock.lean ====
/- The five results of a block of the attention's gradient in closed form, and that each of the three kernels computes
   them. -/
module

public import proofs.«01_k».proof.Proof.Attn.ForwardBlock

@[expose] public section

set_option maxRecDepth 16384

noncomputable section

open Idealize.ShloMosaic Idealize.ShloMosaic.TcCoe Idealize.SL.Sem

namespace Cert.K.Attn

open Cert.AttnKernelIdeal Cert.AttnKernelIdeal.Gen

section defs
variable {F : FTy → Type} [FloatOps F] [Named F]

/-- The gradient of a pair's outputs. -/
def daP (c : ℕ) (h : S128x512.Slices ![0, c] S128x128) (x : Vec F S128x512 .f32) : FVec F S128x128 .bf16 :=
  extractStridedSlice S128x128 ![0, c] (truncf .bf16 (x : FVec F S128x512 .f32) bitsLt_bf16_f32) h

/-- The products of a pair's outputs and their gradient. -/
def pP (c : ℕ) (h : S128x512.Slices ![0, c] S128x128) (x y : Vec F S128x512 .f32) : FVec F S128x128 .f32 :=
  extractStridedSlice S128x128 ![0, c] (mulf (x : FVec F S128x512 .f32) (shapeCast S128x512 y shapeCasts_S128x512_S128x512)) h

/-- The rows of the own block, and those of the block before. -/
def own (t : FVec F S256x128 .f32) : FVec F S128x128 .bf16 :=
  truncf .bf16 (extractStridedSlice S128x128 ![128, 0] t slices_S256x128_o128_0_S128x128) bitsLt_bf16_f32
def before (t : FVec F S256x128 .f32) : FVec F S128x128 .bf16 :=
  truncf .bf16 (extractStridedSlice S128x128 ![0, 0] t slices_S256x128_o0_0_S128x128) bitsLt_bf16_f32

/-- A block's gradient of the queries. -/
def bwdQ (b : BitVec 32) (x0 x1 x2 x3 x4 : Vec F S128x512 .bf16) (x5 x6 x7 : Vec F S128x512 .f32) : Vec F S128x512 .bf16 :=
  tiles4
    (pairDq (band b) (qP 0 slices_S128x512_o0_0_S128x128 (whole x0)) (kP 0 slices_S256x512_o0_0_S256x128 (whole x1) (whole x2)) (kP 0 slices_S256x512_o0_0_S256x128 (whole x3) (whole x4)) (daP 0 slices_S128x512_o0_0_S128x128 (whole x5)) (pP 0 slices_S128x512_o0_0_S128x128 (whole x5) (whole x6))
      (View.ld x7 (Rect.unit (s := S128x512) ![0, 0] S128x1.size inb_S128x512_S128x1_0_0)) (View.ld x7 (Rect.unit (s := S128x512) ![0, 64] S128x1.size inb_S128x512_S128x1_0_64)))
    (pairDq (band b) (qP 128 slices_S128x512_o0_128_S128x128 (whole x0)) (kP 128 slices_S256x512_o0_128_S256x128 (whole x1) (whole x2)) (kP 128 slices_S256x512_o0_128_S256x128 (whole x3) (whole x4)) (daP 128 slices_S128x512_o0_128_S128x128 (whole x5)) (pP 128 slices_S128x512_o0_128_S128x128 (whole x5) (whole x6))
      (View.ld x7 (Rect.unit (s := S128x512) ![0, 128] S128x1.size inb_S128x512_S128x1_0_128)) (View.ld x7 (Rect.unit (s := S128x512) ![0, 192] S128x1.size inb_S128x512_S128x1_0_192)))
    (pairDq (band b) (qP 256 slices_S128x512_o0_256_S128x128 (whole x0)) (kP 256 slices_S256x512_o0_256_S256x128 (whole x1) (whole x2)) (kP 256 slices_S256x512_o0_256_S256x128 (whole x3) (whole x4)) (daP 256 slices_S128x512_o0_256_S128x128 (whole x5)) (pP 256 slices_S128x512_o0_256_S128x128 (whole x5) (whole x6))
      (View.ld x7 (Rect.unit (s := S128x512) ![0, 256] S128x1.size inb_S128x512_S128x1_0_256)) (View.ld x7 (Rect.unit (s := S128x512) ![0, 320] S128x1.size inb_S128x512_S128x1_0_320)))
    (pairDq (band b) (qP 384 slices_S128x512_o0_384_S128x128 (whole x0)) (kP 384 slices_S256x512_o0_384_S256x128 (whole x1) (whole x2)) (kP 384 slices_S256x512_o0_384_S256x128 (whole x3) (whole x4)) (daP 384 slices_S128x512_o0_384_S128x128 (whole x5)) (pP 384 slices_S128x512_o0_384_S128x128 (whole x5) (whole x6))
      (View.ld x7 (Rect.unit (s := S128x512) ![0, 384] S128x1.size inb_S128x512_S128x1_0_384)) (View.ld x7 (Rect.unit (s := S128x512) ![0, 448] S128x1.size inb_S128x512_S128x1_0_448)))

/-- A block's gradient of its own keys. -/
def bwdK (b : BitVec 32) (x0 x1 x2 x3 x4 : Vec F S128x512 .bf16) (x5 x6 x7 : Vec F S128x512 .f32) : Vec F S128x512 .bf16 :=
  tiles4
    (own (pairDk (band b) (qP 0 slices_S128x512_o0_0_S128x128 (whole x0)) (kP 0 slices_S256x512_o0_0_S256x128 (whole x1) (whole x2)) (kP 0 slices_S256x512_o0_0_S256x128 (whole x3) (whole x4)) (daP 0 slices_S128x512_o0_0_S128x128 (whole x5)) (pP 0 slices_S128x512_o0_0_S128x128 (whole x5) (whole x6))
      (View.ld x7 (Rect.unit (s := S128x512) ![0, 0] S128x1.size inb_S128x512_S128x1_0_0)) (View.ld x7 (Rect.unit (s := S128x512) ![0, 64] S128x1.size inb_S128x512_S128x1_0_64))))
    (own (pairDk (band b) (qP 128 slices_S128x512_o0_128_S128x128 (whole x0)) (kP 128 slices_S256x512_o0_128_S256x128 (whole x1) (whole x2)) (kP 128 slices_S256x512_o0_128_S256x128 (whole x3) (whole x4)) (daP 128 slices_S128x512_o0_128_S128x128 (whole x5)) (pP 128 slices_S128x512_o0_128_S128x128 (whole x5) (whole x6))
      (View.ld x7 (Rect.unit (s := S128x512) ![0, 128] S128x1.size inb_S128x512_S128x1_0_128)) (View.ld x7 (Rect.unit (s := S128x512) ![0, 192] S128x1.size inb_S128x512_S128x1_0_192))))
    (own (pairDk (band b) (qP 256 slices_S128x512_o0_256_S128x128 (whole x0)) (kP 256 slices_S256x512_o0_256_S256x128 (whole x1) (whole x2)) (kP 256 slices_S256x512_o0_256_S256x128 (whole x3) (whole x4)) (daP 256 slices_S128x512_o0_256_S128x128 (whole x5)) (pP 256 slices_S128x512_o0_256_S128x128 (whole x5) (whole x6))
      (View.ld x7 (Rect.unit (s := S128x512) ![0, 256] S128x1.size inb_S128x512_S128x1_0_256)) (View.ld x7 (Rect.unit (s := S128x512) ![0, 320] S128x1.size inb_S128x512_S128x1_0_320))))
    (own (pairDk (band b) (qP 384 slices_S128x512_o0_384_S128x128 (whole x0)) (kP 384 slices_S256x512_o0_384_S256x128 (whole x1) (whole x2)) (kP 384 slices_S256x512_o0_384_S256x128 (whole x3) (whole x4)) (daP 384 slices_S128x512_o0_384_S128x128 (whole x5)) (pP 384 slices_S128x512_o0_384_S128x128 (whole x5) (whole x6))
      (View.ld x7 (Rect.unit (s := S128x512) ![0, 384] S128x1.size inb_S128x512_S128x1_0_384)) (View.ld x7 (Rect.unit (s := S128x512) ![0, 448] S128x1.size inb_S128x512_S128x1_0_448))))

/-- A block's gradient of the keys of the block before. -/
def bwdK' (b : BitVec 32) (x0 x1 x2 x3 x4 : Vec F S128x512 .bf16) (x5 x6 x7 : Vec F S128x512 .f32) : Vec F S128x512 .bf16 :=
  tiles4
    (before (pairDk (band b) (qP 0 slices_S128x512_o0_0_S128x128 (whole x0)) (kP 0 slices_S256x512_o0_0_S256x128 (whole x1) (whole x2)) (kP 0 slices_S256x512_o0_0_S256x128 (whole x3) (whole x4)) (daP 0 slices_S128x512_o0_0_S128x128 (whole x5)) (pP 0 slices_S128x512_o0_0_S128x128 (whole x5) (whole x6))
      (View.ld x7 (Rect.unit (s := S128x512) ![0, 0] S128x1.size inb_S128x512_S128x1_0_0)) (View.ld x7 (Rect.unit (s := S128x512) ![0, 64] S128x1.size inb_S128x512_S128x1_0_64))))
    (before (pairDk (band b) (qP 128 slices_S128x512_o0_128_S128x128 (whole x0)) (kP 128 slices_S256x512_o0_128_S256x128 (whole x1) (whole x2)) (kP 128 slices_S256x512_o0_128_S256x128 (whole x3) (whole x4)) (daP 128 slices_S128x512_o0_128_S128x128 (whole x5)) (pP 128 slices_S128x512_o0_128_S128x128 (whole x5) (whole x6))
      (View.ld x7 (Rect.unit (s := S128x512) ![0, 128] S128x1.size inb_S128x512_S128x1_0_128)) (View.ld x7 (Rect.unit (s := S128x512) ![0, 192] S128x1.size inb_S128x512_S128x1_0_192))))
    (before (pairDk (band b) (qP 256 slices_S128x512_o0_256_S128x128 (whole x0)) (kP 256 slices_S256x512_o0_256_S256x128 (whole x1) (whole x2)) (kP 256 slices_S256x512_o0_256_S256x128 (whole x3) (whole x4)) (daP 256 slices_S128x512_o0_256_S128x128 (whole x5)) (pP 256 slices_S128x512_o0_256_S128x128 (whole x5) (whole x6))
      (View.ld x7 (Rect.unit (s := S128x512) ![0, 256] S128x1.size inb_S128x512_S128x1_0_256)) (View.ld x7 (Rect.unit (s := S128x512) ![0, 320] S128x1.size inb_S128x512_S128x1_0_320))))
    (before (pairDk (band b) (qP 384 slices_S128x512_o0_384_S128x128 (whole x0)) (kP 384 slices_S256x512_o0_384_S256x128 (whole x1) (whole x2)) (kP 384 slices_S256x512_o0_384_S256x128 (whole x3) (whole x4)) (daP 384 slices_S128x512_o0_384_S128x128 (whole x5)) (pP 384 slices_S128x512_o0_384_S128x128 (whole x5) (whole x6))
      (View.ld x7 (Rect.unit (s := S128x512) ![0, 384] S128x1.size inb_S128x512_S128x1_0_384)) (View.ld x7 (Rect.unit (s := S128x512) ![0, 448] S128x1.size inb_S128x512_S128x1_0_448))))

/-- A block's gradient of its own values. -/
def bwdV (b : BitVec 32) (x0 x1 x2 : Vec F S128x512 .bf16) (x5 x7 : Vec F S128x512 .f32) : Vec F S128x512 .bf16 :=
  tiles4
    (own (pairDv (band b) (qP 0 slices_S128x512_o0_0_S128x128 (whole x0)) (kP 0 slices_S256x512_o0_0_S256x128 (whole x1) (whole x2)) (daP 0 slices_S128x512_o0_0_S128x128 (whole x5))
      (View.ld x7 (Rect.unit (s := S128x512) ![0, 0] S128x1.size inb_S128x512_S128x1_0_0)) (View.ld x7 (Rect.unit (s := S128x512) ![0, 64] S128x1.size inb_S128x512_S128x1_0_64))))
    (own (pairDv (band b) (qP 128 slices_S128x512_o0_128_S128x128 (whole x0)) (kP 128 slices_S256x512_o0_128_S256x128 (whole x1) (whole x2)) (daP 128 slices_S128x512_o0_128_S128x128 (whole x5))
      (View.ld x7 (Rect.unit (s := S128x512) ![0, 128] S128x1.size inb_S128x512_S128x1_0_128)) (View.ld x7 (Rect.unit (s := S128x512) ![0, 192] S128x1.size inb_S128x512_S128x1_0_192))))
    (own (pairDv (band b) (qP 256 slices_S128x512_o0_256_S128x128 (whole x0)) (kP 256 slices_S256x512_o0_256_S256x128 (whole x1) (whole x2)) (daP 256 slices_S128x512_o0_256_S128x128 (whole x5))
      (View.ld x7 (Rect.unit (s := S128x512) ![0, 256] S128x1.size inb_S128x512_S128x1_0_256)) (View.ld x7 (Rect.unit (s := S128x512) ![0, 320] S128x1.size inb_S128x512_S128x1_0_320))))
    (own (pairDv (band b) (qP 384 slices_S128x512_o0_384_S128x128 (whole x0)) (kP 384 slices_S256x512_o0_384_S256x128 (whole x1) (whole x2)) (daP 384 slices_S128x512_o0_384_S128x128 (whole x5))
      (View.ld x7 (Rect.unit (s := S128x512) ![0, 384] S128x1.size inb_S128x512_S128x1_0_384)) (View.ld x7 (Rect.unit (s := S128x512) ![0, 448] S128x1.size inb_S128x512_S128x1_0_448))))

/-- A block's gradient of the values of the block before. -/
def bwdV' (b : BitVec 32) (x0 x1 x2 : Vec F S128x512 .bf16) (x5 x7 : Vec F S128x512 .f32) : Vec F S128x512 .bf16 :=
  tiles4
    (before (pairDv (band b) (qP 0 slices_S128x512_o0_0_S128x128 (whole x0)) (kP 0 slices_S256x512_o0_0_S256x128 (whole x1) (whole x2)) (daP 0 slices_S128x512_o0_0_S128x128 (whole x5))
      (View.ld x7 (Rect.unit (s := S128x512) ![0, 0] S128x1.size inb_S128x512_S128x1_0_0)) (View.ld x7 (Rect.unit (s := S128x512) ![0, 64] S128x1.size inb_S128x512_S128x1_0_64))))
    (before (pairDv (band b) (qP 128 slices_S128x512_o0_128_S128x128 (whole x0)) (kP 128 slices_S256x512_o0_128_S256x128 (whole x1) (whole x2)) (daP 128 slices_S128x512_o0_128_S128x128 (whole x5))
      (View.ld x7 (Rect.unit (s := S128x512) ![0, 128] S128x1.size inb_S128x512_S128x1_0_128)) (View.ld x7 (Rect.unit (s := S128x512) ![0, 192] S128x1.size inb_S128x512_S128x1_0_192))))
    (before (pairDv (band b) (qP 256 slices_S128x512_o0_256_S128x128 (whole x0)) (kP 256 slices_S256x512_o0_256_S256x128 (whole x1) (whole x2)) (daP 256 slices_S128x512_o0_256_S128x128 (whole x5))
      (View.ld x7 (Rect.unit (s := S128x512) ![0, 256] S128x1.size inb_S128x512_S128x1_0_256)) (View.ld x7 (Rect.unit (s := S128x512) ![0, 320] S128x1.size inb_S128x512_S128x1_0_320))))
    (before (pairDv (band b) (qP 384 slices_S128x512_o0_384_S128x128 (whole x0)) (kP 384 slices_S256x512_o0_384_S256x128 (whole x1) (whole x2)) (daP 384 slices_S128x512_o0_384_S128x128 (whole x5))
      (View.ld x7 (Rect.unit (s := S128x512) ![0, 384] S128x1.size inb_S128x512_S128x1_0_384)) (View.ld x7 (Rect.unit (s := S128x512) ![0, 448] S128x1.size inb_S128x512_S128x1_0_448))))

theorem tiles4_congr {e : EltTy} {p0 p1 p2 p3 p0' p1' p2' p3' : Vec F S128x128 e} (h0 : p0 = p0') (h1 : p1 = p1')
    (h2 : p2 = p2') (h3 : p3 = p3') : tiles4 p0 p1 p2 p3 = tiles4 p0' p1' p2' p3' := by subst h0 h1 h2 h3; rfl

/-- A read of the whole of a block's buffer gives the block. -/
theorem whole_eq {e : EltTy} (x : Vec F S128x512 e) : View.ld x r0_0 = x := View.ld_unit_zero (by decide) _ x

theorem out3_eq (i : grid3.Coords) (x0 x1 x2 x3 x4 : Vec F S128x512 .bf16) (x5 x6 x7 : Vec F S128x512 .f32) :
    out3_8 i x0 x1 x2 x3 x4 x5 x6 x7 = bwdQ (BitVec.ofNat 32 (i 1).val) x0 x1 x2 x3 x4 x5 x6 x7
    ∧ out3_9 i x0 x1 x2 x3 x4 x5 x6 x7 = bwdK (BitVec.ofNat 32 (i 1).val) x0 x1 x2 x3 x4 x5 x6 x7
    ∧ out3_10 i x0 x1 x2 x3 x4 x5 x6 x7 = bwdK' (BitVec.ofNat 32 (i 1).val) x0 x1 x2 x3 x4 x5 x6 x7
    ∧ out3_11 i x0 x1 x2 x3 x4 x5 x6 x7 = bwdV (BitVec.ofNat 32 (i 1).val) x0 x1 x2 x5 x7
    ∧ out3_12 i x0 x1 x2 x3 x4 x5 x6 x7 = bwdV' (BitVec.ofNat 32 (i 1).val) x0 x1 x2 x5 x7 := by
  unfold_out out3_8; unfold_out out3_9; unfold_out out3_10; unfold_out out3_11; unfold_out out3_12
  refine ⟨?_, ?_, ?_, ?_, ?_⟩ <;> refine tiles4_congr ?_ ?_ ?_ ?_ <;>
    (open_payloads
     simp only [own, before, pairDq, pairDk, pairDv, back, headDq, dscore, prob, dcol, dots, half, qP, kP, daP, pP, whole, whole_eq]
     rfl)

theorem out4_eq (i : grid4.Coords) (x0 x1 x2 x3 x4 : Vec F S128x512 .bf16) (x5 x6 x7 : Vec F S128x512 .f32) :
    out4_8 i x0 x1 x2 x3 x4 x5 x6 x7 = bwdQ (BitVec.ofNat 32 (i 1).val) x0 x1 x2 x3 x4 (shapeCast S128x512 x5 shapeCasts_S128x512_S128x512) x6 x7
    ∧ out4_9 i x0 x1 x2 x3 x4 x5 x6 x7 = bwdK (BitVec.ofNat 32 (i 1).val) x0 x1 x2 x3 x4 (shapeCast S128x512 x5 shapeCasts_S128x512_S128x512) x6 x7
    ∧ out4_10 i x0 x1 x2 x3 x4 x5 x6 x7 = bwdK' (BitVec.ofNat 32 (i 1).val) x0 x1 x2 x3 x4 (shapeCast S128x512 x5 shapeCasts_S128x512_S128x512) x6 x7
    ∧ out4_11 i x0 x1 x2 x3 x4 x5 x6 x7 = bwdV (BitVec.ofNat 32 (i 1).val) x0 x1 x2 (shapeCast S128x512 x5 shapeCasts_S128x512_S128x512) x7
    ∧ out4_12 i x0 x1 x2 x3 x4 x5 x6 x7 = bwdV' (BitVec.ofNat 32 (i 1).val) x0 x1 x2 (shapeCast S128x512 x5 shapeCasts_S128x512_S128x512) x7 := by
  unfold_out out4_8; unfold_out out4_9; unfold_out out4_10; unfold_out out4_11; unfold_out out4_12
  refine ⟨?_, ?_, ?_, ?_, ?_⟩ <;> refine tiles4_congr ?_ ?_ ?_ ?_ <;>
    (open_payloads
     simp only [own, before, pairDq, pairDk, pairDv, back, headDq, dscore, prob, dcol, dots, half, qP, kP, daP, pP, whole, whole_eq]
     rfl)

theorem out5_eq (i : grid5.Coords) (x0 x1 x2 x3 x4 : Vec F S128x512 .bf16) (x5 x6 x7 : Vec F S128x512 .f32) :
    out5_8 i x0 x1 x2 x3 x4 x5 x6 x7 = bwdQ (BitVec.ofNat 32 (i 1).val) x0 x1 x2 x3 x4 (shapeCast S128x512 x5 shapeCasts_S128x512_S128x512) x6 x7
    ∧ out5_9 i x0 x1 x2 x3 x4 x5 x6 x7 = bwdK (BitVec.ofNat 32 (i 1).val) x0 x1 x2 x3 x4 (shapeCast S128x512 x5 shapeCasts_S128x512_S128x512) x6 x7
    ∧ out5_10 i x0 x1 x2 x3 x4 x5 x6 x7 = bwdK' (BitVec.ofNat 32 (i 1).val) x0 x1 x2 x3 x4 (shapeCast S128x512 x5 shapeCasts_S128x512_S128x512) x6 x7
    ∧ out5_11 i x0 x1 x2 x3 x4 x5 x6 x7 = bwdV (BitVec.ofNat 32 (i 1).val) x0 x1 x2 (shapeCast S128x512 x5 shapeCasts_S128x512_S128x512) x7
    ∧ out5_12 i x0 x1 x2 x3 x4 x5 x6 x7 = bwdV' (BitVec.ofNat 32 (i 1).val) x0 x1 x2 (shapeCast S128x512 x5 shapeCasts_S128x512_S128x512) x7 := by
  unfold_out out5_8; unfold_out out5_9; unfold_out out5_10; unfold_out out5_11; unfold_out out5_12
  refine ⟨?_, ?_, ?_, ?_, ?_⟩ <;> refine tiles4_congr ?_ ?_ ?_ ?_ <;>
    (open_payloads
     simp only [own, before, pairDq, pairDk, pairDv, back, headDq, dscore, prob, dcol, dots, half, qP, kP, daP, pP, whole, whole_eq]
     rfl)

end defs

section shift
variable (q k v da p lam : ℕ → ℕ → ℝ) (b m : ℕ)

theorem pR_shift (s i j : ℕ) : pR b (fun i l => q i (128 * m + l)) (fun j l => k j (128 * m + l)) (fun s i => lam (2 * m + s) i) s i j
    = pR b q k lam (2 * m + s) i j := by
  unfold pR; rw [sR_shift]

theorem dR_shift (s i j : ℕ) : dR b (fun i l => q i (128 * m + l)) (fun j l => k j (128 * m + l)) (fun j l => v j (128 * m + l))
      (fun i l => da i (128 * m + l)) (fun i l => p i (128 * m + l)) (fun s i => lam (2 * m + s) i) s i j
    = dR b q k v da p lam (2 * m + s) i j := by
  unfold dR
  rw [sR_shift, pR_shift]
  refine congrArg (fun x => _ * (_ - x)) (Finset.sum_congr rfl fun e _ => ?_)
  dsimp only
  rw [show 128 * m + (64 * s + e.val) = 64 * (2 * m + s) + e.val by ring]
end shift

section block
variable {a0 a1 a2 a3 a4 a5 a6 a7 : ℕ → ℕ → ℝ} {x0 x1 x2 x3 x4 : Vec Ideal S128x512 .bf16} {x5 x6 x7 : Vec Ideal S128x512 .f32}

theorem daP_real (c : ℕ) (hc : c + 128 ≤ 512) (h : S128x512.Slices ![0, c] S128x128)
    (hx : ∀ (i : Fin 128) (l : Fin 512), x5 (ix2 i l) = ((a5 i.val l.val : ℝ) : EReal)) (i l : Fin 128) :
    daP c h x5 (ix2 i l) = ((a5 i.val (c + l.val) : ℝ) : EReal) := by
  pointwise [daP]
  rw [hx]

theorem pP_real (c : ℕ) (hc : c + 128 ≤ 512) (h : S128x512.Slices ![0, c] S128x128)
    (hx : ∀ (i : Fin 128) (l : Fin 512), x5 (ix2 i l) = ((a5 i.val l.val : ℝ) : EReal))
    (hy : ∀ (i : Fin 128) (l : Fin 512), x6 (ix2 i l) = ((a6 i.val l.val : ℝ) : EReal)) (i l : Fin 128) :
    pP c h x5 x6 (ix2 i l) = ((a5 i.val (c + l.val) * a6 i.val (c + l.val) : ℝ) : EReal) := by
  pointwise [pP]
  rw [hx, hy, ← EReal.coe_mul]

theorem column_real (c : ℕ) (hc : c < 512) (h : ∀ a, (![0, c] : Fin 2 → ℕ) a + S128x1.size a ≤ S128x512.size a)
    (hx : ∀ (i : Fin 128) (l : Fin 512), x7 (ix2 i l) = ((a7 i.val l.val : ℝ) : EReal)) (i : Fin 128) :
    View.ld x7 (Rect.unit (s := S128x512) ![0, c] S128x1.size h) (ix2 i 0) = ((a7 i.val c : ℝ) : EReal) := by
  pointwise
  rw [hx]

/-- The products of the outputs and their gradient. -/
def prodA (a b : ℕ → ℕ → ℝ) (i l : ℕ) : ℝ := a i l * b i l
/-- The logarithm of a head's sum, at the head's first lane. -/
def firstLane (a : ℕ → ℕ → ℝ) (h i : ℕ) : ℝ := a i (64 * h)

theorem own_apply (t : FVec Ideal S256x128 .f32) (i l : Fin 128) : own t (ix2 i l) = t (ix2 ⟨128 + i.val, by omega⟩ l) := by
  pointwise [own]

theorem before_apply (t : FVec Ideal S256x128 .f32) (i l : Fin 128) : before t (ix2 i l) = t (ix2 ⟨i.val, by omega⟩ l) := by
  pointwise [before]

variable (h0 : ∀ (i : Fin 128) (l : Fin 512), x0 (ix2 i l) = ((a0 i.val l.val : ℝ) : EReal))
  (h1 : ∀ (i : Fin 128) (l : Fin 512), x1 (ix2 i l) = ((a1 i.val l.val : ℝ) : EReal))
  (h2 : ∀ (i : Fin 128) (l : Fin 512), x2 (ix2 i l) = ((a2 i.val l.val : ℝ) : EReal))
  (h3 : ∀ (i : Fin 128) (l : Fin 512), x3 (ix2 i l) = ((a3 i.val l.val : ℝ) : EReal))
  (h4 : ∀ (i : Fin 128) (l : Fin 512), x4 (ix2 i l) = ((a4 i.val l.val : ℝ) : EReal))
  (h5 : ∀ (i : Fin 128) (l : Fin 512), x5 (ix2 i l) = ((a5 i.val l.val : ℝ) : EReal))
  (h6 : ∀ (i : Fin 128) (l : Fin 512), x6 (ix2 i l) = ((a6 i.val l.val : ℝ) : EReal))
  (h7 : ∀ (i : Fin 128) (l : Fin 512), x7 (ix2 i l) = ((a7 i.val l.val : ℝ) : EReal)) (b : ℕ) (hb : b < 32)
  (m : ℕ) (hm : m < 4) (hs : S128x512.Slices ![0, 128 * m] S128x128) (hs' : S256x512.Slices ![0, 128 * m] S256x128)
  (hl : ∀ a, (![0, 128 * m] : Fin 2 → ℕ) a + S128x1.size a ≤ S128x512.size a)
  (hl' : ∀ a, (![0, 128 * m + 64] : Fin 2 → ℕ) a + S128x1.size a ≤ S128x512.size a)
include h0 h1 h2 h5 h7 hb hm

theorem tileDv (j : Fin 256) (l : Fin 128) :
    pairDv (band (BitVec.ofNat 32 b)) (qP (128 * m) hs x0) (kP (128 * m) hs' x1 x2) (daP (128 * m) hs x5)
        (View.ld x7 (Rect.unit (s := S128x512) ![0, 128 * m] S128x1.size hl)) (View.ld x7 (Rect.unit (s := S128x512) ![0, 128 * m + 64] S128x1.size hl')) (ix2 j l)
      = ((∑ i : Fin 128, pR b (eighth a0) (cat a1 a2) (firstLane a7) ((128 * m + l.val) / 64) i.val j.val * a5 i.val (128 * m + l.val) : ℝ) : EReal) := by
  refine (pairDv_real (q := fun i l => eighth a0 i (128 * m + l)) (k := fun j l => cat a1 a2 j (128 * m + l)) (da := fun i l => a5 i (128 * m + l))
    (lam := fun s i => firstLane a7 (2 * m + s) i)
    (fun i l => qP_real _ (by omega) hs h0 i l) (fun j l => kP_real _ (by omega) hs' h1 h2 j l) (fun i l => daP_real _ (by omega) hs h5 i l) b hb
    (fun i => (column_real _ (by omega) hl h7 i).trans (by unfold firstLane; rw [show 64 * (2 * m + 0) = 128 * m by ring]))
    (fun i => (column_real _ (by omega) hl' h7 i).trans (by unfold firstLane; rw [show 64 * (2 * m + 1) = 128 * m + 64 by ring])) j l).trans ?_
  simp only [pR_shift, head_shift]

include h3 h4 h6

theorem tileDq (i l : Fin 128) :
    pairDq (band (BitVec.ofNat 32 b)) (qP (128 * m) hs x0) (kP (128 * m) hs' x1 x2) (kP (128 * m) hs' x3 x4) (daP (128 * m) hs x5) (pP (128 * m) hs x5 x6)
        (View.ld x7 (Rect.unit (s := S128x512) ![0, 128 * m] S128x1.size hl)) (View.ld x7 (Rect.unit (s := S128x512) ![0, 128 * m + 64] S128x1.size hl')) (ix2 i l)
      = (((∑ j : Fin 256, dR b (eighth a0) (cat a1 a2) (cat a3 a4) a5 (prodA a5 a6) (firstLane a7) ((128 * m + l.val) / 64) i.val j.val
          * cat a1 a2 j.val (128 * m + l.val)) * (1 / 8) : ℝ) : EReal) := by
  refine (pairDq_real (q := fun i l => eighth a0 i (128 * m + l)) (k := fun j l => cat a1 a2 j (128 * m + l)) (v := fun j l => cat a3 a4 j (128 * m + l))
    (da := fun i l => a5 i (128 * m + l)) (p := fun i l => prodA a5 a6 i (128 * m + l)) (lam := fun s i => firstLane a7 (2 * m + s) i)
    (fun i l => qP_real _ (by omega) hs h0 i l) (fun j l => kP_real _ (by omega) hs' h1 h2 j l) (fun j l => kP_real _ (by omega) hs' h3 h4 j l)
    (fun i l => daP_real _ (by omega) hs h5 i l) (fun i l => pP_real _ (by omega) hs h5 h6 i l) b hb
    (fun i => (column_real _ (by omega) hl h7 i).trans (by unfold firstLane; rw [show 64 * (2 * m + 0) = 128 * m by ring]))
    (fun i => (column_real _ (by omega) hl' h7 i).trans (by unfold firstLane; rw [show 64 * (2 * m + 1) = 128 * m + 64 by ring])) i l).trans ?_
  simp only [dR_shift, head_shift]

theorem tileDk (j : Fin 256) (l : Fin 128) :
    pairDk (band (BitVec.ofNat 32 b)) (qP (128 * m) hs x0) (kP (128 * m) hs' x1 x2) (kP (128 * m) hs' x3 x4) (daP (128 * m) hs x5) (pP (128 * m) hs x5 x6)
        (View.ld x7 (Rect.unit (s := S128x512) ![0, 128 * m] S128x1.size hl)) (View.ld x7 (Rect.unit (s := S128x512) ![0, 128 * m + 64] S128x1.size hl')) (ix2 j l)
      = ((∑ i : Fin 128, dR b (eighth a0) (cat a1 a2) (cat a3 a4) a5 (prodA a5 a6) (firstLane a7) ((128 * m + l.val) / 64) i.val j.val
          * eighth a0 i.val (128 * m + l.val) : ℝ) : EReal) := by
  refine (pairDk_real (q := fun i l => eighth a0 i (128 * m + l)) (k := fun j l => cat a1 a2 j (128 * m + l)) (v := fun j l => cat a3 a4 j (128 * m + l))
    (da := fun i l => a5 i (128 * m + l)) (p := fun i l => prodA a5 a6 i (128 * m + l)) (lam := fun s i => firstLane a7 (2 * m + s) i)
    (fun i l => qP_real _ (by omega) hs h0 i l) (fun j l => kP_real _ (by omega) hs' h1 h2 j l) (fun j l => kP_real _ (by omega) hs' h3 h4 j l)
    (fun i l => daP_real _ (by omega) hs h5 i l) (fun i l => pP_real _ (by omega) hs h5 h6 i l) b hb
    (fun i => (column_real _ (by omega) hl h7 i).trans (by unfold firstLane; rw [show 64 * (2 * m + 0) = 128 * m by ring]))
    (fun i => (column_real _ (by omega) hl' h7 i).trans (by unfold firstLane; rw [show 64 * (2 * m + 1) = 128 * m + 64 by ring])) j l).trans ?_
  simp only [dR_shift, head_shift]

omit hm
/-- A block's gradient of the queries. -/
theorem bwdQ_real (i : Fin 128) (l : Fin 512) : bwdQ (BitVec.ofNat 32 b) x0 x1 x2 x3 x4 x5 x6 x7 (ix2 i l)
    = (((∑ j : Fin 256, dR b (eighth a0) (cat a1 a2) (cat a3 a4) a5 (prodA a5 a6) (firstLane a7) (l.val / 64) i.val j.val
          * cat a1 a2 j.val l.val) * (1 / 8) : ℝ) : EReal) := by
  unfold bwdQ
  simp only [whole_real]
  have key := fun m hm => tileDq h0 h1 h2 h3 h4 h5 h6 h7 b hb m hm
  exact tiles4_apply (e := .bf16) (fun i l => (((∑ j : Fin 256, dR b (eighth a0) (cat a1 a2) (cat a3 a4) a5 (prodA a5 a6) (firstLane a7) (l / 64) i j.val
          * cat a1 a2 j.val l) * (1 / 8) : ℝ) : EReal))
    (key 0 (by norm_num) _ _ _ _) (key 1 (by norm_num) _ _ _ _) (key 2 (by norm_num) _ _ _ _) (key 3 (by norm_num) _ _ _ _) i l

/-- A block's gradient of its own keys. -/
theorem bwdK_real (j : Fin 128) (l : Fin 512) : bwdK (BitVec.ofNat 32 b) x0 x1 x2 x3 x4 x5 x6 x7 (ix2 j l)
    = ((∑ i : Fin 128, dR b (eighth a0) (cat a1 a2) (cat a3 a4) a5 (prodA a5 a6) (firstLane a7) (l.val / 64) i.val (128 + j.val)
          * eighth a0 i.val l.val : ℝ) : EReal) := by
  unfold bwdK
  simp only [whole_real]
  have key := fun m hm hs hs' hl hl' j l => (own_apply _ _ _).trans (tileDk h0 h1 h2 h3 h4 h5 h6 h7 b hb m hm hs hs' hl hl' ⟨128 + Fin.val (n := 128) j, by omega⟩ l)
  exact tiles4_apply (e := .bf16) (fun j l => ((∑ i : Fin 128, dR b (eighth a0) (cat a1 a2) (cat a3 a4) a5 (prodA a5 a6) (firstLane a7) (l / 64) i.val (128 + j)
          * eighth a0 i.val l : ℝ) : EReal))
    (key 0 (by norm_num) _ _ _ _) (key 1 (by norm_num) _ _ _ _) (key 2 (by norm_num) _ _ _ _) (key 3 (by norm_num) _ _ _ _) j l

/-- A block's gradient of the keys of the block before. -/
theorem bwdK'_real (j : Fin 128) (l : Fin 512) : bwdK' (BitVec.ofNat 32 b) x0 x1 x2 x3 x4 x5 x6 x7 (ix2 j l)
    = ((∑ i : Fin 128, dR b (eighth a0) (cat a1 a2) (cat a3 a4) a5 (prodA a5 a6) (firstLane a7) (l.val / 64) i.val j.val
          * eighth a0 i.val l.val : ℝ) : EReal) := by
  unfold bwdK'
  simp only [whole_real]
  have key := fun m hm hs hs' hl hl' j l => (before_apply _ _ _).trans (tileDk h0 h1 h2 h3 h4 h5 h6 h7 b hb m hm hs hs' hl hl' ⟨Fin.val (n := 128) j, by omega⟩ l)
  exact tiles4_apply (e := .bf16) (fun j l => ((∑ i : Fin 128, dR b (eighth a0) (cat a1 a2) (cat a3 a4) a5 (prodA a5 a6) (firstLane a7) (l / 64) i.val j
          * eighth a0 i.val l : ℝ) : EReal))
    (key 0 (by norm_num) _ _ _ _) (key 1 (by norm_num) _ _ _ _) (key 2 (by norm_num) _ _ _ _) (key 3 (by norm_num) _ _ _ _) j l

omit h3 h4 h6

/-- A block's gradient of its own values. -/
theorem bwdV_real (j : Fin 128) (l : Fin 512) : bwdV (BitVec.ofNat 32 b) x0 x1 x2 x5 x7 (ix2 j l)
    = ((∑ i : Fin 128, pR b (eighth a0) (cat a1 a2) (firstLane a7) (l.val / 64) i.val (128 + j.val) * a5 i.val l.val : ℝ) : EReal) := by
  unfold bwdV
  simp only [whole_real]
  have key := fun m hm hs hs' hl hl' j l => (own_apply _ _ _).trans (tileDv h0 h1 h2 h5 h7 b hb m hm hs hs' hl hl' ⟨128 + Fin.val (n := 128) j, by omega⟩ l)
  exact tiles4_apply (e := .bf16) (fun j l => ((∑ i : Fin 128, pR b (eighth a0) (cat a1 a2) (firstLane a7) (l / 64) i.val (128 + j) * a5 i.val l : ℝ) : EReal))
    (key 0 (by norm_num) _ _ _ _) (key 1 (by norm_num) _ _ _ _) (key 2 (by norm_num) _ _ _ _) (key 3 (by norm_num) _ _ _ _) j l

/-- A block's gradient of the values of the block before. -/
theorem bwdV'_real (j : Fin 128) (l : Fin 512) : bwdV' (BitVec.ofNat 32 b) x0 x1 x2 x5 x7 (ix2 j l)
    = ((∑ i : Fin 128, pR b (eighth a0) (cat a1 a2) (firstLane a7) (l.val / 64) i.val j.val * a5 i.val l.val : ℝ) : EReal) := by
  unfold bwdV'
  simp only [whole_real]
  have key := fun m hm hs hs' hl hl' j l => (before_apply _ _ _).trans (tileDv h0 h1 h2 h5 h7 b hb m hm hs hs' hl hl' ⟨Fin.val (n := 128) j, by omega⟩ l)
  exact tiles4_apply (e := .bf16) (fun j l => ((∑ i : Fin 128, pR b (eighth a0) (cat a1 a2) (firstLane a7) (l / 64) i.val j * a5 i.val l : ℝ) : EReal))
    (key 0 (by norm_num) _ _ _ _) (key 1 (by norm_num) _ _ _ _) (key 2 (by norm_num) _ _ _ _) (key 3 (by norm_num) _ _ _ _) j l

end block

end Cert.K.Attn

end
-- ==== Proof.Attn.Time.lean ====
/- The banded attention over natural times: the results of the kernels' blocks as functions of a time and a channel.
   A stream of dilation `d` keeps the times `r * d + n` of its row `r`, its `n`-th group of 512 columns. -/
module

public import proofs.«01_k».proof.Proof.Attn.BackwardBlock

@[expose] public section

set_option maxRecDepth 16384

noncomputable section

open Idealize.ShloMosaic Idealize.ShloMosaic.TcCoe Idealize.SL.Sem
open Cert.AttnKernelIdeal Cert.AttnKernelIdeal.Gen

namespace Cert.K.Attn

/-- A matrix holds the real numbers `f`. -/
def Holds {R C : ℕ} (X : Shape.Idx ⟨2, ![R, C]⟩ → EReal) (f : ℕ → ℕ → ℝ) : Prop :=
  ∀ (i : Fin R) (j : Fin C), X (ix2 i j) = ((f i.val j.val : ℝ) : EReal)

/-- The stream layout of an array over times. -/
def stream (d : ℕ) (f : ℕ → ℕ → ℝ) (r x : ℕ) : ℝ := f (r * d + x / 512) (x % 512)
/-- Block `b` of the `n`-th stream. -/
def blk (d n b : ℕ) (f : ℕ → ℕ → ℝ) (i l : ℕ) : ℝ := f ((128 * b + i) * d + n) l

theorem stream_blk (d n b : ℕ) (f : ℕ → ℕ → ℝ) (i : ℕ) (l : Fin 512) : stream d f (128 * b + i) (512 * n + l.val) = blk d n b f i l.val := by
  unfold stream blk
  have := l.isLt
  rw [show (512 * n + l.val) / 512 = n by omega, show (512 * n + l.val) % 512 = l.val by omega]

/-- A block read out of a stream's array. -/
theorem holds_blk {R C : ℕ} {X : Shape.Idx ⟨2, ![R, C]⟩ → EReal} {Y : S128x512.Idx → EReal} {d n b : ℕ} {f : ℕ → ℕ → ℝ}
    (h : Holds X (stream d f)) (hR : 128 * b + 128 ≤ R) (hC : 512 * n + 512 ≤ C)
    (e : ∀ (i : Fin 128) (l : Fin 512), Y (ix2 i l) = X (ix2 ⟨128 * b + i.val, by omega⟩ ⟨512 * n + l.val, by omega⟩)) :
    Holds (R := 128) (C := 512) Y (blk d n b f) := fun i l => by
  rw [e, h, stream_blk]

section closed
variable (d : ℕ) (q k v da at' ls : ℕ → ℕ → ℝ)

/-- The scaled queries, the keys and the values a block of the time `t` reads. -/
def qB (n b : ℕ) : ℕ → ℕ → ℝ := eighth (blk d n b q)
def kB (n b : ℕ) : ℕ → ℕ → ℝ := cat (blk d n (b - 1) k) (blk d n b k)

/-- The sum of a row's exponentials, the attention's output and its logarithm, in a block. -/
def oB (n b i c : ℕ) : ℝ := nR b (qB d q n b) (kB d k n b) (kB d v n b) (c / 64) i c / zR b (qB d q n b) (kB d k n b) (c / 64) i
def lB (n b i c : ℕ) : ℝ := Real.log (zR b (qB d q n b) (kB d k n b) (c / 64) i)
/-- The gradient of a score in a block, and the probability. -/
def dB (n b h i j : ℕ) : ℝ := dR b (qB d q n b) (kB d k n b) (kB d v n b) (blk d n b da) (prodA (blk d n b da) (blk d n b at'))
  (firstLane (blk d n b ls)) h i j
def pB (n b h i j : ℕ) : ℝ := pR b (qB d q n b) (kB d k n b) (firstLane (blk d n b ls)) h i j
def dqB (n b i c : ℕ) : ℝ := (∑ j : Fin 256, dB d q k v da at' ls n b (c / 64) i j.val * kB d k n b j.val c) * (1 / 8)
def dkB (o n b j c : ℕ) : ℝ := ∑ i : Fin 128, dB d q k v da at' ls n b (c / 64) i.val (o + j) * qB d q n b i.val c
def dvB (o n b j c : ℕ) : ℝ := ∑ i : Fin 128, pB d q k ls n b (c / 64) i.val (o + j) * blk d n b da i.val c

/-- A function of a block's coordinates, by the time. -/
def byTime (g : ℕ → ℕ → ℕ → ℕ → ℝ) (t c : ℕ) : ℝ := g (t % d) (t / d / 128) (t / d % 128) c

theorem byTime_blk (g : ℕ → ℕ → ℕ → ℕ → ℝ) (n b : ℕ) (hn : n < d) (i l : ℕ) (hi : i < 128) :
    blk d n b (byTime d g) i l = g n b i l := by
  unfold blk byTime
  have hd : 0 < d := by omega
  have h1 : ((128 * b + i) * d + n) % d = n := by rw [Nat.mul_comm, Nat.mul_add_mod, Nat.mod_eq_of_lt hn]
  have h2 : ((128 * b + i) * d + n) / d = 128 * b + i := by
    rw [Nat.mul_comm, Nat.mul_add_div hd, Nat.div_eq_of_lt hn, Nat.add_zero]
  rw [h1, h2, show (128 * b + i) / 128 = b by omega, show (128 * b + i) % 128 = i by omega]

end closed
end Cert.K.Attn

end
-- ==== Proof.Attn.Host.lean ====
/- The host's lines between the attention's kernels: streams and back, the mixture of the three patterns, and the sums of the gradients. -/
module

public import proofs.«01_k».proof.Proof.Attn.Time

@[expose] public section

set_option maxRecDepth 16384

noncomputable section

open Idealize.ShloMosaic Idealize.ShloMosaic.TcCoe Idealize.SL.Sem

namespace Cert.K.Attn

open Cert.AttnKernelIdeal Cert.AttnKernelIdeal.Gen

section Streams
variable {φ : FTy} {f g : ℕ → ℕ → ℝ}

theorem to4 {X : FVec Ideal S4096x512 φ} (h : Holds X (stream 1 f)) :
    Holds (shapeCast S1024x2048 X shapeCasts_S4096x512_S1024x2048) (stream 4 f) := fun r x => by
  refine Eq.trans (b := X (ix2 ⟨r.val * 4 + x.val / 512, by omega⟩ ⟨x.val % 512, by omega⟩)) (by pointwise) ((h _ _).trans ?_)
  refine congrArg (fun z : ℝ => (z : EReal)) ?_
  simp only [stream]
  congr 1 <;> omega
theorem to16 {X : FVec Ideal S4096x512 φ} (h : Holds X (stream 1 f)) :
    Holds (shapeCast S256x8192 X shapeCasts_S4096x512_S256x8192) (stream 16 f) := fun r x => by
  refine Eq.trans (b := X (ix2 ⟨r.val * 16 + x.val / 512, by omega⟩ ⟨x.val % 512, by omega⟩)) (by pointwise) ((h _ _).trans ?_)
  refine congrArg (fun z : ℝ => (z : EReal)) ?_
  simp only [stream]
  congr 1 <;> omega
theorem of4 {X : FVec Ideal S1024x2048 φ} (h : Holds X (stream 4 f)) :
    Holds (shapeCast S4096x512 X shapeCasts_S1024x2048_S4096x512) (stream 1 f) := fun r x => by
  refine Eq.trans (b := X (ix2 ⟨r.val / 4, by omega⟩ ⟨r.val % 4 * 512 + x.val, by omega⟩)) (by pointwise) ((h _ _).trans ?_)
  refine congrArg (fun z : ℝ => (z : EReal)) ?_
  simp only [stream]
  congr 1 <;> omega
theorem of16 {X : FVec Ideal S256x8192 φ} (h : Holds X (stream 16 f)) :
    Holds (shapeCast S4096x512 X shapeCasts_S256x8192_S4096x512) (stream 1 f) := fun r x => by
  refine Eq.trans (b := X (ix2 ⟨r.val / 16, by omega⟩ ⟨r.val % 16 * 512 + x.val, by omega⟩)) (by pointwise) ((h _ _).trans ?_)
  refine congrArg (fun z : ℝ => (z : EReal)) ?_
  simp only [stream]
  congr 1 <;> omega

/-- A sum of two streams. -/
theorem add_stream {X Y : FVec Ideal S4096x512 .f32} (hX : Holds X (stream 1 f)) (hY : Holds Y (stream 1 g)) :
    Holds (addf X Y) (stream 1 fun t c => f t c + g t c) := fun r x => by
  refine Eq.trans (b := X (ix2 r x) + Y (ix2 r x)) rfl ?_
  rw [hX, hY]
  exact (EReal.coe_add _ _).symm

/-- The rows from `s` on, followed by rows of zeros. -/
def shift (s : ℕ) (f : ℕ → ℕ → ℝ) (t c : ℕ) : ℝ := if t + s < 4096 then f (t + s) c else 0

theorem add_zero_stream {Y : FVec Ideal S4096x512 .f32} (hY : Holds Y (stream 1 g)) :
    Holds (addf (broadcastInDim S4096x512 ![] bcast_S_S4096x512 (constant S_ .f32 0x00000000#32)) Y) (stream 1 g) := fun r x => by
  refine Eq.trans (b := 0 + Y (ix2 r x)) (by pointwise!) ?_
  rw [hY, zero_add]

theorem shift1 {X : FVec Ideal S4096x512 .f32} {Z : FVec Ideal S128x512 .f32} (hZ : ∀ i, Z i = 0) (h : Holds X (stream 1 f)) :
    Holds (concatenate S4096x512 0 [⟨S3968x512, extractStridedSlice S3968x512 ![128, 0] X slices_S4096x512_S3968x512_128_0⟩,
      ⟨S128x512, Z⟩] concatenates_S3968x512_S128x512_S4096x512_d0) (stream 1 (shift 128 f)) := fun r x => by
  refine Eq.trans (b := if h : r.val < 3968 then X (ix2 ⟨128 + r.val, by omega⟩ x) else (0 : EReal)) (by pointwise! [hZ]) ?_
  have e : r.val * 1 + x.val / 512 = r.val := by omega
  simp only [stream, shift, e]
  by_cases h' : r.val < 3968
  · rw [dif_pos h', if_pos (by omega), h]
    refine congrArg (fun z : ℝ => (z : EReal)) ?_
    simp only [stream]
    congr 1; omega
  · rw [dif_neg h', if_neg (by omega)]; rfl
theorem shift4 {X : FVec Ideal S4096x512 .f32} {Z : FVec Ideal S512x512 .f32} (hZ : ∀ i, Z i = 0) (h : Holds X (stream 1 f)) :
    Holds (concatenate S4096x512 0 [⟨S3584x512, extractStridedSlice S3584x512 ![512, 0] X slices_S4096x512_S3584x512_512_0⟩,
      ⟨S512x512, Z⟩] concatenates_S3584x512_S512x512_S4096x512_d0) (stream 1 (shift 512 f)) := fun r x => by
  refine Eq.trans (b := if h : r.val < 3584 then X (ix2 ⟨512 + r.val, by omega⟩ x) else (0 : EReal)) (by pointwise! [hZ]) ?_
  have e : r.val * 1 + x.val / 512 = r.val := by omega
  simp only [stream, shift, e]
  by_cases h' : r.val < 3584
  · rw [dif_pos h', if_pos (by omega), h]
    refine congrArg (fun z : ℝ => (z : EReal)) ?_
    simp only [stream]
    congr 1; omega
  · rw [dif_neg h', if_neg (by omega)]; rfl
theorem shift16 {X : FVec Ideal S4096x512 .f32} {Z : FVec Ideal S2048x512 .f32} (hZ : ∀ i, Z i = 0) (h : Holds X (stream 1 f)) :
    Holds (concatenate S4096x512 0 [⟨S2048x512, extractStridedSlice S2048x512 ![2048, 0] X slices_S4096x512_S2048x512_2048_0⟩,
      ⟨S2048x512, Z⟩] concatenates_S2048x512_S2048x512_S4096x512_d0) (stream 1 (shift 2048 f)) := fun r x => by
  refine Eq.trans (b := if h : r.val < 2048 then X (ix2 ⟨2048 + r.val, by omega⟩ x) else (0 : EReal)) (by pointwise! [hZ]) ?_
  have e : r.val * 1 + x.val / 512 = r.val := by omega
  simp only [stream, shift, e]
  by_cases h' : r.val < 2048
  · rw [dif_pos h', if_pos (by omega), h]
    refine congrArg (fun z : ℝ => (z : EReal)) ?_
    simp only [stream]
    congr 1; omega
  · rw [dif_neg h', if_neg (by omega)]; rfl

end Streams

/-! ## The mixture -/

theorem exp_sub_max_log {z m : ℝ} (h : 0 < z) : Real.exp (Real.log z - m) = z * Real.exp (-m) := by
  rw [sub_eq_add_neg, Real.exp_add, Real.exp_log h]

section Mixture
variable {z₁ z₂ z₃ n₁ n₂ n₃ : ℕ → ℕ → ℝ}
  (p₁ : ∀ t c, 0 < z₁ t c) (p₂ : ∀ t c, 0 < z₂ t c) (p₃ : ∀ t c, 0 < z₃ t c)
  {o₁ o₂ o₃ l₁ l₂ l₃ : FVec Ideal S4096x512 .f32}
  (ho₁ : Holds o₁ (stream 1 fun t c => n₁ t c / z₁ t c)) (ho₂ : Holds o₂ (stream 1 fun t c => n₂ t c / z₂ t c)) (ho₃ : Holds o₃ (stream 1 fun t c => n₃ t c / z₃ t c))
  (hl₁ : Holds l₁ (stream 1 fun t c => Real.log (z₁ t c))) (hl₂ : Holds l₂ (stream 1 fun t c => Real.log (z₂ t c))) (hl₃ : Holds l₃ (stream 1 fun t c => Real.log (z₃ t c)))

def mixM (l₁ l₂ l₃ : FVec Ideal S4096x512 .f32) : FVec Ideal S4096x512 .f32 := maximumf (maximumf l₁ l₂) l₃
def mixE (l m : FVec Ideal S4096x512 .f32) : FVec Ideal S4096x512 .f32 := Host.exp (subf l m)
def mixT (l₁ l₂ l₃ : FVec Ideal S4096x512 .f32) : FVec Ideal S4096x512 .f32 :=
  addf (addf (mixE l₁ (mixM l₁ l₂ l₃)) (mixE l₂ (mixM l₁ l₂ l₃))) (mixE l₃ (mixM l₁ l₂ l₃))
def mixO (o₁ o₂ o₃ l₁ l₂ l₃ : FVec Ideal S4096x512 .f32) : FVec Ideal S4096x512 .f32 :=
  Host.divf (addf (addf (mulf (mixE l₁ (mixM l₁ l₂ l₃)) o₁) (mulf (mixE l₂ (mixM l₁ l₂ l₃)) o₂)) (mulf (mixE l₃ (mixM l₁ l₂ l₃)) o₃)) (mixT l₁ l₂ l₃)
def mixL (l₁ l₂ l₃ : FVec Ideal S4096x512 .f32) : FVec Ideal S4096x512 .f32 := addf (mixM l₁ l₂ l₃) (Host.log (mixT l₁ l₂ l₃))

include p₁ p₂ p₃ hl₁ hl₂ hl₃

theorem mix_parts (r : Fin 4096) (x : Fin 512) : ∃ m : ℝ, mixM l₁ l₂ l₃ (ix2 r x) = (m : EReal)
    ∧ mixE l₁ (mixM l₁ l₂ l₃) (ix2 r x) = ((stream 1 z₁ r.val x.val * Real.exp (-m) : ℝ) : EReal)
    ∧ mixE l₂ (mixM l₁ l₂ l₃) (ix2 r x) = ((stream 1 z₂ r.val x.val * Real.exp (-m) : ℝ) : EReal)
    ∧ mixE l₃ (mixM l₁ l₂ l₃) (ix2 r x) = ((stream 1 z₃ r.val x.val * Real.exp (-m) : ℝ) : EReal)
    ∧ mixT l₁ l₂ l₃ (ix2 r x) = (((stream 1 z₁ r.val x.val + stream 1 z₂ r.val x.val + stream 1 z₃ r.val x.val) * Real.exp (-m) : ℝ) : EReal) := by
  have hM : mixM l₁ l₂ l₃ (ix2 r x) = ((max (max (Real.log (stream 1 z₁ r.val x.val)) (Real.log (stream 1 z₂ r.val x.val))) (Real.log (stream 1 z₃ r.val x.val)) : ℝ) : EReal) := by
    refine Eq.trans (b := max (max (l₁ (ix2 r x)) (l₂ (ix2 r x))) (l₃ (ix2 r x))) (by pointwise [mixM]) ?_
    rw [hl₁, hl₂, hl₃]
    exact ((EReal.coe_strictMono.monotone.map_max).trans (congrArg (max · _) EReal.coe_strictMono.monotone.map_max)).symm
  refine ⟨_, hM, ?_⟩
  have hE : ∀ {l : FVec Ideal S4096x512 .f32} {z : ℕ → ℕ → ℝ}, (∀ t c, 0 < z t c) → Holds l (stream 1 fun t c => Real.log (z t c)) →
      mixE l (mixM l₁ l₂ l₃) (ix2 r x) = ((stream 1 z r.val x.val * Real.exp (-(max (max (Real.log (stream 1 z₁ r.val x.val)) (Real.log (stream 1 z₂ r.val x.val))) (Real.log (stream 1 z₃ r.val x.val)))) : ℝ) : EReal) := fun {l z} p hl => by
    refine Eq.trans (b := Ideal.exp (l (ix2 r x) - mixM l₁ l₂ l₃ (ix2 r x))) (by pointwise [mixE]) ?_
    rw [hl, hM, ← EReal.coe_sub, Ideal.exp_coe]
    exact congrArg (fun z : ℝ => (z : EReal)) (exp_sub_max_log (p _ _))
  refine ⟨hE p₁ hl₁, hE p₂ hl₂, hE p₃ hl₃, ?_⟩
  refine Eq.trans (b := mixE l₁ (mixM l₁ l₂ l₃) (ix2 r x) + mixE l₂ (mixM l₁ l₂ l₃) (ix2 r x) + mixE l₃ (mixM l₁ l₂ l₃) (ix2 r x)) rfl ?_
  rw [hE p₁ hl₁, hE p₂ hl₂, hE p₃ hl₃, ← EReal.coe_add, ← EReal.coe_add, add_mul, add_mul]

/-- The mixture's logarithm. -/
theorem mixL_real : Holds (mixL l₁ l₂ l₃) (stream 1 fun t c => Real.log (z₁ t c + z₂ t c + z₃ t c)) := fun r x => by
  obtain ⟨m, hM, -, -, -, hT⟩ := mix_parts p₁ p₂ p₃ hl₁ hl₂ hl₃ r x
  have hp : 0 < stream 1 z₁ r.val x.val + stream 1 z₂ r.val x.val + stream 1 z₃ r.val x.val :=
    add_pos (add_pos (p₁ _ _) (p₂ _ _)) (p₃ _ _)
  refine Eq.trans (b := mixM l₁ l₂ l₃ (ix2 r x) + Ideal.log (mixT l₁ l₂ l₃ (ix2 r x))) (by pointwise [mixL]) ?_
  rw [hM, hT, log_real (mul_pos hp (Real.exp_pos _)), ← EReal.coe_add]
  refine congrArg (fun z : ℝ => (z : EReal)) ?_
  rw [Real.log_mul hp.ne' (Real.exp_pos _).ne', Real.log_exp, add_neg_cancel_comm_assoc]
  rfl

include ho₁ ho₂ ho₃
/-- The mixture's output. -/
theorem mixO_real : Holds (mixO o₁ o₂ o₃ l₁ l₂ l₃) (stream 1 fun t c => (n₁ t c + n₂ t c + n₃ t c) / (z₁ t c + z₂ t c + z₃ t c)) := fun r x => by
  obtain ⟨m, -, h1, h2, h3, hT⟩ := mix_parts p₁ p₂ p₃ hl₁ hl₂ hl₃ r x
  have q₁ := p₁ (r.val * 1 + x.val / 512) (x.val % 512)
  have q₂ := p₂ (r.val * 1 + x.val / 512) (x.val % 512)
  have q₃ := p₃ (r.val * 1 + x.val / 512) (x.val % 512)
  have hp : 0 < stream 1 z₁ r.val x.val + stream 1 z₂ r.val x.val + stream 1 z₃ r.val x.val := add_pos (add_pos q₁ q₂) q₃
  refine Eq.trans (b := Ideal.div (mixE l₁ (mixM l₁ l₂ l₃) (ix2 r x) * o₁ (ix2 r x) + mixE l₂ (mixM l₁ l₂ l₃) (ix2 r x) * o₂ (ix2 r x)
    + mixE l₃ (mixM l₁ l₂ l₃) (ix2 r x) * o₃ (ix2 r x)) (mixT l₁ l₂ l₃ (ix2 r x))) (by pointwise [mixO]) ?_
  rw [h1, h2, h3, hT, ho₁, ho₂, ho₃, ← EReal.coe_mul, ← EReal.coe_mul, ← EReal.coe_mul, ← EReal.coe_add, ← EReal.coe_add,
    div_real (mul_pos hp (Real.exp_pos _)).ne']
  refine congrArg (fun z : ℝ => (z : EReal)) ?_
  have := Real.exp_pos (-m)
  simp only [stream] at *
  field_simp

end Mixture
end Cert.K.Attn

end
-- ==== Proof.Attn.Entry.lean ====
/- The arrays the attention's program holds at the entry of each kernel and at the end, by time. -/
module

public import proofs.«01_k».proof.Proof.Attn.Host
public import proofs.«01_k».proof.Proof.Attn.Run

@[expose] public section

set_option maxRecDepth 16384

noncomputable section

open Idealize.ShloMosaic Idealize.ShloMosaic.TcCoe Idealize.SL.Sem

namespace Cert.K.Attn

open Cert.AttnKernelIdeal Cert.AttnKernelIdeal.Gen

variable (m : (ℓ : Loc nD τ sig) → Buf (Elt Ideal) ℓ) (ρ : Dev nD → PrngReg) (c : Dev nD) {q k v da : ℕ → ℕ → ℝ}
  (hq : Holds (show FVec Ideal S4096x512 .f32 from m ((c : Thread nD τ).loc main_arg0)) (stream 1 q))
  (hk : Holds (show FVec Ideal S4096x512 .f32 from m ((c : Thread nD τ).loc main_arg1)) (stream 1 k))
  (hv : Holds (show FVec Ideal S4096x512 .f32 from m ((c : Thread nD τ).loc main_arg2)) (stream 1 v))
  (hd : Holds (show FVec Ideal S4096x512 .f32 from m ((c : Thread nD τ).loc main_arg3)) (stream 1 da))

theorem Holds.of_eq {R C : ℕ} {φ : FTy} {X Y : FVec Ideal ⟨2, ![R, C]⟩ φ} {f : ℕ → ℕ → ℝ} (e : X = Y) (h : Holds Y f) : Holds X f := e ▸ h

theorem trunc_holds {R C : ℕ} {X : FVec Ideal ⟨2, ![R, C]⟩ .f32} {f : ℕ → ℕ → ℝ} (h : Holds X f) : Holds (truncf .bf16 X bitsLt_bf16_f32) f := fun r x => h r x
theorem ext_holds {R C : ℕ} {X : FVec Ideal ⟨2, ![R, C]⟩ .bf16} {f : ℕ → ℕ → ℝ} (h : Holds X f) : Holds (extf .f32 X bitsLt_bf16_f32) f := fun r x => h r x

/-! ## The arguments at the first kernels -/

include hq in
theorem V1_v0 : Holds (show FVec Ideal S4096x512 .bf16 from V1 m ρ c main_v0) (stream 1 q) :=
  Holds.of_eq (Y := truncf .bf16 (show FVec Ideal S4096x512 .f32 from m ((c : Thread nD τ).loc main_arg0)) bitsLt_bf16_f32) (by dsimp only [V1, W1]; entry_read; rfl) (trunc_holds hq)
include hq in
theorem V5_v0 : Holds (show FVec Ideal S4096x512 .bf16 from V5 m ρ c main_v0) (stream 1 q) :=
  Holds.of_eq ((W5_of m ρ c main_v0 (by decide +kernel)).trans ((W4_of m ρ c main_v0 (by decide +kernel)).trans ((W3_of m ρ c main_v0 (by decide +kernel)).trans (W2_of m ρ c main_v0 (by decide +kernel))))) (V1_v0 m ρ c hq)
include hk in
theorem V1_v1 : Holds (show FVec Ideal S4096x512 .bf16 from V1 m ρ c main_v1) (stream 1 k) :=
  Holds.of_eq (Y := truncf .bf16 (show FVec Ideal S4096x512 .f32 from m ((c : Thread nD τ).loc main_arg1)) bitsLt_bf16_f32) (by dsimp only [V1, W1]; entry_read; rfl) (trunc_holds hk)
include hk in
theorem V5_v1 : Holds (show FVec Ideal S4096x512 .bf16 from V5 m ρ c main_v1) (stream 1 k) :=
  Holds.of_eq ((W5_of m ρ c main_v1 (by decide +kernel)).trans ((W4_of m ρ c main_v1 (by decide +kernel)).trans ((W3_of m ρ c main_v1 (by decide +kernel)).trans (W2_of m ρ c main_v1 (by decide +kernel))))) (V1_v1 m ρ c hk)
include hv in
theorem V1_v2 : Holds (show FVec Ideal S4096x512 .bf16 from V1 m ρ c main_v2) (stream 1 v) :=
  Holds.of_eq (Y := truncf .bf16 (show FVec Ideal S4096x512 .f32 from m ((c : Thread nD τ).loc main_arg2)) bitsLt_bf16_f32) (by dsimp only [V1, W1]; entry_read; rfl) (trunc_holds hv)
include hv in
theorem V5_v2 : Holds (show FVec Ideal S4096x512 .bf16 from V5 m ρ c main_v2) (stream 1 v) :=
  Holds.of_eq ((W5_of m ρ c main_v2 (by decide +kernel)).trans ((W4_of m ρ c main_v2 (by decide +kernel)).trans ((W3_of m ρ c main_v2 (by decide +kernel)).trans (W2_of m ρ c main_v2 (by decide +kernel))))) (V1_v2 m ρ c hv)
include hq in
theorem V1_v4 : Holds (show FVec Ideal S1024x2048 .bf16 from V1 m ρ c main_v4) (stream 4 q) :=
  Holds.of_eq (Y := shapeCast S1024x2048 (truncf .bf16 (show FVec Ideal S4096x512 .f32 from m ((c : Thread nD τ).loc main_arg0)) bitsLt_bf16_f32) shapeCasts_S4096x512_S1024x2048) (by dsimp only [V1, W1]; entry_read; rfl) (to4 (trunc_holds hq))
include hq in
theorem V2_v4 : Holds (show FVec Ideal S1024x2048 .bf16 from V2 m ρ c main_v4) (stream 4 q) :=
  Holds.of_eq (W2_of m ρ c main_v4 (by decide +kernel)) (V1_v4 m ρ c hq)
include hq in
theorem V7_v4 : Holds (show FVec Ideal S1024x2048 .bf16 from V7 m ρ c main_v4) (stream 4 q) :=
  Holds.of_eq ((W7_of m ρ c main_v4 (by decide +kernel)).trans ((W6_of m ρ c main_v4 (by decide +kernel)).trans ((W5_of m ρ c main_v4 (by decide +kernel)).trans ((W4_of m ρ c main_v4 (by decide +kernel)).trans ((W3_of m ρ c main_v4 (by decide +kernel)).trans (W2_of m ρ c main_v4 (by decide +kernel))))))) (V1_v4 m ρ c hq)
include hk in
theorem V1_v6 : Holds (show FVec Ideal S1024x2048 .bf16 from V1 m ρ c main_v6) (stream 4 k) :=
  Holds.of_eq (Y := shapeCast S1024x2048 (truncf .bf16 (show FVec Ideal S4096x512 .f32 from m ((c : Thread nD τ).loc main_arg1)) bitsLt_bf16_f32) shapeCasts_S4096x512_S1024x2048) (by dsimp only [V1, W1]; entry_read; rfl) (to4 (trunc_holds hk))
include hk in
theorem V2_v6 : Holds (show FVec Ideal S1024x2048 .bf16 from V2 m ρ c main_v6) (stream 4 k) :=
  Holds.of_eq (W2_of m ρ c main_v6 (by decide +kernel)) (V1_v6 m ρ c hk)
include hk in
theorem V7_v6 : Holds (show FVec Ideal S1024x2048 .bf16 from V7 m ρ c main_v6) (stream 4 k) :=
  Holds.of_eq ((W7_of m ρ c main_v6 (by decide +kernel)).trans ((W6_of m ρ c main_v6 (by decide +kernel)).trans ((W5_of m ρ c main_v6 (by decide +kernel)).trans ((W4_of m ρ c main_v6 (by decide +kernel)).trans ((W3_of m ρ c main_v6 (by decide +kernel)).trans (W2_of m ρ c main_v6 (by decide +kernel))))))) (V1_v6 m ρ c hk)
include hv in
theorem V1_v8 : Holds (show FVec Ideal S1024x2048 .bf16 from V1 m ρ c main_v8) (stream 4 v) :=
  Holds.of_eq (Y := shapeCast S1024x2048 (truncf .bf16 (show FVec Ideal S4096x512 .f32 from m ((c : Thread nD τ).loc main_arg2)) bitsLt_bf16_f32) shapeCasts_S4096x512_S1024x2048) (by dsimp only [V1, W1]; entry_read; rfl) (to4 (trunc_holds hv))
include hv in
theorem V2_v8 : Holds (show FVec Ideal S1024x2048 .bf16 from V2 m ρ c main_v8) (stream 4 v) :=
  Holds.of_eq (W2_of m ρ c main_v8 (by decide +kernel)) (V1_v8 m ρ c hv)
include hv in
theorem V7_v8 : Holds (show FVec Ideal S1024x2048 .bf16 from V7 m ρ c main_v8) (stream 4 v) :=
  Holds.of_eq ((W7_of m ρ c main_v8 (by decide +kernel)).trans ((W6_of m ρ c main_v8 (by decide +kernel)).trans ((W5_of m ρ c main_v8 (by decide +kernel)).trans ((W4_of m ρ c main_v8 (by decide +kernel)).trans ((W3_of m ρ c main_v8 (by decide +kernel)).trans (W2_of m ρ c main_v8 (by decide +kernel))))))) (V1_v8 m ρ c hv)
include hq in
theorem V1_v10 : Holds (show FVec Ideal S256x8192 .bf16 from V1 m ρ c main_v10) (stream 16 q) :=
  Holds.of_eq (Y := shapeCast S256x8192 (truncf .bf16 (show FVec Ideal S4096x512 .f32 from m ((c : Thread nD τ).loc main_arg0)) bitsLt_bf16_f32) shapeCasts_S4096x512_S256x8192) (by dsimp only [V1, W1]; entry_read; rfl) (to16 (trunc_holds hq))
include hq in
theorem V3_v10 : Holds (show FVec Ideal S256x8192 .bf16 from V3 m ρ c main_v10) (stream 16 q) :=
  Holds.of_eq ((W3_of m ρ c main_v10 (by decide +kernel)).trans (W2_of m ρ c main_v10 (by decide +kernel))) (V1_v10 m ρ c hq)
include hq in
theorem V9_v10 : Holds (show FVec Ideal S256x8192 .bf16 from V9 m ρ c main_v10) (stream 16 q) :=
  Holds.of_eq ((W9_of m ρ c main_v10 (by decide +kernel)).trans ((W8_of m ρ c main_v10 (by decide +kernel)).trans ((W7_of m ρ c main_v10 (by decide +kernel)).trans ((W6_of m ρ c main_v10 (by decide +kernel)).trans ((W5_of m ρ c main_v10 (by decide +kernel)).trans ((W4_of m ρ c main_v10 (by decide +kernel)).trans ((W3_of m ρ c main_v10 (by decide +kernel)).trans (W2_of m ρ c main_v10 (by decide +kernel))))))))) (V1_v10 m ρ c hq)
include hk in
theorem V1_v12 : Holds (show FVec Ideal S256x8192 .bf16 from V1 m ρ c main_v12) (stream 16 k) :=
  Holds.of_eq (Y := shapeCast S256x8192 (truncf .bf16 (show FVec Ideal S4096x512 .f32 from m ((c : Thread nD τ).loc main_arg1)) bitsLt_bf16_f32) shapeCasts_S4096x512_S256x8192) (by dsimp only [V1, W1]; entry_read; rfl) (to16 (trunc_holds hk))
include hk in
theorem V3_v12 : Holds (show FVec Ideal S256x8192 .bf16 from V3 m ρ c main_v12) (stream 16 k) :=
  Holds.of_eq ((W3_of m ρ c main_v12 (by decide +kernel)).trans (W2_of m ρ c main_v12 (by decide +kernel))) (V1_v12 m ρ c hk)
include hk in
theorem V9_v12 : Holds (show FVec Ideal S256x8192 .bf16 from V9 m ρ c main_v12) (stream 16 k) :=
  Holds.of_eq ((W9_of m ρ c main_v12 (by decide +kernel)).trans ((W8_of m ρ c main_v12 (by decide +kernel)).trans ((W7_of m ρ c main_v12 (by decide +kernel)).trans ((W6_of m ρ c main_v12 (by decide +kernel)).trans ((W5_of m ρ c main_v12 (by decide +kernel)).trans ((W4_of m ρ c main_v12 (by decide +kernel)).trans ((W3_of m ρ c main_v12 (by decide +kernel)).trans (W2_of m ρ c main_v12 (by decide +kernel))))))))) (V1_v12 m ρ c hk)
include hv in
theorem V1_v14 : Holds (show FVec Ideal S256x8192 .bf16 from V1 m ρ c main_v14) (stream 16 v) :=
  Holds.of_eq (Y := shapeCast S256x8192 (truncf .bf16 (show FVec Ideal S4096x512 .f32 from m ((c : Thread nD τ).loc main_arg2)) bitsLt_bf16_f32) shapeCasts_S4096x512_S256x8192) (by dsimp only [V1, W1]; entry_read; rfl) (to16 (trunc_holds hv))
include hv in
theorem V3_v14 : Holds (show FVec Ideal S256x8192 .bf16 from V3 m ρ c main_v14) (stream 16 v) :=
  Holds.of_eq ((W3_of m ρ c main_v14 (by decide +kernel)).trans (W2_of m ρ c main_v14 (by decide +kernel))) (V1_v14 m ρ c hv)
include hv in
theorem V9_v14 : Holds (show FVec Ideal S256x8192 .bf16 from V9 m ρ c main_v14) (stream 16 v) :=
  Holds.of_eq ((W9_of m ρ c main_v14 (by decide +kernel)).trans ((W8_of m ρ c main_v14 (by decide +kernel)).trans ((W7_of m ρ c main_v14 (by decide +kernel)).trans ((W6_of m ρ c main_v14 (by decide +kernel)).trans ((W5_of m ρ c main_v14 (by decide +kernel)).trans ((W4_of m ρ c main_v14 (by decide +kernel)).trans ((W3_of m ρ c main_v14 (by decide +kernel)).trans (W2_of m ρ c main_v14 (by decide +kernel))))))))) (V1_v14 m ρ c hv)
end Cert.K.Attn

end
-- ==== Proof.Attn.Region0.lean ====
/- What the attention's kernel of dilation 1 leaves, by time. -/
module

public import proofs.«01_k».proof.Proof.Attn.Time

@[expose] public section

set_option maxRecDepth 16384

noncomputable section

open Idealize.ShloMosaic Idealize.ShloMosaic.TcCoe Idealize.SL.Sem
open Idealize.ShloMosaic.Pipeline (Dat)

namespace Cert.K.Attn

open Cert.AttnKernelIdeal Cert.AttnKernelIdeal.Gen

variable (V : (c : Dev nD) → (b : Ref sig .tc) → Buf (Elt Ideal) ((c : Thread nD τ).loc b)) (c : Dev nD)
variable {q k v : ℕ → ℕ → ℝ}

theorem idx0 : ∀ t : Fin cfg0.N, win0_0.index t = ![t.val % 32, t.val / 32]
    ∧ win0_1.index t = ![t.val % 32 - 1, t.val / 32]
    ∧ win0_2.index t = ![t.val % 32, t.val / 32]
    ∧ win0_3.index t = ![t.val % 32 - 1, t.val / 32]
    ∧ win0_4.index t = ![t.val % 32, t.val / 32]
    ∧ win0_5.index t = ![t.val % 32, t.val / 32]
    ∧ win0_6.index t = ![t.val % 32, t.val / 32]
    ∧ (grid0.coords t 1).val = t.val % 32 ∧ t.val / 32 < 1 :=
  (by decide +kernel : ∀ t : Fin grid0.N, _)

section
variable (hq : Holds (show FVec Ideal S4096x512 .bf16 from V c main_v0) (stream 1 q))
    (hk : Holds (show FVec Ideal S4096x512 .bf16 from V c main_v1) (stream 1 k))
    (hv : Holds (show FVec Ideal S4096x512 .bf16 from V c main_v2) (stream 1 v))
include hq hk hv

/-- The blocks a point of the grid reads. -/
theorem blocks0 (t : Fin cfg0.N) : Holds (show FVec Ideal S128x512 .bf16 from iblk0 V c 0 t) (blk 1 (t.val / 32) (t.val % 32) q)
    ∧ Holds (show FVec Ideal S128x512 .bf16 from iblk0 V c 1 t) (blk 1 (t.val / 32) (t.val % 32 - 1) k)
    ∧ Holds (show FVec Ideal S128x512 .bf16 from iblk0 V c 2 t) (blk 1 (t.val / 32) (t.val % 32) k)
    ∧ Holds (show FVec Ideal S128x512 .bf16 from iblk0 V c 3 t) (blk 1 (t.val / 32) (t.val % 32 - 1) v)
    ∧ Holds (show FVec Ideal S128x512 .bf16 from iblk0 V c 4 t) (blk 1 (t.val / 32) (t.val % 32) v) := by
  have hn := (idx0 t).2.2.2.2.2.2.2.2
  exact ⟨holds_blk hq (by omega) (by omega) fun i l => by blk_ext! [iblk0, idx0 t],
    holds_blk hk (by omega) (by omega) fun i l => by blk_ext! [iblk0, idx0 t],
    holds_blk hk (by omega) (by omega) fun i l => by blk_ext! [iblk0, idx0 t],
    holds_blk hv (by omega) (by omega) fun i l => by blk_ext! [iblk0, idx0 t],
    holds_blk hv (by omega) (by omega) fun i l => by blk_ext! [iblk0, idx0 t]⟩

/-- The attention's outputs. -/
theorem out0 : Holds (show FVec Ideal S4096x512 .f32 from (dat0 V c).arrAt 5 cfg0.N) (stream 1 (byTime 1 (oB 1 q k v))) := fun r x => by
  refine congrFun ((dat0 V c).arrAt_eq_of_covers 5 (fun i : S4096x512.Idx => ((stream 1 (byTime 1 (oB 1 q k v)) (i 0).val (i 1).val : ℝ) : EReal))
    (by decide +kernel) fun t _ y => ?_) (ix2 r x)
  idx_vars y
  have hn := (idx0 t).2.2.2.2.2.2.2.2
  have e : ((cfg0.win 5).blk t).view.emb (show S128x512.Idx from ix2 y0 y1)
      = (show S4096x512.Idx from ix2 ⟨128 * (t.val % 32) + y0.val, by omega⟩ ⟨512 * (t.val / 32) + y1.val, by omega⟩) := by blk_ext [idx0 t]
  refine Eq.trans ?_ (congrArg (fun i : S4096x512.Idx => ((stream 1 (byTime 1 (oB 1 q k v)) (i 0).val (i 1).val : ℝ) : EReal)) e).symm
  blk_simp
  obtain ⟨h0, h1, h2, h3, h4⟩ := blocks0 V c hq hk hv t
  rw [after0_5, out0_5_eq, (idx0 t).2.2.2.2.2.2.2.1]
  refine (fwdO_real h0 h1 h2 h3 h4 (t.val % 32) (by omega) y0 y1).trans ?_
  refine congrArg (fun z : ℝ => (z : EReal)) (Eq.trans ?_ (stream_blk 1 (t.val / 32) (t.val % 32) _ y0.val y1).symm)
  exact (byTime_blk 1 (oB 1 q k v) (t.val / 32) (t.val % 32) hn y0.val y1.val y0.isLt).symm

/-- The logarithms of the sums. -/
theorem log0 : Holds (show FVec Ideal S4096x512 .f32 from (dat0 V c).arrAt 6 cfg0.N) (stream 1 (byTime 1 (lB 1 q k))) := fun r x => by
  refine congrFun ((dat0 V c).arrAt_eq_of_covers 6 (fun i : S4096x512.Idx => ((stream 1 (byTime 1 (lB 1 q k)) (i 0).val (i 1).val : ℝ) : EReal))
    (by decide +kernel) fun t _ y => ?_) (ix2 r x)
  idx_vars y
  have hn := (idx0 t).2.2.2.2.2.2.2.2
  have e : ((cfg0.win 6).blk t).view.emb (show S128x512.Idx from ix2 y0 y1)
      = (show S4096x512.Idx from ix2 ⟨128 * (t.val % 32) + y0.val, by omega⟩ ⟨512 * (t.val / 32) + y1.val, by omega⟩) := by blk_ext [idx0 t]
  refine Eq.trans ?_ (congrArg (fun i : S4096x512.Idx => ((stream 1 (byTime 1 (lB 1 q k)) (i 0).val (i 1).val : ℝ) : EReal)) e).symm
  blk_simp
  obtain ⟨h0, h1, h2, h3, h4⟩ := blocks0 V c hq hk hv t
  rw [after0_6, out0_6_eq, (idx0 t).2.2.2.2.2.2.2.1]
  refine (fwdL_real h0 h1 h2 (t.val % 32) (by omega) y0 y1).trans ?_
  refine congrArg (fun z : ℝ => (z : EReal)) (Eq.trans ?_ (stream_blk 1 (t.val / 32) (t.val % 32) _ y0.val y1).symm)
  exact (byTime_blk 1 (lB 1 q k) (t.val / 32) (t.val % 32) hn y0.val y1.val y0.isLt).symm

end
end Cert.K.Attn

end
-- ==== Proof.Attn.Region1.lean ====
/- What the attention's kernel of dilation 4 leaves, by time. -/
module

public import proofs.«01_k».proof.Proof.Attn.Time

@[expose] public section

set_option maxRecDepth 16384

noncomputable section

open Idealize.ShloMosaic Idealize.ShloMosaic.TcCoe Idealize.SL.Sem
open Idealize.ShloMosaic.Pipeline (Dat)

namespace Cert.K.Attn

open Cert.AttnKernelIdeal Cert.AttnKernelIdeal.Gen

variable (V : (c : Dev nD) → (b : Ref sig .tc) → Buf (Elt Ideal) ((c : Thread nD τ).loc b)) (c : Dev nD)
variable {q k v : ℕ → ℕ → ℝ}

theorem idx1 : ∀ t : Fin cfg1.N, win1_0.index t = ![t.val % 8, t.val / 8]
    ∧ win1_1.index t = ![t.val % 8 - 1, t.val / 8]
    ∧ win1_2.index t = ![t.val % 8, t.val / 8]
    ∧ win1_3.index t = ![t.val % 8 - 1, t.val / 8]
    ∧ win1_4.index t = ![t.val % 8, t.val / 8]
    ∧ win1_5.index t = ![t.val % 8, t.val / 8]
    ∧ win1_6.index t = ![t.val % 8, t.val / 8]
    ∧ (grid1.coords t 1).val = t.val % 8 ∧ t.val / 8 < 4 :=
  (by decide +kernel : ∀ t : Fin grid1.N, _)

section
variable (hq : Holds (show FVec Ideal S1024x2048 .bf16 from V c main_v4) (stream 4 q))
    (hk : Holds (show FVec Ideal S1024x2048 .bf16 from V c main_v6) (stream 4 k))
    (hv : Holds (show FVec Ideal S1024x2048 .bf16 from V c main_v8) (stream 4 v))
include hq hk hv

/-- The blocks a point of the grid reads. -/
theorem blocks1 (t : Fin cfg1.N) : Holds (show FVec Ideal S128x512 .bf16 from iblk1 V c 0 t) (blk 4 (t.val / 8) (t.val % 8) q)
    ∧ Holds (show FVec Ideal S128x512 .bf16 from iblk1 V c 1 t) (blk 4 (t.val / 8) (t.val % 8 - 1) k)
    ∧ Holds (show FVec Ideal S128x512 .bf16 from iblk1 V c 2 t) (blk 4 (t.val / 8) (t.val % 8) k)
    ∧ Holds (show FVec Ideal S128x512 .bf16 from iblk1 V c 3 t) (blk 4 (t.val / 8) (t.val % 8 - 1) v)
    ∧ Holds (show FVec Ideal S128x512 .bf16 from iblk1 V c 4 t) (blk 4 (t.val / 8) (t.val % 8) v) := by
  have hn := (idx1 t).2.2.2.2.2.2.2.2
  exact ⟨holds_blk hq (by omega) (by omega) fun i l => by blk_ext! [iblk1, idx1 t],
    holds_blk hk (by omega) (by omega) fun i l => by blk_ext! [iblk1, idx1 t],
    holds_blk hk (by omega) (by omega) fun i l => by blk_ext! [iblk1, idx1 t],
    holds_blk hv (by omega) (by omega) fun i l => by blk_ext! [iblk1, idx1 t],
    holds_blk hv (by omega) (by omega) fun i l => by blk_ext! [iblk1, idx1 t]⟩

/-- The attention's outputs. -/
theorem out1 : Holds (show FVec Ideal S1024x2048 .f32 from (dat1 V c).arrAt 5 cfg1.N) (stream 4 (byTime 4 (oB 4 q k v))) := fun r x => by
  refine congrFun ((dat1 V c).arrAt_eq_of_covers 5 (fun i : S1024x2048.Idx => ((stream 4 (byTime 4 (oB 4 q k v)) (i 0).val (i 1).val : ℝ) : EReal))
    (by decide +kernel) fun t _ y => ?_) (ix2 r x)
  idx_vars y
  have hn := (idx1 t).2.2.2.2.2.2.2.2
  have e : ((cfg1.win 5).blk t).view.emb (show S128x512.Idx from ix2 y0 y1)
      = (show S1024x2048.Idx from ix2 ⟨128 * (t.val % 8) + y0.val, by omega⟩ ⟨512 * (t.val / 8) + y1.val, by omega⟩) := by blk_ext [idx1 t]
  refine Eq.trans ?_ (congrArg (fun i : S1024x2048.Idx => ((stream 4 (byTime 4 (oB 4 q k v)) (i 0).val (i 1).val : ℝ) : EReal)) e).symm
  blk_simp
  obtain ⟨h0, h1, h2, h3, h4⟩ := blocks1 V c hq hk hv t
  rw [after1_5, out1_5_eq, (idx1 t).2.2.2.2.2.2.2.1]
  refine (fwdO_real h0 h1 h2 h3 h4 (t.val % 8) (by omega) y0 y1).trans ?_
  refine congrArg (fun z : ℝ => (z : EReal)) (Eq.trans ?_ (stream_blk 4 (t.val / 8) (t.val % 8) _ y0.val y1).symm)
  exact (byTime_blk 4 (oB 4 q k v) (t.val / 8) (t.val % 8) hn y0.val y1.val y0.isLt).symm

/-- The logarithms of the sums. -/
theorem log1 : Holds (show FVec Ideal S1024x2048 .f32 from (dat1 V c).arrAt 6 cfg1.N) (stream 4 (byTime 4 (lB 4 q k))) := fun r x => by
  refine congrFun ((dat1 V c).arrAt_eq_of_covers 6 (fun i : S1024x2048.Idx => ((stream 4 (byTime 4 (lB 4 q k)) (i 0).val (i 1).val : ℝ) : EReal))
    (by decide +kernel) fun t _ y => ?_) (ix2 r x)
  idx_vars y
  have hn := (idx1 t).2.2.2.2.2.2.2.2
  have e : ((cfg1.win 6).blk t).view.emb (show S128x512.Idx from ix2 y0 y1)
      = (show S1024x2048.Idx from ix2 ⟨128 * (t.val % 8) + y0.val, by omega⟩ ⟨512 * (t.val / 8) + y1.val, by omega⟩) := by blk_ext [idx1 t]
  refine Eq.trans ?_ (congrArg (fun i : S1024x2048.Idx => ((stream 4 (byTime 4 (lB 4 q k)) (i 0).val (i 1).val : ℝ) : EReal)) e).symm
  blk_simp
  obtain ⟨h0, h1, h2, h3, h4⟩ := blocks1 V c hq hk hv t
  rw [after1_6, out1_6_eq, (idx1 t).2.2.2.2.2.2.2.1]
  refine (fwdL_real h0 h1 h2 (t.val % 8) (by omega) y0 y1).trans ?_
  refine congrArg (fun z : ℝ => (z : EReal)) (Eq.trans ?_ (stream_blk 4 (t.val / 8) (t.val % 8) _ y0.val y1).symm)
  exact (byTime_blk 4 (lB 4 q k) (t.val / 8) (t.val % 8) hn y0.val y1.val y0.isLt).symm

end
end Cert.K.Attn

end
-- ==== Proof.Attn.Region2.lean ====
/- What the attention's kernel of dilation 16 leaves, by time. -/
module

public import proofs.«01_k».proof.Proof.Attn.Time

@[expose] public section

set_option maxRecDepth 16384

noncomputable section

open Idealize.ShloMosaic Idealize.ShloMosaic.TcCoe Idealize.SL.Sem
open Idealize.ShloMosaic.Pipeline (Dat)

namespace Cert.K.Attn

open Cert.AttnKernelIdeal Cert.AttnKernelIdeal.Gen

variable (V : (c : Dev nD) → (b : Ref sig .tc) → Buf (Elt Ideal) ((c : Thread nD τ).loc b)) (c : Dev nD)
variable {q k v : ℕ → ℕ → ℝ}

theorem idx2 : ∀ t : Fin cfg2.N, win2_0.index t = ![t.val % 2, t.val / 2]
    ∧ win2_1.index t = ![t.val % 2 - 1, t.val / 2]
    ∧ win2_2.index t = ![t.val % 2, t.val / 2]
    ∧ win2_3.index t = ![t.val % 2 - 1, t.val / 2]
    ∧ win2_4.index t = ![t.val % 2, t.val / 2]
    ∧ win2_5.index t = ![t.val % 2, t.val / 2]
    ∧ win2_6.index t = ![t.val % 2, t.val / 2]
    ∧ (grid2.coords t 1).val = t.val % 2 ∧ t.val / 2 < 16 :=
  (by decide +kernel : ∀ t : Fin grid2.N, _)

section
variable (hq : Holds (show FVec Ideal S256x8192 .bf16 from V c main_v10) (stream 16 q))
    (hk : Holds (show FVec Ideal S256x8192 .bf16 from V c main_v12) (stream 16 k))
    (hv : Holds (show FVec Ideal S256x8192 .bf16 from V c main_v14) (stream 16 v))
include hq hk hv

/-- The blocks a point of the grid reads. -/
theorem blocks2 (t : Fin cfg2.N) : Holds (show FVec Ideal S128x512 .bf16 from iblk2 V c 0 t) (blk 16 (t.val / 2) (t.val % 2) q)
    ∧ Holds (show FVec Ideal S128x512 .bf16 from iblk2 V c 1 t) (blk 16 (t.val / 2) (t.val % 2 - 1) k)
    ∧ Holds (show FVec Ideal S128x512 .bf16 from iblk2 V c 2 t) (blk 16 (t.val / 2) (t.val % 2) k)
    ∧ Holds (show FVec Ideal S128x512 .bf16 from iblk2 V c 3 t) (blk 16 (t.val / 2) (t.val % 2 - 1) v)
    ∧ Holds (show FVec Ideal S128x512 .bf16 from iblk2 V c 4 t) (blk 16 (t.val / 2) (t.val % 2) v) := by
  have hn := (idx2 t).2.2.2.2.2.2.2.2
  exact ⟨holds_blk hq (by omega) (by omega) fun i l => by blk_ext! [iblk2, idx2 t],
    holds_blk hk (by omega) (by omega) fun i l => by blk_ext! [iblk2, idx2 t],
    holds_blk hk (by omega) (by omega) fun i l => by blk_ext! [iblk2, idx2 t],
    holds_blk hv (by omega) (by omega) fun i l => by blk_ext! [iblk2, idx2 t],
    holds_blk hv (by omega) (by omega) fun i l => by blk_ext! [iblk2, idx2 t]⟩

/-- The attention's outputs. -/
theorem out2 : Holds (show FVec Ideal S256x8192 .f32 from (dat2 V c).arrAt 5 cfg2.N) (stream 16 (byTime 16 (oB 16 q k v))) := fun r x => by
  refine congrFun ((dat2 V c).arrAt_eq_of_covers 5 (fun i : S256x8192.Idx => ((stream 16 (byTime 16 (oB 16 q k v)) (i 0).val (i 1).val : ℝ) : EReal))
    (by decide +kernel) fun t _ y => ?_) (ix2 r x)
  idx_vars y
  have hn := (idx2 t).2.2.2.2.2.2.2.2
  have e : ((cfg2.win 5).blk t).view.emb (show S128x512.Idx from ix2 y0 y1)
      = (show S256x8192.Idx from ix2 ⟨128 * (t.val % 2) + y0.val, by omega⟩ ⟨512 * (t.val / 2) + y1.val, by omega⟩) := by blk_ext [idx2 t]
  refine Eq.trans ?_ (congrArg (fun i : S256x8192.Idx => ((stream 16 (byTime 16 (oB 16 q k v)) (i 0).val (i 1).val : ℝ) : EReal)) e).symm
  blk_simp
  obtain ⟨h0, h1, h2, h3, h4⟩ := blocks2 V c hq hk hv t
  rw [after2_5, out2_5_eq, (idx2 t).2.2.2.2.2.2.2.1]
  refine (fwdO_real h0 h1 h2 h3 h4 (t.val % 2) (by omega) y0 y1).trans ?_
  refine congrArg (fun z : ℝ => (z : EReal)) (Eq.trans ?_ (stream_blk 16 (t.val / 2) (t.val % 2) _ y0.val y1).symm)
  exact (byTime_blk 16 (oB 16 q k v) (t.val / 2) (t.val % 2) hn y0.val y1.val y0.isLt).symm

/-- The logarithms of the sums. -/
theorem log2 : Holds (show FVec Ideal S256x8192 .f32 from (dat2 V c).arrAt 6 cfg2.N) (stream 16 (byTime 16 (lB 16 q k))) := fun r x => by
  refine congrFun ((dat2 V c).arrAt_eq_of_covers 6 (fun i : S256x8192.Idx => ((stream 16 (byTime 16 (lB 16 q k)) (i 0).val (i 1).val : ℝ) : EReal))
    (by decide +kernel) fun t _ y => ?_) (ix2 r x)
  idx_vars y
  have hn := (idx2 t).2.2.2.2.2.2.2.2
  have e : ((cfg2.win 6).blk t).view.emb (show S128x512.Idx from ix2 y0 y1)
      = (show S256x8192.Idx from ix2 ⟨128 * (t.val % 2) + y0.val, by omega⟩ ⟨512 * (t.val / 2) + y1.val, by omega⟩) := by blk_ext [idx2 t]
  refine Eq.trans ?_ (congrArg (fun i : S256x8192.Idx => ((stream 16 (byTime 16 (lB 16 q k)) (i 0).val (i 1).val : ℝ) : EReal)) e).symm
  blk_simp
  obtain ⟨h0, h1, h2, h3, h4⟩ := blocks2 V c hq hk hv t
  rw [after2_6, out2_6_eq, (idx2 t).2.2.2.2.2.2.2.1]
  refine (fwdL_real h0 h1 h2 (t.val % 2) (by omega) y0 y1).trans ?_
  refine congrArg (fun z : ℝ => (z : EReal)) (Eq.trans ?_ (stream_blk 16 (t.val / 2) (t.val % 2) _ y0.val y1).symm)
  exact (byTime_blk 16 (lB 16 q k) (t.val / 2) (t.val % 2) hn y0.val y1.val y0.isLt).symm

end
end Cert.K.Attn

end
-- ==== Proof.Attn.Output.lean ====
/- The attention's output and the mixture's logarithm, by time. -/
module

public import proofs.«01_k».proof.Proof.Attn.Entry
public import proofs.«01_k».proof.Proof.Attn.Region0
public import proofs.«01_k».proof.Proof.Attn.Region1
public import proofs.«01_k».proof.Proof.Attn.Region2

@[expose] public section

set_option maxRecDepth 16384

noncomputable section

open Idealize.ShloMosaic Idealize.ShloMosaic.TcCoe Idealize.SL.Sem

namespace Cert.K.Attn

open Cert.AttnKernelIdeal Cert.AttnKernelIdeal.Gen

variable (m : (ℓ : Loc nD τ sig) → Buf (Elt Ideal) ℓ) (ρ : Dev nD → PrngReg) (c : Dev nD) {q k v da : ℕ → ℕ → ℝ}
  (hq : Holds (show FVec Ideal S4096x512 .f32 from m ((c : Thread nD τ).loc main_arg0)) (stream 1 q))
  (hk : Holds (show FVec Ideal S4096x512 .f32 from m ((c : Thread nD τ).loc main_arg1)) (stream 1 k))
  (hv : Holds (show FVec Ideal S4096x512 .f32 from m ((c : Thread nD τ).loc main_arg2)) (stream 1 v))
  (hd : Holds (show FVec Ideal S4096x512 .f32 from m ((c : Thread nD τ).loc main_arg3)) (stream 1 da))

/-- A pattern's sum of exponentials and its weighted values, by time. -/
def zT (d : ℕ) (q k : ℕ → ℕ → ℝ) : ℕ → ℕ → ℝ := byTime d fun n b i c => zR b (qB d q n b) (kB d k n b) (c / 64) i
def nT (d : ℕ) (q k v : ℕ → ℕ → ℝ) : ℕ → ℕ → ℝ := byTime d fun n b i c => nR b (qB d q n b) (kB d k n b) (kB d v n b) (c / 64) i c
/-- The three patterns together: the sum, the output and the logarithm. -/
def zAll (q k : ℕ → ℕ → ℝ) (t c : ℕ) : ℝ := zT 1 q k t c + zT 4 q k t c + zT 16 q k t c
def attnT (q k v : ℕ → ℕ → ℝ) (t c : ℕ) : ℝ := (nT 1 q k v t c + nT 4 q k v t c + nT 16 q k v t c) / zAll q k t c
def lseT (q k : ℕ → ℕ → ℝ) (t c : ℕ) : ℝ := Real.log (zAll q k t c)

theorem zT_pos (d : ℕ) (q k : ℕ → ℕ → ℝ) (t c : ℕ) : 0 < zT d q k t c := zR_pos _ _ _ _ ⟨_, Nat.mod_lt _ (by norm_num : 0 < 128)⟩

include hq hk hv in
theorem W4_v15_0 : Holds (show FVec Ideal S4096x512 .f32 from W4 m ρ c (Proc.devRef .tc main_v15_0)) (stream 1 (fun t c => nT 1 q k v t c / zT 1 q k t c)) :=
  Holds.of_eq (((W4_of m ρ c main_v15_0 (by decide +kernel)).trans (W3_of m ρ c main_v15_0 (by decide +kernel))).trans (W2_arr m ρ c 5)) (out0 (V1 m ρ) c (V1_v0 m ρ c hq) (V1_v1 m ρ c hk) (V1_v2 m ρ c hv))
include hq hk hv in
theorem W4_v15_1 : Holds (show FVec Ideal S4096x512 .f32 from W4 m ρ c (Proc.devRef .tc main_v15_1)) (stream 1 (fun t c => Real.log (zT 1 q k t c))) :=
  Holds.of_eq (((W4_of m ρ c main_v15_1 (by decide +kernel)).trans (W3_of m ρ c main_v15_1 (by decide +kernel))).trans (W2_arr m ρ c 6)) (log0 (V1 m ρ) c (V1_v0 m ρ c hq) (V1_v1 m ρ c hk) (V1_v2 m ρ c hv))
include hq hk hv in
theorem W4_v16_0 : Holds (show FVec Ideal S1024x2048 .f32 from W4 m ρ c (Proc.devRef .tc main_v16_0)) (stream 4 (fun t c => nT 4 q k v t c / zT 4 q k t c)) :=
  Holds.of_eq ((W4_of m ρ c main_v16_0 (by decide +kernel)).trans (W3_arr m ρ c 5)) (out1 (V2 m ρ) c (V2_v4 m ρ c hq) (V2_v6 m ρ c hk) (V2_v8 m ρ c hv))
include hq hk hv in
theorem W4_v16_1 : Holds (show FVec Ideal S1024x2048 .f32 from W4 m ρ c (Proc.devRef .tc main_v16_1)) (stream 4 (fun t c => Real.log (zT 4 q k t c))) :=
  Holds.of_eq ((W4_of m ρ c main_v16_1 (by decide +kernel)).trans (W3_arr m ρ c 6)) (log1 (V2 m ρ) c (V2_v4 m ρ c hq) (V2_v6 m ρ c hk) (V2_v8 m ρ c hv))
include hq hk hv in
theorem W4_v17_0 : Holds (show FVec Ideal S256x8192 .f32 from W4 m ρ c (Proc.devRef .tc main_v17_0)) (stream 16 (fun t c => nT 16 q k v t c / zT 16 q k t c)) :=
  Holds.of_eq (W4_arr m ρ c 5) (out2 (V3 m ρ) c (V3_v10 m ρ c hq) (V3_v12 m ρ c hk) (V3_v14 m ρ c hv))
include hq hk hv in
theorem W4_v17_1 : Holds (show FVec Ideal S256x8192 .f32 from W4 m ρ c (Proc.devRef .tc main_v17_1)) (stream 16 (fun t c => Real.log (zT 16 q k t c))) :=
  Holds.of_eq (W4_arr m ρ c 6) (log2 (V3 m ρ) c (V3_v10 m ρ c hq) (V3_v12 m ρ c hk) (V3_v14 m ρ c hv))

include hq hk hv
theorem V5_v37 : Holds (show FVec Ideal S4096x512 .f32 from V5 m ρ c main_v37) (stream 1 (attnT q k v)) :=
  Holds.of_eq (Y := mixO (show FVec Ideal S4096x512 .f32 from W4 m ρ c (Proc.devRef .tc main_v15_0)) (shapeCast S4096x512 (show FVec Ideal S1024x2048 .f32 from W4 m ρ c (Proc.devRef .tc main_v16_0)) shapeCasts_S1024x2048_S4096x512) (shapeCast S4096x512 (show FVec Ideal S256x8192 .f32 from W4 m ρ c (Proc.devRef .tc main_v17_0)) shapeCasts_S256x8192_S4096x512) (show FVec Ideal S4096x512 .f32 from W4 m ρ c (Proc.devRef .tc main_v15_1)) (shapeCast S4096x512 (show FVec Ideal S1024x2048 .f32 from W4 m ρ c (Proc.devRef .tc main_v16_1)) shapeCasts_S1024x2048_S4096x512) (shapeCast S4096x512 (show FVec Ideal S256x8192 .f32 from W4 m ρ c (Proc.devRef .tc main_v17_1)) shapeCasts_S256x8192_S4096x512))
    (by dsimp only [V5, W5]; entry_read; rfl)
    (mixO_real (zT_pos 1 q k) (zT_pos 4 q k) (zT_pos 16 q k) (W4_v15_0 m ρ c hq hk hv) (of4 (W4_v16_0 m ρ c hq hk hv)) (of16 (W4_v17_0 m ρ c hq hk hv)) (W4_v15_1 m ρ c hq hk hv) (of4 (W4_v16_1 m ρ c hq hk hv)) (of16 (W4_v17_1 m ρ c hq hk hv)))
theorem V5_v39 : Holds (show FVec Ideal S4096x512 .f32 from V5 m ρ c main_v39) (stream 1 (lseT q k)) :=
  Holds.of_eq (Y := mixL (show FVec Ideal S4096x512 .f32 from W4 m ρ c (Proc.devRef .tc main_v15_1)) (shapeCast S4096x512 (show FVec Ideal S1024x2048 .f32 from W4 m ρ c (Proc.devRef .tc main_v16_1)) shapeCasts_S1024x2048_S4096x512) (shapeCast S4096x512 (show FVec Ideal S256x8192 .f32 from W4 m ρ c (Proc.devRef .tc main_v17_1)) shapeCasts_S256x8192_S4096x512))
    (by dsimp only [V5, W5]; entry_read; rfl)
    (mixL_real (zT_pos 1 q k) (zT_pos 4 q k) (zT_pos 16 q k) (W4_v15_1 m ρ c hq hk hv) (of4 (W4_v16_1 m ρ c hq hk hv)) (of16 (W4_v17_1 m ρ c hq hk hv)))

end Cert.K.Attn

end
-- ==== Proof.Attn.Region3.lean ====
/- What the gradient's kernel of dilation 1 leaves, by time. -/
module

public import proofs.«01_k».proof.Proof.Attn.Time

@[expose] public section

set_option maxRecDepth 16384

noncomputable section

open Idealize.ShloMosaic Idealize.ShloMosaic.TcCoe Idealize.SL.Sem
open Idealize.ShloMosaic.Pipeline (Dat)

namespace Cert.K.Attn

open Cert.AttnKernelIdeal Cert.AttnKernelIdeal.Gen

variable (V : (c : Dev nD) → (b : Ref sig .tc) → Buf (Elt Ideal) ((c : Thread nD τ).loc b)) (c : Dev nD)
variable {q k v da at' ls : ℕ → ℕ → ℝ}

theorem idx3 : ∀ t : Fin cfg3.N, win3_0.index t = ![t.val % 32, t.val / 32]
    ∧ win3_1.index t = ![t.val % 32 - 1, t.val / 32]
    ∧ win3_2.index t = ![t.val % 32, t.val / 32]
    ∧ win3_3.index t = ![t.val % 32 - 1, t.val / 32]
    ∧ win3_4.index t = ![t.val % 32, t.val / 32]
    ∧ win3_5.index t = ![t.val % 32, t.val / 32]
    ∧ win3_6.index t = ![t.val % 32, t.val / 32]
    ∧ win3_7.index t = ![t.val % 32, t.val / 32]
    ∧ win3_8.index t = ![t.val % 32, t.val / 32]
    ∧ win3_9.index t = ![t.val % 32, t.val / 32]
    ∧ win3_10.index t = ![t.val % 32, t.val / 32]
    ∧ win3_11.index t = ![t.val % 32, t.val / 32]
    ∧ win3_12.index t = ![t.val % 32, t.val / 32]
    ∧ (grid3.coords t 1).val = t.val % 32 ∧ t.val / 32 < 1 :=
  (by decide +kernel : ∀ t : Fin grid3.N, _)

section
variable (hq : Holds (show FVec Ideal S4096x512 .bf16 from V c main_v0) (stream 1 q))
    (hk : Holds (show FVec Ideal S4096x512 .bf16 from V c main_v1) (stream 1 k))
    (hv : Holds (show FVec Ideal S4096x512 .bf16 from V c main_v2) (stream 1 v))
    (hda : Holds (show FVec Ideal S4096x512 .f32 from V c main_arg3) (stream 1 da))
    (hat : Holds (show FVec Ideal S4096x512 .f32 from V c main_v37) (stream 1 at'))
    (hls : Holds (show FVec Ideal S4096x512 .f32 from V c main_v39) (stream 1 ls))
include hq hk hv hda hat hls

/-- The blocks a point of the grid reads. -/
theorem blocks3 (t : Fin cfg3.N) : Holds (show FVec Ideal S128x512 .bf16 from iblk3 V c 0 t) (blk 1 (t.val / 32) (t.val % 32) q)
    ∧ Holds (show FVec Ideal S128x512 .bf16 from iblk3 V c 1 t) (blk 1 (t.val / 32) (t.val % 32 - 1) k)
    ∧ Holds (show FVec Ideal S128x512 .bf16 from iblk3 V c 2 t) (blk 1 (t.val / 32) (t.val % 32) k)
    ∧ Holds (show FVec Ideal S128x512 .bf16 from iblk3 V c 3 t) (blk 1 (t.val / 32) (t.val % 32 - 1) v)
    ∧ Holds (show FVec Ideal S128x512 .bf16 from iblk3 V c 4 t) (blk 1 (t.val / 32) (t.val % 32) v)
    ∧ Holds (show FVec Ideal S128x512 .f32 from iblk3 V c 5 t) (blk 1 (t.val / 32) (t.val % 32) da)
    ∧ Holds (show FVec Ideal S128x512 .f32 from iblk3 V c 6 t) (blk 1 (t.val / 32) (t.val % 32) at')
    ∧ Holds (show FVec Ideal S128x512 .f32 from iblk3 V c 7 t) (blk 1 (t.val / 32) (t.val % 32) ls) := by
  have hn := (idx3 t).2.2.2.2.2.2.2.2.2.2.2.2.2.2
  exact ⟨holds_blk hq (by omega) (by omega) fun i l => by blk_ext! [iblk3, idx3 t],
    holds_blk hk (by omega) (by omega) fun i l => by blk_ext! [iblk3, idx3 t],
    holds_blk hk (by omega) (by omega) fun i l => by blk_ext! [iblk3, idx3 t],
    holds_blk hv (by omega) (by omega) fun i l => by blk_ext! [iblk3, idx3 t],
    holds_blk hv (by omega) (by omega) fun i l => by blk_ext! [iblk3, idx3 t],
    holds_blk hda (by omega) (by omega) fun i l => by blk_ext! [iblk3, idx3 t],
    holds_blk hat (by omega) (by omega) fun i l => by blk_ext! [iblk3, idx3 t],
    holds_blk hls (by omega) (by omega) fun i l => by blk_ext! [iblk3, idx3 t]⟩

/-- The gradient of the queries. -/
theorem dq3 : Holds (show FVec Ideal S4096x512 .bf16 from (dat3 V c).arrAt 8 cfg3.N) (stream 1 (byTime 1 (dqB 1 q k v da at' ls))) := fun r x => by
  refine congrFun ((dat3 V c).arrAt_eq_of_covers 8 (fun i : S4096x512.Idx => ((stream 1 (byTime 1 (dqB 1 q k v da at' ls)) (i 0).val (i 1).val : ℝ) : EReal))
    (by decide +kernel) fun t _ y => ?_) (ix2 r x)
  idx_vars y
  have hn := (idx3 t).2.2.2.2.2.2.2.2.2.2.2.2.2.2
  have e : ((cfg3.win 8).blk t).view.emb (show S128x512.Idx from ix2 y0 y1)
      = (show S4096x512.Idx from ix2 ⟨128 * (t.val % 32) + y0.val, by omega⟩ ⟨512 * (t.val / 32) + y1.val, by omega⟩) := by blk_ext [idx3 t]
  refine Eq.trans ?_ (congrArg (fun i : S4096x512.Idx => ((stream 1 (byTime 1 (dqB 1 q k v da at' ls)) (i 0).val (i 1).val : ℝ) : EReal)) e).symm
  blk_simp
  obtain ⟨h0, h1, h2, h3, h4, h5, h6, h7⟩ := blocks3 V c hq hk hv hda hat hls t
  rw [after3_8, (out3_eq _ _ _ _ _ _ _ _ _).1, (idx3 t).2.2.2.2.2.2.2.2.2.2.2.2.2.1]
  refine (bwdQ_real h0 h1 h2 h3 h4 h5 h6 h7 (t.val % 32) (by omega) y0 y1).trans ?_
  refine congrArg (fun z : ℝ => (z : EReal)) (Eq.trans ?_ (stream_blk 1 (t.val / 32) (t.val % 32) _ y0.val y1).symm)
  exact (byTime_blk 1 (dqB 1 q k v da at' ls) (t.val / 32) (t.val % 32) hn y0.val y1.val y0.isLt).symm

/-- The gradient of the keys of the own block. -/
theorem dk3 : Holds (show FVec Ideal S4096x512 .bf16 from (dat3 V c).arrAt 9 cfg3.N) (stream 1 (byTime 1 (dkB 1 q k v da at' ls 128))) := fun r x => by
  refine congrFun ((dat3 V c).arrAt_eq_of_covers 9 (fun i : S4096x512.Idx => ((stream 1 (byTime 1 (dkB 1 q k v da at' ls 128)) (i 0).val (i 1).val : ℝ) : EReal))
    (by decide +kernel) fun t _ y => ?_) (ix2 r x)
  idx_vars y
  have hn := (idx3 t).2.2.2.2.2.2.2.2.2.2.2.2.2.2
  have e : ((cfg3.win 9).blk t).view.emb (show S128x512.Idx from ix2 y0 y1)
      = (show S4096x512.Idx from ix2 ⟨128 * (t.val % 32) + y0.val, by omega⟩ ⟨512 * (t.val / 32) + y1.val, by omega⟩) := by blk_ext [idx3 t]
  refine Eq.trans ?_ (congrArg (fun i : S4096x512.Idx => ((stream 1 (byTime 1 (dkB 1 q k v da at' ls 128)) (i 0).val (i 1).val : ℝ) : EReal)) e).symm
  blk_simp
  obtain ⟨h0, h1, h2, h3, h4, h5, h6, h7⟩ := blocks3 V c hq hk hv hda hat hls t
  rw [after3_9, (out3_eq _ _ _ _ _ _ _ _ _).2.1, (idx3 t).2.2.2.2.2.2.2.2.2.2.2.2.2.1]
  refine (bwdK_real h0 h1 h2 h3 h4 h5 h6 h7 (t.val % 32) (by omega) y0 y1).trans ?_
  refine congrArg (fun z : ℝ => (z : EReal)) (Eq.trans ?_ (stream_blk 1 (t.val / 32) (t.val % 32) _ y0.val y1).symm)
  exact (byTime_blk 1 (dkB 1 q k v da at' ls 128) (t.val / 32) (t.val % 32) hn y0.val y1.val y0.isLt).symm

/-- The gradient of the keys of the block before. -/
theorem dk3' : Holds (show FVec Ideal S4096x512 .bf16 from (dat3 V c).arrAt 10 cfg3.N) (stream 1 (byTime 1 (dkB 1 q k v da at' ls 0))) := fun r x => by
  refine congrFun ((dat3 V c).arrAt_eq_of_covers 10 (fun i : S4096x512.Idx => ((stream 1 (byTime 1 (dkB 1 q k v da at' ls 0)) (i 0).val (i 1).val : ℝ) : EReal))
    (by decide +kernel) fun t _ y => ?_) (ix2 r x)
  idx_vars y
  have hn := (idx3 t).2.2.2.2.2.2.2.2.2.2.2.2.2.2
  have e : ((cfg3.win 10).blk t).view.emb (show S128x512.Idx from ix2 y0 y1)
      = (show S4096x512.Idx from ix2 ⟨128 * (t.val % 32) + y0.val, by omega⟩ ⟨512 * (t.val / 32) + y1.val, by omega⟩) := by blk_ext [idx3 t]
  refine Eq.trans ?_ (congrArg (fun i : S4096x512.Idx => ((stream 1 (byTime 1 (dkB 1 q k v da at' ls 0)) (i 0).val (i 1).val : ℝ) : EReal)) e).symm
  blk_simp
  obtain ⟨h0, h1, h2, h3, h4, h5, h6, h7⟩ := blocks3 V c hq hk hv hda hat hls t
  rw [after3_10, (out3_eq _ _ _ _ _ _ _ _ _).2.2.1, (idx3 t).2.2.2.2.2.2.2.2.2.2.2.2.2.1]
  refine (bwdK'_real h0 h1 h2 h3 h4 h5 h6 h7 (t.val % 32) (by omega) y0 y1).trans ?_
  refine congrArg (fun z : ℝ => (z : EReal)) (Eq.trans ?_ (stream_blk 1 (t.val / 32) (t.val % 32) _ y0.val y1).symm)
  refine Eq.trans ?_ (byTime_blk 1 (dkB 1 q k v da at' ls 0) (t.val / 32) (t.val % 32) hn y0.val y1.val y0.isLt).symm
  rw [dkB]
  simp only [Nat.zero_add]
  rfl

/-- The gradient of the values of the own block. -/
theorem dv3 : Holds (show FVec Ideal S4096x512 .bf16 from (dat3 V c).arrAt 11 cfg3.N) (stream 1 (byTime 1 (dvB 1 q k da ls 128))) := fun r x => by
  refine congrFun ((dat3 V c).arrAt_eq_of_covers 11 (fun i : S4096x512.Idx => ((stream 1 (byTime 1 (dvB 1 q k da ls 128)) (i 0).val (i 1).val : ℝ) : EReal))
    (by decide +kernel) fun t _ y => ?_) (ix2 r x)
  idx_vars y
  have hn := (idx3 t).2.2.2.2.2.2.2.2.2.2.2.2.2.2
  have e : ((cfg3.win 11).blk t).view.emb (show S128x512.Idx from ix2 y0 y1)
      = (show S4096x512.Idx from ix2 ⟨128 * (t.val % 32) + y0.val, by omega⟩ ⟨512 * (t.val / 32) + y1.val, by omega⟩) := by blk_ext [idx3 t]
  refine Eq.trans ?_ (congrArg (fun i : S4096x512.Idx => ((stream 1 (byTime 1 (dvB 1 q k da ls 128)) (i 0).val (i 1).val : ℝ) : EReal)) e).symm
  blk_simp
  obtain ⟨h0, h1, h2, h3, h4, h5, h6, h7⟩ := blocks3 V c hq hk hv hda hat hls t
  rw [after3_11, (out3_eq _ _ _ _ _ _ _ _ _).2.2.2.1, (idx3 t).2.2.2.2.2.2.2.2.2.2.2.2.2.1]
  refine (bwdV_real h0 h1 h2 h5 h7 (t.val % 32) (by omega) y0 y1).trans ?_
  refine congrArg (fun z : ℝ => (z : EReal)) (Eq.trans ?_ (stream_blk 1 (t.val / 32) (t.val % 32) _ y0.val y1).symm)
  exact (byTime_blk 1 (dvB 1 q k da ls 128) (t.val / 32) (t.val % 32) hn y0.val y1.val y0.isLt).symm

/-- The gradient of the values of the block before. -/
theorem dv3' : Holds (show FVec Ideal S4096x512 .bf16 from (dat3 V c).arrAt 12 cfg3.N) (stream 1 (byTime 1 (dvB 1 q k da ls 0))) := fun r x => by
  refine congrFun ((dat3 V c).arrAt_eq_of_covers 12 (fun i : S4096x512.Idx => ((stream 1 (byTime 1 (dvB 1 q k da ls 0)) (i 0).val (i 1).val : ℝ) : EReal))
    (by decide +kernel) fun t _ y => ?_) (ix2 r x)
  idx_vars y
  have hn := (idx3 t).2.2.2.2.2.2.2.2.2.2.2.2.2.2
  have e : ((cfg3.win 12).blk t).view.emb (show S128x512.Idx from ix2 y0 y1)
      = (show S4096x512.Idx from ix2 ⟨128 * (t.val % 32) + y0.val, by omega⟩ ⟨512 * (t.val / 32) + y1.val, by omega⟩) := by blk_ext [idx3 t]
  refine Eq.trans ?_ (congrArg (fun i : S4096x512.Idx => ((stream 1 (byTime 1 (dvB 1 q k da ls 0)) (i 0).val (i 1).val : ℝ) : EReal)) e).symm
  blk_simp
  obtain ⟨h0, h1, h2, h3, h4, h5, h6, h7⟩ := blocks3 V c hq hk hv hda hat hls t
  rw [after3_12, (out3_eq _ _ _ _ _ _ _ _ _).2.2.2.2, (idx3 t).2.2.2.2.2.2.2.2.2.2.2.2.2.1]
  refine (bwdV'_real h0 h1 h2 h5 h7 (t.val % 32) (by omega) y0 y1).trans ?_
  refine congrArg (fun z : ℝ => (z : EReal)) (Eq.trans ?_ (stream_blk 1 (t.val / 32) (t.val % 32) _ y0.val y1).symm)
  refine Eq.trans ?_ (byTime_blk 1 (dvB 1 q k da ls 0) (t.val / 32) (t.val % 32) hn y0.val y1.val y0.isLt).symm
  rw [dvB]
  simp only [Nat.zero_add]
  rfl

end
end Cert.K.Attn

end
-- ==== Proof.Attn.Region4.lean ====
/- What the gradient's kernel of dilation 4 leaves, by time. -/
module

public import proofs.«01_k».proof.Proof.Attn.Time

@[expose] public section

set_option maxRecDepth 16384

noncomputable section

open Idealize.ShloMosaic Idealize.ShloMosaic.TcCoe Idealize.SL.Sem
open Idealize.ShloMosaic.Pipeline (Dat)

namespace Cert.K.Attn

open Cert.AttnKernelIdeal Cert.AttnKernelIdeal.Gen

variable (V : (c : Dev nD) → (b : Ref sig .tc) → Buf (Elt Ideal) ((c : Thread nD τ).loc b)) (c : Dev nD)
variable {q k v da at' ls : ℕ → ℕ → ℝ}

theorem idx4 : ∀ t : Fin cfg4.N, win4_0.index t = ![t.val % 8, t.val / 8]
    ∧ win4_1.index t = ![t.val % 8 - 1, t.val / 8]
    ∧ win4_2.index t = ![t.val % 8, t.val / 8]
    ∧ win4_3.index t = ![t.val % 8 - 1, t.val / 8]
    ∧ win4_4.index t = ![t.val % 8, t.val / 8]
    ∧ win4_5.index t = ![t.val % 8, t.val / 8]
    ∧ win4_6.index t = ![t.val % 8, t.val / 8]
    ∧ win4_7.index t = ![t.val % 8, t.val / 8]
    ∧ win4_8.index t = ![t.val % 8, t.val / 8]
    ∧ win4_9.index t = ![t.val % 8, t.val / 8]
    ∧ win4_10.index t = ![t.val % 8, t.val / 8]
    ∧ win4_11.index t = ![t.val % 8, t.val / 8]
    ∧ win4_12.index t = ![t.val % 8, t.val / 8]
    ∧ (grid4.coords t 1).val = t.val % 8 ∧ t.val / 8 < 4 :=
  (by decide +kernel : ∀ t : Fin grid4.N, _)

section
variable (hq : Holds (show FVec Ideal S1024x2048 .bf16 from V c main_v4) (stream 4 q))
    (hk : Holds (show FVec Ideal S1024x2048 .bf16 from V c main_v6) (stream 4 k))
    (hv : Holds (show FVec Ideal S1024x2048 .bf16 from V c main_v8) (stream 4 v))
    (hda : Holds (show FVec Ideal S1024x2048 .f32 from V c main_v60) (stream 4 da))
    (hat : Holds (show FVec Ideal S1024x2048 .f32 from V c main_v61) (stream 4 at'))
    (hls : Holds (show FVec Ideal S1024x2048 .f32 from V c main_v62) (stream 4 ls))
include hq hk hv hda hat hls

/-- The blocks a point of the grid reads. -/
theorem blocks4 (t : Fin cfg4.N) : Holds (show FVec Ideal S128x512 .bf16 from iblk4 V c 0 t) (blk 4 (t.val / 8) (t.val % 8) q)
    ∧ Holds (show FVec Ideal S128x512 .bf16 from iblk4 V c 1 t) (blk 4 (t.val / 8) (t.val % 8 - 1) k)
    ∧ Holds (show FVec Ideal S128x512 .bf16 from iblk4 V c 2 t) (blk 4 (t.val / 8) (t.val % 8) k)
    ∧ Holds (show FVec Ideal S128x512 .bf16 from iblk4 V c 3 t) (blk 4 (t.val / 8) (t.val % 8 - 1) v)
    ∧ Holds (show FVec Ideal S128x512 .bf16 from iblk4 V c 4 t) (blk 4 (t.val / 8) (t.val % 8) v)
    ∧ Holds (show FVec Ideal S128x512 .f32 from iblk4 V c 5 t) (blk 4 (t.val / 8) (t.val % 8) da)
    ∧ Holds (show FVec Ideal S128x512 .f32 from iblk4 V c 6 t) (blk 4 (t.val / 8) (t.val % 8) at')
    ∧ Holds (show FVec Ideal S128x512 .f32 from iblk4 V c 7 t) (blk 4 (t.val / 8) (t.val % 8) ls) := by
  have hn := (idx4 t).2.2.2.2.2.2.2.2.2.2.2.2.2.2
  exact ⟨holds_blk hq (by omega) (by omega) fun i l => by blk_ext! [iblk4, idx4 t],
    holds_blk hk (by omega) (by omega) fun i l => by blk_ext! [iblk4, idx4 t],
    holds_blk hk (by omega) (by omega) fun i l => by blk_ext! [iblk4, idx4 t],
    holds_blk hv (by omega) (by omega) fun i l => by blk_ext! [iblk4, idx4 t],
    holds_blk hv (by omega) (by omega) fun i l => by blk_ext! [iblk4, idx4 t],
    holds_blk hda (by omega) (by omega) fun i l => by blk_ext! [iblk4, idx4 t],
    holds_blk hat (by omega) (by omega) fun i l => by blk_ext! [iblk4, idx4 t],
    holds_blk hls (by omega) (by omega) fun i l => by blk_ext! [iblk4, idx4 t]⟩

/-- The gradient of the queries. -/
theorem dq4 : Holds (show FVec Ideal S1024x2048 .bf16 from (dat4 V c).arrAt 8 cfg4.N) (stream 4 (byTime 4 (dqB 4 q k v da at' ls))) := fun r x => by
  refine congrFun ((dat4 V c).arrAt_eq_of_covers 8 (fun i : S1024x2048.Idx => ((stream 4 (byTime 4 (dqB 4 q k v da at' ls)) (i 0).val (i 1).val : ℝ) : EReal))
    (by decide +kernel) fun t _ y => ?_) (ix2 r x)
  idx_vars y
  have hn := (idx4 t).2.2.2.2.2.2.2.2.2.2.2.2.2.2
  have e : ((cfg4.win 8).blk t).view.emb (show S128x512.Idx from ix2 y0 y1)
      = (show S1024x2048.Idx from ix2 ⟨128 * (t.val % 8) + y0.val, by omega⟩ ⟨512 * (t.val / 8) + y1.val, by omega⟩) := by blk_ext [idx4 t]
  refine Eq.trans ?_ (congrArg (fun i : S1024x2048.Idx => ((stream 4 (byTime 4 (dqB 4 q k v da at' ls)) (i 0).val (i 1).val : ℝ) : EReal)) e).symm
  blk_simp
  obtain ⟨h0, h1, h2, h3, h4, h5, h6, h7⟩ := blocks4 V c hq hk hv hda hat hls t
  rw [after4_8, (out4_eq _ _ _ _ _ _ _ _ _).1, (idx4 t).2.2.2.2.2.2.2.2.2.2.2.2.2.1, shapeCast_self]
  refine (bwdQ_real h0 h1 h2 h3 h4 h5 h6 h7 (t.val % 8) (by omega) y0 y1).trans ?_
  refine congrArg (fun z : ℝ => (z : EReal)) (Eq.trans ?_ (stream_blk 4 (t.val / 8) (t.val % 8) _ y0.val y1).symm)
  exact (byTime_blk 4 (dqB 4 q k v da at' ls) (t.val / 8) (t.val % 8) hn y0.val y1.val y0.isLt).symm

/-- The gradient of the keys of the own block. -/
theorem dk4 : Holds (show FVec Ideal S1024x2048 .bf16 from (dat4 V c).arrAt 9 cfg4.N) (stream 4 (byTime 4 (dkB 4 q k v da at' ls 128))) := fun r x => by
  refine congrFun ((dat4 V c).arrAt_eq_of_covers 9 (fun i : S1024x2048.Idx => ((stream 4 (byTime 4 (dkB 4 q k v da at' ls 128)) (i 0).val (i 1).val : ℝ) : EReal))
    (by decide +kernel) fun t _ y => ?_) (ix2 r x)
  idx_vars y
  have hn := (idx4 t).2.2.2.2.2.2.2.2.2.2.2.2.2.2
  have e : ((cfg4.win 9).blk t).view.emb (show S128x512.Idx from ix2 y0 y1)
      = (show S1024x2048.Idx from ix2 ⟨128 * (t.val % 8) + y0.val, by omega⟩ ⟨512 * (t.val / 8) + y1.val, by omega⟩) := by blk_ext [idx4 t]
  refine Eq.trans ?_ (congrArg (fun i : S1024x2048.Idx => ((stream 4 (byTime 4 (dkB 4 q k v da at' ls 128)) (i 0).val (i 1).val : ℝ) : EReal)) e).symm
  blk_simp
  obtain ⟨h0, h1, h2, h3, h4, h5, h6, h7⟩ := blocks4 V c hq hk hv hda hat hls t
  rw [after4_9, (out4_eq _ _ _ _ _ _ _ _ _).2.1, (idx4 t).2.2.2.2.2.2.2.2.2.2.2.2.2.1, shapeCast_self]
  refine (bwdK_real h0 h1 h2 h3 h4 h5 h6 h7 (t.val % 8) (by omega) y0 y1).trans ?_
  refine congrArg (fun z : ℝ => (z : EReal)) (Eq.trans ?_ (stream_blk 4 (t.val / 8) (t.val % 8) _ y0.val y1).symm)
  exact (byTime_blk 4 (dkB 4 q k v da at' ls 128) (t.val / 8) (t.val % 8) hn y0.val y1.val y0.isLt).symm

/-- The gradient of the keys of the block before. -/
theorem dk4' : Holds (show FVec Ideal S1024x2048 .bf16 from (dat4 V c).arrAt 10 cfg4.N) (stream 4 (byTime 4 (dkB 4 q k v da at' ls 0))) := fun r x => by
  refine congrFun ((dat4 V c).arrAt_eq_of_covers 10 (fun i : S1024x2048.Idx => ((stream 4 (byTime 4 (dkB 4 q k v da at' ls 0)) (i 0).val (i 1).val : ℝ) : EReal))
    (by decide +kernel) fun t _ y => ?_) (ix2 r x)
  idx_vars y
  have hn := (idx4 t).2.2.2.2.2.2.2.2.2.2.2.2.2.2
  have e : ((cfg4.win 10).blk t).view.emb (show S128x512.Idx from ix2 y0 y1)
      = (show S1024x2048.Idx from ix2 ⟨128 * (t.val % 8) + y0.val, by omega⟩ ⟨512 * (t.val / 8) + y1.val, by omega⟩) := by blk_ext [idx4 t]
  refine Eq.trans ?_ (congrArg (fun i : S1024x2048.Idx => ((stream 4 (byTime 4 (dkB 4 q k v da at' ls 0)) (i 0).val (i 1).val : ℝ) : EReal)) e).symm
  blk_simp
  obtain ⟨h0, h1, h2, h3, h4, h5, h6, h7⟩ := blocks4 V c hq hk hv hda hat hls t
  rw [after4_10, (out4_eq _ _ _ _ _ _ _ _ _).2.2.1, (idx4 t).2.2.2.2.2.2.2.2.2.2.2.2.2.1, shapeCast_self]
  refine (bwdK'_real h0 h1 h2 h3 h4 h5 h6 h7 (t.val % 8) (by omega) y0 y1).trans ?_
  refine congrArg (fun z : ℝ => (z : EReal)) (Eq.trans ?_ (stream_blk 4 (t.val / 8) (t.val % 8) _ y0.val y1).symm)
  refine Eq.trans ?_ (byTime_blk 4 (dkB 4 q k v da at' ls 0) (t.val / 8) (t.val % 8) hn y0.val y1.val y0.isLt).symm
  rw [dkB]
  simp only [Nat.zero_add]
  rfl

/-- The gradient of the values of the own block. -/
theorem dv4 : Holds (show FVec Ideal S1024x2048 .bf16 from (dat4 V c).arrAt 11 cfg4.N) (stream 4 (byTime 4 (dvB 4 q k da ls 128))) := fun r x => by
  refine congrFun ((dat4 V c).arrAt_eq_of_covers 11 (fun i : S1024x2048.Idx => ((stream 4 (byTime 4 (dvB 4 q k da ls 128)) (i 0).val (i 1).val : ℝ) : EReal))
    (by decide +kernel) fun t _ y => ?_) (ix2 r x)
  idx_vars y
  have hn := (idx4 t).2.2.2.2.2.2.2.2.2.2.2.2.2.2
  have e : ((cfg4.win 11).blk t).view.emb (show S128x512.Idx from ix2 y0 y1)
      = (show S1024x2048.Idx from ix2 ⟨128 * (t.val % 8) + y0.val, by omega⟩ ⟨512 * (t.val / 8) + y1.val, by omega⟩) := by blk_ext [idx4 t]
  refine Eq.trans ?_ (congrArg (fun i : S1024x2048.Idx => ((stream 4 (byTime 4 (dvB 4 q k da ls 128)) (i 0).val (i 1).val : ℝ) : EReal)) e).symm
  blk_simp
  obtain ⟨h0, h1, h2, h3, h4, h5, h6, h7⟩ := blocks4 V c hq hk hv hda hat hls t
  rw [after4_11, (out4_eq _ _ _ _ _ _ _ _ _).2.2.2.1, (idx4 t).2.2.2.2.2.2.2.2.2.2.2.2.2.1, shapeCast_self]
  refine (bwdV_real h0 h1 h2 h5 h7 (t.val % 8) (by omega) y0 y1).trans ?_
  refine congrArg (fun z : ℝ => (z : EReal)) (Eq.trans ?_ (stream_blk 4 (t.val / 8) (t.val % 8) _ y0.val y1).symm)
  exact (byTime_blk 4 (dvB 4 q k da ls 128) (t.val / 8) (t.val % 8) hn y0.val y1.val y0.isLt).symm

/-- The gradient of the values of the block before. -/
theorem dv4' : Holds (show FVec Ideal S1024x2048 .bf16 from (dat4 V c).arrAt 12 cfg4.N) (stream 4 (byTime 4 (dvB 4 q k da ls 0))) := fun r x => by
  refine congrFun ((dat4 V c).arrAt_eq_of_covers 12 (fun i : S1024x2048.Idx => ((stream 4 (byTime 4 (dvB 4 q k da ls 0)) (i 0).val (i 1).val : ℝ) : EReal))
    (by decide +kernel) fun t _ y => ?_) (ix2 r x)
  idx_vars y
  have hn := (idx4 t).2.2.2.2.2.2.2.2.2.2.2.2.2.2
  have e : ((cfg4.win 12).blk t).view.emb (show S128x512.Idx from ix2 y0 y1)
      = (show S1024x2048.Idx from ix2 ⟨128 * (t.val % 8) + y0.val, by omega⟩ ⟨512 * (t.val / 8) + y1.val, by omega⟩) := by blk_ext [idx4 t]
  refine Eq.trans ?_ (congrArg (fun i : S1024x2048.Idx => ((stream 4 (byTime 4 (dvB 4 q k da ls 0)) (i 0).val (i 1).val : ℝ) : EReal)) e).symm
  blk_simp
  obtain ⟨h0, h1, h2, h3, h4, h5, h6, h7⟩ := blocks4 V c hq hk hv hda hat hls t
  rw [after4_12, (out4_eq _ _ _ _ _ _ _ _ _).2.2.2.2, (idx4 t).2.2.2.2.2.2.2.2.2.2.2.2.2.1, shapeCast_self]
  refine (bwdV'_real h0 h1 h2 h5 h7 (t.val % 8) (by omega) y0 y1).trans ?_
  refine congrArg (fun z : ℝ => (z : EReal)) (Eq.trans ?_ (stream_blk 4 (t.val / 8) (t.val % 8) _ y0.val y1).symm)
  refine Eq.trans ?_ (byTime_blk 4 (dvB 4 q k da ls 0) (t.val / 8) (t.val % 8) hn y0.val y1.val y0.isLt).symm
  rw [dvB]
  simp only [Nat.zero_add]
  rfl

end
end Cert.K.Attn

end
-- ==== Proof.Attn.Region5.lean ====
/- What the gradient's kernel of dilation 16 leaves, by time. -/
module

public import proofs.«01_k».proof.Proof.Attn.Time

@[expose] public section

set_option maxRecDepth 16384
set_option maxHeartbeats 800000

noncomputable section

open Idealize.ShloMosaic Idealize.ShloMosaic.TcCoe Idealize.SL.Sem
open Idealize.ShloMosaic.Pipeline (Dat)

namespace Cert.K.Attn

open Cert.AttnKernelIdeal Cert.AttnKernelIdeal.Gen

variable (V : (c : Dev nD) → (b : Ref sig .tc) → Buf (Elt Ideal) ((c : Thread nD τ).loc b)) (c : Dev nD)
variable {q k v da at' ls : ℕ → ℕ → ℝ}

theorem idx5 : ∀ t : Fin cfg5.N, win5_0.index t = ![t.val % 2, t.val / 2]
    ∧ win5_1.index t = ![t.val % 2 - 1, t.val / 2]
    ∧ win5_2.index t = ![t.val % 2, t.val / 2]
    ∧ win5_3.index t = ![t.val % 2 - 1, t.val / 2]
    ∧ win5_4.index t = ![t.val % 2, t.val / 2]
    ∧ win5_5.index t = ![t.val % 2, t.val / 2]
    ∧ win5_6.index t = ![t.val % 2, t.val / 2]
    ∧ win5_7.index t = ![t.val % 2, t.val / 2]
    ∧ win5_8.index t = ![t.val % 2, t.val / 2]
    ∧ win5_9.index t = ![t.val % 2, t.val / 2]
    ∧ win5_10.index t = ![t.val % 2, t.val / 2]
    ∧ win5_11.index t = ![t.val % 2, t.val / 2]
    ∧ win5_12.index t = ![t.val % 2, t.val / 2]
    ∧ (grid5.coords t 1).val = t.val % 2 ∧ t.val / 2 < 16 :=
  (by decide +kernel : ∀ t : Fin grid5.N, _)

section
variable (hq : Holds (show FVec Ideal S256x8192 .bf16 from V c main_v10) (stream 16 q))
    (hk : Holds (show FVec Ideal S256x8192 .bf16 from V c main_v12) (stream 16 k))
    (hv : Holds (show FVec Ideal S256x8192 .bf16 from V c main_v14) (stream 16 v))
    (hda : Holds (show FVec Ideal S256x8192 .f32 from V c main_v85) (stream 16 da))
    (hat : Holds (show FVec Ideal S256x8192 .f32 from V c main_v86) (stream 16 at'))
    (hls : Holds (show FVec Ideal S256x8192 .f32 from V c main_v87) (stream 16 ls))
include hq hk hv hda hat hls

/-- The blocks a point of the grid reads. -/
theorem blocks5 (t : Fin cfg5.N) : Holds (show FVec Ideal S128x512 .bf16 from iblk5 V c 0 t) (blk 16 (t.val / 2) (t.val % 2) q)
    ∧ Holds (show FVec Ideal S128x512 .bf16 from iblk5 V c 1 t) (blk 16 (t.val / 2) (t.val % 2 - 1) k)
    ∧ Holds (show FVec Ideal S128x512 .bf16 from iblk5 V c 2 t) (blk 16 (t.val / 2) (t.val % 2) k)
    ∧ Holds (show FVec Ideal S128x512 .bf16 from iblk5 V c 3 t) (blk 16 (t.val / 2) (t.val % 2 - 1) v)
    ∧ Holds (show FVec Ideal S128x512 .bf16 from iblk5 V c 4 t) (blk 16 (t.val / 2) (t.val % 2) v)
    ∧ Holds (show FVec Ideal S128x512 .f32 from iblk5 V c 5 t) (blk 16 (t.val / 2) (t.val % 2) da)
    ∧ Holds (show FVec Ideal S128x512 .f32 from iblk5 V c 6 t) (blk 16 (t.val / 2) (t.val % 2) at')
    ∧ Holds (show FVec Ideal S128x512 .f32 from iblk5 V c 7 t) (blk 16 (t.val / 2) (t.val % 2) ls) := by
  have hn := (idx5 t).2.2.2.2.2.2.2.2.2.2.2.2.2.2
  exact ⟨holds_blk hq (by omega) (by omega) fun i l => by blk_ext! [iblk5, idx5 t],
    holds_blk hk (by omega) (by omega) fun i l => by blk_ext! [iblk5, idx5 t],
    holds_blk hk (by omega) (by omega) fun i l => by blk_ext! [iblk5, idx5 t],
    holds_blk hv (by omega) (by omega) fun i l => by blk_ext! [iblk5, idx5 t],
    holds_blk hv (by omega) (by omega) fun i l => by blk_ext! [iblk5, idx5 t],
    holds_blk hda (by omega) (by omega) fun i l => by blk_ext! [iblk5, idx5 t],
    holds_blk hat (by omega) (by omega) fun i l => by blk_ext! [iblk5, idx5 t],
    holds_blk hls (by omega) (by omega) fun i l => by blk_ext! [iblk5, idx5 t]⟩

/-- The gradient of the queries. -/
theorem dq5 : Holds (show FVec Ideal S256x8192 .bf16 from (dat5 V c).arrAt 8 cfg5.N) (stream 16 (byTime 16 (dqB 16 q k v da at' ls))) := fun r x => by
  refine congrFun ((dat5 V c).arrAt_eq_of_covers 8 (fun i : S256x8192.Idx => ((stream 16 (byTime 16 (dqB 16 q k v da at' ls)) (i 0).val (i 1).val : ℝ) : EReal))
    (by decide +kernel) fun t _ y => ?_) (ix2 r x)
  idx_vars y
  have hn := (idx5 t).2.2.2.2.2.2.2.2.2.2.2.2.2.2
  have e : ((cfg5.win 8).blk t).view.emb (show S128x512.Idx from ix2 y0 y1)
      = (show S256x8192.Idx from ix2 ⟨128 * (t.val % 2) + y0.val, by omega⟩ ⟨512 * (t.val / 2) + y1.val, by omega⟩) := by blk_ext [idx5 t]
  refine Eq.trans ?_ (congrArg (fun i : S256x8192.Idx => ((stream 16 (byTime 16 (dqB 16 q k v da at' ls)) (i 0).val (i 1).val : ℝ) : EReal)) e).symm
  blk_simp
  obtain ⟨h0, h1, h2, h3, h4, h5, h6, h7⟩ := blocks5 V c hq hk hv hda hat hls t
  rw [after5_8, (out5_eq _ _ _ _ _ _ _ _ _).1, (idx5 t).2.2.2.2.2.2.2.2.2.2.2.2.2.1, shapeCast_self]
  refine (bwdQ_real h0 h1 h2 h3 h4 h5 h6 h7 (t.val % 2) (by omega) y0 y1).trans ?_
  refine congrArg (fun z : ℝ => (z : EReal)) (Eq.trans ?_ (stream_blk 16 (t.val / 2) (t.val % 2) _ y0.val y1).symm)
  exact (byTime_blk 16 (dqB 16 q k v da at' ls) (t.val / 2) (t.val % 2) hn y0.val y1.val y0.isLt).symm

/-- The gradient of the keys of the own block. -/
theorem dk5 : Holds (show FVec Ideal S256x8192 .bf16 from (dat5 V c).arrAt 9 cfg5.N) (stream 16 (byTime 16 (dkB 16 q k v da at' ls 128))) := fun r x => by
  refine congrFun ((dat5 V c).arrAt_eq_of_covers 9 (fun i : S256x8192.Idx => ((stream 16 (byTime 16 (dkB 16 q k v da at' ls 128)) (i 0).val (i 1).val : ℝ) : EReal))
    (by decide +kernel) fun t _ y => ?_) (ix2 r x)
  idx_vars y
  have hn := (idx5 t).2.2.2.2.2.2.2.2.2.2.2.2.2.2
  have e : ((cfg5.win 9).blk t).view.emb (show S128x512.Idx from ix2 y0 y1)
      = (show S256x8192.Idx from ix2 ⟨128 * (t.val % 2) + y0.val, by omega⟩ ⟨512 * (t.val / 2) + y1.val, by omega⟩) := by blk_ext [idx5 t]
  refine Eq.trans ?_ (congrArg (fun i : S256x8192.Idx => ((stream 16 (byTime 16 (dkB 16 q k v da at' ls 128)) (i 0).val (i 1).val : ℝ) : EReal)) e).symm
  blk_simp
  obtain ⟨h0, h1, h2, h3, h4, h5, h6, h7⟩ := blocks5 V c hq hk hv hda hat hls t
  rw [after5_9, (out5_eq _ _ _ _ _ _ _ _ _).2.1, (idx5 t).2.2.2.2.2.2.2.2.2.2.2.2.2.1, shapeCast_self]
  refine (bwdK_real h0 h1 h2 h3 h4 h5 h6 h7 (t.val % 2) (by omega) y0 y1).trans ?_
  refine congrArg (fun z : ℝ => (z : EReal)) (Eq.trans ?_ (stream_blk 16 (t.val / 2) (t.val % 2) _ y0.val y1).symm)
  exact (byTime_blk 16 (dkB 16 q k v da at' ls 128) (t.val / 2) (t.val % 2) hn y0.val y1.val y0.isLt).symm

/-- The gradient of the keys of the block before. -/
theorem dk5' : Holds (show FVec Ideal S256x8192 .bf16 from (dat5 V c).arrAt 10 cfg5.N) (stream 16 (byTime 16 (dkB 16 q k v da at' ls 0))) := fun r x => by
  refine congrFun ((dat5 V c).arrAt_eq_of_covers 10 (fun i : S256x8192.Idx => ((stream 16 (byTime 16 (dkB 16 q k v da at' ls 0)) (i 0).val (i 1).val : ℝ) : EReal))
    (by decide +kernel) fun t _ y => ?_) (ix2 r x)
  idx_vars y
  have hn := (idx5 t).2.2.2.2.2.2.2.2.2.2.2.2.2.2
  have e : ((cfg5.win 10).blk t).view.emb (show S128x512.Idx from ix2 y0 y1)
      = (show S256x8192.Idx from ix2 ⟨128 * (t.val % 2) + y0.val, by omega⟩ ⟨512 * (t.val / 2) + y1.val, by omega⟩) := by blk_ext [idx5 t]
  refine Eq.trans ?_ (congrArg (fun i : S256x8192.Idx => ((stream 16 (byTime 16 (dkB 16 q k v da at' ls 0)) (i 0).val (i 1).val : ℝ) : EReal)) e).symm
  blk_simp
  obtain ⟨h0, h1, h2, h3, h4, h5, h6, h7⟩ := blocks5 V c hq hk hv hda hat hls t
  rw [after5_10, (out5_eq _ _ _ _ _ _ _ _ _).2.2.1, (idx5 t).2.2.2.2.2.2.2.2.2.2.2.2.2.1, shapeCast_self]
  refine (bwdK'_real h0 h1 h2 h3 h4 h5 h6 h7 (t.val % 2) (by omega) y0 y1).trans ?_
  refine congrArg (fun z : ℝ => (z : EReal)) (Eq.trans ?_ (stream_blk 16 (t.val / 2) (t.val % 2) _ y0.val y1).symm)
  refine Eq.trans ?_ (byTime_blk 16 (dkB 16 q k v da at' ls 0) (t.val / 2) (t.val % 2) hn y0.val y1.val y0.isLt).symm
  rw [dkB]
  simp only [Nat.zero_add]
  rfl

/-- The gradient of the values of the own block. -/
theorem dv5 : Holds (show FVec Ideal S256x8192 .bf16 from (dat5 V c).arrAt 11 cfg5.N) (stream 16 (byTime 16 (dvB 16 q k da ls 128))) := fun r x => by
  refine congrFun ((dat5 V c).arrAt_eq_of_covers 11 (fun i : S256x8192.Idx => ((stream 16 (byTime 16 (dvB 16 q k da ls 128)) (i 0).val (i 1).val : ℝ) : EReal))
    (by decide +kernel) fun t _ y => ?_) (ix2 r x)
  idx_vars y
  have hn := (idx5 t).2.2.2.2.2.2.2.2.2.2.2.2.2.2
  have e : ((cfg5.win 11).blk t).view.emb (show S128x512.Idx from ix2 y0 y1)
      = (show S256x8192.Idx from ix2 ⟨128 * (t.val % 2) + y0.val, by omega⟩ ⟨512 * (t.val / 2) + y1.val, by omega⟩) := by blk_ext [idx5 t]
  refine Eq.trans ?_ (congrArg (fun i : S256x8192.Idx => ((stream 16 (byTime 16 (dvB 16 q k da ls 128)) (i 0).val (i 1).val : ℝ) : EReal)) e).symm
  blk_simp
  obtain ⟨h0, h1, h2, h3, h4, h5, h6, h7⟩ := blocks5 V c hq hk hv hda hat hls t
  rw [after5_11, (out5_eq _ _ _ _ _ _ _ _ _).2.2.2.1, (idx5 t).2.2.2.2.2.2.2.2.2.2.2.2.2.1, shapeCast_self]
  refine (bwdV_real h0 h1 h2 h5 h7 (t.val % 2) (by omega) y0 y1).trans ?_
  refine congrArg (fun z : ℝ => (z : EReal)) (Eq.trans ?_ (stream_blk 16 (t.val / 2) (t.val % 2) _ y0.val y1).symm)
  exact (byTime_blk 16 (dvB 16 q k da ls 128) (t.val / 2) (t.val % 2) hn y0.val y1.val y0.isLt).symm

/-- The gradient of the values of the block before. -/
theorem dv5' : Holds (show FVec Ideal S256x8192 .bf16 from (dat5 V c).arrAt 12 cfg5.N) (stream 16 (byTime 16 (dvB 16 q k da ls 0))) := fun r x => by
  refine congrFun ((dat5 V c).arrAt_eq_of_covers 12 (fun i : S256x8192.Idx => ((stream 16 (byTime 16 (dvB 16 q k da ls 0)) (i 0).val (i 1).val : ℝ) : EReal))
    (by decide +kernel) fun t _ y => ?_) (ix2 r x)
  idx_vars y
  have hn := (idx5 t).2.2.2.2.2.2.2.2.2.2.2.2.2.2
  have e : ((cfg5.win 12).blk t).view.emb (show S128x512.Idx from ix2 y0 y1)
      = (show S256x8192.Idx from ix2 ⟨128 * (t.val % 2) + y0.val, by omega⟩ ⟨512 * (t.val / 2) + y1.val, by omega⟩) := by blk_ext [idx5 t]
  refine Eq.trans ?_ (congrArg (fun i : S256x8192.Idx => ((stream 16 (byTime 16 (dvB 16 q k da ls 0)) (i 0).val (i 1).val : ℝ) : EReal)) e).symm
  blk_simp
  obtain ⟨h0, h1, h2, h3, h4, h5, h6, h7⟩ := blocks5 V c hq hk hv hda hat hls t
  rw [after5_12, (out5_eq _ _ _ _ _ _ _ _ _).2.2.2.2, (idx5 t).2.2.2.2.2.2.2.2.2.2.2.2.2.1, shapeCast_self]
  refine (bwdV'_real h0 h1 h2 h5 h7 (t.val % 2) (by omega) y0 y1).trans ?_
  refine congrArg (fun z : ℝ => (z : EReal)) (Eq.trans ?_ (stream_blk 16 (t.val / 2) (t.val % 2) _ y0.val y1).symm)
  refine Eq.trans ?_ (byTime_blk 16 (dvB 16 q k da ls 0) (t.val / 2) (t.val % 2) hn y0.val y1.val y0.isLt).symm
  rw [dvB]
  simp only [Nat.zero_add]
  rfl

end
end Cert.K.Attn

end
-- ==== Proof.Attn.Gradients.lean ====
/- The gradients the attention's program leaves, by time. -/
module

public import proofs.«01_k».proof.Proof.Attn.Output
public import proofs.«01_k».proof.Proof.Attn.Region3
public import proofs.«01_k».proof.Proof.Attn.Region4
public import proofs.«01_k».proof.Proof.Attn.Region5

@[expose] public section

set_option maxRecDepth 16384

noncomputable section

open Idealize.ShloMosaic Idealize.ShloMosaic.TcCoe Idealize.SL.Sem

namespace Cert.K.Attn

open Cert.AttnKernelIdeal Cert.AttnKernelIdeal.Gen

theorem shift_sum4 {A : FVec Ideal S4096x512 .f32} {B C : FVec Ideal S1024x2048 .f32} {Z : FVec Ideal S512x512 .f32} {f g g' : ℕ → ℕ → ℝ}
    (hZ : ∀ i, Z i = 0) (hA : Holds A (stream 1 f)) (hB : Holds B (stream 4 g)) (hC : Holds C (stream 4 g')) :
    Holds (addf (addf A (shapeCast S4096x512 B shapeCasts_S1024x2048_S4096x512)) (concatenate S4096x512 0 [⟨S3584x512, extractStridedSlice S3584x512 ![512, 0]
      (shapeCast S4096x512 C shapeCasts_S1024x2048_S4096x512) slices_S4096x512_S3584x512_512_0⟩, ⟨S512x512, Z⟩] concatenates_S3584x512_S512x512_S4096x512_d0))
      (stream 1 fun t c => f t c + g t c + shift 512 g' t c) :=
  add_stream (add_stream hA (of4 hB)) (shift4 hZ (of4 hC))

theorem shift_sum16 {A : FVec Ideal S4096x512 .f32} {B C : FVec Ideal S256x8192 .f32} {Z : FVec Ideal S2048x512 .f32} {f g g' : ℕ → ℕ → ℝ}
    (hZ : ∀ i, Z i = 0) (hA : Holds A (stream 1 f)) (hB : Holds B (stream 16 g)) (hC : Holds C (stream 16 g')) :
    Holds (addf (addf A (shapeCast S4096x512 B shapeCasts_S256x8192_S4096x512)) (concatenate S4096x512 0 [⟨S2048x512, extractStridedSlice S2048x512 ![2048, 0]
      (shapeCast S4096x512 C shapeCasts_S256x8192_S4096x512) slices_S4096x512_S2048x512_2048_0⟩, ⟨S2048x512, Z⟩] concatenates_S2048x512_S2048x512_S4096x512_d0))
      (stream 1 fun t c => f t c + g t c + shift 2048 g' t c) :=
  add_stream (add_stream hA (of16 hB)) (shift16 hZ (of16 hC))

variable (m : (ℓ : Loc nD τ sig) → Buf (Elt Ideal) ℓ) (ρ : Dev nD → PrngReg) (c : Dev nD) {q k v da : ℕ → ℕ → ℝ}
  (hq : Holds (show FVec Ideal S4096x512 .f32 from m ((c : Thread nD τ).loc main_arg0)) (stream 1 q))
  (hk : Holds (show FVec Ideal S4096x512 .f32 from m ((c : Thread nD τ).loc main_arg1)) (stream 1 k))
  (hv : Holds (show FVec Ideal S4096x512 .f32 from m ((c : Thread nD τ).loc main_arg2)) (stream 1 v))
  (hd : Holds (show FVec Ideal S4096x512 .f32 from m ((c : Thread nD τ).loc main_arg3)) (stream 1 da))

/-- A pattern's gradients: the queries', and the keys' and the values', of the own block and of the block after. -/
def dqT (d : ℕ) (q k v da : ℕ → ℕ → ℝ) : ℕ → ℕ → ℝ := byTime d (dqB d q k v da (attnT q k v) (lseT q k))
def dkT (d o : ℕ) (q k v da : ℕ → ℕ → ℝ) : ℕ → ℕ → ℝ := byTime d (dkB d q k v da (attnT q k v) (lseT q k) o)
def dvT (d o : ℕ) (q k da : ℕ → ℕ → ℝ) : ℕ → ℕ → ℝ := byTime d (dvB d q k da (lseT q k) o)

/-- The three gradients. -/
def dQ (q k v da : ℕ → ℕ → ℝ) (t c : ℕ) : ℝ := dqT 1 q k v da t c + dqT 4 q k v da t c + dqT 16 q k v da t c
def dK (q k v da : ℕ → ℕ → ℝ) (t c : ℕ) : ℝ := dkT 1 128 q k v da t c + shift 128 (dkT 1 0 q k v da) t c
  + dkT 4 128 q k v da t c + shift 512 (dkT 4 0 q k v da) t c + dkT 16 128 q k v da t c + shift 2048 (dkT 16 0 q k v da) t c
def dV (q k da : ℕ → ℕ → ℝ) (t c : ℕ) : ℝ := dvT 1 128 q k da t c + shift 128 (dvT 1 0 q k da) t c
  + dvT 4 128 q k da t c + shift 512 (dvT 4 0 q k da) t c + dvT 16 128 q k da t c + shift 2048 (dvT 16 0 q k da) t c

/-! ## The cotangent, the output and the logarithm as the three kernels read them -/

include hd in
theorem V5_arg3 : Holds (show FVec Ideal S4096x512 .f32 from V5 m ρ c main_arg3) (stream 1 da) :=
  Holds.of_eq ((W5_of m ρ c main_arg3 (by decide +kernel)).trans ((W4_of m ρ c main_arg3 (by decide +kernel)).trans ((W3_of m ρ c main_arg3 (by decide +kernel)).trans ((W2_of m ρ c main_arg3 (by decide +kernel)).trans (W1_of m ρ c main_arg3 (by decide +kernel))))))
    (hd)
include hd in
theorem V7_v60 : Holds (show FVec Ideal S1024x2048 .f32 from V7 m ρ c main_v60) (stream 4 (da)) :=
  Holds.of_eq (Y := shapeCast S1024x2048 (show FVec Ideal S4096x512 .f32 from W6 m ρ c (Proc.devRef .tc main_arg3)) shapeCasts_S4096x512_S1024x2048) (by dsimp only [V7, W7]; entry_read; rfl)
    (to4 (Holds.of_eq (W6_of m ρ c main_arg3 (by decide +kernel)) (V5_arg3 m ρ c hd)))
include hq hk hv in
theorem V7_v61 : Holds (show FVec Ideal S1024x2048 .f32 from V7 m ρ c main_v61) (stream 4 (attnT q k v)) :=
  Holds.of_eq (Y := shapeCast S1024x2048 (show FVec Ideal S4096x512 .f32 from W6 m ρ c (Proc.devRef .tc main_v37)) shapeCasts_S4096x512_S1024x2048) (by dsimp only [V7, W7]; entry_read; rfl)
    (to4 (Holds.of_eq (W6_of m ρ c main_v37 (by decide +kernel)) (V5_v37 m ρ c hq hk hv)))
include hq hk hv in
theorem V7_v62 : Holds (show FVec Ideal S1024x2048 .f32 from V7 m ρ c main_v62) (stream 4 (lseT q k)) :=
  Holds.of_eq (Y := shapeCast S1024x2048 (show FVec Ideal S4096x512 .f32 from W6 m ρ c (Proc.devRef .tc main_v39)) shapeCasts_S4096x512_S1024x2048) (by dsimp only [V7, W7]; entry_read; rfl)
    (to4 (Holds.of_eq (W6_of m ρ c main_v39 (by decide +kernel)) (V5_v39 m ρ c hq hk hv)))
include hd in
theorem V9_v85 : Holds (show FVec Ideal S256x8192 .f32 from V9 m ρ c main_v85) (stream 16 (da)) :=
  Holds.of_eq (Y := shapeCast S256x8192 (show FVec Ideal S4096x512 .f32 from W8 m ρ c (Proc.devRef .tc main_arg3)) shapeCasts_S4096x512_S256x8192) (by dsimp only [V9, W9]; entry_read; rfl)
    (to16 (Holds.of_eq ((W8_of m ρ c main_arg3 (by decide +kernel)).trans ((W7_of m ρ c main_arg3 (by decide +kernel)).trans (W6_of m ρ c main_arg3 (by decide +kernel)))) (V5_arg3 m ρ c hd)))
include hq hk hv in
theorem V9_v86 : Holds (show FVec Ideal S256x8192 .f32 from V9 m ρ c main_v86) (stream 16 (attnT q k v)) :=
  Holds.of_eq (Y := shapeCast S256x8192 (show FVec Ideal S4096x512 .f32 from W8 m ρ c (Proc.devRef .tc main_v37)) shapeCasts_S4096x512_S256x8192) (by dsimp only [V9, W9]; entry_read; rfl)
    (to16 (Holds.of_eq ((W8_of m ρ c main_v37 (by decide +kernel)).trans ((W7_of m ρ c main_v37 (by decide +kernel)).trans (W6_of m ρ c main_v37 (by decide +kernel)))) (V5_v37 m ρ c hq hk hv)))
include hq hk hv in
theorem V9_v87 : Holds (show FVec Ideal S256x8192 .f32 from V9 m ρ c main_v87) (stream 16 (lseT q k)) :=
  Holds.of_eq (Y := shapeCast S256x8192 (show FVec Ideal S4096x512 .f32 from W8 m ρ c (Proc.devRef .tc main_v39)) shapeCasts_S4096x512_S256x8192) (by dsimp only [V9, W9]; entry_read; rfl)
    (to16 (Holds.of_eq ((W8_of m ρ c main_v39 (by decide +kernel)).trans ((W7_of m ρ c main_v39 (by decide +kernel)).trans (W6_of m ρ c main_v39 (by decide +kernel)))) (V5_v39 m ρ c hq hk hv)))

/-! ## What the three kernels leave -/

include hq hk hv hd

theorem W6_v40_0 : Holds (show FVec Ideal S4096x512 .bf16 from W6 m ρ c (Proc.devRef .tc main_v40_0)) (stream 1 (dqT 1 q k v da)) :=
  Holds.of_eq (W6_arr m ρ c 8) (dq3 (V5 m ρ) c (V5_v0 m ρ c hq) (V5_v1 m ρ c hk) (V5_v2 m ρ c hv) (V5_arg3 m ρ c hd) (V5_v37 m ρ c hq hk hv) (V5_v39 m ρ c hq hk hv))
theorem W6_v40_1 : Holds (show FVec Ideal S4096x512 .bf16 from W6 m ρ c (Proc.devRef .tc main_v40_1)) (stream 1 (dkT 1 128 q k v da)) :=
  Holds.of_eq (W6_arr m ρ c 9) (dk3 (V5 m ρ) c (V5_v0 m ρ c hq) (V5_v1 m ρ c hk) (V5_v2 m ρ c hv) (V5_arg3 m ρ c hd) (V5_v37 m ρ c hq hk hv) (V5_v39 m ρ c hq hk hv))
theorem W6_v40_2 : Holds (show FVec Ideal S4096x512 .bf16 from W6 m ρ c (Proc.devRef .tc main_v40_2)) (stream 1 (dkT 1 0 q k v da)) :=
  Holds.of_eq (W6_arr m ρ c 10) (dk3' (V5 m ρ) c (V5_v0 m ρ c hq) (V5_v1 m ρ c hk) (V5_v2 m ρ c hv) (V5_arg3 m ρ c hd) (V5_v37 m ρ c hq hk hv) (V5_v39 m ρ c hq hk hv))
theorem W6_v40_3 : Holds (show FVec Ideal S4096x512 .bf16 from W6 m ρ c (Proc.devRef .tc main_v40_3)) (stream 1 (dvT 1 128 q k da)) :=
  Holds.of_eq (W6_arr m ρ c 11) (dv3 (V5 m ρ) c (V5_v0 m ρ c hq) (V5_v1 m ρ c hk) (V5_v2 m ρ c hv) (V5_arg3 m ρ c hd) (V5_v37 m ρ c hq hk hv) (V5_v39 m ρ c hq hk hv))
theorem W6_v40_4 : Holds (show FVec Ideal S4096x512 .bf16 from W6 m ρ c (Proc.devRef .tc main_v40_4)) (stream 1 (dvT 1 0 q k da)) :=
  Holds.of_eq (W6_arr m ρ c 12) (dv3' (V5 m ρ) c (V5_v0 m ρ c hq) (V5_v1 m ρ c hk) (V5_v2 m ρ c hv) (V5_arg3 m ρ c hd) (V5_v37 m ρ c hq hk hv) (V5_v39 m ρ c hq hk hv))
theorem W8_v63_0 : Holds (show FVec Ideal S1024x2048 .bf16 from W8 m ρ c (Proc.devRef .tc main_v63_0)) (stream 4 (dqT 4 q k v da)) :=
  Holds.of_eq (W8_arr m ρ c 8) (dq4 (V7 m ρ) c (V7_v4 m ρ c hq) (V7_v6 m ρ c hk) (V7_v8 m ρ c hv) (V7_v60 m ρ c hd) (V7_v61 m ρ c hq hk hv) (V7_v62 m ρ c hq hk hv))
theorem W8_v63_1 : Holds (show FVec Ideal S1024x2048 .bf16 from W8 m ρ c (Proc.devRef .tc main_v63_1)) (stream 4 (dkT 4 128 q k v da)) :=
  Holds.of_eq (W8_arr m ρ c 9) (dk4 (V7 m ρ) c (V7_v4 m ρ c hq) (V7_v6 m ρ c hk) (V7_v8 m ρ c hv) (V7_v60 m ρ c hd) (V7_v61 m ρ c hq hk hv) (V7_v62 m ρ c hq hk hv))
theorem W8_v63_2 : Holds (show FVec Ideal S1024x2048 .bf16 from W8 m ρ c (Proc.devRef .tc main_v63_2)) (stream 4 (dkT 4 0 q k v da)) :=
  Holds.of_eq (W8_arr m ρ c 10) (dk4' (V7 m ρ) c (V7_v4 m ρ c hq) (V7_v6 m ρ c hk) (V7_v8 m ρ c hv) (V7_v60 m ρ c hd) (V7_v61 m ρ c hq hk hv) (V7_v62 m ρ c hq hk hv))
theorem W8_v63_3 : Holds (show FVec Ideal S1024x2048 .bf16 from W8 m ρ c (Proc.devRef .tc main_v63_3)) (stream 4 (dvT 4 128 q k da)) :=
  Holds.of_eq (W8_arr m ρ c 11) (dv4 (V7 m ρ) c (V7_v4 m ρ c hq) (V7_v6 m ρ c hk) (V7_v8 m ρ c hv) (V7_v60 m ρ c hd) (V7_v61 m ρ c hq hk hv) (V7_v62 m ρ c hq hk hv))
theorem W8_v63_4 : Holds (show FVec Ideal S1024x2048 .bf16 from W8 m ρ c (Proc.devRef .tc main_v63_4)) (stream 4 (dvT 4 0 q k da)) :=
  Holds.of_eq (W8_arr m ρ c 12) (dv4' (V7 m ρ) c (V7_v4 m ρ c hq) (V7_v6 m ρ c hk) (V7_v8 m ρ c hv) (V7_v60 m ρ c hd) (V7_v61 m ρ c hq hk hv) (V7_v62 m ρ c hq hk hv))
theorem W10_v88_0 : Holds (show FVec Ideal S256x8192 .bf16 from W10 m ρ c (Proc.devRef .tc main_v88_0)) (stream 16 (dqT 16 q k v da)) :=
  Holds.of_eq (W10_arr m ρ c 8) (dq5 (V9 m ρ) c (V9_v10 m ρ c hq) (V9_v12 m ρ c hk) (V9_v14 m ρ c hv) (V9_v85 m ρ c hd) (V9_v86 m ρ c hq hk hv) (V9_v87 m ρ c hq hk hv))
theorem W10_v88_1 : Holds (show FVec Ideal S256x8192 .bf16 from W10 m ρ c (Proc.devRef .tc main_v88_1)) (stream 16 (dkT 16 128 q k v da)) :=
  Holds.of_eq (W10_arr m ρ c 9) (dk5 (V9 m ρ) c (V9_v10 m ρ c hq) (V9_v12 m ρ c hk) (V9_v14 m ρ c hv) (V9_v85 m ρ c hd) (V9_v86 m ρ c hq hk hv) (V9_v87 m ρ c hq hk hv))
theorem W10_v88_2 : Holds (show FVec Ideal S256x8192 .bf16 from W10 m ρ c (Proc.devRef .tc main_v88_2)) (stream 16 (dkT 16 0 q k v da)) :=
  Holds.of_eq (W10_arr m ρ c 10) (dk5' (V9 m ρ) c (V9_v10 m ρ c hq) (V9_v12 m ρ c hk) (V9_v14 m ρ c hv) (V9_v85 m ρ c hd) (V9_v86 m ρ c hq hk hv) (V9_v87 m ρ c hq hk hv))
theorem W10_v88_3 : Holds (show FVec Ideal S256x8192 .bf16 from W10 m ρ c (Proc.devRef .tc main_v88_3)) (stream 16 (dvT 16 128 q k da)) :=
  Holds.of_eq (W10_arr m ρ c 11) (dv5 (V9 m ρ) c (V9_v10 m ρ c hq) (V9_v12 m ρ c hk) (V9_v14 m ρ c hv) (V9_v85 m ρ c hd) (V9_v86 m ρ c hq hk hv) (V9_v87 m ρ c hq hk hv))
theorem W10_v88_4 : Holds (show FVec Ideal S256x8192 .bf16 from W10 m ρ c (Proc.devRef .tc main_v88_4)) (stream 16 (dvT 16 0 q k da)) :=
  Holds.of_eq (W10_arr m ρ c 12) (dv5' (V9 m ρ) c (V9_v10 m ρ c hq) (V9_v12 m ρ c hk) (V9_v14 m ρ c hv) (V9_v85 m ρ c hd) (V9_v86 m ρ c hq hk hv) (V9_v87 m ρ c hq hk hv))

/-! ## The sums -/

set_option maxHeartbeats 800000

abbrev zrow1 : FVec Ideal S128x512 .f32 := broadcastInDim S128x512 ![] bcast_S_S128x512 (constant (F := Ideal) S_ .f32 0x00000000#32)
abbrev zrow4 : FVec Ideal S512x512 .f32 := broadcastInDim S512x512 ![] bcast_S_S512x512 (constant (F := Ideal) S_ .f32 0x00000000#32)
abbrev zrow16 : FVec Ideal S2048x512 .f32 := broadcastInDim S2048x512 ![] bcast_S_S2048x512 (constant (F := Ideal) S_ .f32 0x00000000#32)

omit hq hk hv hd in
theorem zrow1_eq (i : S128x512.Idx) : zrow1 i = 0 := by
  idx_vars i
  pointwise! [zrow1]
omit hq hk hv hd in
theorem zrow4_eq (i : S512x512.Idx) : zrow4 i = 0 := by
  idx_vars i
  pointwise! [zrow4]
omit hq hk hv hd in
theorem zrow16_eq (i : S2048x512.Idx) : zrow16 i = 0 := by
  idx_vars i
  pointwise! [zrow16]

theorem W7_v43 : Holds (show FVec Ideal S4096x512 .f32 from W7 m ρ c (Proc.devRef .tc main_v43)) (stream 1 (dqT 1 q k v da)) :=
  Holds.of_eq (Y := addf (broadcastInDim S4096x512 ![] bcast_S_S4096x512 (constant S_ .f32 0x00000000#32)) (extf .f32 (show FVec Ideal S4096x512 .bf16 from W6 m ρ c (Proc.devRef .tc main_v40_0)) bitsLt_bf16_f32))
    (by dsimp only [W7]; entry_read; rfl)
    (add_zero_stream (ext_holds (W6_v40_0 m ρ c hq hk hv hd)))
theorem W7_v51 : Holds (show FVec Ideal S4096x512 .f32 from W7 m ρ c (Proc.devRef .tc main_v51)) (stream 1 (fun t c => dkT 1 128 q k v da t c + shift 128 (dkT 1 0 q k v da) t c)) :=
  Holds.of_eq (Y := addf (addf (broadcastInDim S4096x512 ![] bcast_S_S4096x512 (constant S_ .f32 0x00000000#32)) (extf .f32 (show FVec Ideal S4096x512 .bf16 from W6 m ρ c (Proc.devRef .tc main_v40_1)) bitsLt_bf16_f32)) (concatenate S4096x512 0 [⟨S3968x512, extractStridedSlice S3968x512 ![128, 0] (extf .f32 (show FVec Ideal S4096x512 .bf16 from W6 m ρ c (Proc.devRef .tc main_v40_2)) bitsLt_bf16_f32) slices_S4096x512_S3968x512_128_0⟩, ⟨S128x512, zrow1⟩] concatenates_S3968x512_S128x512_S4096x512_d0))
    (by dsimp only [W7]; entry_read; rfl)
    (add_stream (add_zero_stream (ext_holds (W6_v40_1 m ρ c hq hk hv hd))) (shift1 (zrow1_eq) (ext_holds (W6_v40_2 m ρ c hq hk hv hd))))
theorem W7_v59 : Holds (show FVec Ideal S4096x512 .f32 from W7 m ρ c (Proc.devRef .tc main_v59)) (stream 1 (fun t c => dvT 1 128 q k da t c + shift 128 (dvT 1 0 q k da) t c)) :=
  Holds.of_eq (Y := addf (addf (broadcastInDim S4096x512 ![] bcast_S_S4096x512 (constant S_ .f32 0x00000000#32)) (extf .f32 (show FVec Ideal S4096x512 .bf16 from W6 m ρ c (Proc.devRef .tc main_v40_3)) bitsLt_bf16_f32)) (concatenate S4096x512 0 [⟨S3968x512, extractStridedSlice S3968x512 ![128, 0] (extf .f32 (show FVec Ideal S4096x512 .bf16 from W6 m ρ c (Proc.devRef .tc main_v40_4)) bitsLt_bf16_f32) slices_S4096x512_S3968x512_128_0⟩, ⟨S128x512, zrow1⟩] concatenates_S3968x512_S128x512_S4096x512_d0))
    (by dsimp only [W7]; entry_read; rfl)
    (add_stream (add_zero_stream (ext_holds (W6_v40_3 m ρ c hq hk hv hd))) (shift1 (zrow1_eq) (ext_holds (W6_v40_4 m ρ c hq hk hv hd))))
theorem W9_v66 : Holds (show FVec Ideal S4096x512 .f32 from W9 m ρ c (Proc.devRef .tc main_v66)) (stream 1 (fun t c => dqT 1 q k v da t c + dqT 4 q k v da t c)) :=
  Holds.of_eq (Y := addf (show FVec Ideal S4096x512 .f32 from W8 m ρ c (Proc.devRef .tc main_v43)) (shapeCast S4096x512 (extf .f32 (show FVec Ideal S1024x2048 .bf16 from W8 m ρ c (Proc.devRef .tc main_v63_0)) bitsLt_bf16_f32) shapeCasts_S1024x2048_S4096x512))
    (by dsimp only [W9]; entry_read; rfl)
    (add_stream (Holds.of_eq (W8_of m ρ c main_v43 (by decide +kernel)) (W7_v43 m ρ c hq hk hv hd)) (of4 (ext_holds (W8_v63_0 m ρ c hq hk hv hd))))
theorem W9_v75 : Holds (show FVec Ideal S4096x512 .f32 from W9 m ρ c (Proc.devRef .tc main_v75)) (stream 1 (fun t c => dkT 1 128 q k v da t c + shift 128 (dkT 1 0 q k v da) t c + dkT 4 128 q k v da t c + shift 512 (dkT 4 0 q k v da) t c)) :=
  Holds.of_eq
    (by dsimp only [W9]; entry_read; rfl)
    (shift_sum4 (Z := zrow4) (zrow4_eq) (Holds.of_eq (W8_of m ρ c main_v51 (by decide +kernel)) (W7_v51 m ρ c hq hk hv hd)) (ext_holds (W8_v63_1 m ρ c hq hk hv hd)) (ext_holds (W8_v63_2 m ρ c hq hk hv hd)))
theorem W9_v84 : Holds (show FVec Ideal S4096x512 .f32 from W9 m ρ c (Proc.devRef .tc main_v84)) (stream 1 (fun t c => dvT 1 128 q k da t c + shift 128 (dvT 1 0 q k da) t c + dvT 4 128 q k da t c + shift 512 (dvT 4 0 q k da) t c)) :=
  Holds.of_eq
    (by dsimp only [W9]; entry_read; rfl)
    (shift_sum4 (Z := zrow4) (zrow4_eq) (Holds.of_eq (W8_of m ρ c main_v59 (by decide +kernel)) (W7_v59 m ρ c hq hk hv hd)) (ext_holds (W8_v63_3 m ρ c hq hk hv hd)) (ext_holds (W8_v63_4 m ρ c hq hk hv hd)))
theorem W11_v91 : Holds (show FVec Ideal S4096x512 .f32 from W11 m ρ c (Proc.devRef .tc main_v91)) (stream 1 (dQ q k v da)) :=
  Holds.of_eq (Y := addf (show FVec Ideal S4096x512 .f32 from W10 m ρ c (Proc.devRef .tc main_v66)) (shapeCast S4096x512 (extf .f32 (show FVec Ideal S256x8192 .bf16 from W10 m ρ c (Proc.devRef .tc main_v88_0)) bitsLt_bf16_f32) shapeCasts_S256x8192_S4096x512))
    (by dsimp only [W11]; entry_read; rfl)
    (add_stream (Holds.of_eq (W10_of m ρ c main_v66 (by decide +kernel)) (W9_v66 m ρ c hq hk hv hd)) (of16 (ext_holds (W10_v88_0 m ρ c hq hk hv hd))))
theorem W11_v100 : Holds (show FVec Ideal S4096x512 .f32 from W11 m ρ c (Proc.devRef .tc main_v100)) (stream 1 (dK q k v da)) :=
  Holds.of_eq
    (by dsimp only [W11]; entry_read; rfl)
    (shift_sum16 (Z := zrow16) (zrow16_eq) (Holds.of_eq (W10_of m ρ c main_v75 (by decide +kernel)) (W9_v75 m ρ c hq hk hv hd)) (ext_holds (W10_v88_1 m ρ c hq hk hv hd)) (ext_holds (W10_v88_2 m ρ c hq hk hv hd)))
theorem W11_v109 : Holds (show FVec Ideal S4096x512 .f32 from W11 m ρ c (Proc.devRef .tc main_v109)) (stream 1 (dV q k da)) :=
  Holds.of_eq
    (by dsimp only [W11]; entry_read; rfl)
    (shift_sum16 (Z := zrow16) (zrow16_eq) (Holds.of_eq (W10_of m ρ c main_v84 (by decide +kernel)) (W9_v84 m ρ c hq hk hv hd)) (ext_holds (W10_v88_3 m ρ c hq hk hv hd)) (ext_holds (W10_v88_4 m ρ c hq hk hv hd)))

/-- The attention's output is not written after the mixture. -/
theorem W11_v37 : Holds (show FVec Ideal S4096x512 .f32 from W11 m ρ c (Proc.devRef .tc main_v37)) (stream 1 (attnT q k v)) :=
  Holds.of_eq ((W11_of m ρ c main_v37 (by decide +kernel)).trans ((W10_of m ρ c main_v37 (by decide +kernel)).trans ((W9_of m ρ c main_v37 (by decide +kernel)).trans ((W8_of m ρ c main_v37 (by decide +kernel)).trans ((W7_of m ρ c main_v37 (by decide +kernel)).trans (W6_of m ρ c main_v37 (by decide +kernel))))))) (V5_v37 m ρ c hq hk hv)

end Cert.K.Attn

end
-- ==== Proof.Attn.Drop.lean ====
/- A sum over two axes, each of length one, reads the only element. -/
module

public import proofs.«01_k».proof.Proof.Gen.AttnReferenceIdeal.Read
public import Idealize.ShloMosaic.Lib.Pointwise

@[expose] public section

noncomputable section

open Idealize.ShloMosaic Idealize.ShloMosaic.TcCoe Idealize.SL.Sem

namespace Cert.K.Attn

open Cert.AttnReferenceIdeal Cert.AttnReferenceIdeal.Gen Cert.AttnReferenceIdeal.Read

theorem sum_only {s t u : Shape} {axes : List (Fin s.rank)} (h : s.ReducesTo axes t) (hu : 0 < u.numel) (x : FVec Ideal s .f32)
    (z : FVec Ideal u .f32) (hz : ∀ i, z i = 0) (j : t.Idx) (i₀ : s.Idx) (h₀ : h.drop i₀ = j) (h₁ : ∀ i, h.drop i = j → i = i₀) :
    Host.reduceAdd x z h hu j = x i₀ := by
  show z _ + ∑ i ∈ Finset.univ.filter (fun i => h.drop i = j), x i = x i₀
  have e : Finset.univ.filter (fun i => h.drop i = j) = {i₀} := by
    ext i
    simp only [Finset.mem_filter, Finset.mem_univ, true_and, Finset.mem_singleton]
    exact ⟨h₁ i, fun hi => hi ▸ h₀⟩
  rw [e, Finset.sum_singleton, hz, zero_add]

theorem only_mid (x : FVec Ideal S3x1x4096x8x1 .f32) (z : FVec Ideal S_ .f32) (hz : ∀ i, z i = 0) (p : Fin 3) (t : Fin 4096) (h : Fin 8) :
    Host.reduceAdd x z reducesTo_S3x1x4096x8x1_S3x4096x8_d1_4 h_S_ (ix3 p t h) = x (ix5 p (0 : Fin 1) t h (0 : Fin 1)) := by
  refine sum_only _ _ x z hz _ _ ?_ fun i hi => ?_
  · funext b
    match b with
    | ⟨0, _⟩ => exact Fin.ext (Shape.ReducesTo.drop_apply_val _ _ _)
    | ⟨1, _⟩ => exact Fin.ext (Shape.ReducesTo.drop_apply_val _ _ _)
    | ⟨2, _⟩ => exact Fin.ext (Shape.ReducesTo.drop_apply_val _ _ _)
  · have e0 : (i 0).val = p.val := (Shape.ReducesTo.drop_apply_val reducesTo_S3x1x4096x8x1_S3x4096x8_d1_4 i 0).symm.trans (congrArg (fun f : S3x4096x8.Idx => (f 0).val) hi)
    have e1 : (i 2).val = t.val := (Shape.ReducesTo.drop_apply_val reducesTo_S3x1x4096x8x1_S3x4096x8_d1_4 i 1).symm.trans (congrArg (fun f : S3x4096x8.Idx => (f 1).val) hi)
    have e2 : (i 3).val = h.val := (Shape.ReducesTo.drop_apply_val reducesTo_S3x1x4096x8x1_S3x4096x8_d1_4 i 2).symm.trans (congrArg (fun f : S3x4096x8.Idx => (f 2).val) hi)
    rw [eq_ix5 i]
    have f1 : (i 1).val = 0 := by have := (i 1).isLt; change _ < 1 at this; omega
    have f4 : (i 4).val = 0 := by have := (i 4).isLt; change _ < 1 at this; omega
    rw [show i 0 = p from Fin.ext e0, show i 2 = t from Fin.ext e1, show i 3 = h from Fin.ext e2, show i 1 = (0 : Fin 1) from Fin.ext f1, show i 4 = (0 : Fin 1) from Fin.ext f4]

theorem only_first (x : FVec Ideal S1x1x4096x8 .f32) (z : FVec Ideal S_ .f32) (hz : ∀ i, z i = 0) (t : Fin 4096) (h : Fin 8) :
    Host.reduceAdd x z reducesTo_S1x1x4096x8_S4096x8_d0_1 h_S_ (ix2 t h) = x (ix4 (0 : Fin 1) (0 : Fin 1) t h) := by
  refine sum_only _ _ x z hz _ _ ?_ fun i hi => ?_
  · funext b
    match b with
    | ⟨0, _⟩ => exact Fin.ext (Shape.ReducesTo.drop_apply_val _ _ _)
    | ⟨1, _⟩ => exact Fin.ext (Shape.ReducesTo.drop_apply_val _ _ _)
  · have e0 : (i 2).val = t.val := (Shape.ReducesTo.drop_apply_val reducesTo_S1x1x4096x8_S4096x8_d0_1 i 0).symm.trans (congrArg (fun f : S4096x8.Idx => (f 0).val) hi)
    have e1 : (i 3).val = h.val := (Shape.ReducesTo.drop_apply_val reducesTo_S1x1x4096x8_S4096x8_d0_1 i 1).symm.trans (congrArg (fun f : S4096x8.Idx => (f 1).val) hi)
    rw [eq_ix4 i]
    have f0 : (i 0).val = 0 := by have := (i 0).isLt; change _ < 1 at this; omega
    have f1 : (i 1).val = 0 := by have := (i 1).isLt; change _ < 1 at this; omega
    rw [show i 2 = t from Fin.ext e0, show i 3 = h from Fin.ext e1, show i 0 = (0 : Fin 1) from Fin.ext f0, show i 1 = (0 : Fin 1) from Fin.ext f1]

theorem only_ends (x : FVec Ideal S1x32x8x128x1 .f32) (z : FVec Ideal S_ .f32) (hz : ∀ i, z i = 0) (b : Fin 32) (h : Fin 8) (r : Fin 128) :
    Host.reduceAdd x z reducesTo_S1x32x8x128x1_S32x8x128_d0_4 h_S_ (ix3 b h r) = x (ix5 (0 : Fin 1) b h r (0 : Fin 1)) := by
  refine sum_only _ _ x z hz _ _ ?_ fun i hi => ?_
  · funext b
    match b with
    | ⟨0, _⟩ => exact Fin.ext (Shape.ReducesTo.drop_apply_val _ _ _)
    | ⟨1, _⟩ => exact Fin.ext (Shape.ReducesTo.drop_apply_val _ _ _)
    | ⟨2, _⟩ => exact Fin.ext (Shape.ReducesTo.drop_apply_val _ _ _)
  · have e0 : (i 1).val = b.val := (Shape.ReducesTo.drop_apply_val reducesTo_S1x32x8x128x1_S32x8x128_d0_4 i 0).symm.trans (congrArg (fun f : S32x8x128.Idx => (f 0).val) hi)
    have e1 : (i 2).val = h.val := (Shape.ReducesTo.drop_apply_val reducesTo_S1x32x8x128x1_S32x8x128_d0_4 i 1).symm.trans (congrArg (fun f : S32x8x128.Idx => (f 1).val) hi)
    have e2 : (i 3).val = r.val := (Shape.ReducesTo.drop_apply_val reducesTo_S1x32x8x128x1_S32x8x128_d0_4 i 2).symm.trans (congrArg (fun f : S32x8x128.Idx => (f 2).val) hi)
    rw [eq_ix5 i]
    have f0 : (i 0).val = 0 := by have := (i 0).isLt; change _ < 1 at this; omega
    have f4 : (i 4).val = 0 := by have := (i 4).isLt; change _ < 1 at this; omega
    rw [show i 1 = b from Fin.ext e0, show i 2 = h from Fin.ext e1, show i 3 = r from Fin.ext e2, show i 0 = (0 : Fin 1) from Fin.ext f0, show i 4 = (0 : Fin 1) from Fin.ext f4]

end Cert.K.Attn

end
-- ==== Proof.Attn.Row.lean ====
/- One query's row of the plain attention and of its gradient: the maximum cancels, and so does the maximum's own gradient. -/
module

public import proofs.«01_k».proof.Proof.Attn.Output

@[expose] public section

set_option maxRecDepth 16384

noncomputable section

open Idealize.ShloMosaic Idealize.ShloMosaic.TcCoe Idealize.SL.Sem

namespace Cert.K.Attn

theorem coe_of {a b : ℝ} (h : a = b) : (a : EReal) = (b : EReal) := congrArg _ h

/-! ## The band, as the plain program compares distances -/

theorem words (i : Fin 128) (j : Fin 256) :
    IntOp.andi (IntOp.cmpi .sge (IntOp.subi (IntOp.addi (BitVec.ofNat 32 i.val) 128#32) (BitVec.ofNat 32 j.val)) 0#32)
      (IntOp.cmpi .sle (IntOp.subi (IntOp.addi (BitVec.ofNat 32 i.val) 128#32) (BitVec.ofNat 32 j.val)) 128#32)
      = if i.val ≤ j.val ∧ j.val ≤ i.val + 128 then 1#1 else 0#1 := by
  have key : ∀ t : Fin 383, IntOp.andi (IntOp.cmpi .sge (BitVec.ofNat 32 t.val - 127#32) 0#32) (IntOp.cmpi .sle (BitVec.ofNat 32 t.val - 127#32) 128#32)
      = if 127 ≤ t.val ∧ t.val ≤ 255 then 1#1 else 0#1 := by decide +kernel
  have e : IntOp.subi (IntOp.addi (BitVec.ofNat 32 i.val) 128#32) (BitVec.ofNat 32 j.val) = BitVec.ofNat 32 (i.val + 255 - j.val) - 127#32 := by
    apply BitVec.eq_of_toNat_eq
    simp only [IntOp.subi, IntOp.addi, BitVec.toNat_sub, BitVec.toNat_add, BitVec.toNat_ofNat]
    omega
  rw [e]
  exact (key ⟨i.val + 255 - j.val, by omega⟩).trans (if_congr (by dsimp only; omega) rfl rfl)

theorem words_block (b : ℕ) (hb : b < 32) (j : Fin 256) :
    IntOp.ori (IntOp.cmpi .sgt (BitVec.ofNat 32 b) 0#32) (IntOp.cmpi .sge (BitVec.ofNat 32 j.val) 128#32)
      = if b ≠ 0 ∨ 128 ≤ j.val then 1#1 else 0#1 := by
  have key : ∀ b : Fin 32, IntOp.cmpi .sgt (BitVec.ofNat 32 b.val) 0#32 = if b.val ≠ 0 then 1#1 else 0#1 := by decide +kernel
  rw [key ⟨b, hb⟩, word_own, or_if]

theorem words_band (b : ℕ) (i : Fin 128) (j : Fin 256) :
    IntOp.andi (if i.val ≤ j.val ∧ j.val ≤ i.val + 128 then 1#1 else 0#1) (if b ≠ 0 ∨ 128 ≤ j.val then 1#1 else 0#1)
      = if bandP b i.val j.val then 1#1 else (0#1 : BitVec 1) := by
  rw [and_if]
  refine if_congr ?_ rfl rfl
  unfold bandP
  exact and_assoc

/-! ## Keys and values with zeros before the first block -/

/-- The keys a block sees, the block before the first filled with zeros. -/
def kz (d : ℕ) (k : ℕ → ℕ → ℝ) (n b j c : ℕ) : ℝ := if b = 0 ∧ j < 128 then 0 else kB d k n b j c

theorem kz_band {b i j : ℕ} (h : bandP b i j) (d : ℕ) (k : ℕ → ℕ → ℝ) (n c : ℕ) : kz d k n b j c = kB d k n b j c := by
  unfold kz
  refine if_neg fun h' => ?_
  unfold bandP at h
  omega

theorem ew_kz (d : ℕ) (k : ℕ → ℕ → ℝ) (n b i j c : ℕ) (s : ℝ) : ew (bandP b i j) s * kz d k n b j c = ew (bandP b i j) s * kB d k n b j c := by
  by_cases h : bandP b i j
  · rw [kz_band h]
  · unfold ew; rw [if_neg h, zero_mul, zero_mul]

theorem sR_kz {b i j : ℕ} (h : bandP b i j) (d : ℕ) (k : ℕ → ℕ → ℝ) (n s : ℕ) (a : ℕ → ℕ → ℝ) :
    sR a (kz d k n b) s i j = sR a (kB d k n b) s i j := by
  unfold sR
  simp only [kz_band h]

/-! ## The gradient of a row -/

section Back
variable {κ : Type} [Fintype κ] {w g : κ → ℝ} {e G : κ → EReal} {den L : EReal} {Z E l : ℝ} (hZ : 0 < Z) (hE : 0 < E) (hsum : ∑ j, w j = Z)
  (he : ∀ j, e j = ((w j * E : ℝ) : EReal)) (hden : den = ((Z * E : ℝ) : EReal)) (hL : L = ((l : ℝ) : EReal)) (hG : ∀ j, G j = ((g j : ℝ) : EReal))
include hZ hE he hden hL hG

/-- The gradient of a score, the maximum held fixed. -/
theorem row_free (j : κ) : (Ideal.div (G j) den + (Ideal.div L den + (-∑ j', G j' * Ideal.div 1 (den * den) * e j'))) * e j
    = ((w j / Z * (g j + l - ∑ j', w j' / Z * g j') : ℝ) : EReal) := by
  have hZE : Z * E ≠ 0 := (mul_pos hZ hE).ne'
  have h1 : ∑ j', G j' * Ideal.div 1 (den * den) * e j' = ((∑ j', g j' * (1 / (Z * E * (Z * E))) * (w j' * E) : ℝ) : EReal) := by
    refine sum_eq_coe _ fun j' => ?_
    rw [hG, he, hden, ← EReal.coe_mul, ← EReal.coe_one, div_real (mul_ne_zero hZE hZE), ← EReal.coe_mul, ← EReal.coe_mul]
  rw [h1, hG, he, hden, hL, div_real hZE, div_real hZE, ← EReal.coe_neg, ← EReal.coe_add, ← EReal.coe_add, ← EReal.coe_mul]
  refine coe_of ?_
  have h2 : ∑ j', g j' * (1 / (Z * E * (Z * E))) * (w j' * E) = (∑ j', w j' / Z * g j') / (Z * E) := by
    rw [Finset.sum_div]
    refine Finset.sum_congr rfl fun j' _ => ?_
    have := hZ.ne'; have := hE.ne'
    field_simp
  rw [h2]
  have := hZ.ne'; have := hE.ne'
  field_simp
  ring

include hsum
/-- What is left for the maximum is nothing. -/
theorem row_max {D : κ → EReal} (hD : ∀ j, D j = ((w j / Z * (g j + l - ∑ j', w j' / Z * g j') : ℝ) : EReal)) : L + ∑ j, -D j = 0 := by
  have h1 : ∑ j, -D j = ((∑ j, -(w j / Z * (g j + l - ∑ j', w j' / Z * g j')) : ℝ) : EReal) := by
    refine sum_eq_coe _ fun j => ?_
    rw [hD, ← EReal.coe_neg]
  rw [h1, hL, ← EReal.coe_add, ← EReal.coe_zero]
  refine coe_of ?_
  have hz : ∑ j, w j / Z = 1 := by rw [← Finset.sum_div, hsum, div_self hZ.ne']
  have h3 : ∑ j, w j / Z * (g j + l - ∑ j', w j' / Z * g j') = ∑ j', w j' / Z * g j' + (l - ∑ j', w j' / Z * g j') * ∑ j, w j / Z := by
    rw [Finset.mul_sum, ← Finset.sum_add_distrib]
    exact Finset.sum_congr rfl fun j _ => by ring
  rw [Finset.sum_neg_distrib, h3, hz]
  ring

end Back
end Cert.K.Attn

end
-- ==== Proof.Attn.Plain1.lean ====
/- The plain attention of dilation 1: its output and its logarithm, by time. -/
module

public import proofs.«01_k».proof.Proof.Attn.Row
public import proofs.«01_k».proof.Proof.Gen.AttnReferenceIdeal.Run
public import proofs.«01_k».proof.Proof.Gen.AttnReferenceIdeal.Read

@[expose] public section

set_option maxRecDepth 16384

noncomputable section

open Idealize.ShloMosaic Idealize.ShloMosaic.TcCoe Idealize.SL.Sem

namespace Cert.K.Attn

open Cert.AttnReferenceIdeal Cert.AttnReferenceIdeal.Read

variable {x0 x1 x2 : FVec Ideal S4096x512 .f32} {q k v : ℕ → ℕ → ℝ}

theorem qb1 (hq : Holds x0 (stream 1 q)) (n : Fin 1) (b : Fin 32) (i : Fin 128) (h : Fin 8) (e : Fin 64) :
    val_main_v7 (F := Ideal) x0 (ix5 n b i h e) = ((blk 1 n.val b.val q i.val (64 * h.val + e.val) : ℝ) : EReal) := by
  obtain rfl : n = 0 := Subsingleton.elim _ _
  refine Eq.trans (b := x0 (ix2 ⟨(b.val * 128 + i.val) * 1 + (0 : Fin 1).val, by omega⟩ ⟨h.val * 64 + e.val, by omega⟩)) ?_ ((hq _ _).trans ?_)
  · pointwise [val_main_v7, val_main_v6_0, val_main_v5, val_main_v4, val_main_v3, val_main_v0]
    exact dif_pos (by omega)
  · refine coe_of ?_
    simp only [stream, blk]
    congr 1 <;> omega

theorem kb1 (hk : Holds x1 (stream 1 k)) (n : Fin 1) (b : Fin 32) (i : Fin 128) (h : Fin 8) (e : Fin 64) :
    val_main_v12 (F := Ideal) x1 (ix5 n b i h e) = ((blk 1 n.val b.val k i.val (64 * h.val + e.val) : ℝ) : EReal) := by
  obtain rfl : n = 0 := Subsingleton.elim _ _
  refine Eq.trans (b := x1 (ix2 ⟨(b.val * 128 + i.val) * 1 + (0 : Fin 1).val, by omega⟩ ⟨h.val * 64 + e.val, by omega⟩)) ?_ ((hk _ _).trans ?_)
  · pointwise [val_main_v12, val_main_v11_0, val_main_v10, val_main_v9, val_main_v8, val_main_v1]
    exact dif_pos (by omega)
  · refine coe_of ?_
    simp only [stream, blk]
    congr 1 <;> omega

theorem vb1 (hv : Holds x2 (stream 1 v)) (n : Fin 1) (b : Fin 32) (i : Fin 128) (h : Fin 8) (e : Fin 64) :
    val_main_v23 (F := Ideal) x2 (ix5 n b i h e) = ((blk 1 n.val b.val v i.val (64 * h.val + e.val) : ℝ) : EReal) := by
  obtain rfl : n = 0 := Subsingleton.elim _ _
  refine Eq.trans (b := x2 (ix2 ⟨(b.val * 128 + i.val) * 1 + (0 : Fin 1).val, by omega⟩ ⟨h.val * 64 + e.val, by omega⟩)) ?_ ((hv _ _).trans ?_)
  · pointwise [val_main_v23, val_main_v22_0, val_main_v21, val_main_v20, val_main_v19, val_main_v2]
    exact dif_pos (by omega)
  · refine coe_of ?_
    simp only [stream, blk]
    congr 1 <;> omega

theorem kc1 (hk : Holds x1 (stream 1 k)) (n : Fin 1) (b : Fin 32) (j : Fin 256) (h : Fin 8) (e : Fin 64) :
    val_main_v18 (F := Ideal) x1 (ix5 n b j h e) = ((kz 1 k n.val b.val j.val (64 * h.val + e.val) : ℝ) : EReal) := by
  obtain rfl : n = 0 := Subsingleton.elim _ _
  refine Eq.trans (b := if hj : j.val < 128 then (if hb : b.val < 1 then (0 : EReal) else val_main_v12 (F := Ideal) x1 (ix5 (0 : Fin 1) ⟨b.val - 1, by omega⟩ ⟨j.val, hj⟩ h e))
    else val_main_v12 (F := Ideal) x1 (ix5 (0 : Fin 1) b ⟨j.val - 128, by omega⟩ h e)) ?_ ?_
  · pointwise [val_main_v18, val_main_v16, val_main_v15, val_main_v14, val_main_cst]
  · unfold kz kB cat
    by_cases hj : j.val < 128
    · by_cases hb : b.val < 1
      · rw [dif_pos hj, dif_pos hb, if_pos ⟨by omega, hj⟩]; rfl
      · rw [dif_pos hj, dif_neg hb, if_neg (by omega), if_pos hj, kb1 hk]
    · rw [dif_neg hj, if_neg (by omega), if_neg hj, kb1 hk]

theorem vc1 (hv : Holds x2 (stream 1 v)) (n : Fin 1) (b : Fin 32) (j : Fin 256) (h : Fin 8) (e : Fin 64) :
    val_main_v29 (F := Ideal) x2 (ix5 n b j h e) = ((kz 1 v n.val b.val j.val (64 * h.val + e.val) : ℝ) : EReal) := by
  obtain rfl : n = 0 := Subsingleton.elim _ _
  refine Eq.trans (b := if hj : j.val < 128 then (if hb : b.val < 1 then (0 : EReal) else val_main_v23 (F := Ideal) x2 (ix5 (0 : Fin 1) ⟨b.val - 1, by omega⟩ ⟨j.val, hj⟩ h e))
    else val_main_v23 (F := Ideal) x2 (ix5 (0 : Fin 1) b ⟨j.val - 128, by omega⟩ h e)) ?_ ?_
  · pointwise [val_main_v29, val_main_v27, val_main_v26, val_main_v25, val_main_cst_3]
  · unfold kz kB cat
    by_cases hj : j.val < 128
    · by_cases hb : b.val < 1
      · rw [dif_pos hj, dif_pos hb, if_pos ⟨by omega, hj⟩]; rfl
      · rw [dif_pos hj, dif_neg hb, if_neg (by omega), if_pos hj, vb1 hv]
    · rw [dif_neg hj, if_neg (by omega), if_neg hj, vb1 hv]

theorem mask1 (n : Fin 1) (b : Fin 32) (h : Fin 8) (i : Fin 128) (j : Fin 256) :
    val_main_v62_1 (F := Ideal) (ix5 n b h i j) = if bandP b.val i.val j.val then 1#1 else 0#1 := by
  obtain rfl : n = 0 := Subsingleton.elim _ _
  have e1 : val_main_v46 (F := Ideal) (ix2 i j) = if i.val ≤ j.val ∧ j.val ≤ i.val + 128 then 1#1 else 0#1 := by
    refine Eq.trans ?_ (words i j)
    pointwise [val_main_v46, val_main_v45, val_main_v44, val_main_v43, val_main_v42, val_main_v41, val_main_v40, val_main_v39, val_main_v38, val_main_v37,
      val_main_v36, val_main_v35, val_main_v34, val_main_v33, val_main_c_6, val_main_c_7, val_main_c_8]
  have e2 : val_main_v57 (F := Ideal) (ix3 b 0 j) = if b.val ≠ 0 ∨ 128 ≤ j.val then 1#1 else 0#1 := by
    refine Eq.trans ?_ (words_block b.val (by omega) j)
    pointwise [val_main_v57, val_main_v56, val_main_v55, val_main_v54, val_main_v53, val_main_v52, val_main_v51, val_main_v50, val_main_v48, val_main_v47,
      val_main_v36, val_main_v35, val_main_c_9, val_main_c_10]
  have e3 : val_main_v60 (F := Ideal) (ix3 b i j) = if bandP b.val i.val j.val then 1#1 else 0#1 := by
    refine Eq.trans (b := IntOp.andi (val_main_v46 (F := Ideal) (ix2 i j)) (val_main_v57 (F := Ideal) (ix3 b 0 j))) ?_ ?_
    · pointwise [val_main_v60, val_main_v59, val_main_v58, val_main_v49]
    · rw [e1, e2]; exact words_band b.val i j
  refine Eq.trans (b := val_main_v60 (F := Ideal) (ix3 b i j)) ?_ e3
  pointwise [val_main_v62_1, val_main_v61]

theorem dot1 (hq : Holds x0 (stream 1 q)) (hk : Holds x1 (stream 1 k)) (n : Fin 1) (b : Fin 32) (h : Fin 8) (i : Fin 128) (j : Fin 256) :
    val_main_v32 (F := Ideal) x0 x1 (ix5 n b h i j)
      = (((∑ e : Fin 64, blk 1 n.val b.val q i.val (64 * h.val + e.val) * kz 1 k n.val b.val j.val (64 * h.val + e.val)) * (1 / 8) : ℝ) : EReal) := by
  obtain rfl : n = 0 := Subsingleton.elim _ _
  have h1 : val_main_v30 (F := Ideal) x0 x1 (ix5 (0 : Fin 1) b h i j) = (∑ e : Fin 64, (val_main_v7 (F := Ideal) x0 (ix5 (0 : Fin 1) b i h e) : EReal) * (val_main_v18 (F := Ideal) x1 (ix5 (0 : Fin 1) b j h e) : EReal) : EReal) := by
    rw [val_main_v30_apply]
    refine Finset.sum_congr rfl fun e _ => ?_
    rw [show lidx_main_v30 (ix5 (0 : Fin 1) b h i j) e = ix5 (0 : Fin 1) b i h e from eq_ix5 _, show ridx_main_v30 (ix5 (0 : Fin 1) b h i j) e = ix5 (0 : Fin 1) b j h e from eq_ix5 _]
  have h2 : val_main_v31 (F := Ideal) (ix5 (0 : Fin 1) b h i j) = ((1 / 8 : ℝ) : EReal) := by
    rw [val_main_v31_apply]
    exact ofBits_eighth
  rw [val_main_v32_apply, h2, h1, Ideal.mulf_def]
  rw [sum_eq_coe _ (f := fun e : Fin 64 => blk 1 (0 : Fin 1).val b.val q i.val (64 * h.val + e.val) * kz 1 k (0 : Fin 1).val b.val j.val (64 * h.val + e.val)) fun e => by
      rw [qb1 hq, kc1 hk, EReal.coe_mul]]
  rw [← EReal.coe_mul]

/-- The scores, masked. -/
theorem score1 (hq : Holds x0 (stream 1 q)) (hk : Holds x1 (stream 1 k)) (n : Fin 1) (b : Fin 32) (h : Fin 8) (i : Fin 128) (j : Fin 256) :
    val_main_v62_0 (F := Ideal) x0 x1 (ix5 n b h i j) = if bandP b.val i.val j.val then ((sR (qB 1 q n.val b.val) (kB 1 k n.val b.val) h.val i.val j.val : ℝ) : EReal) else ⊥ := by
  obtain rfl : n = 0 := Subsingleton.elim _ _
  have hbot : val_main_call3_v2 (F := Ideal) (ix5 (0 : Fin 1) b h i j) = ⊥ := by
    rw [val_main_call3_v2_apply, val_main_call3_v0_apply]
    exact ofBits_ninf
  rw [val_main_v62_0_apply, mask1, select_if, hbot]
  by_cases hb : bandP b.val i.val j.val
  · rw [if_pos hb, if_pos hb, dot1 hq hk]
    refine coe_of ?_
    rw [← sR_kz hb]
    unfold sR qB eighth
    rw [Finset.sum_mul]
    exact Finset.sum_congr rfl fun e _ => by ring
  · rw [if_neg hb, if_neg hb]

/-- The row: the maximum, the exponentials and their sum. -/
theorem row1 (hq : Holds x0 (stream 1 q)) (hk : Holds x1 (stream 1 k)) (n : Fin 1) (b : Fin 32) (h : Fin 8) (i : Fin 128) :
    ∃ μ : ℝ, val_main_v63 (F := Ideal) x0 x1 (ix4 n b h i) = (μ : EReal)
      ∧ (∀ j : Fin 256, val_main_v72 (F := Ideal) x0 x1 (ix5 n b h i j)
        = ((ew (bandP b.val i.val j.val) (sR (qB 1 q n.val b.val) (kB 1 k n.val b.val) h.val i.val j.val) * Real.exp (-μ) : ℝ) : EReal))
      ∧ val_main_v73 (F := Ideal) x0 x1 (ix4 n b h i) = ((zR b.val (qB 1 q n.val b.val) (kB 1 k n.val b.val) h.val i.val * Real.exp (-μ) : ℝ) : EReal) := by
  obtain rfl : n = 0 := Subsingleton.elim _ _
  obtain ⟨μ, hμ⟩ := max_real (fun j : Fin 256 => bandP b.val i.val j.val) (fun j => sR (qB 1 q (0 : Fin 1).val b.val) (kB 1 k (0 : Fin 1).val b.val) h.val i.val j.val)
    (fun j => val_main_v62_0 (F := Ideal) x0 x1 (ix5 (0 : Fin 1) b h i j)) (fun j => score1 hq hk (0 : Fin 1) b h i j) (bandP_self b.val i)
  have h1 : val_main_v63 (F := Ideal) x0 x1 (ix4 (0 : Fin 1) b h i) = (μ : EReal) := by
    refine Eq.trans ?_ hμ
    pointwise [val_main_v63, val_main_cst_12]
    rw [ofBits_ninf]
  have h2 : ∀ j : Fin 256, val_main_v72 (F := Ideal) x0 x1 (ix5 (0 : Fin 1) b h i j)
      = ((ew (bandP b.val i.val j.val) (sR (qB 1 q (0 : Fin 1).val b.val) (kB 1 k (0 : Fin 1).val b.val) h.val i.val j.val) * Real.exp (-μ) : ℝ) : EReal) := fun j => by
    refine Eq.trans (b := Ideal.exp (val_main_v62_0 (F := Ideal) x0 x1 (ix5 (0 : Fin 1) b h i j) - val_main_v63 (F := Ideal) x0 x1 (ix4 (0 : Fin 1) b h i))) ?_ ?_
    · pointwise [val_main_v72, val_main_v71, val_main_v70, val_main_v69]
    · rw [score1 hq hk, h1, exp_masked]
  refine ⟨μ, h1, h2, ?_⟩
  refine Eq.trans (b := ∑ j : Fin 256, val_main_v72 (F := Ideal) x0 x1 (ix5 (0 : Fin 1) b h i j)) ?_ ?_
  · pointwise [val_main_v73, val_main_cst_14]
  · rw [sum_eq_coe _ h2, zR, Finset.sum_mul]

theorem prob1 (hq : Holds x0 (stream 1 q)) (hk : Holds x1 (stream 1 k)) (n : Fin 1) (b : Fin 32) (h : Fin 8) (i : Fin 128) (j : Fin 256) :
    val_main_v76 (F := Ideal) x0 x1 (ix5 n b h i j)
      = ((ew (bandP b.val i.val j.val) (sR (qB 1 q n.val b.val) (kB 1 k n.val b.val) h.val i.val j.val) / zR b.val (qB 1 q n.val b.val) (kB 1 k n.val b.val) h.val i.val : ℝ) : EReal) := by
  obtain rfl : n = 0 := Subsingleton.elim _ _
  obtain ⟨μ, -, he, hd⟩ := row1 hq hk (0 : Fin 1) b h i
  have hE := Real.exp_pos (-μ)
  have hZ := zR_pos b.val (qB 1 q (0 : Fin 1).val b.val) (kB 1 k (0 : Fin 1).val b.val) h.val i
  refine Eq.trans (b := Ideal.div (val_main_v72 (F := Ideal) x0 x1 (ix5 (0 : Fin 1) b h i j)) (val_main_v73 (F := Ideal) x0 x1 (ix4 (0 : Fin 1) b h i))) ?_ ?_
  · pointwise [val_main_v76, val_main_v75, val_main_v74]
  · rw [he, hd, div_real (mul_pos hZ hE).ne', mul_div_mul_right _ _ hE.ne']

/-- The attention's output. -/
theorem refOut1 (hq : Holds x0 (stream 1 q)) (hk : Holds x1 (stream 1 k)) (hv : Holds x2 (stream 1 v)) (t : Fin 4096) (h : Fin 8) (e : Fin 64) :
    val_main_v88 (F := Ideal) x0 x1 x2 (ix4 0 t h e) = ((nT 1 q k v t.val (64 * h.val + e.val) / zT 1 q k t.val (64 * h.val) : ℝ) : EReal) := by
  refine Eq.trans (b := ∑ j : Fin 256, val_main_v29 (F := Ideal) x2 (ix5 ⟨t.val % 1, by omega⟩ ⟨t.val / 1 / 128, by omega⟩ j h e) * val_main_v76 (F := Ideal) x0 x1 (ix5 ⟨t.val % 1, by omega⟩ ⟨t.val / 1 / 128, by omega⟩ h ⟨t.val / 1 % 128, by omega⟩ j)) ?_ ?_
  · pointwise [val_main_v88, val_main_v87, val_main_v86, val_main_v85, val_main_v81, val_main_v80]
  · rw [sum_eq_coe _ fun j => by rw [vc1 hv, prob1 hq hk, ← EReal.coe_mul]]
    refine coe_of ?_
    unfold nT zT byTime nR
    dsimp only
    rw [Finset.sum_div, show (64 * h.val + e.val) / 64 = h.val by omega, show 64 * h.val / 64 = h.val by omega]
    refine Finset.sum_congr rfl fun j _ => ?_
    rw [mul_comm, div_mul_eq_mul_div, ew_kz]

theorem logIdx1 (hq : Holds x0 (stream 1 q)) (n : Fin 1) (b : Fin 32) (h : Fin 8) (i : Fin 128) :
    val_main_v84 (F := Ideal) x0 x1 (ix4 n b h i) = val_main_v83 (F := Ideal) x0 x1 (ix5 n b h i 0) := by
  obtain rfl : n = 0 := Subsingleton.elim _ _
  have e : idx_main_v84 (ix4 (0 : Fin 1) b h i) = ix5 (0 : Fin 1) b h i (0 : Fin 1) := funext fun a => match a with
    | ⟨0, _⟩ => Fin.ext (by show 0 = (0 : Fin 1).val; omega)
    | ⟨1, _⟩ => Fin.ext (by show ((((0 : Fin 1).val * 32 + b.val) * 8 + h.val) * 128 + i.val) / 1024 % 32 = b.val; omega)
    | ⟨2, _⟩ => Fin.ext (by show ((((0 : Fin 1).val * 32 + b.val) * 8 + h.val) * 128 + i.val) / 128 % 8 = h.val; omega)
    | ⟨3, _⟩ => Fin.ext (by show ((((0 : Fin 1).val * 32 + b.val) * 8 + h.val) * 128 + i.val) / 1 % 128 = i.val; omega)
    | ⟨4, _⟩ => rfl
  rw [val_main_v84_apply, e]

theorem logRow1 (hq : Holds x0 (stream 1 q)) (hk : Holds x1 (stream 1 k)) (n : Fin 1) (b : Fin 32) (h : Fin 8) (i : Fin 128) :
    val_main_v83 (F := Ideal) x0 x1 (ix5 n b h i 0) = ((Real.log (zR b.val (qB 1 q n.val b.val) (kB 1 k n.val b.val) h.val i.val) : ℝ) : EReal) := by
  obtain rfl : n = 0 := Subsingleton.elim _ _
  obtain ⟨μ, hm, -, hd⟩ := row1 hq hk (0 : Fin 1) b h i
  have h1 : val_main_v69 (F := Ideal) x0 x1 (ix5 (0 : Fin 1) b h i 0) = val_main_v63 (F := Ideal) x0 x1 (ix4 (0 : Fin 1) b h i) := by
    pointwise [val_main_v69]
  have h2 : val_main_v74 (F := Ideal) x0 x1 (ix5 (0 : Fin 1) b h i 0) = val_main_v73 (F := Ideal) x0 x1 (ix4 (0 : Fin 1) b h i) := by
    pointwise [val_main_v74]
  rw [val_main_v83_apply, val_main_v82_apply, h1, h2, hm, hd, zR, Finset.sum_mul]
  exact lse_real (fun j : Fin 256 => bandP b.val i.val j.val) _ (bandP_self b.val i) μ

theorem logTime1 (t : Fin 4096) (h : Fin 8) :
    val_main_v93 (F := Ideal) x0 x1 (ix3 0 t h) = val_main_v84 (F := Ideal) x0 x1 (ix4 ⟨t.val % 1, by omega⟩ ⟨t.val / 1 / 128, by omega⟩ h ⟨t.val / 1 % 128, by omega⟩) := by
  pointwise [val_main_v93, val_main_v92, val_main_v91, val_main_v90, val_main_v89]

/-- The logarithm of the row's sum. -/
theorem refLog1 (hq : Holds x0 (stream 1 q)) (hk : Holds x1 (stream 1 k)) (t : Fin 4096) (h : Fin 8) :
    val_main_v93 (F := Ideal) x0 x1 (ix3 0 t h) = ((Real.log (zT 1 q k t.val (64 * h.val)) : ℝ) : EReal) := by
  refine (logTime1 t h).trans ((logIdx1 hq _ _ _ _).trans ((logRow1 hq hk _ _ _ _).trans (coe_of ?_)))
  unfold zT byTime
  show _ = Real.log (zR _ _ _ (64 * h.val / 64) _)
  rw [show 64 * h.val / 64 = h.val by omega]

end Cert.K.Attn

end
-- ==== Proof.Attn.Plain4.lean ====
/- The plain attention of dilation 4: its output and its logarithm, by time. -/
module

public import proofs.«01_k».proof.Proof.Attn.Row
public import proofs.«01_k».proof.Proof.Gen.AttnReferenceIdeal.Run
public import proofs.«01_k».proof.Proof.Gen.AttnReferenceIdeal.Read

@[expose] public section

set_option maxRecDepth 16384

noncomputable section

open Idealize.ShloMosaic Idealize.ShloMosaic.TcCoe Idealize.SL.Sem

namespace Cert.K.Attn

open Cert.AttnReferenceIdeal Cert.AttnReferenceIdeal.Read

variable {x0 x1 x2 : FVec Ideal S4096x512 .f32} {q k v : ℕ → ℕ → ℝ}

theorem qb4 (hq : Holds x0 (stream 1 q)) (n : Fin 4) (b : Fin 8) (i : Fin 128) (h : Fin 8) (e : Fin 64) :
    val_main_v98 (F := Ideal) x0 (ix5 n b i h e) = ((blk 4 n.val b.val q i.val (64 * h.val + e.val) : ℝ) : EReal) := by
  refine Eq.trans (b := x0 (ix2 ⟨(b.val * 128 + i.val) * 4 + n.val, by omega⟩ ⟨h.val * 64 + e.val, by omega⟩)) ?_ ((hq _ _).trans ?_)
  · pointwise [val_main_v98, val_main_v97_0, val_main_v96, val_main_v95, val_main_v94, val_main_v0]
    exact dif_pos (by omega)
  · refine coe_of ?_
    simp only [stream, blk]
    congr 1 <;> omega

theorem kb4 (hk : Holds x1 (stream 1 k)) (n : Fin 4) (b : Fin 8) (i : Fin 128) (h : Fin 8) (e : Fin 64) :
    val_main_v103 (F := Ideal) x1 (ix5 n b i h e) = ((blk 4 n.val b.val k i.val (64 * h.val + e.val) : ℝ) : EReal) := by
  refine Eq.trans (b := x1 (ix2 ⟨(b.val * 128 + i.val) * 4 + n.val, by omega⟩ ⟨h.val * 64 + e.val, by omega⟩)) ?_ ((hk _ _).trans ?_)
  · pointwise [val_main_v103, val_main_v102_0, val_main_v101, val_main_v100, val_main_v99, val_main_v1]
    exact dif_pos (by omega)
  · refine coe_of ?_
    simp only [stream, blk]
    congr 1 <;> omega

theorem vb4 (hv : Holds x2 (stream 1 v)) (n : Fin 4) (b : Fin 8) (i : Fin 128) (h : Fin 8) (e : Fin 64) :
    val_main_v114 (F := Ideal) x2 (ix5 n b i h e) = ((blk 4 n.val b.val v i.val (64 * h.val + e.val) : ℝ) : EReal) := by
  refine Eq.trans (b := x2 (ix2 ⟨(b.val * 128 + i.val) * 4 + n.val, by omega⟩ ⟨h.val * 64 + e.val, by omega⟩)) ?_ ((hv _ _).trans ?_)
  · pointwise [val_main_v114, val_main_v113_0, val_main_v112, val_main_v111, val_main_v110, val_main_v2]
    exact dif_pos (by omega)
  · refine coe_of ?_
    simp only [stream, blk]
    congr 1 <;> omega

theorem kc4 (hk : Holds x1 (stream 1 k)) (n : Fin 4) (b : Fin 8) (j : Fin 256) (h : Fin 8) (e : Fin 64) :
    val_main_v109 (F := Ideal) x1 (ix5 n b j h e) = ((kz 4 k n.val b.val j.val (64 * h.val + e.val) : ℝ) : EReal) := by
  refine Eq.trans (b := if hj : j.val < 128 then (if hb : b.val < 1 then (0 : EReal) else val_main_v103 (F := Ideal) x1 (ix5 n ⟨b.val - 1, by omega⟩ ⟨j.val, hj⟩ h e))
    else val_main_v103 (F := Ideal) x1 (ix5 n b ⟨j.val - 128, by omega⟩ h e)) ?_ ?_
  · pointwise [val_main_v109, val_main_v107, val_main_v106, val_main_v105, val_main_cst_18]
  · unfold kz kB cat
    by_cases hj : j.val < 128
    · by_cases hb : b.val < 1
      · rw [dif_pos hj, dif_pos hb, if_pos ⟨by omega, hj⟩]; rfl
      · rw [dif_pos hj, dif_neg hb, if_neg (by omega), if_pos hj, kb4 hk]
    · rw [dif_neg hj, if_neg (by omega), if_neg hj, kb4 hk]

theorem vc4 (hv : Holds x2 (stream 1 v)) (n : Fin 4) (b : Fin 8) (j : Fin 256) (h : Fin 8) (e : Fin 64) :
    val_main_v120 (F := Ideal) x2 (ix5 n b j h e) = ((kz 4 v n.val b.val j.val (64 * h.val + e.val) : ℝ) : EReal) := by
  refine Eq.trans (b := if hj : j.val < 128 then (if hb : b.val < 1 then (0 : EReal) else val_main_v114 (F := Ideal) x2 (ix5 n ⟨b.val - 1, by omega⟩ ⟨j.val, hj⟩ h e))
    else val_main_v114 (F := Ideal) x2 (ix5 n b ⟨j.val - 128, by omega⟩ h e)) ?_ ?_
  · pointwise [val_main_v120, val_main_v118, val_main_v117, val_main_v116, val_main_cst_21]
  · unfold kz kB cat
    by_cases hj : j.val < 128
    · by_cases hb : b.val < 1
      · rw [dif_pos hj, dif_pos hb, if_pos ⟨by omega, hj⟩]; rfl
      · rw [dif_pos hj, dif_neg hb, if_neg (by omega), if_pos hj, vb4 hv]
    · rw [dif_neg hj, if_neg (by omega), if_neg hj, vb4 hv]

theorem mask4 (n : Fin 4) (b : Fin 8) (h : Fin 8) (i : Fin 128) (j : Fin 256) :
    val_main_v153_1 (F := Ideal) (ix5 n b h i j) = if bandP b.val i.val j.val then 1#1 else 0#1 := by
  have e1 : val_main_v137 (F := Ideal) (ix2 i j) = if i.val ≤ j.val ∧ j.val ≤ i.val + 128 then 1#1 else 0#1 := by
    refine Eq.trans ?_ (words i j)
    pointwise [val_main_v137, val_main_v136, val_main_v135, val_main_v134, val_main_v133, val_main_v132, val_main_v131, val_main_v130, val_main_v129, val_main_v128,
      val_main_v127, val_main_v126, val_main_v125, val_main_v124, val_main_c_24, val_main_c_25, val_main_c_26]
  have e2 : val_main_v148 (F := Ideal) (ix3 b 0 j) = if b.val ≠ 0 ∨ 128 ≤ j.val then 1#1 else 0#1 := by
    refine Eq.trans ?_ (words_block b.val (by omega) j)
    pointwise [val_main_v148, val_main_v147, val_main_v146, val_main_v145, val_main_v144, val_main_v143, val_main_v142, val_main_v141, val_main_v139, val_main_v138,
      val_main_v127, val_main_v126, val_main_c_27, val_main_c_28]
  have e3 : val_main_v151 (F := Ideal) (ix3 b i j) = if bandP b.val i.val j.val then 1#1 else 0#1 := by
    refine Eq.trans (b := IntOp.andi (val_main_v137 (F := Ideal) (ix2 i j)) (val_main_v148 (F := Ideal) (ix3 b 0 j))) ?_ ?_
    · pointwise [val_main_v151, val_main_v150, val_main_v149, val_main_v140]
    · rw [e1, e2]; exact words_band b.val i j
  refine Eq.trans (b := val_main_v151 (F := Ideal) (ix3 b i j)) ?_ e3
  pointwise [val_main_v153_1, val_main_v152]

theorem dot4 (hq : Holds x0 (stream 1 q)) (hk : Holds x1 (stream 1 k)) (n : Fin 4) (b : Fin 8) (h : Fin 8) (i : Fin 128) (j : Fin 256) :
    val_main_v123 (F := Ideal) x0 x1 (ix5 n b h i j)
      = (((∑ e : Fin 64, blk 4 n.val b.val q i.val (64 * h.val + e.val) * kz 4 k n.val b.val j.val (64 * h.val + e.val)) * (1 / 8) : ℝ) : EReal) := by
  have h1 : val_main_v121 (F := Ideal) x0 x1 (ix5 n b h i j) = (∑ e : Fin 64, (val_main_v98 (F := Ideal) x0 (ix5 n b i h e) : EReal) * (val_main_v109 (F := Ideal) x1 (ix5 n b j h e) : EReal) : EReal) := by
    rw [val_main_v121_apply]
    refine Finset.sum_congr rfl fun e _ => ?_
    rw [show lidx_main_v121 (ix5 n b h i j) e = ix5 n b i h e from eq_ix5 _, show ridx_main_v121 (ix5 n b h i j) e = ix5 n b j h e from eq_ix5 _]
  have h2 : val_main_v122 (F := Ideal) (ix5 n b h i j) = ((1 / 8 : ℝ) : EReal) := by
    rw [val_main_v122_apply]
    exact ofBits_eighth
  rw [val_main_v123_apply, h2, h1, Ideal.mulf_def]
  rw [sum_eq_coe _ (f := fun e : Fin 64 => blk 4 n.val b.val q i.val (64 * h.val + e.val) * kz 4 k n.val b.val j.val (64 * h.val + e.val)) fun e => by
      rw [qb4 hq, kc4 hk, EReal.coe_mul]]
  rw [← EReal.coe_mul]

/-- The scores, masked. -/
theorem score4 (hq : Holds x0 (stream 1 q)) (hk : Holds x1 (stream 1 k)) (n : Fin 4) (b : Fin 8) (h : Fin 8) (i : Fin 128) (j : Fin 256) :
    val_main_v153_0 (F := Ideal) x0 x1 (ix5 n b h i j) = if bandP b.val i.val j.val then ((sR (qB 4 q n.val b.val) (kB 4 k n.val b.val) h.val i.val j.val : ℝ) : EReal) else ⊥ := by
  have hbot : val_main_call7_v2 (F := Ideal) (ix5 n b h i j) = ⊥ := by
    rw [val_main_call7_v2_apply, val_main_call7_v0_apply]
    exact ofBits_ninf
  rw [val_main_v153_0_apply, mask4, select_if, hbot]
  by_cases hb : bandP b.val i.val j.val
  · rw [if_pos hb, if_pos hb, dot4 hq hk]
    refine coe_of ?_
    rw [← sR_kz hb]
    unfold sR qB eighth
    rw [Finset.sum_mul]
    exact Finset.sum_congr rfl fun e _ => by ring
  · rw [if_neg hb, if_neg hb]

/-- The row: the maximum, the exponentials and their sum. -/
theorem row4 (hq : Holds x0 (stream 1 q)) (hk : Holds x1 (stream 1 k)) (n : Fin 4) (b : Fin 8) (h : Fin 8) (i : Fin 128) :
    ∃ μ : ℝ, val_main_v154 (F := Ideal) x0 x1 (ix4 n b h i) = (μ : EReal)
      ∧ (∀ j : Fin 256, val_main_v163 (F := Ideal) x0 x1 (ix5 n b h i j)
        = ((ew (bandP b.val i.val j.val) (sR (qB 4 q n.val b.val) (kB 4 k n.val b.val) h.val i.val j.val) * Real.exp (-μ) : ℝ) : EReal))
      ∧ val_main_v164 (F := Ideal) x0 x1 (ix4 n b h i) = ((zR b.val (qB 4 q n.val b.val) (kB 4 k n.val b.val) h.val i.val * Real.exp (-μ) : ℝ) : EReal) := by
  obtain ⟨μ, hμ⟩ := max_real (fun j : Fin 256 => bandP b.val i.val j.val) (fun j => sR (qB 4 q n.val b.val) (kB 4 k n.val b.val) h.val i.val j.val)
    (fun j => val_main_v153_0 (F := Ideal) x0 x1 (ix5 n b h i j)) (fun j => score4 hq hk n b h i j) (bandP_self b.val i)
  have h1 : val_main_v154 (F := Ideal) x0 x1 (ix4 n b h i) = (μ : EReal) := by
    refine Eq.trans ?_ hμ
    pointwise [val_main_v154, val_main_cst_30]
    rw [ofBits_ninf]
  have h2 : ∀ j : Fin 256, val_main_v163 (F := Ideal) x0 x1 (ix5 n b h i j)
      = ((ew (bandP b.val i.val j.val) (sR (qB 4 q n.val b.val) (kB 4 k n.val b.val) h.val i.val j.val) * Real.exp (-μ) : ℝ) : EReal) := fun j => by
    refine Eq.trans (b := Ideal.exp (val_main_v153_0 (F := Ideal) x0 x1 (ix5 n b h i j) - val_main_v154 (F := Ideal) x0 x1 (ix4 n b h i))) ?_ ?_
    · pointwise [val_main_v163, val_main_v162, val_main_v161, val_main_v160]
    · rw [score4 hq hk, h1, exp_masked]
  refine ⟨μ, h1, h2, ?_⟩
  refine Eq.trans (b := ∑ j : Fin 256, val_main_v163 (F := Ideal) x0 x1 (ix5 n b h i j)) ?_ ?_
  · pointwise [val_main_v164, val_main_cst_32]
  · rw [sum_eq_coe _ h2, zR, Finset.sum_mul]

theorem prob4 (hq : Holds x0 (stream 1 q)) (hk : Holds x1 (stream 1 k)) (n : Fin 4) (b : Fin 8) (h : Fin 8) (i : Fin 128) (j : Fin 256) :
    val_main_v167 (F := Ideal) x0 x1 (ix5 n b h i j)
      = ((ew (bandP b.val i.val j.val) (sR (qB 4 q n.val b.val) (kB 4 k n.val b.val) h.val i.val j.val) / zR b.val (qB 4 q n.val b.val) (kB 4 k n.val b.val) h.val i.val : ℝ) : EReal) := by
  obtain ⟨μ, -, he, hd⟩ := row4 hq hk n b h i
  have hE := Real.exp_pos (-μ)
  have hZ := zR_pos b.val (qB 4 q n.val b.val) (kB 4 k n.val b.val) h.val i
  refine Eq.trans (b := Ideal.div (val_main_v163 (F := Ideal) x0 x1 (ix5 n b h i j)) (val_main_v164 (F := Ideal) x0 x1 (ix4 n b h i))) ?_ ?_
  · pointwise [val_main_v167, val_main_v166, val_main_v165]
  · rw [he, hd, div_real (mul_pos hZ hE).ne', mul_div_mul_right _ _ hE.ne']

/-- The attention's output. -/
theorem refOut4 (hq : Holds x0 (stream 1 q)) (hk : Holds x1 (stream 1 k)) (hv : Holds x2 (stream 1 v)) (t : Fin 4096) (h : Fin 8) (e : Fin 64) :
    val_main_v179 (F := Ideal) x0 x1 x2 (ix4 0 t h e) = ((nT 4 q k v t.val (64 * h.val + e.val) / zT 4 q k t.val (64 * h.val) : ℝ) : EReal) := by
  refine Eq.trans (b := ∑ j : Fin 256, val_main_v120 (F := Ideal) x2 (ix5 ⟨t.val % 4, by omega⟩ ⟨t.val / 4 / 128, by omega⟩ j h e) * val_main_v167 (F := Ideal) x0 x1 (ix5 ⟨t.val % 4, by omega⟩ ⟨t.val / 4 / 128, by omega⟩ h ⟨t.val / 4 % 128, by omega⟩ j)) ?_ ?_
  · pointwise [val_main_v179, val_main_v178, val_main_v177, val_main_v176, val_main_v172, val_main_v171]
  · rw [sum_eq_coe _ fun j => by rw [vc4 hv, prob4 hq hk, ← EReal.coe_mul]]
    refine coe_of ?_
    unfold nT zT byTime nR
    dsimp only
    rw [Finset.sum_div, show (64 * h.val + e.val) / 64 = h.val by omega, show 64 * h.val / 64 = h.val by omega]
    refine Finset.sum_congr rfl fun j _ => ?_
    rw [mul_comm, div_mul_eq_mul_div, ew_kz]

theorem logIdx4 (hq : Holds x0 (stream 1 q)) (n : Fin 4) (b : Fin 8) (h : Fin 8) (i : Fin 128) :
    val_main_v175 (F := Ideal) x0 x1 (ix4 n b h i) = val_main_v174 (F := Ideal) x0 x1 (ix5 n b h i 0) := by
  have e : idx_main_v175 (ix4 n b h i) = ix5 n b h i (0 : Fin 1) := funext fun a => match a with
    | ⟨0, _⟩ => Fin.ext (by show (((n.val * 8 + b.val) * 8 + h.val) * 128 + i.val) / 8192 = n.val; omega)
    | ⟨1, _⟩ => Fin.ext (by show (((n.val * 8 + b.val) * 8 + h.val) * 128 + i.val) / 1024 % 8 = b.val; omega)
    | ⟨2, _⟩ => Fin.ext (by show (((n.val * 8 + b.val) * 8 + h.val) * 128 + i.val) / 128 % 8 = h.val; omega)
    | ⟨3, _⟩ => Fin.ext (by show (((n.val * 8 + b.val) * 8 + h.val) * 128 + i.val) / 1 % 128 = i.val; omega)
    | ⟨4, _⟩ => rfl
  rw [val_main_v175_apply, e]

theorem logRow4 (hq : Holds x0 (stream 1 q)) (hk : Holds x1 (stream 1 k)) (n : Fin 4) (b : Fin 8) (h : Fin 8) (i : Fin 128) :
    val_main_v174 (F := Ideal) x0 x1 (ix5 n b h i 0) = ((Real.log (zR b.val (qB 4 q n.val b.val) (kB 4 k n.val b.val) h.val i.val) : ℝ) : EReal) := by
  obtain ⟨μ, hm, -, hd⟩ := row4 hq hk n b h i
  have h1 : val_main_v160 (F := Ideal) x0 x1 (ix5 n b h i 0) = val_main_v154 (F := Ideal) x0 x1 (ix4 n b h i) := by
    pointwise [val_main_v160]
  have h2 : val_main_v165 (F := Ideal) x0 x1 (ix5 n b h i 0) = val_main_v164 (F := Ideal) x0 x1 (ix4 n b h i) := by
    pointwise [val_main_v165]
  rw [val_main_v174_apply, val_main_v173_apply, h1, h2, hm, hd, zR, Finset.sum_mul]
  exact lse_real (fun j : Fin 256 => bandP b.val i.val j.val) _ (bandP_self b.val i) μ

theorem logTime4 (t : Fin 4096) (h : Fin 8) :
    val_main_v184 (F := Ideal) x0 x1 (ix3 0 t h) = val_main_v175 (F := Ideal) x0 x1 (ix4 ⟨t.val % 4, by omega⟩ ⟨t.val / 4 / 128, by omega⟩ h ⟨t.val / 4 % 128, by omega⟩) := by
  pointwise [val_main_v184, val_main_v183, val_main_v182, val_main_v181, val_main_v180]

/-- The logarithm of the row's sum. -/
theorem refLog4 (hq : Holds x0 (stream 1 q)) (hk : Holds x1 (stream 1 k)) (t : Fin 4096) (h : Fin 8) :
    val_main_v184 (F := Ideal) x0 x1 (ix3 0 t h) = ((Real.log (zT 4 q k t.val (64 * h.val)) : ℝ) : EReal) := by
  refine (logTime4 t h).trans ((logIdx4 hq _ _ _ _).trans ((logRow4 hq hk _ _ _ _).trans (coe_of ?_)))
  unfold zT byTime
  show _ = Real.log (zR _ _ _ (64 * h.val / 64) _)
  rw [show 64 * h.val / 64 = h.val by omega]

end Cert.K.Attn

end
-- ==== Proof.Attn.Plain16.lean ====
/- The plain attention of dilation 16: its output and its logarithm, by time. -/
module

public import proofs.«01_k».proof.Proof.Attn.Row
public import proofs.«01_k».proof.Proof.Gen.AttnReferenceIdeal.Run
public import proofs.«01_k».proof.Proof.Gen.AttnReferenceIdeal.Read

@[expose] public section

set_option maxRecDepth 16384

noncomputable section

open Idealize.ShloMosaic Idealize.ShloMosaic.TcCoe Idealize.SL.Sem

namespace Cert.K.Attn

open Cert.AttnReferenceIdeal Cert.AttnReferenceIdeal.Read

variable {x0 x1 x2 : FVec Ideal S4096x512 .f32} {q k v : ℕ → ℕ → ℝ}

theorem qb16 (hq : Holds x0 (stream 1 q)) (n : Fin 16) (b : Fin 2) (i : Fin 128) (h : Fin 8) (e : Fin 64) :
    val_main_v189 (F := Ideal) x0 (ix5 n b i h e) = ((blk 16 n.val b.val q i.val (64 * h.val + e.val) : ℝ) : EReal) := by
  refine Eq.trans (b := x0 (ix2 ⟨(b.val * 128 + i.val) * 16 + n.val, by omega⟩ ⟨h.val * 64 + e.val, by omega⟩)) ?_ ((hq _ _).trans ?_)
  · pointwise [val_main_v189, val_main_v188_0, val_main_v187, val_main_v186, val_main_v185, val_main_v0]
    exact dif_pos (by omega)
  · refine coe_of ?_
    simp only [stream, blk]
    congr 1 <;> omega

theorem kb16 (hk : Holds x1 (stream 1 k)) (n : Fin 16) (b : Fin 2) (i : Fin 128) (h : Fin 8) (e : Fin 64) :
    val_main_v194 (F := Ideal) x1 (ix5 n b i h e) = ((blk 16 n.val b.val k i.val (64 * h.val + e.val) : ℝ) : EReal) := by
  refine Eq.trans (b := x1 (ix2 ⟨(b.val * 128 + i.val) * 16 + n.val, by omega⟩ ⟨h.val * 64 + e.val, by omega⟩)) ?_ ((hk _ _).trans ?_)
  · pointwise [val_main_v194, val_main_v193_0, val_main_v192, val_main_v191, val_main_v190, val_main_v1]
    exact dif_pos (by omega)
  · refine coe_of ?_
    simp only [stream, blk]
    congr 1 <;> omega

theorem vb16 (hv : Holds x2 (stream 1 v)) (n : Fin 16) (b : Fin 2) (i : Fin 128) (h : Fin 8) (e : Fin 64) :
    val_main_v205 (F := Ideal) x2 (ix5 n b i h e) = ((blk 16 n.val b.val v i.val (64 * h.val + e.val) : ℝ) : EReal) := by
  refine Eq.trans (b := x2 (ix2 ⟨(b.val * 128 + i.val) * 16 + n.val, by omega⟩ ⟨h.val * 64 + e.val, by omega⟩)) ?_ ((hv _ _).trans ?_)
  · pointwise [val_main_v205, val_main_v204_0, val_main_v203, val_main_v202, val_main_v201, val_main_v2]
    exact dif_pos (by omega)
  · refine coe_of ?_
    simp only [stream, blk]
    congr 1 <;> omega

theorem kc16 (hk : Holds x1 (stream 1 k)) (n : Fin 16) (b : Fin 2) (j : Fin 256) (h : Fin 8) (e : Fin 64) :
    val_main_v200 (F := Ideal) x1 (ix5 n b j h e) = ((kz 16 k n.val b.val j.val (64 * h.val + e.val) : ℝ) : EReal) := by
  refine Eq.trans (b := if hj : j.val < 128 then (if hb : b.val < 1 then (0 : EReal) else val_main_v194 (F := Ideal) x1 (ix5 n ⟨b.val - 1, by omega⟩ ⟨j.val, hj⟩ h e))
    else val_main_v194 (F := Ideal) x1 (ix5 n b ⟨j.val - 128, by omega⟩ h e)) ?_ ?_
  · pointwise [val_main_v200, val_main_v198, val_main_v197, val_main_v196, val_main_cst_36]
  · unfold kz kB cat
    by_cases hj : j.val < 128
    · by_cases hb : b.val < 1
      · rw [dif_pos hj, dif_pos hb, if_pos ⟨by omega, hj⟩]; rfl
      · rw [dif_pos hj, dif_neg hb, if_neg (by omega), if_pos hj, kb16 hk]
    · rw [dif_neg hj, if_neg (by omega), if_neg hj, kb16 hk]

theorem vc16 (hv : Holds x2 (stream 1 v)) (n : Fin 16) (b : Fin 2) (j : Fin 256) (h : Fin 8) (e : Fin 64) :
    val_main_v211 (F := Ideal) x2 (ix5 n b j h e) = ((kz 16 v n.val b.val j.val (64 * h.val + e.val) : ℝ) : EReal) := by
  refine Eq.trans (b := if hj : j.val < 128 then (if hb : b.val < 1 then (0 : EReal) else val_main_v205 (F := Ideal) x2 (ix5 n ⟨b.val - 1, by omega⟩ ⟨j.val, hj⟩ h e))
    else val_main_v205 (F := Ideal) x2 (ix5 n b ⟨j.val - 128, by omega⟩ h e)) ?_ ?_
  · pointwise [val_main_v211, val_main_v209, val_main_v208, val_main_v207, val_main_cst_39]
  · unfold kz kB cat
    by_cases hj : j.val < 128
    · by_cases hb : b.val < 1
      · rw [dif_pos hj, dif_pos hb, if_pos ⟨by omega, hj⟩]; rfl
      · rw [dif_pos hj, dif_neg hb, if_neg (by omega), if_pos hj, vb16 hv]
    · rw [dif_neg hj, if_neg (by omega), if_neg hj, vb16 hv]

theorem mask16 (n : Fin 16) (b : Fin 2) (h : Fin 8) (i : Fin 128) (j : Fin 256) :
    val_main_v244_1 (F := Ideal) (ix5 n b h i j) = if bandP b.val i.val j.val then 1#1 else 0#1 := by
  have e1 : val_main_v228 (F := Ideal) (ix2 i j) = if i.val ≤ j.val ∧ j.val ≤ i.val + 128 then 1#1 else 0#1 := by
    refine Eq.trans ?_ (words i j)
    pointwise [val_main_v228, val_main_v227, val_main_v226, val_main_v225, val_main_v224, val_main_v223, val_main_v222, val_main_v221, val_main_v220, val_main_v219,
      val_main_v218, val_main_v217, val_main_v216, val_main_v215, val_main_c_42, val_main_c_43, val_main_c_44]
  have e2 : val_main_v239 (F := Ideal) (ix3 b 0 j) = if b.val ≠ 0 ∨ 128 ≤ j.val then 1#1 else 0#1 := by
    refine Eq.trans ?_ (words_block b.val (by omega) j)
    pointwise [val_main_v239, val_main_v238, val_main_v237, val_main_v236, val_main_v235, val_main_v234, val_main_v233, val_main_v232, val_main_v230, val_main_v229,
      val_main_v218, val_main_v217, val_main_c_45, val_main_c_46]
  have e3 : val_main_v242 (F := Ideal) (ix3 b i j) = if bandP b.val i.val j.val then 1#1 else 0#1 := by
    refine Eq.trans (b := IntOp.andi (val_main_v228 (F := Ideal) (ix2 i j)) (val_main_v239 (F := Ideal) (ix3 b 0 j))) ?_ ?_
    · pointwise [val_main_v242, val_main_v241, val_main_v240, val_main_v231]
    · rw [e1, e2]; exact words_band b.val i j
  refine Eq.trans (b := val_main_v242 (F := Ideal) (ix3 b i j)) ?_ e3
  pointwise [val_main_v244_1, val_main_v243]

theorem dot16 (hq : Holds x0 (stream 1 q)) (hk : Holds x1 (stream 1 k)) (n : Fin 16) (b : Fin 2) (h : Fin 8) (i : Fin 128) (j : Fin 256) :
    val_main_v214 (F := Ideal) x0 x1 (ix5 n b h i j)
      = (((∑ e : Fin 64, blk 16 n.val b.val q i.val (64 * h.val + e.val) * kz 16 k n.val b.val j.val (64 * h.val + e.val)) * (1 / 8) : ℝ) : EReal) := by
  have h1 : val_main_v212 (F := Ideal) x0 x1 (ix5 n b h i j) = (∑ e : Fin 64, (val_main_v189 (F := Ideal) x0 (ix5 n b i h e) : EReal) * (val_main_v200 (F := Ideal) x1 (ix5 n b j h e) : EReal) : EReal) := by
    rw [val_main_v212_apply]
    refine Finset.sum_congr rfl fun e _ => ?_
    rw [show lidx_main_v212 (ix5 n b h i j) e = ix5 n b i h e from eq_ix5 _, show ridx_main_v212 (ix5 n b h i j) e = ix5 n b j h e from eq_ix5 _]
  have h2 : val_main_v213 (F := Ideal) (ix5 n b h i j) = ((1 / 8 : ℝ) : EReal) := by
    rw [val_main_v213_apply]
    exact ofBits_eighth
  rw [val_main_v214_apply, h2, h1, Ideal.mulf_def]
  rw [sum_eq_coe _ (f := fun e : Fin 64 => blk 16 n.val b.val q i.val (64 * h.val + e.val) * kz 16 k n.val b.val j.val (64 * h.val + e.val)) fun e => by
      rw [qb16 hq, kc16 hk, EReal.coe_mul]]
  rw [← EReal.coe_mul]

/-- The scores, masked. -/
theorem score16 (hq : Holds x0 (stream 1 q)) (hk : Holds x1 (stream 1 k)) (n : Fin 16) (b : Fin 2) (h : Fin 8) (i : Fin 128) (j : Fin 256) :
    val_main_v244_0 (F := Ideal) x0 x1 (ix5 n b h i j) = if bandP b.val i.val j.val then ((sR (qB 16 q n.val b.val) (kB 16 k n.val b.val) h.val i.val j.val : ℝ) : EReal) else ⊥ := by
  have hbot : val_main_call11_v2 (F := Ideal) (ix5 n b h i j) = ⊥ := by
    rw [val_main_call11_v2_apply, val_main_call11_v0_apply]
    exact ofBits_ninf
  rw [val_main_v244_0_apply, mask16, select_if, hbot]
  by_cases hb : bandP b.val i.val j.val
  · rw [if_pos hb, if_pos hb, dot16 hq hk]
    refine coe_of ?_
    rw [← sR_kz hb]
    unfold sR qB eighth
    rw [Finset.sum_mul]
    exact Finset.sum_congr rfl fun e _ => by ring
  · rw [if_neg hb, if_neg hb]

/-- The row: the maximum, the exponentials and their sum. -/
theorem row16 (hq : Holds x0 (stream 1 q)) (hk : Holds x1 (stream 1 k)) (n : Fin 16) (b : Fin 2) (h : Fin 8) (i : Fin 128) :
    ∃ μ : ℝ, val_main_v245 (F := Ideal) x0 x1 (ix4 n b h i) = (μ : EReal)
      ∧ (∀ j : Fin 256, val_main_v254 (F := Ideal) x0 x1 (ix5 n b h i j)
        = ((ew (bandP b.val i.val j.val) (sR (qB 16 q n.val b.val) (kB 16 k n.val b.val) h.val i.val j.val) * Real.exp (-μ) : ℝ) : EReal))
      ∧ val_main_v255 (F := Ideal) x0 x1 (ix4 n b h i) = ((zR b.val (qB 16 q n.val b.val) (kB 16 k n.val b.val) h.val i.val * Real.exp (-μ) : ℝ) : EReal) := by
  obtain ⟨μ, hμ⟩ := max_real (fun j : Fin 256 => bandP b.val i.val j.val) (fun j => sR (qB 16 q n.val b.val) (kB 16 k n.val b.val) h.val i.val j.val)
    (fun j => val_main_v244_0 (F := Ideal) x0 x1 (ix5 n b h i j)) (fun j => score16 hq hk n b h i j) (bandP_self b.val i)
  have h1 : val_main_v245 (F := Ideal) x0 x1 (ix4 n b h i) = (μ : EReal) := by
    refine Eq.trans ?_ hμ
    pointwise [val_main_v245, val_main_cst_48]
    rw [ofBits_ninf]
  have h2 : ∀ j : Fin 256, val_main_v254 (F := Ideal) x0 x1 (ix5 n b h i j)
      = ((ew (bandP b.val i.val j.val) (sR (qB 16 q n.val b.val) (kB 16 k n.val b.val) h.val i.val j.val) * Real.exp (-μ) : ℝ) : EReal) := fun j => by
    refine Eq.trans (b := Ideal.exp (val_main_v244_0 (F := Ideal) x0 x1 (ix5 n b h i j) - val_main_v245 (F := Ideal) x0 x1 (ix4 n b h i))) ?_ ?_
    · pointwise [val_main_v254, val_main_v253, val_main_v252, val_main_v251]
    · rw [score16 hq hk, h1, exp_masked]
  refine ⟨μ, h1, h2, ?_⟩
  refine Eq.trans (b := ∑ j : Fin 256, val_main_v254 (F := Ideal) x0 x1 (ix5 n b h i j)) ?_ ?_
  · pointwise [val_main_v255, val_main_cst_50]
  · rw [sum_eq_coe _ h2, zR, Finset.sum_mul]

theorem prob16 (hq : Holds x0 (stream 1 q)) (hk : Holds x1 (stream 1 k)) (n : Fin 16) (b : Fin 2) (h : Fin 8) (i : Fin 128) (j : Fin 256) :
    val_main_v258 (F := Ideal) x0 x1 (ix5 n b h i j)
      = ((ew (bandP b.val i.val j.val) (sR (qB 16 q n.val b.val) (kB 16 k n.val b.val) h.val i.val j.val) / zR b.val (qB 16 q n.val b.val) (kB 16 k n.val b.val) h.val i.val : ℝ) : EReal) := by
  obtain ⟨μ, -, he, hd⟩ := row16 hq hk n b h i
  have hE := Real.exp_pos (-μ)
  have hZ := zR_pos b.val (qB 16 q n.val b.val) (kB 16 k n.val b.val) h.val i
  refine Eq.trans (b := Ideal.div (val_main_v254 (F := Ideal) x0 x1 (ix5 n b h i j)) (val_main_v255 (F := Ideal) x0 x1 (ix4 n b h i))) ?_ ?_
  · pointwise [val_main_v258, val_main_v257, val_main_v256]
  · rw [he, hd, div_real (mul_pos hZ hE).ne', mul_div_mul_right _ _ hE.ne']

/-- The attention's output. -/
theorem refOut16 (hq : Holds x0 (stream 1 q)) (hk : Holds x1 (stream 1 k)) (hv : Holds x2 (stream 1 v)) (t : Fin 4096) (h : Fin 8) (e : Fin 64) :
    val_main_v270 (F := Ideal) x0 x1 x2 (ix4 0 t h e) = ((nT 16 q k v t.val (64 * h.val + e.val) / zT 16 q k t.val (64 * h.val) : ℝ) : EReal) := by
  refine Eq.trans (b := ∑ j : Fin 256, val_main_v211 (F := Ideal) x2 (ix5 ⟨t.val % 16, by omega⟩ ⟨t.val / 16 / 128, by omega⟩ j h e) * val_main_v258 (F := Ideal) x0 x1 (ix5 ⟨t.val % 16, by omega⟩ ⟨t.val / 16 / 128, by omega⟩ h ⟨t.val / 16 % 128, by omega⟩ j)) ?_ ?_
  · pointwise [val_main_v270, val_main_v269, val_main_v268, val_main_v267, val_main_v263, val_main_v262]
  · rw [sum_eq_coe _ fun j => by rw [vc16 hv, prob16 hq hk, ← EReal.coe_mul]]
    refine coe_of ?_
    unfold nT zT byTime nR
    dsimp only
    rw [Finset.sum_div, show (64 * h.val + e.val) / 64 = h.val by omega, show 64 * h.val / 64 = h.val by omega]
    refine Finset.sum_congr rfl fun j _ => ?_
    rw [mul_comm, div_mul_eq_mul_div, ew_kz]

theorem logIdx16 (hq : Holds x0 (stream 1 q)) (n : Fin 16) (b : Fin 2) (h : Fin 8) (i : Fin 128) :
    val_main_v266 (F := Ideal) x0 x1 (ix4 n b h i) = val_main_v265 (F := Ideal) x0 x1 (ix5 n b h i 0) := by
  have e : idx_main_v266 (ix4 n b h i) = ix5 n b h i (0 : Fin 1) := funext fun a => match a with
    | ⟨0, _⟩ => Fin.ext (by show (((n.val * 2 + b.val) * 8 + h.val) * 128 + i.val) / 2048 = n.val; omega)
    | ⟨1, _⟩ => Fin.ext (by show (((n.val * 2 + b.val) * 8 + h.val) * 128 + i.val) / 1024 % 2 = b.val; omega)
    | ⟨2, _⟩ => Fin.ext (by show (((n.val * 2 + b.val) * 8 + h.val) * 128 + i.val) / 128 % 8 = h.val; omega)
    | ⟨3, _⟩ => Fin.ext (by show (((n.val * 2 + b.val) * 8 + h.val) * 128 + i.val) / 1 % 128 = i.val; omega)
    | ⟨4, _⟩ => rfl
  rw [val_main_v266_apply, e]

theorem logRow16 (hq : Holds x0 (stream 1 q)) (hk : Holds x1 (stream 1 k)) (n : Fin 16) (b : Fin 2) (h : Fin 8) (i : Fin 128) :
    val_main_v265 (F := Ideal) x0 x1 (ix5 n b h i 0) = ((Real.log (zR b.val (qB 16 q n.val b.val) (kB 16 k n.val b.val) h.val i.val) : ℝ) : EReal) := by
  obtain ⟨μ, hm, -, hd⟩ := row16 hq hk n b h i
  have h1 : val_main_v251 (F := Ideal) x0 x1 (ix5 n b h i 0) = val_main_v245 (F := Ideal) x0 x1 (ix4 n b h i) := by
    pointwise [val_main_v251]
  have h2 : val_main_v256 (F := Ideal) x0 x1 (ix5 n b h i 0) = val_main_v255 (F := Ideal) x0 x1 (ix4 n b h i) := by
    pointwise [val_main_v256]
  rw [val_main_v265_apply, val_main_v264_apply, h1, h2, hm, hd, zR, Finset.sum_mul]
  exact lse_real (fun j : Fin 256 => bandP b.val i.val j.val) _ (bandP_self b.val i) μ

theorem logTime16 (t : Fin 4096) (h : Fin 8) :
    val_main_v275 (F := Ideal) x0 x1 (ix3 0 t h) = val_main_v266 (F := Ideal) x0 x1 (ix4 ⟨t.val % 16, by omega⟩ ⟨t.val / 16 / 128, by omega⟩ h ⟨t.val / 16 % 128, by omega⟩) := by
  pointwise [val_main_v275, val_main_v274, val_main_v273, val_main_v272, val_main_v271]

/-- The logarithm of the row's sum. -/
theorem refLog16 (hq : Holds x0 (stream 1 q)) (hk : Holds x1 (stream 1 k)) (t : Fin 4096) (h : Fin 8) :
    val_main_v275 (F := Ideal) x0 x1 (ix3 0 t h) = ((Real.log (zT 16 q k t.val (64 * h.val)) : ℝ) : EReal) := by
  refine (logTime16 t h).trans ((logIdx16 hq _ _ _ _).trans ((logRow16 hq hk _ _ _ _).trans (coe_of ?_)))
  unfold zT byTime
  show _ = Real.log (zR _ _ _ (64 * h.val / 64) _)
  rw [show 64 * h.val / 64 = h.val by omega]

end Cert.K.Attn

end
-- ==== Proof.Attn.Mixture.lean ====
/- The reference mixes the three patterns: their weights, the output, and what flows back to each of them. -/
module

public import proofs.«01_k».proof.Proof.Attn.Drop
public import proofs.«01_k».proof.Proof.Attn.Plain1
public import proofs.«01_k».proof.Proof.Attn.Plain4
public import proofs.«01_k».proof.Proof.Attn.Plain16

@[expose] public section

set_option maxRecDepth 16384

noncomputable section

open Idealize.ShloMosaic Idealize.ShloMosaic.TcCoe Idealize.SL.Sem

namespace Cert.K.Attn

open Cert.AttnReferenceIdeal Cert.AttnReferenceIdeal.Read

variable {x0 x1 x2 x3 : FVec Ideal S4096x512 .f32} {q k v da : ℕ → ℕ → ℝ}

/-- The three dilations. -/
def dil : Fin 3 → ℕ := ![1, 4, 16]

/-- A pattern's weight, its output, its output's product with the cotangent, and the mixture's. -/
def wT (d : ℕ) (q k : ℕ → ℕ → ℝ) (t h : ℕ) : ℝ := zT d q k t (64 * h) / zAll q k t (64 * h)
def oT (d : ℕ) (q k v : ℕ → ℕ → ℝ) (t h e : ℕ) : ℝ := nT d q k v t (64 * h + e) / zT d q k t (64 * h)
def dotT (d : ℕ) (q k v da : ℕ → ℕ → ℝ) (t h : ℕ) : ℝ := ∑ e : Fin 64, da t (64 * h + e.val) * oT d q k v t h e.val
def dotA (q k v da : ℕ → ℕ → ℝ) (t h : ℕ) : ℝ := ∑ e : Fin 64, da t (64 * h + e.val) * attnT q k v t (64 * h + e.val)

theorem zT_lane (d : ℕ) (q k : ℕ → ℕ → ℝ) (t h e : ℕ) (he : e < 64) : zT d q k t (64 * h + e) = zT d q k t (64 * h) := by
  unfold zT byTime
  dsimp only
  rw [show (64 * h + e) / 64 = 64 * h / 64 by omega]

theorem zAll_lane (q k : ℕ → ℕ → ℝ) (t h e : ℕ) (he : e < 64) : zAll q k t (64 * h + e) = zAll q k t (64 * h) := by
  unfold zAll
  rw [zT_lane 1 q k t h e he, zT_lane 4 q k t h e he, zT_lane 16 q k t h e he]

theorem zAll_pos (q k : ℕ → ℕ → ℝ) (t c : ℕ) : 0 < zAll q k t c :=
  add_pos (add_pos (zT_pos 1 q k t c) (zT_pos 4 q k t c)) (zT_pos 16 q k t c)

theorem zAll_sum (q k : ℕ → ℕ → ℝ) (t c : ℕ) : ∑ p : Fin 3, zT (dil p) q k t c = zAll q k t c := by
  rw [Fin.sum_univ_three]; rfl

theorem attn_mix (q k v : ℕ → ℕ → ℝ) (t h e : ℕ) (he : e < 64) :
    ∑ p : Fin 3, wT (dil p) q k t h * oT (dil p) q k v t h e = attnT q k v t (64 * h + e) := by
  rw [Fin.sum_univ_three]
  unfold attnT
  rw [zAll_lane q k t h e he]
  have h1 := (zT_pos 1 q k t (64 * h)).ne'
  have h4 := (zT_pos 4 q k t (64 * h)).ne'
  have h16 := (zT_pos 16 q k t (64 * h)).ne'
  have ha := (zAll_pos q k t (64 * h)).ne'
  show wT 1 q k t h * oT 1 q k v t h e + wT 4 q k t h * oT 4 q k v t h e + wT 16 q k t h * oT 16 q k v t h e = _
  unfold wT oT
  field_simp

theorem dot_mix (q k v da : ℕ → ℕ → ℝ) (t h : ℕ) :
    ∑ p : Fin 3, wT (dil p) q k t h * dotT (dil p) q k v da t h = dotA q k v da t h := by
  unfold dotA dotT
  simp only [Finset.mul_sum]
  rw [Finset.sum_comm]
  refine Finset.sum_congr rfl fun e _ => ?_
  rw [← attn_mix q k v t h e.val e.isLt, Finset.mul_sum]
  exact Finset.sum_congr rfl fun p _ => by ring

/-! ## Forward -/

theorem logs (hq : Holds x0 (stream 1 q)) (hk : Holds x1 (stream 1 k)) (t : Fin 4096) (h : Fin 8) : ∀ p : Fin 3,
    val_main_v279 (F := Ideal) x0 x1 (ix4 p 0 t h) = ((Real.log (zT (dil p) q k t.val (64 * h.val)) : ℝ) : EReal)
  | 0 => Eq.trans (by pointwise [val_main_v279, val_main_v278, val_main_v277, val_main_v276]) (refLog1 hq hk t h)
  | 1 => Eq.trans (by pointwise [val_main_v279, val_main_v278, val_main_v277, val_main_v276]) (refLog4 hq hk t h)
  | 2 => Eq.trans (by pointwise [val_main_v279, val_main_v278, val_main_v277, val_main_v276]) (refLog16 hq hk t h)

theorem outs (hq : Holds x0 (stream 1 q)) (hk : Holds x1 (stream 1 k)) (hv : Holds x2 (stream 1 v)) (t : Fin 4096) (h : Fin 8) (e : Fin 64) : ∀ p : Fin 3,
    val_main_v312 (F := Ideal) x0 x1 x2 (ix5 p 0 t h e) = ((oT (dil p) q k v t.val h.val e.val : ℝ) : EReal)
  | 0 => Eq.trans (by pointwise [val_main_v312, val_main_v311, val_main_v310, val_main_v309]) (refOut1 hq hk hv t h e)
  | 1 => Eq.trans (by pointwise [val_main_v312, val_main_v311, val_main_v310, val_main_v309]) (refOut4 hq hk hv t h e)
  | 2 => Eq.trans (by pointwise [val_main_v312, val_main_v311, val_main_v310, val_main_v309]) (refOut16 hq hk hv t h e)

theorem mixRow (hq : Holds x0 (stream 1 q)) (hk : Holds x1 (stream 1 k)) (t : Fin 4096) (h : Fin 8) :
    ∃ E : ℝ, 0 < E ∧ (∀ p : Fin 3, val_main_v300 (F := Ideal) x0 x1 (ix4 p 0 t h) = ((zT (dil p) q k t.val (64 * h.val) * E : ℝ) : EReal))
      ∧ val_main_v301 (F := Ideal) x0 x1 (ix3 0 t h) = ((zAll q k t.val (64 * h.val) * E : ℝ) : EReal) := by
  obtain ⟨μ, hμ⟩ := max_real (fun _ : Fin 3 => True) (fun p => Real.log (zT (dil p) q k t.val (64 * h.val)))
    (fun p => val_main_v279 (F := Ideal) x0 x1 (ix4 p 0 t h)) (fun p => by rw [if_pos trivial]; exact logs hq hk t h p) ⟨0, trivial⟩
  have h1 : val_main_v280 (F := Ideal) x0 x1 (ix3 0 t h) = (μ : EReal) := by
    refine Eq.trans ?_ hμ
    pointwise [val_main_v280, val_main_cst_52]
    rw [ofBits_ninf]
  have h2 : val_main_v287 (F := Ideal) x0 x1 (ix3 0 t h) = (μ : EReal) := by
    refine Eq.trans (b := max (Ideal.ofBits .f32 0xFF800000#32) (val_main_v280 (F := Ideal) x0 x1 (ix3 0 t h))) ?_ ?_
    · pointwise [val_main_v287, val_main_v286, val_main_cst_54]
    · rw [h1, ofBits_ninf]; exact max_eq_right bot_le
  have h3 : ∀ p : Fin 3, val_main_v300 (F := Ideal) x0 x1 (ix4 p 0 t h) = ((zT (dil p) q k t.val (64 * h.val) * Real.exp (-μ) : ℝ) : EReal) := fun p => by
    refine Eq.trans (b := Ideal.exp (val_main_v279 (F := Ideal) x0 x1 (ix4 p 0 t h) - val_main_v287 (F := Ideal) x0 x1 (ix3 0 t h))) ?_ ?_
    · pointwise [val_main_v300, val_main_v299, val_main_v298, val_main_v297]
    · rw [h2, logs hq hk t h p, ← EReal.coe_sub, Ideal.exp_coe]
      refine coe_of ?_
      rw [sub_eq_add_neg, Real.exp_add, Real.exp_log (zT_pos _ _ _ _ _)]
  refine ⟨Real.exp (-μ), Real.exp_pos _, h3, ?_⟩
  refine Eq.trans (b := ∑ p : Fin 3, val_main_v300 (F := Ideal) x0 x1 (ix4 p 0 t h)) ?_ ?_
  · pointwise [val_main_v301, val_main_cst_60]
  · rw [sum_eq_coe _ h3, ← Finset.sum_mul, zAll_sum]

theorem weights (hq : Holds x0 (stream 1 q)) (hk : Holds x1 (stream 1 k)) (t : Fin 4096) (h : Fin 8) (p : Fin 3) :
    val_main_v304 (F := Ideal) x0 x1 (ix4 p 0 t h) = ((wT (dil p) q k t.val h.val : ℝ) : EReal) := by
  obtain ⟨E, hE, he, hs⟩ := mixRow hq hk t h
  refine Eq.trans (b := Ideal.div (val_main_v300 (F := Ideal) x0 x1 (ix4 p 0 t h)) (val_main_v301 (F := Ideal) x0 x1 (ix3 0 t h))) ?_ ?_
  · pointwise [val_main_v304, val_main_v303, val_main_v302]
  · rw [he, hs, div_real (mul_pos (zAll_pos _ _ _ _) hE).ne', mul_div_mul_right _ _ hE.ne']
    rfl

/-- The first result. -/
theorem refAttn (hq : Holds x0 (stream 1 q)) (hk : Holds x1 (stream 1 k)) (hv : Holds x2 (stream 1 v)) :
    Holds (show FVec Ideal S4096x512 .f32 from val_main_v317 (F := Ideal) x0 x1 x2) (stream 1 (attnT q k v)) := fun r x => by
  refine Eq.trans (b := ∑ p : Fin 3, val_main_v304 (F := Ideal) x0 x1 (ix4 p 0 r ⟨x.val / 64, by omega⟩)
    * val_main_v312 (F := Ideal) x0 x1 x2 (ix5 p 0 r ⟨x.val / 64, by omega⟩ ⟨x.val % 64, by omega⟩)) ?_ ?_
  · refine Eq.trans (b := val_main_v315 (F := Ideal) x0 x1 x2 (ix4 0 r ⟨x.val / 64, by omega⟩ ⟨x.val % 64, by omega⟩)) ?_ ?_
    · pointwise [val_main_v317, val_main_v316]
    · pointwise [val_main_v315, val_main_v314, val_main_v313, val_main_v308, val_main_cst_62]
  · rw [sum_eq_coe _ fun p => by rw [weights hq hk, outs hq hk hv, ← EReal.coe_mul]]
    rw [attn_mix q k v r.val (x.val / 64) (x.val % 64) (by omega)]
    refine coe_of ?_
    unfold stream
    congr 1 <;> omega

/-! ## Backward -/

theorem ofBits_zero : Ideal.ofBits .f32 0x00000000#32 = 0 := by simp [Ideal.ofBits, Ideal.ieee]
theorem zero64 (i : S_.Idx) : val_main_cst_64 (F := Ideal) i = 0 := ofBits_zero
theorem zero66 (i : S_.Idx) : val_main_cst_66 (F := Ideal) i = 0 := ofBits_zero

theorem cot (hd : Holds x3 (stream 1 da)) (p : Fin 3) (t : Fin 4096) (h : Fin 8) (e : Fin 64) :
    val_main_v320 (F := Ideal) x3 (ix5 p 0 t h e) = ((da t.val (64 * h.val + e.val) : ℝ) : EReal) := by
  refine Eq.trans (b := x3 (ix2 t ⟨h.val * 64 + e.val, by omega⟩)) ?_ ((hd _ _).trans ?_)
  · pointwise [val_main_v320, val_main_v319, val_main_v318]
  · refine coe_of ?_
    unfold stream
    congr 1
    · show t.val * 1 + (h.val * 64 + e.val) / 512 = _
      omega
    · show (h.val * 64 + e.val) % 512 = _
      omega

/-- The cotangent of a pattern's output. -/
theorem dout (hq : Holds x0 (stream 1 q)) (hk : Holds x1 (stream 1 k)) (hd : Holds x3 (stream 1 da)) (p : Fin 3) (t : Fin 4096) (h : Fin 8) (e : Fin 64) :
    val_main_v322 (F := Ideal) x0 x1 x3 (ix5 p 0 t h e) = ((wT (dil p) q k t.val h.val * da t.val (64 * h.val + e.val) : ℝ) : EReal) := by
  refine Eq.trans (b := val_main_v304 (F := Ideal) x0 x1 (ix4 p 0 t h) * val_main_v320 (F := Ideal) x3 (ix5 p 0 t h e)) ?_ ?_
  · pointwise [val_main_v322, val_main_v321, val_main_v308]
  · rw [weights hq hk, cot hd, ← EReal.coe_mul]

theorem refDots (hq : Holds x0 (stream 1 q)) (hk : Holds x1 (stream 1 k)) (hv : Holds x2 (stream 1 v)) (hd : Holds x3 (stream 1 da)) (p : Fin 3) (t : Fin 4096) (h : Fin 8) :
    val_main_v333 (F := Ideal) x0 x1 x2 x3 (ix4 p 0 t h) = ((dotT (dil p) q k v da t.val h.val : ℝ) : EReal) := by
  refine Eq.trans (b := val_main_v324 (F := Ideal) x0 x1 x2 x3 (ix4 p 0 t h)) ?_ ?_
  · refine Eq.trans (b := val_main_v332 (F := Ideal) x0 x1 x2 x3 (ix3 p t h)) ?_ ?_
    · pointwise [val_main_v333]
    · refine (only_mid _ _ zero64 p t h).trans ?_
      pointwise [val_main_v325]
  · refine Eq.trans (b := ∑ e : Fin 64, val_main_v320 (F := Ideal) x3 (ix5 p 0 t h e) * val_main_v312 (F := Ideal) x0 x1 x2 (ix5 p 0 t h e)) ?_ ?_
    · pointwise [val_main_v324, val_main_v323, val_main_cst_63]
    · exact sum_eq_coe _ fun e => by rw [cot hd, outs hq hk hv, ← EReal.coe_mul]

/-- The cotangent of a pattern's logarithm. -/
theorem dlog (hq : Holds x0 (stream 1 q)) (hk : Holds x1 (stream 1 k)) (hv : Holds x2 (stream 1 v)) (hd : Holds x3 (stream 1 da)) (p : Fin 3) (t : Fin 4096) (h : Fin 8) :
    val_main_v346 (F := Ideal) x0 x1 x2 x3 (ix4 p 0 t h)
      = ((wT (dil p) q k t.val h.val * (dotT (dil p) q k v da t.val h.val - dotA q k v da t.val h.val) : ℝ) : EReal) := by
  obtain ⟨E, hE, he, hs⟩ := mixRow hq hk t h
  have h1 : val_main_v337 (F := Ideal) x0 x1 x2 x3 (ix3 0 t h) = ∑ p' : Fin 3, val_main_v333 (F := Ideal) x0 x1 x2 x3 (ix4 p' 0 t h)
      * Ideal.div 1 (val_main_v301 (F := Ideal) x0 x1 (ix3 0 t h) * val_main_v301 (F := Ideal) x0 x1 (ix3 0 t h)) * val_main_v300 (F := Ideal) x0 x1 (ix4 p' 0 t h) := by
    pointwise [val_main_v337, val_main_v336, val_main_v335, val_main_v334, val_main_v307, val_main_v306, val_main_v305, val_main_v302, val_main_cst_61, val_main_cst_65]
  have h2 : val_main_v344 (F := Ideal) x0 x1 x2 x3 (ix4 p 0 t h) = -val_main_v337 (F := Ideal) x0 x1 x2 x3 (ix3 0 t h) := by
    refine Eq.trans (b := val_main_v342 (F := Ideal) x0 x1 x2 x3 (ix2 t h)) ?_ ?_
    · pointwise [val_main_v344, val_main_v343]
    · refine (only_first _ _ zero66 t h).trans ?_
      pointwise [val_main_v339, val_main_v338]
  have h3 : val_main_v346 (F := Ideal) x0 x1 x2 x3 (ix4 p 0 t h)
      = (Ideal.div (val_main_v333 (F := Ideal) x0 x1 x2 x3 (ix4 p 0 t h)) (val_main_v301 (F := Ideal) x0 x1 (ix3 0 t h))
        + val_main_v344 (F := Ideal) x0 x1 x2 x3 (ix4 p 0 t h)) * val_main_v300 (F := Ideal) x0 x1 (ix4 p 0 t h) := by
    pointwise [val_main_v346, val_main_v345, val_main_v341, val_main_v340, val_main_v302]
  have hz := row_free (L := 0) (l := 0) (zAll_pos q k t.val (64 * h.val)) hE he hs EReal.coe_zero.symm (fun p => refDots hq hk hv hd p t h) p
  have hne : (zAll q k t.val (64 * h.val) * E : ℝ) ≠ 0 := (mul_pos (zAll_pos _ _ _ _) hE).ne'
  have h0 : Ideal.div (0 : EReal) (val_main_v301 (F := Ideal) x0 x1 (ix3 0 t h)) = 0 := by
    rw [hs, ← EReal.coe_zero, div_real hne, zero_div]
  rw [h0, zero_add] at hz
  rw [h3, h2, h1]
  refine hz.trans (coe_of ?_)
  rw [add_zero]
  have := dot_mix q k v da t.val h.val
  unfold wT at this ⊢
  rw [this]

end Cert.K.Attn

end
-- ==== Proof.Attn.Grad.lean ====
/- The gradient of a score, in the mixture's terms. -/
module

public import proofs.«01_k».proof.Proof.Attn.Mixture
public import proofs.«01_k».proof.Proof.Attn.Gradients

@[expose] public section

set_option maxRecDepth 16384

noncomputable section

open Idealize.ShloMosaic Idealize.ShloMosaic.TcCoe Idealize.SL.Sem

namespace Cert.K.Attn

/-- A maximum is attained. -/
theorem fold_attained {κ : Type} [Fintype κ] [Nonempty κ] (t : κ → EReal) : ∃ j, t j = Finset.fold max (⊥ : EReal) t Finset.univ := by
  obtain ⟨j, -, hj⟩ := Finset.exists_mem_eq_sup Finset.univ Finset.univ_nonempty t
  exact ⟨j, hj.symm⟩

/-- How often it is attained is not zero. -/
theorem count_ne_zero {κ : Type} [Fintype κ] [Nonempty κ] (t : κ → EReal) :
    ∑ j, (if t j = Finset.fold max (⊥ : EReal) t Finset.univ then (1 : EReal) else 0) ≠ 0 := by
  classical
  obtain ⟨j, hj⟩ := fold_attained t
  rw [sum_eq_coe Finset.univ (f := fun j => if t j = Finset.fold max (⊥ : EReal) t Finset.univ then (1 : ℝ) else 0) (fun i => by
    by_cases h : t i = Finset.fold max (⊥ : EReal) t Finset.univ
    · rw [if_pos h, if_pos h]; rfl
    · rw [if_neg h, if_neg h]; rfl)]
  have : (0 : ℝ) < ∑ i, (if t i = Finset.fold max (⊥ : EReal) t Finset.univ then (1 : ℝ) else 0) := by
    refine Finset.sum_pos' (fun i _ => by split <;> norm_num) ⟨j, Finset.mem_univ j, ?_⟩
    rw [if_pos hj]; norm_num
  exact fun h => this.ne' (EReal.coe_eq_zero.mp h)

theorem ofBits_unit : Ideal.ofBits .f32 0x3F800000#32 = 1 := by
  simp [Ideal.ofBits, Ideal.ieee, -EReal.coe_mul]; norm_num

/-- An equality as a word, converted. -/
theorem eq_word (a b : EReal) : FloatOps.uitofp (F := Ideal) (w := 1) .f32 (FloatOps.cmpf (F := Ideal) (φ := .f32) .oeq a b) = if a = b then (1 : EReal) else 0 := by
  show (((BitVec.ofBool (decide (a = b))).toNat : ℝ) : EReal) = _
  by_cases h : a = b
  · rw [if_pos h, decide_eq_true h]
    show (((1 : ℕ) : ℝ) : EReal) = 1
    norm_num
  · rw [if_neg h, decide_eq_false h]
    show (((0 : ℕ) : ℝ) : EReal) = 0
    norm_num

theorem dite_same {α : Sort*} {P Q : Prop} [Decidable P] [Decidable Q] {a : P → α} {b : Q → α} {c : α} (h : P ↔ Q) (hab : ∀ p q, a p = b q) :
    (if p : P then a p else c) = if p : Q then b p else c := by
  by_cases hq : Q
  · rw [dif_pos hq, dif_pos (h.mpr hq), hab]
  · rw [dif_neg hq, dif_neg (fun hp => hq (h.mp hp))]

theorem div_zero_left {y : EReal} (h : y ≠ 0) : Ideal.div 0 y = 0 := by
  unfold Ideal.div
  rw [if_neg h, zero_mul]

/-- What flows back to a probability, to the logarithm of a row's sum, and the factor of a score's gradient. -/
def gB (d : ℕ) (q k v da : ℕ → ℕ → ℝ) (n b h i j : ℕ) : ℝ :=
  ∑ e : Fin 64, wT d q k ((128 * b + i) * d + n) h * da ((128 * b + i) * d + n) (64 * h + e.val) * kz d v n b j (64 * h + e.val)
def logB (d : ℕ) (q k v da : ℕ → ℕ → ℝ) (n b h i : ℕ) : ℝ :=
  wT d q k ((128 * b + i) * d + n) h * (dotT d q k v da ((128 * b + i) * d + n) h - dotA q k v da ((128 * b + i) * d + n) h)
def ewB (d : ℕ) (q k : ℕ → ℕ → ℝ) (n b h i j : ℕ) : ℝ := ew (bandP b i j) (sR (qB d q n b) (kB d k n b) h i j)
def zB (d : ℕ) (q k : ℕ → ℕ → ℝ) (n b h i : ℕ) : ℝ := zR b (qB d q n b) (kB d k n b) h i
def facE (G e : Fin 256 → EReal) (den L : EReal) (j : Fin 256) : EReal :=
  Ideal.div (G j) den + (Ideal.div L den + (-∑ j', G j' * Ideal.div 1 (den * den) * e j'))

variable (d n b i : ℕ) (hn : n < d) (hi : i < 128) (q k v da : ℕ → ℕ → ℝ) (h : ℕ)
include hn hi

theorem zT_at : zT d q k ((128 * b + i) * d + n) (64 * h) = zR b (qB d q n b) (kB d k n b) h i := by
  refine (byTime_blk d (fun n b i c => zR b (qB d q n b) (kB d k n b) (c / 64) i) n b hn i (64 * h) hi).trans ?_
  show zR _ _ _ (64 * h / 64) _ = _
  rw [show 64 * h / 64 = h by omega]

theorem nT_at (e : ℕ) (he : e < 64) : nT d q k v ((128 * b + i) * d + n) (64 * h + e) = nR b (qB d q n b) (kB d k n b) (kB d v n b) h i (64 * h + e) := by
  refine (byTime_blk d (fun n b i c => nR b (qB d q n b) (kB d k n b) (kB d v n b) (c / 64) i c) n b hn i (64 * h + e) hi).trans ?_
  show nR _ _ _ _ ((64 * h + e) / 64) _ _ = _
  rw [show (64 * h + e) / 64 = h by omega]

/-- The probability of the whole mixture. -/
theorem prob_at (j : ℕ) : pB d q k (lseT q k) n b h i j
    = ew (bandP b i j) (sR (qB d q n b) (kB d k n b) h i j) / zAll q k ((128 * b + i) * d + n) (64 * h) := by
  unfold pB pR ew firstLane blk lseT
  split
  · rw [Real.exp_sub, Real.exp_log (zAll_pos _ _ _ _)]
  · rw [zero_div]

/-- What flows back to a probability, averaged over the row. -/
theorem row_dot : ∑ j : Fin 256, ew (bandP b i j.val) (sR (qB d q n b) (kB d k n b) h i j.val) / zR b (qB d q n b) (kB d k n b) h i
      * (∑ e : Fin 64, wT d q k ((128 * b + i) * d + n) h * da ((128 * b + i) * d + n) (64 * h + e.val) * kz d v n b j.val (64 * h + e.val))
    = wT d q k ((128 * b + i) * d + n) h * dotT d q k v da ((128 * b + i) * d + n) h := by
  unfold dotT oT
  simp only [Finset.mul_sum]
  rw [Finset.sum_comm]
  refine Finset.sum_congr rfl fun e _ => ?_
  rw [zT_at d n b i hn hi q k h, nT_at d n b i hn hi q k v h e.val e.isLt]
  unfold nR
  rw [Finset.sum_div, Finset.mul_sum, Finset.mul_sum]
  refine Finset.sum_congr rfl fun j _ => ?_
  rw [← ew_kz]
  ring

/-- The gradient of a score. -/
theorem score_grad (j : ℕ) : ew (bandP b i j) (sR (qB d q n b) (kB d k n b) h i j) / zR b (qB d q n b) (kB d k n b) h i
      * ((∑ e : Fin 64, wT d q k ((128 * b + i) * d + n) h * da ((128 * b + i) * d + n) (64 * h + e.val) * kz d v n b j (64 * h + e.val))
        + wT d q k ((128 * b + i) * d + n) h * (dotT d q k v da ((128 * b + i) * d + n) h - dotA q k v da ((128 * b + i) * d + n) h)
        - ∑ j' : Fin 256, ew (bandP b i j'.val) (sR (qB d q n b) (kB d k n b) h i j'.val) / zR b (qB d q n b) (kB d k n b) h i
          * (∑ e : Fin 64, wT d q k ((128 * b + i) * d + n) h * da ((128 * b + i) * d + n) (64 * h + e.val) * kz d v n b j'.val (64 * h + e.val)))
    = dB d q k v da (attnT q k v) (lseT q k) n b h i j := by
  rw [row_dot d n b i hn hi q k v da h]
  have hp := prob_at d n b i hn hi q k h j
  unfold pB at hp
  unfold dB dR
  rw [hp]
  by_cases hb : bandP b i j
  · have hz := (zR_pos b (qB d q n b) (kB d k n b) h ⟨i, hi⟩).ne'
    have ha := (zAll_pos q k ((128 * b + i) * d + n) (64 * h)).ne'
    have e1 : ∑ e : Fin 64, wT d q k ((128 * b + i) * d + n) h * da ((128 * b + i) * d + n) (64 * h + e.val) * kz d v n b j (64 * h + e.val)
        = wT d q k ((128 * b + i) * d + n) h * sR (blk d n b da) (kB d v n b) h i j := by
      unfold sR
      rw [Finset.mul_sum]
      refine Finset.sum_congr rfl fun e _ => ?_
      rw [kz_band hb]
      unfold blk
      ring
    have e2 : ∑ e : Fin 64, prodA (blk d n b da) (blk d n b (attnT q k v)) i (64 * h + e.val) = dotA q k v da ((128 * b + i) * d + n) h := rfl
    rw [e1, e2]
    have e3 : wT d q k ((128 * b + i) * d + n) h = zR b (qB d q n b) (kB d k n b) h i / zAll q k ((128 * b + i) * d + n) (64 * h) := by
      unfold wT
      rw [zT_at d n b i hn hi q k h]
    rw [e3]
    field_simp
    ring
  · unfold ew
    rw [if_neg hb, zero_div, zero_mul, zero_div, zero_mul]

theorem score_grad' (j : ℕ) : ewB d q k n b h i j / zB d q k n b h i * (gB d q k v da n b h i j + logB d q k v da n b h i
      - ∑ j' : Fin 256, ewB d q k n b h i j'.val / zB d q k n b h i * gB d q k v da n b h i j'.val)
    = dB d q k v da (attnT q k v) (lseT q k) n b h i j := score_grad d n b i hn hi q k v da h j

/-- The gradient of a value's row, one score. -/
theorem prob_grad (j e : ℕ) : wT d q k ((128 * b + i) * d + n) h * da ((128 * b + i) * d + n) e * (ewB d q k n b h i j / zB d q k n b h i)
    = pB d q k (lseT q k) n b h i j * blk d n b da i e := by
  rw [prob_at d n b i hn hi q k h j]
  have hz : zB d q k n b h i ≠ 0 := (zR_pos b (qB d q n b) (kB d k n b) h ⟨i, hi⟩).ne'
  have ha := (zAll_pos q k ((128 * b + i) * d + n) (64 * h)).ne'
  have e3 : wT d q k ((128 * b + i) * d + n) h = zB d q k n b h i / zAll q k ((128 * b + i) * d + n) (64 * h) := by
    unfold wT
    rw [zT_at d n b i hn hi q k h]
    rfl
  rw [e3]
  unfold ewB blk
  field_simp

omit hn hi in
/-- Off the band a score has no gradient, so the words put before the stream do not matter. -/
theorem grad_kz (at' ls : ℕ → ℕ → ℝ) (j e : ℕ) : dB d q k v da at' ls n b h i j * kz d k n b j e = dB d q k v da at' ls n b h i j * kB d k n b j e := by
  by_cases hb : bandP b i j
  · rw [kz_band hb]
  · unfold dB dR pR
    rw [if_neg hb, zero_mul, zero_mul, zero_mul]

end Cert.K.Attn

end
-- ==== Proof.Attn.Grad1.lean ====
/- The gradients of the plain attention of dilation 1, by time. -/
module

public import proofs.«01_k».proof.Proof.Attn.Grad

@[expose] public section

set_option maxRecDepth 16384

noncomputable section

open Idealize.ShloMosaic Idealize.ShloMosaic.TcCoe Idealize.SL.Sem

namespace Cert.K.Attn

open Cert.AttnReferenceIdeal Cert.AttnReferenceIdeal.Gen Cert.AttnReferenceIdeal.Read

variable {x0 x1 x2 x3 : FVec Ideal S4096x512 .f32} {q k v da : ℕ → ℕ → ℝ}

theorem dlb1 (hq : Holds x0 (stream 1 q)) (hk : Holds x1 (stream 1 k)) (hv : Holds x2 (stream 1 v)) (hd : Holds x3 (stream 1 da)) (n : Fin 1) (b : Fin 32) (h : Fin 8) (i : Fin 128) :
    val_main_v502 (F := Ideal) x0 x1 x2 x3 (ix4 n b h i) = ((logB 1 q k v da n.val b.val h.val i.val : ℝ) : EReal) := by
  obtain rfl : n = 0 := Subsingleton.elim _ _
  refine Eq.trans (b := val_main_v346 (F := Ideal) x0 x1 x2 x3 (ix4 0 0 ⟨(b.val * 128 + i.val) * 1 + (0 : Fin 1).val, by omega⟩ h)) ?_ ((dlog hq hk hv hd 0 _ _).trans (coe_of ?_))
  · pointwise [val_main_v502, val_main_v501, val_main_v500, val_main_v499, val_main_v498, val_main_v348, val_main_v347]
  · unfold logB
    rw [Nat.mul_comm 128]
    rfl

theorem dob1 (hq : Holds x0 (stream 1 q)) (hk : Holds x1 (stream 1 k)) (hd : Holds x3 (stream 1 da)) (n : Fin 1) (b : Fin 32) (i : Fin 128) (h : Fin 8) (e : Fin 64) :
    val_main_v506 (F := Ideal) x0 x1 x3 (ix5 n b i h e)
      = ((wT 1 q k ((128 * b.val + i.val) * 1 + n.val) h.val * da ((128 * b.val + i.val) * 1 + n.val) (64 * h.val + e.val) : ℝ) : EReal) := by
  obtain rfl : n = 0 := Subsingleton.elim _ _
  refine Eq.trans (b := val_main_v322 (F := Ideal) x0 x1 x3 (ix5 0 0 ⟨(b.val * 128 + i.val) * 1 + (0 : Fin 1).val, by omega⟩ h e)) ?_ ((dout hq hk hd 0 _ _ _).trans (coe_of ?_))
  · pointwise [val_main_v506, val_main_v505, val_main_v504, val_main_v503, val_main_v327, val_main_v326]
  · rw [Nat.mul_comm 128]
    rfl

theorem dot_out1 (hq : Holds x0 (stream 1 q)) (hk : Holds x1 (stream 1 k)) (hd : Holds x3 (stream 1 da)) (n : Fin 1) (b : Fin 32) (h : Fin 8) (e : Fin 64) (i : Fin 128) :
    val_main_v509 (F := Ideal) x0 x1 x3 (ix5 n b h e i)
      = ((wT 1 q k ((128 * b.val + i.val) * 1 + n.val) h.val * da ((128 * b.val + i.val) * 1 + n.val) (64 * h.val + e.val) : ℝ) : EReal) := by
  obtain rfl : n = 0 := Subsingleton.elim _ _
  refine Eq.trans ?_ (dob1 hq hk hd (0 : Fin 1) b i h e)
  rw [val_main_v509_apply]
  exact congrArg _ (eq_ix5 _)

/-- What flows back to a probability. -/
theorem dpr1 (hq : Holds x0 (stream 1 q)) (hk : Holds x1 (stream 1 k)) (hv : Holds x2 (stream 1 v)) (hd : Holds x3 (stream 1 da)) (n : Fin 1) (b : Fin 32) (h : Fin 8) (i : Fin 128) (j : Fin 256) :
    val_main_v510 (F := Ideal) x0 x1 x2 x3 (ix5 n b h i j) = ((gB 1 q k v da n.val b.val h.val i.val j.val : ℝ) : EReal) := by
  obtain rfl : n = 0 := Subsingleton.elim _ _
  rw [val_main_v510_apply]
  refine sum_eq_coe _ fun e => ?_
  rw [show lidx_main_v510 (ix5 (0 : Fin 1) b h i j) e = ix5 (0 : Fin 1) b h e i from eq_ix5 _, show ridx_main_v510 (ix5 (0 : Fin 1) b h i j) e = ix5 (0 : Fin 1) b j h e from eq_ix5 _,
    dot_out1 hq hk hd, vc1 hv, ← EReal.coe_mul]

theorem den1 (n : Fin 1) (b : Fin 32) (h : Fin 8) (i : Fin 128) :
    val_main_v74 (F := Ideal) x0 x1 (ix5 n b h i 0) = val_main_v73 (F := Ideal) x0 x1 (ix4 n b h i) := by
  obtain rfl : n = 0 := Subsingleton.elim _ _
  pointwise [val_main_v74]

theorem bdl1 (n : Fin 1) (b : Fin 32) (h : Fin 8) (i : Fin 128) :
    val_main_v507 (F := Ideal) x0 x1 x2 x3 (ix5 n b h i 0) = val_main_v502 (F := Ideal) x0 x1 x2 x3 (ix4 n b h i) := by
  obtain rfl : n = 0 := Subsingleton.elim _ _
  pointwise [val_main_v507]

theorem inv1 (n : Fin 1) (b : Fin 32) (h : Fin 8) (i : Fin 128) (j : Fin 256) :
    val_main_v513 (F := Ideal) x0 x1 (ix5 n b h i j)
      = Ideal.div 1 ((val_main_v73 (F := Ideal) x0 x1 (ix4 n b h i) : EReal) * (val_main_v73 (F := Ideal) x0 x1 (ix4 n b h i) : EReal) : EReal) := by
  obtain rfl : n = 0 := Subsingleton.elim _ _
  have h1 : val_main_v513 (F := Ideal) x0 x1 (ix5 (0 : Fin 1) b h i j) = val_main_v79 (F := Ideal) x0 x1 (ix5 (0 : Fin 1) b h i 0) := by pointwise [val_main_v513]
  have h2 : val_main_v78 (F := Ideal) (ix5 (0 : Fin 1) b h i 0) = (1 : EReal) := by
    rw [val_main_v78_apply]
    exact ofBits_unit
  rw [h1, val_main_v79_apply, val_main_v77_apply, h2, den1]
  rfl

theorem sub1 (n : Fin 1) (b : Fin 32) (h : Fin 8) (i : Fin 128) :
    val_main_v518 (F := Ideal) x0 x1 x2 x3 (ix5 n b h i 0) = (-∑ j' : Fin 256, (val_main_v510 (F := Ideal) x0 x1 x2 x3 (ix5 n b h i j') : EReal)
      * Ideal.div 1 ((val_main_v73 (F := Ideal) x0 x1 (ix4 n b h i) : EReal) * (val_main_v73 (F := Ideal) x0 x1 (ix4 n b h i) : EReal) : EReal)
      * (val_main_v72 (F := Ideal) x0 x1 (ix5 n b h i j') : EReal) : EReal) := by
  obtain rfl : n = 0 := Subsingleton.elim _ _
  have h1 : val_main_v517 (F := Ideal) x0 x1 x2 x3 (ix5 (0 : Fin 1) b h i 0) = val_main_v516 (F := Ideal) x0 x1 x2 x3 (ix4 (0 : Fin 1) b h i) := by pointwise [val_main_v517]
  have h2 : val_main_cst_81 (F := Ideal) (Shape.Idx.first h_S_) = (0 : EReal) := ofBits_zero
  rw [val_main_v518_apply, h1, val_main_v516_apply, h2, Ideal.hostNegf_def, Ideal.negf_def]
  refine congrArg Neg.neg ((zero_add _).trans (Finset.sum_congr rfl fun j' _ => ?_))
  rw [show idx_main_v516 (ix4 (0 : Fin 1) b h i) j' = ix5 (0 : Fin 1) b h i j' from eq_ix5 _, val_main_v515_apply, val_main_v514_apply, inv1]
  rfl

theorem one1 (n : Fin 1) (b : Fin 32) (h : Fin 8) (i : Fin 128) :
    val_main_v523 (F := Ideal) x0 x1 x2 x3 (ix4 n b h i) = val_main_v519 (F := Ideal) x0 x1 x2 x3 (ix5 n b h i 0) := by
  obtain rfl : n = 0 := Subsingleton.elim _ _
  have h1 : val_main_v523 (F := Ideal) x0 x1 x2 x3 (ix4 (0 : Fin 1) b h i) = val_main_v522 (F := Ideal) x0 x1 x2 x3 (ix3 b h i) := by pointwise [val_main_v523]
  exact h1.trans (only_ends _ _ (fun _ => ofBits_zero) b h i)

theorem one1' (n : Fin 1) (b : Fin 32) (h : Fin 8) (i : Fin 128) :
    val_main_v532 (F := Ideal) x0 x1 x2 x3 (ix4 n b h i) = val_main_v530 (F := Ideal) x0 x1 x2 x3 (ix5 n b h i 0) := by
  obtain rfl : n = 0 := Subsingleton.elim _ _
  have h1 : val_main_v532 (F := Ideal) x0 x1 x2 x3 (ix4 (0 : Fin 1) b h i) = val_main_v531 (F := Ideal) x0 x1 x2 x3 (ix3 b h i) := by pointwise [val_main_v532]
  exact h1.trans (only_ends _ _ (fun _ => ofBits_zero) b h i)

theorem fac1 (n : Fin 1) (b : Fin 32) (h : Fin 8) (i : Fin 128) (j : Fin 256) :
    val_main_v525 (F := Ideal) x0 x1 x2 x3 (ix5 n b h i j) = facE (fun j => val_main_v510 (F := Ideal) x0 x1 x2 x3 (ix5 n b h i j)) (fun j => val_main_v72 (F := Ideal) x0 x1 (ix5 n b h i j))
      (val_main_v73 (F := Ideal) x0 x1 (ix4 n b h i)) (val_main_v502 (F := Ideal) x0 x1 x2 x3 (ix4 n b h i)) j := by
  obtain rfl : n = 0 := Subsingleton.elim _ _
  have h1 : val_main_v520 (F := Ideal) x0 x1 (ix5 (0 : Fin 1) b h i j) = val_main_v74 (F := Ideal) x0 x1 (ix5 (0 : Fin 1) b h i 0) := by pointwise [val_main_v520]
  have h2 : val_main_v524 (F := Ideal) x0 x1 x2 x3 (ix5 (0 : Fin 1) b h i j) = val_main_v523 (F := Ideal) x0 x1 x2 x3 (ix4 (0 : Fin 1) b h i) := by pointwise [val_main_v524]
  rw [val_main_v525_apply, val_main_v521_apply, h1, h2, one1, val_main_v519_apply, val_main_v508_apply, bdl1, den1, sub1]
  rfl

/-- The gradient of a score, the maximum held fixed. -/
theorem free1 (hq : Holds x0 (stream 1 q)) (hk : Holds x1 (stream 1 k)) (hv : Holds x2 (stream 1 v)) (hd : Holds x3 (stream 1 da)) (n : Fin 1) (b : Fin 32) (h : Fin 8) (i : Fin 128) (j : Fin 256) :
    val_main_v526 (F := Ideal) x0 x1 x2 x3 (ix5 n b h i j)
      = ((ewB 1 q k n.val b.val h.val i.val j.val / zB 1 q k n.val b.val h.val i.val * (gB 1 q k v da n.val b.val h.val i.val j.val + logB 1 q k v da n.val b.val h.val i.val
        - ∑ j' : Fin 256, ewB 1 q k n.val b.val h.val i.val j'.val / zB 1 q k n.val b.val h.val i.val * gB 1 q k v da n.val b.val h.val i.val j'.val) : ℝ) : EReal) := by
  obtain rfl : n = 0 := Subsingleton.elim _ _
  obtain ⟨μ, -, he, hz⟩ := row1 hq hk (0 : Fin 1) b h i
  rw [val_main_v526_apply, fac1, Ideal.mulf_def]
  exact row_free (w := fun j : Fin 256 => ewB 1 q k (0 : Fin 1).val b.val h.val i.val j.val) (g := fun j : Fin 256 => gB 1 q k v da (0 : Fin 1).val b.val h.val i.val j.val)
    (zR_pos b.val (qB 1 q (0 : Fin 1).val b.val) (kB 1 k (0 : Fin 1).val b.val) h.val i) (Real.exp_pos (-μ)) he hz (dlb1 hq hk hv hd (0 : Fin 1) b h i) (fun j => dpr1 hq hk hv hd (0 : Fin 1) b h i j) j

/-- The maximum takes no gradient. -/
theorem top1 (hq : Holds x0 (stream 1 q)) (hk : Holds x1 (stream 1 k)) (hv : Holds x2 (stream 1 v)) (hd : Holds x3 (stream 1 da)) (n : Fin 1) (b : Fin 32) (h : Fin 8) (i : Fin 128) :
    val_main_v532 (F := Ideal) x0 x1 x2 x3 (ix4 n b h i) = (0 : EReal) := by
  obtain rfl : n = 0 := Subsingleton.elim _ _
  obtain ⟨μ, -, he, hz⟩ := row1 hq hk (0 : Fin 1) b h i
  have h1 : val_main_v529 (F := Ideal) x0 x1 x2 x3 (ix5 (0 : Fin 1) b h i 0) = val_main_v528 (F := Ideal) x0 x1 x2 x3 (ix4 (0 : Fin 1) b h i) := by pointwise [val_main_v529]
  have h2 : val_main_cst_83 (F := Ideal) (Shape.Idx.first h_S_) = (0 : EReal) := ofBits_zero
  have h3 : val_main_v528 (F := Ideal) x0 x1 x2 x3 (ix4 (0 : Fin 1) b h i) = ∑ j : Fin 256, (-(val_main_v526 (F := Ideal) x0 x1 x2 x3 (ix5 (0 : Fin 1) b h i j) : EReal) : EReal) := by
    rw [val_main_v528_apply, h2]
    refine (zero_add _).trans (Finset.sum_congr rfl fun j _ => ?_)
    rw [show idx_main_v528 (ix4 (0 : Fin 1) b h i) j = ix5 (0 : Fin 1) b h i j from eq_ix5 _, val_main_v527_apply]
    rfl
  rw [one1', val_main_v530_apply, bdl1, h1, h3]
  exact row_max (w := fun j : Fin 256 => ewB 1 q k (0 : Fin 1).val b.val h.val i.val j.val) (g := fun j : Fin 256 => gB 1 q k v da (0 : Fin 1).val b.val h.val i.val j.val)
    (zR_pos b.val (qB 1 q (0 : Fin 1).val b.val) (kB 1 k (0 : Fin 1).val b.val) h.val i) (Real.exp_pos (-μ)) rfl he hz (dlb1 hq hk hv hd (0 : Fin 1) b h i) (fun j => dpr1 hq hk hv hd (0 : Fin 1) b h i j)
    (fun j => free1 hq hk hv hd (0 : Fin 1) b h i j)

theorem cnt1 (n : Fin 1) (b : Fin 32) (h : Fin 8) (i : Fin 128) : val_main_v68 (F := Ideal) x0 x1 (ix4 n b h i) ≠ (0 : EReal) := by
  obtain rfl : n = 0 := Subsingleton.elim _ _
  have h2 : val_main_cst_13 (F := Ideal) (Shape.Idx.first h_S_) = (0 : EReal) := ofBits_zero
  have h3 : val_main_v63 (F := Ideal) x0 x1 (ix4 (0 : Fin 1) b h i) = Finset.fold max (⊥ : EReal) (fun j : Fin 256 => val_main_v62_0 (F := Ideal) x0 x1 (ix5 (0 : Fin 1) b h i j)) Finset.univ := by
    pointwise [val_main_v63, val_main_cst_12]
    rw [ofBits_ninf]
  rw [val_main_v68_apply, h2]
  refine fun h0 => count_ne_zero (fun j : Fin 256 => val_main_v62_0 (F := Ideal) x0 x1 (ix5 (0 : Fin 1) b h i j)) (Eq.trans ?_ ((zero_add _).symm.trans h0))
  refine Finset.sum_congr rfl fun j _ => ?_
  have h4 : val_main_v65 (F := Ideal) x0 x1 (ix5 (0 : Fin 1) b h i j) = val_main_v63 (F := Ideal) x0 x1 (ix4 (0 : Fin 1) b h i) := by
    pointwise [val_main_v65, val_main_v64]
  rw [show idx_main_v68 (ix4 (0 : Fin 1) b h i) j = ix5 (0 : Fin 1) b h i j from eq_ix5 _, val_main_v67_apply, val_main_v66_apply, h4, h3]
  exact (eq_word _ _).symm

/-- The gradient of a score. -/
theorem dsc1 (hq : Holds x0 (stream 1 q)) (hk : Holds x1 (stream 1 k)) (hv : Holds x2 (stream 1 v)) (hd : Holds x3 (stream 1 da)) (n : Fin 1) (b : Fin 32) (h : Fin 8) (i : Fin 128) (j : Fin 256) :
    val_main_v539 (F := Ideal) x0 x1 x2 x3 (ix5 n b h i j) = ((dB 1 q k v da (attnT q k v) (lseT q k) n.val b.val h.val i.val j.val * (1 / 8) : ℝ) : EReal) := by
  obtain rfl : n = 0 := Subsingleton.elim _ _
  have h1 : val_main_v538 (F := Ideal) (ix5 (0 : Fin 1) b h i j) = ((1 / 8 : ℝ) : EReal) := by
    rw [val_main_v538_apply]
    exact ofBits_eighth
  have h2 : val_main_v534 (F := Ideal) x0 x1 x2 x3 (ix5 (0 : Fin 1) b h i j) = val_main_v533 (F := Ideal) x0 x1 x2 x3 (ix4 (0 : Fin 1) b h i) := by pointwise [val_main_v534]
  have h3 : val_main_v535 (F := Ideal) x0 x1 x2 x3 (ix5 (0 : Fin 1) b h i j) = (0 : EReal) := by
    rw [val_main_v535_apply, h2, val_main_v533_apply, top1 hq hk hv hd, Ideal.hostDivf_def, div_zero_left (cnt1 (0 : Fin 1) b h i), Ideal.mulf_def]
    exact zero_mul _
  have h4 : val_main_call20_v0 (F := Ideal) (ix5 (0 : Fin 1) b h i j) = (0 : EReal) := by
    rw [val_main_call20_v0_apply]
    exact ofBits_zero
  have h5 : val_main_v537 (F := Ideal) x0 x1 x2 x3 (ix5 (0 : Fin 1) b h i j) = ((dB 1 q k v da (attnT q k v) (lseT q k) (0 : Fin 1).val b.val h.val i.val j.val : ℝ) : EReal) := by
    rw [val_main_v537_apply, mask1, select_if, val_main_v536_apply, h3, h4, free1 hq hk hv hd, score_grad' 1 (0 : Fin 1).val b.val i.val (0 : Fin 1).isLt i.isLt]
    by_cases hb : bandP b.val i.val j.val
    · rw [if_pos hb]
      exact add_zero _
    · rw [if_neg hb]
      unfold dB dR pR
      rw [if_neg hb, zero_mul]
      rfl
  rw [val_main_v539_apply, h5, h1, Ideal.mulf_def, ← EReal.coe_mul]

theorem dqk1 (hq : Holds x0 (stream 1 q)) (hk : Holds x1 (stream 1 k)) (hv : Holds x2 (stream 1 v)) (hd : Holds x3 (stream 1 da)) (n : Fin 1) (b : Fin 32) (i : Fin 128) (h : Fin 8) (e : Fin 64) :
    val_main_v543 (F := Ideal) x0 x1 x2 x3 (ix5 n b i h e) = ((dqB 1 q k v da (attnT q k v) (lseT q k) n.val b.val i.val (64 * h.val + e.val) : ℝ) : EReal) := by
  obtain rfl : n = 0 := Subsingleton.elim _ _
  rw [val_main_v543_apply, show idx_main_v543 (ix5 (0 : Fin 1) b i h e) = ix5 (0 : Fin 1) b h i e from eq_ix5 _, val_main_v542_apply]
  refine (sum_eq_coe _ (f := fun j : Fin 256 => dB 1 q k v da (attnT q k v) (lseT q k) (0 : Fin 1).val b.val h.val i.val j.val * (1 / 8) * kz 1 k (0 : Fin 1).val b.val j.val (64 * h.val + e.val)) fun j => ?_).trans (coe_of ?_)
  · rw [show lidx_main_v542 (ix5 (0 : Fin 1) b h i e) j = ix5 (0 : Fin 1) b h i j from eq_ix5 _, show ridx_main_v542 (ix5 (0 : Fin 1) b h i e) j = ix5 (0 : Fin 1) b j h e from eq_ix5 _,
      dsc1 hq hk hv hd, kc1 hk, ← EReal.coe_mul]
  · unfold dqB
    rw [show (64 * h.val + e.val) / 64 = h.val by omega, Finset.sum_mul]
    refine Finset.sum_congr rfl fun j _ => ?_
    rw [← grad_kz]
    ring

theorem dkc1 (hq : Holds x0 (stream 1 q)) (hk : Holds x1 (stream 1 k)) (hv : Holds x2 (stream 1 v)) (hd : Holds x3 (stream 1 da)) (n : Fin 1) (b : Fin 32) (j : Fin 256) (h : Fin 8) (e : Fin 64) :
    val_main_v541 (F := Ideal) x0 x1 x2 x3 (ix5 n b j h e) = ((dkB 1 q k v da (attnT q k v) (lseT q k) 0 n.val b.val j.val (64 * h.val + e.val) : ℝ) : EReal) := by
  obtain rfl : n = 0 := Subsingleton.elim _ _
  rw [val_main_v541_apply, show idx_main_v541 (ix5 (0 : Fin 1) b j h e) = ix5 (0 : Fin 1) b h j e from eq_ix5 _, val_main_v540_apply]
  refine (sum_eq_coe _ (f := fun i : Fin 128 => dB 1 q k v da (attnT q k v) (lseT q k) (0 : Fin 1).val b.val h.val i.val j.val * (1 / 8) * blk 1 (0 : Fin 1).val b.val q i.val (64 * h.val + e.val)) fun i => ?_).trans (coe_of ?_)
  · rw [show lidx_main_v540 (ix5 (0 : Fin 1) b h j e) i = ix5 (0 : Fin 1) b h i j from eq_ix5 _, show ridx_main_v540 (ix5 (0 : Fin 1) b h j e) i = ix5 (0 : Fin 1) b i h e from eq_ix5 _,
      dsc1 hq hk hv hd, qb1 hq, ← EReal.coe_mul]
  · unfold dkB
    rw [show (64 * h.val + e.val) / 64 = h.val by omega, Nat.zero_add]
    refine Finset.sum_congr rfl fun i _ => ?_
    unfold qB eighth
    ring

theorem dvc1 (hq : Holds x0 (stream 1 q)) (hk : Holds x1 (stream 1 k)) (hd : Holds x3 (stream 1 da)) (n : Fin 1) (b : Fin 32) (j : Fin 256) (h : Fin 8) (e : Fin 64) :
    val_main_v512 (F := Ideal) x0 x1 x3 (ix5 n b j h e) = ((dvB 1 q k da (lseT q k) 0 n.val b.val j.val (64 * h.val + e.val) : ℝ) : EReal) := by
  obtain rfl : n = 0 := Subsingleton.elim _ _
  rw [val_main_v512_apply, show idx_main_v512 (ix5 (0 : Fin 1) b j h e) = ix5 (0 : Fin 1) b h e j from eq_ix5 _, val_main_v511_apply]
  refine (sum_eq_coe _ (f := fun i : Fin 128 => wT 1 q k ((128 * b.val + i.val) * 1 + (0 : Fin 1).val) h.val * da ((128 * b.val + i.val) * 1 + (0 : Fin 1).val) (64 * h.val + e.val)
      * (ewB 1 q k (0 : Fin 1).val b.val h.val i.val j.val / zB 1 q k (0 : Fin 1).val b.val h.val i.val)) fun i => ?_).trans (coe_of ?_)
  · rw [show lidx_main_v511 (ix5 (0 : Fin 1) b h e j) i = ix5 (0 : Fin 1) b h e i from eq_ix5 _, show ridx_main_v511 (ix5 (0 : Fin 1) b h e j) i = ix5 (0 : Fin 1) b h i j from eq_ix5 _,
      dot_out1 hq hk hd, prob1 hq hk, ← EReal.coe_mul]
    rfl
  · unfold dvB
    rw [show (64 * h.val + e.val) / 64 = h.val by omega, Nat.zero_add]
    exact Finset.sum_congr rfl fun i _ => prob_grad 1 (0 : Fin 1).val b.val i.val (0 : Fin 1).isLt i.isLt q k da h.val j.val _

theorem fold_time1 (g : ℕ → ℕ → ℕ → ℕ → ℕ → ℝ) (hg : ∀ o n b j c, g o n b j c = g 0 n b (o + j) c) (t : ℕ) (ht : t < 4096) (c : ℕ) :
    byTime 1 (g 128) t c + shift 128 (byTime 1 (g 0)) t c
      = g 0 (t % 1) (t / 1 / 128) (128 + t / 1 % 128) c + (if t / 1 / 128 + 1 < 32 then g 0 (t % 1) (1 + t / 1 / 128) (t / 1 % 128) c else 0) := by
  unfold shift byTime
  rw [hg 128]
  refine congrArg₂ _ rfl ?_
  by_cases h : t / 1 / 128 + 1 < 32
  · rw [if_pos h, if_pos (by omega), show (t + 128) % 1 = t % 1 by omega, show (t + 128) / 1 / 128 = 1 + t / 1 / 128 by omega, show (t + 128) / 1 % 128 = t / 1 % 128 by omega]
  · rw [if_neg h, if_neg (by omega)]

/-- The queries' gradient. -/
theorem refDq1 (hq : Holds x0 (stream 1 q)) (hk : Holds x1 (stream 1 k)) (hv : Holds x2 (stream 1 v)) (hd : Holds x3 (stream 1 da)) (t : Fin 4096) (h : Fin 8) (e : Fin 64) :
    val_main_v572 (F := Ideal) x0 x1 x2 x3 (ix4 0 t h e) = ((dqT 1 q k v da t.val (64 * h.val + e.val) : ℝ) : EReal) := by
  refine Eq.trans (b := val_main_v543 (F := Ideal) x0 x1 x2 x3 (ix5 ⟨t.val % 1, by omega⟩ ⟨t.val / 1 / 128, by omega⟩ ⟨t.val / 1 % 128, by omega⟩ h e)) ?_ (dqk1 hq hk hv hd _ _ _ _ _)
  pointwise [val_main_v572, val_main_v571, val_main_v570, val_main_v569, val_main_call23_v0, val_main_call23_cst, val_main_v568]

/-- The keys' gradient. -/
theorem refDk1 (hq : Holds x0 (stream 1 q)) (hk : Holds x1 (stream 1 k)) (hv : Holds x2 (stream 1 v)) (hd : Holds x3 (stream 1 da)) (t : Fin 4096) (h : Fin 8) (e : Fin 64) :
    val_main_v566 (F := Ideal) x0 x1 x2 x3 (ix4 0 t h e) = ((dkT 1 128 q k v da t.val (64 * h.val + e.val) + shift 128 (dkT 1 0 q k v da) t.val (64 * h.val + e.val) : ℝ) : EReal) := by
  have h1 : val_main_v566 (F := Ideal) x0 x1 x2 x3 (ix4 0 t h e) = val_main_v561 (F := Ideal) x0 x1 x2 x3 (ix5 ⟨t.val % 1, by omega⟩ ⟨t.val / 1 / 128, by omega⟩ ⟨t.val / 1 % 128, by omega⟩ h e) := by
    pointwise [val_main_v566, val_main_v565, val_main_v564, val_main_v563, val_main_call22_v0, val_main_call22_cst, val_main_v562]
  have h2 : val_main_v557 (F := Ideal) x0 x1 x2 x3 (ix5 ⟨t.val % 1, by omega⟩ ⟨t.val / 1 / 128, by omega⟩ ⟨t.val / 1 % 128, by omega⟩ h e) = val_main_v541 (F := Ideal) x0 x1 x2 x3 (ix5 ⟨t.val % 1, by omega⟩ ⟨t.val / 1 / 128, by omega⟩ ⟨128 + t.val / 1 % 128, by omega⟩ h e) := by
    pointwise [val_main_v557]
  have h3 : val_main_v560 (F := Ideal) x0 x1 x2 x3 (ix5 ⟨t.val % 1, by omega⟩ ⟨t.val / 1 / 128, by omega⟩ ⟨t.val / 1 % 128, by omega⟩ h e) = if hb : t.val / 1 / 128 + 1 < 32 then val_main_v541 (F := Ideal) x0 x1 x2 x3 (ix5 ⟨t.val % 1, by omega⟩ ⟨1 + t.val / 1 / 128, by omega⟩ ⟨t.val / 1 % 128, by omega⟩ h e) else (0 : EReal) := by
    pointwise [val_main_v560, val_main_v559, val_main_v556, val_main_cst_87]
    refine dite_same ?_ fun _ _ => rfl
    omega
  rw [h1, val_main_v561_apply, h2, h3]
  refine Eq.trans ?_ (coe_of (fold_time1 (dkB 1 q k v da (attnT q k v) (lseT q k)) (fun o n b j c => by unfold dkB; simp only [Nat.zero_add]) t.val t.isLt (64 * h.val + e.val)).symm)
  rw [EReal.coe_add, dkc1 hq hk hv hd]
  refine congrArg (fun z : EReal => _ + z) ?_
  by_cases hb : t.val / 1 / 128 + 1 < 32
  · rw [dif_pos hb, if_pos hb, dkc1 hq hk hv hd]
  · rw [dif_neg hb, if_neg hb]
    rfl

/-- The values' gradient. -/
theorem refDv1 (hq : Holds x0 (stream 1 q)) (hk : Holds x1 (stream 1 k)) (hd : Holds x3 (stream 1 da)) (t : Fin 4096) (h : Fin 8) (e : Fin 64) :
    val_main_v554 (F := Ideal) x0 x1 x3 (ix4 0 t h e) = ((dvT 1 128 q k da t.val (64 * h.val + e.val) + shift 128 (dvT 1 0 q k da) t.val (64 * h.val + e.val) : ℝ) : EReal) := by
  have h1 : val_main_v554 (F := Ideal) x0 x1 x3 (ix4 0 t h e) = val_main_v549 (F := Ideal) x0 x1 x3 (ix5 ⟨t.val % 1, by omega⟩ ⟨t.val / 1 / 128, by omega⟩ ⟨t.val / 1 % 128, by omega⟩ h e) := by
    pointwise [val_main_v554, val_main_v553, val_main_v552, val_main_v551, val_main_call21_v0, val_main_call21_cst, val_main_v550]
  have h2 : val_main_v545 (F := Ideal) x0 x1 x3 (ix5 ⟨t.val % 1, by omega⟩ ⟨t.val / 1 / 128, by omega⟩ ⟨t.val / 1 % 128, by omega⟩ h e) = val_main_v512 (F := Ideal) x0 x1 x3 (ix5 ⟨t.val % 1, by omega⟩ ⟨t.val / 1 / 128, by omega⟩ ⟨128 + t.val / 1 % 128, by omega⟩ h e) := by
    pointwise [val_main_v545]
  have h3 : val_main_v548 (F := Ideal) x0 x1 x3 (ix5 ⟨t.val % 1, by omega⟩ ⟨t.val / 1 / 128, by omega⟩ ⟨t.val / 1 % 128, by omega⟩ h e) = if hb : t.val / 1 / 128 + 1 < 32 then val_main_v512 (F := Ideal) x0 x1 x3 (ix5 ⟨t.val % 1, by omega⟩ ⟨1 + t.val / 1 / 128, by omega⟩ ⟨t.val / 1 % 128, by omega⟩ h e) else (0 : EReal) := by
    pointwise [val_main_v548, val_main_v547, val_main_v544, val_main_cst_86]
    refine dite_same ?_ fun _ _ => rfl
    omega
  rw [h1, val_main_v549_apply, h2, h3]
  refine Eq.trans ?_ (coe_of (fold_time1 (dvB 1 q k da (lseT q k)) (fun o n b j c => by unfold dvB; simp only [Nat.zero_add]) t.val t.isLt (64 * h.val + e.val)).symm)
  rw [EReal.coe_add, dvc1 hq hk hd]
  refine congrArg (fun z : EReal => _ + z) ?_
  by_cases hb : t.val / 1 / 128 + 1 < 32
  · rw [dif_pos hb, if_pos hb, dvc1 hq hk hd]
  · rw [dif_neg hb, if_neg hb]
    rfl

end Cert.K.Attn

end
-- ==== Proof.Attn.Grad4.lean ====
/- The gradients of the plain attention of dilation 4, by time. -/
module

public import proofs.«01_k».proof.Proof.Attn.Grad

@[expose] public section

set_option maxRecDepth 16384

noncomputable section

open Idealize.ShloMosaic Idealize.ShloMosaic.TcCoe Idealize.SL.Sem

namespace Cert.K.Attn

open Cert.AttnReferenceIdeal Cert.AttnReferenceIdeal.Gen Cert.AttnReferenceIdeal.Read

variable {x0 x1 x2 x3 : FVec Ideal S4096x512 .f32} {q k v da : ℕ → ℕ → ℝ}

theorem dlb4 (hq : Holds x0 (stream 1 q)) (hk : Holds x1 (stream 1 k)) (hv : Holds x2 (stream 1 v)) (hd : Holds x3 (stream 1 da)) (n : Fin 4) (b : Fin 8) (h : Fin 8) (i : Fin 128) :
    val_main_v428 (F := Ideal) x0 x1 x2 x3 (ix4 n b h i) = ((logB 4 q k v da n.val b.val h.val i.val : ℝ) : EReal) := by
  refine Eq.trans (b := val_main_v346 (F := Ideal) x0 x1 x2 x3 (ix4 1 0 ⟨(b.val * 128 + i.val) * 4 + n.val, by omega⟩ h)) ?_ ((dlog hq hk hv hd 1 _ _).trans (coe_of ?_))
  · pointwise [val_main_v428, val_main_v427, val_main_v426, val_main_v425, val_main_v424, val_main_v350, val_main_v349]
  · unfold logB
    rw [Nat.mul_comm 128]
    rfl

theorem dob4 (hq : Holds x0 (stream 1 q)) (hk : Holds x1 (stream 1 k)) (hd : Holds x3 (stream 1 da)) (n : Fin 4) (b : Fin 8) (i : Fin 128) (h : Fin 8) (e : Fin 64) :
    val_main_v432 (F := Ideal) x0 x1 x3 (ix5 n b i h e)
      = ((wT 4 q k ((128 * b.val + i.val) * 4 + n.val) h.val * da ((128 * b.val + i.val) * 4 + n.val) (64 * h.val + e.val) : ℝ) : EReal) := by
  refine Eq.trans (b := val_main_v322 (F := Ideal) x0 x1 x3 (ix5 1 0 ⟨(b.val * 128 + i.val) * 4 + n.val, by omega⟩ h e)) ?_ ((dout hq hk hd 1 _ _ _).trans (coe_of ?_))
  · pointwise [val_main_v432, val_main_v431, val_main_v430, val_main_v429, val_main_v329, val_main_v328]
  · rw [Nat.mul_comm 128]
    rfl

theorem dot_out4 (hq : Holds x0 (stream 1 q)) (hk : Holds x1 (stream 1 k)) (hd : Holds x3 (stream 1 da)) (n : Fin 4) (b : Fin 8) (h : Fin 8) (e : Fin 64) (i : Fin 128) :
    val_main_v435 (F := Ideal) x0 x1 x3 (ix5 n b h e i)
      = ((wT 4 q k ((128 * b.val + i.val) * 4 + n.val) h.val * da ((128 * b.val + i.val) * 4 + n.val) (64 * h.val + e.val) : ℝ) : EReal) := by
  refine Eq.trans ?_ (dob4 hq hk hd n b i h e)
  rw [val_main_v435_apply]
  exact congrArg _ (eq_ix5 _)

/-- What flows back to a probability. -/
theorem dpr4 (hq : Holds x0 (stream 1 q)) (hk : Holds x1 (stream 1 k)) (hv : Holds x2 (stream 1 v)) (hd : Holds x3 (stream 1 da)) (n : Fin 4) (b : Fin 8) (h : Fin 8) (i : Fin 128) (j : Fin 256) :
    val_main_v436 (F := Ideal) x0 x1 x2 x3 (ix5 n b h i j) = ((gB 4 q k v da n.val b.val h.val i.val j.val : ℝ) : EReal) := by
  rw [val_main_v436_apply]
  refine sum_eq_coe _ fun e => ?_
  rw [show lidx_main_v436 (ix5 n b h i j) e = ix5 n b h e i from eq_ix5 _, show ridx_main_v436 (ix5 n b h i j) e = ix5 n b j h e from eq_ix5 _,
    dot_out4 hq hk hd, vc4 hv, ← EReal.coe_mul]

theorem den4 (n : Fin 4) (b : Fin 8) (h : Fin 8) (i : Fin 128) :
    val_main_v165 (F := Ideal) x0 x1 (ix5 n b h i 0) = val_main_v164 (F := Ideal) x0 x1 (ix4 n b h i) := by
  pointwise [val_main_v165]

theorem bdl4 (n : Fin 4) (b : Fin 8) (h : Fin 8) (i : Fin 128) :
    val_main_v433 (F := Ideal) x0 x1 x2 x3 (ix5 n b h i 0) = val_main_v428 (F := Ideal) x0 x1 x2 x3 (ix4 n b h i) := by
  pointwise [val_main_v433]

theorem inv4 (n : Fin 4) (b : Fin 8) (h : Fin 8) (i : Fin 128) (j : Fin 256) :
    val_main_v439 (F := Ideal) x0 x1 (ix5 n b h i j)
      = Ideal.div 1 ((val_main_v164 (F := Ideal) x0 x1 (ix4 n b h i) : EReal) * (val_main_v164 (F := Ideal) x0 x1 (ix4 n b h i) : EReal) : EReal) := by
  have h1 : val_main_v439 (F := Ideal) x0 x1 (ix5 n b h i j) = val_main_v170 (F := Ideal) x0 x1 (ix5 n b h i 0) := by pointwise [val_main_v439]
  have h2 : val_main_v169 (F := Ideal) (ix5 n b h i 0) = (1 : EReal) := by
    rw [val_main_v169_apply]
    exact ofBits_unit
  rw [h1, val_main_v170_apply, val_main_v168_apply, h2, den4]
  rfl

theorem sub4 (n : Fin 4) (b : Fin 8) (h : Fin 8) (i : Fin 128) :
    val_main_v444 (F := Ideal) x0 x1 x2 x3 (ix5 n b h i 0) = (-∑ j' : Fin 256, (val_main_v436 (F := Ideal) x0 x1 x2 x3 (ix5 n b h i j') : EReal)
      * Ideal.div 1 ((val_main_v164 (F := Ideal) x0 x1 (ix4 n b h i) : EReal) * (val_main_v164 (F := Ideal) x0 x1 (ix4 n b h i) : EReal) : EReal)
      * (val_main_v163 (F := Ideal) x0 x1 (ix5 n b h i j') : EReal) : EReal) := by
  have h1 : val_main_v443 (F := Ideal) x0 x1 x2 x3 (ix5 n b h i 0) = val_main_v442 (F := Ideal) x0 x1 x2 x3 (ix4 n b h i) := by pointwise [val_main_v443]
  have h2 : val_main_cst_74 (F := Ideal) (Shape.Idx.first h_S_) = (0 : EReal) := ofBits_zero
  rw [val_main_v444_apply, h1, val_main_v442_apply, h2, Ideal.hostNegf_def, Ideal.negf_def]
  refine congrArg Neg.neg ((zero_add _).trans (Finset.sum_congr rfl fun j' _ => ?_))
  rw [show idx_main_v442 (ix4 n b h i) j' = ix5 n b h i j' from eq_ix5 _, val_main_v441_apply, val_main_v440_apply, inv4]
  rfl

theorem one4 (n : Fin 4) (b : Fin 8) (h : Fin 8) (i : Fin 128) :
    val_main_v448 (F := Ideal) x0 x1 x2 x3 (ix4 n b h i) = val_main_v445 (F := Ideal) x0 x1 x2 x3 (ix5 n b h i 0) := by
  have h2 : val_main_cst_75 (F := Ideal) (Shape.Idx.first h_S_) = (0 : EReal) := ofBits_zero
  rw [val_main_v448_apply, h2]
  refine (zero_add _).trans ((Fin.sum_univ_one _).trans (congrArg _ (eq_ix5 _)))

theorem one4' (n : Fin 4) (b : Fin 8) (h : Fin 8) (i : Fin 128) :
    val_main_v456 (F := Ideal) x0 x1 x2 x3 (ix4 n b h i) = val_main_v455 (F := Ideal) x0 x1 x2 x3 (ix5 n b h i 0) := by
  have h2 : val_main_cst_77 (F := Ideal) (Shape.Idx.first h_S_) = (0 : EReal) := ofBits_zero
  rw [val_main_v456_apply, h2]
  refine (zero_add _).trans ((Fin.sum_univ_one _).trans (congrArg _ (eq_ix5 _)))

theorem fac4 (n : Fin 4) (b : Fin 8) (h : Fin 8) (i : Fin 128) (j : Fin 256) :
    val_main_v450 (F := Ideal) x0 x1 x2 x3 (ix5 n b h i j) = facE (fun j => val_main_v436 (F := Ideal) x0 x1 x2 x3 (ix5 n b h i j)) (fun j => val_main_v163 (F := Ideal) x0 x1 (ix5 n b h i j))
      (val_main_v164 (F := Ideal) x0 x1 (ix4 n b h i)) (val_main_v428 (F := Ideal) x0 x1 x2 x3 (ix4 n b h i)) j := by
  have h1 : val_main_v446 (F := Ideal) x0 x1 (ix5 n b h i j) = val_main_v165 (F := Ideal) x0 x1 (ix5 n b h i 0) := by pointwise [val_main_v446]
  have h2 : val_main_v449 (F := Ideal) x0 x1 x2 x3 (ix5 n b h i j) = val_main_v448 (F := Ideal) x0 x1 x2 x3 (ix4 n b h i) := by pointwise [val_main_v449]
  rw [val_main_v450_apply, val_main_v447_apply, h1, h2, one4, val_main_v445_apply, val_main_v434_apply, bdl4, den4, sub4]
  rfl

/-- The gradient of a score, the maximum held fixed. -/
theorem free4 (hq : Holds x0 (stream 1 q)) (hk : Holds x1 (stream 1 k)) (hv : Holds x2 (stream 1 v)) (hd : Holds x3 (stream 1 da)) (n : Fin 4) (b : Fin 8) (h : Fin 8) (i : Fin 128) (j : Fin 256) :
    val_main_v451 (F := Ideal) x0 x1 x2 x3 (ix5 n b h i j)
      = ((ewB 4 q k n.val b.val h.val i.val j.val / zB 4 q k n.val b.val h.val i.val * (gB 4 q k v da n.val b.val h.val i.val j.val + logB 4 q k v da n.val b.val h.val i.val
        - ∑ j' : Fin 256, ewB 4 q k n.val b.val h.val i.val j'.val / zB 4 q k n.val b.val h.val i.val * gB 4 q k v da n.val b.val h.val i.val j'.val) : ℝ) : EReal) := by
  obtain ⟨μ, -, he, hz⟩ := row4 hq hk n b h i
  rw [val_main_v451_apply, fac4, Ideal.mulf_def]
  exact row_free (w := fun j : Fin 256 => ewB 4 q k n.val b.val h.val i.val j.val) (g := fun j : Fin 256 => gB 4 q k v da n.val b.val h.val i.val j.val)
    (zR_pos b.val (qB 4 q n.val b.val) (kB 4 k n.val b.val) h.val i) (Real.exp_pos (-μ)) he hz (dlb4 hq hk hv hd n b h i) (fun j => dpr4 hq hk hv hd n b h i j) j

/-- The maximum takes no gradient. -/
theorem top4 (hq : Holds x0 (stream 1 q)) (hk : Holds x1 (stream 1 k)) (hv : Holds x2 (stream 1 v)) (hd : Holds x3 (stream 1 da)) (n : Fin 4) (b : Fin 8) (h : Fin 8) (i : Fin 128) :
    val_main_v456 (F := Ideal) x0 x1 x2 x3 (ix4 n b h i) = (0 : EReal) := by
  obtain ⟨μ, -, he, hz⟩ := row4 hq hk n b h i
  have h1 : val_main_v454 (F := Ideal) x0 x1 x2 x3 (ix5 n b h i 0) = val_main_v453 (F := Ideal) x0 x1 x2 x3 (ix4 n b h i) := by pointwise [val_main_v454]
  have h2 : val_main_cst_76 (F := Ideal) (Shape.Idx.first h_S_) = (0 : EReal) := ofBits_zero
  have h3 : val_main_v453 (F := Ideal) x0 x1 x2 x3 (ix4 n b h i) = ∑ j : Fin 256, (-(val_main_v451 (F := Ideal) x0 x1 x2 x3 (ix5 n b h i j) : EReal) : EReal) := by
    rw [val_main_v453_apply, h2]
    refine (zero_add _).trans (Finset.sum_congr rfl fun j _ => ?_)
    rw [show idx_main_v453 (ix4 n b h i) j = ix5 n b h i j from eq_ix5 _, val_main_v452_apply]
    rfl
  rw [one4', val_main_v455_apply, bdl4, h1, h3]
  exact row_max (w := fun j : Fin 256 => ewB 4 q k n.val b.val h.val i.val j.val) (g := fun j : Fin 256 => gB 4 q k v da n.val b.val h.val i.val j.val)
    (zR_pos b.val (qB 4 q n.val b.val) (kB 4 k n.val b.val) h.val i) (Real.exp_pos (-μ)) rfl he hz (dlb4 hq hk hv hd n b h i) (fun j => dpr4 hq hk hv hd n b h i j)
    (fun j => free4 hq hk hv hd n b h i j)

theorem cnt4 (n : Fin 4) (b : Fin 8) (h : Fin 8) (i : Fin 128) : val_main_v159 (F := Ideal) x0 x1 (ix4 n b h i) ≠ (0 : EReal) := by
  have h2 : val_main_cst_31 (F := Ideal) (Shape.Idx.first h_S_) = (0 : EReal) := ofBits_zero
  have h3 : val_main_v154 (F := Ideal) x0 x1 (ix4 n b h i) = Finset.fold max (⊥ : EReal) (fun j : Fin 256 => val_main_v153_0 (F := Ideal) x0 x1 (ix5 n b h i j)) Finset.univ := by
    pointwise [val_main_v154, val_main_cst_30]
    rw [ofBits_ninf]
  rw [val_main_v159_apply, h2]
  refine fun h0 => count_ne_zero (fun j : Fin 256 => val_main_v153_0 (F := Ideal) x0 x1 (ix5 n b h i j)) (Eq.trans ?_ ((zero_add _).symm.trans h0))
  refine Finset.sum_congr rfl fun j _ => ?_
  have h4 : val_main_v156 (F := Ideal) x0 x1 (ix5 n b h i j) = val_main_v154 (F := Ideal) x0 x1 (ix4 n b h i) := by
    pointwise [val_main_v156, val_main_v155]
  rw [show idx_main_v159 (ix4 n b h i) j = ix5 n b h i j from eq_ix5 _, val_main_v158_apply, val_main_v157_apply, h4, h3]
  exact (eq_word _ _).symm

/-- The gradient of a score. -/
theorem dsc4 (hq : Holds x0 (stream 1 q)) (hk : Holds x1 (stream 1 k)) (hv : Holds x2 (stream 1 v)) (hd : Holds x3 (stream 1 da)) (n : Fin 4) (b : Fin 8) (h : Fin 8) (i : Fin 128) (j : Fin 256) :
    val_main_v463 (F := Ideal) x0 x1 x2 x3 (ix5 n b h i j) = ((dB 4 q k v da (attnT q k v) (lseT q k) n.val b.val h.val i.val j.val * (1 / 8) : ℝ) : EReal) := by
  have h1 : val_main_v462 (F := Ideal) (ix5 n b h i j) = ((1 / 8 : ℝ) : EReal) := by
    rw [val_main_v462_apply]
    exact ofBits_eighth
  have h2 : val_main_v458 (F := Ideal) x0 x1 x2 x3 (ix5 n b h i j) = val_main_v457 (F := Ideal) x0 x1 x2 x3 (ix4 n b h i) := by pointwise [val_main_v458]
  have h3 : val_main_v459 (F := Ideal) x0 x1 x2 x3 (ix5 n b h i j) = (0 : EReal) := by
    rw [val_main_v459_apply, h2, val_main_v457_apply, top4 hq hk hv hd, Ideal.hostDivf_def, div_zero_left (cnt4 n b h i), Ideal.mulf_def]
    exact zero_mul _
  have h4 : val_main_call16_v0 (F := Ideal) (ix5 n b h i j) = (0 : EReal) := by
    rw [val_main_call16_v0_apply]
    exact ofBits_zero
  have h5 : val_main_v461 (F := Ideal) x0 x1 x2 x3 (ix5 n b h i j) = ((dB 4 q k v da (attnT q k v) (lseT q k) n.val b.val h.val i.val j.val : ℝ) : EReal) := by
    rw [val_main_v461_apply, mask4, select_if, val_main_v460_apply, h3, h4, free4 hq hk hv hd, score_grad' 4 n.val b.val i.val n.isLt i.isLt]
    by_cases hb : bandP b.val i.val j.val
    · rw [if_pos hb]
      exact add_zero _
    · rw [if_neg hb]
      unfold dB dR pR
      rw [if_neg hb, zero_mul]
      rfl
  rw [val_main_v463_apply, h5, h1, Ideal.mulf_def, ← EReal.coe_mul]

theorem dqk4 (hq : Holds x0 (stream 1 q)) (hk : Holds x1 (stream 1 k)) (hv : Holds x2 (stream 1 v)) (hd : Holds x3 (stream 1 da)) (n : Fin 4) (b : Fin 8) (i : Fin 128) (h : Fin 8) (e : Fin 64) :
    val_main_v467 (F := Ideal) x0 x1 x2 x3 (ix5 n b i h e) = ((dqB 4 q k v da (attnT q k v) (lseT q k) n.val b.val i.val (64 * h.val + e.val) : ℝ) : EReal) := by
  rw [val_main_v467_apply, show idx_main_v467 (ix5 n b i h e) = ix5 n b h i e from eq_ix5 _, val_main_v466_apply]
  refine (sum_eq_coe _ (f := fun j : Fin 256 => dB 4 q k v da (attnT q k v) (lseT q k) n.val b.val h.val i.val j.val * (1 / 8) * kz 4 k n.val b.val j.val (64 * h.val + e.val)) fun j => ?_).trans (coe_of ?_)
  · rw [show lidx_main_v466 (ix5 n b h i e) j = ix5 n b h i j from eq_ix5 _, show ridx_main_v466 (ix5 n b h i e) j = ix5 n b j h e from eq_ix5 _,
      dsc4 hq hk hv hd, kc4 hk, ← EReal.coe_mul]
  · unfold dqB
    rw [show (64 * h.val + e.val) / 64 = h.val by omega, Finset.sum_mul]
    refine Finset.sum_congr rfl fun j _ => ?_
    rw [← grad_kz]
    ring

theorem dkc4 (hq : Holds x0 (stream 1 q)) (hk : Holds x1 (stream 1 k)) (hv : Holds x2 (stream 1 v)) (hd : Holds x3 (stream 1 da)) (n : Fin 4) (b : Fin 8) (j : Fin 256) (h : Fin 8) (e : Fin 64) :
    val_main_v465 (F := Ideal) x0 x1 x2 x3 (ix5 n b j h e) = ((dkB 4 q k v da (attnT q k v) (lseT q k) 0 n.val b.val j.val (64 * h.val + e.val) : ℝ) : EReal) := by
  rw [val_main_v465_apply, show idx_main_v465 (ix5 n b j h e) = ix5 n b h j e from eq_ix5 _, val_main_v464_apply]
  refine (sum_eq_coe _ (f := fun i : Fin 128 => dB 4 q k v da (attnT q k v) (lseT q k) n.val b.val h.val i.val j.val * (1 / 8) * blk 4 n.val b.val q i.val (64 * h.val + e.val)) fun i => ?_).trans (coe_of ?_)
  · rw [show lidx_main_v464 (ix5 n b h j e) i = ix5 n b h i j from eq_ix5 _, show ridx_main_v464 (ix5 n b h j e) i = ix5 n b i h e from eq_ix5 _,
      dsc4 hq hk hv hd, qb4 hq, ← EReal.coe_mul]
  · unfold dkB
    rw [show (64 * h.val + e.val) / 64 = h.val by omega, Nat.zero_add]
    refine Finset.sum_congr rfl fun i _ => ?_
    unfold qB eighth
    ring

theorem dvc4 (hq : Holds x0 (stream 1 q)) (hk : Holds x1 (stream 1 k)) (hd : Holds x3 (stream 1 da)) (n : Fin 4) (b : Fin 8) (j : Fin 256) (h : Fin 8) (e : Fin 64) :
    val_main_v438 (F := Ideal) x0 x1 x3 (ix5 n b j h e) = ((dvB 4 q k da (lseT q k) 0 n.val b.val j.val (64 * h.val + e.val) : ℝ) : EReal) := by
  rw [val_main_v438_apply, show idx_main_v438 (ix5 n b j h e) = ix5 n b h e j from eq_ix5 _, val_main_v437_apply]
  refine (sum_eq_coe _ (f := fun i : Fin 128 => wT 4 q k ((128 * b.val + i.val) * 4 + n.val) h.val * da ((128 * b.val + i.val) * 4 + n.val) (64 * h.val + e.val)
      * (ewB 4 q k n.val b.val h.val i.val j.val / zB 4 q k n.val b.val h.val i.val)) fun i => ?_).trans (coe_of ?_)
  · rw [show lidx_main_v437 (ix5 n b h e j) i = ix5 n b h e i from eq_ix5 _, show ridx_main_v437 (ix5 n b h e j) i = ix5 n b h i j from eq_ix5 _,
      dot_out4 hq hk hd, prob4 hq hk, ← EReal.coe_mul]
    rfl
  · unfold dvB
    rw [show (64 * h.val + e.val) / 64 = h.val by omega, Nat.zero_add]
    exact Finset.sum_congr rfl fun i _ => prob_grad 4 n.val b.val i.val n.isLt i.isLt q k da h.val j.val _

theorem fold_time4 (g : ℕ → ℕ → ℕ → ℕ → ℕ → ℝ) (hg : ∀ o n b j c, g o n b j c = g 0 n b (o + j) c) (t : ℕ) (ht : t < 4096) (c : ℕ) :
    byTime 4 (g 128) t c + shift 512 (byTime 4 (g 0)) t c
      = g 0 (t % 4) (t / 4 / 128) (128 + t / 4 % 128) c + (if t / 4 / 128 + 1 < 8 then g 0 (t % 4) (1 + t / 4 / 128) (t / 4 % 128) c else 0) := by
  unfold shift byTime
  rw [hg 128]
  refine congrArg₂ _ rfl ?_
  by_cases h : t / 4 / 128 + 1 < 8
  · rw [if_pos h, if_pos (by omega), show (t + 512) % 4 = t % 4 by omega, show (t + 512) / 4 / 128 = 1 + t / 4 / 128 by omega, show (t + 512) / 4 % 128 = t / 4 % 128 by omega]
  · rw [if_neg h, if_neg (by omega)]

/-- The queries' gradient. -/
theorem refDq4 (hq : Holds x0 (stream 1 q)) (hk : Holds x1 (stream 1 k)) (hv : Holds x2 (stream 1 v)) (hd : Holds x3 (stream 1 da)) (t : Fin 4096) (h : Fin 8) (e : Fin 64) :
    val_main_v496 (F := Ideal) x0 x1 x2 x3 (ix4 0 t h e) = ((dqT 4 q k v da t.val (64 * h.val + e.val) : ℝ) : EReal) := by
  refine Eq.trans (b := val_main_v467 (F := Ideal) x0 x1 x2 x3 (ix5 ⟨t.val % 4, by omega⟩ ⟨t.val / 4 / 128, by omega⟩ ⟨t.val / 4 % 128, by omega⟩ h e)) ?_ (dqk4 hq hk hv hd _ _ _ _ _)
  pointwise [val_main_v496, val_main_v495, val_main_v494, val_main_v493, val_main_call19_v0, val_main_call19_cst, val_main_v492]
  exact dif_pos (by omega)

/-- The keys' gradient. -/
theorem refDk4 (hq : Holds x0 (stream 1 q)) (hk : Holds x1 (stream 1 k)) (hv : Holds x2 (stream 1 v)) (hd : Holds x3 (stream 1 da)) (t : Fin 4096) (h : Fin 8) (e : Fin 64) :
    val_main_v490 (F := Ideal) x0 x1 x2 x3 (ix4 0 t h e) = ((dkT 4 128 q k v da t.val (64 * h.val + e.val) + shift 512 (dkT 4 0 q k v da) t.val (64 * h.val + e.val) : ℝ) : EReal) := by
  have h1 : val_main_v490 (F := Ideal) x0 x1 x2 x3 (ix4 0 t h e) = val_main_v485 (F := Ideal) x0 x1 x2 x3 (ix5 ⟨t.val % 4, by omega⟩ ⟨t.val / 4 / 128, by omega⟩ ⟨t.val / 4 % 128, by omega⟩ h e) := by
    pointwise [val_main_v490, val_main_v489, val_main_v488, val_main_v487, val_main_call18_v0, val_main_call18_cst, val_main_v486]
    exact dif_pos (by omega)
  have h2 : val_main_v481 (F := Ideal) x0 x1 x2 x3 (ix5 ⟨t.val % 4, by omega⟩ ⟨t.val / 4 / 128, by omega⟩ ⟨t.val / 4 % 128, by omega⟩ h e) = val_main_v465 (F := Ideal) x0 x1 x2 x3 (ix5 ⟨t.val % 4, by omega⟩ ⟨t.val / 4 / 128, by omega⟩ ⟨128 + t.val / 4 % 128, by omega⟩ h e) := by
    pointwise [val_main_v481]
  have h3 : val_main_v484 (F := Ideal) x0 x1 x2 x3 (ix5 ⟨t.val % 4, by omega⟩ ⟨t.val / 4 / 128, by omega⟩ ⟨t.val / 4 % 128, by omega⟩ h e) = if hb : t.val / 4 / 128 + 1 < 8 then val_main_v465 (F := Ideal) x0 x1 x2 x3 (ix5 ⟨t.val % 4, by omega⟩ ⟨1 + t.val / 4 / 128, by omega⟩ ⟨t.val / 4 % 128, by omega⟩ h e) else (0 : EReal) := by
    pointwise [val_main_v484, val_main_v483, val_main_v480, val_main_cst_80]
    refine dite_same ?_ fun _ _ => rfl
    omega
  rw [h1, val_main_v485_apply, h2, h3]
  refine Eq.trans ?_ (coe_of (fold_time4 (dkB 4 q k v da (attnT q k v) (lseT q k)) (fun o n b j c => by unfold dkB; simp only [Nat.zero_add]) t.val t.isLt (64 * h.val + e.val)).symm)
  rw [EReal.coe_add, dkc4 hq hk hv hd]
  refine congrArg (fun z : EReal => _ + z) ?_
  by_cases hb : t.val / 4 / 128 + 1 < 8
  · rw [dif_pos hb, if_pos hb, dkc4 hq hk hv hd]
  · rw [dif_neg hb, if_neg hb]
    rfl

/-- The values' gradient. -/
theorem refDv4 (hq : Holds x0 (stream 1 q)) (hk : Holds x1 (stream 1 k)) (hd : Holds x3 (stream 1 da)) (t : Fin 4096) (h : Fin 8) (e : Fin 64) :
    val_main_v478 (F := Ideal) x0 x1 x3 (ix4 0 t h e) = ((dvT 4 128 q k da t.val (64 * h.val + e.val) + shift 512 (dvT 4 0 q k da) t.val (64 * h.val + e.val) : ℝ) : EReal) := by
  have h1 : val_main_v478 (F := Ideal) x0 x1 x3 (ix4 0 t h e) = val_main_v473 (F := Ideal) x0 x1 x3 (ix5 ⟨t.val % 4, by omega⟩ ⟨t.val / 4 / 128, by omega⟩ ⟨t.val / 4 % 128, by omega⟩ h e) := by
    pointwise [val_main_v478, val_main_v477, val_main_v476, val_main_v475, val_main_call17_v0, val_main_call17_cst, val_main_v474]
    exact dif_pos (by omega)
  have h2 : val_main_v469 (F := Ideal) x0 x1 x3 (ix5 ⟨t.val % 4, by omega⟩ ⟨t.val / 4 / 128, by omega⟩ ⟨t.val / 4 % 128, by omega⟩ h e) = val_main_v438 (F := Ideal) x0 x1 x3 (ix5 ⟨t.val % 4, by omega⟩ ⟨t.val / 4 / 128, by omega⟩ ⟨128 + t.val / 4 % 128, by omega⟩ h e) := by
    pointwise [val_main_v469]
  have h3 : val_main_v472 (F := Ideal) x0 x1 x3 (ix5 ⟨t.val % 4, by omega⟩ ⟨t.val / 4 / 128, by omega⟩ ⟨t.val / 4 % 128, by omega⟩ h e) = if hb : t.val / 4 / 128 + 1 < 8 then val_main_v438 (F := Ideal) x0 x1 x3 (ix5 ⟨t.val % 4, by omega⟩ ⟨1 + t.val / 4 / 128, by omega⟩ ⟨t.val / 4 % 128, by omega⟩ h e) else (0 : EReal) := by
    pointwise [val_main_v472, val_main_v471, val_main_v468, val_main_cst_79]
    refine dite_same ?_ fun _ _ => rfl
    omega
  rw [h1, val_main_v473_apply, h2, h3]
  refine Eq.trans ?_ (coe_of (fold_time4 (dvB 4 q k da (lseT q k)) (fun o n b j c => by unfold dvB; simp only [Nat.zero_add]) t.val t.isLt (64 * h.val + e.val)).symm)
  rw [EReal.coe_add, dvc4 hq hk hd]
  refine congrArg (fun z : EReal => _ + z) ?_
  by_cases hb : t.val / 4 / 128 + 1 < 8
  · rw [dif_pos hb, if_pos hb, dvc4 hq hk hd]
  · rw [dif_neg hb, if_neg hb]
    rfl

end Cert.K.Attn

end
-- ==== Proof.Attn.Grad16.lean ====
/- The gradients of the plain attention of dilation 16, by time. -/
module

public import proofs.«01_k».proof.Proof.Attn.Grad

@[expose] public section

set_option maxRecDepth 16384

noncomputable section

open Idealize.ShloMosaic Idealize.ShloMosaic.TcCoe Idealize.SL.Sem

namespace Cert.K.Attn

open Cert.AttnReferenceIdeal Cert.AttnReferenceIdeal.Gen Cert.AttnReferenceIdeal.Read

variable {x0 x1 x2 x3 : FVec Ideal S4096x512 .f32} {q k v da : ℕ → ℕ → ℝ}

theorem dlb16 (hq : Holds x0 (stream 1 q)) (hk : Holds x1 (stream 1 k)) (hv : Holds x2 (stream 1 v)) (hd : Holds x3 (stream 1 da)) (n : Fin 16) (b : Fin 2) (h : Fin 8) (i : Fin 128) :
    val_main_v357 (F := Ideal) x0 x1 x2 x3 (ix4 n b h i) = ((logB 16 q k v da n.val b.val h.val i.val : ℝ) : EReal) := by
  refine Eq.trans (b := val_main_v346 (F := Ideal) x0 x1 x2 x3 (ix4 2 0 ⟨(b.val * 128 + i.val) * 16 + n.val, by omega⟩ h)) ?_ ((dlog hq hk hv hd 2 _ _).trans (coe_of ?_))
  · pointwise [val_main_v357, val_main_v356, val_main_v355, val_main_v354, val_main_v353, val_main_v352, val_main_v351]
  · unfold logB
    rw [Nat.mul_comm 128]
    rfl

theorem dob16 (hq : Holds x0 (stream 1 q)) (hk : Holds x1 (stream 1 k)) (hd : Holds x3 (stream 1 da)) (n : Fin 16) (b : Fin 2) (i : Fin 128) (h : Fin 8) (e : Fin 64) :
    val_main_v361 (F := Ideal) x0 x1 x3 (ix5 n b i h e)
      = ((wT 16 q k ((128 * b.val + i.val) * 16 + n.val) h.val * da ((128 * b.val + i.val) * 16 + n.val) (64 * h.val + e.val) : ℝ) : EReal) := by
  refine Eq.trans (b := val_main_v322 (F := Ideal) x0 x1 x3 (ix5 2 0 ⟨(b.val * 128 + i.val) * 16 + n.val, by omega⟩ h e)) ?_ ((dout hq hk hd 2 _ _ _).trans (coe_of ?_))
  · pointwise [val_main_v361, val_main_v360, val_main_v359, val_main_v358, val_main_v331, val_main_v330]
  · rw [Nat.mul_comm 128]
    rfl

theorem dot_out16 (hq : Holds x0 (stream 1 q)) (hk : Holds x1 (stream 1 k)) (hd : Holds x3 (stream 1 da)) (n : Fin 16) (b : Fin 2) (h : Fin 8) (e : Fin 64) (i : Fin 128) :
    val_main_v364 (F := Ideal) x0 x1 x3 (ix5 n b h e i)
      = ((wT 16 q k ((128 * b.val + i.val) * 16 + n.val) h.val * da ((128 * b.val + i.val) * 16 + n.val) (64 * h.val + e.val) : ℝ) : EReal) := by
  refine Eq.trans ?_ (dob16 hq hk hd n b i h e)
  rw [val_main_v364_apply]
  exact congrArg _ (eq_ix5 _)

/-- What flows back to a probability. -/
theorem dpr16 (hq : Holds x0 (stream 1 q)) (hk : Holds x1 (stream 1 k)) (hv : Holds x2 (stream 1 v)) (hd : Holds x3 (stream 1 da)) (n : Fin 16) (b : Fin 2) (h : Fin 8) (i : Fin 128) (j : Fin 256) :
    val_main_v365 (F := Ideal) x0 x1 x2 x3 (ix5 n b h i j) = ((gB 16 q k v da n.val b.val h.val i.val j.val : ℝ) : EReal) := by
  rw [val_main_v365_apply]
  refine sum_eq_coe _ fun e => ?_
  rw [show lidx_main_v365 (ix5 n b h i j) e = ix5 n b h e i from eq_ix5 _, show ridx_main_v365 (ix5 n b h i j) e = ix5 n b j h e from eq_ix5 _,
    dot_out16 hq hk hd, vc16 hv, ← EReal.coe_mul]

theorem den16 (n : Fin 16) (b : Fin 2) (h : Fin 8) (i : Fin 128) :
    val_main_v256 (F := Ideal) x0 x1 (ix5 n b h i 0) = val_main_v255 (F := Ideal) x0 x1 (ix4 n b h i) := by
  pointwise [val_main_v256]

theorem bdl16 (n : Fin 16) (b : Fin 2) (h : Fin 8) (i : Fin 128) :
    val_main_v362 (F := Ideal) x0 x1 x2 x3 (ix5 n b h i 0) = val_main_v357 (F := Ideal) x0 x1 x2 x3 (ix4 n b h i) := by
  pointwise [val_main_v362]

theorem inv16 (n : Fin 16) (b : Fin 2) (h : Fin 8) (i : Fin 128) (j : Fin 256) :
    val_main_v368 (F := Ideal) x0 x1 (ix5 n b h i j)
      = Ideal.div 1 ((val_main_v255 (F := Ideal) x0 x1 (ix4 n b h i) : EReal) * (val_main_v255 (F := Ideal) x0 x1 (ix4 n b h i) : EReal) : EReal) := by
  have h1 : val_main_v368 (F := Ideal) x0 x1 (ix5 n b h i j) = val_main_v261 (F := Ideal) x0 x1 (ix5 n b h i 0) := by pointwise [val_main_v368]
  have h2 : val_main_v260 (F := Ideal) (ix5 n b h i 0) = (1 : EReal) := by
    rw [val_main_v260_apply]
    exact ofBits_unit
  rw [h1, val_main_v261_apply, val_main_v259_apply, h2, den16]
  rfl

theorem sub16 (n : Fin 16) (b : Fin 2) (h : Fin 8) (i : Fin 128) :
    val_main_v373 (F := Ideal) x0 x1 x2 x3 (ix5 n b h i 0) = (-∑ j' : Fin 256, (val_main_v365 (F := Ideal) x0 x1 x2 x3 (ix5 n b h i j') : EReal)
      * Ideal.div 1 ((val_main_v255 (F := Ideal) x0 x1 (ix4 n b h i) : EReal) * (val_main_v255 (F := Ideal) x0 x1 (ix4 n b h i) : EReal) : EReal)
      * (val_main_v254 (F := Ideal) x0 x1 (ix5 n b h i j') : EReal) : EReal) := by
  have h1 : val_main_v372 (F := Ideal) x0 x1 x2 x3 (ix5 n b h i 0) = val_main_v371 (F := Ideal) x0 x1 x2 x3 (ix4 n b h i) := by pointwise [val_main_v372]
  have h2 : val_main_cst_67 (F := Ideal) (Shape.Idx.first h_S_) = (0 : EReal) := ofBits_zero
  rw [val_main_v373_apply, h1, val_main_v371_apply, h2, Ideal.hostNegf_def, Ideal.negf_def]
  refine congrArg Neg.neg ((zero_add _).trans (Finset.sum_congr rfl fun j' _ => ?_))
  rw [show idx_main_v371 (ix4 n b h i) j' = ix5 n b h i j' from eq_ix5 _, val_main_v370_apply, val_main_v369_apply, inv16]
  rfl

theorem one16 (n : Fin 16) (b : Fin 2) (h : Fin 8) (i : Fin 128) :
    val_main_v377 (F := Ideal) x0 x1 x2 x3 (ix4 n b h i) = val_main_v374 (F := Ideal) x0 x1 x2 x3 (ix5 n b h i 0) := by
  have h2 : val_main_cst_68 (F := Ideal) (Shape.Idx.first h_S_) = (0 : EReal) := ofBits_zero
  rw [val_main_v377_apply, h2]
  refine (zero_add _).trans ((Fin.sum_univ_one _).trans (congrArg _ (eq_ix5 _)))

theorem one16' (n : Fin 16) (b : Fin 2) (h : Fin 8) (i : Fin 128) :
    val_main_v385 (F := Ideal) x0 x1 x2 x3 (ix4 n b h i) = val_main_v384 (F := Ideal) x0 x1 x2 x3 (ix5 n b h i 0) := by
  have h2 : val_main_cst_70 (F := Ideal) (Shape.Idx.first h_S_) = (0 : EReal) := ofBits_zero
  rw [val_main_v385_apply, h2]
  refine (zero_add _).trans ((Fin.sum_univ_one _).trans (congrArg _ (eq_ix5 _)))

theorem fac16 (n : Fin 16) (b : Fin 2) (h : Fin 8) (i : Fin 128) (j : Fin 256) :
    val_main_v379 (F := Ideal) x0 x1 x2 x3 (ix5 n b h i j) = facE (fun j => val_main_v365 (F := Ideal) x0 x1 x2 x3 (ix5 n b h i j)) (fun j => val_main_v254 (F := Ideal) x0 x1 (ix5 n b h i j))
      (val_main_v255 (F := Ideal) x0 x1 (ix4 n b h i)) (val_main_v357 (F := Ideal) x0 x1 x2 x3 (ix4 n b h i)) j := by
  have h1 : val_main_v375 (F := Ideal) x0 x1 (ix5 n b h i j) = val_main_v256 (F := Ideal) x0 x1 (ix5 n b h i 0) := by pointwise [val_main_v375]
  have h2 : val_main_v378 (F := Ideal) x0 x1 x2 x3 (ix5 n b h i j) = val_main_v377 (F := Ideal) x0 x1 x2 x3 (ix4 n b h i) := by pointwise [val_main_v378]
  rw [val_main_v379_apply, val_main_v376_apply, h1, h2, one16, val_main_v374_apply, val_main_v363_apply, bdl16, den16, sub16]
  rfl

/-- The gradient of a score, the maximum held fixed. -/
theorem free16 (hq : Holds x0 (stream 1 q)) (hk : Holds x1 (stream 1 k)) (hv : Holds x2 (stream 1 v)) (hd : Holds x3 (stream 1 da)) (n : Fin 16) (b : Fin 2) (h : Fin 8) (i : Fin 128) (j : Fin 256) :
    val_main_v380 (F := Ideal) x0 x1 x2 x3 (ix5 n b h i j)
      = ((ewB 16 q k n.val b.val h.val i.val j.val / zB 16 q k n.val b.val h.val i.val * (gB 16 q k v da n.val b.val h.val i.val j.val + logB 16 q k v da n.val b.val h.val i.val
        - ∑ j' : Fin 256, ewB 16 q k n.val b.val h.val i.val j'.val / zB 16 q k n.val b.val h.val i.val * gB 16 q k v da n.val b.val h.val i.val j'.val) : ℝ) : EReal) := by
  obtain ⟨μ, -, he, hz⟩ := row16 hq hk n b h i
  rw [val_main_v380_apply, fac16, Ideal.mulf_def]
  exact row_free (w := fun j : Fin 256 => ewB 16 q k n.val b.val h.val i.val j.val) (g := fun j : Fin 256 => gB 16 q k v da n.val b.val h.val i.val j.val)
    (zR_pos b.val (qB 16 q n.val b.val) (kB 16 k n.val b.val) h.val i) (Real.exp_pos (-μ)) he hz (dlb16 hq hk hv hd n b h i) (fun j => dpr16 hq hk hv hd n b h i j) j

/-- The maximum takes no gradient. -/
theorem top16 (hq : Holds x0 (stream 1 q)) (hk : Holds x1 (stream 1 k)) (hv : Holds x2 (stream 1 v)) (hd : Holds x3 (stream 1 da)) (n : Fin 16) (b : Fin 2) (h : Fin 8) (i : Fin 128) :
    val_main_v385 (F := Ideal) x0 x1 x2 x3 (ix4 n b h i) = (0 : EReal) := by
  obtain ⟨μ, -, he, hz⟩ := row16 hq hk n b h i
  have h1 : val_main_v383 (F := Ideal) x0 x1 x2 x3 (ix5 n b h i 0) = val_main_v382 (F := Ideal) x0 x1 x2 x3 (ix4 n b h i) := by pointwise [val_main_v383]
  have h2 : val_main_cst_69 (F := Ideal) (Shape.Idx.first h_S_) = (0 : EReal) := ofBits_zero
  have h3 : val_main_v382 (F := Ideal) x0 x1 x2 x3 (ix4 n b h i) = ∑ j : Fin 256, (-(val_main_v380 (F := Ideal) x0 x1 x2 x3 (ix5 n b h i j) : EReal) : EReal) := by
    rw [val_main_v382_apply, h2]
    refine (zero_add _).trans (Finset.sum_congr rfl fun j _ => ?_)
    rw [show idx_main_v382 (ix4 n b h i) j = ix5 n b h i j from eq_ix5 _, val_main_v381_apply]
    rfl
  rw [one16', val_main_v384_apply, bdl16, h1, h3]
  exact row_max (w := fun j : Fin 256 => ewB 16 q k n.val b.val h.val i.val j.val) (g := fun j : Fin 256 => gB 16 q k v da n.val b.val h.val i.val j.val)
    (zR_pos b.val (qB 16 q n.val b.val) (kB 16 k n.val b.val) h.val i) (Real.exp_pos (-μ)) rfl he hz (dlb16 hq hk hv hd n b h i) (fun j => dpr16 hq hk hv hd n b h i j)
    (fun j => free16 hq hk hv hd n b h i j)

theorem cnt16 (n : Fin 16) (b : Fin 2) (h : Fin 8) (i : Fin 128) : val_main_v250 (F := Ideal) x0 x1 (ix4 n b h i) ≠ (0 : EReal) := by
  have h2 : val_main_cst_49 (F := Ideal) (Shape.Idx.first h_S_) = (0 : EReal) := ofBits_zero
  have h3 : val_main_v245 (F := Ideal) x0 x1 (ix4 n b h i) = Finset.fold max (⊥ : EReal) (fun j : Fin 256 => val_main_v244_0 (F := Ideal) x0 x1 (ix5 n b h i j)) Finset.univ := by
    pointwise [val_main_v245, val_main_cst_48]
    rw [ofBits_ninf]
  rw [val_main_v250_apply, h2]
  refine fun h0 => count_ne_zero (fun j : Fin 256 => val_main_v244_0 (F := Ideal) x0 x1 (ix5 n b h i j)) (Eq.trans ?_ ((zero_add _).symm.trans h0))
  refine Finset.sum_congr rfl fun j _ => ?_
  have h4 : val_main_v247 (F := Ideal) x0 x1 (ix5 n b h i j) = val_main_v245 (F := Ideal) x0 x1 (ix4 n b h i) := by
    pointwise [val_main_v247, val_main_v246]
  rw [show idx_main_v250 (ix4 n b h i) j = ix5 n b h i j from eq_ix5 _, val_main_v249_apply, val_main_v248_apply, h4, h3]
  exact (eq_word _ _).symm

/-- The gradient of a score. -/
theorem dsc16 (hq : Holds x0 (stream 1 q)) (hk : Holds x1 (stream 1 k)) (hv : Holds x2 (stream 1 v)) (hd : Holds x3 (stream 1 da)) (n : Fin 16) (b : Fin 2) (h : Fin 8) (i : Fin 128) (j : Fin 256) :
    val_main_v392 (F := Ideal) x0 x1 x2 x3 (ix5 n b h i j) = ((dB 16 q k v da (attnT q k v) (lseT q k) n.val b.val h.val i.val j.val * (1 / 8) : ℝ) : EReal) := by
  have h1 : val_main_v391 (F := Ideal) (ix5 n b h i j) = ((1 / 8 : ℝ) : EReal) := by
    rw [val_main_v391_apply]
    exact ofBits_eighth
  have h2 : val_main_v387 (F := Ideal) x0 x1 x2 x3 (ix5 n b h i j) = val_main_v386 (F := Ideal) x0 x1 x2 x3 (ix4 n b h i) := by pointwise [val_main_v387]
  have h3 : val_main_v388 (F := Ideal) x0 x1 x2 x3 (ix5 n b h i j) = (0 : EReal) := by
    rw [val_main_v388_apply, h2, val_main_v386_apply, top16 hq hk hv hd, Ideal.hostDivf_def, div_zero_left (cnt16 n b h i), Ideal.mulf_def]
    exact zero_mul _
  have h4 : val_main_call12_v0 (F := Ideal) (ix5 n b h i j) = (0 : EReal) := by
    rw [val_main_call12_v0_apply]
    exact ofBits_zero
  have h5 : val_main_v390 (F := Ideal) x0 x1 x2 x3 (ix5 n b h i j) = ((dB 16 q k v da (attnT q k v) (lseT q k) n.val b.val h.val i.val j.val : ℝ) : EReal) := by
    rw [val_main_v390_apply, mask16, select_if, val_main_v389_apply, h3, h4, free16 hq hk hv hd, score_grad' 16 n.val b.val i.val n.isLt i.isLt]
    by_cases hb : bandP b.val i.val j.val
    · rw [if_pos hb]
      exact add_zero _
    · rw [if_neg hb]
      unfold dB dR pR
      rw [if_neg hb, zero_mul]
      rfl
  rw [val_main_v392_apply, h5, h1, Ideal.mulf_def, ← EReal.coe_mul]

theorem dqk16 (hq : Holds x0 (stream 1 q)) (hk : Holds x1 (stream 1 k)) (hv : Holds x2 (stream 1 v)) (hd : Holds x3 (stream 1 da)) (n : Fin 16) (b : Fin 2) (i : Fin 128) (h : Fin 8) (e : Fin 64) :
    val_main_v396 (F := Ideal) x0 x1 x2 x3 (ix5 n b i h e) = ((dqB 16 q k v da (attnT q k v) (lseT q k) n.val b.val i.val (64 * h.val + e.val) : ℝ) : EReal) := by
  rw [val_main_v396_apply, show idx_main_v396 (ix5 n b i h e) = ix5 n b h i e from eq_ix5 _, val_main_v395_apply]
  refine (sum_eq_coe _ (f := fun j : Fin 256 => dB 16 q k v da (attnT q k v) (lseT q k) n.val b.val h.val i.val j.val * (1 / 8) * kz 16 k n.val b.val j.val (64 * h.val + e.val)) fun j => ?_).trans (coe_of ?_)
  · rw [show lidx_main_v395 (ix5 n b h i e) j = ix5 n b h i j from eq_ix5 _, show ridx_main_v395 (ix5 n b h i e) j = ix5 n b j h e from eq_ix5 _,
      dsc16 hq hk hv hd, kc16 hk, ← EReal.coe_mul]
  · unfold dqB
    rw [show (64 * h.val + e.val) / 64 = h.val by omega, Finset.sum_mul]
    refine Finset.sum_congr rfl fun j _ => ?_
    rw [← grad_kz]
    ring

theorem dkc16 (hq : Holds x0 (stream 1 q)) (hk : Holds x1 (stream 1 k)) (hv : Holds x2 (stream 1 v)) (hd : Holds x3 (stream 1 da)) (n : Fin 16) (b : Fin 2) (j : Fin 256) (h : Fin 8) (e : Fin 64) :
    val_main_v394 (F := Ideal) x0 x1 x2 x3 (ix5 n b j h e) = ((dkB 16 q k v da (attnT q k v) (lseT q k) 0 n.val b.val j.val (64 * h.val + e.val) : ℝ) : EReal) := by
  rw [val_main_v394_apply, show idx_main_v394 (ix5 n b j h e) = ix5 n b h j e from eq_ix5 _, val_main_v393_apply]
  refine (sum_eq_coe _ (f := fun i : Fin 128 => dB 16 q k v da (attnT q k v) (lseT q k) n.val b.val h.val i.val j.val * (1 / 8) * blk 16 n.val b.val q i.val (64 * h.val + e.val)) fun i => ?_).trans (coe_of ?_)
  · rw [show lidx_main_v393 (ix5 n b h j e) i = ix5 n b h i j from eq_ix5 _, show ridx_main_v393 (ix5 n b h j e) i = ix5 n b i h e from eq_ix5 _,
      dsc16 hq hk hv hd, qb16 hq, ← EReal.coe_mul]
  · unfold dkB
    rw [show (64 * h.val + e.val) / 64 = h.val by omega, Nat.zero_add]
    refine Finset.sum_congr rfl fun i _ => ?_
    unfold qB eighth
    ring

theorem dvc16 (hq : Holds x0 (stream 1 q)) (hk : Holds x1 (stream 1 k)) (hd : Holds x3 (stream 1 da)) (n : Fin 16) (b : Fin 2) (j : Fin 256) (h : Fin 8) (e : Fin 64) :
    val_main_v367 (F := Ideal) x0 x1 x3 (ix5 n b j h e) = ((dvB 16 q k da (lseT q k) 0 n.val b.val j.val (64 * h.val + e.val) : ℝ) : EReal) := by
  rw [val_main_v367_apply, show idx_main_v367 (ix5 n b j h e) = ix5 n b h e j from eq_ix5 _, val_main_v366_apply]
  refine (sum_eq_coe _ (f := fun i : Fin 128 => wT 16 q k ((128 * b.val + i.val) * 16 + n.val) h.val * da ((128 * b.val + i.val) * 16 + n.val) (64 * h.val + e.val)
      * (ewB 16 q k n.val b.val h.val i.val j.val / zB 16 q k n.val b.val h.val i.val)) fun i => ?_).trans (coe_of ?_)
  · rw [show lidx_main_v366 (ix5 n b h e j) i = ix5 n b h e i from eq_ix5 _, show ridx_main_v366 (ix5 n b h e j) i = ix5 n b h i j from eq_ix5 _,
      dot_out16 hq hk hd, prob16 hq hk, ← EReal.coe_mul]
    rfl
  · unfold dvB
    rw [show (64 * h.val + e.val) / 64 = h.val by omega, Nat.zero_add]
    exact Finset.sum_congr rfl fun i _ => prob_grad 16 n.val b.val i.val n.isLt i.isLt q k da h.val j.val _

theorem fold_time16 (g : ℕ → ℕ → ℕ → ℕ → ℕ → ℝ) (hg : ∀ o n b j c, g o n b j c = g 0 n b (o + j) c) (t : ℕ) (ht : t < 4096) (c : ℕ) :
    byTime 16 (g 128) t c + shift 2048 (byTime 16 (g 0)) t c
      = g 0 (t % 16) (t / 16 / 128) (128 + t / 16 % 128) c + (if t / 16 / 128 + 1 < 2 then g 0 (t % 16) (1 + t / 16 / 128) (t / 16 % 128) c else 0) := by
  unfold shift byTime
  rw [hg 128]
  refine congrArg₂ _ rfl ?_
  by_cases h : t / 16 / 128 + 1 < 2
  · rw [if_pos h, if_pos (by omega), show (t + 2048) % 16 = t % 16 by omega, show (t + 2048) / 16 / 128 = 1 + t / 16 / 128 by omega, show (t + 2048) / 16 % 128 = t / 16 % 128 by omega]
  · rw [if_neg h, if_neg (by omega)]

/-- The queries' gradient. -/
theorem refDq16 (hq : Holds x0 (stream 1 q)) (hk : Holds x1 (stream 1 k)) (hv : Holds x2 (stream 1 v)) (hd : Holds x3 (stream 1 da)) (t : Fin 4096) (h : Fin 8) (e : Fin 64) :
    val_main_v423 (F := Ideal) x0 x1 x2 x3 (ix4 0 t h e) = ((dqT 16 q k v da t.val (64 * h.val + e.val) : ℝ) : EReal) := by
  refine Eq.trans (b := val_main_v396 (F := Ideal) x0 x1 x2 x3 (ix5 ⟨t.val % 16, by omega⟩ ⟨t.val / 16 / 128, by omega⟩ ⟨t.val / 16 % 128, by omega⟩ h e)) ?_ (dqk16 hq hk hv hd _ _ _ _ _)
  pointwise [val_main_v423, val_main_v422, val_main_v421, val_main_v420, val_main_call15_v0, val_main_call15_cst, val_main_v419]
  exact dif_pos (by omega)

/-- The keys' gradient. -/
theorem refDk16 (hq : Holds x0 (stream 1 q)) (hk : Holds x1 (stream 1 k)) (hv : Holds x2 (stream 1 v)) (hd : Holds x3 (stream 1 da)) (t : Fin 4096) (h : Fin 8) (e : Fin 64) :
    val_main_v418 (F := Ideal) x0 x1 x2 x3 (ix4 0 t h e) = ((dkT 16 128 q k v da t.val (64 * h.val + e.val) + shift 2048 (dkT 16 0 q k v da) t.val (64 * h.val + e.val) : ℝ) : EReal) := by
  have h1 : val_main_v418 (F := Ideal) x0 x1 x2 x3 (ix4 0 t h e) = val_main_v413 (F := Ideal) x0 x1 x2 x3 (ix5 ⟨t.val % 16, by omega⟩ ⟨t.val / 16 / 128, by omega⟩ ⟨t.val / 16 % 128, by omega⟩ h e) := by
    pointwise [val_main_v418, val_main_v417, val_main_v416, val_main_v415, val_main_call14_v0, val_main_call14_cst, val_main_v414]
    exact dif_pos (by omega)
  have h2 : val_main_v409 (F := Ideal) x0 x1 x2 x3 (ix5 ⟨t.val % 16, by omega⟩ ⟨t.val / 16 / 128, by omega⟩ ⟨t.val / 16 % 128, by omega⟩ h e) = val_main_v394 (F := Ideal) x0 x1 x2 x3 (ix5 ⟨t.val % 16, by omega⟩ ⟨t.val / 16 / 128, by omega⟩ ⟨128 + t.val / 16 % 128, by omega⟩ h e) := by
    pointwise [val_main_v409]
  have h3 : val_main_v412 (F := Ideal) x0 x1 x2 x3 (ix5 ⟨t.val % 16, by omega⟩ ⟨t.val / 16 / 128, by omega⟩ ⟨t.val / 16 % 128, by omega⟩ h e) = if hb : t.val / 16 / 128 + 1 < 2 then val_main_v394 (F := Ideal) x0 x1 x2 x3 (ix5 ⟨t.val % 16, by omega⟩ ⟨1 + t.val / 16 / 128, by omega⟩ ⟨t.val / 16 % 128, by omega⟩ h e) else (0 : EReal) := by
    pointwise [val_main_v412, val_main_v411, val_main_v408, val_main_cst_73]
    refine dite_same ?_ fun _ _ => rfl
    omega
  rw [h1, val_main_v413_apply, h2, h3]
  refine Eq.trans ?_ (coe_of (fold_time16 (dkB 16 q k v da (attnT q k v) (lseT q k)) (fun o n b j c => by unfold dkB; simp only [Nat.zero_add]) t.val t.isLt (64 * h.val + e.val)).symm)
  rw [EReal.coe_add, dkc16 hq hk hv hd]
  refine congrArg (fun z : EReal => _ + z) ?_
  by_cases hb : t.val / 16 / 128 + 1 < 2
  · rw [dif_pos hb, if_pos hb, dkc16 hq hk hv hd]
  · rw [dif_neg hb, if_neg hb]
    rfl

/-- The values' gradient. -/
theorem refDv16 (hq : Holds x0 (stream 1 q)) (hk : Holds x1 (stream 1 k)) (hd : Holds x3 (stream 1 da)) (t : Fin 4096) (h : Fin 8) (e : Fin 64) :
    val_main_v407 (F := Ideal) x0 x1 x3 (ix4 0 t h e) = ((dvT 16 128 q k da t.val (64 * h.val + e.val) + shift 2048 (dvT 16 0 q k da) t.val (64 * h.val + e.val) : ℝ) : EReal) := by
  have h1 : val_main_v407 (F := Ideal) x0 x1 x3 (ix4 0 t h e) = val_main_v402 (F := Ideal) x0 x1 x3 (ix5 ⟨t.val % 16, by omega⟩ ⟨t.val / 16 / 128, by omega⟩ ⟨t.val / 16 % 128, by omega⟩ h e) := by
    pointwise [val_main_v407, val_main_v406, val_main_v405, val_main_v404, val_main_call13_v0, val_main_call13_cst, val_main_v403]
    exact dif_pos (by omega)
  have h2 : val_main_v398 (F := Ideal) x0 x1 x3 (ix5 ⟨t.val % 16, by omega⟩ ⟨t.val / 16 / 128, by omega⟩ ⟨t.val / 16 % 128, by omega⟩ h e) = val_main_v367 (F := Ideal) x0 x1 x3 (ix5 ⟨t.val % 16, by omega⟩ ⟨t.val / 16 / 128, by omega⟩ ⟨128 + t.val / 16 % 128, by omega⟩ h e) := by
    pointwise [val_main_v398]
  have h3 : val_main_v401 (F := Ideal) x0 x1 x3 (ix5 ⟨t.val % 16, by omega⟩ ⟨t.val / 16 / 128, by omega⟩ ⟨t.val / 16 % 128, by omega⟩ h e) = if hb : t.val / 16 / 128 + 1 < 2 then val_main_v367 (F := Ideal) x0 x1 x3 (ix5 ⟨t.val % 16, by omega⟩ ⟨1 + t.val / 16 / 128, by omega⟩ ⟨t.val / 16 % 128, by omega⟩ h e) else (0 : EReal) := by
    pointwise [val_main_v401, val_main_v400, val_main_v397, val_main_cst_72]
    refine dite_same ?_ fun _ _ => rfl
    omega
  rw [h1, val_main_v402_apply, h2, h3]
  refine Eq.trans ?_ (coe_of (fold_time16 (dvB 16 q k da (lseT q k)) (fun o n b j c => by unfold dvB; simp only [Nat.zero_add]) t.val t.isLt (64 * h.val + e.val)).symm)
  rw [EReal.coe_add, dvc16 hq hk hd]
  refine congrArg (fun z : EReal => _ + z) ?_
  by_cases hb : t.val / 16 / 128 + 1 < 2
  · rw [dif_pos hb, if_pos hb, dvc16 hq hk hd]
  · rw [dif_neg hb, if_neg hb]
    rfl

end Cert.K.Attn

end
-- ==== Proof.Attn.Agree.lean ====
/- The reference's four results, by time, and what the precondition says of the arguments. -/
module

public import proofs.«01_k».proof.Proof.Attn.Grad1
public import proofs.«01_k».proof.Proof.Attn.Grad4
public import proofs.«01_k».proof.Proof.Attn.Grad16
public import proofs.«01_k».proof.Proof.Finite
public import proofs.«01_k».proof.Proof.Gen.Pre_attn_finite

@[expose] public section

set_option maxRecDepth 16384

noncomputable section

open Idealize.ShloMosaic Idealize.ShloMosaic.TcCoe Idealize.SL.Sem

namespace Cert.K.Attn

section
open Cert.AttnReferenceIdeal Cert.AttnReferenceIdeal.Gen Cert.AttnReferenceIdeal.Read

variable {x0 x1 x2 x3 : FVec Ideal S4096x512 .f32} {q k v da : ℕ → ℕ → ℝ}

theorem stream_lane (f : ℕ → ℕ → ℝ) (t : Fin 4096) (c : Fin 512) : f t.val (64 * (c.val / 64) + c.val % 64) = stream 1 f t.val c.val := by
  unfold stream
  congr 1 <;> omega

/-- The values' gradient. -/
theorem refDv (hq : Holds x0 (stream 1 q)) (hk : Holds x1 (stream 1 k)) (hd : Holds x3 (stream 1 da)) :
    Holds (show FVec Ideal S4096x512 .f32 from val_main_v574 (F := Ideal) x0 x1 x3) (stream 1 (dV q k da)) := fun t c => by
  refine Eq.trans (b := val_main_v555 (F := Ideal) x0 x1 x3 (ix4 0 t ⟨c.val / 64, by omega⟩ ⟨c.val % 64, by omega⟩)) ?_ ?_
  · show val_main_v574 (F := Ideal) x0 x1 x3 (ix2 t c) = _
    pointwise [val_main_v574]
  · rw [← stream_lane, val_main_v555_apply, val_main_v479_apply, refDv1 hq hk hd, refDv4 hq hk hd, refDv16 hq hk hd, Ideal.addf_def, Ideal.addf_def, ← EReal.coe_add, ← EReal.coe_add]
    refine coe_of ?_
    unfold dV
    ring

/-- The keys' gradient. -/
theorem refDk (hq : Holds x0 (stream 1 q)) (hk : Holds x1 (stream 1 k)) (hv : Holds x2 (stream 1 v)) (hd : Holds x3 (stream 1 da)) :
    Holds (show FVec Ideal S4096x512 .f32 from val_main_v575 (F := Ideal) x0 x1 x2 x3) (stream 1 (dK q k v da)) := fun t c => by
  refine Eq.trans (b := val_main_v567 (F := Ideal) x0 x1 x2 x3 (ix4 0 t ⟨c.val / 64, by omega⟩ ⟨c.val % 64, by omega⟩)) ?_ ?_
  · show val_main_v575 (F := Ideal) x0 x1 x2 x3 (ix2 t c) = _
    pointwise [val_main_v575]
  · rw [← stream_lane, val_main_v567_apply, val_main_v491_apply, refDk1 hq hk hv hd, refDk4 hq hk hv hd, refDk16 hq hk hv hd, Ideal.addf_def, Ideal.addf_def, ← EReal.coe_add, ← EReal.coe_add]
    refine coe_of ?_
    unfold dK
    ring

/-- The queries' gradient. -/
theorem refDq (hq : Holds x0 (stream 1 q)) (hk : Holds x1 (stream 1 k)) (hv : Holds x2 (stream 1 v)) (hd : Holds x3 (stream 1 da)) :
    Holds (show FVec Ideal S4096x512 .f32 from val_main_v576 (F := Ideal) x0 x1 x2 x3) (stream 1 (dQ q k v da)) := fun t c => by
  refine Eq.trans (b := val_main_v573 (F := Ideal) x0 x1 x2 x3 (ix4 0 t ⟨c.val / 64, by omega⟩ ⟨c.val % 64, by omega⟩)) ?_ ?_
  · show val_main_v576 (F := Ideal) x0 x1 x2 x3 (ix2 t c) = _
    pointwise [val_main_v576]
  · rw [← stream_lane, val_main_v573_apply, val_main_v497_apply, refDq1 hq hk hv hd, refDq4 hq hk hv hd, refDq16 hq hk hv hd, Ideal.addf_def, Ideal.addf_def, ← EReal.coe_add, ← EReal.coe_add]
    refine coe_of ?_
    unfold dQ
    ring

/-- The number an argument holds. -/
def rd (x : FVec Ideal S4096x512 .f32) (t c : ℕ) : ℝ := if h : t < 4096 ∧ c < 512 then (show EReal from x (ix2 ⟨t, h.1⟩ ⟨c, h.2⟩)).toReal else 0

theorem holds_rd (x : FVec Ideal S4096x512 .f32) (h : ∀ i, IsReal (x i)) : Holds x (stream 1 (rd x)) := fun t c => by
  obtain ⟨r, hr⟩ := h (ix2 t c)
  rw [← stream_lane, show 64 * (c.val / 64) + c.val % 64 = c.val by omega]
  unfold rd
  rw [dif_pos ⟨t.isLt, c.isLt⟩]
  show x (ix2 t c) = _
  rw [hr, EReal.toReal_coe]

theorem holds_unique {x y : FVec Ideal S4096x512 .f32} {f : ℕ → ℕ → ℝ} (hx : Holds x f) (hy : Holds y f) : x = y := by
  funext i
  rw [eq_ix2 i]
  exact (hx _ _).trans (hy _ _).symm
end

section
open Cert.Pre_attn_finite
/-- The precondition says that the four arrays are finite. -/
theorem finite (q k v da : FVec Ideal S4096x512 .f32) (h : Cert.Pre_attn_finite.fn (F := Ideal) q k v da = fun _ => 1#1) :
    (∀ i, IsReal (q i)) ∧ (∀ i, IsReal (k i)) ∧ (∀ i, IsReal (v i)) ∧ (∀ i, IsReal (da i)) := by
  have e := congrFun h (fun a => a.elim0)
  dsimp only [Cert.Pre_attn_finite.fn, Cert.Pre_attn_finite.fn_part1] at e
  have e1 := andi_left e
  have e2 := andi_left e1
  exact ⟨isReal_of_all _ _ _ _ _ _ _ (andi_left e2), isReal_of_all _ _ _ _ _ _ _ (andi_right e2), isReal_of_all _ _ _ _ _ _ _ (andi_right e1), isReal_of_all _ _ _ _ _ _ _ (andi_right e)⟩
end

end Cert.K.Attn

end
-- ==== Proof.Attn.Claim.lean ====
/- The attention's output and its three gradients: the claim. -/
module

public import proofs.«01_k».proof.Proof.Attn.Run
public import proofs.«01_k».proof.Proof.Attn.Gradients
public import proofs.«01_k».proof.Proof.Attn.Agree
public import proofs.«01_k».proof.Defs
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.K.Attn

theorem preserves : Cert.preserves_AttnKernel_AttnKernelIdeal := IdealRules.named_const.statement Cert.AttnKernelIdeal.κ "mask" .f32 _ ⊥ rfl

section
variable (m : (ℓ : Loc Cert.AttnKernelIdeal.nD Cert.AttnKernelIdeal.τ Cert.AttnKernelIdeal.sig) → Buf (Elt Ideal) ℓ) (g : Dev Cert.AttnKernelIdeal.nD → PrngReg)
  (c : Dev Cert.AttnKernelIdeal.nD) (x0 x1 x2 x3 : FVec Ideal Cert.AttnReferenceIdeal.S4096x512 .f32)
  (h0 : ∀ i, IsReal (x0 i)) (h1 : ∀ i, IsReal (x1 i)) (h2 : ∀ i, IsReal (x2 i)) (h3 : ∀ i, IsReal (x3 i))
  (e0 : x0 = m ((c.tc : Thread Cert.AttnKernelIdeal.nD Cert.AttnKernelIdeal.τ).loc Cert.AttnKernelIdeal.main_arg0))
  (e1 : x1 = m ((c.tc : Thread Cert.AttnKernelIdeal.nD Cert.AttnKernelIdeal.τ).loc Cert.AttnKernelIdeal.main_arg1))
  (e2 : x2 = m ((c.tc : Thread Cert.AttnKernelIdeal.nD Cert.AttnKernelIdeal.τ).loc Cert.AttnKernelIdeal.main_arg2))
  (e3 : x3 = m ((c.tc : Thread Cert.AttnKernelIdeal.nD Cert.AttnKernelIdeal.τ).loc Cert.AttnKernelIdeal.main_arg3))
include h0 h1 h2 h3 e0 e1 e2 e3

open Cert.AttnReferenceIdeal.Read Cert.AttnKernelIdeal.Gen in
/-- The two programs' results agree. -/
theorem agree :
    val_main_v317 (F := Ideal) x0 x1 x2 = W11 m g c (Proc.devRef .tc Cert.AttnKernelIdeal.main_v37)
    ∧ val_main_v576 (F := Ideal) x0 x1 x2 x3 = W11 m g c (Proc.devRef .tc Cert.AttnKernelIdeal.main_v91)
    ∧ val_main_v575 (F := Ideal) x0 x1 x2 x3 = W11 m g c (Proc.devRef .tc Cert.AttnKernelIdeal.main_v100)
    ∧ val_main_v574 (F := Ideal) x0 x1 x3 = W11 m g c (Proc.devRef .tc Cert.AttnKernelIdeal.main_v109) := by
  have k0 := holds_rd x0 h0
  have k1 := holds_rd x1 h1
  have k2 := holds_rd x2 h2
  have k3 := holds_rd x3 h3
  have l0 := holds_rd x0 h0
  have l1 := holds_rd x1 h1
  have l2 := holds_rd x2 h2
  have l3 := holds_rd x3 h3
  generalize rd x0 = q at *
  generalize rd x1 = k at *
  generalize rd x2 = v at *
  generalize rd x3 = da at *
  rw [e0] at k0
  rw [e1] at k1
  rw [e2] at k2
  rw [e3] at k3
  exact ⟨holds_unique (refAttn l0 l1 l2) (W11_v37 m g c k0 k1 k2 k3), holds_unique (refDq l0 l1 l2 l3) (W11_v91 m g c k0 k1 k2 k3),
    holds_unique (refDk l0 l1 l2 l3) (W11_v100 m g c k0 k1 k2 k3), holds_unique (refDv l0 l1 l3) (W11_v109 m g c k0 k1 k2 k3)⟩
end

theorem algebraic : Cert.algebraic_AttnKernelIdeal_AttnReferenceIdeal_pre_attn_finite := by
  pair_intro
  · run_from Cert.K.Attn.run_named m g
  · refine (θ_run Cert.AttnReferenceIdeal.defs _ _).mono (fun r h c => ?_) (Cert.AttnReferenceIdeal.Value.run m' g')
    obtain ⟨r0, r1, r2, r3, rest⟩ := h c
    obtain ⟨h0, h1, h2, h3⟩ := finite _ _ _ _ (hpre c)
    obtain ⟨e0, e1, e2, e3⟩ := hagree c
    rw [← e0] at h0
    rw [← e1] at h1
    rw [← e2] at h2
    rw [← e3] at h3
    obtain ⟨a0, a1, a2, a3⟩ := agree m g c _ _ _ _ h0 h1 h2 h3 e0 e1 e2 e3
    exact ⟨r0.trans ((Cert.AttnReferenceIdeal.Read.val_main_v317_eq _).trans a0), r1.trans ((Cert.AttnReferenceIdeal.Read.val_main_v576_eq _).trans a1),
      r2.trans ((Cert.AttnReferenceIdeal.Read.val_main_v575_eq _).trans a2), r3.trans ((Cert.AttnReferenceIdeal.Read.val_main_v574_eq _).trans a3), rest⟩

end Cert.K.Attn

end
-- ==== Proof.Ffn.Run.lean ====
/- The run of the two regions of the gate's program: every array ends at the last valuation of the chain. -/
module

public import proofs.«01_k».proof.Proof.Gen.FfnActKernelIdeal.Frame
public import Idealize.ShloMosaic.Lib.Pipeline.ValueKit

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.K.Ffn

open Cert.FfnActKernelIdeal Cert.FfnActKernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with each array of the core at `W3`: the host's casts, then what the two
    pipelines leave. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

/-- The result and the arguments, by name. -/
theorem run_named : θ_run defs (onTc (τ := τ) (main (F := F))) ⟨m, fun _ => 0, ρ⟩ (fun r => ∀ c : Dev nD,
      r.2.mem ((c.tc : Thread nD τ).loc main_v7) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v7 (by decide))).trans (W3_arr m ρ c 3),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c)⟩)
    (run_main m ρ)

end Cert.K.Ffn

end
-- ==== Proof.Ffn.Value.lean ====
/- What the two pipelines of the gate's program leave, in terms of the arguments. -/
module

public import proofs.«01_k».proof.Proof.Gen.FfnActKernelIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.K.Ffn

open Cert.FfnActKernelIdeal Cert.FfnActKernelIdeal.Gen

variable (m : (ℓ : Loc nD τ sig) → Buf (Elt Ideal) ℓ) (ρ : Dev nD → PrngReg)

/-- The gate and the up projection side by side. -/
def GU (n : FVec Ideal S4096x1024 .f32) (wg wu : FVec Ideal S1024x2816 .f32) : FVec Ideal S4096x5632 .bf16 := fun i =>
  if h : (i 1).val < 2816 then ∑ k : Fin 1024, n (ix2 (i 0) k) * wg (ix2 k ⟨(i 1).val, h⟩)
  else ∑ k : Fin 1024, n (ix2 (i 0) k) * wu (ix2 k ⟨(i 1).val - 2816, by have := (i 1).isLt; simp [Shape.Coord] at *; omega⟩)

/-- One entry of the gate's gradient, `a` the cotangent of the product and `gate`, `up` the two projections. -/
def dGate (a gate up : EReal) : EReal :=
  a * up * Ideal.div 1 (1 + Ideal.exp (0 - gate)) * (1 + gate * (1 - Ideal.div 1 (1 + Ideal.exp (0 - gate))))
def dUp (a gate : EReal) : EReal := a * gate * Ideal.div 1 (1 + Ideal.exp (0 - gate))

/-- The two gradients side by side, over the cotangent, the down projection and the two projections. -/
def DGU (df : FVec Ideal S4096x1024 .f32) (wd : FVec Ideal S2816x1024 .f32) (gu : FVec Ideal S4096x5632 .bf16) : FVec Ideal S4096x5632 .bf16 := fun i =>
  if h : (i 1).val < 2816 then
    dGate (∑ k : Fin 1024, df (ix2 (i 0) k) * wd (ix2 ⟨(i 1).val, h⟩ k)) (gu (ix2 (i 0) ⟨(i 1).val, by omega⟩)) (gu (ix2 (i 0) ⟨2816 + (i 1).val, by omega⟩))
  else dUp (∑ k : Fin 1024, df (ix2 (i 0) k) * wd (ix2 ⟨(i 1).val - 2816, by have := (i 1).isLt; simp [Shape.Coord] at *; omega⟩ k))
    (gu (ix2 (i 0) ⟨(i 1).val - 2816, by have := (i 1).isLt; simp [Shape.Coord] at *; omega⟩))

theorem idx0 : ∀ t : Fin cfg0.N, win0_0.index t = ![t.val, 0] ∧ win0_1.index t = ![0, 0] ∧ win0_2.index t = ![t.val, 0] :=
  (by decide +kernel : ∀ t : Fin grid0.N, _)
theorem idx1 : ∀ t : Fin cfg1.N, win1_0.index t = ![t.val, 0] ∧ win1_1.index t = ![0, 0] ∧ win1_2.index t = ![t.val, 0] ∧ win1_3.index t = ![t.val, 0] :=
  (by decide +kernel : ∀ t : Fin grid1.N, _)

/-! ## What the host's casts leave at the first pipeline's entry -/

theorem V1_v0 (c : Dev nD) : V1 m ρ c main_v0 = truncf .bf16 (show FVec Ideal S4096x1024 .f32 from m ((c : Thread nD τ).loc main_arg0)) Cert.FfnActKernelIdeal.Gen.bitsLt_bf16_f32 := by
  dsimp only [V1, W1]
  entry_read
  rfl
theorem V1_v1 (c : Dev nD) : V1 m ρ c main_v1 = truncf .bf16 (show FVec Ideal S4096x1024 .f32 from m ((c : Thread nD τ).loc main_arg4)) Cert.FfnActKernelIdeal.Gen.bitsLt_bf16_f32 := by
  dsimp only [V1, W1]
  entry_read
  rfl
theorem V1_v5 (c : Dev nD) : V1 m ρ c main_v5 = truncf .bf16 (show FVec Ideal S2816x1024 .f32 from m ((c : Thread nD τ).loc main_arg3)) Cert.FfnActKernelIdeal.Gen.bitsLt_bf16_f32 := by
  dsimp only [V1, W1]
  entry_read
  rfl
theorem V1_v4 (c : Dev nD) (k : Fin 1024) (q : Fin 5632) : (show FVec Ideal S1024x5632 .bf16 from V1 m ρ c main_v4) (ix2 k q) =
    if h : q.val < 2816 then (show FVec Ideal S1024x2816 .f32 from m ((c : Thread nD τ).loc main_arg1)) (ix2 k ⟨q.val, h⟩)
    else (show FVec Ideal S1024x2816 .f32 from m ((c : Thread nD τ).loc main_arg2)) (ix2 k ⟨q.val - 2816, by omega⟩) := by
  dsimp only [V1, W1, W0, s₀]
  entry_read
  pointwise

/-! ## The blocks -/

section Blocks
variable (V : (c : Dev nD) → (b : Ref sig .tc) → Buf (Elt Ideal) ((c : Thread nD τ).loc b)) (c : Dev nD)

theorem lt0 (t : Fin cfg0.N) (r : Fin 256) : t.val * 256 + r.val < 4096 := by
  have := lt_of_lt_of_eq t.isLt N_0; omega
theorem lt1 (t : Fin cfg1.N) (r : Fin 256) : t.val * 256 + r.val < 4096 := by
  have := lt_of_lt_of_eq t.isLt N_1; omega

theorem blk0_0 (t : Fin cfg0.N) (r : Fin 256) (k : Fin 1024) : (show FVec Ideal S256x1024 .bf16 from iblk0 V c 0 t) (ix2 r k)
    = (show FVec Ideal S4096x1024 .bf16 from V c main_v0) (ix2 ⟨t.val * 256 + r.val, lt0 t r⟩ k) := by
  blk_ext! [iblk0, idx0 t]
theorem blk0_1 (t : Fin cfg0.N) (k : Fin 1024) (q : Fin 5632) : (show FVec Ideal S1024x5632 .bf16 from iblk0 V c 1 t) (ix2 k q)
    = (show FVec Ideal S1024x5632 .bf16 from V c main_v4) (ix2 k q) := by
  blk_ext! [iblk0, idx0 t]
theorem blk1_0 (t : Fin cfg1.N) (r : Fin 256) (k : Fin 1024) : (show FVec Ideal S256x1024 .bf16 from iblk1 V c 0 t) (ix2 r k)
    = (show FVec Ideal S4096x1024 .bf16 from V c main_v1) (ix2 ⟨t.val * 256 + r.val, lt1 t r⟩ k) := by
  blk_ext! [iblk1, idx1 t]
theorem blk1_1 (t : Fin cfg1.N) (q : Fin 2816) (k : Fin 1024) : (show FVec Ideal S2816x1024 .bf16 from iblk1 V c 1 t) (ix2 q k)
    = (show FVec Ideal S2816x1024 .bf16 from V c main_v5) (ix2 q k) := by
  blk_ext! [iblk1, idx1 t]
theorem blk1_2 (t : Fin cfg1.N) (r : Fin 256) (q : Fin 5632) : (show FVec Ideal S256x5632 .bf16 from iblk1 V c 2 t) (ix2 r q)
    = (show FVec Ideal S4096x5632 .bf16 from V c main_v6_0) (ix2 ⟨t.val * 256 + r.val, lt1 t r⟩ q) := by
  blk_ext! [iblk1, idx1 t]

end Blocks

theorem emb0 (t : Fin cfg0.N) (r : Fin 256) (q : Fin 5632) :
    ((cfg0.win 2).blk t).view.emb (show S256x5632.Idx from ix2 r q) = (show S4096x5632.Idx from ix2 ⟨t.val * 256 + r.val, lt0 t r⟩ q) := by
  blk_ext [idx0 t]
theorem emb1 (t : Fin cfg1.N) (r : Fin 256) (q : Fin 5632) :
    ((cfg1.win 3).blk t).view.emb (show S256x5632.Idx from ix2 r q) = (show S4096x5632.Idx from ix2 ⟨t.val * 256 + r.val, lt1 t r⟩ q) := by
  blk_ext [idx1 t]

/-! ## The payloads at an entry -/

theorem pay_gu (x : FVec Ideal S256x1024 .bf16) (w : FVec Ideal S1024x5632 .bf16) (r : Fin 256) (q : Fin 5632) :
    k0_pay2 x w (ix2 r q) = ∑ k : Fin 1024, x (ix2 r k) * w (ix2 k q) := by
  pointwise [k0_pay2, k0_pay1]

theorem pay_dgu (x : FVec Ideal S256x1024 .bf16) (w : FVec Ideal S2816x1024 .bf16) (g : FVec Ideal S256x5632 .bf16) (r : Fin 256) (q : Fin 5632) :
    k1_pay1 (F := Ideal) x w g (ix2 r q) = if h : q.val < 2816 then
        dGate (∑ k : Fin 1024, x (ix2 r k) * w (ix2 ⟨q.val, h⟩ k)) (g (ix2 r ⟨q.val, by omega⟩)) (g (ix2 r ⟨2816 + q.val, by omega⟩))
      else dUp (∑ k : Fin 1024, x (ix2 r k) * w (ix2 ⟨q.val - 2816, by omega⟩ k)) (g (ix2 r ⟨q.val - 2816, by omega⟩)) := by
  pointwise [k1_pay1, dGate, dUp]

/-! ## The arrays -/

theorem gu_final (c : Dev nD) : (dat0 (V1 m ρ) c).arrAt 2 cfg0.N
    = GU (m ((c : Thread nD τ).loc main_arg0)) (m ((c : Thread nD τ).loc main_arg1)) (m ((c : Thread nD τ).loc main_arg2)) := by
  refine (dat0 (V1 m ρ) c).arrAt_eq_of_covers 2 _ (by decide +kernel) fun t _ y => ?_
  idx_vars y
  refine Eq.trans ?_ (congrArg (GU _ _ _) (emb0 t y0 y1)).symm
  blk_simp
  rw [after0_2]
  frame_out
  refine (pay_gu _ _ y0 y1).trans ?_
  unfold GU
  by_cases h : y1.val < 2816
  · refine Eq.trans ?_ (dif_pos h).symm
    refine Finset.sum_congr rfl fun k _ => Ideal.mul_congr ((blk0_0 _ c t y0 k).trans (congrFun (V1_v0 m ρ c) _)) ((blk0_1 _ c t k y1).trans ((V1_v4 m ρ c k y1).trans (dif_pos h)))
  · refine Eq.trans ?_ (dif_neg h).symm
    refine Finset.sum_congr rfl fun k _ => Ideal.mul_congr ((blk0_0 _ c t y0 k).trans (congrFun (V1_v0 m ρ c) _)) ((blk0_1 _ c t k y1).trans ((V1_v4 m ρ c k y1).trans (dif_neg h)))

/-- At the second pipeline's entry. -/
theorem V2_v1 (c : Dev nD) : V2 m ρ c main_v1 = V1 m ρ c main_v1 := W2_of m ρ c main_v1 (by decide +kernel)
theorem V2_v5 (c : Dev nD) : V2 m ρ c main_v5 = V1 m ρ c main_v5 := W2_of m ρ c main_v5 (by decide +kernel)
theorem V2_v6 (c : Dev nD) : V2 m ρ c main_v6_0
    = GU (m ((c : Thread nD τ).loc main_arg0)) (m ((c : Thread nD τ).loc main_arg1)) (m ((c : Thread nD τ).loc main_arg2)) :=
  (W2_arr m ρ c 2).trans (gu_final m ρ c)

theorem dgu_final (c : Dev nD) : (dat1 (V2 m ρ) c).arrAt 3 cfg1.N
    = DGU (m ((c : Thread nD τ).loc main_arg4)) (m ((c : Thread nD τ).loc main_arg3)) (V2 m ρ c main_v6_0) := by
  refine (dat1 (V2 m ρ) c).arrAt_eq_of_covers 3 _ (by decide +kernel) fun t _ y => ?_
  idx_vars y
  refine Eq.trans ?_ (congrArg (DGU _ _ _) (emb1 t y0 y1)).symm
  blk_simp
  rw [after1_3]
  frame_out
  refine (pay_dgu _ _ _ y0 y1).trans ?_
  have hs (q : Fin 2816) : (∑ k : Fin 1024, (show FVec Ideal S256x1024 .bf16 from iblk1 (V2 m ρ) c 0 t) (ix2 y0 k) * (show FVec Ideal S2816x1024 .bf16 from iblk1 (V2 m ρ) c 1 t) (ix2 q k))
      = ∑ k : Fin 1024, (show FVec Ideal S4096x1024 .f32 from m ((c : Thread nD τ).loc main_arg4)) (ix2 ⟨t.val * 256 + y0.val, lt1 t y0⟩ k)
          * (show FVec Ideal S2816x1024 .f32 from m ((c : Thread nD τ).loc main_arg3)) (ix2 q k) :=
    Finset.sum_congr rfl fun k _ => Ideal.mul_congr
      ((blk1_0 _ c t y0 k).trans (congrFun ((V2_v1 m ρ c).trans (V1_v1 m ρ c)) _))
      ((blk1_1 _ c t q k).trans (congrFun ((V2_v5 m ρ c).trans (V1_v5 m ρ c)) _))
  unfold DGU
  by_cases h : y1.val < 2816
  · refine (dif_pos h).trans (Eq.trans ?_ (dif_pos h).symm)
    exact (congr (congrArg₂ dGate (hs _) (blk1_2 _ c t y0 _)) (blk1_2 _ c t y0 _))
  · refine (dif_neg h).trans (Eq.trans ?_ (dif_neg h).symm)
    exact congrArg₂ dUp (hs _) (blk1_2 _ c t y0 _)

end Cert.K.Ffn

end
-- ==== Proof.Ffn.Agree.lean ====
/- The gate's gradient as the kernel writes it and as the derivative of `silu(gate) * up` are one number, where the
   cotangent times the up projection is finite. -/
module

public import proofs.«01_k».proof.Proof.Finite
public import proofs.«01_k».proof.Proof.Ffn.Value
public import proofs.«01_k».proof.Proof.Gen.FfnActReferenceIdeal.Read
public import proofs.«01_k».proof.Proof.Gen.Pre_ffn_finite

@[expose] public section

set_option maxRecDepth 16384

noncomputable section

open Idealize.ShloMosaic Idealize.ShloMosaic.TcCoe Idealize.SL.Sem

namespace Cert.K.Ffn

/-- The sigmoid is a real number at a real one, one at `⊤` and zero at `⊥`. -/
theorem sig_cases (g : EReal) : (∃ x s : ℝ, g = x ∧ Ideal.div 1 (1 + Ideal.exp (-g)) = (s : EReal))
    ∨ (g = ⊤ ∧ Ideal.div 1 (1 + Ideal.exp (-g)) = 1) ∨ (g = ⊥ ∧ Ideal.div 1 (1 + Ideal.exp (-g)) = 0) := by
  induction g using EReal.rec with
  | bot => exact .inr (.inr ⟨rfl, Ideal.logistic_bot⟩)
  | coe x => exact .inl ⟨x, _, rfl, Ideal.logistic_coe x⟩
  | top => exact .inr (.inl ⟨rfl, Ideal.logistic_top⟩)

theorem zero_sub' (g : EReal) : 0 - g = -g := by rw [sub_eq_add_neg, zero_add]

/-- The gate's gradient: `b` is the cotangent times the up projection. -/
theorem dGate_eq (a g u : EReal) (h : IsReal (a * u)) : dGate a g u
    = a * u * Ideal.div 1 (1 + Ideal.exp (-g)) + g * (a * u) * (Ideal.div 1 (1 + Ideal.exp (-g)) * (1 - Ideal.div 1 (1 + Ideal.exp (-g)))) := by
  unfold dGate
  rw [zero_sub']
  generalize hs : Ideal.div 1 (1 + Ideal.exp (-g)) = s
  obtain ⟨b, hb⟩ := h
  rw [hb]
  rcases sig_cases g with ⟨x, r, rfl, h⟩ | ⟨rfl, h⟩ | ⟨rfl, h⟩ <;> rw [hs] at h <;> subst h
  · have h1 : (1 : EReal) = ((1 : ℝ) : EReal) := rfl
    rw [h1]
    norm_cast
    ring
  · have : (1 : EReal) - 1 = 0 := by
      have h1 : (1 : EReal) = ((1 : ℝ) : EReal) := rfl
      rw [h1]; norm_cast
      try simp
    simp [this]
  · simp

theorem dUp_eq (a g : EReal) : dUp a g = g * Ideal.div 1 (1 + Ideal.exp (-g)) * a := by
  unfold dUp
  rw [zero_sub']
  ac_rfl

section
open Cert.FfnActReferenceIdeal Cert.FfnActReferenceIdeal.Read
/-- The reference's result is the two gradients side by side. -/
theorem reference (n : FVec Ideal S4096x1024 .f32) (wg wu : FVec Ideal S1024x2816 .f32) (wd : FVec Ideal S2816x1024 .f32) (df : FVec Ideal S4096x1024 .f32)
    (hn : ∀ i, IsReal (n i)) (hu : ∀ i, IsReal (wu i)) (hd : ∀ i, IsReal (wd i)) (hf : ∀ i, IsReal (df i)) :
    val_main_v10 (F := Ideal) n wg wu wd df = DGU df wd (GU n wg wu) := by
  funext i
  idx_vars i
  pointwise [val_main_v10, val_main_v9, val_main_v8, val_main_call1_v2, val_main_call1_v1, val_main_call1_v0, val_main_v7, val_main_v6, val_main_v5,
    val_main_v2_0, val_main_v2_1, val_main_v2_2, val_main_call0_v7, val_main_call0_v6, val_main_call0_cst_1, val_main_call0_v4, val_main_call0_cst_0, val_main_call0_v3,
    val_main_call0_v2, val_main_call0_cst, val_main_call0_v1, val_main_call0_v0, val_main_v1, val_main_v0, DGU, GU]
  by_cases h : i1.val < 2816
  · rw [dif_pos h, dif_pos h, dif_pos h]
    exact (dGate_eq _ _ _ ((IsReal.sum _ fun k => (hf _).mul (hd _)).mul (IsReal.sum _ fun k => (hn _).mul (hu _)))).symm
  · rw [dif_neg h, dif_neg h, dif_pos (by omega)]
    exact (dUp_eq _ _).symm
end

section
open Cert.Pre_ffn_finite
/-- What the precondition says of the four arrays it names. -/
theorem finite (n : FVec Ideal S4096x1024 .f32) (wg wu : FVec Ideal S1024x2816 .f32) (wd : FVec Ideal S2816x1024 .f32) (df : FVec Ideal S4096x1024 .f32)
    (h : Cert.Pre_ffn_finite.fn (F := Ideal) n wg wu wd df = fun _ => 1#1) :
    (∀ i, IsReal (n i)) ∧ (∀ i, IsReal (wu i)) ∧ (∀ i, IsReal (wd i)) ∧ (∀ i, IsReal (df i)) := by
  have e := congrFun h (fun a => a.elim0)
  dsimp only [Cert.Pre_ffn_finite.fn, Cert.Pre_ffn_finite.fn_part1] at e
  have e1 := andi_left e
  have e2 := andi_left e1
  exact ⟨isReal_of_all _ _ _ _ _ _ _ (andi_left e2), isReal_of_all _ _ _ _ _ _ _ (andi_right e2), isReal_of_all _ _ _ _ _ _ _ (andi_right e1), isReal_of_all _ _ _ _ _ _ _ (andi_right e)⟩

end

end Cert.K.Ffn

end
-- ==== Proof.Ffn.Claim.lean ====
module

public import proofs.«01_k».proof.Proof.Ffn.Run
public import proofs.«01_k».proof.Proof.Ffn.Value
public import proofs.«01_k».proof.Proof.Ffn.Agree
public import proofs.«01_k».proof.Proof.Gen.FfnActReferenceIdeal.Run
public import proofs.«01_k».proof.Proof.Gen.FfnActReferenceIdeal.Read
public import proofs.«01_k».proof.Defs
public import Idealize.ShloMosaic.Lib.Pipeline.ValueKit
public import Idealize.ShloMosaic.Lib.Claim

/-! The gradient of the feed-forward gate: the claim. -/

@[expose] public section

set_option maxRecDepth 16384

noncomputable section

open Idealize.ShloMosaic Idealize.ShloMosaic.TcCoe Idealize.SL.Sem

namespace Cert.K.Ffn

theorem algebraic : Cert.algebraic_FfnActKernelIdeal_FfnActReferenceIdeal_pre_ffn_finite := by
  pair_intro
  · run_from Cert.K.Ffn.run_named m g
  · run_from Cert.FfnActReferenceIdeal.Value.run m' g'
    rw [(hagree c).2.2.2.2]
    obtain ⟨hn, hu, hd, hf⟩ := finite _ _ _ _ _ (hpre c)
    rw [dgu_final m g c, V2_v6 m g c]
    exact (Cert.FfnActReferenceIdeal.Read.val_main_v10_eq _ _ _ _ _).trans (reference _ _ _ _ _ hn hu hd hf)

end Cert.K.Ffn

end
-- ==== Proof.Loss.Value.lean ====
/- What the loss's pipeline and the lines after it leave, in terms of the arguments. -/
module

public import proofs.«01_k».proof.Proof.Gen.LossKernelIdeal.Frame
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.K.Loss

open Cert.LossKernelIdeal Cert.LossKernelIdeal.Gen

variable (m : (ℓ : Loc nD τ sig) → Buf (Elt Ideal) ℓ)

/-- The error times the reciprocal of the width. -/
def DH (h t : FVec Ideal S4096x1024 .f32) : FVec Ideal S4096x1024 .f32 := fun i =>
  (h i - t i) * Ideal.ofBits .f32 0x3A800000#32

/-- The column sums of the squared error. -/
def SQ (h t : FVec Ideal S4096x1024 .f32) : FVec Ideal S1x1024 .f32 := fun i =>
  ∑ r : Fin 4096, (h (ix2 r (i 1)) - t (ix2 r (i 1))) * (h (ix2 r (i 1)) - t (ix2 r (i 1)))

theorem idx : ∀ t : Fin cfg0.N, win0_0.index t = ![t.val, 0] ∧ win0_1.index t = ![t.val, 0] ∧ win0_2.index t = ![t.val, 0] :=
  (by decide +kernel : ∀ t : Fin grid0.N, _)

theorem lt0 (t : Fin cfg0.N) (r : Fin 512) : t.val * 512 + r.val < 4096 := by
  have := lt_of_lt_of_eq t.isLt N_0; omega
theorem blk0 (c : Dev nD) (t : Fin cfg0.N) (r : Fin 512) (q : Fin 1024) : (show FVec Ideal S512x1024 .f32 from iblk m c 0 t) (ix2 r q)
    = (show FVec Ideal S4096x1024 .f32 from m ((c : Thread nD τ).loc main_arg0)) (ix2 ⟨t.val * 512 + r.val, lt0 t r⟩ q) := by
  blk_ext! [iblk, V, idx t]
theorem blk1 (c : Dev nD) (t : Fin cfg0.N) (r : Fin 512) (q : Fin 1024) : (show FVec Ideal S512x1024 .f32 from iblk m c 1 t) (ix2 r q)
    = (show FVec Ideal S4096x1024 .f32 from m ((c : Thread nD τ).loc main_arg1)) (ix2 ⟨t.val * 512 + r.val, lt0 t r⟩ q) := by
  blk_ext! [iblk, V, idx t]

theorem pay2 (x y : FVec Ideal S512x1024 .f32) (i : S512x1024.Idx) : k0_pay2 (F := Ideal) x y i = (x i - y i) * Ideal.ofBits .f32 0x3A800000#32 := by
  pointwise [k0_pay2, k0_pay1]

theorem pay3 (x y : FVec Ideal S512x1024 .f32) (i : S1x1024.Idx) : k0_pay3 (F := Ideal) x y i
    = ∑ k : Fin 512, (x (ix2 k (i 1)) - y (ix2 k (i 1))) * (x (ix2 k (i 1)) - y (ix2 k (i 1))) := by
  pointwise [k0_pay3, k0_pay1]

theorem pay4 (x y : FVec Ideal S512x1024 .f32) (z : FVec Ideal S1x1024 .f32) (i : S1x1024.Idx) : k0_pay4 (F := Ideal) x y z i
    = z i + k0_pay3 (F := Ideal) x y i := by
  pointwise [k0_pay4]

theorem dh_final (c : Dev nD) : (dats m 0 c).arrAt 2 (cfgs 0).N
    = DH (m ((c : Thread nD τ).loc main_arg0)) (m ((c : Thread nD τ).loc main_arg1)) := by
  refine (dats m 0 c).arrAt_eq_of_covers 2 _ (by decide +kernel) fun t _ y => ?_
  blk_simp
  rw [after0_2]
  have hout : (outsAt0 m c t.val t.isLt).1 = k0_pay2 (F := Ideal) (iblk m c 0 t) (iblk m c 1 t) := by
    have hN : t.val < 8 := lt_of_lt_of_eq t.isLt N_0
    by_cases h : t.val = 0
    · rw [outsAt0_A m c t (by omega) (by omega)]; frame_out
    · rw [outsAt0_B m c t (by omega) (by omega)]; frame_out
  rw [hout, pay2]
  unfold DH
  blk_point [iblk, V, idx t]

theorem sq_final (c : Dev nD) : (dats m 0 c).arrAt 3 (cfgs 0).N
    = SQ (m ((c : Thread nD τ).loc main_arg0)) (m ((c : Thread nD τ).loc main_arg1)) := by
  refine (dats m 0 c).arrAt_eq_of_after_last 3 t0_7 (by decide +kernel) _ fun j => ?_
  blk_simp
  rw [after0_3, Pipeline.eq_sum_fin_of_reset_step_apply_last (fun n h => (outsAt0 m c n h).2) 8 (fun _ => 0) _
    (fun t h j => by rw [outsAt0_A m c t h (by have := lt_of_lt_of_eq t.isLt N_0; omega)]; frame_out; rw [pay3, zero_add])
    (fun t h j => by rw [outsAt0_B m c t h (by omega)]; frame_out; rw [pay4, pay3])
    (le_of_eq N_0) t0_7 rfl j, zero_add]
  unfold SQ
  refine Fin.sum_mul_add_congr fun s k hl => ?_
  have e0 := blk0 m c s k (j 1)
  have e1 := blk1 m c s k (j 1)
  exact Ideal.mul_congr (congrArg₂ (fun a b : EReal => a - b) e0 e1) (congrArg₂ (fun a b : EReal => a - b) e0 e1)

/-- What the lines after the pipeline leave in the loss. -/
theorem loss_tail (c : Dev nD) : Pipeline.afterTail₀ cfgs (dats m) 0 (V0 m) [hostOps1] c main_v3
    = fun _ => Ideal.div (Ideal.ofBits .f32 0x3F000000#32 * ∑ q : Fin 1024, SQ (m ((c : Thread nD τ).loc main_arg0)) (m ((c : Thread nD τ).loc main_arg1)) (ix2 0 q)) (Ideal.ofBits .f32 0x44800000#32) := by
  rw [← sq_final m c]
  have hv := Pipeline.withArrays_arr spec0 launch0.win.arr_inj c (V0 m c) (fun w => (dats m 0 c).arrAt w (cfgs 0).N) 3
  show StableHlo.after hostOps1 (Pipeline.withArrays (cfgs 0).spec c (V0 m c) fun w => (dats m 0 c).arrAt w (cfgs 0).N) (Proc.devRef .tc main_v3) = _
  rw [← hv]
  generalize Pipeline.withArrays (cfgs 0).spec c (V0 m c) (fun w => (dats m 0 c).arrAt w (cfgs 0).N) = σ
  entry_read
  funext i
  pointwise
  rw [Fin.sum_univ_one]

end Cert.K.Loss

end
-- ==== Proof.Loss.Agree.lean ====
/- The loss and its gradient as the kernel writes them and as `value_and_grad` of the mean of squares. -/
module

public import proofs.«01_k».proof.Proof.Loss.Value
public import proofs.«01_k».proof.Proof.Gen.LossReferenceIdeal.Read

@[expose] public section

set_option maxRecDepth 16384

noncomputable section

open Idealize.ShloMosaic Idealize.ShloMosaic.TcCoe Idealize.SL.Sem

namespace Cert.K.Loss

theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_1024 : Ideal.ofBits .f32 0x44800000#32 = ((1024 : ℝ) : EReal) := by
  simp [Ideal.ofBits, Ideal.ieee, -EReal.coe_mul]; norm_num
theorem ofBits_inv1024 : Ideal.ofBits .f32 0x3A800000#32 = ((1 / 1024 : ℝ) : EReal) := by
  simp [Ideal.ofBits, Ideal.ieee, -EReal.coe_mul]; norm_num

/-- A square of an extended real is not negative. -/
theorem sq_nonneg' (x : EReal) : 0 ≤ x * x := by
  induction x using EReal.rec with
  | bot => simp
  | coe r => norm_cast; exact mul_self_nonneg r
  | top => simp

theorem sum_mul_nonneg {ι : Type} (s : Finset ι) (f : ι → EReal) (h : ∀ i, 0 ≤ f i) (c : EReal) : (∑ i ∈ s, f i) * c = ∑ i ∈ s, f i * c := by
  classical
  induction s using Finset.induction_on with
  | empty => simp
  | insert a s ha ih =>
    rw [Finset.sum_insert ha, Finset.sum_insert ha, EReal.right_distrib_of_nonneg (h a) (Finset.sum_nonneg fun i _ => h i), ih]

open Cert.LossReferenceIdeal Cert.LossReferenceIdeal.Read

theorem reference_dh (h t : FVec Ideal S4096x1024 .f32) : val_main_v14 (F := Ideal) h t = DH h t := by
  funext i
  idx_vars i
  pointwise [val_main_v14, val_main_v13, val_main_v12, val_main_v11, val_main_v10, val_main_v9, val_main_v1, val_main_v0, val_main_cst, val_main_cst_0, val_main_cst_1, val_main_cst_2, val_main_cst_3, val_main_cst_4, val_main_cst_5, val_main_cst_6, val_main_v3, val_main_v2, DH]
  rw [ofBits_half, ofBits_two, ofBits_1024, ofBits_inv1024, Ideal.div_coe (show (1024 : ℝ) ≠ 0 by norm_num), mul_comm, mul_comm ((2 : ℝ) : EReal), mul_assoc]
  refine Ideal.mul_congr rfl ?_
  norm_cast
  norm_num

theorem reference_loss (h t : FVec Ideal S4096x1024 .f32) : val_main_v8 (F := Ideal) h t
    = fun _ => Ideal.div (Ideal.ofBits .f32 0x3F000000#32 * ∑ q : Fin 1024, SQ h t (ix2 0 q)) (Ideal.ofBits .f32 0x44800000#32) := by
  funext i
  pointwise [val_main_v8, val_main_v7, val_main_v6, val_main_v5, val_main_v4, val_main_v3, val_main_v2, val_main_v1, val_main_v0, val_main_cst, val_main_cst_0, val_main_cst_1, val_main_cst_2, val_main_cst_3, SQ]
  rw [ofBits_half, ofBits_1024]
  simp only [Ideal.div_coe (show (1024 : ℝ) ≠ 0 by norm_num)]
  rw [mul_assoc]
  refine Ideal.mul_congr rfl ?_
  rw [Finset.sum_comm]
  exact (sum_mul_nonneg _ (fun r : Fin 4096 => ∑ q : Fin 1024, (h (ix2 r q) - t (ix2 r q)) * (h (ix2 r q) - t (ix2 r q)))
    (fun r => Finset.sum_nonneg fun q _ => sq_nonneg' _) _).symm

end Cert.K.Loss

end
-- ==== Proof.Loss.Claim.lean ====
module

public import proofs.«01_k».proof.Proof.Loss.Value
public import proofs.«01_k».proof.Proof.Loss.Agree
public import proofs.«01_k».proof.Proof.Gen.LossReferenceIdeal.Run
public import proofs.«01_k».proof.Proof.Gen.LossReferenceIdeal.Read
public import proofs.«01_k».proof.Defs
public import Idealize.ShloMosaic.Lib.Pipeline.ValueKit
public import Idealize.ShloMosaic.Lib.Claim

/-! The loss: the claim. -/

@[expose] public section

set_option maxRecDepth 16384

noncomputable section

open Idealize.ShloMosaic Idealize.ShloMosaic.TcCoe Idealize.SL.Sem

namespace Cert.K.Loss

theorem algebraic : Cert.algebraic_LossKernelIdeal_LossReferenceIdeal := by
  pair_intro
  · run_from Cert.LossKernelIdeal.Gen.run_main m g
  · run_from Cert.LossReferenceIdeal.Value.run m' g'
    · exact ((Cert.LossReferenceIdeal.Read.val_main_v8_eq _ _).trans (reference_loss _ _)).trans (loss_tail m c).symm
    · exact ((Cert.LossReferenceIdeal.Read.val_main_v14_eq _ _).trans (reference_dh _ _)).trans (dh_final m c).symm

end Cert.K.Loss

end
-- ==== Proof.Diag.Value.lean ====
/- The diagonal blocks of the cotangent: what the kernel leaves in its result, and that the derivative of the dense
   block-diagonal matrix is the same array. -/
module

public import proofs.«01_k».proof.Proof.Gen.DiagKernelIdeal.Frame
public import proofs.«01_k».proof.Proof.Gen.DiagReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.K.Diag

open Cert.DiagKernelIdeal Cert.DiagKernelIdeal.Gen

/-- Block `g` of the diagonal: rows `16 g …`, columns `64 g …`. -/
def G (x : FVec Ideal S512x2048 .f32) : FVec Ideal S32x16x64 .f32 := fun i =>
  x (ix2 ⟨(i 0).val * 16 + (i 1).val, by have := (i 0).isLt; have := (i 1).isLt; simp [Shape.Coord] at *; omega⟩
    ⟨(i 0).val * 64 + (i 2).val, by have := (i 0).isLt; have := (i 2).isLt; simp [Shape.Coord] at *; omega⟩)

theorem idx : ∀ t : Fin cfg0.N, win0_0.index t = ![t.val, t.val] ∧ win0_1.index t = ![t.val, 0, 0] :=
  (by decide +kernel : ∀ t : Fin grid0.N, _)

variable (m : (ℓ : Loc nD τ sig) → Buf (Elt Ideal) ℓ)

theorem final (c : Dev nD) : (dats m 0 c).arrAt 1 (cfgs 0).N = G (m ((c : Thread nD τ).loc main_arg0)) := by
  refine (dats m 0 c).arrAt_eq_of_covers 1 _ (by decide +kernel) fun t _ y => ?_
  blk_simp
  rw [after0_1]
  unfold out0_1
  canon_tiles x h
  all_goals (open_payloads; pointwise [G]; blk_point [iblk, V, idx t])

/-- The word the reference multiplies by is one where the two numbers are equal, else zero. -/
theorem eye (a b : Fin 32) :
    (FloatOps.uitofp (F := Ideal) FTy.f32 (IntOp.cmpi CmpIPredicate.eq (IntOp.addi (BitVec.ofNat 32 a) 0#32) (BitVec.ofNat 32 b)) : EReal)
      = if a = b then 1 else 0 := by
  have key : ∀ a b : Fin 32, IntOp.cmpi CmpIPredicate.eq (IntOp.addi (BitVec.ofNat 32 a) 0#32) (BitVec.ofNat 32 b)
      = if a = b then 1#1 else 0#1 := by decide +kernel
  rw [key]
  show (((if a = b then 1#1 else 0#1 : BitVec 1).toNat : ℝ) : EReal) = _
  split_ifs <;> simp

theorem reference (x : FVec Ideal S512x2048 .f32) : Cert.DiagReferenceIdeal.Read.val_main_v18 (F := Ideal) x = G x := by
  funext i
  idx_vars i
  pointwise [Cert.DiagReferenceIdeal.Read.val_main_v18, Cert.DiagReferenceIdeal.Read.val_main_v17, Cert.DiagReferenceIdeal.Read.val_main_v16, Cert.DiagReferenceIdeal.Read.val_main_v15, Cert.DiagReferenceIdeal.Read.val_main_v14, Cert.DiagReferenceIdeal.Read.val_main_v13, Cert.DiagReferenceIdeal.Read.val_main_v8, Cert.DiagReferenceIdeal.Read.val_main_v7, Cert.DiagReferenceIdeal.Read.val_main_v6, Cert.DiagReferenceIdeal.Read.val_main_v5, Cert.DiagReferenceIdeal.Read.val_main_v4, Cert.DiagReferenceIdeal.Read.val_main_v3, Cert.DiagReferenceIdeal.Read.val_main_v2, Cert.DiagReferenceIdeal.Read.val_main_c, Cert.DiagReferenceIdeal.Read.val_main_cst_0, Cert.DiagReferenceIdeal.Read.val_main_cst_1, G]
  rw [Fin.sum_univ_one]
  rw [Finset.sum_eq_single i0]
  · rw [eye, if_pos rfl, mul_one]
  · intro b _ hb
    rw [eye, if_neg (Ne.symm hb), mul_zero]
  · simp

end Cert.K.Diag

end
-- ==== Proof.Diag.Claim.lean ====
module

public import proofs.«01_k».proof.Proof.Diag.Value
public import proofs.«01_k».proof.Proof.Gen.DiagReferenceIdeal.Run
public import proofs.«01_k».proof.Proof.Gen.DiagReferenceIdeal.Read
public import proofs.«01_k».proof.Defs
public import Idealize.ShloMosaic.Lib.Pipeline.ValueKit
public import Idealize.ShloMosaic.Lib.Claim

/-! The diagonal blocks: the claim. -/

@[expose] public section

set_option maxRecDepth 16384

noncomputable section

open Idealize.ShloMosaic Idealize.ShloMosaic.TcCoe Idealize.SL.Sem

namespace Cert.K.Diag

theorem algebraic : Cert.algebraic_DiagKernelIdeal_DiagReferenceIdeal := by
  pair_intro
  · run_from Cert.DiagKernelIdeal.Gen.run_main m g
  · run_from Cert.DiagReferenceIdeal.Value.run m' g'
    exact ((Cert.DiagReferenceIdeal.Read.val_main_v18_eq _).trans (reference _)).trans (final m c).symm

end Cert.K.Diag

end
-- ==== Proof.AttnSum.Streams.lean ====
/- Rows read back from streams: the block is stored by row class and column group with a stride, and its four column groups are read whole. -/
module

public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.K.AttnSum

abbrev SC : Shape := ⟨3, ![4, 256, 128]⟩
abbrev Sq (a b : ℕ) : Shape := ⟨2, ![a, b]⟩

/-- An entry of a matrix, zero outside it. -/
def at2 {m w : ℕ} {φ : FTy} (X : FVec Ideal (Sq m w) φ) (r c : ℕ) : EReal := if h : r < m ∧ c < w then X (ix2 ⟨r, h.1⟩ ⟨c, h.2⟩) else 0

theorem at2_eq {m w : ℕ} {φ : FTy} (X : FVec Ideal (Sq m w) φ) {r c : ℕ} (hr : r < m) (hc : c < w) : at2 X r c = X (ix2 ⟨r, hr⟩ ⟨c, hc⟩) := dif_pos ⟨hr, hc⟩

theorem at2_out {m w : ℕ} {φ : FTy} (X : FVec Ideal (Sq m w) φ) {r c : ℕ} (hr : ¬ r < m) : at2 X r c = 0 := dif_neg fun h => hr h.1

/-- Row `r` of the block is row `r / d` of stream `r % d`. -/
def rows (d : ℕ) {n w : ℕ} (X : FVec Ideal (Sq n w) .f32) : FVec Ideal (Sq 256 512) .f32 :=
  fun i => at2 X ((i 0).val / d) ((i 0).val % d * 512 + (i 1).val)

/-- The same with the four column groups apart. -/
def plane (d : ℕ) {n w : ℕ} (X : FVec Ideal (Sq n w) .f32) : FVec Ideal SC .f32 :=
  fun y => at2 X ((y 1).val / d) ((y 1).val % d * 512 + ((y 0).val * 128 + (y 2).val))

section
variable (d n w : ℕ) (hn : d * n = 256) (h0 : 0 < n) (hd : 0 < d) (hw : w = d * 512) (X : FVec Ideal (Sq n w) .f32)

theorem group_inb (k : ℕ) (a : Fin 3) : (![k % 4, 0, 0] : Fin 3 → ℕ) a + (![1, 256, 128] : Fin 3 → ℕ) a ≤ SC.size a := by
  fin_cases a
  · show k % 4 + 1 ≤ 4
    omega
  · exact Nat.le_refl 256
  · exact Nat.le_refl 128

include hn h0 in
theorem class_inb (k : ℕ) (hk : k < 4 * d) (a : Fin 2) :
    (Sq n 128).size a = 0 ∨ (![k / 4, 0] : Fin 2 → ℕ) a + (![d, 1] : Fin 2 → ℕ) a * ((Sq n 128).size a - 1) < (Sq 256 128).size a := by
  right
  fin_cases a
  · show k / 4 + d * (n - 1) < 256
    have : d * (n - 1) + d = 256 := by
      rw [← hn, ← Nat.mul_succ]
      exact congrArg _ (by omega)
    omega
  · show 0 + 1 * (128 - 1) < 128
    omega

include hd in
theorem class_pos (a : Fin 2) : 0 < (![d, 1] : Fin 2 → ℕ) a := by
  fin_cases a
  · exact hd
  · exact Nat.one_pos

include hw in
theorem lane_slices (k : ℕ) (hk : k < 4 * d) : (Sq n w).Slices ![0, k / 4 * 512 + k % 4 * 128] (Sq n 128) :=
  ⟨rfl, fun a => by
    fin_cases a
    · show 0 + n ≤ n
      omega
    · show k / 4 * 512 + k % 4 * 128 + 128 ≤ w
      omega⟩

/-- The rows a store writes. -/
abbrev classRect (k : ℕ) (hk : k < 4 * d) : Rect (Sq 256 128) := ⟨⟨![k / 4, 0], ![n, 128], ![d, 1], class_inb d n hn h0 k hk⟩, class_pos d hd⟩

theorem lift_sizes (i : Fin 2) : (![1, 256, 128] : Fin 3 → ℕ) i.succ = (![256, 128] : Fin 2 → ℕ) i := by
  fin_cases i <;> rfl

/-- One store: row class `k / 4`, column group `k % 4`. -/
def piece (k : ℕ) (hk : k < 4 * d) : View.Piece (Elt Ideal) SC .f32 :=
  ⟨(Rect.unit (s := SC) ![k % 4, 0, 0] ![1, 256, 128] (group_inb k)).within
      ((classRect d n hn h0 hd k hk).consLift ![1, 256, 128] rfl lift_sizes) (fun _ => rfl),
    Rect.payAlong ((classRect d n hn h0 hd k hk).numel_consLift ![1, 256, 128] rfl lift_sizes)
      (shapeCast (Sq n 128) (extractStridedSlice (Sq n 128) ![0, k / 4 * 512 + k % 4 * 128] X (lane_slices d n w hw k hk)) rfl : FVec Ideal (Sq n 128) .f32)⟩

theorem piece_eq (k : ℕ) (hk : k < 4 * d) (z) : (piece d n w hn h0 hd hw X k hk).2 z = plane d X ((piece d n w hn h0 hd hw X k hk).1.emb z) := by
  have hz1 : (z 1).val < n := (z 1).isLt
  have hz2 : (z 2).val < 128 := (z 2).isLt
  have hz0 : (z 0).val < 1 := (z 0).isLt
  have h := Rect.payAlong_consLift (r := classRect d n hn h0 hd k hk) ![1, 256, 128] rfl lift_sizes
    (shapeCast (Sq n 128) (extractStridedSlice (Sq n 128) ![0, k / 4 * 512 + k % 4 * 128] X (lane_slices d n w hw k hk)) rfl : FVec Ideal (Sq n 128) .f32)
    ((classRect d n hn h0 hd k hk).numel_consLift ![1, 256, 128] rfl lift_sizes) z (ix2 (⟨(z 1).val, hz1⟩ : Fin n) (⟨(z 2).val, hz2⟩ : Fin 128)) (fun i => by
      fin_cases i <;> rfl)
  refine h.trans ?_
  · rw [shapeCast_self]
    have hr : k / 4 < d := by omega
    have e1 : ((piece d n w hn h0 hd hw X k hk).1.emb z 1).val = k / 4 + d * (z 1).val := by
      show 0 + k / 4 + d * (z 1).val = _
      omega
    have e0 : ((piece d n w hn h0 hd hw X k hk).1.emb z 0).val = k % 4 := by
      show k % 4 + 0 + 1 * (z 0).val = _
      omega
    have e2 : ((piece d n w hn h0 hd hw X k hk).1.emb z 2).val = (z 2).val := by
      show 0 + 0 + 1 * (z 2).val = _
      omega
    unfold plane
    rw [e0, e1, e2, Nat.add_mul_div_left _ _ hd, Nat.div_eq_of_lt hr, Nat.add_mul_mod_self_left, Nat.mod_eq_of_lt hr, at2_eq X (by omega) (by omega)]
    refine congrArg X (funext fun a => Fin.ext ?_)
    fin_cases a
    · rfl
    · show k / 4 * 512 + k % 4 * 128 + (z 2).val = k / 4 * 512 + (k % 4 * 128 + (z 2).val)
      omega

/-- The first `j` stores of a block, the latest first, in front of what was stored before. -/
def pushed (rest : List (View.Piece (Elt Ideal) SC .f32)) : (j : ℕ) → j ≤ 4 * d → List (View.Piece (Elt Ideal) SC .f32)
  | 0, _ => rest
  | k + 1, h => piece d n w hn h0 hd hw X k h :: pushed rest k (Nat.le_of_succ_le h)

theorem canon_pushed (rest : List (View.Piece (Elt Ideal) SC .f32)) (y : SC.Idx) : ∀ (j : ℕ) (hj : j ≤ 4 * d),
    (∃ (k : ℕ) (hk : k < j), y ∈ (piece d n w hn h0 hd hw X k (Nat.lt_of_lt_of_le hk hj)).1.set) → View.canon (pushed d n w hn h0 hd hw X rest j hj) y = plane d X y
  | 0, _, ⟨k, hk, _⟩ => absurd hk (Nat.not_lt_zero k)
  | j + 1, hj, ⟨k, hk, hy⟩ => by
    by_cases hm : y ∈ (piece d n w hn h0 hd hw X j hj).1.set
    · obtain ⟨x, hx⟩ := LoadRect.exists_idx_of_mem _ hm
      rw [← hx]
      exact (View.canon_cons_emb _ _ _ x).trans (piece_eq d n w hn h0 hd hw X j hj x)
    · refine (View.canon_cons_of_not_mem _ _ hm).trans (canon_pushed rest y j (Nat.le_of_succ_le hj) ⟨k, ?_, hy⟩)
      refine Nat.lt_of_le_of_ne (Nat.le_of_lt_succ hk) fun e => hm ?_
      subst e
      exact hy

include hn hd in
theorem canon_full (rest : List (View.Piece (Elt Ideal) SC .f32)) : View.canon (pushed d n w hn h0 hd hw X rest (4 * d) (Nat.le_refl _)) = plane d X := by
  funext y
  have y0 : (y 0).val < 4 := (y 0).isLt
  have y1 : (y 1).val < 256 := (y 1).isLt
  have y2 : (y 2).val < 128 := (y 2).isLt
  have hm : (y 1).val % d < d := Nat.mod_lt _ hd
  have hq : (y 1).val / d < n := Nat.div_lt_of_lt_mul (by omega)
  refine canon_pushed d n w hn h0 hd hw X rest y _ _ ⟨(y 1).val % d * 4 + (y 0).val, by omega, ?_⟩
  have hk : (y 1).val % d * 4 + (y 0).val < 4 * d := by omega
  have e : y = (piece d n w hn h0 hd hw X ((y 1).val % d * 4 + (y 0).val) hk).1.emb (ix3 (⟨0, Nat.one_pos⟩ : Fin 1) (⟨(y 1).val / d, hq⟩ : Fin n) (⟨(y 2).val, y2⟩ : Fin 128)) := by
    funext a
    refine Fin.ext ?_
    fin_cases a
    · show (y 0).val = ((y 1).val % d * 4 + (y 0).val) % 4 + 0 + 1 * 0
      omega
    · show (y 1).val = 0 + ((y 1).val % d * 4 + (y 0).val) / 4 + d * ((y 1).val / d)
      have := Nat.mod_add_div (y 1).val d
      omega
    · show (y 2).val = 0 + 0 + 1 * (y 2).val
      omega
  exact Eq.mpr (congrArg (fun z => z ∈ (piece d n w hn h0 hd hw X ((y 1).val % d * 4 + (y 0).val) hk).1.set) e) (LoadRect.idx_mem _ _)

/-- A column group read whole. -/
theorem read_group (rest : List (View.Piece (Elt Ideal) SC .f32)) (c : ℕ) (hc : c < 4)
    (hin : ∀ a, (![c, 0, 0] : Fin 3 → ℕ) a + (![1, 256, 128] : Fin 3 → ℕ) a ≤ SC.size a) :
    (fun j => View.canon (pushed d n w hn h0 hd hw X rest (4 * d) (Nat.le_refl _)) ((Rect.unit (s := SC) ![c, 0, 0] ![1, 256, 128] hin).idx j))
      = fun j => rows d X (ix2 (j 1) ⟨c * 128 + (j 2).val, by have : (j 2).val < 128 := (j 2).isLt; omega⟩) := by
  rw [canon_full]
  funext j
  have j0 : (j 0).val < 1 := (j 0).isLt
  unfold plane rows
  refine congrArg₂ (at2 X) (congrArg (· / d) ?_) (congrArg₂ (· + ·) (congrArg (· % d * 512) ?_) (congrArg₂ (· + ·) (congrArg (· * 128) ?_) ?_))
  · show 0 + 1 * (j 1).val = (j 1).val
    omega
  · show 0 + 1 * (j 1).val = (j 1).val
    omega
  · show c + 1 * (j 0).val = c
    omega
  · show 0 + 1 * (j 2).val = (j 2).val
    omega

end

end Cert.K.AttnSum

end
-- ==== Proof.AttnSum.Spec.lean ====
/- The gradient of the projections: the sums over the three patterns, and the rotary embedding transposed. -/
module

public import proofs.«01_k».proof.Proof.AttnSum.Streams

@[expose] public section

noncomputable section

open Idealize.ShloMosaic Idealize.ShloMosaic.TcCoe

namespace Cert.K.AttnSum

/-- One pattern's part: row `s` is row `s / d` of stream `s % d`. -/
def one (d : ℕ) {m w : ℕ} {φ : FTy} (X : FVec Ideal (Sq m w) φ) (s j : ℕ) : EReal := at2 X (s / d) (s % d * 512 + j)

/-- One pattern's part that comes in two: a block's own, and what the next block of the stream found for it. -/
def two (d : ℕ) {m w : ℕ} {φ : FTy} (X Y : FVec Ideal (Sq m w) φ) (s j : ℕ) : EReal :=
  at2 X (s / d) (s % d * 512 + j) + at2 Y (s / d + 128) (s % d * 512 + j)

section
variable {φ : FTy} (a : FVec Ideal (Sq 4096 512) φ) (b : FVec Ideal (Sq 1024 2048) φ) (c : FVec Ideal (Sq 256 8192) φ)
variable (a' : FVec Ideal (Sq 4096 512) φ) (b' : FVec Ideal (Sq 1024 2048) φ) (c' : FVec Ideal (Sq 256 8192) φ)

def sumQ (s j : ℕ) : EReal := one 1 a s j + one 4 b s j + one 16 c s j
def sumK (s j : ℕ) : EReal := two 1 a a' s j + two 4 b b' s j + two 16 c c' s j

end

/-- What a block's streams hold, by the row of the whole array: block `t` of 256 rows is block `t` of `n` rows of every stream. -/
theorem rows_at {d n w : ℕ} (hn : d * n = 256) (h0 : 0 < n) (hd : 0 < d) (hw : w = d * 512) (X : FVec Ideal (Sq n w) .f32) (t : ℕ) (g : ℕ → ℕ → EReal)
    (hX : ∀ (r : Fin n) (q : Fin w), X (ix2 r q) = g (t * n + r.val) q.val) (i : Fin 256) (j : Fin 512) :
    rows d X (ix2 i j) = g ((t * 256 + i.val) / d) ((t * 256 + i.val) % d * 512 + j.val) := by
  have e : t * 256 + i.val = i.val + d * (t * n) := by
    have : d * (t * n) = t * 256 := (Nat.mul_left_comm _ _ _).trans (congrArg (t * ·) hn)
    omega
  have h1 : i.val / d < n := Nat.div_lt_of_lt_mul (by omega)
  have h2 : i.val % d < d := Nat.mod_lt _ hd
  have h3 : i.val % d * 512 + j.val < w := by omega
  refine (at2_eq X h1 h3).trans ((hX _ _).trans ?_)
  rw [e, Nat.add_mul_div_left _ _ hd, Nat.add_mul_mod_self_left, Nat.add_comm (i.val / d)]

/-- The rotation of the first sixteen lanes of every head, transposed; `cs`, `sn` are the row's cosines and sines. -/
def rotT (cs sn : Fin 8 → EReal) (q : ℕ → EReal) (j : ℕ) : EReal :=
  if h : j % 64 < 8 then q j * cs ⟨j % 64, h⟩ + q (j + 8) * sn ⟨j % 64, h⟩
  else if h' : j % 64 < 16 then q j * cs ⟨j % 64 - 8, by omega⟩ + q (j - 8) * -sn ⟨j % 64 - 8, by omega⟩
  else q j

/-- The angle of a row's rotation. -/
def ang (x : IVec (⟨1, ![4096]⟩ : Shape) 32) (s : Fin 4096) (e : Fin 8) : EReal :=
  FloatOps.sitofp (F := Ideal) FTy.f32 (x (ix1 s)) *
    Ideal.pow (Ideal.ofBits FTy.f32 1223959552#32) (-FloatOps.sitofp (F := Ideal) FTy.f32 (BitVec.ofNat 32 e.val) * Ideal.ofBits FTy.f32 1040187392#32)

abbrev cs (x : IVec (⟨1, ![4096]⟩ : Shape) 32) (s : Fin 4096) (e : Fin 8) : EReal := Ideal.cos (ang x s e)
abbrev sn (x : IVec (⟨1, ![4096]⟩ : Shape) 32) (s : Fin 4096) (e : Fin 8) : EReal := Ideal.sin (ang x s e)

/-- An entry of the gradient of the projections: queries, keys, values and the other half side by side. -/
def outAt (x : IVec (⟨1, ![4096]⟩ : Shape) 32) (s : Fin 4096) (q k v u : ℕ → EReal) (j : Fin 2048) : EReal :=
  if j.val < 512 then rotT (cs x s) (sn x s) q j.val
  else if j.val < 1024 then rotT (cs x s) (sn x s) k (j.val - 512)
  else if j.val < 1536 then v (j.val - 1024)
  else u (j.val - 1536)

end Cert.K.AttnSum

end
-- ==== Proof.AttnSum.Body.lean ====
/- The block of the sum over the patterns: what one step computes from its blocks. -/
module

public import proofs.«01_k».proof.Proof.Gen.AttnSumKernelIdeal.Value
public import proofs.«01_k».proof.Proof.AttnSum.Spec
public import Idealize.ShloMosaic.Lib.KernelVsHost

@[expose] public section

set_option maxRecDepth 16384

noncomputable section

open Idealize.ShloMosaic Idealize.ShloMosaic.TcCoe Idealize.SL.Sem

namespace Cert.K.AttnSum

open Cert.AttnSumKernelIdeal Cert.AttnSumKernelIdeal.Gen

/-- A column group of the block, as it is read back. -/
def grp (d : ℕ) {n w : ℕ} (X : FVec Ideal (Sq n w) .f32) (c : ℕ) (hc : c < 4) : FVec Ideal S1x256x128 .f32 :=
  fun j => rows d X (ix2 (j 1) ⟨c * 128 + (j 2).val, by have : (j 2).val < 128 := (j 2).isLt; omega⟩)

section
variable (d : ℕ) {n w : ℕ} (X : FVec Ideal (Sq n w) .f32)

theorem cat4 : concatenate S256x512 1 [⟨S256x128, shapeCast S256x128 (grp d X 0 (by omega)) shapeCasts_S1x256x128_S256x128⟩, ⟨S256x128, shapeCast S256x128 (grp d X 1 (by omega)) shapeCasts_S1x256x128_S256x128⟩,
    ⟨S256x128, shapeCast S256x128 (grp d X 2 (by omega)) shapeCasts_S1x256x128_S256x128⟩, ⟨S256x128, shapeCast S256x128 (grp d X 3 (by omega)) shapeCasts_S1x256x128_S256x128⟩]
    concatenates_S256x128_S256x128_S256x128_S256x128_S256x512_d1 = rows d X := by
  funext i
  idx_vars i
  refine (concatenate_ofFn_apply (t := S256x512) (s₁ := S256x128) 1 (fun k : Fin 4 => (shapeCast S256x128 (grp d X k.val k.isLt) shapeCasts_S1x256x128_S256x128 : FVec Ideal S256x128 .f32))
    (show Shape.Concatenates (List.replicate 4 S256x128) S256x512 1 from by decide) rfl 128 rfl (ix2 i0 i1) ⟨i1.val / 128, by omega⟩ rfl
    (ix2 i0 ⟨i1.val % 128, by omega⟩) rfl fun b hb => ?_).trans ?_
  · fin_cases b
    · rfl
    · exact absurd rfl hb
  · pointwise [grp]
    refine congrArg (rows d X) (congrArg (ix2 i0) (Fin.ext ?_))
    show i1.val / 128 * 128 + i1.val % 128 = i1.val
    omega

variable {d} {X} {a0 a1 a2 a3 : FVec Ideal S1x256x128 .f32}
variable (h0 : a0 = grp d X 0 (by omega)) (h1 : a1 = grp d X 1 (by omega)) (h2 : a2 = grp d X 2 (by omega)) (h3 : a3 = grp d X 3 (by omega)) (v : FVec Ideal S256x512 .f32)

include h0 h1 h2 h3

theorem add53 : k0_pay53 (F := Ideal) v a0 a1 a2 a3 = addf v (rows d X) := by
  subst h0 h1 h2 h3
  exact congrArg (addf v) (cat4 d X)

theorem add75 : k0_pay75 (F := Ideal) v (k0_pay74 a0) a1 a2 a3 = addf v (rows d X) := by
  subst h0 h1 h2 h3
  exact congrArg (addf v) (cat4 d X)

theorem add96 : k0_pay96 (F := Ideal) v a0 a1 a2 a3 = addf v (rows d X) := by
  subst h0 h1 h2 h3
  exact congrArg (addf v) (cat4 d X)

theorem add176 : k0_pay176 (F := Ideal) v (k0_pay174 a0) (k0_pay175 a1) a2 a3 = addf v (rows d X) := by
  subst h0 h1 h2 h3
  exact congrArg (addf v) (cat4 d X)

theorem add242 : k0_pay242 (F := Ideal) v a0 a1 a2 a3 = addf v (rows d X) := by
  subst h0 h1 h2 h3
  exact congrArg (addf v) (cat4 d X)

end

/-- The rotation by tables and shifts. -/
def rotV (q c a b : FVec Ideal S256x512 .f32) : FVec Ideal S256x512 .f32 :=
  addf (addf (mulf q c) (dynamicRotate 1 504#32 none (mulf q a) rotates_S256x512_d1)) (dynamicRotate 1 8#32 none (mulf q b) rotates_S256x512_d1)

theorem rotV_apply (q c a b : FVec Ideal S256x512 .f32) (i : Fin 256) (j : Fin 512) :
    rotV q c a b (ix2 i j) = (q (ix2 i j) * c (ix2 i j) + q (ix2 i ⟨(j.val + 8) % 512, by omega⟩) * a (ix2 i ⟨(j.val + 8) % 512, by omega⟩) : EReal)
      + (q (ix2 i ⟨(j.val + 504) % 512, by omega⟩) * b (ix2 i ⟨(j.val + 504) % 512, by omega⟩) : EReal) := by
  have e1 := dynamicRotate_apply (1 : Fin S256x512.rank) 504#32 (mulf q a) rotates_S256x512_d1 (ix2 i j) (ix2 i ⟨(j.val + 8) % 512, by omega⟩) (fun b => by
    fin_cases b
    · rfl
    · show (j.val + 8) % 512 = (j.val + 512 - 504 % 512) % 512
      omega)
  have e2 := dynamicRotate_apply (1 : Fin S256x512.rank) 8#32 (mulf q b) rotates_S256x512_d1 (ix2 i j) (ix2 i ⟨(j.val + 504) % 512, by omega⟩) (fun b => by
    fin_cases b
    · rfl
    · show (j.val + 504) % 512 = (j.val + 512 - 8 % 512) % 512
      omega)
  unfold rotV
  refine Ideal.add_congr (Ideal.add_congr rfl e1) e2

/-- The block of the result. -/
def block (q k v u c a b : FVec Ideal S256x512 .f32) : FVec Ideal S256x2048 .bf16 :=
  truncf .bf16 (concatenate S256x2048 1 [⟨S256x512, rotV q c a b⟩, ⟨S256x512, rotV k c a b⟩, ⟨S256x512, v⟩, ⟨S256x512, u⟩] concatenates_S256x512_S256x512_S256x512_S256x512_S256x2048_d1 : FVec Ideal S256x2048 .f32) bitsLt_bf16_f32

theorem add321 {d n w : ℕ} {X : FVec Ideal (Sq n w) .f32} {a0 a1 a2 a3 : FVec Ideal S1x256x128 .f32}
    (h0 : a0 = grp d X 0 (by omega)) (h1 : a1 = grp d X 1 (by omega)) (h2 : a2 = grp d X 2 (by omega)) (h3 : a3 = grp d X 3 (by omega))
    (c a b u v q k : FVec Ideal S256x512 .f32) :
    k0_pay321 (F := Ideal) c a b u v q k a0 a1 a2 a3 = block q k (addf v (rows d X)) u c a b := by
  subst h0 h1 h2 h3
  unfold block
  rw [← cat4 d X]
  rfl

end Cert.K.AttnSum

end
-- ==== Proof.AttnSum.Blocks.lean ====
/- The blocks of the sum over the patterns: what its windows read, and the sums at an entry. -/
module

public import proofs.«01_k».proof.Proof.AttnSum.Body
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.K.AttnSum

open Cert.AttnSumKernelIdeal Cert.AttnSumKernelIdeal.Gen

variable (m : (ℓ : Loc nD τ sig) → Buf (Elt Ideal) ℓ) (c : Dev nD)

/-- The arguments. -/
abbrev A1 : FVec Ideal (Sq 4096 512) .f32 := m ((c : Thread nD τ).loc main_arg1)
abbrev A2 : FVec Ideal (Sq 4096 512) .f32 := m ((c : Thread nD τ).loc main_arg2)
abbrev A3 : FVec Ideal (Sq 4096 512) .f32 := m ((c : Thread nD τ).loc main_arg3)
abbrev A4 : FVec Ideal (Sq 4096 512) .f32 := m ((c : Thread nD τ).loc main_arg4)
abbrev A5 : FVec Ideal (Sq 4096 512) .f32 := m ((c : Thread nD τ).loc main_arg5)
abbrev A6 : FVec Ideal (Sq 4096 512) .f32 := m ((c : Thread nD τ).loc main_arg6)
abbrev A7 : FVec Ideal (Sq 1024 2048) .f32 := m ((c : Thread nD τ).loc main_arg7)
abbrev A8 : FVec Ideal (Sq 1024 2048) .f32 := m ((c : Thread nD τ).loc main_arg8)
abbrev A9 : FVec Ideal (Sq 1024 2048) .f32 := m ((c : Thread nD τ).loc main_arg9)
abbrev A10 : FVec Ideal (Sq 1024 2048) .f32 := m ((c : Thread nD τ).loc main_arg10)
abbrev A11 : FVec Ideal (Sq 1024 2048) .f32 := m ((c : Thread nD τ).loc main_arg11)
abbrev A12 : FVec Ideal (Sq 256 8192) .f32 := m ((c : Thread nD τ).loc main_arg12)
abbrev A13 : FVec Ideal (Sq 256 8192) .f32 := m ((c : Thread nD τ).loc main_arg13)
abbrev A14 : FVec Ideal (Sq 256 8192) .f32 := m ((c : Thread nD τ).loc main_arg14)
abbrev A15 : FVec Ideal (Sq 256 8192) .f32 := m ((c : Thread nD τ).loc main_arg15)
abbrev A16 : FVec Ideal (Sq 256 8192) .f32 := m ((c : Thread nD τ).loc main_arg16)

section
variable (i : (Sq 4096 512).Idx)

theorem V_30 : (show FVec Ideal (Sq 4096 512) .bf16 from V m c main_v30) i = A1 m c i := by
  dsimp only [V]
  entry_read
  rfl
theorem V_31 : (show FVec Ideal (Sq 4096 512) .bf16 from V m c main_v31) i = A2 m c i := by
  dsimp only [V]
  entry_read
  rfl
theorem V_32 : (show FVec Ideal (Sq 4096 512) .bf16 from V m c main_v32) i = A3 m c i := by
  dsimp only [V]
  entry_read
  rfl
theorem V_33 : (show FVec Ideal (Sq 4096 512) .bf16 from V m c main_v33) i = A4 m c i := by
  dsimp only [V]
  entry_read
  rfl
theorem V_34 : (show FVec Ideal (Sq 4096 512) .bf16 from V m c main_v34) i = A5 m c i := by
  dsimp only [V]
  entry_read
  rfl
theorem V_35 : (show FVec Ideal (Sq 4096 512) .bf16 from V m c main_v35) i = A6 m c i := by
  dsimp only [V]
  entry_read
  rfl

end

section
variable (i : (Sq 1024 2048).Idx)

theorem V_36 : (show FVec Ideal (Sq 1024 2048) .bf16 from V m c main_v36) i = A7 m c i := by
  dsimp only [V]
  entry_read
  rfl
theorem V_37 : (show FVec Ideal (Sq 1024 2048) .bf16 from V m c main_v37) i = A8 m c i := by
  dsimp only [V]
  entry_read
  rfl
theorem V_38 : (show FVec Ideal (Sq 1024 2048) .bf16 from V m c main_v38) i = A9 m c i := by
  dsimp only [V]
  entry_read
  rfl
theorem V_39 : (show FVec Ideal (Sq 1024 2048) .bf16 from V m c main_v39) i = A10 m c i := by
  dsimp only [V]
  entry_read
  rfl
theorem V_40 : (show FVec Ideal (Sq 1024 2048) .bf16 from V m c main_v40) i = A11 m c i := by
  dsimp only [V]
  entry_read
  rfl

end

section
variable (i : (Sq 256 8192).Idx)

theorem V_41 : (show FVec Ideal (Sq 256 8192) .bf16 from V m c main_v41) i = A12 m c i := by
  dsimp only [V]
  entry_read
  rfl
theorem V_42 : (show FVec Ideal (Sq 256 8192) .bf16 from V m c main_v42) i = A13 m c i := by
  dsimp only [V]
  entry_read
  rfl
theorem V_43 : (show FVec Ideal (Sq 256 8192) .bf16 from V m c main_v43) i = A14 m c i := by
  dsimp only [V]
  entry_read
  rfl
theorem V_44 : (show FVec Ideal (Sq 256 8192) .bf16 from V m c main_v44) i = A15 m c i := by
  dsimp only [V]
  entry_read
  rfl
theorem V_45 : (show FVec Ideal (Sq 256 8192) .bf16 from V m c main_v45) i = A16 m c i := by
  dsimp only [V]
  entry_read
  rfl

end

theorem idxA : ∀ t : Fin cfg0.N, win0_0.index t = ![t.val, 0] ∧ win0_1.index t = ![t.val, 0] ∧ win0_2.index t = ![t.val, 0] ∧ win0_3.index t = ![min (t.val + 1) 15, 0]
    ∧ win0_4.index t = ![t.val, 0] ∧ win0_5.index t = ![t.val, 0] ∧ win0_6.index t = ![min (t.val + 1) 15, 0] ∧ win0_17.index t = ![t.val, 0] ∧ win0_18.index t = ![t.val, 0]
    ∧ win0_19.index t = ![t.val, 0] ∧ win0_20.index t = ![t.val, 0] ∧ win0_21.index t = ![t.val, 0] :=
  (by decide +kernel : ∀ t : Fin grid0.N, _)

theorem idxB : ∀ t : Fin cfg0.N, win0_7.index t = ![t.val, 0] ∧ win0_8.index t = ![t.val, 0] ∧ win0_9.index t = ![min (t.val + 2) 15, 0]
    ∧ win0_10.index t = ![t.val, 0] ∧ win0_11.index t = ![min (t.val + 2) 15, 0] ∧ win0_12.index t = ![t.val, 0] ∧ win0_13.index t = ![t.val, 0]
    ∧ win0_14.index t = ![min (t.val + 8) 15, 0] ∧ win0_15.index t = ![t.val, 0] ∧ win0_16.index t = ![min (t.val + 8) 15, 0] :=
  (by decide +kernel : ∀ t : Fin grid0.N, _)

variable (t : Fin cfg0.N)

theorem t16 : t.val < 16 := lt_of_lt_of_eq t.isLt N_0

section
variable (r : Fin 256) (q : Fin 512)

theorem blk0 : (show FVec Ideal S256x512 .bf16 from iblk m c 0 t) (ix2 r q) = at2 (A2 m c) (t.val * 256 + r.val) q.val := by
  have := t16 t
  rw [at2_eq _ (by omega) q.isLt]
  refine Eq.trans ?_ (V_31 m c _)
  blk_ext! [iblk, idxA t]
theorem blk1 : (show FVec Ideal S256x512 .bf16 from iblk m c 1 t) (ix2 r q) = at2 (A3 m c) (t.val * 256 + r.val) q.val := by
  have := t16 t
  rw [at2_eq _ (by omega) q.isLt]
  refine Eq.trans ?_ (V_32 m c _)
  blk_ext! [iblk, idxA t]
theorem blk2 : (show FVec Ideal S256x512 .bf16 from iblk m c 2 t) (ix2 r q) = at2 (A4 m c) (t.val * 256 + r.val) q.val := by
  have := t16 t
  rw [at2_eq _ (by omega) q.isLt]
  refine Eq.trans ?_ (V_33 m c _)
  blk_ext! [iblk, idxA t]
theorem blk3 (h : t.val + 1 < 16) : (show FVec Ideal S256x512 .bf16 from iblk m c 3 t) (ix2 r q) = at2 (A4 m c) ((t.val + 1) * 256 + r.val) q.val := by
  rw [at2_eq _ (by omega) q.isLt]
  refine Eq.trans ?_ (V_33 m c _)
  blk_ext! [iblk, idxA t]
theorem blk4 : (show FVec Ideal S256x512 .bf16 from iblk m c 4 t) (ix2 r q) = at2 (A5 m c) (t.val * 256 + r.val) q.val := by
  have := t16 t
  rw [at2_eq _ (by omega) q.isLt]
  refine Eq.trans ?_ (V_34 m c _)
  blk_ext! [iblk, idxA t]
theorem blk5 : (show FVec Ideal S256x512 .bf16 from iblk m c 5 t) (ix2 r q) = at2 (A6 m c) (t.val * 256 + r.val) q.val := by
  have := t16 t
  rw [at2_eq _ (by omega) q.isLt]
  refine Eq.trans ?_ (V_35 m c _)
  blk_ext! [iblk, idxA t]
theorem blk6 (h : t.val + 1 < 16) : (show FVec Ideal S256x512 .bf16 from iblk m c 6 t) (ix2 r q) = at2 (A6 m c) ((t.val + 1) * 256 + r.val) q.val := by
  rw [at2_eq _ (by omega) q.isLt]
  refine Eq.trans ?_ (V_35 m c _)
  blk_ext! [iblk, idxA t]
theorem blk17 : (show FVec Ideal S256x512 .f32 from iblk m c 17 t) (ix2 r q) = at2 (φ := .f32) (show FVec Ideal (Sq 4096 512) .f32 from V m c main_v23) (t.val * 256 + r.val) q.val := by
  have := t16 t
  rw [at2_eq _ (by omega) q.isLt]
  blk_ext! [iblk, idxA t]
theorem blk18 : (show FVec Ideal S256x512 .f32 from iblk m c 18 t) (ix2 r q) = at2 (φ := .f32) (show FVec Ideal (Sq 4096 512) .f32 from V m c main_v26) (t.val * 256 + r.val) q.val := by
  have := t16 t
  rw [at2_eq _ (by omega) q.isLt]
  blk_ext! [iblk, idxA t]
theorem blk19 : (show FVec Ideal S256x512 .f32 from iblk m c 19 t) (ix2 r q) = at2 (φ := .f32) (show FVec Ideal (Sq 4096 512) .f32 from V m c main_v29) (t.val * 256 + r.val) q.val := by
  have := t16 t
  rw [at2_eq _ (by omega) q.isLt]
  blk_ext! [iblk, idxA t]
theorem blk20 : (show FVec Ideal S256x512 .bf16 from iblk m c 20 t) (ix2 r q) = at2 (A1 m c) (t.val * 256 + r.val) q.val := by
  have := t16 t
  rw [at2_eq _ (by omega) q.isLt]
  refine Eq.trans ?_ (V_30 m c _)
  blk_ext! [iblk, idxA t]

end

section
variable (r : Fin 64) (q : Fin 2048)

theorem blk7 : (show FVec Ideal S64x2048 .bf16 from iblk m c 7 t) (ix2 r q) = at2 (A7 m c) (t.val * 64 + r.val) q.val := by
  have := t16 t
  rw [at2_eq _ (by omega) q.isLt]
  refine Eq.trans ?_ (V_36 m c _)
  blk_ext! [iblk, idxB t]
theorem blk8 : (show FVec Ideal S64x2048 .bf16 from iblk m c 8 t) (ix2 r q) = at2 (A8 m c) (t.val * 64 + r.val) q.val := by
  have := t16 t
  rw [at2_eq _ (by omega) q.isLt]
  refine Eq.trans ?_ (V_37 m c _)
  blk_ext! [iblk, idxB t]
theorem blk9 (h : t.val + 2 < 16) : (show FVec Ideal S64x2048 .bf16 from iblk m c 9 t) (ix2 r q) = at2 (A9 m c) ((t.val + 2) * 64 + r.val) q.val := by
  rw [at2_eq _ (by omega) q.isLt]
  refine Eq.trans ?_ (V_38 m c _)
  blk_ext! [iblk, idxB t]
theorem blk10 : (show FVec Ideal S64x2048 .bf16 from iblk m c 10 t) (ix2 r q) = at2 (A10 m c) (t.val * 64 + r.val) q.val := by
  have := t16 t
  rw [at2_eq _ (by omega) q.isLt]
  refine Eq.trans ?_ (V_39 m c _)
  blk_ext! [iblk, idxB t]
theorem blk11 (h : t.val + 2 < 16) : (show FVec Ideal S64x2048 .bf16 from iblk m c 11 t) (ix2 r q) = at2 (A11 m c) ((t.val + 2) * 64 + r.val) q.val := by
  rw [at2_eq _ (by omega) q.isLt]
  refine Eq.trans ?_ (V_40 m c _)
  blk_ext! [iblk, idxB t]

end

section
variable (r : Fin 16) (q : Fin 8192)

theorem blk12 : (show FVec Ideal S16x8192 .bf16 from iblk m c 12 t) (ix2 r q) = at2 (A12 m c) (t.val * 16 + r.val) q.val := by
  have := t16 t
  rw [at2_eq _ (by omega) q.isLt]
  refine Eq.trans ?_ (V_41 m c _)
  blk_ext! [iblk, idxB t]
theorem blk13 : (show FVec Ideal S16x8192 .bf16 from iblk m c 13 t) (ix2 r q) = at2 (A13 m c) (t.val * 16 + r.val) q.val := by
  have := t16 t
  rw [at2_eq _ (by omega) q.isLt]
  refine Eq.trans ?_ (V_42 m c _)
  blk_ext! [iblk, idxB t]
theorem blk14 (h : t.val + 8 < 16) : (show FVec Ideal S16x8192 .bf16 from iblk m c 14 t) (ix2 r q) = at2 (A14 m c) ((t.val + 8) * 16 + r.val) q.val := by
  rw [at2_eq _ (by omega) q.isLt]
  refine Eq.trans ?_ (V_43 m c _)
  blk_ext! [iblk, idxB t]
theorem blk15 : (show FVec Ideal S16x8192 .bf16 from iblk m c 15 t) (ix2 r q) = at2 (A15 m c) (t.val * 16 + r.val) q.val := by
  have := t16 t
  rw [at2_eq _ (by omega) q.isLt]
  refine Eq.trans ?_ (V_44 m c _)
  blk_ext! [iblk, idxB t]
theorem blk16 (h : t.val + 8 < 16) : (show FVec Ideal S16x8192 .bf16 from iblk m c 16 t) (ix2 r q) = at2 (A16 m c) ((t.val + 8) * 16 + r.val) q.val := by
  rw [at2_eq _ (by omega) q.isLt]
  refine Eq.trans ?_ (V_45 m c _)
  blk_ext! [iblk, idxB t]

end

end Cert.K.AttnSum

end
-- ==== Proof.AttnSum.Step.lean ====
/- What one step of the sum over the patterns leaves. -/
module

public import proofs.«01_k».proof.Proof.AttnSum.Blocks

@[expose] public section

set_option maxRecDepth 16384

noncomputable section

open Idealize.ShloMosaic Idealize.ShloMosaic.TcCoe Idealize.SL.Sem

namespace Cert.K.AttnSum

open Cert.AttnSumKernelIdeal Cert.AttnSumKernelIdeal.Gen

/-- A column group read back after the stores of a block, whatever was stored before. -/
theorem read_grp (v : View sig .tc .vmem SC .f32) (d n w : ℕ) (hn : d * n = 256) (h0 : 0 < n) (hd : 0 < d) (hw : w = d * 512) (X : FVec Ideal (Sq n w) .f32)
    (rest L : List (View.Piece (Elt Ideal) SC .f32)) (k : ℕ) (hk : k < 4)
    (hin : ∀ a, (![k, 0, 0] : Fin 3 → ℕ) a + (![1, 256, 128] : Fin 3 → ℕ) a ≤ SC.size a)
    (hL : L = pushed d n w hn h0 hd hw X rest (4 * d) (Nat.le_refl _)) :
    v.readCov L (Rect.unit (s := SC) ![k, 0, 0] ![1, 256, 128] hin).toLoadRect = grp d X k hk := by
  subst hL
  exact (View.readCov_eq_canon' _ _ _).trans (read_group d n w hn h0 hd hw X rest k hk hin)

section
variable (v : View sig .tc .vmem SC .f32) (rest L : List (View.Piece (Elt Ideal) SC .f32)) (k : ℕ) (hk : k < 4)
variable (hin : ∀ a, (![k, 0, 0] : Fin 3 → ℕ) a + (![1, 256, 128] : Fin 3 → ℕ) a ≤ SC.size a)

theorem read4 (X : FVec Ideal (Sq 64 2048) .f32)
    (hL : L = pushed 4 64 2048 (by decide) (by decide) (by decide) (by decide) X rest 16 (by decide)) :
    v.readCov L (Rect.unit (s := SC) ![k, 0, 0] ![1, 256, 128] hin).toLoadRect = grp 4 X k hk :=
  read_grp v 4 64 2048 _ _ _ _ X rest L k hk hin hL

theorem read16 (X : FVec Ideal (Sq 16 8192) .f32)
    (hL : L = pushed 16 16 8192 (by decide) (by decide) (by decide) (by decide) X rest 64 (by decide)) :
    v.readCov L (Rect.unit (s := SC) ![k, 0, 0] ![1, 256, 128] hin).toLoadRect = grp 16 X k hk :=
  read_grp v 16 16 8192 _ _ _ _ X rest L k hk hin hL

end

variable (m : (ℓ : Loc nD τ sig) → Buf (Elt Ideal) ℓ) (c : Dev nD) (t : Fin cfg0.N)

/-- Whether the block `k` further on exists. -/
abbrev live (k : BitVec 32) : BitVec 1 := Scalar.cmpi .slt (Scalar.addi (BitVec.ofNat 32 (grid0.coords t 0).val) k) 16#32

/-- The parts of the three gradients, pattern by pattern. -/
abbrev q1 : FVec Ideal (Sq 256 512) .f32 := k0_pay18 (F := Ideal) (k0_pay1 (iblk m c 0 t))
abbrev k1 : FVec Ideal (Sq 256 512) .f32 :=
  k0_pay31 (F := Ideal) (BitVec.ofNat 32 (grid0.coords t 0).val) (k0_pay2 (iblk m c 1 t)) (k0_pay3 (iblk m c 2 t)) (k0_pay4 (iblk m c 3 t))
abbrev v1 : FVec Ideal (Sq 256 512) .f32 :=
  k0_pay33 (F := Ideal) (k0_pay19 (k0_pay5 (iblk m c 4 t))) (k0_pay32 (BitVec.ofNat 32 (grid0.coords t 0).val) (k0_pay6 (iblk m c 5 t)) (k0_pay7 (iblk m c 6 t)))
abbrev q4 : FVec Ideal (Sq 64 2048) .f32 := k0_pay20 (F := Ideal) (k0_pay8 (iblk m c 7 t))
abbrev k4 : FVec Ideal (Sq 64 2048) .f32 := k0_pay54 (F := Ideal) (k0_pay21 (k0_pay9 (iblk m c 8 t))) (k0_pay22 (k0_pay10 (iblk m c 9 t))) (live t 2#32)
abbrev v4 : FVec Ideal (Sq 64 2048) .f32 := k0_pay76 (F := Ideal) (k0_pay23 (k0_pay11 (iblk m c 10 t))) (k0_pay24 (k0_pay12 (iblk m c 11 t))) (live t 2#32)
abbrev q16 : FVec Ideal (Sq 16 8192) .f32 := k0_pay25 (F := Ideal) (k0_pay13 (iblk m c 12 t))
abbrev k16 : FVec Ideal (Sq 16 8192) .f32 := k0_pay177 (F := Ideal) (k0_pay26 (k0_pay14 (iblk m c 13 t))) (k0_pay27 (iblk m c 14 t)) (live t 8#32)
abbrev v16 : FVec Ideal (Sq 16 8192) .f32 := k0_pay243 (F := Ideal) (k0_pay28 (iblk m c 15 t)) (k0_pay29 (iblk m c 16 t)) (live t 8#32)

/-- The three gradients of a block, summed over the patterns. -/
abbrev sq : FVec Ideal S256x512 .f32 := addf (addf (q1 m c t) (rows 4 (q4 m c t))) (rows 16 (q16 m c t))
abbrev sk : FVec Ideal S256x512 .f32 := addf (addf (k1 m c t) (rows 4 (k4 m c t))) (rows 16 (k16 m c t))
abbrev sv : FVec Ideal S256x512 .f32 := addf (addf (v1 m c t) (rows 4 (v4 m c t))) (rows 16 (v16 m c t))

theorem block_congr {q q' k k' v v' u c a b : FVec Ideal S256x512 .f32} (r : FVec Ideal S256x512 .f32) (hq : q = q') (hk : k = k') (hv : v = v') :
    block q k (addf v r) u c a b = block q' k' (addf v' r) u c a b := by
  subst hq hk hv
  rfl

theorem out_block : outsAt0 m c t = block (sq m c t) (sk m c t) (sv m c t) (k0_pay30 (iblk m c 20 t)) (k0_pay15 (iblk m c 17 t)) (k0_pay16 (iblk m c 18 t)) (k0_pay17 (iblk m c 19 t)) := by
  unfold outsAt0
  frame_out
  refine (add321 (read16 _ _ _ 0 _ _ (v16 m c t) rfl) (read16 _ _ _ 1 _ _ (v16 m c t) rfl) (read16 _ _ _ 2 _ _ (v16 m c t) rfl) (read16 _ _ _ 3 _ _ (v16 m c t) rfl) _ _ _ _ _ _ _).trans ?_
  refine block_congr (rows 16 (v16 m c t)) ?_ ?_ ?_
  · exact (add176 (read16 _ _ _ 0 _ _ (q16 m c t) rfl) (read16 _ _ _ 1 _ _ (q16 m c t) rfl) (read16 _ _ _ 2 _ _ (q16 m c t) rfl) (read16 _ _ _ 3 _ _ (q16 m c t) rfl) _).trans (congrArg (addf · (rows 16 (q16 m c t))) (add53 (read4 _ _ _ 0 _ _ (q4 m c t) rfl) (read4 _ _ _ 1 _ _ (q4 m c t) rfl) (read4 _ _ _ 2 _ _ (q4 m c t) rfl) (read4 _ _ _ 3 _ _ (q4 m c t) rfl) _))
  · exact (add242 (read16 _ _ _ 0 _ _ (k16 m c t) rfl) (read16 _ _ _ 1 _ _ (k16 m c t) rfl) (read16 _ _ _ 2 _ _ (k16 m c t) rfl) (read16 _ _ _ 3 _ _ (k16 m c t) rfl) _).trans (congrArg (addf · (rows 16 (k16 m c t))) (add75 (read4 _ _ _ 0 _ _ (k4 m c t) rfl) (read4 _ _ _ 1 _ _ (k4 m c t) rfl) (read4 _ _ _ 2 _ _ (k4 m c t) rfl) (read4 _ _ _ 3 _ _ (k4 m c t) rfl) _))
  · exact add96 (read4 _ _ _ 0 _ _ (v4 m c t) rfl) (read4 _ _ _ 1 _ _ (v4 m c t) rfl) (read4 _ _ _ 2 _ _ (v4 m c t) rfl) (read4 _ _ _ 3 _ _ (v4 m c t) rfl) _

end Cert.K.AttnSum

end
-- ==== Proof.AttnSum.Sums.lean ====
/- The sums over the patterns, entry by entry. -/
module

public import proofs.«01_k».proof.Proof.AttnSum.Step

@[expose] public section

set_option maxRecDepth 16384

noncomputable section

open Idealize.ShloMosaic Idealize.ShloMosaic.TcCoe Idealize.SL.Sem

namespace Cert.K.AttnSum

open Cert.AttnSumKernelIdeal Cert.AttnSumKernelIdeal.Gen

variable (m : (ℓ : Loc nD τ sig) → Buf (Elt Ideal) ℓ) (c : Dev nD) (t : Fin cfg0.N)

theorem live_on : ∀ t : Fin cfg0.N, (t.val + 1 < 16 → live t 1#32 = 1#1) ∧ (t.val + 2 < 16 → live t 2#32 = 1#1) ∧ (t.val + 8 < 16 → live t 8#32 = 1#1) :=
  (by decide +kernel : ∀ t : Fin grid0.N, _)
theorem live_off : ∀ t : Fin cfg0.N, (¬ t.val + 1 < 16 → live t 1#32 = 0#1) ∧ (¬ t.val + 2 < 16 → live t 2#32 = 0#1) ∧ (¬ t.val + 8 < 16 → live t 8#32 = 0#1) :=
  (by decide +kernel : ∀ t : Fin grid0.N, _)

section
variable (i : Fin 256) (j : Fin 512)

/-! ## The pattern without streams -/

theorem one_1 {φ : FTy} (X : FVec Ideal (Sq 4096 512) φ) (s q : ℕ) : one 1 X s q = at2 X s q := by
  unfold one
  rw [Nat.div_one, Nat.mod_one, Nat.zero_mul, Nat.zero_add]

theorem two_1 {φ : FTy} (X Y : FVec Ideal (Sq 4096 512) φ) (s q : ℕ) : two 1 X Y s q = at2 X s q + at2 Y (s + 128) q := by
  unfold two
  rw [Nat.div_one, Nat.mod_one, Nat.zero_mul, Nat.zero_add]

theorem q1_apply : q1 m c t (ix2 i j) = one 1 (A2 m c) (t.val * 256 + i.val) j.val := by
  refine Eq.trans ?_ ((blk0 m c t i j).trans (one_1 _ _ _).symm)
  pointwise [k0_pay18, k0_pay1]

/-- The part found by the next block, of this block's last rows and the next one's first. -/
theorem pay_ahead (n : BitVec 32) (x y : FVec Ideal S256x512 .bf16) :
    k0_pay32 (F := Ideal) n x y (ix2 i j) = if h : i.val < 128 then x (ix2 ⟨128 + i.val, by omega⟩ j)
      else Scalar.select (Scalar.cmpi .slt (Scalar.addi n 1#32) 16#32) (y (ix2 ⟨i.val - 128, by omega⟩ j)) 0 := by
  pointwise [k0_pay32]

theorem k31 (n : BitVec 32) (v x y : FVec Ideal S256x512 .bf16) : k0_pay31 (F := Ideal) n v x y (ix2 i j) = v (ix2 i j) + k0_pay32 (F := Ideal) n x y (ix2 i j) := rfl

theorem ahead_two (X Y : FVec Ideal (Sq 4096 512) .f32) (x v y : FVec Ideal S256x512 .bf16)
    (hv : v (ix2 i j) = at2 X (t.val * 256 + i.val) j.val)
    (hx : ∀ i : Fin 256, x (ix2 i j) = at2 Y (t.val * 256 + i.val) j.val)
    (hy : t.val + 1 < 16 → ∀ i : Fin 256, y (ix2 i j) = at2 Y ((t.val + 1) * 256 + i.val) j.val) :
    (v (ix2 i j) + k0_pay32 (F := Ideal) (BitVec.ofNat 32 (grid0.coords t 0).val) x y (ix2 i j) : EReal) = two 1 X Y (t.val * 256 + i.val) j.val := by
  rw [two_1, hv, pay_ahead]
  refine congrArg (at2 X _ _ + ·) ?_
  split
  · next h =>
    rw [hx]
    exact congrArg (at2 Y · _) (by show t.val * 256 + (128 + i.val) = t.val * 256 + i.val + 128; omega)
  · next h =>
    have := t16 t
    by_cases hl : t.val + 1 < 16
    · rw [show Scalar.cmpi .slt (Scalar.addi (BitVec.ofNat 32 (grid0.coords t 0).val) 1#32) 16#32 = 1#1 from (live_on t).1 hl]
      exact (hy hl _).trans (congrArg (at2 Y · _) (by show (t.val + 1) * 256 + (i.val - 128) = t.val * 256 + i.val + 128; omega))
    · rw [show Scalar.cmpi .slt (Scalar.addi (BitVec.ofNat 32 (grid0.coords t 0).val) 1#32) 16#32 = 0#1 from (live_off t).1 hl]
      exact (at2_out Y (by omega)).symm

theorem k1_apply : k1 m c t (ix2 i j) = two 1 (A3 m c) (A4 m c) (t.val * 256 + i.val) j.val := by
  refine (k31 i j _ _ _ _).trans (ahead_two t i j (A3 m c) (A4 m c) _ _ _ ?_ (fun r => ?_) (fun h r => ?_))
  · exact Eq.trans (by pointwise [k0_pay2]) (blk1 m c t i j)
  · exact Eq.trans (by pointwise [k0_pay3]) (blk2 m c t r j)
  · exact Eq.trans (by pointwise [k0_pay4]) (blk3 m c t r j h)

theorem v1_apply : v1 m c t (ix2 i j) = two 1 (A5 m c) (A6 m c) (t.val * 256 + i.val) j.val := by
  refine Eq.trans (b := ((k0_pay5 (F := Ideal) (iblk m c 4 t)) (ix2 i j) + k0_pay32 (F := Ideal) (BitVec.ofNat 32 (grid0.coords t 0).val) (k0_pay6 (iblk m c 5 t)) (k0_pay7 (iblk m c 6 t)) (ix2 i j) : EReal)) rfl
    (ahead_two t i j (A5 m c) (A6 m c) _ _ _ ?_ (fun r => ?_) (fun h r => ?_))
  · exact Eq.trans (by pointwise [k0_pay5]) (blk4 m c t i j)
  · exact Eq.trans (by pointwise [k0_pay6]) (blk5 m c t r j)
  · exact Eq.trans (by pointwise [k0_pay7]) (blk6 m c t r j h)

/-! ## The patterns in streams -/

theorem q4_apply : rows 4 (q4 m c t) (ix2 i j) = one 4 (A7 m c) (t.val * 256 + i.val) j.val :=
  rows_at (by decide) (by decide) (by decide) (by decide) _ t.val (fun r q => at2 (A7 m c) r q) (fun r q => Eq.trans (by pointwise [k0_pay20, k0_pay8]) (blk7 m c t r q)) i j

theorem q16_apply : rows 16 (q16 m c t) (ix2 i j) = one 16 (A12 m c) (t.val * 256 + i.val) j.val :=
  rows_at (by decide) (by decide) (by decide) (by decide) _ t.val (fun r q => at2 (A12 m c) r q) (fun r q => Eq.trans (by pointwise [k0_pay25, k0_pay13]) (blk12 m c t r q)) i j

/-- A block's own part and the one found by the block `k` further on, where there is one. -/
theorem two_sel {n w : ℕ} (X Y : FVec Ideal (Sq n w) .f32) (r q r' : ℕ) (b : EReal) (l : BitVec 1) (P : Prop) (hon : P → l = 1#1) (hoff : ¬ P → l = 0#1)
    (hb : P → b = at2 Y r' q) (hr : ¬ P → n ≤ r') : at2 X r q + Scalar.select l b 0 = at2 X r q + at2 Y r' q := by
  refine congrArg (at2 X r q + ·) ?_
  by_cases h : P
  · rw [hon h]
    exact hb h
  · rw [hoff h]
    exact (at2_out Y (Nat.not_lt.mpr (hr h))).symm

theorem k4_apply : rows 4 (k4 m c t) (ix2 i j) = two 4 (A8 m c) (A9 m c) (t.val * 256 + i.val) j.val := by
  refine rows_at (by decide) (by decide) (by decide) (by decide) _ t.val (fun r q => at2 (A8 m c) r q + at2 (A9 m c) (r + 128) q) (fun r q => ?_) i j
  refine Eq.trans ?_ (two_sel (A8 m c) (A9 m c) (t.val * 64 + r.val) q.val (t.val * 64 + r.val + 128) ((show FVec Ideal S64x2048 .bf16 from iblk m c 9 t) (ix2 r q)) (live t 2#32) (t.val + 2 < 16)
    (live_on t).2.1 (live_off t).2.1 (fun h => (blk9 m c t r q h).trans (congrArg (at2 _ · _) (by omega))) (fun h => by omega))
  rw [← blk8 m c t r q]
  pointwise [k0_pay54, k0_pay21, k0_pay9, k0_pay22, k0_pay10]

theorem v4_apply : rows 4 (v4 m c t) (ix2 i j) = two 4 (A10 m c) (A11 m c) (t.val * 256 + i.val) j.val := by
  refine rows_at (by decide) (by decide) (by decide) (by decide) _ t.val (fun r q => at2 (A10 m c) r q + at2 (A11 m c) (r + 128) q) (fun r q => ?_) i j
  refine Eq.trans ?_ (two_sel (A10 m c) (A11 m c) (t.val * 64 + r.val) q.val (t.val * 64 + r.val + 128) ((show FVec Ideal S64x2048 .bf16 from iblk m c 11 t) (ix2 r q)) (live t 2#32) (t.val + 2 < 16)
    (live_on t).2.1 (live_off t).2.1 (fun h => (blk11 m c t r q h).trans (congrArg (at2 _ · _) (by omega))) (fun h => by omega))
  rw [← blk10 m c t r q]
  pointwise [k0_pay76, k0_pay23, k0_pay11, k0_pay24, k0_pay12]

theorem k16_apply : rows 16 (k16 m c t) (ix2 i j) = two 16 (A13 m c) (A14 m c) (t.val * 256 + i.val) j.val := by
  refine rows_at (by decide) (by decide) (by decide) (by decide) _ t.val (fun r q => at2 (A13 m c) r q + at2 (A14 m c) (r + 128) q) (fun r q => ?_) i j
  refine Eq.trans ?_ (two_sel (A13 m c) (A14 m c) (t.val * 16 + r.val) q.val (t.val * 16 + r.val + 128) ((show FVec Ideal S16x8192 .bf16 from iblk m c 14 t) (ix2 r q)) (live t 8#32) (t.val + 8 < 16)
    (live_on t).2.2 (live_off t).2.2 (fun h => (blk14 m c t r q h).trans (congrArg (at2 _ · _) (by omega))) (fun h => by omega))
  rw [← blk13 m c t r q]
  pointwise [k0_pay177, k0_pay26, k0_pay14, k0_pay27]

theorem v16_apply : rows 16 (v16 m c t) (ix2 i j) = two 16 (A15 m c) (A16 m c) (t.val * 256 + i.val) j.val := by
  refine rows_at (by decide) (by decide) (by decide) (by decide) _ t.val (fun r q => at2 (A15 m c) r q + at2 (A16 m c) (r + 128) q) (fun r q => ?_) i j
  refine Eq.trans ?_ (two_sel (A15 m c) (A16 m c) (t.val * 16 + r.val) q.val (t.val * 16 + r.val + 128) ((show FVec Ideal S16x8192 .bf16 from iblk m c 16 t) (ix2 r q)) (live t 8#32) (t.val + 8 < 16)
    (live_on t).2.2 (live_off t).2.2 (fun h => (blk16 m c t r q h).trans (congrArg (at2 _ · _) (by omega))) (fun h => by omega))
  rw [← blk15 m c t r q]
  pointwise [k0_pay243, k0_pay28, k0_pay29]

/-! ## The sums -/

theorem sq_apply : sq m c t (ix2 i j) = sumQ (A2 m c) (A7 m c) (A12 m c) (t.val * 256 + i.val) j.val :=
  Ideal.add_congr (Ideal.add_congr (q1_apply m c t i j) (q4_apply m c t i j)) (q16_apply m c t i j)

theorem sk_apply : sk m c t (ix2 i j) = sumK (A3 m c) (A8 m c) (A13 m c) (A4 m c) (A9 m c) (A14 m c) (t.val * 256 + i.val) j.val :=
  Ideal.add_congr (Ideal.add_congr (k1_apply m c t i j) (k4_apply m c t i j)) (k16_apply m c t i j)

theorem sv_apply : sv m c t (ix2 i j) = sumK (A5 m c) (A10 m c) (A15 m c) (A6 m c) (A11 m c) (A16 m c) (t.val * 256 + i.val) j.val :=
  Ideal.add_congr (Ideal.add_congr (v1_apply m c t i j) (v4_apply m c t i j)) (v16_apply m c t i j)

end

end Cert.K.AttnSum

end
-- ==== Proof.AttnSum.Tables.lean ====
/- The rotary tables, and the rotation of a block. -/
module

public import proofs.«01_k».proof.Proof.AttnSum.Blocks

@[expose] public section

set_option maxRecDepth 16384

noncomputable section

open Idealize.ShloMosaic Idealize.ShloMosaic.TcCoe Idealize.SL.Sem

namespace Cert.K.AttnSum

open Cert.AttnSumKernelIdeal Cert.AttnSumKernelIdeal.Gen

variable (m : (ℓ : Loc nD τ sig) → Buf (Elt Ideal) ℓ) (c : Dev nD) (t : Fin cfg0.N)

/-- The positions. -/
abbrev A0 : IVec S4096 32 := m ((c : Thread nD τ).loc main_arg0)

/-- What the host computes before the tables are put together. -/
def σ : Valuation τ sig (Elt Ideal) := StableHlo.after (hostOps0.take 22) (fun b => m (c, b))

theorem V_split (b : Ref sig .tc) : V m c b = StableHlo.after (hostOps0.drop 22) (σ m c) b := by
  unfold σ
  rw [← StableHlo.after_append, List.take_append_drop]

/-- Two columns of eight and one of forty-eight, the same for every head. -/
def tab (a b : FVec Ideal S4096x8 .f32) (d : FVec Ideal S4096x48 .f32) : FVec Ideal S4096x512 .f32 :=
  shapeCast S4096x512 (broadcastInDim S1x4096x8x64 ![0, 1, 2, 3] bcast_S1x4096x1x64_S1x4096x8x64_0_1_2_3
    (shapeCast S1x4096x1x64 (concatenate S4096x64 1 [⟨S4096x8, a⟩, ⟨S4096x8, b⟩, ⟨S4096x48, d⟩] concatenates_S4096x8_S4096x8_S4096x48_S4096x64_d1 : FVec Ideal S4096x64 .f32)
      shapeCasts_S4096x64_S1x4096x1x64 : FVec Ideal S1x4096x1x64 .f32) : FVec Ideal S1x4096x8x64 .f32) shapeCasts_S1x4096x8x64_S4096x512

section
variable (s : Fin 4096) (j : Fin 512) (e : Fin 8) (k : Fin 48)

theorem tab_apply (a b : FVec Ideal S4096x8 .f32) (d : FVec Ideal S4096x48 .f32) : tab a b d (ix2 s j)
    = if h : j.val % 64 < 8 then a (ix2 s ⟨j.val % 64, h⟩) else if h' : j.val % 64 < 16 then b (ix2 s ⟨j.val % 64 - 8, by omega⟩) else d (ix2 s ⟨j.val % 64 - 16, by omega⟩) := by
  pointwise [tab]
  split
  · rfl
  · next h =>
    by_cases h' : j.val % 64 < 16
    · rw [dif_pos h', dif_pos (by omega)]
    · rw [dif_neg h', dif_neg (by omega)]
      rfl

theorem V_23 : (show FVec Ideal (Sq 4096 512) .f32 from V m c main_v23) = tab (σ m c main_v12) (σ m c main_v12) (σ m c main_v14) := by
  rw [V_split]
  generalize σ m c = σ
  dsimp only [hostOps0, List.drop]
  entry_read
  rfl

theorem V_26 : (show FVec Ideal (Sq 4096 512) .f32 from V m c main_v26) = tab (σ m c main_v15) (σ m c main_v13) (σ m c main_v16) := by
  rw [V_split]
  generalize σ m c = σ
  dsimp only [hostOps0, List.drop]
  entry_read
  rfl

/-- The same after the third table's columns. -/
def σ' : Valuation τ sig (Elt Ideal) := StableHlo.after ((hostOps0.drop 22).take 3) (σ m c)

theorem V_split' (b : Ref sig .tc) : V m c b = StableHlo.after ((hostOps0.drop 22).drop 3) (σ' m c) b := by
  unfold σ'
  rw [← StableHlo.after_append, List.take_append_drop]
  exact V_split m c b

theorem σ'_19 : (show FVec Ideal S4096x8 .f32 from σ' m c main_v19) = Host.negf (show FVec Ideal S4096x8 .f32 from σ m c main_v13) := by
  unfold σ'
  generalize σ m c = σ
  dsimp only [hostOps0, List.drop, List.take]
  entry_read
  rfl

theorem σ'_15 : σ' m c main_v15 = σ m c main_v15 := by
  unfold σ'
  generalize σ m c = σ
  dsimp only [hostOps0, List.drop, List.take]
  entry_read
  rfl

theorem σ'_16 : σ' m c main_v16 = σ m c main_v16 := by
  unfold σ'
  generalize σ m c = σ
  dsimp only [hostOps0, List.drop, List.take]
  entry_read
  rfl

theorem V_29 : (show FVec Ideal (Sq 4096 512) .f32 from V m c main_v29) = tab (σ' m c main_v19) (σ m c main_v15) (σ m c main_v16) := by
  rw [← σ'_15, ← σ'_16, V_split']
  generalize σ' m c = σ
  dsimp only [hostOps0, List.drop]
  entry_read
  rfl

theorem σ_12 : (show FVec Ideal S4096x8 .f32 from σ m c main_v12) (ix2 s e) = cs (A0 m c) s e := by
  unfold σ
  dsimp only [hostOps0, List.take]
  entry_read
  pointwise
  rfl

theorem σ_13 : (show FVec Ideal S4096x8 .f32 from σ m c main_v13) (ix2 s e) = sn (A0 m c) s e := by
  unfold σ
  dsimp only [hostOps0, List.take]
  entry_read
  pointwise
  rfl

theorem σ_14 : (show FVec Ideal S4096x48 .f32 from σ m c main_v14) (ix2 s k) = 1 := by
  unfold σ
  dsimp only [hostOps0, List.take]
  entry_read
  pointwise

theorem σ_15 : (show FVec Ideal S4096x8 .f32 from σ m c main_v15) (ix2 s e) = 0 := by
  unfold σ
  dsimp only [hostOps0, List.take]
  entry_read
  pointwise

theorem σ_16 : (show FVec Ideal S4096x48 .f32 from σ m c main_v16) (ix2 s k) = 0 := by
  unfold σ
  dsimp only [hostOps0, List.take]
  entry_read
  pointwise

theorem V_c : (show FVec Ideal (Sq 4096 512) .f32 from V m c main_v23) (ix2 s j)
    = if h : j.val % 64 < 8 then cs (A0 m c) s ⟨j.val % 64, h⟩ else if h' : j.val % 64 < 16 then cs (A0 m c) s ⟨j.val % 64 - 8, by omega⟩ else 1 := by
  refine (congrFun (V_23 m c) _).trans ((tab_apply s j _ _ _).trans ?_)
  split
  · exact σ_12 m c s _
  · split
    · exact σ_12 m c s _
    · exact σ_14 m c s _

theorem V_s1 : (show FVec Ideal (Sq 4096 512) .f32 from V m c main_v26) (ix2 s j)
    = if h : j.val % 64 < 8 then 0 else if h' : j.val % 64 < 16 then sn (A0 m c) s ⟨j.val % 64 - 8, by omega⟩ else 0 := by
  refine (congrFun (V_26 m c) _).trans ((tab_apply s j _ _ _).trans ?_)
  split
  · exact σ_15 m c s _
  · split
    · exact σ_13 m c s _
    · exact σ_16 m c s _

theorem V_s2 : (show FVec Ideal (Sq 4096 512) .f32 from V m c main_v29) (ix2 s j)
    = if h : j.val % 64 < 8 then -sn (A0 m c) s ⟨j.val % 64, h⟩ else 0 := by
  refine (congrFun (V_29 m c) _).trans ((tab_apply s j _ _ _).trans ?_)
  split
  · next h =>
    refine (congrFun (σ'_19 m c) _).trans (Eq.trans ?_ (congrArg (fun x : EReal => -x) (σ_13 m c s ⟨j.val % 64, h⟩)))
    pointwise
  · split
    · exact σ_15 m c s _
    · exact σ_16 m c s _

end

/-! ## The rotation of a block -/

section
variable (s : Fin 4096) (q : ℕ → EReal) (j : Fin 512)

/-- The rotation by the tables is the transposed rotation. -/
theorem rot_tables (a b d : Fin 512 → EReal)
    (ha : ∀ j : Fin 512, a j = if h : j.val % 64 < 8 then cs (A0 m c) s ⟨j.val % 64, h⟩ else if h' : j.val % 64 < 16 then cs (A0 m c) s ⟨j.val % 64 - 8, by omega⟩ else 1)
    (hb : ∀ j : Fin 512, b j = if h : j.val % 64 < 8 then 0 else if h' : j.val % 64 < 16 then sn (A0 m c) s ⟨j.val % 64 - 8, by omega⟩ else 0)
    (hd : ∀ j : Fin 512, d j = if h : j.val % 64 < 8 then -sn (A0 m c) s ⟨j.val % 64, h⟩ else 0) :
    (q j.val * a j + q ((j.val + 8) % 512) * b ⟨(j.val + 8) % 512, by omega⟩) + q ((j.val + 504) % 512) * d ⟨(j.val + 504) % 512, by omega⟩
      = rotT (cs (A0 m c) s) (sn (A0 m c) s) q j.val := by
  rw [ha, hb, hd]
  unfold rotT
  have e1 : (j.val + 8) % 512 % 64 = (j.val % 64 + 8) % 64 := by omega
  have e2 : (j.val + 504) % 512 % 64 = (j.val % 64 + 56) % 64 := by omega
  by_cases h : j.val % 64 < 8
  · have h8 : ¬ (j.val + 8) % 512 % 64 < 8 := by omega
    have h16 : (j.val + 8) % 512 % 64 < 16 := by omega
    have hn : ¬ (j.val + 504) % 512 % 64 < 8 := by omega
    rw [dif_pos h, dif_neg h8, dif_pos h16, dif_neg hn, dif_pos h, mul_zero, add_zero]
    exact congrArg (q j.val * cs (A0 m c) s ⟨j.val % 64, h⟩ + ·) (congrArg₂ (· * ·) (congrArg q (by omega))
      (congrArg (sn (A0 m c) s) (Fin.ext (by show (j.val + 8) % 512 % 64 - 8 = j.val % 64; omega))))
  · by_cases h' : j.val % 64 < 16
    · have h8 : ¬ (j.val + 8) % 512 % 64 < 8 := by omega
      have h16 : ¬ (j.val + 8) % 512 % 64 < 16 := by omega
      have hn : (j.val + 504) % 512 % 64 < 8 := by omega
      rw [dif_neg h, dif_pos h', dif_neg h8, dif_neg h16, dif_pos hn, dif_neg h, dif_pos h', mul_zero, add_zero]
      exact congrArg (q j.val * cs (A0 m c) s ⟨j.val % 64 - 8, by omega⟩ + ·) (congrArg₂ (· * ·) (congrArg q (by omega))
        (congrArg (fun z => -sn (A0 m c) s z) (Fin.ext (by show (j.val + 504) % 512 % 64 = j.val % 64 - 8; omega))))
    · have hb0 : ¬ (8 ≤ (j.val + 8) % 512 % 64 ∧ (j.val + 8) % 512 % 64 < 16) := by omega
      have hn : ¬ (j.val + 504) % 512 % 64 < 8 := by omega
      rw [dif_neg h, dif_neg h', dif_neg hn, dif_neg h, dif_neg h', mul_one, mul_zero, add_zero]
      split
      · rw [mul_zero, add_zero]
      · next h8 =>
        have h8' : ¬ (j.val + 8) % 512 % 64 < 8 := h8
        have h16 : ¬ (j.val + 8) % 512 % 64 < 16 := by omega
        rw [dif_neg h16, mul_zero, add_zero]

end

end Cert.K.AttnSum

end
-- ==== Proof.AttnSum.Value.lean ====
/- The sum over the patterns: what the kernel leaves. -/
module

public import proofs.«01_k».proof.Proof.AttnSum.Sums
public import proofs.«01_k».proof.Proof.AttnSum.Tables

@[expose] public section

set_option maxRecDepth 16384

noncomputable section

open Idealize.ShloMosaic Idealize.ShloMosaic.TcCoe Idealize.SL.Sem
open Idealize.ShloMosaic.Pipeline (Dat)

namespace Cert.K.AttnSum

open Cert.AttnSumKernelIdeal Cert.AttnSumKernelIdeal.Gen

variable (m : (ℓ : Loc nD τ sig) → Buf (Elt Ideal) ℓ) (c : Dev nD)

/-- The gradient of the projections. -/
def OUT : FVec Ideal S4096x2048 .bf16 := fun i =>
  outAt (A0 m c) (i 0) (sumQ (A2 m c) (A7 m c) (A12 m c) (i 0).val) (sumK (A3 m c) (A8 m c) (A13 m c) (A4 m c) (A9 m c) (A14 m c) (i 0).val)
    (sumK (A5 m c) (A10 m c) (A15 m c) (A6 m c) (A11 m c) (A16 m c) (i 0).val) (at2 (A1 m c) (i 0).val) (i 1)

variable (t : Fin cfg0.N)

theorem lt0 (i : Fin 256) : t.val * 256 + i.val < 4096 := by
  have := t16 t
  omega

section
variable (i : Fin 256)

theorem rot_block (q : FVec Ideal S256x512 .f32) (f : ℕ → EReal) (hq : ∀ j : Fin 512, q (ix2 i j) = f j.val) (j : Fin 512) :
    rotV q (k0_pay15 (iblk m c 17 t)) (k0_pay16 (iblk m c 18 t)) (k0_pay17 (iblk m c 19 t)) (ix2 i j)
      = rotT (cs (A0 m c) ⟨t.val * 256 + i.val, lt0 t i⟩) (sn (A0 m c) ⟨t.val * 256 + i.val, lt0 t i⟩) f j.val := by
  refine (rotV_apply _ _ _ _ i j).trans (Eq.trans ?_ (rot_tables m c ⟨t.val * 256 + i.val, lt0 t i⟩ f j (fun j => k0_pay15 (F := Ideal) (iblk m c 17 t) (ix2 i j))
    (fun j => k0_pay16 (F := Ideal) (iblk m c 18 t) (ix2 i j)) (fun j => k0_pay17 (F := Ideal) (iblk m c 19 t) (ix2 i j)) (fun j => ?_) (fun j => ?_) (fun j => ?_)))
  · rw [hq, hq, hq]
  · exact Eq.trans (by pointwise [k0_pay15]) ((blk17 m c t i j).trans ((at2_eq _ (lt0 t i) j.isLt).trans (V_c m c _ j)))
  · exact Eq.trans (by pointwise [k0_pay16]) ((blk18 m c t i j).trans ((at2_eq _ (lt0 t i) j.isLt).trans (V_s1 m c _ j)))
  · exact Eq.trans (by pointwise [k0_pay17]) ((blk19 m c t i j).trans ((at2_eq _ (lt0 t i) j.isLt).trans (V_s2 m c _ j)))

theorem block_apply (q k v u x a b : FVec Ideal S256x512 .f32) (j : Fin 2048) : block q k v u x a b (ix2 i j)
    = if h : j.val < 512 then rotV q x a b (ix2 i ⟨j.val, h⟩) else if h : j.val < 1024 then rotV k x a b (ix2 i ⟨j.val - 512, by omega⟩)
      else if h : j.val < 1536 then v (ix2 i ⟨j.val - 1024, by omega⟩) else u (ix2 i ⟨j.val - 1536, by omega⟩) := by
  unfold block
  pointwise
  by_cases h1 : j.val < 512
  · rw [dif_pos h1, dif_pos h1]
  · rw [dif_neg h1, dif_neg h1]
    by_cases h2 : j.val < 1024
    · rw [dif_pos h2, dif_pos (by omega)]
    · rw [dif_neg h2, dif_neg (by omega)]
      by_cases h3 : j.val < 1536
      · rw [dif_pos h3, dif_pos (by omega)]
        exact congrArg v (congrArg (ix2 i) (Fin.ext (by show j.val - 512 - 512 = j.val - 1024; omega)))
      · rw [dif_neg h3, dif_neg (by omega)]
        exact congrArg u (congrArg (ix2 i) (Fin.ext (by show j.val - 512 - 512 - 512 = j.val - 1536; omega)))

theorem out_row (j : Fin 2048) : outsAt0 m c t (ix2 i j) = OUT m c (ix2 ⟨t.val * 256 + i.val, lt0 t i⟩ j) := by
  refine (congrFun (out_block m c t) _).trans ((block_apply i _ _ _ _ _ _ _ j).trans ?_)
  show _ = outAt (A0 m c) ⟨t.val * 256 + i.val, lt0 t i⟩ (sumQ (A2 m c) (A7 m c) (A12 m c) (t.val * 256 + i.val))
    (sumK (A3 m c) (A8 m c) (A13 m c) (A4 m c) (A9 m c) (A14 m c) (t.val * 256 + i.val))
    (sumK (A5 m c) (A10 m c) (A15 m c) (A6 m c) (A11 m c) (A16 m c) (t.val * 256 + i.val)) (at2 (A1 m c) (t.val * 256 + i.val)) j
  unfold outAt
  by_cases h1 : j.val < 512
  · rw [dif_pos h1, if_pos h1]
    exact rot_block m c t i _ _ (fun j => sq_apply m c t i j) _
  · rw [dif_neg h1, if_neg h1]
    by_cases h2 : j.val < 1024
    · rw [dif_pos h2, if_pos h2]
      exact rot_block m c t i _ _ (fun j => sk_apply m c t i j) _
    · rw [dif_neg h2, if_neg h2]
      by_cases h3 : j.val < 1536
      · rw [dif_pos h3, if_pos h3]
        exact sv_apply m c t i _
      · rw [dif_neg h3, if_neg h3]
        exact Eq.trans (by pointwise [k0_pay30]) (blk20 m c t i ⟨j.val - 1536, by omega⟩)

end

theorem out_final : (dats m 0 c).arrAt 21 (cfgs 0).N = OUT m c := by
  refine (dats m 0 c).arrAt_eq_of_covers 21 _ (by decide +kernel) fun t _ y => ?_
  idx_vars y
  have he : ((cfg0.win 21).blk t).view.emb (show S256x2048.Idx from ix2 y0 y1) = (show S4096x2048.Idx from ix2 ⟨t.val * 256 + y0.val, lt0 t y0⟩ y1) := by
    blk_ext [idxA t]
  refine Eq.trans ?_ (congrArg (OUT m c) he).symm
  blk_simp
  rw [after0_21]
  exact out_row m c t y0 y1

end Cert.K.AttnSum

end
-- ==== Proof.AttnSum.RefSum.lean ====
/- What the reference computes of one pattern: its streams, the next block of a stream, and the rows put back in order. -/
module

public import proofs.«01_k».proof.Proof.AttnSum.Spec
public import proofs.«01_k».proof.Proof.Gen.AttnSumReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.K.AttnSum

open Cert.AttnSumReferenceIdeal Cert.AttnSumReferenceIdeal.Gen Cert.AttnSumReferenceIdeal.Read

theorem zero_bits : Ideal.ofBits FTy.f32 0x00000000#32 = (0 : EReal) := Ideal.ofBits_zero_f32

section
variable (x y : FVec Ideal S4096x512 .f32) (b : Fin 32) (p : Fin 128) (h : Fin 8) (e : Fin 64)

theorem lay1 : val_main_v2 (F := Ideal) x (ix5 0 b p h e) = at2 x (b.val * 128 + p.val) (h.val * 64 + e.val) := by
  rw [at2_eq x (by omega) (by omega)]
  pointwise [val_main_v2, val_main_v1, val_main_v0]

theorem next1 : val_main_v286 (F := Ideal) y (ix5 0 b p h e) = at2 y ((b.val + 1) * 128 + p.val) (h.val * 64 + e.val) := by
  pointwise [val_main_v286, val_main_v285]
  by_cases hb : b.val < 31
  · rw [dif_pos hb, Nat.add_comm b.val 1]
    exact lay1 y ⟨1 + b.val, by omega⟩ p h e
  · rw [dif_neg hb, at2_out y (by omega)]
    exact zero_bits

theorem un1 (z : FVec Ideal S1x32x128x8x64 .f32) (s : Fin 4096) :
    shapeCast S1x4096x8x64 (transpose S1x4096x1x8x64 [0, 2, 1, 3, 4] (shapeCast S1x1x4096x8x64 z shapeCasts_S1x32x128x8x64_S1x1x4096x8x64)
      transposes_S1x1x4096x8x64_S1x4096x1x8x64_0_2_1_3_4) shapeCasts_S1x4096x1x8x64_S1x4096x8x64 (ix4 0 s h e)
      = z (ix5 0 ⟨s.val / 128, by omega⟩ ⟨s.val % 128, by omega⟩ h e) := by
  pointwise

theorem one1 (s : Fin 4096) : val_main_v302 (F := Ideal) x (ix4 0 s h e) = one 1 x s.val (h.val * 64 + e.val) :=
  (un1 h e (val_main_v2 (F := Ideal) x) s).trans ((lay1 x _ _ h e).trans
    (congrArg₂ (at2 x) (by show _ = s.val / 1; dsimp only; omega) (by show _ = s.val % 1 * 512 + (h.val * 64 + e.val); omega)))

theorem two1 (s : Fin 4096) : val_main_v290 (F := Ideal) x y (ix4 0 s h e) = two 1 x y s.val (h.val * 64 + e.val) :=
  (un1 h e _ s).trans (congrArg₂ (fun a b : EReal => a + b)
    ((lay1 x _ _ h e).trans
      (congrArg₂ (at2 x) (by show _ = s.val / 1; dsimp only; omega) (by show _ = s.val % 1 * 512 + (h.val * 64 + e.val); omega)))
    ((next1 y _ _ h e).trans
      (congrArg₂ (at2 y) (by show _ = s.val / 1 + 128; dsimp only; omega) (by show _ = s.val % 1 * 512 + (h.val * 64 + e.val); omega))))

end

section
variable (x y : FVec Ideal S1024x2048 .f32) (r : Fin 4) (b : Fin 8) (p : Fin 128) (h : Fin 8) (e : Fin 64)

theorem lay4 : val_main_v37 (F := Ideal) x (ix5 r b p h e) = at2 x (b.val * 128 + p.val) (r.val * 512 + (h.val * 64 + e.val)) := by
  rw [at2_eq x (by omega) (by omega)]
  pointwise [val_main_v37, val_main_v36, val_main_v35]
  exact congrArg x (congrArg₂ ix2 rfl (Fin.ext (by dsimp only; omega)))

theorem next4 : val_main_v266 (F := Ideal) y (ix5 r b p h e) = at2 y ((b.val + 1) * 128 + p.val) (r.val * 512 + (h.val * 64 + e.val)) := by
  pointwise [val_main_v266, val_main_v265]
  by_cases hb : b.val < 7
  · rw [dif_pos hb, Nat.add_comm b.val 1]
    exact lay4 y r ⟨1 + b.val, by omega⟩ p h e
  · rw [dif_neg hb, at2_out y (by omega)]
    exact zero_bits

theorem un4 (z : FVec Ideal S4x8x128x8x64 .f32) (s : Fin 4096) :
    shapeCast S1x4096x8x64 (transpose S1x1024x4x8x64 [0, 2, 1, 3, 4] (shapeCast S1x4x1024x8x64 z shapeCasts_S4x8x128x8x64_S1x4x1024x8x64)
      transposes_S1x4x1024x8x64_S1x1024x4x8x64_0_2_1_3_4) shapeCasts_S1x1024x4x8x64_S1x4096x8x64 (ix4 0 s h e)
      = z (ix5 ⟨s.val % 4, by omega⟩ ⟨s.val / 4 / 128, by omega⟩ ⟨s.val / 4 % 128, by omega⟩ h e) := by
  pointwise

theorem one4 (s : Fin 4096) : val_main_v282 (F := Ideal) x (ix4 0 s h e) = one 4 x s.val (h.val * 64 + e.val) :=
  (un4 h e (val_main_v37 (F := Ideal) x) s).trans ((lay4 x ⟨s.val % 4, by omega⟩ _ _ h e).trans
    (congrArg₂ (at2 x) (by show _ = s.val / 4; dsimp only; omega) rfl))

theorem two4 (s : Fin 4096) : val_main_v270 (F := Ideal) x y (ix4 0 s h e) = two 4 x y s.val (h.val * 64 + e.val) :=
  (un4 h e _ s).trans (congrArg₂ (fun a b : EReal => a + b)
    ((lay4 x ⟨s.val % 4, by omega⟩ _ _ h e).trans
      (congrArg₂ (at2 x) (by show _ = s.val / 4; dsimp only; omega) rfl))
    ((next4 y ⟨s.val % 4, by omega⟩ _ _ h e).trans
      (congrArg₂ (at2 y) (by show _ = s.val / 4 + 128; dsimp only; omega) rfl)))

end

section
variable (x y : FVec Ideal S256x8192 .f32) (r : Fin 16) (b : Fin 2) (p : Fin 128) (h : Fin 8) (e : Fin 64)

theorem lay16 : val_main_v72 (F := Ideal) x (ix5 r b p h e) = at2 x (b.val * 128 + p.val) (r.val * 512 + (h.val * 64 + e.val)) := by
  rw [at2_eq x (by omega) (by omega)]
  pointwise [val_main_v72, val_main_v71, val_main_v70]
  exact congrArg x (congrArg₂ ix2 rfl (Fin.ext (by dsimp only; omega)))

theorem next16 : val_main_v249 (F := Ideal) y (ix5 r b p h e) = at2 y ((b.val + 1) * 128 + p.val) (r.val * 512 + (h.val * 64 + e.val)) := by
  pointwise [val_main_v249, val_main_v248]
  by_cases hb : b.val < 1
  · rw [dif_pos hb, Nat.add_comm b.val 1]
    exact lay16 y r ⟨1 + b.val, by omega⟩ p h e
  · rw [dif_neg hb, at2_out y (by omega)]
    exact zero_bits

theorem un16 (z : FVec Ideal S16x2x128x8x64 .f32) (s : Fin 4096) :
    shapeCast S1x4096x8x64 (transpose S1x256x16x8x64 [0, 2, 1, 3, 4] (shapeCast S1x16x256x8x64 z shapeCasts_S16x2x128x8x64_S1x16x256x8x64)
      transposes_S1x16x256x8x64_S1x256x16x8x64_0_2_1_3_4) shapeCasts_S1x256x16x8x64_S1x4096x8x64 (ix4 0 s h e)
      = z (ix5 ⟨s.val % 16, by omega⟩ ⟨s.val / 16 / 128, by omega⟩ ⟨s.val / 16 % 128, by omega⟩ h e) := by
  pointwise

theorem one16 (s : Fin 4096) : val_main_v263 (F := Ideal) x (ix4 0 s h e) = one 16 x s.val (h.val * 64 + e.val) :=
  (un16 h e (val_main_v72 (F := Ideal) x) s).trans ((lay16 x ⟨s.val % 16, by omega⟩ _ _ h e).trans
    (congrArg₂ (at2 x) (by show _ = s.val / 16; dsimp only; omega) rfl))

theorem two16 (s : Fin 4096) : val_main_v253 (F := Ideal) x y (ix4 0 s h e) = two 16 x y s.val (h.val * 64 + e.val) :=
  (un16 h e _ s).trans (congrArg₂ (fun a b : EReal => a + b)
    ((lay16 x ⟨s.val % 16, by omega⟩ _ _ h e).trans
      (congrArg₂ (at2 x) (by show _ = s.val / 16; dsimp only; omega) rfl))
    ((next16 y ⟨s.val % 16, by omega⟩ _ _ h e).trans
      (congrArg₂ (at2 y) (by show _ = s.val / 16 + 128; dsimp only; omega) rfl)))

end

theorem swap3 (a b c : EReal) : c + b + a = a + b + c := by rw [add_comm, add_comm c b, add_assoc]

section
variable (a a' : FVec Ideal S4096x512 .f32) (b b' : FVec Ideal S1024x2048 .f32) (c c' : FVec Ideal S256x8192 .f32) (s : Fin 4096) (h : Fin 8) (e : Fin 64)

theorem sum_q : val_main_v303 (F := Ideal) a b c (ix4 0 s h e) = sumQ a b c s.val (h.val * 64 + e.val) :=
  (congrArg₂ (fun a b : EReal => a + b) (congrArg₂ (fun a b : EReal => a + b) (one16 c h e s) (one4 b h e s)) (one1 a h e s)).trans (swap3 _ _ _)

theorem sum_v : val_main_v291 (F := Ideal) a a' b b' c c' (ix4 0 s h e) = sumK a b c a' b' c' s.val (h.val * 64 + e.val) :=
  (congrArg₂ (fun a b : EReal => a + b) (congrArg₂ (fun a b : EReal => a + b) (two16 c c' h e s) (two4 b b' h e s)) (two1 a a' h e s)).trans (swap3 _ _ _)

theorem sum_k : val_main_v299 (F := Ideal) a a' b b' c c' (ix4 0 s h e) = sumK a b c a' b' c' s.val (h.val * 64 + e.val) := sum_v a a' b b' c c' s h e

end

end Cert.K.AttnSum

end
-- ==== Proof.AttnSum.RefRot.lean ====
/- What the reference computes of the rotary embedding's gradient, and of the whole. -/
module

public import proofs.«01_k».proof.Proof.AttnSum.RefSum
public import proofs.«01_k».proof.Proof.Gen.AttnSumReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.K.AttnSum

open Cert.AttnSumReferenceIdeal Cert.AttnSumReferenceIdeal.Gen Cert.AttnSumReferenceIdeal.Read

section
variable (z : FVec Ideal S1x4096x8x64 .f32) (a b : FVec Ideal S1x4096x1x8 .f32)

abbrev lo : FVec Ideal S1x4096x8x8 .f32 := extractStridedSlice S1x4096x8x8 ![0, 0, 0, 0] z slices_S1x4096x8x64_S1x4096x8x8_0_0_0_0
abbrev hi : FVec Ideal S1x4096x8x8 .f32 := extractStridedSlice S1x4096x8x8 ![0, 0, 0, 8] z slices_S1x4096x8x64_S1x4096x8x8_0_0_0_8
abbrev rest : FVec Ideal S1x4096x8x48 .f32 := extractStridedSlice S1x4096x8x48 ![0, 0, 0, 16] z slices_S1x4096x8x64_S1x4096x8x48_0_0_0_16
abbrev wide : FVec Ideal S1x4096x8x8 .f32 := broadcastInDim S1x4096x8x8 ![0, 1, 2, 3] bcast_S1x4096x1x8_S1x4096x8x8_0_1_2_3 a

/-- The three groups of lanes apart, rotated, and put together again. -/
def rotH : FVec Ideal S1x4096x8x64 .f32 :=
  addf (addf (pad S1x4096x8x64 ![0, 0, 0, 16] ![0, 0, 0, 0] ![0, 0, 0, 0] (rest z) (constant S_ .f32 0x00000000#32) pads_S1x4096x8x48_S1x4096x8x64_000_000_000_1600 h_S_)
      (pad S1x4096x8x64 ![0, 0, 0, 8] ![0, 0, 0, 48] ![0, 0, 0, 0] (addf (mulf (hi z) (wide a)) (mulf (Host.negf (lo z)) (wide b))) (constant S_ .f32 0x00000000#32)
        pads_S1x4096x8x8_S1x4096x8x64_000_000_000_8480 h_S_))
    (pad S1x4096x8x64 ![0, 0, 0, 0] ![0, 0, 0, 56] ![0, 0, 0, 0] (addf (mulf (hi z) (wide b)) (mulf (lo z) (wide a))) (constant S_ .f32 0x00000000#32)
      pads_S1x4096x8x8_S1x4096x8x64_000_000_000_0560 h_S_)

theorem rotH_apply (s : Fin 4096) (h : Fin 8) (e : Fin 64) : rotH z a b (ix4 0 s h e)
    = if h' : e.val < 8 then z (ix4 0 s h e) * a (ix4 0 s 0 ⟨e.val, h'⟩) + z (ix4 0 s h ⟨e.val + 8, by omega⟩) * b (ix4 0 s 0 ⟨e.val, h'⟩)
      else if h' : e.val < 16 then z (ix4 0 s h e) * a (ix4 0 s 0 ⟨e.val - 8, by omega⟩) + z (ix4 0 s h ⟨e.val - 8, by omega⟩) * -b (ix4 0 s 0 ⟨e.val - 8, by omega⟩)
      else z (ix4 0 s h e) := by
  pointwise [rotH, lo, hi, rest, wide]
  by_cases h1 : e.val < 8
  · rw [dif_neg (show ¬(16 ≤ e.val ∧ e.val - 16 < 48) by omega), dif_neg (show ¬(8 ≤ e.val ∧ e.val - 8 < 8) by omega), dif_pos h1, dif_pos h1, zero_add, zero_add, add_comm]
    exact congrArg₂ (fun p q : EReal => p + q) rfl (congrArg (fun q : EReal => q * _) (congrArg z (congrArg (ix4 0 s h) (Fin.ext (Nat.add_comm _ _)))))
  · rw [dif_neg h1, dif_neg h1, add_zero]
    by_cases h2 : e.val < 16
    · rw [dif_neg (show ¬(16 ≤ e.val ∧ e.val - 16 < 48) by omega), dif_pos (show 8 ≤ e.val ∧ e.val - 8 < 8 by omega), dif_pos h2, zero_add]
      exact congrArg₂ (fun p q : EReal => p + q) (congrArg (fun q : EReal => q * _) (congrArg z (congrArg (ix4 0 s h) (Fin.ext (by dsimp only; omega)))))
        ((neg_mul _ _).trans (mul_neg _ _).symm)
    · rw [dif_pos (show 16 ≤ e.val ∧ e.val - 16 < 48 by omega), dif_neg (show ¬(8 ≤ e.val ∧ e.val - 8 < 8) by omega), dif_neg h2, add_zero]
      exact congrArg z (congrArg (ix4 0 s h) (Fin.ext (by dsimp only; omega)))

/-- By the lane of the whole row: head `j / 64`, lane `j % 64` of it. -/
theorem rotH_row (s : Fin 4096) (f : ℕ → EReal) (c d : Fin 8 → EReal) (hz : ∀ (h : Fin 8) (e : Fin 64), z (ix4 0 s h e) = f (h.val * 64 + e.val))
    (ha : ∀ e, a (ix4 0 s 0 e) = c e) (hb : ∀ e, b (ix4 0 s 0 e) = d e) (j : Fin 512) :
    rotH z a b (ix4 0 s ⟨j.val / 64, by omega⟩ ⟨j.val % 64, by omega⟩) = rotT c d f j.val := by
  rw [rotH_apply]
  simp only [hz, ha, hb]
  unfold rotT
  by_cases h1 : j.val % 64 < 8
  · rw [dif_pos h1, dif_pos h1, show j.val / 64 * 64 + j.val % 64 = j.val by omega, show j.val / 64 * 64 + (j.val % 64 + 8) = j.val + 8 by omega]
  · rw [dif_neg h1, dif_neg h1]
    by_cases h2 : j.val % 64 < 16
    · rw [dif_pos h2, dif_pos h2, show j.val / 64 * 64 + j.val % 64 = j.val by omega, show j.val / 64 * 64 + (j.val % 64 - 8) = j.val - 8 by omega]
    · rw [dif_neg h2, dif_neg h2, show j.val / 64 * 64 + j.val % 64 = j.val by omega]

theorem flat_apply (s : Fin 4096) (j : Fin 512) :
    shapeCast S1x4096x512 z shapeCasts_S1x4096x8x64_S1x4096x512 (ix3 0 s j) = z (ix4 0 s ⟨j.val / 64, by omega⟩ ⟨j.val % 64, by omega⟩) := by
  pointwise

end

/-- The sum over an axis of length one. -/
theorem unit_sum (y : FVec Ideal S1x4096x512 .f32) (s : Fin 4096) (j : Fin 512) :
    Host.reduceAdd y (constant S_ .f32 0x00000000#32) reducesTo_S1x4096x512_S4096x512_d0 h_S_ (ix2 s j) = y (ix3 0 s j) := by
  simp only [Host.reduceAdd, Ideal.hostReduceAdd_def]
  rw [Ideal.hostReduceAdd_single reducesTo_S1x4096x512_S4096x512_d0 (by decide)]
  refine (congrArg₂ (fun p q : EReal => p + q) zero_bits (Fin.sum_univ_one _)).trans ((zero_add _).trans (congrArg y ?_))
  funext a
  fin_cases a <;> rfl

theorem side_apply (q k v u : FVec Ideal S4096x512 .f32) (s : Fin 4096) (j : Fin 2048) :
    concatenate S4096x2048 1 [⟨S4096x512, q⟩, ⟨S4096x512, k⟩, ⟨S4096x512, v⟩, ⟨S4096x512, u⟩] concatenates_S4096x512_S4096x512_S4096x512_S4096x512_S4096x2048_d1 (ix2 s j)
      = if h : j.val < 512 then q (ix2 s ⟨j.val, h⟩) else if h : j.val < 1024 then k (ix2 s ⟨j.val - 512, by omega⟩)
        else if h : j.val < 1536 then v (ix2 s ⟨j.val - 1024, by omega⟩) else u (ix2 s ⟨j.val - 1536, by omega⟩) := by
  pointwise
  by_cases h1 : j.val < 512
  · rw [dif_pos h1, dif_pos h1]
  · rw [dif_neg h1, dif_neg h1]
    by_cases h2 : j.val < 1024
    · rw [dif_pos h2, dif_pos (by omega)]
    · rw [dif_neg h2, dif_neg (by omega)]
      by_cases h3 : j.val < 1536
      · rw [dif_pos h3, dif_pos (by omega)]
        exact congrArg v (congrArg (ix2 s) (Fin.ext (by show j.val - 512 - 512 = j.val - 1024; omega)))
      · rw [dif_neg h3, dif_neg (by omega)]
        exact congrArg u (congrArg (ix2 s) (Fin.ext (by show j.val - 512 - 512 - 512 = j.val - 1536; omega)))

section
variable (x0 : IVec S4096 32) (s : Fin 4096) (e : Fin 8)

theorem angle_apply : val_main_v126 (F := Ideal) x0 (ix4 0 s 0 e) = ang x0 s e := by
  pointwise [val_main_v126, val_main_v125, val_main_v124, val_main_v123, val_main_v122, val_main_v121, val_main_v120, val_main_v119, val_main_v118, val_main_v117, val_main_v116, val_main_v115, val_main_cst_15, val_main_cst_16]
  rfl

theorem cos_q : val_main_v127 (F := Ideal) x0 (ix4 0 s 0 e) = cs x0 s e := congrArg Ideal.cos (angle_apply x0 s e)
theorem sin_q : val_main_v128 (F := Ideal) x0 (ix4 0 s 0 e) = sn x0 s e := congrArg Ideal.sin (angle_apply x0 s e)
theorem cos_k : val_main_v156 (F := Ideal) x0 (ix4 0 s 0 e) = cs x0 s e := cos_q x0 s e
theorem sin_k : val_main_v157 (F := Ideal) x0 (ix4 0 s 0 e) = sn x0 s e := sin_q x0 s e

end

section
variable (x0 : IVec S4096 32) (a a' : FVec Ideal S4096x512 .f32) (b b' : FVec Ideal S1024x2048 .f32) (c c' : FVec Ideal S256x8192 .f32)
variable (s : Fin 4096) (j : Fin 512)

theorem ref_q : val_main_v348 (F := Ideal) x0 a b c (ix2 s j) = rotT (cs x0 s) (sn x0 s) (sumQ a b c s.val) j.val := by
  refine (unit_sum (val_main_v344 (F := Ideal) x0 a b c) s j).trans ((flat_apply (val_main_v343 (F := Ideal) x0 a b c) s j).trans ?_)
  exact rotH_row (val_main_v303 (F := Ideal) a b c) (val_main_v127 (F := Ideal) x0) (val_main_v128 (F := Ideal) x0) s _ _ _ (sum_q a b c s) (cos_q x0 s) (sin_q x0 s) j

theorem ref_k : val_main_v347 (F := Ideal) x0 a a' b b' c c' (ix2 s j) = rotT (cs x0 s) (sn x0 s) (sumK a b c a' b' c' s.val) j.val := by
  refine (unit_sum (val_main_v324 (F := Ideal) x0 a a' b b' c c') s j).trans ((flat_apply (val_main_v323 (F := Ideal) x0 a a' b b' c c') s j).trans ?_)
  exact rotH_row (val_main_v299 (F := Ideal) a a' b b' c c') (val_main_v156 (F := Ideal) x0) (val_main_v157 (F := Ideal) x0) s _ _ _ (sum_k a a' b b' c c' s) (cos_k x0 s) (sin_k x0 s) j

theorem ref_v : val_main_v346 (F := Ideal) a a' b b' c c' (ix2 s j) = sumK a b c a' b' c' s.val j.val := by
  refine (unit_sum (val_main_v304 (F := Ideal) a a' b b' c c') s j).trans ((flat_apply (val_main_v291 (F := Ideal) a a' b b' c c') s j).trans ((sum_v a a' b b' c c' s _ _).trans ?_))
  exact congrArg (sumK a b c a' b' c' s.val) (by dsimp only; omega)

theorem ref_u : val_main_v345 (F := Ideal) a (ix2 s j) = at2 a s.val j.val := by
  refine (unit_sum (val_main_v246 (F := Ideal) a) s j).trans (Eq.trans ?_ (at2_eq a s.isLt j.isLt).symm)
  pointwise [val_main_v246]

end

theorem reference_out (x0 : IVec S4096 32) (x1 x2 x3 x4 x5 x6 : FVec Ideal S4096x512 .f32) (x7 x8 x9 x10 x11 : FVec Ideal S1024x2048 .f32)
    (x12 x13 x14 x15 x16 : FVec Ideal S256x8192 .f32) (s : Fin 4096) (j : Fin 2048) :
    val_main_v350 (F := Ideal) x0 x1 x2 x3 x4 x5 x6 x7 x8 x9 x10 x11 x12 x13 x14 x15 x16 (ix2 s j)
      = outAt x0 s (sumQ x2 x7 x12 s.val) (sumK x3 x8 x13 x4 x9 x14 s.val) (sumK x5 x10 x15 x6 x11 x16 s.val) (at2 x1 s.val) j := by
  refine (side_apply (val_main_v348 (F := Ideal) x0 x2 x7 x12) (val_main_v347 (F := Ideal) x0 x3 x4 x8 x9 x13 x14) (val_main_v346 (F := Ideal) x5 x6 x10 x11 x15 x16)
    (val_main_v345 (F := Ideal) x1) s j).trans ?_
  unfold outAt
  by_cases h1 : j.val < 512
  · rw [dif_pos h1, if_pos h1]
    exact ref_q x0 x2 x7 x12 s ⟨j.val, h1⟩
  · rw [dif_neg h1, if_neg h1]
    by_cases h2 : j.val < 1024
    · rw [dif_pos h2, if_pos h2]
      exact ref_k x0 x3 x4 x8 x9 x13 x14 s _
    · rw [dif_neg h2, if_neg h2]
      by_cases h3 : j.val < 1536
      · rw [dif_pos h3, if_pos h3]
        exact ref_v x5 x6 x10 x11 x15 x16 s _
      · rw [dif_neg h3, if_neg h3]
        exact ref_u x1 s _

end Cert.K.AttnSum

end
-- ==== Proof.AttnSum.Claim.lean ====
/- The sum over the patterns: the kernel computes what the reference computes. -/
module

public import proofs.«01_k».proof.Proof.AttnSum.Value
public import proofs.«01_k».proof.Proof.AttnSum.RefRot
public import proofs.«01_k».proof.Proof.Gen.AttnSumReferenceIdeal.Run
public import proofs.«01_k».proof.Defs

@[expose] public section

set_option maxRecDepth 16384

noncomputable section

open Idealize.ShloMosaic Idealize.ShloMosaic.TcCoe Idealize.SL.Sem

namespace Cert.K.AttnSum

theorem reference_OUT (m : (ℓ : Loc Cert.AttnSumKernelIdeal.nD Cert.AttnSumKernelIdeal.τ Cert.AttnSumKernelIdeal.sig) → Buf (Elt Ideal) ℓ) (c : Dev Cert.AttnSumKernelIdeal.nD) :
    Cert.AttnSumReferenceIdeal.Read.val_main_v350 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) = OUT m c := by
  funext y
  idx_vars y
  exact reference_out (A0 m c) (A1 m c) (A2 m c) (A3 m c) (A4 m c) (A5 m c) (A6 m c) (A7 m c) (A8 m c) (A9 m c) (A10 m c) (A11 m c) (A12 m c) (A13 m c) (A14 m c) (A15 m c) (A16 m c) y0 y1

set_option maxHeartbeats 2000000 in
theorem algebraic : Cert.algebraic_AttnSumKernelIdeal_AttnSumReferenceIdeal := by
  pair_intro
  · run_from Cert.AttnSumKernelIdeal.Value.run_blocks m g
  · refine (θ_run Cert.AttnSumReferenceIdeal.defs _ _).mono (fun r h c => ?_) (Cert.AttnSumReferenceIdeal.Value.run m' g')
    obtain ⟨r0, rest⟩ := h c
    obtain ⟨h0, h1, h2, h3, h4, h5, h6, h7, h8, h9, h10, h11, h12, h13, h14, h15, h16⟩ := hagree c
    refine ⟨r0.trans ?_, rest⟩
    · refine (Cert.AttnSumReferenceIdeal.Read.val_main_v350_eq (F := Ideal) _).trans ?_
      show Cert.AttnSumReferenceIdeal.Read.val_main_v350 (F := Ideal) (m' (c.tc.loc Cert.AttnSumReferenceIdeal.main_arg0)) (m' (c.tc.loc Cert.AttnSumReferenceIdeal.main_arg1)) (m' (c.tc.loc Cert.AttnSumReferenceIdeal.main_arg2)) (m' (c.tc.loc Cert.AttnSumReferenceIdeal.main_arg3)) (m' (c.tc.loc Cert.AttnSumReferenceIdeal.main_arg4)) (m' (c.tc.loc Cert.AttnSumReferenceIdeal.main_arg5)) (m' (c.tc.loc Cert.AttnSumReferenceIdeal.main_arg6)) (m' (c.tc.loc Cert.AttnSumReferenceIdeal.main_arg7)) (m' (c.tc.loc Cert.AttnSumReferenceIdeal.main_arg8)) (m' (c.tc.loc Cert.AttnSumReferenceIdeal.main_arg9)) (m' (c.tc.loc Cert.AttnSumReferenceIdeal.main_arg10)) (m' (c.tc.loc Cert.AttnSumReferenceIdeal.main_arg11)) (m' (c.tc.loc Cert.AttnSumReferenceIdeal.main_arg12)) (m' (c.tc.loc Cert.AttnSumReferenceIdeal.main_arg13)) (m' (c.tc.loc Cert.AttnSumReferenceIdeal.main_arg14)) (m' (c.tc.loc Cert.AttnSumReferenceIdeal.main_arg15)) (m' (c.tc.loc Cert.AttnSumReferenceIdeal.main_arg16)) = _
      rw [h0, h1, h2, h3, h4, h5, h6, h7, h8, h9, h10, h11, h12, h13, h14, h15, h16]
      exact (reference_OUT m c).trans (out_final m c).symm

end Cert.K.AttnSum

end
-- ==== Proof.Mix.Streams.lean ====
/- The layouts of a block in streams: the kernel stores the block's four column groups apart and reads every row class of each with a stride. -/
module

public import proofs.«01_k».proof.Proof.Gen.MixKernelIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.K.Mix

open Cert.MixKernelIdeal Cert.MixKernelIdeal.Gen

variable (x : FVec Ideal S512x512 .f32)

/-- The block with its four column groups apart. -/
def chunk : FVec Ideal S4x512x128 .f32 := fun y => x (ix2 (y 1) ⟨(y 0).val * 128 + (y 2).val, by
  have h0 : (y 0).val < 4 := (y 0).isLt
  have h2 : (y 2).val < 128 := (y 2).isLt
  omega⟩)

/-- Row class `k / 4` of `d`, column group `k % 4`. -/
def part (n d : ℕ) (hn : d * n = 512) (k : Fin (4 * d)) : FVec Ideal (⟨2, ![n, 128]⟩ : Shape) .f32 := fun i =>
  x (ix2 ⟨k.val / 4 + d * (i 0).val, by
    have h0 : (i 0).val + 1 ≤ n := (i 0).isLt
    have h1 := Nat.mul_le_mul_left d h0
    have := k.isLt
    rw [Nat.mul_add, Nat.mul_one, hn] at h1
    omega⟩ ⟨k.val % 4 * 128 + (i 1).val, by
    have h1 : (i 1).val < 128 := (i 1).isLt
    omega⟩)

/-- A strided read of what holds the column groups apart. -/
theorem read_part (n d : ℕ) (hn : d * n = 512) (k : Fin (4 * d)) (c r : ℕ) (ec : c = k.val % 4) (er : r = k.val / 4)
    (hin : ∀ a, (![c, 0, 0] : Fin 3 → ℕ) a + (![1, 512, 128] : Fin 3 → ℕ) a ≤ S4x512x128.size a)
    (inb) (h0) (hs) (hu) (hR) :
    @LoadRect.valAlong (Rect.unit (s := S4x512x128) ![c, 0, 0] ![1, 512, 128] hin).shape S512x128 (⟨![r, 0], ![n, 128], ![d, 1], inb⟩ : LoadRect S512x128)
      (LoadRect.consLift (⟨![r, 0], ![n, 128], ![d, 1], inb⟩ : LoadRect S512x128) ![1, 512, 128] h0 hs) hR (Elt Ideal .f32)
      (fun j => chunk x (((Rect.unit (s := S4x512x128) ![c, 0, 0] ![1, 512, 128] hin).withinL
        (LoadRect.consLift (⟨![r, 0], ![n, 128], ![d, 1], inb⟩ : LoadRect S512x128) ![1, 512, 128] h0 hs) hu).idx j)) = part x n d hn k := by
  funext i
  show chunk x (((Rect.unit (s := S4x512x128) ![c, 0, 0] ![1, 512, 128] hin).withinL
    (LoadRect.consLift (⟨![r, 0], ![n, 128], ![d, 1], inb⟩ : LoadRect S512x128) ![1, 512, 128] h0 hs) hu).idx (show _ from Shape.reshapeEquiv hR i)) = _
  have hx : Shape.reshapeEquiv hR i = Fin.cons ⟨0, Nat.one_pos⟩ i := Shape.reshapeEquiv_cons_one (d := ![n, 128]) _ _
  rw [hx]
  subst ec er
  unfold chunk part
  refine congrArg x (congrArg₂ ix2 (Fin.ext ?_) (Fin.ext ?_))
  · show 0 + k.val / 4 + d * (i 0).val = k.val / 4 + d * (i 0).val
    omega
  · show (k.val % 4 + 0 + 1 * 0) * 128 + (0 + 0 + 1 * (i 1).val) = k.val % 4 * 128 + (i 1).val
    omega

theorem canon_chunk (Ls : List (View.Piece (Elt Ideal) S4x512x128 .f32)) (h : ∀ q ∈ Ls, ∀ y, q.2 y = chunk x (q.1.emb y))
    (hc : ∀ y, ∃ q ∈ Ls, y ∈ q.1.set) : View.canon Ls = chunk x :=
  funext fun y => View.canon_apply_of_pieces (chunk x) Ls h y (hc y)

theorem group0 (y) : k0_pay25 (F := Ideal) x y = chunk x ((Rect.unit (s := S4x512x128) ![0, 0, 0] ![1, 512, 128] inb_S4x512x128_S1x512x128_0_0_0).emb y) := by
  idx_vars y
  fin_cases y0
  unfold chunk
  pointwise [k0_pay25]
  blk_ext!

theorem group1 (y) : k0_pay26 (F := Ideal) x y = chunk x ((Rect.unit (s := S4x512x128) ![1, 0, 0] ![1, 512, 128] inb_S4x512x128_S1x512x128_1_0_0).emb y) := by
  idx_vars y
  fin_cases y0
  unfold chunk
  pointwise [k0_pay26]
  blk_ext!

theorem group2 (y) : k0_pay27 (F := Ideal) x y = chunk x ((Rect.unit (s := S4x512x128) ![2, 0, 0] ![1, 512, 128] inb_S4x512x128_S1x512x128_2_0_0).emb y) := by
  idx_vars y
  fin_cases y0
  unfold chunk
  pointwise [k0_pay27]
  blk_ext!

theorem group3 (y) : k0_pay28 (F := Ideal) x y = chunk x ((Rect.unit (s := S4x512x128) ![3, 0, 0] ![1, 512, 128] inb_S4x512x128_S1x512x128_3_0_0).emb y) := by
  idx_vars y
  fin_cases y0
  unfold chunk
  pointwise [k0_pay28]
  blk_ext!

/-- The four groups, stored one after the other. -/
abbrev groups : List (View.Piece (Elt Ideal) S4x512x128 .f32) :=
  [⟨Rect.unit (s := S4x512x128) ![3, 0, 0] ![1, 512, 128] inb_S4x512x128_S1x512x128_3_0_0, k0_pay28 (F := Ideal) x⟩,
   ⟨Rect.unit (s := S4x512x128) ![2, 0, 0] ![1, 512, 128] inb_S4x512x128_S1x512x128_2_0_0, k0_pay27 (F := Ideal) x⟩,
   ⟨Rect.unit (s := S4x512x128) ![1, 0, 0] ![1, 512, 128] inb_S4x512x128_S1x512x128_1_0_0, k0_pay26 (F := Ideal) x⟩,
   ⟨Rect.unit (s := S4x512x128) ![0, 0, 0] ![1, 512, 128] inb_S4x512x128_S1x512x128_0_0_0, k0_pay25 (F := Ideal) x⟩]

theorem groups_all : ∀ q ∈ groups x, ∀ y, q.2 y = chunk x (q.1.emb y) := by
  intro q hq
  rcases List.mem_cons.mp hq with rfl | hq
  · exact group3 x
  rcases List.mem_cons.mp hq with rfl | hq
  · exact group2 x
  rcases List.mem_cons.mp hq with rfl | hq
  · exact group1 x
  rcases List.mem_cons.mp hq with rfl | hq
  · exact group0 x
  exact absurd hq List.not_mem_nil

theorem groups_cover (y : S4x512x128.Idx) : ∃ q ∈ groups x, y ∈ q.1.set :=
  View.cover_of_tiledL (groups x) ![1, 512, 128] (by sl_kernel_rfl) y

theorem canon4 : View.canon (groups x) = chunk x := canon_chunk x _ (groups_all x) (groups_cover x)

/-- The same groups stored twice. -/
theorem canon8 : View.canon (
  [⟨Rect.unit (s := S4x512x128) ![3, 0, 0] ![1, 512, 128] inb_S4x512x128_S1x512x128_3_0_0, shapeCast S1x512x128 (extractStridedSlice S512x128 ![0, 384] x slices_S512x512_o0_384_S512x128) shapeCasts_S512x128_S1x512x128⟩,
   ⟨Rect.unit (s := S4x512x128) ![2, 0, 0] ![1, 512, 128] inb_S4x512x128_S1x512x128_2_0_0, shapeCast S1x512x128 (extractStridedSlice S512x128 ![0, 256] x slices_S512x512_o0_256_S512x128) shapeCasts_S512x128_S1x512x128⟩,
   ⟨Rect.unit (s := S4x512x128) ![1, 0, 0] ![1, 512, 128] inb_S4x512x128_S1x512x128_1_0_0, shapeCast S1x512x128 (extractStridedSlice S512x128 ![0, 128] x slices_S512x512_o0_128_S512x128) shapeCasts_S512x128_S1x512x128⟩,
   ⟨Rect.unit (s := S4x512x128) ![0, 0, 0] ![1, 512, 128] inb_S4x512x128_S1x512x128_0_0_0, shapeCast S1x512x128 (extractStridedSlice S512x128 ![0, 0] x slices_S512x512_o0_0_S512x128) shapeCasts_S512x128_S1x512x128⟩,
⟨Rect.unit (s := S4x512x128) ![3, 0, 0] ![1, 512, 128] inb_S4x512x128_S1x512x128_3_0_0, k0_pay28 (F := Ideal) x⟩,
   ⟨Rect.unit (s := S4x512x128) ![2, 0, 0] ![1, 512, 128] inb_S4x512x128_S1x512x128_2_0_0, k0_pay27 (F := Ideal) x⟩,
   ⟨Rect.unit (s := S4x512x128) ![1, 0, 0] ![1, 512, 128] inb_S4x512x128_S1x512x128_1_0_0, k0_pay26 (F := Ideal) x⟩,
   ⟨Rect.unit (s := S4x512x128) ![0, 0, 0] ![1, 512, 128] inb_S4x512x128_S1x512x128_0_0_0, k0_pay25 (F := Ideal) x⟩] : List (View.Piece (Elt Ideal) S4x512x128 .f32)) = chunk x :=
  canon_chunk x (groups x ++ groups x) (fun q hq => (List.mem_append.mp hq).elim (groups_all x q) (groups_all x q))
    fun y => (groups_cover x y).imp fun q hq => ⟨List.mem_append_left _ hq.1, hq.2⟩

theorem streams4 {a0 a1 a2 a3 a4 a5 a6 a7 a8 a9 a10 a11 a12 a13 a14 a15 : FVec Ideal S128x128 .f32} (h0 : a0 = part x 128 4 rfl 0) (h1 : a1 = part x 128 4 rfl 1) (h2 : a2 = part x 128 4 rfl 2) (h3 : a3 = part x 128 4 rfl 3) (h4 : a4 = part x 128 4 rfl 4) (h5 : a5 = part x 128 4 rfl 5) (h6 : a6 = part x 128 4 rfl 6) (h7 : a7 = part x 128 4 rfl 7) (h8 : a8 = part x 128 4 rfl 8) (h9 : a9 = part x 128 4 rfl 9) (h10 : a10 = part x 128 4 rfl 10) (h11 : a11 = part x 128 4 rfl 11) (h12 : a12 = part x 128 4 rfl 12) (h13 : a13 = part x 128 4 rfl 13) (h14 : a14 = part x 128 4 rfl 14) (h15 : a15 = part x 128 4 rfl 15) (i : Fin 128) (j : Fin 2048) :
    k0_pay29 (F := Ideal) a0 a1 a2 a3 a4 a5 a6 a7 a8 a9 a10 a11 a12 a13 a14 a15 (ix2 i j) = x (ix2 ⟨4 * i.val + j.val / 512, by omega⟩ ⟨j.val % 512, by omega⟩) := by
  subst h0 h1 h2 h3 h4 h5 h6 h7 h8 h9 h10 h11 h12 h13 h14 h15
  refine (concatenate_ofFn_apply (t := S128x2048) (s₁ := S128x128) 1 (fun k : Fin 16 => part x 128 4 rfl k) (show Shape.Concatenates (List.replicate 16 S128x128) S128x2048 1 from by decide) rfl 128 rfl (ix2 i j) ⟨j.val / 128, by omega⟩ rfl
    (ix2 i ⟨j.val % 128, by omega⟩) rfl fun b hb => ?_).trans ?_
  · fin_cases b
    · rfl
    · exact absurd rfl hb
  · unfold part
    refine congrArg x (congrArg₂ ix2 (Fin.ext ?_) (Fin.ext ?_))
    · show j.val / 128 / 4 + 4 * i.val = 4 * i.val + j.val / 512
      omega
    · show j.val / 128 % 4 * 128 + j.val % 128 = j.val % 512
      omega

theorem streams16 {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 : FVec Ideal S32x128 .f32} (h0 : a0 = part x 32 16 rfl 0) (h1 : a1 = part x 32 16 rfl 1) (h2 : a2 = part x 32 16 rfl 2) (h3 : a3 = part x 32 16 rfl 3) (h4 : a4 = part x 32 16 rfl 4) (h5 : a5 = part x 32 16 rfl 5) (h6 : a6 = part x 32 16 rfl 6) (h7 : a7 = part x 32 16 rfl 7) (h8 : a8 = part x 32 16 rfl 8) (h9 : a9 = part x 32 16 rfl 9) (h10 : a10 = part x 32 16 rfl 10) (h11 : a11 = part x 32 16 rfl 11) (h12 : a12 = part x 32 16 rfl 12) (h13 : a13 = part x 32 16 rfl 13) (h14 : a14 = part x 32 16 rfl 14) (h15 : a15 = part x 32 16 rfl 15) (h16 : a16 = part x 32 16 rfl 16) (h17 : a17 = part x 32 16 rfl 17) (h18 : a18 = part x 32 16 rfl 18) (h19 : a19 = part x 32 16 rfl 19) (h20 : a20 = part x 32 16 rfl 20) (h21 : a21 = part x 32 16 rfl 21) (h22 : a22 = part x 32 16 rfl 22) (h23 : a23 = part x 32 16 rfl 23) (h24 : a24 = part x 32 16 rfl 24) (h25 : a25 = part x 32 16 rfl 25) (h26 : a26 = part x 32 16 rfl 26) (h27 : a27 = part x 32 16 rfl 27) (h28 : a28 = part x 32 16 rfl 28) (h29 : a29 = part x 32 16 rfl 29) (h30 : a30 = part x 32 16 rfl 30) (h31 : a31 = part x 32 16 rfl 31) (h32 : a32 = part x 32 16 rfl 32) (h33 : a33 = part x 32 16 rfl 33) (h34 : a34 = part x 32 16 rfl 34) (h35 : a35 = part x 32 16 rfl 35) (h36 : a36 = part x 32 16 rfl 36) (h37 : a37 = part x 32 16 rfl 37) (h38 : a38 = part x 32 16 rfl 38) (h39 : a39 = part x 32 16 rfl 39) (h40 : a40 = part x 32 16 rfl 40) (h41 : a41 = part x 32 16 rfl 41) (h42 : a42 = part x 32 16 rfl 42) (h43 : a43 = part x 32 16 rfl 43) (h44 : a44 = part x 32 16 rfl 44) (h45 : a45 = part x 32 16 rfl 45) (h46 : a46 = part x 32 16 rfl 46) (h47 : a47 = part x 32 16 rfl 47) (h48 : a48 = part x 32 16 rfl 48) (h49 : a49 = part x 32 16 rfl 49) (h50 : a50 = part x 32 16 rfl 50) (h51 : a51 = part x 32 16 rfl 51) (h52 : a52 = part x 32 16 rfl 52) (h53 : a53 = part x 32 16 rfl 53) (h54 : a54 = part x 32 16 rfl 54) (h55 : a55 = part x 32 16 rfl 55) (h56 : a56 = part x 32 16 rfl 56) (h57 : a57 = part x 32 16 rfl 57) (h58 : a58 = part x 32 16 rfl 58) (h59 : a59 = part x 32 16 rfl 59) (h60 : a60 = part x 32 16 rfl 60) (h61 : a61 = part x 32 16 rfl 61) (h62 : a62 = part x 32 16 rfl 62) (h63 : a63 = part x 32 16 rfl 63) (i : Fin 32) (j : Fin 8192) :
    k0_pay35 (F := Ideal) a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60 a61 a62 a63 (ix2 i j) = x (ix2 ⟨16 * i.val + j.val / 512, by omega⟩ ⟨j.val % 512, by omega⟩) := by
  subst h0 h1 h2 h3 h4 h5 h6 h7 h8 h9 h10 h11 h12 h13 h14 h15 h16 h17 h18 h19 h20 h21 h22 h23 h24 h25 h26 h27 h28 h29 h30 h31 h32 h33 h34 h35 h36 h37 h38 h39 h40 h41 h42 h43 h44 h45 h46 h47 h48 h49 h50 h51 h52 h53 h54 h55 h56 h57 h58 h59 h60 h61 h62 h63
  refine (concatenate_ofFn_apply (t := S32x8192) (s₁ := S32x128) 1 (fun k : Fin 64 => part x 32 16 rfl k) (show Shape.Concatenates (List.replicate 64 S32x128) S32x8192 1 from by decide) rfl 128 rfl (ix2 i j) ⟨j.val / 128, by omega⟩ rfl
    (ix2 i ⟨j.val % 128, by omega⟩) rfl fun b hb => ?_).trans ?_
  · fin_cases b
    · rfl
    · exact absurd rfl hb
  · unfold part
    refine congrArg x (congrArg₂ ix2 (Fin.ext ?_) (Fin.ext ?_))
    · show j.val / 128 / 4 + 16 * i.val = 16 * i.val + j.val / 512
      omega
    · show j.val / 128 % 4 * 128 + j.val % 128 = j.val % 512
      omega

end Cert.K.Mix

end
-- ==== Proof.Norm.Row.lean ====
/- The norm of a row and its gradient, and the logistic gate and its gradient, as the programs of the layer use them. -/
module

public import Idealize.ShloMosaic.Lib.Pipeline.ValueKit
public import Idealize.ShloMosaic.Lib.Pointwise

@[expose] public section

noncomputable section

open Idealize.ShloMosaic

namespace Cert.K.Norm

variable {n : ℕ}

/-- The mean of the squares of a row, `w` its width, and the small number added to it. -/
def ms (w : EReal) (x : Fin n → EReal) : EReal := Ideal.div (∑ k, x k * x k) w + Ideal.ofBits .f32 0x358637BD#32

/-- What the norm multiplies the row by. -/
def inv (w : EReal) (x : Fin n → EReal) : EReal := Ideal.rsqrt (ms w x)

/-- The norm of a row with gain `g`. -/
def rms (w : EReal) (x g : Fin n → EReal) (q : Fin n) : EReal := x q * inv w x * g q

/-- What the gradient of the norm multiplies the row by, given the cotangent times the gain. -/
def coef (w : EReal) (x e : Fin n → EReal) : EReal :=
  Ideal.div ((∑ k, x k * e k) * (Ideal.ofBits .f32 0xBF000000#32 * Ideal.div (inv w x) (ms w x))) w

/-- The gradient of the norm in its row, given the cotangent times the gain. -/
def dx (w : EReal) (x e : Fin n → EReal) (q : Fin n) : EReal := e q * inv w x + x q * coef w x e + coef w x e * x q

/-- The gradient of the norm in its gain, one row's share. -/
def dg (w : EReal) (x ct : Fin n → EReal) (q : Fin n) : EReal := x q * inv w x * ct q

/-- The logistic function. -/
def sig (x : EReal) : EReal := Ideal.div 1 (1 + Ideal.exp (-x))

theorem zero_sub (x : EReal) : (0 : EReal) - x = -x := by rw [sub_eq_add_neg, zero_add]

/-- The derivative of the logistic function, as the quotient rule writes it and through its own value. -/
theorem sig_slope (x : EReal) :
    Ideal.div 1 ((1 + Ideal.exp (-x)) * (1 + Ideal.exp (-x))) * Ideal.exp (-x) = sig x * (1 - sig x) := by
  unfold sig
  induction x using EReal.rec with
  | bot =>
    rw [EReal.neg_bot, show Ideal.exp ⊤ = ⊤ from rfl]
    have h : (1 : EReal) + ⊤ = ⊤ := EReal.add_top_of_ne_bot (by decide)
    rw [h, EReal.top_mul_top, show Ideal.div 1 ⊤ = 0 by simp [Ideal.div]]
    simp
  | top =>
    rw [EReal.neg_top, Ideal.exp_bot, add_zero, mul_one, mul_zero, show Ideal.div 1 1 = 1 by simp [Ideal.div]]
    rw [show (1 : EReal) - 1 = 0 from by rw [← EReal.coe_one, ← EReal.coe_sub, sub_self, EReal.coe_zero], mul_zero]
  | coe a =>
    rw [← EReal.coe_neg, Ideal.exp_coe]
    have hp : (1 : ℝ) + Real.exp (-a) ≠ 0 := by positivity
    have e1 : (1 : EReal) + ((Real.exp (-a) : ℝ) : EReal) = ((1 + Real.exp (-a) : ℝ) : EReal) := by push_cast; rfl
    rw [e1, ← EReal.coe_mul, Ideal.div_coe (mul_ne_zero hp hp), Ideal.div_coe hp]
    norm_cast
    field_simp
    ring

/-- Equal arguments, equal values, for a function of three, four, five or six arguments. -/
theorem congr3 {α β γ δ : Type*} (f : α → β → γ → δ) {a a' : α} {b b' : β} {c c' : γ}
    (ha : a = a') (hb : b = b') (hc : c = c') : f a b c = f a' b' c' := by subst ha hb hc; rfl
theorem congr4 {α β γ δ ε : Type*} (f : α → β → γ → δ → ε) {a a' : α} {b b' : β} {c c' : γ} {d d' : δ}
    (ha : a = a') (hb : b = b') (hc : c = c') (hd : d = d') : f a b c d = f a' b' c' d' := by subst ha hb hc hd; rfl
theorem congr5 {α β γ δ ε ζ : Type*} (f : α → β → γ → δ → ε → ζ) {a a' : α} {b b' : β} {c c' : γ} {d d' : δ} {e e' : ε}
    (ha : a = a') (hb : b = b') (hc : c = c') (hd : d = d') (he : e = e') : f a b c d e = f a' b' c' d' e' := by
  subst ha hb hc hd he; rfl
theorem congr6 {α β γ δ ε ζ η : Type*} (f : α → β → γ → δ → ε → ζ → η) {a a' : α} {b b' : β} {c c' : γ} {d d' : δ} {e e' : ε}
    {g g' : ζ} (ha : a = a') (hb : b = b') (hc : c = c') (hd : d = d') (he : e = e') (hg : g = g') :
    f a b c d e g = f a' b' c' d' e' g' := by subst ha hb hc hd he hg; rfl

end Cert.K.Norm

end
-- ==== Proof.Mix.Value.lean ====
/- What the pipeline of the gradient of the two norms and the gate in front of the output product leaves, in terms of the arrays it reads. -/
module

public import proofs.«01_k».proof.Proof.Mix.Streams
public import proofs.«01_k».proof.Proof.Norm.Row
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.K.Mix

open Cert.MixKernelIdeal Cert.MixKernelIdeal.Gen Cert.K.Norm

/-- The width of a row. -/
abbrev w5 : EReal := Ideal.ofBits .f32 0x44000000#32

/-- A column of the attention's half of the mixed row, and of the state-space model's. -/
abbrev lo (q : Fin 512) : Fin 1024 := ⟨q.val, by omega⟩
abbrev hi (q : Fin 512) : Fin 1024 := ⟨512 + q.val, by omega⟩

/-- The gradient of the mixed rows. -/
def P (d : FVec Ideal S4096x1024 .bf16) (w : FVec Ideal S1024x1024 .bf16) : FVec Ideal S4096x1024 .f32 := fun i =>
  ∑ k : Fin 1024, d (ix2 (i 0) k) * w (ix2 (i 1) k)

section
variable (a s y t : FVec Ideal S4096x512 .f32) (p : FVec Ideal S4096x1024 .f32) (g : FVec Ideal S512 .f32)

def DA : FVec Ideal S4096x512 .f32 := fun i => dx w5 (fun k => a (ix2 (i 0) k)) (fun k => p (ix2 (i 0) (lo k)) * g (ix1 k)) (i 1)
def DGA : FVec Ideal S1x512 .f32 := fun i => ∑ r : Fin 4096, dg w5 (fun k => a (ix2 r k)) (fun k => p (ix2 r (lo k))) (i 1)
def DS : FVec Ideal S4096x512 .f32 := fun i => dx w5 (fun k => s (ix2 (i 0) k)) (fun k => p (ix2 (i 0) (hi k)) * g (ix1 k)) (i 1)
def DGS : FVec Ideal S1x512 .f32 := fun i => ∑ r : Fin 4096, dg w5 (fun k => s (ix2 r k)) (fun k => p (ix2 r (hi k))) (i 1)
def gate (d y t : EReal) : EReal := d * y * sig t * (1 - sig t)
def DT : FVec Ideal S4096x512 .bf16 := fun i => gate (DS s p g i) (y i) (t i)
def DY : FVec Ideal S4096x512 .f32 := fun i => DS s p g i * sig (t i)
def DB : FVec Ideal S1x512 .f32 := fun i => ∑ r : Fin 4096, gate (DS s p g (ix2 r (i 1))) (y (ix2 r (i 1))) (t (ix2 r (i 1)))
end

/-- An array of rows in four and in sixteen streams. -/
def ST4 (a : FVec Ideal S4096x512 .f32) : FVec Ideal S1024x2048 .f32 := fun i => a (ix2 ⟨4 * (i 0).val + (i 1).val / 512, by
  have h0 : (i 0).val < 1024 := (i 0).isLt
  have h1 : (i 1).val < 2048 := (i 1).isLt
  omega⟩ ⟨(i 1).val % 512, by omega⟩)
def ST16 (a : FVec Ideal S4096x512 .f32) : FVec Ideal S256x8192 .f32 := fun i => a (ix2 ⟨16 * (i 0).val + (i 1).val / 512, by
  have h0 : (i 0).val < 256 := (i 0).isLt
  have h1 : (i 1).val < 8192 := (i 1).isLt
  omega⟩ ⟨(i 1).val % 512, by omega⟩)

/-! ## What one block's body computes -/

section
variable (d : FVec Ideal S512x1024 .bf16) (w : FVec Ideal S1024x1024 .bf16) (a s y t : FVec Ideal S512x512 .f32) (ga gs : FVec Ideal S1x512 .f32) (r q : Fin 512)

theorem body_p (q : Fin 1024) : k0_pay3 (F := Ideal) d w (ix2 r q) = ∑ k : Fin 1024, d (ix2 r k) * w (ix2 q k) := by
  pointwise [k0_pay3]

/-- One block of the attention's gradient. -/
abbrev ablk : FVec Ideal S512x512 .f32 := k0_pay14 (F := Ideal) a (k0_pay7 ga) (k0_pay9 d w) (k0_pay11 a) (k0_pay12 a)

theorem body_a : ablk d w a ga (ix2 r q) = dx w5 (fun k => a (ix2 r k)) (fun k => k0_pay3 (F := Ideal) d w (ix2 r (lo k)) * ga (ix2 0 k)) q := by
  generalize hp : k0_pay3 (F := Ideal) d w = p
  have h9 : k0_pay9 (F := Ideal) d w = extractStridedSlice S512x512 ![0, 0] p slices_S512x1024_o0_0_S512x512 := by rw [← hp]; rfl
  unfold ablk
  rw [h9]
  pointwise [k0_pay14, k0_pay7, k0_pay10, k0_pay11, k0_pay12]
  simp only [Fin.sum_univ_one]
  rfl

theorem body_ga : k0_pay13 (F := Ideal) d w a (ix2 0 q) = ∑ r : Fin 512, dg w5 (fun k => a (ix2 r k)) (fun k => k0_pay3 (F := Ideal) d w (ix2 r (lo k))) q := by
  generalize hp : k0_pay3 (F := Ideal) d w = p
  have h9 : k0_pay9 (F := Ideal) d w = extractStridedSlice S512x512 ![0, 0] p slices_S512x1024_o0_0_S512x512 := by rw [← hp]; rfl
  unfold k0_pay13
  rw [h9]
  pointwise [k0_pay10, k0_pay11]
  rfl

/-- One block of the state-space model's gradient. -/
abbrev sblk : FVec Ideal S512x512 .f32 :=
  k0_pay22 (F := Ideal) (k0_pay4 s) (k0_pay20 (k0_pay3 d w) (k0_pay4 s) (k0_pay8 gs)) (k0_pay21 (k0_pay3 d w) (k0_pay4 s) (k0_pay8 gs))

theorem body_s : sblk d w s gs (ix2 r q) = dx w5 (fun k => s (ix2 r k)) (fun k => k0_pay3 (F := Ideal) d w (ix2 r (hi k)) * gs (ix2 0 k)) q := by
  generalize hp : k0_pay3 (F := Ideal) d w = p
  unfold sblk
  rw [hp]
  pointwise [k0_pay22, k0_pay20, k0_pay21, k0_pay19, k0_pay17, k0_pay16, k0_pay15, k0_pay8, k0_pay4]
  simp only [Fin.sum_univ_one]
  rfl

theorem body_gs : k0_pay18 (F := Ideal) (k0_pay3 d w) (k0_pay4 s) (ix2 0 q) = ∑ r : Fin 512, dg w5 (fun k => s (ix2 r k)) (fun k => k0_pay3 (F := Ideal) d w (ix2 r (hi k))) q := by
  generalize hp : k0_pay3 (F := Ideal) d w = p
  pointwise [k0_pay18, k0_pay17, k0_pay16, k0_pay15, k0_pay4]
  rfl

/-- One block of the gate's gradient. -/
abbrev tblk : FVec Ideal S512x512 .f32 :=
  k0_pay24 (F := Ideal) (k0_pay4 s) (k0_pay5 y) (k0_pay6 t) (k0_pay20 (k0_pay3 d w) (k0_pay4 s) (k0_pay8 gs)) (k0_pay21 (k0_pay3 d w) (k0_pay4 s) (k0_pay8 gs))

theorem body_sig : k0_pay23 (F := Ideal) (k0_pay6 t) (ix2 r q) = sig (t (ix2 r q)) := by
  pointwise [k0_pay23, k0_pay6]
  unfold Norm.sig
  rw [zero_sub]

theorem body_t : tblk d w s y t gs (ix2 r q) = gate (sblk d w s gs (ix2 r q)) (y (ix2 r q)) (t (ix2 r q)) := by
  unfold gate
  rw [← body_sig]
  generalize hs : sblk d w s gs = z
  have h : tblk d w s y t gs = mulf (mulf (mulf z (k0_pay5 y)) (k0_pay23 (k0_pay6 t)))
      (subf (broadcast S512x512 (Scalar.ofBits .f32 0x3F800000#32)) (k0_pay23 (k0_pay6 t))) := by rw [← hs]; rfl
  rw [h]
  generalize k0_pay23 (F := Ideal) (k0_pay6 t) = e
  pointwise [k0_pay5]

theorem body_dt : k0_pay38 (F := Ideal) (tblk d w s y t gs) (ix2 r q) = tblk d w s y t gs (ix2 r q) := rfl

theorem body_y : k0_pay36 (F := Ideal) (sblk d w s gs) (k0_pay23 (k0_pay6 t)) (ix2 r q) = sblk d w s gs (ix2 r q) * sig (t (ix2 r q)) := by
  rw [← body_sig]
  rfl

theorem body_b : k0_pay37 (F := Ideal) (tblk d w s y t gs) (ix2 0 q) = ∑ r : Fin 512, tblk d w s y t gs (ix2 r q) := by
  generalize tblk d w s y t gs = z
  pointwise [k0_pay37]

end

theorem acc1 (x y : FVec Ideal S1x512 .f32) (i : S1x512.Idx) : k0_pay1 (F := Ideal) x y i = y i + x i := by
  pointwise [k0_pay1]
theorem acc2 (x y : FVec Ideal S1x512 .f32) (i : S1x512.Idx) : k0_pay2 (F := Ideal) x y i = y i + x i := by
  pointwise [k0_pay2]
theorem acc3 (x y : FVec Ideal S1x512 .f32) (i : S1x512.Idx) : k0_pay39 (F := Ideal) x y i = y i + x i := by
  pointwise [k0_pay39]

/-! ## The blocks -/

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0] ∧ win0_12.index t = ![t.val, 0] :=
  (by decide +kernel : ∀ t : Fin grid0.N, _)

theorem lt0 (t : Fin cfg0.N) (r : Fin 512) : t.val * 512 + r.val < 4096 := by
  have := lt_of_lt_of_eq t.isLt N_0; omega

theorem blk0 (c : Dev nD) (t : Fin cfg0.N) (r : Fin 512) (q : Fin 1024) : (show FVec Ideal S512x1024 .bf16 from iblk m c 0 t) (ix2 r q)
    = (show FVec Ideal S4096x1024 .bf16 from V m c main_v4) (ix2 ⟨t.val * 512 + r.val, lt0 t r⟩ q) := by
  blk_ext! [iblk, idx t]
theorem blk1 (c : Dev nD) (t : Fin cfg0.N) (r : Fin 1024) (q : Fin 1024) : (show FVec Ideal S1024x1024 .bf16 from iblk m c 1 t) (ix2 r q)
    = (show FVec Ideal S1024x1024 .bf16 from V m c main_v3) (ix2 r q) := by
  blk_ext! [iblk, idx t]
theorem blk2 (c : Dev nD) (t : Fin cfg0.N) (r : Fin 512) (q : Fin 512) : (show FVec Ideal S512x512 .f32 from iblk m c 2 t) (ix2 r q)
    = (show FVec Ideal S4096x512 .f32 from V m c main_arg0) (ix2 ⟨t.val * 512 + r.val, lt0 t r⟩ q) := by
  blk_ext! [iblk, idx t]
theorem blk3 (c : Dev nD) (t : Fin cfg0.N) (r : Fin 512) (q : Fin 512) : (show FVec Ideal S512x512 .f32 from iblk m c 3 t) (ix2 r q)
    = (show FVec Ideal S4096x512 .f32 from V m c main_v29) (ix2 ⟨t.val * 512 + r.val, lt0 t r⟩ q) := by
  blk_ext! [iblk, idx t]
theorem blk4 (c : Dev nD) (t : Fin cfg0.N) (r : Fin 512) (q : Fin 512) : (show FVec Ideal S512x512 .f32 from iblk m c 4 t) (ix2 r q)
    = (show FVec Ideal S4096x512 .f32 from V m c main_v17) (ix2 ⟨t.val * 512 + r.val, lt0 t r⟩ q) := by
  blk_ext! [iblk, idx t]
theorem blk5 (c : Dev nD) (t : Fin cfg0.N) (r : Fin 512) (q : Fin 512) : (show FVec Ideal S512x512 .f32 from iblk m c 5 t) (ix2 r q)
    = (show FVec Ideal S4096x512 .f32 from V m c main_v22) (ix2 ⟨t.val * 512 + r.val, lt0 t r⟩ q) := by
  blk_ext! [iblk, idx t]
theorem blk6 (c : Dev nD) (t : Fin cfg0.N) (r : Fin 1) (q : Fin 512) : (show FVec Ideal S1x512 .f32 from iblk m c 6 t) (ix2 r q)
    = (show FVec Ideal S1x512 .f32 from V m c main_v1) (ix2 r q) := by
  blk_ext! [iblk, idx t]
theorem blk7 (c : Dev nD) (t : Fin cfg0.N) (r : Fin 1) (q : Fin 512) : (show FVec Ideal S1x512 .f32 from iblk m c 7 t) (ix2 r q)
    = (show FVec Ideal S1x512 .f32 from V m c main_v2) (ix2 r q) := by
  blk_ext! [iblk, idx t]

theorem ga_row (c : Dev nD) (q : Fin 512) : (show FVec Ideal S1x512 .f32 from V m c main_v1) (ix2 0 q)
    = (show FVec Ideal S512 .f32 from m ((c : Thread nD τ).loc main_arg4)) (ix1 q) := by
  dsimp only [V]
  entry_read
  pointwise

theorem gs_row (c : Dev nD) (q : Fin 512) : (show FVec Ideal S1x512 .f32 from V m c main_v2) (ix2 0 q)
    = (show FVec Ideal S512 .f32 from m ((c : Thread nD τ).loc main_arg5)) (ix1 q) := by
  dsimp only [V]
  entry_read
  pointwise

/-- The gradient of the mixed rows, of the arrays as they stand when the pipeline starts. -/
abbrev pV (c : Dev nD) : FVec Ideal S4096x1024 .f32 := P (V m c main_v4) (V m c main_v3)
abbrev gaV (c : Dev nD) : FVec Ideal S512 .f32 := m ((c : Thread nD τ).loc main_arg4)
abbrev gsV (c : Dev nD) : FVec Ideal S512 .f32 := m ((c : Thread nD τ).loc main_arg5)
abbrev dsV (c : Dev nD) : FVec Ideal S4096x512 .f32 := DS (V m c main_v29) (pV m c) (gsV m c)

theorem p_blk (c : Dev nD) (t : Fin cfg0.N) (r : Fin 512) (q : Fin 1024) : k0_pay3 (F := Ideal) (iblk m c 0 t) (iblk m c 1 t) (ix2 r q)
    = pV m c (ix2 ⟨t.val * 512 + r.val, lt0 t r⟩ q) :=
  (body_p _ _ r q).trans (Finset.sum_congr (M := EReal) rfl fun k _ => Ideal.mul_congr (blk0 m c t r k) (blk1 m c t q k))

theorem a_blk (c : Dev nD) (t : Fin cfg0.N) (r q : Fin 512) : ablk (iblk m c 0 t) (iblk m c 1 t) (iblk m c 2 t) (iblk m c 6 t) (ix2 r q)
    = DA (V m c main_arg0) (pV m c) (gaV m c) (ix2 ⟨t.val * 512 + r.val, lt0 t r⟩ q) :=
  (body_a _ _ _ _ r q).trans (congrArg₂ (dx w5 · · q) (funext fun k => blk2 m c t r k)
    (funext fun k => Ideal.mul_congr (p_blk m c t r (lo k)) ((blk6 m c t 0 k).trans (ga_row m c k))))

theorem s_blk (c : Dev nD) (t : Fin cfg0.N) (r q : Fin 512) : sblk (iblk m c 0 t) (iblk m c 1 t) (iblk m c 3 t) (iblk m c 7 t) (ix2 r q)
    = dsV m c (ix2 ⟨t.val * 512 + r.val, lt0 t r⟩ q) :=
  (body_s _ _ _ _ r q).trans (congrArg₂ (dx w5 · · q) (funext fun k => blk3 m c t r k)
    (funext fun k => Ideal.mul_congr (p_blk m c t r (hi k)) ((blk7 m c t 0 k).trans (gs_row m c k))))

theorem t_blk (c : Dev nD) (t : Fin cfg0.N) (r q : Fin 512) :
    tblk (iblk m c 0 t) (iblk m c 1 t) (iblk m c 3 t) (iblk m c 4 t) (iblk m c 5 t) (iblk m c 7 t) (ix2 r q)
      = gate (dsV m c (ix2 ⟨t.val * 512 + r.val, lt0 t r⟩ q)) ((show FVec Ideal S4096x512 .f32 from V m c main_v17) (ix2 ⟨t.val * 512 + r.val, lt0 t r⟩ q))
        ((show FVec Ideal S4096x512 .f32 from V m c main_v22) (ix2 ⟨t.val * 512 + r.val, lt0 t r⟩ q)) :=
  (body_t _ _ _ _ _ _ r q).trans (congr3 gate (s_blk m c t r q) (blk4 m c t r q) (blk5 m c t r q))

theorem a_final (c : Dev nD) : (dats m 0 c).arrAt 8 (cfgs 0).N = DA (V m c main_arg0) (pV m c) (gaV m c) := by
  refine (dats m 0 c).arrAt_eq_of_covers 8 _ (by decide +kernel) fun t _ y => ?_
  idx_vars y
  have he : ((cfg0.win 8).blk t).view.emb (show S512x512.Idx from ix2 y0 y1) = (show S4096x512.Idx from ix2 ⟨t.val * 512 + y0.val, lt0 t y0⟩ y1) := by
    blk_ext [idx t]
  refine Eq.trans ?_ (congrArg (DA (V m c main_arg0) (pV m c) (gaV m c)) he).symm
  blk_simp
  rw [after0_8]
  have hout : (outsAt0 m c t.val t.isLt).1 = ablk (iblk m c 0 t) (iblk m c 1 t) (iblk m c 2 t) (iblk m c 6 t) := by
    have hN : t.val < 8 := lt_of_lt_of_eq t.isLt N_0
    by_cases h : t.val = 0
    · rw [outsAt0_A m c t (by omega) (by omega) (by omega) (by omega) (by omega) (by omega)]; frame_out
    · rw [outsAt0_B m c t (by omega) (by omega) (by omega) (by omega) (by omega) (by omega)]; frame_out
  rw [hout]
  exact a_blk m c t y0 y1

set_option maxHeartbeats 2000000 in
/-- What a block leaves of the four streams. -/
theorem st4_blk (c : Dev nD) (t : Fin cfg0.N) (i : Fin 128) (j : Fin 2048) : (show FVec Ideal S128x2048 .f32 from (outsAt0 m c t.val t.isLt).2.1) (ix2 i j)
    = (k0_pay14 (F := Ideal) (iblk m c 2 t) (k0_pay7 (iblk m c 6 t)) (k0_pay9 (iblk m c 0 t) (iblk m c 1 t)) (k0_pay11 (iblk m c 2 t)) (k0_pay12 (iblk m c 2 t))) (ix2 ⟨4 * i.val + j.val / 512, by omega⟩ ⟨j.val % 512, by omega⟩) := by
  have hN : t.val < 8 := lt_of_lt_of_eq t.isLt N_0
  by_cases h : t.val = 0
  · rw [outsAt0_A m c t (by omega) (by omega) (by omega) (by omega) (by omega) (by omega)]
    frame_out
    refine streams4 (k0_pay14 (F := Ideal) (iblk m c 2 t) (k0_pay7 (iblk m c 6 t)) (k0_pay9 (iblk m c 0 t) (iblk m c 1 t)) (k0_pay11 (iblk m c 2 t)) (k0_pay12 (iblk m c 2 t))) ?_ ?_ ?_ ?_ ?_ ?_ ?_ ?_ ?_ ?_ ?_ ?_ ?_ ?_ ?_ ?_ i j
    all_goals
      rw [View.readCov_eq_canon', canon4 (k0_pay14 (F := Ideal) (iblk m c 2 t) (k0_pay7 (iblk m c 6 t)) (k0_pay9 (iblk m c 0 t) (iblk m c 1 t)) (k0_pay11 (iblk m c 2 t)) (k0_pay12 (iblk m c 2 t)))]
      refine read_part _ 128 4 rfl _ _ _ ?_ ?_ _ _ _ _ _ _ <;> rfl
  · rw [outsAt0_B m c t (by omega) (by omega) (by omega) (by omega) (by omega) (by omega)]
    frame_out
    refine streams4 (k0_pay14 (F := Ideal) (iblk m c 2 t) (k0_pay7 (iblk m c 6 t)) (k0_pay9 (iblk m c 0 t) (iblk m c 1 t)) (k0_pay11 (iblk m c 2 t)) (k0_pay12 (iblk m c 2 t))) ?_ ?_ ?_ ?_ ?_ ?_ ?_ ?_ ?_ ?_ ?_ ?_ ?_ ?_ ?_ ?_ i j
    all_goals
      rw [View.readCov_eq_canon', canon4 (k0_pay14 (F := Ideal) (iblk m c 2 t) (k0_pay7 (iblk m c 6 t)) (k0_pay9 (iblk m c 0 t) (iblk m c 1 t)) (k0_pay11 (iblk m c 2 t)) (k0_pay12 (iblk m c 2 t)))]
      refine read_part _ 128 4 rfl _ _ _ ?_ ?_ _ _ _ _ _ _ <;> rfl

theorem st4_final (c : Dev nD) : (dats m 0 c).arrAt 9 (cfgs 0).N = ST4 (DA (V m c main_arg0) (pV m c) (gaV m c)) := by
  refine (dats m 0 c).arrAt_eq_of_covers 9 _ (by decide +kernel) fun t _ y => ?_
  idx_vars y
  have hb : t.val * 128 + y0.val < 1024 := by have := lt_of_lt_of_eq t.isLt N_0; omega
  have he : ((cfg0.win 9).blk t).view.emb (show S128x2048.Idx from ix2 y0 y1) = (show S1024x2048.Idx from ix2 ⟨t.val * 128 + y0.val, hb⟩ y1) := by
    blk_ext [idx t]
  refine Eq.trans ?_ (congrArg (ST4 (DA (V m c main_arg0) (pV m c) (gaV m c))) he).symm
  blk_simp
  rw [after0_9]
  refine (st4_blk m c t y0 y1).trans ((a_blk m c t _ _).trans (congrArg (DA (V m c main_arg0) (pV m c) (gaV m c)) (congrArg₂ ix2 (Fin.ext ?_) rfl)))
  show t.val * 512 + (4 * y0.val + y1.val / 512) = 4 * (t.val * 128 + y0.val) + y1.val / 512
  omega

set_option maxHeartbeats 2000000 in
/-- What a block leaves of the sixteen streams. -/
theorem st16_blk (c : Dev nD) (t : Fin cfg0.N) (i : Fin 32) (j : Fin 8192) : (show FVec Ideal S32x8192 .f32 from (outsAt0 m c t.val t.isLt).2.2.1) (ix2 i j)
    = (k0_pay14 (F := Ideal) (iblk m c 2 t) (k0_pay7 (iblk m c 6 t)) (k0_pay9 (iblk m c 0 t) (iblk m c 1 t)) (k0_pay11 (iblk m c 2 t)) (k0_pay12 (iblk m c 2 t))) (ix2 ⟨16 * i.val + j.val / 512, by omega⟩ ⟨j.val % 512, by omega⟩) := by
  have hN : t.val < 8 := lt_of_lt_of_eq t.isLt N_0
  by_cases h : t.val = 0
  · rw [outsAt0_A m c t (by omega) (by omega) (by omega) (by omega) (by omega) (by omega)]
    frame_out
    refine streams16 (k0_pay14 (F := Ideal) (iblk m c 2 t) (k0_pay7 (iblk m c 6 t)) (k0_pay9 (iblk m c 0 t) (iblk m c 1 t)) (k0_pay11 (iblk m c 2 t)) (k0_pay12 (iblk m c 2 t))) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ i j
    all_goals
      rw [View.readCov_eq_canon', canon8 (k0_pay14 (F := Ideal) (iblk m c 2 t) (k0_pay7 (iblk m c 6 t)) (k0_pay9 (iblk m c 0 t) (iblk m c 1 t)) (k0_pay11 (iblk m c 2 t)) (k0_pay12 (iblk m c 2 t)))]
      refine read_part _ 32 16 rfl _ _ _ ?_ ?_ _ _ _ _ _ _ <;> rfl
  · rw [outsAt0_B m c t (by omega) (by omega) (by omega) (by omega) (by omega) (by omega)]
    frame_out
    refine streams16 (k0_pay14 (F := Ideal) (iblk m c 2 t) (k0_pay7 (iblk m c 6 t)) (k0_pay9 (iblk m c 0 t) (iblk m c 1 t)) (k0_pay11 (iblk m c 2 t)) (k0_pay12 (iblk m c 2 t))) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ i j
    all_goals
      rw [View.readCov_eq_canon', canon8 (k0_pay14 (F := Ideal) (iblk m c 2 t) (k0_pay7 (iblk m c 6 t)) (k0_pay9 (iblk m c 0 t) (iblk m c 1 t)) (k0_pay11 (iblk m c 2 t)) (k0_pay12 (iblk m c 2 t)))]
      refine read_part _ 32 16 rfl _ _ _ ?_ ?_ _ _ _ _ _ _ <;> rfl

theorem st16_final (c : Dev nD) : (dats m 0 c).arrAt 10 (cfgs 0).N = ST16 (DA (V m c main_arg0) (pV m c) (gaV m c)) := by
  refine (dats m 0 c).arrAt_eq_of_covers 10 _ (by decide +kernel) fun t _ y => ?_
  idx_vars y
  have hb : t.val * 32 + y0.val < 256 := by have := lt_of_lt_of_eq t.isLt N_0; omega
  have he : ((cfg0.win 10).blk t).view.emb (show S32x8192.Idx from ix2 y0 y1) = (show S256x8192.Idx from ix2 ⟨t.val * 32 + y0.val, hb⟩ y1) := by
    blk_ext [idx t]
  refine Eq.trans ?_ (congrArg (ST16 (DA (V m c main_arg0) (pV m c) (gaV m c))) he).symm
  blk_simp
  rw [after0_10]
  refine (st16_blk m c t y0 y1).trans ((a_blk m c t _ _).trans (congrArg (DA (V m c main_arg0) (pV m c) (gaV m c)) (congrArg₂ ix2 (Fin.ext ?_) rfl)))
  show t.val * 512 + (16 * y0.val + y1.val / 512) = 16 * (t.val * 32 + y0.val) + y1.val / 512
  omega

theorem t_final (c : Dev nD) : (dats m 0 c).arrAt 11 (cfgs 0).N = DT (V m c main_v29) (V m c main_v17) (V m c main_v22) (pV m c) (gsV m c) := by
  refine (dats m 0 c).arrAt_eq_of_covers 11 _ (by decide +kernel) fun t _ y => ?_
  idx_vars y
  have he : ((cfg0.win 11).blk t).view.emb (show S512x512.Idx from ix2 y0 y1) = (show S4096x512.Idx from ix2 ⟨t.val * 512 + y0.val, lt0 t y0⟩ y1) := by
    blk_ext [idx t]
  refine Eq.trans ?_ (congrArg (DT (V m c main_v29) (V m c main_v17) (V m c main_v22) (pV m c) (gsV m c)) he).symm
  blk_simp
  rw [after0_11]
  have hout : (outsAt0 m c t.val t.isLt).2.2.2.1 = k0_pay38 (F := Ideal) (tblk (iblk m c 0 t) (iblk m c 1 t) (iblk m c 3 t) (iblk m c 4 t) (iblk m c 5 t) (iblk m c 7 t)) := by
    have hN : t.val < 8 := lt_of_lt_of_eq t.isLt N_0
    by_cases h : t.val = 0
    · rw [outsAt0_A m c t (by omega) (by omega) (by omega) (by omega) (by omega) (by omega)]; frame_out
    · rw [outsAt0_B m c t (by omega) (by omega) (by omega) (by omega) (by omega) (by omega)]; frame_out
  rw [hout]
  exact (body_dt _ _ _ _ _ _ y0 y1).trans (t_blk m c t y0 y1)

theorem y_final (c : Dev nD) : (dats m 0 c).arrAt 12 (cfgs 0).N = DY (V m c main_v29) (V m c main_v22) (pV m c) (gsV m c) := by
  refine (dats m 0 c).arrAt_eq_of_covers 12 _ (by decide +kernel) fun t _ y => ?_
  idx_vars y
  have he : ((cfg0.win 12).blk t).view.emb (show S512x512.Idx from ix2 y0 y1) = (show S4096x512.Idx from ix2 ⟨t.val * 512 + y0.val, lt0 t y0⟩ y1) := by
    blk_ext [idx t]
  refine Eq.trans ?_ (congrArg (DY (V m c main_v29) (V m c main_v22) (pV m c) (gsV m c)) he).symm
  blk_simp
  rw [after0_12]
  have hout : (outsAt0 m c t.val t.isLt).2.2.2.2.1 = k0_pay36 (F := Ideal) (sblk (iblk m c 0 t) (iblk m c 1 t) (iblk m c 3 t) (iblk m c 7 t)) (k0_pay23 (k0_pay6 (iblk m c 5 t))) := by
    have hN : t.val < 8 := lt_of_lt_of_eq t.isLt N_0
    by_cases h : t.val = 0
    · rw [outsAt0_A m c t (by omega) (by omega) (by omega) (by omega) (by omega) (by omega)]; frame_out
    · rw [outsAt0_B m c t (by omega) (by omega) (by omega) (by omega) (by omega) (by omega)]; frame_out
  rw [hout]
  exact (body_y _ _ _ _ _ y0 y1).trans (Ideal.mul_congr (s_blk m c t y0 y1) (congrArg sig (blk5 m c t y0 y1)))

theorem ga_final (c : Dev nD) : (dats m 0 c).arrAt 13 (cfgs 0).N = DGA (V m c main_arg0) (pV m c) := by
  refine (dats m 0 c).arrAt_eq_of_after_last 13 t0_7 (by decide +kernel) _ fun j => ?_
  idx_vars j
  fin_cases j0
  blk_simp
  rw [after0_13, Pipeline.eq_sum_fin_of_reset_step_apply_last (fun n h => (outsAt0 m c n h).2.2.2.2.2.1) 8 (fun _ => 0) _
    (fun t h j => by have hN := lt_of_lt_of_eq t.isLt N_0; rw [outsAt0_A m c t (by omega) (by omega) (by omega) (by omega) (by omega) (by omega)]; frame_out; rw [zero_add])
    (fun t h j => by have hN := lt_of_lt_of_eq t.isLt N_0; rw [outsAt0_B m c t (by omega) (by omega) (by omega) (by omega) (by omega) (by omega)]; frame_out; rw [acc3])
    (le_of_eq N_0) t0_7 rfl _, zero_add]
  unfold DGA
  refine Eq.trans (Finset.sum_congr (M := EReal) rfl fun s _ => body_ga _ _ _ j1) ?_
  exact Fin.sum_mul_add_congr fun s k hl => congrArg₂ (dg w5 · · j1) (funext fun q => blk2 m c s k q) (funext fun q => p_blk m c s k (lo q))

theorem gs_final (c : Dev nD) : (dats m 0 c).arrAt 14 (cfgs 0).N = DGS (V m c main_v29) (pV m c) := by
  refine (dats m 0 c).arrAt_eq_of_after_last 14 t0_7 (by decide +kernel) _ fun j => ?_
  idx_vars j
  fin_cases j0
  blk_simp
  rw [after0_14, Pipeline.eq_sum_fin_of_reset_step_apply_last (fun n h => (outsAt0 m c n h).2.2.2.2.2.2.1) 8 (fun _ => 0) _
    (fun t h j => by have hN := lt_of_lt_of_eq t.isLt N_0; rw [outsAt0_A m c t (by omega) (by omega) (by omega) (by omega) (by omega) (by omega)]; frame_out; rw [zero_add])
    (fun t h j => by have hN := lt_of_lt_of_eq t.isLt N_0; rw [outsAt0_B m c t (by omega) (by omega) (by omega) (by omega) (by omega) (by omega)]; frame_out; rw [acc1])
    (le_of_eq N_0) t0_7 rfl _, zero_add]
  unfold DGS
  refine Eq.trans (Finset.sum_congr (M := EReal) rfl fun s _ => body_gs _ _ _ j1) ?_
  exact Fin.sum_mul_add_congr fun s k hl => congrArg₂ (dg w5 · · j1) (funext fun q => blk3 m c s k q) (funext fun q => p_blk m c s k (hi q))

theorem b_final (c : Dev nD) : (dats m 0 c).arrAt 15 (cfgs 0).N = DB (V m c main_v29) (V m c main_v17) (V m c main_v22) (pV m c) (gsV m c) := by
  refine (dats m 0 c).arrAt_eq_of_after_last 15 t0_7 (by decide +kernel) _ fun j => ?_
  idx_vars j
  fin_cases j0
  blk_simp
  rw [after0_15, Pipeline.eq_sum_fin_of_reset_step_apply_last (fun n h => (outsAt0 m c n h).2.2.2.2.2.2.2) 8 (fun _ => 0) _
    (fun t h j => by have hN := lt_of_lt_of_eq t.isLt N_0; rw [outsAt0_A m c t (by omega) (by omega) (by omega) (by omega) (by omega) (by omega)]; frame_out; rw [zero_add])
    (fun t h j => by have hN := lt_of_lt_of_eq t.isLt N_0; rw [outsAt0_B m c t (by omega) (by omega) (by omega) (by omega) (by omega) (by omega)]; frame_out; rw [acc2])
    (le_of_eq N_0) t0_7 rfl _, zero_add]
  unfold DB
  refine Eq.trans (Finset.sum_congr (M := EReal) rfl fun s _ => body_b _ _ _ _ _ _ j1) ?_
  exact Fin.sum_mul_add_congr fun s k hl => t_blk m c s k j1

end Cert.K.Mix

end
-- ==== Proof.Mix.Host.lean ====
/- The norm's gradient over whole arrays of 4096 rows of 512, as the reference's host lines compute it. -/
module

public import proofs.«01_k».proof.Proof.Gen.MixReferenceIdeal
public import proofs.«01_k».proof.Proof.Gen.MixReferenceIdeal.Read
public import proofs.«01_k».proof.Proof.Norm.Row
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.K.Mix

open Cert.MixReferenceIdeal Cert.MixReferenceIdeal.Gen Cert.K.Norm

variable (x e : FVec Ideal S4096x512 .f32)

/-- Row `r` of an array. -/
abbrev rowOf (x : FVec Ideal S4096x512 .f32) (r : Fin 4096) : Fin 512 → EReal := fun k => x (ix2 r k)

def msH : FVec Ideal S4096x1 .f32 :=
  addf (Host.divf (broadcastInDim S4096x1 ![0] bcast_S4096_S4096x1_0 (Host.reduceAdd (mulf x x) (constant (F := Ideal) S_ .f32 0x00000000#32) reducesTo_S4096x512_S4096_d1 h_S_))
    (broadcastInDim S4096x1 ![] bcast_S_S4096x1 (constant (F := Ideal) S_ .f32 0x44000000#32)))
    (broadcastInDim S4096x1 ![] bcast_S_S4096x1 (constant (F := Ideal) S_ .f32 0x358637BD#32))

theorem msH_apply (r : Fin 4096) : msH x (ix2 r 0) = ms (Ideal.ofBits .f32 0x44000000#32) (rowOf x r) := by
  pointwise [msH]
  rfl

def invB : FVec Ideal S4096x512 .f32 := broadcastInDim S4096x512 ![0, 1] bcast_S4096x1_S4096x512_0_1 (Host.rsqrt (msH x))

theorem invB_apply (r : Fin 4096) (q : Fin 512) : invB x (ix2 r q) = inv (Ideal.ofBits .f32 0x44000000#32) (rowOf x r) := by
  pointwise [invB]
  rw [msH_apply]
  rfl

def coefH : FVec Ideal S4096x512 .f32 :=
  broadcastInDim S4096x512 ![0] bcast_S4096_S4096x512_0 (Host.reduceAdd (Host.divf
    (mulf (shapeCast _ (Host.reduceAdd (mulf x e) (constant (F := Ideal) S_ .f32 0x00000000#32) reducesTo_S4096x512_S4096_d1 h_S_) shapeCasts_S4096_S4096x1)
      (mulf (broadcastInDim S4096x1 ![] bcast_S_S4096x1 (constant (F := Ideal) S_ .f32 0xBF000000#32)) (Host.divf (Host.rsqrt (msH x)) (msH x))))
    (broadcastInDim S4096x1 ![] bcast_S_S4096x1 (constant (F := Ideal) S_ .f32 0x44000000#32)))
    (constant (F := Ideal) S_ .f32 0x00000000#32) reducesTo_S4096x1_S4096_d1 h_S_)

theorem coefH_apply (r : Fin 4096) (q : Fin 512) : coefH x e (ix2 r q) = coef (Ideal.ofBits .f32 0x44000000#32) (rowOf x r) (rowOf e r) := by
  pointwise [coefH]
  rw [Fin.sum_univ_one, msH_apply]
  rfl

/-- The gradient in the rows. -/
def dxH : FVec Ideal S4096x512 .f32 := addf (addf (mulf e (invB x)) (mulf x (coefH x e))) (mulf (coefH x e) x)

theorem dxH_apply (r : Fin 4096) (q : Fin 512) : dxH x e (ix2 r q) = dx (Ideal.ofBits .f32 0x44000000#32) (rowOf x r) (rowOf e r) q := by
  pointwise [dxH]
  rw [invB_apply, coefH_apply]
  rfl

/-- The gain, one row for all. -/
def gainB (g : FVec Ideal S512 .f32) : FVec Ideal S4096x512 .f32 :=
  broadcastInDim S4096x512 ![0, 1] bcast_S1x512_S4096x512_0_1 (broadcastInDim S1x512 ![1] bcast_S512_S1x512_1 g)

theorem gainB_apply (g : FVec Ideal S512 .f32) (r : Fin 4096) (q : Fin 512) : gainB g (ix2 r q) = g (ix1 q) := by
  pointwise [gainB]

/-- The gradient in the gain. -/
def dgH : FVec Ideal S1x512 .f32 :=
  shapeCast _ (Host.reduceAdd (shapeCast _ (Host.reduceAdd (mulf (mulf x (invB x)) e) (constant (F := Ideal) S_ .f32 0x00000000#32) reducesTo_S4096x512_S512_d0 h_S_) shapeCasts_S512_S1x512)
    (constant (F := Ideal) S_ .f32 0x00000000#32) reducesTo_S1x512_S512_d0 h_S_) shapeCasts_S512_S1x512

theorem dgH_apply (r : Fin 1) (q : Fin 512) : dgH x e (ix2 r q) = ∑ s : Fin 4096, dg (Ideal.ofBits .f32 0x44000000#32) (rowOf x s) (rowOf e s) q := by
  pointwise [dgH]
  rw [Fin.sum_univ_one]
  refine Finset.sum_congr rfl fun s _ => ?_
  rw [invB_apply]
  rfl

end Cert.K.Mix

end
-- ==== Proof.Mix.Claim.lean ====
/- The gradient of the two norms and the gate in front of the output product: what the reference computes, and that the kernel computes the same. -/
module

public import proofs.«01_k».proof.Proof.Mix.Value
public import proofs.«01_k».proof.Proof.Mix.Host
public import proofs.«01_k».proof.Proof.Gen.MixReferenceIdeal.Run
public import proofs.«01_k».proof.Proof.Gen.MixReferenceIdeal.Read
public import proofs.«01_k».proof.Defs

@[expose] public section

set_option maxRecDepth 16384

noncomputable section

open Idealize.ShloMosaic Idealize.ShloMosaic.TcCoe Idealize.SL.Sem

namespace Cert.K.Mix

section
open Cert.MixReferenceIdeal Cert.MixReferenceIdeal.Gen Cert.MixReferenceIdeal.Read Cert.K.Norm

theorem gate_one : Ideal.ofBits .f32 0x3F800000#32 = 1 := by
  pointwise

variable (x0 x1 : FVec Ideal S4096x512 .f32) (x2 : FVec Ideal S512x512 .f32) (x3 x4 x5 : FVec Ideal S512 .f32) (x6 : FVec Ideal S1024x1024 .f32) (x7 : FVec Ideal S4096x1024 .f32)

/-- The gelu of the state-space model's output, the gate's argument, and the gated rows. -/
abbrev yg : FVec Ideal S4096x512 .f32 := val_main_v12 (F := Ideal) x1
abbrev tg : FVec Ideal S4096x512 .f32 := val_main_v16 (F := Ideal) x1 x2 x3
abbrev sg : FVec Ideal S4096x512 .f32 := val_main_v26 (F := Ideal) x1 x2 x3
/-- The gradient of the mixed rows. -/
abbrev pg : FVec Ideal S4096x1024 .f32 := P x7 x6

theorem ref_p : val_main_v61 (F := Ideal) x6 x7 = pg x6 x7 := by
  funext i
  idx_vars i
  unfold pg P
  pointwise [val_main_v61]

theorem ref_left (r : Fin 4096) (q : Fin 512) : val_main_v62 (F := Ideal) x6 x7 (ix2 r q) = pg x6 x7 (ix2 r (lo q)) := by
  rw [← ref_p]
  unfold val_main_v62
  generalize val_main_v61 (F := Ideal) x6 x7 = p
  pointwise

theorem ref_right (r : Fin 4096) (q : Fin 512) : val_main_v63 (F := Ideal) x6 x7 (ix2 r q) = pg x6 x7 (ix2 r (hi q)) := by
  rw [← ref_p]
  unfold val_main_v63
  generalize val_main_v61 (F := Ideal) x6 x7 = p
  pointwise

theorem ref_ea (r : Fin 4096) (q : Fin 512) : val_main_v88 (F := Ideal) x4 x6 x7 (ix2 r q) = pg x6 x7 (ix2 r (lo q)) * x4 (ix1 q) :=
  Ideal.mul_congr (ref_left x6 x7 r q) (gainB_apply x4 r q)

theorem ref_es (r : Fin 4096) (q : Fin 512) : val_main_v68 (F := Ideal) x5 x6 x7 (ix2 r q) = pg x6 x7 (ix2 r (hi q)) * x5 (ix1 q) :=
  Ideal.mul_congr (ref_right x6 x7 r q) (gainB_apply x5 r q)

theorem reference_a : val_main_v103 (F := Ideal) x0 x4 x6 x7 = DA x0 (pg x6 x7) x4 := by
  funext i
  idx_vars i
  exact (dxH_apply x0 (val_main_v88 (F := Ideal) x4 x6 x7) i0 i1).trans (congrArg (dx w5 _ · i1) (funext fun k => ref_ea x4 x6 x7 i0 k))

theorem ref_s : val_main_v83 (F := Ideal) x1 x2 x3 x5 x6 x7 = DS (sg x1 x2 x3) (pg x6 x7) x5 := by
  funext i
  idx_vars i
  exact (dxH_apply (sg x1 x2 x3) (val_main_v68 (F := Ideal) x5 x6 x7) i0 i1).trans (congrArg (dx w5 _ · i1) (funext fun k => ref_es x5 x6 x7 i0 k))

theorem reference_st4 : val_main_v110 (F := Ideal) x0 x4 x6 x7 = ST4 (DA x0 (pg x6 x7) x4) := by
  rw [← reference_a]
  unfold val_main_v110
  generalize val_main_v103 (F := Ideal) x0 x4 x6 x7 = a
  funext i
  idx_vars i
  unfold ST4
  pointwise
  blk_ext!

theorem reference_st16 : val_main_v111 (F := Ideal) x0 x4 x6 x7 = ST16 (DA x0 (pg x6 x7) x4) := by
  rw [← reference_a]
  unfold val_main_v111
  generalize val_main_v103 (F := Ideal) x0 x4 x6 x7 = a
  funext i
  idx_vars i
  unfold ST16
  pointwise
  blk_ext!

theorem ref_sig (i : S4096x512.Idx) : val_main_v22 (F := Ideal) x1 x2 x3 i = Norm.sig (tg x1 x2 x3 i) := by
  unfold Norm.sig tg
  pointwise [val_main_v22, val_main_v21, val_main_cst_4, val_main_v20, val_main_v19, val_main_cst_3, val_main_v18, val_main_v17]

theorem ref_gate (i : S4096x512.Idx) : val_main_v106 (F := Ideal) x1 x2 x3 x5 x6 x7 i
    = gate (DS (sg x1 x2 x3) (pg x6 x7) x5 i) (yg x1 i) (tg x1 x2 x3 i) := by
  unfold gate yg
  rw [← ref_s, ← ref_sig]
  pointwise [val_main_v106, val_main_v104, val_main_v25, val_main_v24, val_main_v23, val_main_cst_5]
  ac_rfl

theorem reference_t : val_main_v112 (F := Ideal) x1 x2 x3 x5 x6 x7 = DT (sg x1 x2 x3) (yg x1) (tg x1 x2 x3) (pg x6 x7) x5 := by
  funext i
  exact ref_gate x1 x2 x3 x5 x6 x7 i

theorem reference_y : val_main_v105 (F := Ideal) x1 x2 x3 x5 x6 x7 = DY (sg x1 x2 x3) (tg x1 x2 x3) (pg x6 x7) x5 := by
  funext i
  exact Ideal.mul_congr (congrFun (ref_s x1 x2 x3 x5 x6 x7) i) (ref_sig x1 x2 x3 i)

theorem reference_ga : val_main_v113 (F := Ideal) x0 x6 x7 = DGA x0 (pg x6 x7) := by
  funext i
  idx_vars i
  exact (dgH_apply x0 (val_main_v62 (F := Ideal) x6 x7) i0 i1).trans
    (Finset.sum_congr (M := EReal) rfl fun s _ => congrArg (dg w5 _ · i1) (funext fun k => ref_left x6 x7 s k))

theorem reference_gs : val_main_v114 (F := Ideal) x1 x2 x3 x6 x7 = DGS (sg x1 x2 x3) (pg x6 x7) := by
  funext i
  idx_vars i
  exact (dgH_apply (sg x1 x2 x3) (val_main_v63 (F := Ideal) x6 x7) i0 i1).trans
    (Finset.sum_congr (M := EReal) rfl fun s _ => congrArg (dg w5 _ · i1) (funext fun k => ref_right x6 x7 s k))

theorem reference_b : val_main_v115 (F := Ideal) x1 x2 x3 x5 x6 x7 = DB (sg x1 x2 x3) (yg x1) (tg x1 x2 x3) (pg x6 x7) x5 := by
  funext i
  idx_vars i
  unfold DB
  simp only [← ref_gate]
  unfold val_main_v115 val_main_v109 val_main_v108 val_main_v107
  generalize val_main_v106 (F := Ideal) x1 x2 x3 x5 x6 x7 = e
  pointwise [val_main_cst_24, val_main_cst_25]
  rw [Fin.sum_univ_one]

/-- The gelu as the kernel's host lines write it. -/
def geluK : FVec Ideal S4096x512 .f32 :=
  mulf (mulf (broadcastInDim S4096x512 ![] bcast_S_S4096x512 (constant (F := Ideal) S_ .f32 0x3F000000#32)) x1)
    (addf (broadcastInDim S4096x512 ![] bcast_S_S4096x512 (constant (F := Ideal) S_ .f32 0x3F800000#32))
      (Host.tanh (mulf (broadcastInDim S4096x512 ![] bcast_S_S4096x512 (constant (F := Ideal) S_ .f32 0x3F4C422A#32))
        (addf x1 (mulf (mulf (mulf (broadcastInDim S4096x512 ![] bcast_S_S4096x512 (constant (F := Ideal) S_ .f32 0x3D372713#32)) x1) x1) x1)))))

theorem gelu_eq : geluK x1 = yg x1 := by
  funext i
  have h : (Ideal.ofBits .f32 0x3D372713#32 * x1 i * x1 i * x1 i : EReal) = Ideal.ofBits .f32 0x3D372713#32 * (x1 i * x1 i * x1 i) := by ac_rfl
  have hm : (mulf (mulf (mulf (broadcastInDim S4096x512 ![] bcast_S_S4096x512 (constant (F := Ideal) S_ .f32 0x3D372713#32)) x1) x1) x1) = val_main_v3 (F := Ideal) x1 := by
    funext i
    show Ideal.ofBits .f32 0x3D372713#32 * x1 i * x1 i * x1 i = Ideal.ofBits .f32 0x3D372713#32 * (x1 i * x1 i * x1 i)
    ac_rfl
  unfold geluK
  rw [hm]
  show Ideal.ofBits .f32 0x3F000000#32 * x1 i * (val_main_v9 (F := Ideal) x1 i) = x1 i * (Ideal.ofBits .f32 0x3F000000#32 * val_main_v9 (F := Ideal) x1 i)
  ac_rfl

/-- One row of weights, made by a reshape or by a broadcast. -/
theorem row_512 (v : FVec Ideal S512 .f32) : shapeCast S1x512 v Cert.MixKernelIdeal.Gen.shapeCasts_S512_S1x512 = broadcastInDim S1x512 ![1] bcast_S512_S1x512_1 v := by
  funext i
  idx_vars i
  pointwise

/-- The gate's argument and the gated rows of any gelu. -/
def argOf (y : FVec Ideal S4096x512 .f32) : FVec Ideal S4096x512 .f32 :=
  addf (Host.dotGeneral (φ₁ := .f32) (φ₂ := .f32) dot_S4096x512_S512x512_S4096x512_1_0_0_1_n_n none y x2) (val_main_v15 (F := Ideal) x3)
def gated (y : FVec Ideal S4096x512 .f32) : FVec Ideal S4096x512 .f32 :=
  mulf y (Host.divf (val_main_v21 (F := Ideal)) (addf (val_main_v19 (F := Ideal)) (Host.exp (Host.negf (argOf x2 x3 y)))))

theorem argOf_eq : argOf x2 x3 (yg x1) = tg x1 x2 x3 := rfl
theorem gated_eq : gated x2 x3 (yg x1) = sg x1 x2 x3 := rfl

end

section
open Cert.MixKernelIdeal Cert.MixKernelIdeal.Gen

variable (m : (ℓ : Loc nD τ Cert.MixKernelIdeal.sig) → Buf (Elt Ideal) ℓ) (c : Dev nD)

theorem V_y : V m c main_v17 = yg (m (c.tc.loc main_arg1)) := by
  rw [← gelu_eq]
  dsimp only [V]
  entry_read
  rfl

theorem V_t : V m c main_v22 = tg (m (c.tc.loc main_arg1)) (m (c.tc.loc main_arg2)) (m (c.tc.loc main_arg3)) := by
  rw [← argOf_eq, ← gelu_eq]
  dsimp only [V]
  entry_read
  erw [row_512]
  rfl

theorem V_s : V m c main_v29 = sg (m (c.tc.loc main_arg1)) (m (c.tc.loc main_arg2)) (m (c.tc.loc main_arg3)) := by
  rw [← gated_eq, ← gelu_eq]
  dsimp only [V]
  entry_read
  erw [row_512]
  rfl

theorem V_p : pV m c = pg (m (c.tc.loc main_arg6)) (m (c.tc.loc main_arg7)) := by
  unfold pV
  have h4 : V m c main_v4 = m (c.tc.loc main_arg7) := by
    dsimp only [V]
    entry_read
    rfl
  have h3 : V m c main_v3 = m (c.tc.loc main_arg6) := by
    dsimp only [V]
    entry_read
    rfl
  rw [h3, h4]

theorem kernel_a : (dats m 0 c).arrAt 8 (cfgs 0).N = DA (m (c.tc.loc main_arg0)) (pg (m (c.tc.loc main_arg6)) (m (c.tc.loc main_arg7))) (m (c.tc.loc main_arg4)) := by
  rw [a_final, V_main_arg0, V_p]

theorem kernel_st4 : (dats m 0 c).arrAt 9 (cfgs 0).N = ST4 (DA (m (c.tc.loc main_arg0)) (pg (m (c.tc.loc main_arg6)) (m (c.tc.loc main_arg7))) (m (c.tc.loc main_arg4))) := by
  rw [st4_final, V_main_arg0, V_p]

theorem kernel_st16 : (dats m 0 c).arrAt 10 (cfgs 0).N = ST16 (DA (m (c.tc.loc main_arg0)) (pg (m (c.tc.loc main_arg6)) (m (c.tc.loc main_arg7))) (m (c.tc.loc main_arg4))) := by
  rw [st16_final, V_main_arg0, V_p]

theorem kernel_t : (dats m 0 c).arrAt 11 (cfgs 0).N = DT (sg (m (c.tc.loc main_arg1)) (m (c.tc.loc main_arg2)) (m (c.tc.loc main_arg3))) (yg (m (c.tc.loc main_arg1))) (tg (m (c.tc.loc main_arg1)) (m (c.tc.loc main_arg2)) (m (c.tc.loc main_arg3))) (pg (m (c.tc.loc main_arg6)) (m (c.tc.loc main_arg7))) (m (c.tc.loc main_arg5)) := by
  rw [t_final, V_s, V_y, V_t, V_p]

theorem kernel_y : (dats m 0 c).arrAt 12 (cfgs 0).N = DY (sg (m (c.tc.loc main_arg1)) (m (c.tc.loc main_arg2)) (m (c.tc.loc main_arg3))) (tg (m (c.tc.loc main_arg1)) (m (c.tc.loc main_arg2)) (m (c.tc.loc main_arg3))) (pg (m (c.tc.loc main_arg6)) (m (c.tc.loc main_arg7))) (m (c.tc.loc main_arg5)) := by
  rw [y_final, V_s, V_t, V_p]

theorem kernel_ga : (dats m 0 c).arrAt 13 (cfgs 0).N = DGA (m (c.tc.loc main_arg0)) (pg (m (c.tc.loc main_arg6)) (m (c.tc.loc main_arg7))) := by
  rw [ga_final, V_main_arg0, V_p]

theorem kernel_gs : (dats m 0 c).arrAt 14 (cfgs 0).N = DGS (sg (m (c.tc.loc main_arg1)) (m (c.tc.loc main_arg2)) (m (c.tc.loc main_arg3))) (pg (m (c.tc.loc main_arg6)) (m (c.tc.loc main_arg7))) := by
  rw [gs_final, V_s, V_p]

theorem kernel_b : (dats m 0 c).arrAt 15 (cfgs 0).N = DB (sg (m (c.tc.loc main_arg1)) (m (c.tc.loc main_arg2)) (m (c.tc.loc main_arg3))) (yg (m (c.tc.loc main_arg1))) (tg (m (c.tc.loc main_arg1)) (m (c.tc.loc main_arg2)) (m (c.tc.loc main_arg3))) (pg (m (c.tc.loc main_arg6)) (m (c.tc.loc main_arg7))) (m (c.tc.loc main_arg5)) := by
  rw [b_final, V_s, V_y, V_t, V_p]

end

set_option maxHeartbeats 2000000 in
theorem algebraic : Cert.algebraic_MixKernelIdeal_MixReferenceIdeal := by
  pair_intro
  · run_from Cert.MixKernelIdeal.Value.run_blocks m g
  · refine (θ_run Cert.MixReferenceIdeal.defs _ _).mono (fun r h c => ?_) (Cert.MixReferenceIdeal.Value.run m' g')
    obtain ⟨r0, r1, r2, r3, r4, r5, r6, r7, rest⟩ := h c
    obtain ⟨h0, h1, h2, h3, h4, h5, h6, h7⟩ := hagree c
    refine ⟨r0.trans ?_, r1.trans ?_, r2.trans ?_, r3.trans ?_, r4.trans ?_, r5.trans ?_, r6.trans ?_, r7.trans ?_, rest⟩
    · refine (Cert.MixReferenceIdeal.Read.val_main_v103_eq (F := Ideal) m' c).trans ((reference_a (m' (c.tc.loc Cert.MixReferenceIdeal.main_arg0)) (m' (c.tc.loc Cert.MixReferenceIdeal.main_arg4)) (m' (c.tc.loc Cert.MixReferenceIdeal.main_arg6)) (m' (c.tc.loc Cert.MixReferenceIdeal.main_arg7))).trans ?_)
      rw [h0, h4, h6, h7]
      exact (kernel_a m c).symm
    · refine (Cert.MixReferenceIdeal.Read.val_main_v110_eq (F := Ideal) m' c).trans ((reference_st4 (m' (c.tc.loc Cert.MixReferenceIdeal.main_arg0)) (m' (c.tc.loc Cert.MixReferenceIdeal.main_arg4)) (m' (c.tc.loc Cert.MixReferenceIdeal.main_arg6)) (m' (c.tc.loc Cert.MixReferenceIdeal.main_arg7))).trans ?_)
      rw [h0, h4, h6, h7]
      exact (kernel_st4 m c).symm
    · refine (Cert.MixReferenceIdeal.Read.val_main_v111_eq (F := Ideal) m' c).trans ((reference_st16 (m' (c.tc.loc Cert.MixReferenceIdeal.main_arg0)) (m' (c.tc.loc Cert.MixReferenceIdeal.main_arg4)) (m' (c.tc.loc Cert.MixReferenceIdeal.main_arg6)) (m' (c.tc.loc Cert.MixReferenceIdeal.main_arg7))).trans ?_)
      rw [h0, h4, h6, h7]
      exact (kernel_st16 m c).symm
    · refine (Cert.MixReferenceIdeal.Read.val_main_v112_eq (F := Ideal) m' c).trans ((reference_t (m' (c.tc.loc Cert.MixReferenceIdeal.main_arg1)) (m' (c.tc.loc Cert.MixReferenceIdeal.main_arg2)) (m' (c.tc.loc Cert.MixReferenceIdeal.main_arg3)) (m' (c.tc.loc Cert.MixReferenceIdeal.main_arg5)) (m' (c.tc.loc Cert.MixReferenceIdeal.main_arg6)) (m' (c.tc.loc Cert.MixReferenceIdeal.main_arg7))).trans ?_)
      rw [h1, h2, h3, h5, h6, h7]
      exact (kernel_t m c).symm
    · refine (Cert.MixReferenceIdeal.Read.val_main_v105_eq (F := Ideal) m' c).trans ((reference_y (m' (c.tc.loc Cert.MixReferenceIdeal.main_arg1)) (m' (c.tc.loc Cert.MixReferenceIdeal.main_arg2)) (m' (c.tc.loc Cert.MixReferenceIdeal.main_arg3)) (m' (c.tc.loc Cert.MixReferenceIdeal.main_arg5)) (m' (c.tc.loc Cert.MixReferenceIdeal.main_arg6)) (m' (c.tc.loc Cert.MixReferenceIdeal.main_arg7))).trans ?_)
      rw [h1, h2, h3, h5, h6, h7]
      exact (kernel_y m c).symm
    · refine (Cert.MixReferenceIdeal.Read.val_main_v113_eq (F := Ideal) (m' (c.tc.loc Cert.MixReferenceIdeal.main_arg0)) (m' (c.tc.loc Cert.MixReferenceIdeal.main_arg6)) (m' (c.tc.loc Cert.MixReferenceIdeal.main_arg7))).trans ((reference_ga (m' (c.tc.loc Cert.MixReferenceIdeal.main_arg0)) (m' (c.tc.loc Cert.MixReferenceIdeal.main_arg6)) (m' (c.tc.loc Cert.MixReferenceIdeal.main_arg7))).trans ?_)
      rw [h0, h6, h7]
      exact (kernel_ga m c).symm
    · refine (Cert.MixReferenceIdeal.Read.val_main_v114_eq (F := Ideal) m' c).trans ((reference_gs (m' (c.tc.loc Cert.MixReferenceIdeal.main_arg1)) (m' (c.tc.loc Cert.MixReferenceIdeal.main_arg2)) (m' (c.tc.loc Cert.MixReferenceIdeal.main_arg3)) (m' (c.tc.loc Cert.MixReferenceIdeal.main_arg6)) (m' (c.tc.loc Cert.MixReferenceIdeal.main_arg7))).trans ?_)
      rw [h1, h2, h3, h6, h7]
      exact (kernel_gs m c).symm
    · refine (Cert.MixReferenceIdeal.Read.val_main_v115_eq (F := Ideal) m' c).trans ((reference_b (m' (c.tc.loc Cert.MixReferenceIdeal.main_arg1)) (m' (c.tc.loc Cert.MixReferenceIdeal.main_arg2)) (m' (c.tc.loc Cert.MixReferenceIdeal.main_arg3)) (m' (c.tc.loc Cert.MixReferenceIdeal.main_arg5)) (m' (c.tc.loc Cert.MixReferenceIdeal.main_arg6)) (m' (c.tc.loc Cert.MixReferenceIdeal.main_arg7))).trans ?_)
      rw [h1, h2, h3, h5, h6, h7]
      exact (kernel_b m c).symm

end Cert.K.Mix

end
-- ==== Proof.Glu.Value.lean ====
/- What the pipeline of the gradient of the activation between the state-space model and its gate leaves, in terms of the arrays it reads. -/
module

public import proofs.«01_k».proof.Proof.Gen.GluKernelIdeal.Value
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.K.Glu

open Cert.GluKernelIdeal Cert.GluKernelIdeal.Gen

/-- The cubic coefficient of the activation. -/
abbrev c1 : EReal := Ideal.ofBits .f32 0x3D372713#32
/-- The scale inside the hyperbolic tangent. -/
abbrev c2 : EReal := Ideal.ofBits .f32 0x3F4C422A#32
abbrev half : EReal := Ideal.ofBits .f32 0x3F000000#32
abbrev one : EReal := Ideal.ofBits .f32 0x3F800000#32
abbrev three : EReal := Ideal.ofBits .f32 0x40400000#32

/-- The hyperbolic tangent of the activation. -/
def th (x : EReal) : EReal := Ideal.tanh (c2 * (x + c1 * (x * x * x)))

/-- The gradient through the argument of the hyperbolic tangent. -/
def inner (x d : EReal) : EReal := c2 * (half * (x * d) * ((one + th x) * (one - th x)))

/-- The gradient of the activation at `x`, of the gradient `d` behind it. -/
def gz (x d : EReal) : EReal := d * (half * (one + th x)) + inner x d + c1 * inner x d * (three * (x * x))

theorem three_mul (a : EReal) : three * a = a + a + a := by
  have h3 : three = ((3 : ℝ) : EReal) := by
    simp [Ideal.ofBits, Ideal.ieee, -EReal.coe_mul]; norm_num
  rw [h3]
  induction a using EReal.rec with
  | bot => rw [EReal.coe_mul_bot_of_pos (by norm_num)]; rfl
  | top => rw [EReal.coe_mul_top_of_pos (by norm_num)]; rfl
  | coe r => rw [← EReal.coe_mul, ← EReal.coe_add, ← EReal.coe_add]; congr 1; ring

/-- The same sum in the order the derivative of a product of three factors gives. -/
theorem gz_sum (x d i : EReal) : i + c1 * x * x * i + c1 * x * (i * x) + c1 * (i * x * x) + half * d = half * d + i + c1 * i * (three * (x * x)) := by
  have e : c1 * i * (three * (x * x)) = three * (c1 * i * (x * x)) := by ac_rfl
  have e1 : c1 * x * x * i = c1 * i * (x * x) := by ac_rfl
  have e2 : c1 * x * (i * x) = c1 * i * (x * x) := by ac_rfl
  have e3 : c1 * (i * x * x) = c1 * i * (x * x) := by ac_rfl
  rw [e, three_mul, e1, e2, e3]
  generalize c1 * i * (x * x) = a
  generalize half * d = b
  ac_rfl

/-- The gradient in front of the activation. -/
def DY (dt : FVec Ideal S4096x512 .bf16) (w : FVec Ideal S512x512 .bf16) (e : FVec Ideal S4096x512 .f32) : FVec Ideal S4096x512 .f32 := fun i =>
  e i + ∑ k : Fin 512, dt (ix2 (i 0) k) * w (ix2 (i 1) k)

def DZ (x d : FVec Ideal S4096x512 .f32) : FVec Ideal S4096x512 .bf16 := fun i => gz (x i) (d i)

def DU (D : FVec Ideal S512 .f32) (x d : FVec Ideal S4096x512 .f32) : FVec Ideal S4096x512 .f32 := fun i => D (ix1 (i 1)) * gz (x i) (d i)

def DD (u x d : FVec Ideal S4096x512 .f32) : FVec Ideal S1x512 .f32 := fun i => ∑ s : Fin 4096, gz (x (ix2 s (i 1))) (d (ix2 s (i 1))) * u (ix2 s (i 1))

/-! ## What one block's body computes -/

section
variable (dt w : FVec Ideal S512x512 .bf16) (e x u : FVec Ideal S512x512 .f32) (D : FVec Ideal S1x512 .f32) (r q : Fin 512)

theorem body_d : k0_pay8 (F := Ideal) dt w e (ix2 r q) = e (ix2 r q) + ∑ k : Fin 512, dt (ix2 r k) * w (ix2 q k) := by
  rw [add_comm]
  pointwise [k0_pay8]

theorem body_th : k0_pay11 (F := Ideal) x (ix2 r q) = th (x (ix2 r q)) := by
  pointwise [k0_pay11, k0_pay10, k0_pay9, k0_pay6]
  have h : c1 * x (ix2 r q) * x (ix2 r q) * x (ix2 r q) = c1 * (x (ix2 r q) * x (ix2 r q) * x (ix2 r q)) := by ac_rfl
  unfold th
  rw [← h]

theorem body_inner : k0_pay13 (F := Ideal) dt w e x (ix2 r q) = inner (x (ix2 r q)) (k0_pay8 (F := Ideal) dt w e (ix2 r q)) := by
  have h : k0_pay13 (F := Ideal) dt w e x (ix2 r q) = c2 * (half * x (ix2 r q) * k0_pay8 (F := Ideal) dt w e (ix2 r q)
      * ((one + k0_pay11 (F := Ideal) x (ix2 r q)) * (one - k0_pay11 (F := Ideal) x (ix2 r q)))) := by
    pointwise [k0_pay13, k0_pay6]
  rw [h, body_th, mul_assoc half]
  rfl

/-- One block of the gradient behind the skip. -/
abbrev zblk : FVec Ideal S512x512 .f32 := k0_pay1 (F := Ideal) (k0_pay6 x) (k0_pay9 x) (k0_pay12 dt w e x) (k0_pay13 dt w e x) (k0_pay14 dt w e x)

theorem body_z : zblk dt w e x (ix2 r q) = gz (x (ix2 r q)) (k0_pay8 (F := Ideal) dt w e (ix2 r q)) := by
  have h : zblk dt w e x (ix2 r q) = k0_pay13 (F := Ideal) dt w e x (ix2 r q) + c1 * x (ix2 r q) * x (ix2 r q) * k0_pay13 (F := Ideal) dt w e x (ix2 r q)
      + c1 * x (ix2 r q) * (k0_pay13 (F := Ideal) dt w e x (ix2 r q) * x (ix2 r q))
      + c1 * (k0_pay13 (F := Ideal) dt w e x (ix2 r q) * x (ix2 r q) * x (ix2 r q))
      + half * (k0_pay8 (F := Ideal) dt w e (ix2 r q) * (one + k0_pay11 (F := Ideal) x (ix2 r q))) := by
    pointwise [zblk, k0_pay1, k0_pay12, k0_pay14, k0_pay10, k0_pay9, k0_pay6]
  rw [h, gz_sum, body_th, body_inner]
  unfold gz
  rw [mul_left_comm half]

theorem body_dz : k0_pay4 (F := Ideal) (k0_pay6 x) (k0_pay9 x) (k0_pay12 dt w e x) (k0_pay13 dt w e x) (k0_pay14 dt w e x) (ix2 r q)
    = zblk dt w e x (ix2 r q) := by
  pointwise [k0_pay4, zblk]

theorem body_du : k0_pay2 (F := Ideal) (k0_pay6 x) (k0_pay7 D) (k0_pay9 x) (k0_pay12 dt w e x) (k0_pay13 dt w e x) (k0_pay14 dt w e x) (ix2 r q)
    = D (ix2 0 q) * zblk dt w e x (ix2 r q) := by
  rw [mul_comm]
  pointwise [k0_pay2, k0_pay7, zblk]

theorem body_dd : k0_pay3 (F := Ideal) (k0_pay6 x) u (k0_pay9 x) (k0_pay12 dt w e x) (k0_pay13 dt w e x) (k0_pay14 dt w e x) (ix2 0 q)
    = ∑ r : Fin 512, zblk dt w e x (ix2 r q) * u (ix2 r q) := by
  pointwise [k0_pay3, zblk]

end

theorem acc (x u a b c z : _) (y : FVec Ideal S1x512 .f32) (i : S1x512.Idx) : k0_pay5 (F := Ideal) x u a b c z y i = y i + k0_pay3 x u a b c z i := by
  pointwise [k0_pay5]

/-! ## The blocks -/

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0]
    ∧ win0_6.index t = ![t.val, 0] ∧ win0_7.index t = ![t.val, 0] :=
  (by decide +kernel : ∀ t : Fin grid0.N, _)

theorem lt0 (t : Fin cfg0.N) (r : Fin 512) : t.val * 512 + r.val < 4096 := by
  have := lt_of_lt_of_eq t.isLt N_0; omega

theorem blk0 (c : Dev nD) (t : Fin cfg0.N) (r q : Fin 512) : (show FVec Ideal S512x512 .bf16 from iblk m c 0 t) (ix2 r q)
    = (show FVec Ideal S4096x512 .bf16 from V m c main_v4) (ix2 ⟨t.val * 512 + r.val, lt0 t r⟩ q) := by
  blk_ext! [iblk, idx t]
theorem blk2 (c : Dev nD) (t : Fin cfg0.N) (r q : Fin 512) : (show FVec Ideal S512x512 .f32 from iblk m c 2 t) (ix2 r q)
    = (show FVec Ideal S4096x512 .f32 from V m c main_arg5) (ix2 ⟨t.val * 512 + r.val, lt0 t r⟩ q) := by
  blk_ext! [iblk, idx t]
theorem blk3 (c : Dev nD) (t : Fin cfg0.N) (r q : Fin 512) : (show FVec Ideal S512x512 .f32 from iblk m c 3 t) (ix2 r q)
    = (show FVec Ideal S4096x512 .f32 from V m c main_v3) (ix2 ⟨t.val * 512 + r.val, lt0 t r⟩ q) := by
  blk_ext! [iblk, idx t]
theorem blk4 (c : Dev nD) (t : Fin cfg0.N) (r q : Fin 512) : (show FVec Ideal S512x512 .f32 from iblk m c 4 t) (ix2 r q)
    = (show FVec Ideal S4096x512 .f32 from V m c main_arg1) (ix2 ⟨t.val * 512 + r.val, lt0 t r⟩ q) := by
  blk_ext! [iblk, idx t]
theorem blk1 (c : Dev nD) (t : Fin cfg0.N) (r q : Fin 512) : (show FVec Ideal S512x512 .bf16 from iblk m c 1 t) (ix2 r q)
    = (show FVec Ideal S512x512 .bf16 from V m c main_v5) (ix2 r q) := by
  blk_ext! [iblk, idx t]
theorem blk5 (c : Dev nD) (t : Fin cfg0.N) (r : Fin 1) (q : Fin 512) : (show FVec Ideal S1x512 .f32 from iblk m c 5 t) (ix2 r q)
    = (show FVec Ideal S1x512 .f32 from V m c main_v0) (ix2 r q) := by
  blk_ext! [iblk, idx t]

/-- The skip's weights are handed over as one row. -/
theorem skip_row (c : Dev nD) (q : Fin 512) : (show FVec Ideal S1x512 .f32 from V m c main_v0) (ix2 0 q)
    = (show FVec Ideal S512 .f32 from m ((c : Thread nD τ).loc main_arg2)) (ix1 q) := by
  dsimp only [V]
  entry_read
  pointwise

/-- The gradient in front of the activation, of the arrays as they stand when the pipeline starts. -/
abbrev dV (c : Dev nD) : FVec Ideal S4096x512 .f32 := DY (V m c main_v4) (V m c main_v5) (V m c main_arg5)

theorem d_blk (c : Dev nD) (t : Fin cfg0.N) (r q : Fin 512) : k0_pay8 (F := Ideal) (iblk m c 0 t) (iblk m c 1 t) (iblk m c 2 t) (ix2 r q)
    = dV m c (ix2 ⟨t.val * 512 + r.val, lt0 t r⟩ q) :=
  (body_d _ _ _ r q).trans (congrArg₂ (· + ·) (blk2 m c t r q)
    (Finset.sum_congr (M := EReal) rfl fun k _ => Ideal.mul_congr (blk0 m c t r k) (blk1 m c t q k)))

theorem z_blk (c : Dev nD) (t : Fin cfg0.N) (r q : Fin 512) : zblk (iblk m c 0 t) (iblk m c 1 t) (iblk m c 2 t) (iblk m c 3 t) (ix2 r q)
    = DZ (V m c main_v3) (dV m c) (ix2 ⟨t.val * 512 + r.val, lt0 t r⟩ q) :=
  (body_z _ _ _ _ r q).trans (congrArg₂ gz (blk3 m c t r q) (d_blk m c t r q))

theorem dz_final (c : Dev nD) : (dats m 0 c).arrAt 6 (cfgs 0).N = DZ (V m c main_v3) (dV m c) := by
  refine (dats m 0 c).arrAt_eq_of_covers 6 _ (by decide +kernel) fun t _ y => ?_
  idx_vars y
  have he : ((cfg0.win 6).blk t).view.emb (show S512x512.Idx from ix2 y0 y1) = (show S4096x512.Idx from ix2 ⟨t.val * 512 + y0.val, lt0 t y0⟩ y1) := by
    blk_ext [idx t]
  refine Eq.trans ?_ (congrArg (DZ (V m c main_v3) (dV m c)) he).symm
  blk_simp
  rw [after0_6]
  have hout : (outsAt0 m c t.val t.isLt).1 = k0_pay4 (F := Ideal) (k0_pay6 (iblk m c 3 t)) (k0_pay9 (iblk m c 3 t)) (k0_pay12 (iblk m c 0 t) (iblk m c 1 t) (iblk m c 2 t) (iblk m c 3 t)) (k0_pay13 (iblk m c 0 t) (iblk m c 1 t) (iblk m c 2 t) (iblk m c 3 t)) (k0_pay14 (iblk m c 0 t) (iblk m c 1 t) (iblk m c 2 t) (iblk m c 3 t)) := by
    have hN : t.val < 8 := lt_of_lt_of_eq t.isLt N_0
    by_cases h : t.val = 0
    · rw [outsAt0_A m c t (by omega) (by omega)]; frame_out
    · rw [outsAt0_B m c t (by omega) (by omega)]; frame_out
  rw [hout]
  exact (body_dz _ _ _ _ y0 y1).trans (z_blk m c t y0 y1)

theorem du_final (c : Dev nD) : (dats m 0 c).arrAt 7 (cfgs 0).N = DU (m ((c : Thread nD τ).loc main_arg2)) (V m c main_v3) (dV m c) := by
  refine (dats m 0 c).arrAt_eq_of_covers 7 _ (by decide +kernel) fun t _ y => ?_
  idx_vars y
  have he : ((cfg0.win 7).blk t).view.emb (show S512x512.Idx from ix2 y0 y1) = (show S4096x512.Idx from ix2 ⟨t.val * 512 + y0.val, lt0 t y0⟩ y1) := by
    blk_ext [idx t]
  refine Eq.trans ?_ (congrArg (DU (m ((c : Thread nD τ).loc main_arg2)) (V m c main_v3) (dV m c)) he).symm
  blk_simp
  rw [after0_7]
  have hout : (outsAt0 m c t.val t.isLt).2.1 = k0_pay2 (F := Ideal) (k0_pay6 (iblk m c 3 t)) (k0_pay7 (iblk m c 5 t)) (k0_pay9 (iblk m c 3 t)) (k0_pay12 (iblk m c 0 t) (iblk m c 1 t) (iblk m c 2 t) (iblk m c 3 t)) (k0_pay13 (iblk m c 0 t) (iblk m c 1 t) (iblk m c 2 t) (iblk m c 3 t)) (k0_pay14 (iblk m c 0 t) (iblk m c 1 t) (iblk m c 2 t) (iblk m c 3 t)) := by
    have hN : t.val < 8 := lt_of_lt_of_eq t.isLt N_0
    by_cases h : t.val = 0
    · rw [outsAt0_A m c t (by omega) (by omega)]; frame_out
    · rw [outsAt0_B m c t (by omega) (by omega)]; frame_out
  rw [hout]
  exact (body_du _ _ _ _ _ y0 y1).trans (Ideal.mul_congr ((blk5 m c t 0 y1).trans (skip_row m c y1)) (z_blk m c t y0 y1))

theorem dd_final (c : Dev nD) : (dats m 0 c).arrAt 8 (cfgs 0).N = DD (V m c main_arg1) (V m c main_v3) (dV m c) := by
  refine (dats m 0 c).arrAt_eq_of_after_last 8 t0_7 (by decide +kernel) _ fun j => ?_
  idx_vars j
  fin_cases j0
  blk_simp
  rw [after0_8, Pipeline.eq_sum_fin_of_reset_step_apply_last (fun n h => (outsAt0 m c n h).2.2) 8 (fun _ => 0) _
    (fun t h j => by have hN := lt_of_lt_of_eq t.isLt N_0; rw [outsAt0_A m c t h (by omega)]; frame_out; rw [zero_add])
    (fun t h j => by rw [outsAt0_B m c t h (by omega)]; frame_out; rw [acc])
    (le_of_eq N_0) t0_7 rfl _, zero_add]
  unfold DD
  refine Eq.trans (Finset.sum_congr (M := EReal) rfl fun s _ => body_dd _ _ _ _ _ j1) ?_
  exact Fin.sum_mul_add_congr fun s k hl => Ideal.mul_congr (z_blk m c s k j1) (blk4 m c s k j1)

end Cert.K.Glu

end
-- ==== Proof.Glu.Claim.lean ====
/- The gradient of the activation between the state-space model and its gate: what the reference computes, and that the kernel computes the same. -/
module

public import proofs.«01_k».proof.Proof.Glu.Value
public import proofs.«01_k».proof.Proof.Gen.GluReferenceIdeal.Run
public import proofs.«01_k».proof.Proof.Gen.GluReferenceIdeal.Read
public import proofs.«01_k».proof.Defs

@[expose] public section

set_option maxRecDepth 16384

noncomputable section

open Idealize.ShloMosaic Idealize.ShloMosaic.TcCoe Idealize.SL.Sem

namespace Cert.K.Glu

section
open Cert.GluReferenceIdeal Cert.GluReferenceIdeal.Gen Cert.GluReferenceIdeal.Read

variable (y u : FVec Ideal S4096x512 .f32) (D : FVec Ideal S512 .f32) (w : FVec Ideal S512x512 .f32) (dt e : FVec Ideal S4096x512 .f32)

/-- The activation's argument. -/
abbrev arg : FVec Ideal S4096x512 .f32 := val_main_v3 (F := Ideal) y u D

theorem front : val_main_v27 (F := Ideal) w dt e = DY dt w e := by
  funext i
  idx_vars i
  unfold DY
  pointwise [val_main_v26, val_main_v27]

theorem ref_th (i : S4096x512.Idx) : val_main_v14 (F := Ideal) y u D i = th (arg y u D i) := by
  unfold arg
  pointwise [val_main_v14, val_main_v13, val_main_v12, val_main_cst_1, val_main_v11, val_main_v10, val_main_v9, val_main_cst_0, val_main_v5, val_main_v4]
  rfl

theorem ref_inner (i : S4096x512.Idx) : val_main_v34 (F := Ideal) y u D w dt e i = inner (arg y u D i) (DY dt w e i) := by
  unfold inner
  rw [← front, ← ref_th]
  unfold arg
  pointwise [val_main_v34, val_main_v33, val_main_cst_7, val_main_v32, val_main_v31, val_main_v30, val_main_cst_6, val_main_v28, val_main_v19, val_main_v16, val_main_v15, val_main_cst_2,
    val_main_v18, val_main_v17, val_main_cst_3]

theorem ref_z (i : S4096x512.Idx) : val_main_v39 (F := Ideal) y u D w dt e i = gz (arg y u D i) (DY dt w e i) := by
  unfold gz
  rw [← ref_inner, ← front, ← ref_th]
  unfold arg
  pointwise [val_main_v39, val_main_v38, val_main_v37, val_main_v36, val_main_cst_8, val_main_v8, val_main_v7, val_main_cst, val_main_v6, val_main_v35, val_main_v29, val_main_v23,
    val_main_v22, val_main_cst_5, val_main_v21, val_main_v20, val_main_cst_4]

theorem reference_dz : val_main_v46 (F := Ideal) y u D w dt e = DZ (arg y u D) (DY dt w e) := by
  funext i
  exact ref_z y u D w dt e i

theorem reference_du : val_main_v41 (F := Ideal) y u D w dt e = DU D (arg y u D) (DY dt w e) := by
  funext i
  idx_vars i
  unfold DU
  rw [← ref_z]
  pointwise [val_main_v41, val_main_v40, val_main_v0]

theorem reference_dd : val_main_v47 (F := Ideal) y u D w dt e = DD u (arg y u D) (DY dt w e) := by
  funext i
  idx_vars i
  unfold DD
  simp only [← ref_z]
  pointwise [val_main_v47, val_main_v45, val_main_v44, val_main_v43, val_main_v42, val_main_cst_9, val_main_cst_10]
  rw [Fin.sum_univ_one]

/-- One row of weights, made by a reshape or by a broadcast. -/
theorem row_512 (v : FVec Ideal S512 .f32) : shapeCast S1x512 v Cert.GluKernelIdeal.Gen.shapeCasts_S512_S1x512 = broadcastInDim S1x512 ![1] bcast_S512_S1x512_1 v := by
  funext i
  idx_vars i
  pointwise

end

section
open Cert.GluKernelIdeal Cert.GluKernelIdeal.Gen

variable (m : (ℓ : Loc nD τ sig) → Buf (Elt Ideal) ℓ) (c : Dev nD)

theorem V_arg : V m c main_v3 = arg (m (c.tc.loc main_arg0)) (m (c.tc.loc main_arg1)) (m (c.tc.loc main_arg2)) := by
  dsimp only [V]
  entry_read
  erw [row_512]
  rfl

theorem V_front : dV m c = DY (m (c.tc.loc main_arg4)) (m (c.tc.loc main_arg3)) (m (c.tc.loc main_arg5)) := by
  unfold dV
  rw [V_main_arg5]
  dsimp only [V]
  entry_read
  rfl

theorem kernel_dz : (dats m 0 c).arrAt 6 (cfgs 0).N = DZ (arg (m (c.tc.loc main_arg0)) (m (c.tc.loc main_arg1)) (m (c.tc.loc main_arg2)))
    (DY (m (c.tc.loc main_arg4)) (m (c.tc.loc main_arg3)) (m (c.tc.loc main_arg5))) := by
  rw [dz_final, V_arg, V_front]

theorem kernel_du : (dats m 0 c).arrAt 7 (cfgs 0).N = DU (m (c.tc.loc main_arg2)) (arg (m (c.tc.loc main_arg0)) (m (c.tc.loc main_arg1)) (m (c.tc.loc main_arg2)))
    (DY (m (c.tc.loc main_arg4)) (m (c.tc.loc main_arg3)) (m (c.tc.loc main_arg5))) := by
  rw [du_final, V_arg, V_front]

theorem kernel_dd : (dats m 0 c).arrAt 8 (cfgs 0).N = DD (m (c.tc.loc main_arg1)) (arg (m (c.tc.loc main_arg0)) (m (c.tc.loc main_arg1)) (m (c.tc.loc main_arg2)))
    (DY (m (c.tc.loc main_arg4)) (m (c.tc.loc main_arg3)) (m (c.tc.loc main_arg5))) := by
  rw [dd_final, V_arg, V_front, V_main_arg1]

end

set_option maxHeartbeats 2000000 in
theorem algebraic : Cert.algebraic_GluKernelIdeal_GluReferenceIdeal := by
  pair_intro
  · run_from Cert.GluKernelIdeal.Value.run_blocks m g
  · refine (θ_run Cert.GluReferenceIdeal.defs _ _).mono (fun r h c => ?_) (Cert.GluReferenceIdeal.Value.run m' g')
    obtain ⟨r0, r1, r2, rest⟩ := h c
    obtain ⟨h0, h1, h2, h3, h4, h5⟩ := hagree c
    refine ⟨r0.trans ?_, r1.trans ?_, r2.trans ?_, rest⟩
    · refine (Cert.GluReferenceIdeal.Read.val_main_v46_eq (F := Ideal) m' c).trans ((reference_dz (m' (c.tc.loc Cert.GluReferenceIdeal.main_arg0)) (m' (c.tc.loc Cert.GluReferenceIdeal.main_arg1)) (m' (c.tc.loc Cert.GluReferenceIdeal.main_arg2)) (m' (c.tc.loc Cert.GluReferenceIdeal.main_arg3)) (m' (c.tc.loc Cert.GluReferenceIdeal.main_arg4)) (m' (c.tc.loc Cert.GluReferenceIdeal.main_arg5))).trans ?_)
      rw [h0, h1, h2, h3, h4, h5]
      exact (kernel_dz m c).symm
    · refine (Cert.GluReferenceIdeal.Read.val_main_v41_eq (F := Ideal) m' c).trans ((reference_du (m' (c.tc.loc Cert.GluReferenceIdeal.main_arg0)) (m' (c.tc.loc Cert.GluReferenceIdeal.main_arg1)) (m' (c.tc.loc Cert.GluReferenceIdeal.main_arg2)) (m' (c.tc.loc Cert.GluReferenceIdeal.main_arg3)) (m' (c.tc.loc Cert.GluReferenceIdeal.main_arg4)) (m' (c.tc.loc Cert.GluReferenceIdeal.main_arg5))).trans ?_)
      rw [h0, h1, h2, h3, h4, h5]
      exact (kernel_du m c).symm
    · refine (Cert.GluReferenceIdeal.Read.val_main_v47_eq (F := Ideal) m' c).trans ((reference_dd (m' (c.tc.loc Cert.GluReferenceIdeal.main_arg0)) (m' (c.tc.loc Cert.GluReferenceIdeal.main_arg1)) (m' (c.tc.loc Cert.GluReferenceIdeal.main_arg2)) (m' (c.tc.loc Cert.GluReferenceIdeal.main_arg3)) (m' (c.tc.loc Cert.GluReferenceIdeal.main_arg4)) (m' (c.tc.loc Cert.GluReferenceIdeal.main_arg5))).trans ?_)
      rw [h0, h1, h2, h3, h4, h5]
      exact (kernel_dd m c).symm

end Cert.K.Glu

end
-- ==== Proof.Ple.Value.lean ====
/- What the pipeline of the per-layer embedding's gradient leaves, in terms of the arrays it reads. -/
module

public import proofs.«01_k».proof.Proof.Gen.PleKernelIdeal.Value
public import proofs.«01_k».proof.Proof.Norm.Row
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.K.Ple

open Cert.PleKernelIdeal Cert.PleKernelIdeal.Gen
open Cert.K.Norm (sig dx dg sig_slope zero_sub congr4)

/-- The width of a row. -/
abbrev wd : EReal := Ideal.ofBits .f32 0x44800000#32

/-- The row the norm is taken of: the projected embedding times the gate. -/
abbrev row (pu gt : Fin 1024 → EReal) : Fin 1024 → EReal := fun k => pu k * sig (gt k)

/-- The gradient in the row the norm is taken of. -/
abbrev drow (pu gt g dh : Fin 1024 → EReal) : Fin 1024 → EReal := dx wd (row pu gt) (fun k => dh k * g k)

/-- The gradient in the projected embedding, one entry. -/
def dpu (pu gt g dh : Fin 1024 → EReal) (q : Fin 1024) : EReal := drow pu gt g dh q * sig (gt q)

/-- The gradient in what the gate is taken of, one entry. -/
def dgt (pu gt g dh : Fin 1024 → EReal) (q : Fin 1024) : EReal := pu q * drow pu gt g dh q * (sig (gt q) * (1 - sig (gt q)))

def DPU (pu gt dh : FVec Ideal S4096x1024 .f32) (g : FVec Ideal S1024 .f32) : FVec Ideal S4096x1024 .bf16 := fun i =>
  dpu (fun k => pu (ix2 (i 0) k)) (fun k => gt (ix2 (i 0) k)) (fun k => g (ix1 k)) (fun k => dh (ix2 (i 0) k)) (i 1)

def DGT (pu gt dh : FVec Ideal S4096x1024 .f32) (g : FVec Ideal S1024 .f32) : FVec Ideal S4096x1024 .bf16 := fun i =>
  dgt (fun k => pu (ix2 (i 0) k)) (fun k => gt (ix2 (i 0) k)) (fun k => g (ix1 k)) (fun k => dh (ix2 (i 0) k)) (i 1)

def DG (pu gt dh : FVec Ideal S4096x1024 .f32) : FVec Ideal S1x1024 .f32 := fun i =>
  ∑ r : Fin 4096, dg wd (row (fun k => pu (ix2 r k)) (fun k => gt (ix2 r k))) (fun k => dh (ix2 r k)) (i 1)

/-! ## What one block's body computes -/

theorem body_dpu (x p t : FVec Ideal S512x1024 .f32) (g : FVec Ideal S1x1024 .f32) (r : Fin 512) (q : Fin 1024) :
    k0_pay2 (F := Ideal) (k0_pay8 t) (k0_pay10 p t) (k0_pay13 p t) (k0_pay16 x p t g) (k0_pay17 x p t g) (ix2 r q)
      = dpu (fun k => p (ix2 r k)) (fun k => t (ix2 r k)) (fun k => g (ix2 0 k)) (fun k => x (ix2 r k)) q := by
  pointwise [k0_pay2, k0_pay1, k0_pay5, k0_pay6, k0_pay7, k0_pay8, k0_pay10, k0_pay11, k0_pay12, k0_pay13, k0_pay15, k0_pay16, k0_pay17]
  simp only [Fin.sum_univ_one, zero_sub]
  rfl

theorem body_dgt (x p t : FVec Ideal S512x1024 .f32) (g : FVec Ideal S1x1024 .f32) (r : Fin 512) (q : Fin 1024) :
    k0_pay3 (F := Ideal) (k0_pay5 p) (k0_pay6 t) (k0_pay9 t) (k0_pay10 p t) (k0_pay13 p t) (k0_pay16 x p t g) (k0_pay17 x p t g) (ix2 r q)
      = dgt (fun k => p (ix2 r k)) (fun k => t (ix2 r k)) (fun k => g (ix2 0 k)) (fun k => x (ix2 r k)) q := by
  unfold dgt
  rw [← sig_slope]
  pointwise [k0_pay3, k0_pay1, k0_pay5, k0_pay6, k0_pay7, k0_pay8, k0_pay9, k0_pay10, k0_pay11, k0_pay12, k0_pay13, k0_pay15, k0_pay16, k0_pay17]
  simp only [Fin.sum_univ_one, zero_sub, EReal.neg_mul, neg_neg, mul_one]
  exact mul_assoc _ _ _

theorem body_dg (x p t : FVec Ideal S512x1024 .f32) (q : Fin 1024) :
    k0_pay14 (F := Ideal) x p t (ix2 0 q)
      = ∑ r : Fin 512, dg wd (row (fun k => p (ix2 r k)) (fun k => t (ix2 r k))) (fun k => x (ix2 r k)) q := by
  pointwise [k0_pay14, k0_pay5, k0_pay6, k0_pay7, k0_pay8, k0_pay10, k0_pay11, k0_pay12]
  simp only [zero_sub]
  rfl

theorem acc (y z : FVec Ideal S1x1024 .f32) (i : S1x1024.Idx) : k0_pay4 (F := Ideal) y z i = z i + y i := by
  pointwise [k0_pay4]

/-! ## The blocks -/

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] :=
  (by decide +kernel : ∀ t : Fin grid0.N, _)

theorem lt0 (t : Fin cfg0.N) (r : Fin 512) : t.val * 512 + r.val < 4096 := by
  have := lt_of_lt_of_eq t.isLt N_0; omega

theorem blk0 (c : Dev nD) (t : Fin cfg0.N) (r : Fin 512) (q : Fin 1024) : (show FVec Ideal S512x1024 .f32 from iblk m c 0 t) (ix2 r q)
    = (show FVec Ideal S4096x1024 .f32 from V m c main_arg5) (ix2 ⟨t.val * 512 + r.val, lt0 t r⟩ q) := by
  blk_ext! [iblk, idx t]
theorem blk1 (c : Dev nD) (t : Fin cfg0.N) (r : Fin 512) (q : Fin 1024) : (show FVec Ideal S512x1024 .f32 from iblk m c 1 t) (ix2 r q)
    = (show FVec Ideal S4096x1024 .f32 from V m c main_v3) (ix2 ⟨t.val * 512 + r.val, lt0 t r⟩ q) := by
  blk_ext! [iblk, idx t]
theorem blk2 (c : Dev nD) (t : Fin cfg0.N) (r : Fin 512) (q : Fin 1024) : (show FVec Ideal S512x1024 .f32 from iblk m c 2 t) (ix2 r q)
    = (show FVec Ideal S4096x1024 .f32 from V m c main_v6) (ix2 ⟨t.val * 512 + r.val, lt0 t r⟩ q) := by
  blk_ext! [iblk, idx t]
theorem blk3 (c : Dev nD) (t : Fin cfg0.N) (r : Fin 1) (q : Fin 1024) : (show FVec Ideal S1x1024 .f32 from iblk m c 3 t) (ix2 r q)
    = (show FVec Ideal S1x1024 .f32 from V m c main_v0) (ix2 r q) := by
  blk_ext! [iblk, idx t]

/-- The gain is handed over as one row. -/
theorem gain (c : Dev nD) (q : Fin 1024) : (show FVec Ideal S1x1024 .f32 from V m c main_v0) (ix2 0 q)
    = (show FVec Ideal S1024 .f32 from m ((c : Thread nD τ).loc main_arg4)) (ix1 q) := by
  dsimp only [V]
  entry_read
  pointwise

theorem dpu_final (c : Dev nD) : (dats m 0 c).arrAt 4 (cfgs 0).N
    = DPU (V m c main_v3) (V m c main_v6) (V m c main_arg5) (m ((c : Thread nD τ).loc main_arg4)) := by
  refine (dats m 0 c).arrAt_eq_of_covers 4 _ (by decide +kernel) fun t _ y => ?_
  idx_vars y
  have he : ((cfg0.win 4).blk t).view.emb (show S512x1024.Idx from ix2 y0 y1) = (show S4096x1024.Idx from ix2 ⟨t.val * 512 + y0.val, lt0 t y0⟩ y1) := by
    blk_ext [idx t]
  refine Eq.trans ?_ (congrArg (DPU _ _ _ _) he).symm
  blk_simp
  rw [after0_4]
  have hout : (outsAt0 m c t.val t.isLt).1 = k0_pay2 (F := Ideal) (k0_pay8 (iblk m c 2 t)) (k0_pay10 (iblk m c 1 t) (iblk m c 2 t)) (k0_pay13 (iblk m c 1 t) (iblk m c 2 t)) (k0_pay16 (iblk m c 0 t) (iblk m c 1 t) (iblk m c 2 t) (iblk m c 3 t)) (k0_pay17 (iblk m c 0 t) (iblk m c 1 t) (iblk m c 2 t) (iblk m c 3 t)) := by
    have hN : t.val < 8 := lt_of_lt_of_eq t.isLt N_0
    by_cases h : t.val = 0
    · rw [outsAt0_A m c t (by omega) (by omega)]; frame_out
    · rw [outsAt0_B m c t (by omega) (by omega)]; frame_out
  rw [hout]
  refine (body_dpu _ _ _ _ y0 y1).trans (congrFun (congr4 dpu ?_ ?_ ?_ ?_) y1)
  · exact funext fun k => blk1 m c t y0 k
  · exact funext fun k => blk2 m c t y0 k
  · exact funext fun k => (blk3 m c t 0 k).trans (gain m c k)
  · exact funext fun k => blk0 m c t y0 k

theorem dgt_final (c : Dev nD) : (dats m 0 c).arrAt 5 (cfgs 0).N
    = DGT (V m c main_v3) (V m c main_v6) (V m c main_arg5) (m ((c : Thread nD τ).loc main_arg4)) := by
  refine (dats m 0 c).arrAt_eq_of_covers 5 _ (by decide +kernel) fun t _ y => ?_
  idx_vars y
  have he : ((cfg0.win 5).blk t).view.emb (show S512x1024.Idx from ix2 y0 y1) = (show S4096x1024.Idx from ix2 ⟨t.val * 512 + y0.val, lt0 t y0⟩ y1) := by
    blk_ext [idx t]
  refine Eq.trans ?_ (congrArg (DGT _ _ _ _) he).symm
  blk_simp
  rw [after0_5]
  have hout : (outsAt0 m c t.val t.isLt).2.1 = k0_pay3 (F := Ideal) (k0_pay5 (iblk m c 1 t)) (k0_pay6 (iblk m c 2 t)) (k0_pay9 (iblk m c 2 t)) (k0_pay10 (iblk m c 1 t) (iblk m c 2 t)) (k0_pay13 (iblk m c 1 t) (iblk m c 2 t)) (k0_pay16 (iblk m c 0 t) (iblk m c 1 t) (iblk m c 2 t) (iblk m c 3 t)) (k0_pay17 (iblk m c 0 t) (iblk m c 1 t) (iblk m c 2 t) (iblk m c 3 t)) := by
    have hN : t.val < 8 := lt_of_lt_of_eq t.isLt N_0
    by_cases h : t.val = 0
    · rw [outsAt0_A m c t (by omega) (by omega)]; frame_out
    · rw [outsAt0_B m c t (by omega) (by omega)]; frame_out
  rw [hout]
  refine (body_dgt _ _ _ _ y0 y1).trans (congrFun (congr4 dgt ?_ ?_ ?_ ?_) y1)
  · exact funext fun k => blk1 m c t y0 k
  · exact funext fun k => blk2 m c t y0 k
  · exact funext fun k => (blk3 m c t 0 k).trans (gain m c k)
  · exact funext fun k => blk0 m c t y0 k

theorem dg_final (c : Dev nD) : (dats m 0 c).arrAt 6 (cfgs 0).N = DG (V m c main_v3) (V m c main_v6) (V m c main_arg5) := by
  refine (dats m 0 c).arrAt_eq_of_after_last 6 t0_7 (by decide +kernel) _ fun j => ?_
  idx_vars j
  fin_cases j0
  blk_simp
  rw [after0_6, Pipeline.eq_sum_fin_of_reset_step_apply_last (fun n h => (outsAt0 m c n h).2.2) 8 (fun _ => 0) _
    (fun t h j => by rw [outsAt0_A m c t h (by have := lt_of_lt_of_eq t.isLt N_0; omega)]; frame_out; rw [zero_add])
    (fun t h j => by rw [outsAt0_B m c t h (by omega)]; frame_out; rw [acc])
    (le_of_eq N_0) t0_7 rfl _, zero_add]
  unfold DG
  refine Eq.trans (Finset.sum_congr (M := EReal) rfl fun s _ => body_dg _ _ _ j1) ?_
  refine Fin.sum_mul_add_congr fun s k hl => congrFun (congrArg₂ (dg wd) ?_ ?_) j1
  · exact funext fun x => Ideal.mul_congr (blk1 m c s k x) (congrArg sig (blk2 m c s k x))
  · exact funext fun x => blk0 m c s k x

end Cert.K.Ple

end
-- ==== Proof.Norm.Host.lean ====
/- The norm's gradient over whole arrays of 4096 rows of 1024, as the references' host lines compute it. -/
module

public import proofs.«01_k».proof.Proof.Gen.PleReferenceIdeal
public import proofs.«01_k».proof.Proof.Gen.PleReferenceIdeal.Read
public import proofs.«01_k».proof.Proof.Norm.Row
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.K.Norm

open Cert.PleReferenceIdeal Cert.PleReferenceIdeal.Gen

/-- The width of a row. -/
abbrev wd : EReal := Ideal.ofBits .f32 0x44800000#32

theorem one_val : Ideal.ofBits .f32 0x3F800000#32 = 1 := by
  pointwise

variable (x e : FVec Ideal S4096x1024 .f32)

/-- Row `r` of an array. -/
abbrev rowOf (x : FVec Ideal S4096x1024 .f32) (r : Fin 4096) : Fin 1024 → EReal := fun k => x (ix2 r k)

def msH : FVec Ideal S4096x1 .f32 :=
  addf (Host.divf (broadcastInDim S4096x1 ![0] bcast_S4096_S4096x1_0 (Host.reduceAdd (mulf x x) (constant (F := Ideal) S_ .f32 0x00000000#32) reducesTo_S4096x1024_S4096_d1 h_S_))
    (broadcastInDim S4096x1 ![] bcast_S_S4096x1 (constant (F := Ideal) S_ .f32 0x44800000#32)))
    (broadcastInDim S4096x1 ![] bcast_S_S4096x1 (constant (F := Ideal) S_ .f32 0x358637BD#32))

theorem msH_apply (r : Fin 4096) : msH x (ix2 r 0) = ms wd (rowOf x r) := by
  pointwise [msH]
  rfl

def invB : FVec Ideal S4096x1024 .f32 := broadcastInDim S4096x1024 ![0, 1] bcast_S4096x1_S4096x1024_0_1 (Host.rsqrt (msH x))

theorem invB_apply (r : Fin 4096) (q : Fin 1024) : invB x (ix2 r q) = inv wd (rowOf x r) := by
  pointwise [invB]
  rw [msH_apply]
  rfl

def coefH : FVec Ideal S4096x1024 .f32 :=
  broadcastInDim S4096x1024 ![0] bcast_S4096_S4096x1024_0 (Host.reduceAdd (Host.divf
    (mulf (shapeCast _ (Host.reduceAdd (mulf x e) (constant (F := Ideal) S_ .f32 0x00000000#32) reducesTo_S4096x1024_S4096_d1 h_S_) shapeCasts_S4096_S4096x1)
      (mulf (broadcastInDim S4096x1 ![] bcast_S_S4096x1 (constant (F := Ideal) S_ .f32 0xBF000000#32)) (Host.divf (Host.rsqrt (msH x)) (msH x))))
    (broadcastInDim S4096x1 ![] bcast_S_S4096x1 (constant (F := Ideal) S_ .f32 0x44800000#32)))
    (constant (F := Ideal) S_ .f32 0x00000000#32) reducesTo_S4096x1_S4096_d1 h_S_)

theorem coefH_apply (r : Fin 4096) (q : Fin 1024) : coefH x e (ix2 r q) = coef wd (rowOf x r) (rowOf e r) := by
  pointwise [coefH]
  rw [Fin.sum_univ_one, msH_apply]
  rfl

/-- The gradient in the rows. -/
def dxH : FVec Ideal S4096x1024 .f32 := addf (addf (mulf e (invB x)) (mulf x (coefH x e))) (mulf (coefH x e) x)

theorem dxH_apply (r : Fin 4096) (q : Fin 1024) : dxH x e (ix2 r q) = dx wd (rowOf x r) (rowOf e r) q := by
  pointwise [dxH]
  rw [invB_apply, coefH_apply]
  rfl

/-- The gain, one row for all. -/
def gainB (g : FVec Ideal S1024 .f32) : FVec Ideal S4096x1024 .f32 :=
  broadcastInDim S4096x1024 ![0, 1] bcast_S1x1024_S4096x1024_0_1 (broadcastInDim S1x1024 ![1] bcast_S1024_S1x1024_1 g)

theorem gainB_apply (g : FVec Ideal S1024 .f32) (r : Fin 4096) (q : Fin 1024) : gainB g (ix2 r q) = g (ix1 q) := by
  pointwise [gainB]

/-- The gradient in the gain. -/
def dgH : FVec Ideal S1x1024 .f32 :=
  shapeCast _ (Host.reduceAdd (shapeCast _ (Host.reduceAdd (mulf (mulf x (invB x)) e) (constant (F := Ideal) S_ .f32 0x00000000#32) reducesTo_S4096x1024_S1024_d0 h_S_) shapeCasts_S1024_S1x1024)
    (constant (F := Ideal) S_ .f32 0x00000000#32) reducesTo_S1x1024_S1024_d0 h_S_) shapeCasts_S1024_S1x1024

theorem dgH_apply (r : Fin 1) (q : Fin 1024) : dgH x e (ix2 r q) = ∑ s : Fin 4096, dg wd (rowOf x s) (rowOf e s) q := by
  pointwise [dgH]
  rw [Fin.sum_univ_one]
  refine Finset.sum_congr rfl fun s _ => ?_
  rw [invB_apply]
  rfl

end Cert.K.Norm

end
-- ==== Proof.Ple.Claim.lean ====
/- The per-layer embedding's gradient: what the reference computes, and that the kernel computes the same. -/
module

public import proofs.«01_k».proof.Proof.Ple.Value
public import proofs.«01_k».proof.Proof.Norm.Host
public import proofs.«01_k».proof.Proof.Gen.PleReferenceIdeal.Run
public import proofs.«01_k».proof.Proof.Gen.PleReferenceIdeal.Read
public import proofs.«01_k».proof.Defs

@[expose] public section

set_option maxRecDepth 16384

noncomputable section

open Idealize.ShloMosaic Idealize.ShloMosaic.TcCoe Idealize.SL.Sem

namespace Cert.K.Ple

section
open Cert.PleReferenceIdeal Cert.PleReferenceIdeal.Read
open Cert.K.Norm (zero_sub sig rowOf dxH dxH_apply dgH dgH_apply gainB gainB_apply one_val)

variable (h : FVec Ideal S4096x1024 .f32) (p : FVec Ideal S4096x256 .f32) (wu : FVec Ideal S256x1024 .f32)
  (wg : FVec Ideal S1024x1024 .f32) (g : FVec Ideal S1024 .f32) (dh : FVec Ideal S4096x1024 .f32)

theorem gate_apply (i : S4096x1024.Idx) : val_main_v7 (F := Ideal) h wg i = sig (val_main_v1 (F := Ideal) h wg i) := by
  idx_vars i
  pointwise [val_main_v2, val_main_v3, val_main_cst, val_main_v4, val_main_v5, val_main_cst_0, val_main_v6, val_main_v7]
  rfl

theorem drow_eq : val_main_v48 (F := Ideal) h p wu wg g dh
    = dxH (val_main_v11 (F := Ideal) h p wu wg) (mulf dh (gainB g)) := rfl

theorem row_apply (r : Fin 4096) : rowOf (val_main_v11 (F := Ideal) h p wu wg) r
    = row (fun k => val_main_v0 (F := Ideal) p wu (ix2 r k)) (fun k => val_main_v1 (F := Ideal) h wg (ix2 r k)) := by
  funext k
  simp only [rowOf, val_main_v11_apply, gate_apply]
  rfl

theorem drow_apply (r : Fin 4096) (q : Fin 1024) : val_main_v48 (F := Ideal) h p wu wg g dh (ix2 r q)
    = drow (fun k => val_main_v0 (F := Ideal) p wu (ix2 r k)) (fun k => val_main_v1 (F := Ideal) h wg (ix2 r k))
        (fun k => g (ix1 k)) (fun k => dh (ix2 r k)) q := by
  rw [drow_eq, dxH_apply, row_apply]
  refine congrFun (congrArg _ (funext fun k => ?_)) q
  simp only [rowOf, mulf_apply, gainB_apply]
  rfl

theorem reference_dpu : val_main_v52 (F := Ideal) h p wu wg g dh
    = DPU (val_main_v0 (F := Ideal) p wu) (val_main_v1 (F := Ideal) h wg) dh g := by
  funext i
  idx_vars i
  show val_main_v48 (F := Ideal) h p wu wg g dh (ix2 i0 i1) * val_main_v7 (F := Ideal) h wg (ix2 i0 i1) = _
  rw [drow_apply, gate_apply]
  rfl

theorem reference_dgt : val_main_v53 (F := Ideal) h p wu wg g dh
    = DGT (val_main_v0 (F := Ideal) p wu) (val_main_v1 (F := Ideal) h wg) dh g := by
  funext i
  idx_vars i
  show val_main_v0 (F := Ideal) p wu (ix2 i0 i1) * val_main_v48 (F := Ideal) h p wu wg g dh (ix2 i0 i1)
    * (val_main_v7 (F := Ideal) h wg (ix2 i0 i1) * (Ideal.ofBits .f32 0x3F800000#32 - val_main_v7 (F := Ideal) h wg (ix2 i0 i1))) = _
  rw [drow_apply, gate_apply, one_val]
  rfl

theorem reference_dg : val_main_v54 (F := Ideal) h p wu wg dh
    = DG (val_main_v0 (F := Ideal) p wu) (val_main_v1 (F := Ideal) h wg) dh := by
  funext i
  idx_vars i
  rw [show val_main_v54 (F := Ideal) h p wu wg dh = dgH (val_main_v11 (F := Ideal) h p wu wg) dh from rfl, dgH_apply]
  refine Finset.sum_congr (M := EReal) rfl fun s _ => ?_
  rw [row_apply]
  rfl

end

section
open Cert.PleKernelIdeal Cert.PleKernelIdeal.Gen

variable (m : (ℓ : Loc nD τ sig) → Buf (Elt Ideal) ℓ) (c : Dev nD)

theorem V_pu : V m c main_v3 = Cert.PleReferenceIdeal.Read.val_main_v0 (F := Ideal) (m (c.tc.loc main_arg1)) (m (c.tc.loc main_arg2)) := by
  dsimp only [V]
  entry_read
  rfl

theorem V_gt : V m c main_v6 = Cert.PleReferenceIdeal.Read.val_main_v1 (F := Ideal) (m (c.tc.loc main_arg0)) (m (c.tc.loc main_arg3)) := by
  dsimp only [V]
  entry_read
  rfl

theorem kernel_dpu : (dats m 0 c).arrAt 4 (cfgs 0).N
    = DPU (Cert.PleReferenceIdeal.Read.val_main_v0 (F := Ideal) (m (c.tc.loc main_arg1)) (m (c.tc.loc main_arg2)))
      (Cert.PleReferenceIdeal.Read.val_main_v1 (F := Ideal) (m (c.tc.loc main_arg0)) (m (c.tc.loc main_arg3))) (m (c.tc.loc main_arg5)) (m (c.tc.loc main_arg4)) := by
  rw [dpu_final, V_pu, V_gt, V_main_arg5]

theorem kernel_dgt : (dats m 0 c).arrAt 5 (cfgs 0).N
    = DGT (Cert.PleReferenceIdeal.Read.val_main_v0 (F := Ideal) (m (c.tc.loc main_arg1)) (m (c.tc.loc main_arg2)))
      (Cert.PleReferenceIdeal.Read.val_main_v1 (F := Ideal) (m (c.tc.loc main_arg0)) (m (c.tc.loc main_arg3))) (m (c.tc.loc main_arg5)) (m (c.tc.loc main_arg4)) := by
  rw [dgt_final, V_pu, V_gt, V_main_arg5]

theorem kernel_dg : (dats m 0 c).arrAt 6 (cfgs 0).N
    = DG (Cert.PleReferenceIdeal.Read.val_main_v0 (F := Ideal) (m (c.tc.loc main_arg1)) (m (c.tc.loc main_arg2)))
      (Cert.PleReferenceIdeal.Read.val_main_v1 (F := Ideal) (m (c.tc.loc main_arg0)) (m (c.tc.loc main_arg3))) (m (c.tc.loc main_arg5)) := by
  rw [dg_final, V_pu, V_gt, V_main_arg5]

end

theorem algebraic : Cert.algebraic_PleKernelIdeal_PleReferenceIdeal := by
  pair_intro
  · run_from Cert.PleKernelIdeal.Value.run_blocks m g
  · run_from Cert.PleReferenceIdeal.Value.run m' g'
    · obtain ⟨h0, h1, h2, h3, h4, h5⟩ := hagree c
      rw [Cert.PleReferenceIdeal.Read.val_main_v52_eq, h0, h1, h2, h3, h4, h5]
      exact (reference_dpu _ _ _ _ _ _).trans (kernel_dpu m c).symm
    · obtain ⟨h0, h1, h2, h3, h4, h5⟩ := hagree c
      rw [Cert.PleReferenceIdeal.Read.val_main_v53_eq, h0, h1, h2, h3, h4, h5]
      exact (reference_dgt _ _ _ _ _ _).trans (kernel_dgt m c).symm
    · exact ((Cert.PleReferenceIdeal.Read.val_main_v54_eq _ _ _ _ _).trans (reference_dg _ _ _ _ _)).trans (kernel_dg m c).symm

end Cert.K.Ple

end
-- ==== Proof.FfnPost.Value.lean ====
/- What the pipeline of the gradient after the second feed-forward leaves, in terms of the arrays it reads. -/
module

public import proofs.«01_k».proof.Proof.Gen.FfnPostKernelIdeal.Value
public import proofs.«01_k».proof.Proof.Norm.Host
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.K.FfnPost

open Cert.FfnPostKernelIdeal Cert.FfnPostKernelIdeal.Gen
open Cert.K.Norm (wd dx dg congr3)

/-- One half. -/
abbrev half : EReal := Ideal.ofBits .f32 0x3F000000#32

/-- The gradient in the feed-forward's result, one entry, of the gradient `y` in the stream. -/
def df (x y g : Fin 1024 → EReal) (q : Fin 1024) : EReal := dx wd x (fun k => half * y k * g k) q

def DF (x y : FVec Ideal S4096x1024 .f32) (g : FVec Ideal S1024 .f32) : FVec Ideal S4096x1024 .bf16 := fun i =>
  df (fun k => x (ix2 (i 0) k)) (fun k => y (ix2 (i 0) k)) (fun k => g (ix1 k)) (i 1)

def DG (x y : FVec Ideal S4096x1024 .f32) : FVec Ideal S1x1024 .f32 := fun i =>
  ∑ r : Fin 4096, dg wd (fun k => x (ix2 r k)) (fun k => half * y (ix2 r k)) (i 1)

/-- The gradient in the stream: what came in, and what comes back through the gate's product. -/
def H3 (e : FVec Ideal S4096x1024 .f32) (d : FVec Ideal S4096x1024 .bf16) (w : FVec Ideal S1024x1024 .bf16) : FVec Ideal S4096x1024 .f32 := fun i =>
  e (ix2 (i 0) (i 1)) + ∑ k : Fin 1024, d (ix2 (i 0) k) * w (ix2 (i 1) k)

/-! ## What one block's body computes -/

theorem body_h (d : FVec Ideal S512x1024 .bf16) (w : FVec Ideal S1024x1024 .bf16) (e : FVec Ideal S512x1024 .f32) (r : Fin 512) (q : Fin 1024) :
    k0_pay4 (F := Ideal) d w e (ix2 r q) = e (ix2 r q) + ∑ k : Fin 1024, d (ix2 r k) * w (ix2 q k) := by
  pointwise [k0_pay4]

theorem body_df (d : FVec Ideal S512x1024 .bf16) (w : FVec Ideal S1024x1024 .bf16) (e x : FVec Ideal S512x1024 .f32) (g : FVec Ideal S1x1024 .f32)
    (r : Fin 512) (q : Fin 1024) :
    k0_pay1 (F := Ideal) (k0_pay3 x) (k0_pay10 d w e x g) (k0_pay11 d w e x g) (ix2 r q)
      = df (fun k => x (ix2 r k)) (fun k => k0_pay4 (F := Ideal) d w e (ix2 r k)) (fun k => g (ix2 0 k)) q := by
  pointwise [k0_pay1, k0_pay3, k0_pay5, k0_pay6, k0_pay7, k0_pay9, k0_pay10, k0_pay11]
  simp only [Fin.sum_univ_one]
  rfl

theorem body_dg (d : FVec Ideal S512x1024 .bf16) (w : FVec Ideal S1024x1024 .bf16) (e x : FVec Ideal S512x1024 .f32) (q : Fin 1024) :
    k0_pay8 (F := Ideal) d w e x (ix2 0 q)
      = ∑ r : Fin 512, dg wd (fun k => x (ix2 r k)) (fun k => half * k0_pay4 (F := Ideal) d w e (ix2 r k)) q := by
  pointwise [k0_pay3, k0_pay5, k0_pay6, k0_pay7, k0_pay8]
  rfl

theorem acc (y z : FVec Ideal S1x1024 .f32) (i : S1x1024.Idx) : k0_pay2 (F := Ideal) y z i = z i + y i := by
  pointwise [k0_pay2]

/-! ## The blocks -/

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![t.val, 0] :=
  (by decide +kernel : ∀ t : Fin grid0.N, _)

theorem lt0 (t : Fin cfg0.N) (r : Fin 512) : t.val * 512 + r.val < 4096 := by
  have := lt_of_lt_of_eq t.isLt N_0; omega

theorem blk0 (c : Dev nD) (t : Fin cfg0.N) (r : Fin 512) (q : Fin 1024) : (show FVec Ideal S512x1024 .bf16 from iblk m c 0 t) (ix2 r q)
    = (show FVec Ideal S4096x1024 .bf16 from V m c main_v5) (ix2 ⟨t.val * 512 + r.val, lt0 t r⟩ q) := by
  blk_ext! [iblk, idx t]
theorem blk1 (c : Dev nD) (t : Fin cfg0.N) (r : Fin 1024) (q : Fin 1024) : (show FVec Ideal S1024x1024 .bf16 from iblk m c 1 t) (ix2 r q)
    = (show FVec Ideal S1024x1024 .bf16 from V m c main_v1) (ix2 r q) := by
  blk_ext! [iblk, idx t]
theorem blk2 (c : Dev nD) (t : Fin cfg0.N) (r : Fin 512) (q : Fin 1024) : (show FVec Ideal S512x1024 .f32 from iblk m c 2 t) (ix2 r q)
    = (show FVec Ideal S4096x1024 .f32 from V m c main_arg4) (ix2 ⟨t.val * 512 + r.val, lt0 t r⟩ q) := by
  blk_ext! [iblk, idx t]
theorem blk3 (c : Dev nD) (t : Fin cfg0.N) (r : Fin 512) (q : Fin 1024) : (show FVec Ideal S512x1024 .f32 from iblk m c 3 t) (ix2 r q)
    = (show FVec Ideal S4096x1024 .f32 from V m c main_v4) (ix2 ⟨t.val * 512 + r.val, lt0 t r⟩ q) := by
  blk_ext! [iblk, idx t]
theorem blk4 (c : Dev nD) (t : Fin cfg0.N) (r : Fin 1) (q : Fin 1024) : (show FVec Ideal S1x1024 .f32 from iblk m c 4 t) (ix2 r q)
    = (show FVec Ideal S1x1024 .f32 from V m c main_v0) (ix2 r q) := by
  blk_ext! [iblk, idx t]

/-- The gain is handed over as one row. -/
theorem gain (c : Dev nD) (q : Fin 1024) : (show FVec Ideal S1x1024 .f32 from V m c main_v0) (ix2 0 q)
    = (show FVec Ideal S1024 .f32 from m ((c : Thread nD τ).loc main_arg2)) (ix1 q) := by
  dsimp only [V]
  entry_read
  pointwise

/-- The gradient in the stream, of the arrays as they stand when the pipeline starts. -/
abbrev H (c : Dev nD) : FVec Ideal S4096x1024 .f32 := H3 (V m c main_arg4) (V m c main_v5) (V m c main_v1)

theorem h_blk (c : Dev nD) (t : Fin cfg0.N) (r : Fin 512) (q : Fin 1024) : k0_pay4 (F := Ideal) (iblk m c 0 t) (iblk m c 1 t) (iblk m c 2 t) (ix2 r q)
    = H m c (ix2 ⟨t.val * 512 + r.val, lt0 t r⟩ q) :=
  (body_h _ _ _ r q).trans (congrArg₂ (· + ·) (blk2 m c t r q)
    (Finset.sum_congr (M := EReal) rfl fun k _ => Ideal.mul_congr (blk0 m c t r k) (blk1 m c t q k)))

theorem dh_final (c : Dev nD) : (dats m 0 c).arrAt 5 (cfgs 0).N = H m c := by
  refine (dats m 0 c).arrAt_eq_of_covers 5 _ (by decide +kernel) fun t _ y => ?_
  idx_vars y
  have he : ((cfg0.win 5).blk t).view.emb (show S512x1024.Idx from ix2 y0 y1) = (show S4096x1024.Idx from ix2 ⟨t.val * 512 + y0.val, lt0 t y0⟩ y1) := by
    blk_ext [idx t]
  refine Eq.trans ?_ (congrArg (H m c) he).symm
  blk_simp
  rw [after0_5]
  have hout : (outsAt0 m c t.val t.isLt).1 = k0_pay4 (F := Ideal) (iblk m c 0 t) (iblk m c 1 t) (iblk m c 2 t) := by
    have hN : t.val < 8 := lt_of_lt_of_eq t.isLt N_0
    by_cases h : t.val = 0
    · rw [outsAt0_A m c t (by omega) (by omega)]; frame_out
    · rw [outsAt0_B m c t (by omega) (by omega)]; frame_out
  rw [hout]
  exact h_blk m c t y0 y1

theorem df_final (c : Dev nD) : (dats m 0 c).arrAt 6 (cfgs 0).N
    = DF (V m c main_v4) (H m c) (m ((c : Thread nD τ).loc main_arg2)) := by
  refine (dats m 0 c).arrAt_eq_of_covers 6 _ (by decide +kernel) fun t _ y => ?_
  idx_vars y
  have he : ((cfg0.win 6).blk t).view.emb (show S512x1024.Idx from ix2 y0 y1) = (show S4096x1024.Idx from ix2 ⟨t.val * 512 + y0.val, lt0 t y0⟩ y1) := by
    blk_ext [idx t]
  refine Eq.trans ?_ (congrArg (DF _ _ _) he).symm
  blk_simp
  rw [after0_6]
  have hout : (outsAt0 m c t.val t.isLt).2.1 = k0_pay1 (F := Ideal) (k0_pay3 (iblk m c 3 t)) (k0_pay10 (iblk m c 0 t) (iblk m c 1 t) (iblk m c 2 t) (iblk m c 3 t) (iblk m c 4 t)) (k0_pay11 (iblk m c 0 t) (iblk m c 1 t) (iblk m c 2 t) (iblk m c 3 t) (iblk m c 4 t)) := by
    have hN : t.val < 8 := lt_of_lt_of_eq t.isLt N_0
    by_cases h : t.val = 0
    · rw [outsAt0_A m c t (by omega) (by omega)]; frame_out
    · rw [outsAt0_B m c t (by omega) (by omega)]; frame_out
  rw [hout]
  refine (body_df _ _ _ _ _ y0 y1).trans (congrFun (congr3 df ?_ ?_ ?_) y1)
  · exact funext fun k => blk3 m c t y0 k
  · exact funext fun k => h_blk m c t y0 k
  · exact funext fun k => (blk4 m c t 0 k).trans (gain m c k)

theorem dg_final (c : Dev nD) : (dats m 0 c).arrAt 7 (cfgs 0).N = DG (V m c main_v4) (H m c) := by
  refine (dats m 0 c).arrAt_eq_of_after_last 7 t0_7 (by decide +kernel) _ fun j => ?_
  idx_vars j
  fin_cases j0
  blk_simp
  rw [after0_7, Pipeline.eq_sum_fin_of_reset_step_apply_last (fun n h => (outsAt0 m c n h).2.2) 8 (fun _ => 0) _
    (fun t h j => by rw [outsAt0_A m c t h (by have := lt_of_lt_of_eq t.isLt N_0; omega)]; frame_out; rw [zero_add])
    (fun t h j => by rw [outsAt0_B m c t h (by omega)]; frame_out; rw [acc])
    (le_of_eq N_0) t0_7 rfl _, zero_add]
  unfold DG
  refine Eq.trans (Finset.sum_congr (M := EReal) rfl fun s _ => body_dg _ _ _ _ j1) ?_
  refine Fin.sum_mul_add_congr fun s k hl => congrFun (congrArg₂ (dg wd) ?_ ?_) j1
  · exact funext fun x => blk3 m c s k x
  · exact funext fun x => congrArg (half * ·) (h_blk m c s k x)

end Cert.K.FfnPost

end
-- ==== Proof.FfnPost.Claim.lean ====
/- The gradient after the second feed-forward: what the reference computes, and that the kernel computes the same. -/
module

public import proofs.«01_k».proof.Proof.FfnPost.Value
public import proofs.«01_k».proof.Proof.Gen.FfnPostReferenceIdeal.Run
public import proofs.«01_k».proof.Proof.Gen.FfnPostReferenceIdeal.Read
public import proofs.«01_k».proof.Defs

@[expose] public section

set_option maxRecDepth 16384

noncomputable section

open Idealize.ShloMosaic Idealize.ShloMosaic.TcCoe Idealize.SL.Sem

namespace Cert.K.FfnPost

section
open Cert.FfnPostReferenceIdeal Cert.FfnPostReferenceIdeal.Read
open Cert.K.Norm (rowOf dxH dxH_apply dgH dgH_apply gainB gainB_apply)

variable (a : FVec Ideal S4096x2816 .f32) (w : FVec Ideal S2816x1024 .f32) (g : FVec Ideal S1024 .f32)
  (wg : FVec Ideal S1024x1024 .f32) (e d : FVec Ideal S4096x1024 .f32)

theorem reference_dh : val_main_v23 (F := Ideal) wg e d = H3 e d wg := by
  funext i
  idx_vars i
  unfold H3
  pointwise [val_main_v22, val_main_v23]

theorem twice_cast : val_main_v25 (F := Ideal) wg e d = H3 e d wg := by
  rw [← reference_dh]
  exact shapeCast_self _ _

theorem half_apply (r : Fin 4096) (q : Fin 1024) : val_main_v27 (F := Ideal) wg e d (ix2 r q) = half * H3 e d wg (ix2 r q) := by
  rw [← twice_cast]
  pointwise [val_main_v26, val_main_v27, val_main_cst_5]

theorem reference_df : val_main_v48 (F := Ideal) a w g wg e d = DF (val_main_v1 (F := Ideal) a w) (H3 e d wg) g := by
  funext i
  idx_vars i
  refine (dxH_apply (val_main_v1 (F := Ideal) a w) (mulf (val_main_v27 (F := Ideal) wg e d) (gainB g)) i0 i1).trans ?_
  show Norm.dx Norm.wd _ _ i1 = Norm.dx Norm.wd _ (fun k => half * H3 e d wg (ix2 i0 k) * g (ix1 k)) i1
  refine congrFun (congrArg (Norm.dx Norm.wd _) (funext fun k => ?_)) i1
  simp only [rowOf, mulf_apply, gainB_apply, half_apply]
  rfl

theorem reference_dg : val_main_v49 (F := Ideal) a w wg e d = DG (val_main_v1 (F := Ideal) a w) (H3 e d wg) := by
  funext i
  idx_vars i
  refine (dgH_apply (val_main_v1 (F := Ideal) a w) (val_main_v27 (F := Ideal) wg e d) i0 i1).trans
    (Finset.sum_congr (M := EReal) rfl fun s _ => congrFun (congrArg _ (funext fun k => ?_)) i1)
  exact half_apply wg e d s k

end

section
open Cert.FfnPostKernelIdeal Cert.FfnPostKernelIdeal.Gen

variable (m : (ℓ : Loc nD τ sig) → Buf (Elt Ideal) ℓ) (c : Dev nD)

theorem H_eq : H m c = H3 (m (c.tc.loc main_arg4)) (m (c.tc.loc main_arg5)) (m (c.tc.loc main_arg3)) := by
  unfold H
  rw [V_main_arg4]
  dsimp only [V]
  entry_read
  rfl

theorem V_f : V m c main_v4 = Cert.FfnPostReferenceIdeal.Read.val_main_v1 (F := Ideal) (m (c.tc.loc main_arg0)) (m (c.tc.loc main_arg1)) := by
  dsimp only [V]
  entry_read
  rfl

theorem kernel_dh : (dats m 0 c).arrAt 5 (cfgs 0).N = H3 (m (c.tc.loc main_arg4)) (m (c.tc.loc main_arg5)) (m (c.tc.loc main_arg3)) :=
  (dh_final m c).trans (H_eq m c)

theorem kernel_df : (dats m 0 c).arrAt 6 (cfgs 0).N
    = DF (Cert.FfnPostReferenceIdeal.Read.val_main_v1 (F := Ideal) (m (c.tc.loc main_arg0)) (m (c.tc.loc main_arg1)))
        (H3 (m (c.tc.loc main_arg4)) (m (c.tc.loc main_arg5)) (m (c.tc.loc main_arg3))) (m (c.tc.loc main_arg2)) := by
  rw [df_final, H_eq, V_f]

theorem kernel_dg : (dats m 0 c).arrAt 7 (cfgs 0).N
    = DG (Cert.FfnPostReferenceIdeal.Read.val_main_v1 (F := Ideal) (m (c.tc.loc main_arg0)) (m (c.tc.loc main_arg1)))
        (H3 (m (c.tc.loc main_arg4)) (m (c.tc.loc main_arg5)) (m (c.tc.loc main_arg3))) := by
  rw [dg_final, H_eq, V_f]

end

theorem algebraic : Cert.algebraic_FfnPostKernelIdeal_FfnPostReferenceIdeal := by
  pair_intro
  · run_from Cert.FfnPostKernelIdeal.Value.run_blocks m g
  · run_from Cert.FfnPostReferenceIdeal.Value.run m' g'
    · exact ((shapeCast_self _ _).trans (reference_dh _ _ _)).trans (kernel_dh m c).symm
    · obtain ⟨h0, h1, h2, h3, h4, h5⟩ := hagree c
      rw [Cert.FfnPostReferenceIdeal.Read.val_main_v48_eq, h0, h1, h2, h3, h4, h5]
      exact (reference_df _ _ _ _ _ _).trans (kernel_df m c).symm
    · exact ((Cert.FfnPostReferenceIdeal.Read.val_main_v49_eq _ _ _ _ _).trans (reference_dg _ _ _ _ _)).trans (kernel_dg m c).symm

end Cert.K.FfnPost

end
-- ==== Proof.FfnIn.Value.lean ====
/- What the pipeline of the gradient before the first feed-forward leaves, in terms of the arrays it reads. -/
module

public import proofs.«01_k».proof.Proof.Gen.FfnInKernelIdeal.Value
public import proofs.«01_k».proof.Proof.Norm.Host
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.K.FfnIn

open Cert.FfnInKernelIdeal Cert.FfnInKernelIdeal.Gen
open Cert.K.Norm (wd dx dg congr4)

/-- The gradient in the layer's input, one entry: what came in, and the norm's part. -/
def dh (d x y g : Fin 1024 → EReal) (q : Fin 1024) : EReal := d q + dx wd x (fun k => y k * g k) q

def DH (d x y : FVec Ideal S4096x1024 .f32) (g : FVec Ideal S1024 .f32) : FVec Ideal S4096x1024 .f32 := fun i =>
  dh (fun k => d (ix2 (i 0) k)) (fun k => x (ix2 (i 0) k)) (fun k => y (ix2 (i 0) k)) (fun k => g (ix1 k)) (i 1)

def DG (x y : FVec Ideal S4096x1024 .f32) : FVec Ideal S1x1024 .f32 := fun i =>
  ∑ r : Fin 4096, dg wd (fun k => x (ix2 r k)) (fun k => y (ix2 r k)) (i 1)

/-- What comes back through the two products at once. -/
def Y (d : FVec Ideal S4096x5632 .bf16) (w : FVec Ideal S1024x5632 .bf16) : FVec Ideal S4096x1024 .f32 := fun i =>
  ∑ k : Fin 5632, d (ix2 (i 0) k) * w (ix2 (i 1) k)

/-! ## What one block's body computes -/

theorem body_y (d : FVec Ideal S256x5632 .bf16) (w : FVec Ideal S1024x5632 .bf16) (r : Fin 256) (q : Fin 1024) :
    k0_pay3 (F := Ideal) d w (ix2 r q) = ∑ k : Fin 5632, d (ix2 r k) * w (ix2 q k) := by
  pointwise [k0_pay3]

theorem body_dh (d : FVec Ideal S256x5632 .bf16) (w : FVec Ideal S1024x5632 .bf16) (e x : FVec Ideal S256x1024 .f32) (g : FVec Ideal S1x1024 .f32)
    (r : Fin 256) (q : Fin 1024) :
    k0_pay1 (F := Ideal) e x (k0_pay8 d w x g) (k0_pay9 d w x g) (ix2 r q)
      = dh (fun k => e (ix2 r k)) (fun k => x (ix2 r k)) (fun k => k0_pay3 (F := Ideal) d w (ix2 r k)) (fun k => g (ix2 0 k)) q := by
  pointwise [k0_pay1, k0_pay4, k0_pay5, k0_pay7, k0_pay8, k0_pay9]
  simp only [Fin.sum_univ_one]
  rfl

theorem body_dg (d : FVec Ideal S256x5632 .bf16) (w : FVec Ideal S1024x5632 .bf16) (x : FVec Ideal S256x1024 .f32) (q : Fin 1024) :
    k0_pay6 (F := Ideal) d w x (ix2 0 q)
      = ∑ r : Fin 256, dg wd (fun k => x (ix2 r k)) (fun k => k0_pay3 (F := Ideal) d w (ix2 r k)) q := by
  pointwise [k0_pay4, k0_pay5, k0_pay6]
  rfl

theorem acc (y z : FVec Ideal S1x1024 .f32) (i : S1x1024.Idx) : k0_pay2 (F := Ideal) y z i = z i + y i := by
  pointwise [k0_pay2]

/-! ## The blocks -/

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] :=
  (by decide +kernel : ∀ t : Fin grid0.N, _)

theorem lt0 (t : Fin cfg0.N) (r : Fin 256) : t.val * 256 + r.val < 4096 := by
  have := lt_of_lt_of_eq t.isLt N_0; omega

theorem blk0 (c : Dev nD) (t : Fin cfg0.N) (r : Fin 256) (q : Fin 5632) : (show FVec Ideal S256x5632 .bf16 from iblk m c 0 t) (ix2 r q)
    = (show FVec Ideal S4096x5632 .bf16 from V m c main_v6) (ix2 ⟨t.val * 256 + r.val, lt0 t r⟩ q) := by
  blk_ext! [iblk, idx t]
theorem blk1 (c : Dev nD) (t : Fin cfg0.N) (r : Fin 1024) (q : Fin 5632) : (show FVec Ideal S1024x5632 .bf16 from iblk m c 1 t) (ix2 r q)
    = (show FVec Ideal S1024x5632 .bf16 from V m c main_v3) (ix2 r q) := by
  blk_ext! [iblk, idx t]
theorem blk2 (c : Dev nD) (t : Fin cfg0.N) (r : Fin 256) (q : Fin 1024) : (show FVec Ideal S256x1024 .f32 from iblk m c 2 t) (ix2 r q)
    = (show FVec Ideal S4096x1024 .f32 from V m c main_arg4) (ix2 ⟨t.val * 256 + r.val, lt0 t r⟩ q) := by
  blk_ext! [iblk, idx t]
theorem blk3 (c : Dev nD) (t : Fin cfg0.N) (r : Fin 256) (q : Fin 1024) : (show FVec Ideal S256x1024 .f32 from iblk m c 3 t) (ix2 r q)
    = (show FVec Ideal S4096x1024 .f32 from V m c main_arg0) (ix2 ⟨t.val * 256 + r.val, lt0 t r⟩ q) := by
  blk_ext! [iblk, idx t]
theorem blk4 (c : Dev nD) (t : Fin cfg0.N) (r : Fin 1) (q : Fin 1024) : (show FVec Ideal S1x1024 .f32 from iblk m c 4 t) (ix2 r q)
    = (show FVec Ideal S1x1024 .f32 from V m c main_v0) (ix2 r q) := by
  blk_ext! [iblk, idx t]

/-- The gain is handed over as one row. -/
theorem gain (c : Dev nD) (q : Fin 1024) : (show FVec Ideal S1x1024 .f32 from V m c main_v0) (ix2 0 q)
    = (show FVec Ideal S1024 .f32 from m ((c : Thread nD τ).loc main_arg1)) (ix1 q) := by
  dsimp only [V]
  entry_read
  pointwise

theorem y_blk (c : Dev nD) (t : Fin cfg0.N) (r : Fin 256) (q : Fin 1024) : k0_pay3 (F := Ideal) (iblk m c 0 t) (iblk m c 1 t) (ix2 r q)
    = Y (V m c main_v6) (V m c main_v3) (ix2 ⟨t.val * 256 + r.val, lt0 t r⟩ q) :=
  (body_y _ _ r q).trans (Finset.sum_congr (M := EReal) rfl fun k _ => Ideal.mul_congr (blk0 m c t r k) (blk1 m c t q k))

theorem dh_final (c : Dev nD) : (dats m 0 c).arrAt 5 (cfgs 0).N
    = DH (V m c main_arg4) (V m c main_arg0) (Y (V m c main_v6) (V m c main_v3)) (m ((c : Thread nD τ).loc main_arg1)) := by
  refine (dats m 0 c).arrAt_eq_of_covers 5 _ (by decide +kernel) fun t _ y => ?_
  idx_vars y
  have he : ((cfg0.win 5).blk t).view.emb (show S256x1024.Idx from ix2 y0 y1) = (show S4096x1024.Idx from ix2 ⟨t.val * 256 + y0.val, lt0 t y0⟩ y1) := by
    blk_ext [idx t]
  refine Eq.trans ?_ (congrArg (DH _ _ _ _) he).symm
  blk_simp
  rw [after0_5]
  have hout : (outsAt0 m c t.val t.isLt).1 = k0_pay1 (F := Ideal) (iblk m c 2 t) (iblk m c 3 t) (k0_pay8 (iblk m c 0 t) (iblk m c 1 t) (iblk m c 3 t) (iblk m c 4 t)) (k0_pay9 (iblk m c 0 t) (iblk m c 1 t) (iblk m c 3 t) (iblk m c 4 t)) := by
    have hN : t.val < 16 := lt_of_lt_of_eq t.isLt N_0
    by_cases h : t.val = 0
    · rw [outsAt0_A m c t (by omega) (by omega)]; frame_out
    · rw [outsAt0_B m c t (by omega) (by omega)]; frame_out
  rw [hout]
  refine (body_dh _ _ _ _ _ y0 y1).trans (congrFun (congr4 dh ?_ ?_ ?_ ?_) y1)
  · exact funext fun k => blk2 m c t y0 k
  · exact funext fun k => blk3 m c t y0 k
  · exact funext fun k => y_blk m c t y0 k
  · exact funext fun k => (blk4 m c t 0 k).trans (gain m c k)

theorem dg_final (c : Dev nD) : (dats m 0 c).arrAt 6 (cfgs 0).N = DG (V m c main_arg0) (Y (V m c main_v6) (V m c main_v3)) := by
  refine (dats m 0 c).arrAt_eq_of_after_last 6 t0_15 (by decide +kernel) _ fun j => ?_
  idx_vars j
  fin_cases j0
  blk_simp
  rw [after0_6, Pipeline.eq_sum_fin_of_reset_step_apply_last (fun n h => (outsAt0 m c n h).2) 16 (fun _ => 0) _
    (fun t h j => by rw [outsAt0_A m c t h (by have := lt_of_lt_of_eq t.isLt N_0; omega)]; frame_out; rw [zero_add])
    (fun t h j => by rw [outsAt0_B m c t h (by omega)]; frame_out; rw [acc])
    (le_of_eq N_0) t0_15 rfl _, zero_add]
  unfold DG
  refine Eq.trans (Finset.sum_congr (M := EReal) rfl fun s _ => body_dg _ _ _ j1) ?_
  refine Fin.sum_mul_add_congr fun s k hl => congrFun (congrArg₂ (dg wd) ?_ ?_) j1
  · exact funext fun x => blk3 m c s k x
  · exact funext fun x => y_blk m c s k x

end Cert.K.FfnIn

end
-- ==== Proof.FfnPre.Value.lean ====
/- What the pipeline of the gradient between the mixer and the second feed-forward leaves, in terms of the arrays it reads. -/
module

public import proofs.«01_k».proof.Proof.Gen.FfnPreKernelIdeal.Value
public import proofs.«01_k».proof.Proof.FfnIn.Value
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.K.FfnPre

open Cert.FfnPreKernelIdeal Cert.FfnPreKernelIdeal.Gen
open Cert.K.Norm (wd dx dg congr3 congr4)
open Cert.K.FfnIn (dh DH DG)

/-- The gradient in the mixer's result, one entry, of the gradient `y` in the stream. -/
def dout (x y g : Fin 1024 → EReal) (q : Fin 1024) : EReal := dx wd x (fun k => y k * g k) q

def DO (x y : FVec Ideal S4096x1024 .f32) (g : FVec Ideal S1024 .f32) : FVec Ideal S4096x1024 .bf16 := fun i =>
  dout (fun k => x (ix2 (i 0) k)) (fun k => y (ix2 (i 0) k)) (fun k => g (ix1 k)) (i 1)

/-! ## What one block's body computes -/

theorem body_y (d : FVec Ideal S256x5632 .bf16) (w : FVec Ideal S1024x5632 .bf16) (r : Fin 256) (q : Fin 1024) :
    k0_pay4 (F := Ideal) d w (ix2 r q) = ∑ k : Fin 5632, d (ix2 r k) * w (ix2 q k) := by
  pointwise [k0_pay4]

section
variable (d : FVec Ideal S256x5632 .bf16) (w : FVec Ideal S1024x5632 .bf16) (e x o : FVec Ideal S256x1024 .f32) (g p : FVec Ideal S1x1024 .f32)

/-- One block of the gradient in the stream. -/
abbrev hblk : FVec Ideal S256x1024 .f32 :=
  k0_pay14 (F := Ideal) e (k0_pay5 x) (k0_pay9 x) (k0_pay10 x) (k0_pay12 d w g) (k0_pay13 d w x g)

theorem body_dh (r : Fin 256) (q : Fin 1024) : hblk d w e x g (ix2 r q)
      = dh (fun k => e (ix2 r k)) (fun k => x (ix2 r k)) (fun k => k0_pay4 (F := Ideal) d w (ix2 r k)) (fun k => g (ix2 0 k)) q := by
  pointwise [hblk, k0_pay14, k0_pay5, k0_pay8, k0_pay9, k0_pay10, k0_pay12, k0_pay13]
  simp only [Fin.sum_univ_one]
  rfl

theorem body_dg (q : Fin 1024) : k0_pay11 (F := Ideal) d w x (ix2 0 q)
      = ∑ r : Fin 256, dg wd (fun k => x (ix2 r k)) (fun k => k0_pay4 (F := Ideal) d w (ix2 r k)) q := by
  pointwise [k0_pay11, k0_pay5, k0_pay8, k0_pay9]
  rfl

theorem body_do (r : Fin 256) (q : Fin 1024) :
    k0_pay1 (F := Ideal) (k0_pay18 e (k0_pay5 x) (k0_pay6 o) (k0_pay7 p) (k0_pay9 x) (k0_pay10 x) (k0_pay12 d w g) (k0_pay13 d w x g)) (ix2 r q)
      = dout (fun k => o (ix2 r k)) (fun k => hblk d w e x g (ix2 r k)) (fun k => p (ix2 0 k)) q := by
  pointwise [k0_pay1, k0_pay18, k0_pay15, k0_pay16, k0_pay6, k0_pay7]
  simp only [Fin.sum_univ_one]
  rfl

theorem body_dp (q : Fin 1024) :
    k0_pay17 (F := Ideal) e (k0_pay5 x) (k0_pay6 o) (k0_pay9 x) (k0_pay10 x) (k0_pay12 d w g) (k0_pay13 d w x g) (ix2 0 q)
      = ∑ r : Fin 256, dg wd (fun k => o (ix2 r k)) (fun k => hblk d w e x g (ix2 r k)) q := by
  pointwise [k0_pay17, k0_pay15, k0_pay16, k0_pay6]
  rfl

end

theorem acc (y z : FVec Ideal S1x1024 .f32) (i : S1x1024.Idx) : k0_pay2 (F := Ideal) y z i = z i + y i := by
  pointwise [k0_pay2]

theorem acc' (y z : FVec Ideal S1x1024 .f32) (i : S1x1024.Idx) : k0_pay3 (F := Ideal) y z i = z i + y i := by
  pointwise [k0_pay3]

/-! ## The blocks -/

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0]
    ∧ win0_7.index t = ![t.val, 0] ∧ win0_8.index t = ![t.val, 0] :=
  (by decide +kernel : ∀ t : Fin grid0.N, _)

theorem lt0 (t : Fin cfg0.N) (r : Fin 256) : t.val * 256 + r.val < 4096 := by
  have := lt_of_lt_of_eq t.isLt N_0; omega

theorem blk0 (c : Dev nD) (t : Fin cfg0.N) (r : Fin 256) (q : Fin 5632) : (show FVec Ideal S256x5632 .bf16 from iblk m c 0 t) (ix2 r q)
    = (show FVec Ideal S4096x5632 .bf16 from V m c main_v9) (ix2 ⟨t.val * 256 + r.val, lt0 t r⟩ q) := by
  blk_ext! [iblk, idx t]
theorem blk1 (c : Dev nD) (t : Fin cfg0.N) (r : Fin 1024) (q : Fin 5632) : (show FVec Ideal S1024x5632 .bf16 from iblk m c 1 t) (ix2 r q)
    = (show FVec Ideal S1024x5632 .bf16 from V m c main_v6) (ix2 r q) := by
  blk_ext! [iblk, idx t]
theorem blk2 (c : Dev nD) (t : Fin cfg0.N) (r : Fin 256) (q : Fin 1024) : (show FVec Ideal S256x1024 .f32 from iblk m c 2 t) (ix2 r q)
    = (show FVec Ideal S4096x1024 .f32 from V m c main_arg10) (ix2 ⟨t.val * 256 + r.val, lt0 t r⟩ q) := by
  blk_ext! [iblk, idx t]
theorem blk3 (c : Dev nD) (t : Fin cfg0.N) (r : Fin 256) (q : Fin 1024) : (show FVec Ideal S256x1024 .f32 from iblk m c 3 t) (ix2 r q)
    = (show FVec Ideal S4096x1024 .f32 from V m c main_v50) (ix2 ⟨t.val * 256 + r.val, lt0 t r⟩ q) := by
  blk_ext! [iblk, idx t]
theorem blk5 (c : Dev nD) (t : Fin cfg0.N) (r : Fin 256) (q : Fin 1024) : (show FVec Ideal S256x1024 .f32 from iblk m c 5 t) (ix2 r q)
    = (show FVec Ideal S4096x1024 .f32 from V m c main_v37) (ix2 ⟨t.val * 256 + r.val, lt0 t r⟩ q) := by
  blk_ext! [iblk, idx t]
theorem blk4 (c : Dev nD) (t : Fin cfg0.N) (r : Fin 1) (q : Fin 1024) : (show FVec Ideal S1x1024 .f32 from iblk m c 4 t) (ix2 r q)
    = (show FVec Ideal S1x1024 .f32 from V m c main_v1) (ix2 r q) := by
  blk_ext! [iblk, idx t]
theorem blk6 (c : Dev nD) (t : Fin cfg0.N) (r : Fin 1) (q : Fin 1024) : (show FVec Ideal S1x1024 .f32 from iblk m c 6 t) (ix2 r q)
    = (show FVec Ideal S1x1024 .f32 from V m c main_v0) (ix2 r q) := by
  blk_ext! [iblk, idx t]

/-- The gain before is handed over as one row. -/
theorem gain_pre (c : Dev nD) (q : Fin 1024) : (show FVec Ideal S1x1024 .f32 from V m c main_v1) (ix2 0 q)
    = (show FVec Ideal S1024 .f32 from m ((c : Thread nD τ).loc main_arg7)) (ix1 q) := by
  dsimp only [V]
  entry_read
  pointwise

/-- The gain after is handed over as one row. -/
theorem gain_post (c : Dev nD) (q : Fin 1024) : (show FVec Ideal S1x1024 .f32 from V m c main_v0) (ix2 0 q)
    = (show FVec Ideal S1024 .f32 from m ((c : Thread nD τ).loc main_arg6)) (ix1 q) := by
  dsimp only [V]
  entry_read
  pointwise

/-- What comes back through the product, of the arrays as they stand when the pipeline starts. -/
abbrev YV (c : Dev nD) : FVec Ideal S4096x1024 .f32 := FfnIn.Y (V m c main_v9) (V m c main_v6)

theorem y_blk (c : Dev nD) (t : Fin cfg0.N) (r : Fin 256) (q : Fin 1024) : k0_pay4 (F := Ideal) (iblk m c 0 t) (iblk m c 1 t) (ix2 r q)
    = YV m c (ix2 ⟨t.val * 256 + r.val, lt0 t r⟩ q) :=
  (body_y _ _ r q).trans (Finset.sum_congr (M := EReal) rfl fun k _ => Ideal.mul_congr (blk0 m c t r k) (blk1 m c t q k))

/-- The gradient in the stream. -/
abbrev H (c : Dev nD) : FVec Ideal S4096x1024 .f32 :=
  DH (V m c main_arg10) (V m c main_v50) (YV m c) (m ((c : Thread nD τ).loc main_arg7))

theorem h_blk (c : Dev nD) (t : Fin cfg0.N) (r : Fin 256) (q : Fin 1024) :
    hblk (iblk m c 0 t) (iblk m c 1 t) (iblk m c 2 t) (iblk m c 3 t) (iblk m c 4 t) (ix2 r q) = H m c (ix2 ⟨t.val * 256 + r.val, lt0 t r⟩ q) := by
  refine (body_dh _ _ _ _ _ r q).trans (congrFun (congr4 dh ?_ ?_ ?_ ?_) q)
  · exact funext fun k => blk2 m c t r k
  · exact funext fun k => blk3 m c t r k
  · exact funext fun k => y_blk m c t r k
  · exact funext fun k => (blk4 m c t 0 k).trans (gain_pre m c k)

theorem dh_final (c : Dev nD) : (dats m 0 c).arrAt 7 (cfgs 0).N = H m c := by
  refine (dats m 0 c).arrAt_eq_of_covers 7 _ (by decide +kernel) fun t _ y => ?_
  idx_vars y
  have he : ((cfg0.win 7).blk t).view.emb (show S256x1024.Idx from ix2 y0 y1) = (show S4096x1024.Idx from ix2 ⟨t.val * 256 + y0.val, lt0 t y0⟩ y1) := by
    blk_ext [idx t]
  refine Eq.trans ?_ (congrArg (H m c) he).symm
  blk_simp
  rw [after0_7]
  have hout : (outsAt0 m c t.val t.isLt).1 = hblk (iblk m c 0 t) (iblk m c 1 t) (iblk m c 2 t) (iblk m c 3 t) (iblk m c 4 t) := by
    have hN : t.val < 16 := lt_of_lt_of_eq t.isLt N_0
    by_cases h : t.val = 0
    · rw [outsAt0_A m c t (by omega) (by omega) (by omega) (by omega)]; frame_out
    · rw [outsAt0_B m c t (by omega) (by omega) (by omega) (by omega)]; frame_out
  rw [hout]
  exact h_blk m c t y0 y1

theorem do_final (c : Dev nD) : (dats m 0 c).arrAt 8 (cfgs 0).N
    = DO (V m c main_v37) (H m c) (m ((c : Thread nD τ).loc main_arg6)) := by
  refine (dats m 0 c).arrAt_eq_of_covers 8 _ (by decide +kernel) fun t _ y => ?_
  idx_vars y
  have he : ((cfg0.win 8).blk t).view.emb (show S256x1024.Idx from ix2 y0 y1) = (show S4096x1024.Idx from ix2 ⟨t.val * 256 + y0.val, lt0 t y0⟩ y1) := by
    blk_ext [idx t]
  refine Eq.trans ?_ (congrArg (DO _ _ _) he).symm
  blk_simp
  rw [after0_8]
  have hout : (outsAt0 m c t.val t.isLt).2.1 = k0_pay1 (F := Ideal) (k0_pay18 (iblk m c 2 t) (k0_pay5 (iblk m c 3 t)) (k0_pay6 (iblk m c 5 t)) (k0_pay7 (iblk m c 6 t)) (k0_pay9 (iblk m c 3 t)) (k0_pay10 (iblk m c 3 t)) (k0_pay12 (iblk m c 0 t) (iblk m c 1 t) (iblk m c 4 t)) (k0_pay13 (iblk m c 0 t) (iblk m c 1 t) (iblk m c 3 t) (iblk m c 4 t))) := by
    have hN : t.val < 16 := lt_of_lt_of_eq t.isLt N_0
    by_cases h : t.val = 0
    · rw [outsAt0_A m c t (by omega) (by omega) (by omega) (by omega)]; frame_out
    · rw [outsAt0_B m c t (by omega) (by omega) (by omega) (by omega)]; frame_out
  rw [hout]
  refine (body_do _ _ _ _ _ _ _ y0 y1).trans (congrFun (congr3 dout ?_ ?_ ?_) y1)
  · exact funext fun k => blk5 m c t y0 k
  · exact funext fun k => h_blk m c t y0 k
  · exact funext fun k => (blk6 m c t 0 k).trans (gain_post m c k)

theorem dg_final (c : Dev nD) : (dats m 0 c).arrAt 9 (cfgs 0).N = DG (V m c main_v50) (YV m c) := by
  refine (dats m 0 c).arrAt_eq_of_after_last 9 t0_15 (by decide +kernel) _ fun j => ?_
  idx_vars j
  fin_cases j0
  blk_simp
  rw [after0_9, Pipeline.eq_sum_fin_of_reset_step_apply_last (fun n h => (outsAt0 m c n h).2.2.1) 16 (fun _ => 0) _
    (fun t h j => by have hN := lt_of_lt_of_eq t.isLt N_0; rw [outsAt0_A m c t h (by omega) h (by omega)]; frame_out; rw [zero_add])
    (fun t h j => by rw [outsAt0_B m c t h (by omega) h (by omega)]; frame_out; rw [acc])
    (le_of_eq N_0) t0_15 rfl _, zero_add]
  unfold DG
  refine Eq.trans (Finset.sum_congr (M := EReal) rfl fun s _ => body_dg _ _ _ j1) ?_
  refine Fin.sum_mul_add_congr fun s k hl => congrFun (congrArg₂ (dg wd) ?_ ?_) j1
  · exact funext fun x => blk3 m c s k x
  · exact funext fun x => y_blk m c s k x

theorem dp_final (c : Dev nD) : (dats m 0 c).arrAt 10 (cfgs 0).N = DG (V m c main_v37) (H m c) := by
  refine (dats m 0 c).arrAt_eq_of_after_last 10 t0_15 (by decide +kernel) _ fun j => ?_
  idx_vars j
  fin_cases j0
  blk_simp
  rw [after0_10, Pipeline.eq_sum_fin_of_reset_step_apply_last (fun n h => (outsAt0 m c n h).2.2.2) 16 (fun _ => 0) _
    (fun t h j => by have hN := lt_of_lt_of_eq t.isLt N_0; rw [outsAt0_A m c t h (by omega) h (by omega)]; frame_out; rw [zero_add])
    (fun t h j => by rw [outsAt0_B m c t h (by omega) h (by omega)]; frame_out; rw [acc'])
    (le_of_eq N_0) t0_15 rfl _, zero_add]
  unfold DG
  refine Eq.trans (Finset.sum_congr (M := EReal) rfl fun s _ => body_dp _ _ _ _ _ _ j1) ?_
  refine Fin.sum_mul_add_congr fun s k hl => congrFun (congrArg₂ (dg wd) ?_ ?_) j1
  · exact funext fun x => blk5 m c s k x
  · exact funext fun x =>  (h_blk m c s k x)

end Cert.K.FfnPre

end
-- ==== Proof.Norm.Pair.lean ====
/- One product over two concatenated arrays is the sum of the two products. -/
module

public import proofs.«01_k».proof.Proof.Gen.FfnInKernelIdeal
public import proofs.«01_k».proof.Proof.Norm.Row
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.K.Norm

open Cert.FfnInKernelIdeal

theorem sum_halves (f : Fin 5632 → EReal) :
    ∑ k, f k = (∑ k : Fin 2816, f ⟨k.val, by omega⟩) + ∑ k : Fin 2816, f ⟨2816 + k.val, by omega⟩ :=
  Fin.sum_univ_add (M := EReal) (a := 2816) (b := 2816) f

theorem rows_left (a b : FVec Ideal S4096x2816 .bf16) (r : Fin 4096) (k : Fin 2816) :
    concatenate S4096x5632 1 [⟨S4096x2816, a⟩, ⟨S4096x2816, b⟩] Cert.FfnInKernelIdeal.Gen.concatenates_S4096x2816_S4096x2816_S4096x5632_d1 (ix2 r ⟨k.val, by omega⟩) = a (ix2 r k) := by
  pointwise

theorem rows_right (a b : FVec Ideal S4096x2816 .bf16) (r : Fin 4096) (k : Fin 2816) :
    concatenate S4096x5632 1 [⟨S4096x2816, a⟩, ⟨S4096x2816, b⟩] Cert.FfnInKernelIdeal.Gen.concatenates_S4096x2816_S4096x2816_S4096x5632_d1 (ix2 r ⟨2816 + k.val, by omega⟩) = b (ix2 r k) := by
  pointwise

theorem cols_left (w v : FVec Ideal S1024x2816 .bf16) (q : Fin 1024) (k : Fin 2816) :
    concatenate S1024x5632 1 [⟨S1024x2816, w⟩, ⟨S1024x2816, v⟩] Cert.FfnInKernelIdeal.Gen.concatenates_S1024x2816_S1024x2816_S1024x5632_d1 (ix2 q ⟨k.val, by omega⟩) = w (ix2 q k) := by
  pointwise

theorem cols_right (w v : FVec Ideal S1024x2816 .bf16) (q : Fin 1024) (k : Fin 2816) :
    concatenate S1024x5632 1 [⟨S1024x2816, w⟩, ⟨S1024x2816, v⟩] Cert.FfnInKernelIdeal.Gen.concatenates_S1024x2816_S1024x2816_S1024x5632_d1 (ix2 q ⟨2816 + k.val, by omega⟩) = v (ix2 q k) := by
  pointwise

/-- The product over the concatenated columns, split. -/
theorem product_pair (a b : FVec Ideal S4096x2816 .bf16) (w v : FVec Ideal S1024x2816 .bf16) (r : Fin 4096) (q : Fin 1024) :
    ∑ k : Fin 5632, concatenate S4096x5632 1 [⟨S4096x2816, a⟩, ⟨S4096x2816, b⟩] Cert.FfnInKernelIdeal.Gen.concatenates_S4096x2816_S4096x2816_S4096x5632_d1 (ix2 r k)
        * concatenate S1024x5632 1 [⟨S1024x2816, w⟩, ⟨S1024x2816, v⟩] Cert.FfnInKernelIdeal.Gen.concatenates_S1024x2816_S1024x2816_S1024x5632_d1 (ix2 q k)
      = (∑ k : Fin 2816, b (ix2 r k) * v (ix2 q k)) + ∑ k : Fin 2816, a (ix2 r k) * w (ix2 q k) := by
  rw [sum_halves, add_comm]
  refine congrArg₂ (· + ·) (Finset.sum_congr (M := EReal) rfl fun k _ => ?_) (Finset.sum_congr (M := EReal) rfl fun k _ => ?_)
  · rw [rows_right, cols_right]
  · rw [rows_left, cols_left]

end Cert.K.Norm

end
-- ==== Proof.FfnIn.Claim.lean ====
/- The gradient before the first feed-forward: what the reference computes, and that the kernel computes the same. -/
module

public import proofs.«01_k».proof.Proof.FfnIn.Value
public import proofs.«01_k».proof.Proof.Norm.Pair
public import proofs.«01_k».proof.Proof.Gen.FfnInReferenceIdeal.Run
public import proofs.«01_k».proof.Proof.Gen.FfnInReferenceIdeal.Read
public import proofs.«01_k».proof.Defs

@[expose] public section

set_option maxRecDepth 16384

noncomputable section

open Idealize.ShloMosaic Idealize.ShloMosaic.TcCoe Idealize.SL.Sem

namespace Cert.K.FfnIn

section
open Cert.FfnInReferenceIdeal Cert.FfnInReferenceIdeal.Read
open Cert.K.Norm (rowOf dxH dxH_apply dgH dgH_apply gainB gainB_apply)

variable (h : FVec Ideal S4096x1024 .f32) (g : FVec Ideal S1024 .f32) (wg wu : FVec Ideal S1024x2816 .f32)
  (d : FVec Ideal S4096x1024 .f32) (dgate dup : FVec Ideal S4096x2816 .f32)

theorem reference_dh : val_main_v41 (F := Ideal) h g wg wu d dgate dup
    = DH d h (val_main_v20 (F := Ideal) wg wu dgate dup) g := by
  funext i
  idx_vars i
  have e : val_main_v41 (F := Ideal) h g wg wu d dgate dup (ix2 i0 i1)
      = d (ix2 i0 i1) + dxH h (mulf (val_main_v20 (F := Ideal) wg wu dgate dup) (gainB g)) (ix2 i0 i1) :=
    ((add_assoc _ _ _).trans (add_assoc _ _ _)).trans (congrArg _ (add_assoc _ _ _).symm)
  rw [e, dxH_apply]
  refine congrArg (d (ix2 i0 i1) + ·) (congrFun (congrArg _ (funext fun k => ?_)) i1)
  simp only [rowOf, mulf_apply, gainB_apply]
  rfl

theorem reference_dg : val_main_v42 (F := Ideal) h wg wu dgate dup = DG h (val_main_v20 (F := Ideal) wg wu dgate dup) := by
  funext i
  idx_vars i
  exact dgH_apply h (val_main_v20 (F := Ideal) wg wu dgate dup) i0 i1

theorem back_apply (r : Fin 4096) (q : Fin 1024) : val_main_v20 (F := Ideal) wg wu dgate dup (ix2 r q)
    = (∑ k : Fin 2816, dup (ix2 r k) * wu (ix2 q k)) + ∑ k : Fin 2816, dgate (ix2 r k) * wg (ix2 q k) := by
  pointwise [val_main_v18, val_main_v19, val_main_v20]

end

section
open Cert.FfnInKernelIdeal Cert.FfnInKernelIdeal.Gen

variable (m : (ℓ : Loc nD τ sig) → Buf (Elt Ideal) ℓ) (c : Dev nD)

theorem V_back : Y (V m c main_v6) (V m c main_v3) = Cert.FfnInReferenceIdeal.Read.val_main_v20 (F := Ideal) (m (c.tc.loc main_arg2))
    (m (c.tc.loc main_arg3)) (m (c.tc.loc main_arg5)) (m (c.tc.loc main_arg6)) := by
  funext i
  idx_vars i
  rw [back_apply]
  unfold Y
  dsimp only [V]
  entry_read
  exact Norm.product_pair _ _ _ _ i0 i1

theorem kernel_dh : (dats m 0 c).arrAt 5 (cfgs 0).N = DH (m (c.tc.loc main_arg4)) (m (c.tc.loc main_arg0))
    (Cert.FfnInReferenceIdeal.Read.val_main_v20 (F := Ideal) (m (c.tc.loc main_arg2)) (m (c.tc.loc main_arg3)) (m (c.tc.loc main_arg5)) (m (c.tc.loc main_arg6)))
    (m (c.tc.loc main_arg1)) := by
  rw [dh_final, V_back, V_main_arg4, V_main_arg0]

theorem kernel_dg : (dats m 0 c).arrAt 6 (cfgs 0).N = DG (m (c.tc.loc main_arg0))
    (Cert.FfnInReferenceIdeal.Read.val_main_v20 (F := Ideal) (m (c.tc.loc main_arg2)) (m (c.tc.loc main_arg3)) (m (c.tc.loc main_arg5)) (m (c.tc.loc main_arg6))) := by
  rw [dg_final, V_back, V_main_arg0]

end

theorem algebraic : Cert.algebraic_FfnInKernelIdeal_FfnInReferenceIdeal := by
  pair_intro
  · run_from Cert.FfnInKernelIdeal.Value.run_blocks m g
  · run_from Cert.FfnInReferenceIdeal.Value.run m' g'
    · obtain ⟨h0, h1, h2, h3, h4, h5, h6⟩ := hagree c
      rw [Cert.FfnInReferenceIdeal.Read.val_main_v41_eq, h0, h1, h2, h3, h4, h5, h6]
      exact (reference_dh _ _ _ _ _ _ _).trans (kernel_dh m c).symm
    · exact ((Cert.FfnInReferenceIdeal.Read.val_main_v42_eq _ _ _ _ _).trans (reference_dg _ _ _ _ _)).trans (kernel_dg m c).symm

end Cert.K.FfnIn

end
-- ==== Proof.FfnPre.Claim.lean ====
/- The gradient between the mixer and the second feed-forward: what the reference computes, and that the kernel computes the same. -/
module

public import proofs.«01_k».proof.Proof.FfnPre.Value
public import proofs.«01_k».proof.Proof.FfnIn.Claim
public import proofs.«01_k».proof.Proof.Gen.FfnPreReferenceIdeal.Run
public import proofs.«01_k».proof.Proof.Gen.FfnPreReferenceIdeal.Read
public import proofs.«01_k».proof.Defs

@[expose] public section

set_option maxRecDepth 16384

noncomputable section

open Idealize.ShloMosaic Idealize.ShloMosaic.TcCoe Idealize.SL.Sem

namespace Cert.K.FfnPre

open Cert.K.FfnIn (DH DG)

section
open Cert.FfnPreReferenceIdeal Cert.FfnPreReferenceIdeal.Gen Cert.FfnPreReferenceIdeal.Read
open Cert.K.Norm (rowOf dxH dxH_apply dgH dgH_apply gainB gainB_apply)

variable (attn ssm : FVec Ideal S4096x512 .f32) (ga gs : FVec Ideal S512 .f32) (wo : FVec Ideal S1024x1024 .f32)
  (h1 : FVec Ideal S4096x1024 .f32) (gp g : FVec Ideal S1024 .f32) (wg wu : FVec Ideal S1024x2816 .f32)
  (d : FVec Ideal S4096x1024 .f32) (dgate dup : FVec Ideal S4096x2816 .f32)

theorem reference_dh : val_main_v86 (F := Ideal) attn ssm ga gs wo h1 gp g wg wu d dgate dup = DH d (val_main_v44 (F := Ideal) attn ssm ga gs wo h1 gp) (val_main_v65 (F := Ideal) wg wu dgate dup) g := by
  funext i
  idx_vars i
  have e : val_main_v86 (F := Ideal) attn ssm ga gs wo h1 gp g wg wu d dgate dup (ix2 i0 i1)
      = d (ix2 i0 i1) + dxH (val_main_v44 (F := Ideal) attn ssm ga gs wo h1 gp) (mulf (val_main_v65 (F := Ideal) wg wu dgate dup) (gainB g)) (ix2 i0 i1) :=
    ((add_assoc _ _ _).trans (add_assoc _ _ _)).trans (congrArg _ (add_assoc _ _ _).symm)
  rw [e, dxH_apply]
  refine congrArg (d (ix2 i0 i1) + ·) (congrFun (congrArg _ (funext fun k => ?_)) i1)
  simp only [rowOf, mulf_apply, gainB_apply]
  rfl

theorem reference_dg : val_main_v109 (F := Ideal) attn ssm ga gs wo h1 gp wg wu dgate dup = DG (val_main_v44 (F := Ideal) attn ssm ga gs wo h1 gp) (val_main_v65 (F := Ideal) wg wu dgate dup) := by
  funext i
  idx_vars i
  exact dgH_apply (val_main_v44 (F := Ideal) attn ssm ga gs wo h1 gp) (val_main_v65 (F := Ideal) wg wu dgate dup) i0 i1

theorem cast_dh : val_main_v87 (F := Ideal) attn ssm ga gs wo h1 gp g wg wu d dgate dup = DH d (val_main_v44 (F := Ideal) attn ssm ga gs wo h1 gp) (val_main_v65 (F := Ideal) wg wu dgate dup) g :=
  (shapeCast_self _ _).trans (reference_dh attn ssm ga gs wo h1 gp g wg wu d dgate dup)

theorem reference_do : val_main_v108 (F := Ideal) attn ssm ga gs wo h1 gp g wg wu d dgate dup = DO (val_main_v27 (F := Ideal) attn ssm ga gs wo) (DH d (val_main_v44 (F := Ideal) attn ssm ga gs wo h1 gp) (val_main_v65 (F := Ideal) wg wu dgate dup) g) gp := by
  funext i
  idx_vars i
  refine (dxH_apply (val_main_v27 (F := Ideal) attn ssm ga gs wo) (mulf (val_main_v87 (F := Ideal) attn ssm ga gs wo h1 gp g wg wu d dgate dup) (gainB gp)) i0 i1).trans ?_
  show Norm.dx Norm.wd _ _ i1 = Norm.dx Norm.wd _ (fun k => (DH d (val_main_v44 (F := Ideal) attn ssm ga gs wo h1 gp) (val_main_v65 (F := Ideal) wg wu dgate dup) g) (ix2 i0 k) * gp (ix1 k)) i1
  refine congrFun (congrArg (Norm.dx Norm.wd _) (funext fun k => ?_)) i1
  simp only [rowOf, mulf_apply, gainB_apply, cast_dh]
  rfl

theorem reference_dp : val_main_v110 (F := Ideal) attn ssm ga gs wo h1 gp g wg wu d dgate dup = DG (val_main_v27 (F := Ideal) attn ssm ga gs wo) (DH d (val_main_v44 (F := Ideal) attn ssm ga gs wo h1 gp) (val_main_v65 (F := Ideal) wg wu dgate dup) g) := by
  funext i
  idx_vars i
  refine (dgH_apply (val_main_v27 (F := Ideal) attn ssm ga gs wo) (val_main_v87 (F := Ideal) attn ssm ga gs wo h1 gp g wg wu d dgate dup) i0 i1).trans
    (Finset.sum_congr (M := EReal) rfl fun s _ => congrFun (congrArg _ (funext fun k => ?_)) i1)
  exact congrFun (cast_dh attn ssm ga gs wo h1 gp g wg wu d dgate dup) (ix2 s k)

theorem back_apply (r : Fin 4096) (q : Fin 1024) : (val_main_v65 (F := Ideal) wg wu dgate dup) (ix2 r q)
    = (∑ k : Fin 2816, dup (ix2 r k) * wu (ix2 q k)) + ∑ k : Fin 2816, dgate (ix2 r k) * wg (ix2 q k) := by
  pointwise [val_main_v63, val_main_v64, val_main_v65]

/-- One row of gains, made by a reshape or by a broadcast. -/
theorem row_512 (v : FVec Ideal S512 .f32) : shapeCast S1x512 v Cert.FfnPreKernelIdeal.Gen.shapeCasts_S512_S1x512 = broadcastInDim S1x512 ![1] bcast_S512_S1x512_1 v := by
  funext i
  idx_vars i
  pointwise

/-- One row of gains, made by a reshape or by a broadcast. -/
theorem row_1024 (v : FVec Ideal S1024 .f32) : shapeCast S1x1024 v Cert.FfnPreKernelIdeal.Gen.shapeCasts_S1024_S1x1024 = broadcastInDim S1x1024 ![1] bcast_S1024_S1x1024_1 v := by
  funext i
  idx_vars i
  pointwise

end

section
open Cert.FfnPreKernelIdeal Cert.FfnPreKernelIdeal.Gen

variable (m : (ℓ : Loc nD τ sig) → Buf (Elt Ideal) ℓ) (c : Dev nD)

theorem V_back : YV m c = Cert.FfnPreReferenceIdeal.Read.val_main_v65 (F := Ideal) (m (c.tc.loc main_arg8)) (m (c.tc.loc main_arg9)) (m (c.tc.loc main_arg11)) (m (c.tc.loc main_arg12)) := by
  funext i
  idx_vars i
  rw [back_apply]
  unfold YV FfnIn.Y
  dsimp only [V]
  entry_read
  exact Norm.product_pair _ _ _ _ i0 i1

theorem V_o : V m c main_v37 = Cert.FfnPreReferenceIdeal.Read.val_main_v27 (F := Ideal) (m (c.tc.loc main_arg0)) (m (c.tc.loc main_arg1)) (m (c.tc.loc main_arg2)) (m (c.tc.loc main_arg3)) (m (c.tc.loc main_arg4)) := by
  dsimp only [V]
  entry_read
  erw [row_512, row_512]
  rfl

theorem V_h : V m c main_v50 = Cert.FfnPreReferenceIdeal.Read.val_main_v44 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) := by
  dsimp only [V]
  entry_read
  erw [row_512, row_512, row_1024]
  rfl

theorem H_eq : H m c = DH (m (c.tc.loc main_arg10)) (Cert.FfnPreReferenceIdeal.Read.val_main_v44 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6))) (Cert.FfnPreReferenceIdeal.Read.val_main_v65 (F := Ideal) (m (c.tc.loc main_arg8)) (m (c.tc.loc main_arg9)) (m (c.tc.loc main_arg11)) (m (c.tc.loc main_arg12))) (m (c.tc.loc main_arg7)) := by
  unfold H
  rw [V_back, V_h, V_main_arg10]

theorem kernel_dh : (dats m 0 c).arrAt 7 (cfgs 0).N = DH (m (c.tc.loc main_arg10)) (Cert.FfnPreReferenceIdeal.Read.val_main_v44 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6))) (Cert.FfnPreReferenceIdeal.Read.val_main_v65 (F := Ideal) (m (c.tc.loc main_arg8)) (m (c.tc.loc main_arg9)) (m (c.tc.loc main_arg11)) (m (c.tc.loc main_arg12))) (m (c.tc.loc main_arg7)) := (dh_final m c).trans (H_eq m c)

theorem kernel_do : (dats m 0 c).arrAt 8 (cfgs 0).N = DO (Cert.FfnPreReferenceIdeal.Read.val_main_v27 (F := Ideal) (m (c.tc.loc main_arg0)) (m (c.tc.loc main_arg1)) (m (c.tc.loc main_arg2)) (m (c.tc.loc main_arg3)) (m (c.tc.loc main_arg4))) (DH (m (c.tc.loc main_arg10)) (Cert.FfnPreReferenceIdeal.Read.val_main_v44 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6))) (Cert.FfnPreReferenceIdeal.Read.val_main_v65 (F := Ideal) (m (c.tc.loc main_arg8)) (m (c.tc.loc main_arg9)) (m (c.tc.loc main_arg11)) (m (c.tc.loc main_arg12))) (m (c.tc.loc main_arg7))) (m (c.tc.loc main_arg6)) := by
  rw [do_final, H_eq, V_o]

theorem kernel_dg : (dats m 0 c).arrAt 9 (cfgs 0).N = DG (Cert.FfnPreReferenceIdeal.Read.val_main_v44 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6))) (Cert.FfnPreReferenceIdeal.Read.val_main_v65 (F := Ideal) (m (c.tc.loc main_arg8)) (m (c.tc.loc main_arg9)) (m (c.tc.loc main_arg11)) (m (c.tc.loc main_arg12))) := by
  rw [dg_final, V_h, V_back]

theorem kernel_dp : (dats m 0 c).arrAt 10 (cfgs 0).N = DG (Cert.FfnPreReferenceIdeal.Read.val_main_v27 (F := Ideal) (m (c.tc.loc main_arg0)) (m (c.tc.loc main_arg1)) (m (c.tc.loc main_arg2)) (m (c.tc.loc main_arg3)) (m (c.tc.loc main_arg4))) (DH (m (c.tc.loc main_arg10)) (Cert.FfnPreReferenceIdeal.Read.val_main_v44 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6))) (Cert.FfnPreReferenceIdeal.Read.val_main_v65 (F := Ideal) (m (c.tc.loc main_arg8)) (m (c.tc.loc main_arg9)) (m (c.tc.loc main_arg11)) (m (c.tc.loc main_arg12))) (m (c.tc.loc main_arg7))) := by
  rw [dp_final, H_eq, V_o]

end

set_option maxHeartbeats 2000000 in
theorem algebraic : Cert.algebraic_FfnPreKernelIdeal_FfnPreReferenceIdeal := by
  pair_intro
  · run_from Cert.FfnPreKernelIdeal.Value.run_blocks m g
  · refine (θ_run Cert.FfnPreReferenceIdeal.defs _ _).mono (fun r h c => ?_) (Cert.FfnPreReferenceIdeal.Value.run m' g')
    obtain ⟨r0, r1, r2, r3, rest⟩ := h c
    obtain ⟨h0, h1, h2, h3, h4, h5, h6, h7, h8, h9, h10, h11, h12⟩ := hagree c
    refine ⟨r0.trans ?_, r1.trans ?_, r2.trans ?_, r3.trans ?_, rest⟩
    · refine (Cert.FfnPreReferenceIdeal.Read.val_main_v86_eq (F := Ideal) (StableHlo.launchContents m' c)).trans ((reference_dh (m' (c.tc.loc Cert.FfnPreReferenceIdeal.main_arg0)) (m' (c.tc.loc Cert.FfnPreReferenceIdeal.main_arg1)) (m' (c.tc.loc Cert.FfnPreReferenceIdeal.main_arg2)) (m' (c.tc.loc Cert.FfnPreReferenceIdeal.main_arg3)) (m' (c.tc.loc Cert.FfnPreReferenceIdeal.main_arg4)) (m' (c.tc.loc Cert.FfnPreReferenceIdeal.main_arg5)) (m' (c.tc.loc Cert.FfnPreReferenceIdeal.main_arg6)) (m' (c.tc.loc Cert.FfnPreReferenceIdeal.main_arg7)) (m' (c.tc.loc Cert.FfnPreReferenceIdeal.main_arg8)) (m' (c.tc.loc Cert.FfnPreReferenceIdeal.main_arg9)) (m' (c.tc.loc Cert.FfnPreReferenceIdeal.main_arg10)) (m' (c.tc.loc Cert.FfnPreReferenceIdeal.main_arg11)) (m' (c.tc.loc Cert.FfnPreReferenceIdeal.main_arg12))).trans ?_)
      rw [h0, h1, h2, h3, h4, h5, h6, h7, h8, h9, h10, h11, h12]
      exact (kernel_dh m c).symm
    · refine (Cert.FfnPreReferenceIdeal.Read.val_main_v108_eq (F := Ideal) (StableHlo.launchContents m' c)).trans ((reference_do (m' (c.tc.loc Cert.FfnPreReferenceIdeal.main_arg0)) (m' (c.tc.loc Cert.FfnPreReferenceIdeal.main_arg1)) (m' (c.tc.loc Cert.FfnPreReferenceIdeal.main_arg2)) (m' (c.tc.loc Cert.FfnPreReferenceIdeal.main_arg3)) (m' (c.tc.loc Cert.FfnPreReferenceIdeal.main_arg4)) (m' (c.tc.loc Cert.FfnPreReferenceIdeal.main_arg5)) (m' (c.tc.loc Cert.FfnPreReferenceIdeal.main_arg6)) (m' (c.tc.loc Cert.FfnPreReferenceIdeal.main_arg7)) (m' (c.tc.loc Cert.FfnPreReferenceIdeal.main_arg8)) (m' (c.tc.loc Cert.FfnPreReferenceIdeal.main_arg9)) (m' (c.tc.loc Cert.FfnPreReferenceIdeal.main_arg10)) (m' (c.tc.loc Cert.FfnPreReferenceIdeal.main_arg11)) (m' (c.tc.loc Cert.FfnPreReferenceIdeal.main_arg12))).trans ?_)
      rw [h0, h1, h2, h3, h4, h5, h6, h7, h8, h9, h10, h11, h12]
      exact (kernel_do m c).symm
    · refine (Cert.FfnPreReferenceIdeal.Read.val_main_v109_eq (F := Ideal) (StableHlo.launchContents m' c)).trans ((reference_dg (m' (c.tc.loc Cert.FfnPreReferenceIdeal.main_arg0)) (m' (c.tc.loc Cert.FfnPreReferenceIdeal.main_arg1)) (m' (c.tc.loc Cert.FfnPreReferenceIdeal.main_arg2)) (m' (c.tc.loc Cert.FfnPreReferenceIdeal.main_arg3)) (m' (c.tc.loc Cert.FfnPreReferenceIdeal.main_arg4)) (m' (c.tc.loc Cert.FfnPreReferenceIdeal.main_arg5)) (m' (c.tc.loc Cert.FfnPreReferenceIdeal.main_arg6)) (m' (c.tc.loc Cert.FfnPreReferenceIdeal.main_arg8)) (m' (c.tc.loc Cert.FfnPreReferenceIdeal.main_arg9)) (m' (c.tc.loc Cert.FfnPreReferenceIdeal.main_arg11)) (m' (c.tc.loc Cert.FfnPreReferenceIdeal.main_arg12))).trans ?_)
      rw [h0, h1, h2, h3, h4, h5, h6, h8, h9, h11, h12]
      exact (kernel_dg m c).symm
    · refine (Cert.FfnPreReferenceIdeal.Read.val_main_v110_eq (F := Ideal) (StableHlo.launchContents m' c)).trans ((reference_dp (m' (c.tc.loc Cert.FfnPreReferenceIdeal.main_arg0)) (m' (c.tc.loc Cert.FfnPreReferenceIdeal.main_arg1)) (m' (c.tc.loc Cert.FfnPreReferenceIdeal.main_arg2)) (m' (c.tc.loc Cert.FfnPreReferenceIdeal.main_arg3)) (m' (c.tc.loc Cert.FfnPreReferenceIdeal.main_arg4)) (m' (c.tc.loc Cert.FfnPreReferenceIdeal.main_arg5)) (m' (c.tc.loc Cert.FfnPreReferenceIdeal.main_arg6)) (m' (c.tc.loc Cert.FfnPreReferenceIdeal.main_arg7)) (m' (c.tc.loc Cert.FfnPreReferenceIdeal.main_arg8)) (m' (c.tc.loc Cert.FfnPreReferenceIdeal.main_arg9)) (m' (c.tc.loc Cert.FfnPreReferenceIdeal.main_arg10)) (m' (c.tc.loc Cert.FfnPreReferenceIdeal.main_arg11)) (m' (c.tc.loc Cert.FfnPreReferenceIdeal.main_arg12))).trans ?_)
      rw [h0, h1, h2, h3, h4, h5, h6, h7, h8, h9, h10, h11, h12]
      exact (kernel_dp m c).symm

end Cert.K.FfnPre

end
-- ==== Proof.MixIn.Value.lean ====
/- What the pipeline of the gradient between the first feed-forward and the mixer leaves, in terms of the arrays it reads. -/
module

public import proofs.«01_k».proof.Proof.Gen.MixInKernelIdeal.Value
public import proofs.«01_k».proof.Proof.FfnIn.Value
public import proofs.«01_k».proof.Proof.FfnPost.Value
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.K.MixIn

open Cert.MixInKernelIdeal Cert.MixInKernelIdeal.Gen
open Cert.K.Norm (wd dx dg congr3 congr4)
open Cert.K.FfnIn (dh DH DG)
open Cert.K.FfnPost (half df DF)

/-- What comes back through the product. -/
def Y (d : FVec Ideal S4096x2048 .bf16) (w : FVec Ideal S1024x2048 .bf16) : FVec Ideal S4096x1024 .f32 := fun i =>
  ∑ k : Fin 2048, d (ix2 (i 0) k) * w (ix2 (i 1) k)

/-! ## What one block's body computes -/

theorem body_y (d : FVec Ideal S512x2048 .bf16) (w : FVec Ideal S1024x2048 .bf16) (r : Fin 512) (q : Fin 1024) :
    k0_pay4 (F := Ideal) d w (ix2 r q) = ∑ k : Fin 2048, d (ix2 r k) * w (ix2 q k) := by
  pointwise [k0_pay4]

section
variable (d : FVec Ideal S512x2048 .bf16) (w : FVec Ideal S1024x2048 .bf16) (e x o : FVec Ideal S512x1024 .f32) (g p : FVec Ideal S1x1024 .f32)

/-- One block of the gradient in the stream. -/
abbrev hblk : FVec Ideal S512x1024 .f32 :=
  k0_pay14 (F := Ideal) e (k0_pay5 x) (k0_pay9 x) (k0_pay10 x) (k0_pay12 d w g) (k0_pay13 d w x g)

theorem body_dh (r : Fin 512) (q : Fin 1024) : hblk d w e x g (ix2 r q)
      = dh (fun k => e (ix2 r k)) (fun k => x (ix2 r k)) (fun k => k0_pay4 (F := Ideal) d w (ix2 r k)) (fun k => g (ix2 0 k)) q := by
  pointwise [hblk, k0_pay14, k0_pay5, k0_pay8, k0_pay9, k0_pay10, k0_pay12, k0_pay13]
  simp only [Fin.sum_univ_one]
  rfl

theorem body_dg (q : Fin 1024) : k0_pay11 (F := Ideal) d w x (ix2 0 q)
      = ∑ r : Fin 512, dg wd (fun k => x (ix2 r k)) (fun k => k0_pay4 (F := Ideal) d w (ix2 r k)) q := by
  pointwise [k0_pay11, k0_pay5, k0_pay8, k0_pay9]
  rfl

theorem body_do (r : Fin 512) (q : Fin 1024) :
    k0_pay1 (F := Ideal) (k0_pay19 e (k0_pay5 x) (k0_pay6 o) (k0_pay7 p) (k0_pay9 x) (k0_pay10 x) (k0_pay12 d w g) (k0_pay13 d w x g)) (ix2 r q)
      = df (fun k => o (ix2 r k)) (fun k => hblk d w e x g (ix2 r k)) (fun k => p (ix2 0 k)) q := by
  pointwise [k0_pay1, k0_pay19, k0_pay15, k0_pay16, k0_pay17, k0_pay6, k0_pay7]
  simp only [Fin.sum_univ_one]
  rfl

theorem body_dp (q : Fin 1024) :
    k0_pay18 (F := Ideal) e (k0_pay5 x) (k0_pay6 o) (k0_pay9 x) (k0_pay10 x) (k0_pay12 d w g) (k0_pay13 d w x g) (ix2 0 q)
      = ∑ r : Fin 512, dg wd (fun k => o (ix2 r k)) (fun k => half * hblk d w e x g (ix2 r k)) q := by
  pointwise [k0_pay18, k0_pay15, k0_pay16, k0_pay17, k0_pay6]
  rfl

end

theorem acc (y z : FVec Ideal S1x1024 .f32) (i : S1x1024.Idx) : k0_pay2 (F := Ideal) y z i = z i + y i := by
  pointwise [k0_pay2]

theorem acc' (y z : FVec Ideal S1x1024 .f32) (i : S1x1024.Idx) : k0_pay3 (F := Ideal) y z i = z i + y i := by
  pointwise [k0_pay3]

/-! ## The blocks -/

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0]
    ∧ win0_7.index t = ![t.val, 0] ∧ win0_8.index t = ![t.val, 0] :=
  (by decide +kernel : ∀ t : Fin grid0.N, _)

theorem lt0 (t : Fin cfg0.N) (r : Fin 512) : t.val * 512 + r.val < 4096 := by
  have := lt_of_lt_of_eq t.isLt N_0; omega

theorem blk0 (c : Dev nD) (t : Fin cfg0.N) (r : Fin 512) (q : Fin 2048) : (show FVec Ideal S512x2048 .bf16 from iblk m c 0 t) (ix2 r q)
    = (show FVec Ideal S4096x2048 .bf16 from V m c main_v47) (ix2 ⟨t.val * 512 + r.val, lt0 t r⟩ q) := by
  blk_ext! [iblk, idx t]
theorem blk1 (c : Dev nD) (t : Fin cfg0.N) (r : Fin 1024) (q : Fin 2048) : (show FVec Ideal S1024x2048 .bf16 from iblk m c 1 t) (ix2 r q)
    = (show FVec Ideal S1024x2048 .bf16 from V m c main_v48) (ix2 r q) := by
  blk_ext! [iblk, idx t]
theorem blk2 (c : Dev nD) (t : Fin cfg0.N) (r : Fin 512) (q : Fin 1024) : (show FVec Ideal S512x1024 .f32 from iblk m c 2 t) (ix2 r q)
    = (show FVec Ideal S4096x1024 .f32 from V m c main_arg8) (ix2 ⟨t.val * 512 + r.val, lt0 t r⟩ q) := by
  blk_ext! [iblk, idx t]
theorem blk3 (c : Dev nD) (t : Fin cfg0.N) (r : Fin 512) (q : Fin 1024) : (show FVec Ideal S512x1024 .f32 from iblk m c 3 t) (ix2 r q)
    = (show FVec Ideal S4096x1024 .f32 from V m c main_v46) (ix2 ⟨t.val * 512 + r.val, lt0 t r⟩ q) := by
  blk_ext! [iblk, idx t]
theorem blk5 (c : Dev nD) (t : Fin cfg0.N) (r : Fin 512) (q : Fin 1024) : (show FVec Ideal S512x1024 .f32 from iblk m c 5 t) (ix2 r q)
    = (show FVec Ideal S4096x1024 .f32 from V m c main_v31) (ix2 ⟨t.val * 512 + r.val, lt0 t r⟩ q) := by
  blk_ext! [iblk, idx t]
theorem blk4 (c : Dev nD) (t : Fin cfg0.N) (r : Fin 1) (q : Fin 1024) : (show FVec Ideal S1x1024 .f32 from iblk m c 4 t) (ix2 r q)
    = (show FVec Ideal S1x1024 .f32 from V m c main_v1) (ix2 r q) := by
  blk_ext! [iblk, idx t]
theorem blk6 (c : Dev nD) (t : Fin cfg0.N) (r : Fin 1) (q : Fin 1024) : (show FVec Ideal S1x1024 .f32 from iblk m c 6 t) (ix2 r q)
    = (show FVec Ideal S1x1024 .f32 from V m c main_v0) (ix2 r q) := by
  blk_ext! [iblk, idx t]

/-- The gain before is handed over as one row. -/
theorem gain_pre (c : Dev nD) (q : Fin 1024) : (show FVec Ideal S1x1024 .f32 from V m c main_v1) (ix2 0 q)
    = (show FVec Ideal S1024 .f32 from m ((c : Thread nD τ).loc main_arg6)) (ix1 q) := by
  dsimp only [V]
  entry_read
  pointwise

/-- The gain after is handed over as one row. -/
theorem gain_post (c : Dev nD) (q : Fin 1024) : (show FVec Ideal S1x1024 .f32 from V m c main_v0) (ix2 0 q)
    = (show FVec Ideal S1024 .f32 from m ((c : Thread nD τ).loc main_arg5)) (ix1 q) := by
  dsimp only [V]
  entry_read
  pointwise

/-- What comes back through the product, of the arrays as they stand when the pipeline starts. -/
abbrev YV (c : Dev nD) : FVec Ideal S4096x1024 .f32 := Y (V m c main_v47) (V m c main_v48)

theorem y_blk (c : Dev nD) (t : Fin cfg0.N) (r : Fin 512) (q : Fin 1024) : k0_pay4 (F := Ideal) (iblk m c 0 t) (iblk m c 1 t) (ix2 r q)
    = YV m c (ix2 ⟨t.val * 512 + r.val, lt0 t r⟩ q) :=
  (body_y _ _ r q).trans (Finset.sum_congr (M := EReal) rfl fun k _ => Ideal.mul_congr (blk0 m c t r k) (blk1 m c t q k))

/-- The gradient in the stream. -/
abbrev H (c : Dev nD) : FVec Ideal S4096x1024 .f32 :=
  DH (V m c main_arg8) (V m c main_v46) (YV m c) (m ((c : Thread nD τ).loc main_arg6))

theorem h_blk (c : Dev nD) (t : Fin cfg0.N) (r : Fin 512) (q : Fin 1024) :
    hblk (iblk m c 0 t) (iblk m c 1 t) (iblk m c 2 t) (iblk m c 3 t) (iblk m c 4 t) (ix2 r q) = H m c (ix2 ⟨t.val * 512 + r.val, lt0 t r⟩ q) := by
  refine (body_dh _ _ _ _ _ r q).trans (congrFun (congr4 dh ?_ ?_ ?_ ?_) q)
  · exact funext fun k => blk2 m c t r k
  · exact funext fun k => blk3 m c t r k
  · exact funext fun k => y_blk m c t r k
  · exact funext fun k => (blk4 m c t 0 k).trans (gain_pre m c k)

theorem dh_final (c : Dev nD) : (dats m 0 c).arrAt 7 (cfgs 0).N = H m c := by
  refine (dats m 0 c).arrAt_eq_of_covers 7 _ (by decide +kernel) fun t _ y => ?_
  idx_vars y
  have he : ((cfg0.win 7).blk t).view.emb (show S512x1024.Idx from ix2 y0 y1) = (show S4096x1024.Idx from ix2 ⟨t.val * 512 + y0.val, lt0 t y0⟩ y1) := by
    blk_ext [idx t]
  refine Eq.trans ?_ (congrArg (H m c) he).symm
  blk_simp
  rw [after0_7]
  have hout : (outsAt0 m c t.val t.isLt).1 = hblk (iblk m c 0 t) (iblk m c 1 t) (iblk m c 2 t) (iblk m c 3 t) (iblk m c 4 t) := by
    have hN : t.val < 8 := lt_of_lt_of_eq t.isLt N_0
    by_cases h : t.val = 0
    · rw [outsAt0_A m c t (by omega) (by omega) (by omega) (by omega)]; frame_out
    · rw [outsAt0_B m c t (by omega) (by omega) (by omega) (by omega)]; frame_out
  rw [hout]
  exact h_blk m c t y0 y1

theorem do_final (c : Dev nD) : (dats m 0 c).arrAt 8 (cfgs 0).N
    = DF (V m c main_v31) (H m c) (m ((c : Thread nD τ).loc main_arg5)) := by
  refine (dats m 0 c).arrAt_eq_of_covers 8 _ (by decide +kernel) fun t _ y => ?_
  idx_vars y
  have he : ((cfg0.win 8).blk t).view.emb (show S512x1024.Idx from ix2 y0 y1) = (show S4096x1024.Idx from ix2 ⟨t.val * 512 + y0.val, lt0 t y0⟩ y1) := by
    blk_ext [idx t]
  refine Eq.trans ?_ (congrArg (DF _ _ _) he).symm
  blk_simp
  rw [after0_8]
  have hout : (outsAt0 m c t.val t.isLt).2.1 = k0_pay1 (F := Ideal) (k0_pay19 (iblk m c 2 t) (k0_pay5 (iblk m c 3 t)) (k0_pay6 (iblk m c 5 t)) (k0_pay7 (iblk m c 6 t)) (k0_pay9 (iblk m c 3 t)) (k0_pay10 (iblk m c 3 t)) (k0_pay12 (iblk m c 0 t) (iblk m c 1 t) (iblk m c 4 t)) (k0_pay13 (iblk m c 0 t) (iblk m c 1 t) (iblk m c 3 t) (iblk m c 4 t))) := by
    have hN : t.val < 8 := lt_of_lt_of_eq t.isLt N_0
    by_cases h : t.val = 0
    · rw [outsAt0_A m c t (by omega) (by omega) (by omega) (by omega)]; frame_out
    · rw [outsAt0_B m c t (by omega) (by omega) (by omega) (by omega)]; frame_out
  rw [hout]
  refine (body_do _ _ _ _ _ _ _ y0 y1).trans (congrFun (congr3 df ?_ ?_ ?_) y1)
  · exact funext fun k => blk5 m c t y0 k
  · exact funext fun k => h_blk m c t y0 k
  · exact funext fun k => (blk6 m c t 0 k).trans (gain_post m c k)

theorem dg_final (c : Dev nD) : (dats m 0 c).arrAt 9 (cfgs 0).N = DG (V m c main_v46) (YV m c) := by
  refine (dats m 0 c).arrAt_eq_of_after_last 9 t0_7 (by decide +kernel) _ fun j => ?_
  idx_vars j
  fin_cases j0
  blk_simp
  rw [after0_9, Pipeline.eq_sum_fin_of_reset_step_apply_last (fun n h => (outsAt0 m c n h).2.2.1) 8 (fun _ => 0) _
    (fun t h j => by have hN := lt_of_lt_of_eq t.isLt N_0; rw [outsAt0_A m c t h (by omega) h (by omega)]; frame_out; rw [zero_add])
    (fun t h j => by rw [outsAt0_B m c t h (by omega) h (by omega)]; frame_out; rw [acc])
    (le_of_eq N_0) t0_7 rfl _, zero_add]
  unfold DG
  refine Eq.trans (Finset.sum_congr (M := EReal) rfl fun s _ => body_dg _ _ _ j1) ?_
  refine Fin.sum_mul_add_congr fun s k hl => congrFun (congrArg₂ (dg wd) ?_ ?_) j1
  · exact funext fun x => blk3 m c s k x
  · exact funext fun x => y_blk m c s k x

theorem dp_final (c : Dev nD) : (dats m 0 c).arrAt 10 (cfgs 0).N = FfnPost.DG (V m c main_v31) (H m c) := by
  refine (dats m 0 c).arrAt_eq_of_after_last 10 t0_7 (by decide +kernel) _ fun j => ?_
  idx_vars j
  fin_cases j0
  blk_simp
  rw [after0_10, Pipeline.eq_sum_fin_of_reset_step_apply_last (fun n h => (outsAt0 m c n h).2.2.2) 8 (fun _ => 0) _
    (fun t h j => by have hN := lt_of_lt_of_eq t.isLt N_0; rw [outsAt0_A m c t h (by omega) h (by omega)]; frame_out; rw [zero_add])
    (fun t h j => by rw [outsAt0_B m c t h (by omega) h (by omega)]; frame_out; rw [acc'])
    (le_of_eq N_0) t0_7 rfl _, zero_add]
  unfold FfnPost.DG
  refine Eq.trans (Finset.sum_congr (M := EReal) rfl fun s _ => body_dp _ _ _ _ _ _ j1) ?_
  refine Fin.sum_mul_add_congr fun s k hl => congrFun (congrArg₂ (dg wd) ?_ ?_) j1
  · exact funext fun x => blk5 m c s k x
  · exact funext fun x => congrArg (half * ·) (h_blk m c s k x)

end Cert.K.MixIn

end
-- ==== Proof.MixIn.Claim.lean ====
/- The gradient between the first feed-forward and the mixer: what the reference computes, and that the kernel computes the same. -/
module

public import proofs.«01_k».proof.Proof.MixIn.Value
public import proofs.«01_k».proof.Proof.FfnIn.Claim
public import proofs.«01_k».proof.Proof.Gen.MixInReferenceIdeal.Run
public import proofs.«01_k».proof.Proof.Gen.MixInReferenceIdeal.Read
public import proofs.«01_k».proof.Defs

@[expose] public section

set_option maxRecDepth 16384

noncomputable section

open Idealize.ShloMosaic Idealize.ShloMosaic.TcCoe Idealize.SL.Sem

namespace Cert.K.MixIn

open Cert.K.FfnIn (DH DG)
open Cert.K.FfnPost (half df DF)

section
open Cert.MixInReferenceIdeal Cert.MixInReferenceIdeal.Gen Cert.MixInReferenceIdeal.Read
open Cert.K.Norm (rowOf dxH dxH_apply dgH dgH_apply gainB gainB_apply)

variable (h0 : FVec Ideal S4096x1024 .f32) (gf : FVec Ideal S1024 .f32) (wg wu : FVec Ideal S1024x2816 .f32) (wd' : FVec Ideal S2816x1024 .f32)
  (gp g : FVec Ideal S1024 .f32) (wi : FVec Ideal S1024x2048 .f32)
  (d : FVec Ideal S4096x1024 .f32) (dproj : FVec Ideal S4096x2048 .f32)

theorem reference_dh : val_main_v75 (F := Ideal) h0 gf wg wu wd' gp g wi d dproj = DH d (val_main_v36 (F := Ideal) h0 gf wg wu wd' gp) (val_main_v54 (F := Ideal) wi dproj) g := by
  funext i
  idx_vars i
  have e : val_main_v75 (F := Ideal) h0 gf wg wu wd' gp g wi d dproj (ix2 i0 i1)
      = d (ix2 i0 i1) + dxH (val_main_v36 (F := Ideal) h0 gf wg wu wd' gp) (mulf (val_main_v54 (F := Ideal) wi dproj) (gainB g)) (ix2 i0 i1) :=
    ((add_assoc _ _ _).trans (add_assoc _ _ _)).trans (congrArg _ (add_assoc _ _ _).symm)
  rw [e, dxH_apply]
  refine congrArg (d (ix2 i0 i1) + ·) (congrFun (congrArg _ (funext fun k => ?_)) i1)
  simp only [rowOf, mulf_apply, gainB_apply]
  rfl

theorem reference_dg : val_main_v100 (F := Ideal) h0 gf wg wu wd' gp wi dproj = DG (val_main_v36 (F := Ideal) h0 gf wg wu wd' gp) (val_main_v54 (F := Ideal) wi dproj) := by
  funext i
  idx_vars i
  exact dgH_apply (val_main_v36 (F := Ideal) h0 gf wg wu wd' gp) (val_main_v54 (F := Ideal) wi dproj) i0 i1

theorem cast_dh : val_main_v76 (F := Ideal) h0 gf wg wu wd' gp g wi d dproj = DH d (val_main_v36 (F := Ideal) h0 gf wg wu wd' gp) (val_main_v54 (F := Ideal) wi dproj) g :=
  (shapeCast_self _ _).trans (reference_dh h0 gf wg wu wd' gp g wi d dproj)

theorem half_apply (r : Fin 4096) (q : Fin 1024) : val_main_v78 (F := Ideal) h0 gf wg wu wd' gp g wi d dproj (ix2 r q) = half * (DH d (val_main_v36 (F := Ideal) h0 gf wg wu wd' gp) (val_main_v54 (F := Ideal) wi dproj) g) (ix2 r q) := by
  rw [← cast_dh]
  pointwise [val_main_v77, val_main_v78, val_main_cst_16]

theorem reference_do : val_main_v99 (F := Ideal) h0 gf wg wu wd' gp g wi d dproj = DF (val_main_v17 (F := Ideal) h0 gf wg wu wd') (DH d (val_main_v36 (F := Ideal) h0 gf wg wu wd' gp) (val_main_v54 (F := Ideal) wi dproj) g) gp := by
  funext i
  idx_vars i
  refine (dxH_apply (val_main_v17 (F := Ideal) h0 gf wg wu wd') (mulf (val_main_v78 (F := Ideal) h0 gf wg wu wd' gp g wi d dproj) (gainB gp)) i0 i1).trans ?_
  show Norm.dx Norm.wd _ _ i1 = Norm.dx Norm.wd _ (fun k => half * (DH d (val_main_v36 (F := Ideal) h0 gf wg wu wd' gp) (val_main_v54 (F := Ideal) wi dproj) g) (ix2 i0 k) * gp (ix1 k)) i1
  refine congrFun (congrArg (Norm.dx Norm.wd _) (funext fun k => ?_)) i1
  simp only [rowOf, mulf_apply, gainB_apply, half_apply]
  rfl

theorem reference_dp : val_main_v101 (F := Ideal) h0 gf wg wu wd' gp g wi d dproj = FfnPost.DG (val_main_v17 (F := Ideal) h0 gf wg wu wd') (DH d (val_main_v36 (F := Ideal) h0 gf wg wu wd' gp) (val_main_v54 (F := Ideal) wi dproj) g) := by
  funext i
  idx_vars i
  refine (dgH_apply (val_main_v17 (F := Ideal) h0 gf wg wu wd') (val_main_v78 (F := Ideal) h0 gf wg wu wd' gp g wi d dproj) i0 i1).trans
    (Finset.sum_congr (M := EReal) rfl fun s _ => congrFun (congrArg _ (funext fun k => ?_)) i1)
  exact half_apply h0 gf wg wu wd' gp g wi d dproj s k

theorem back_apply (r : Fin 4096) (q : Fin 1024) : (val_main_v54 (F := Ideal) wi dproj) (ix2 r q) = ∑ k : Fin 2048, dproj (ix2 r k) * wi (ix2 q k) := by
  pointwise [val_main_v54]

/-- One row of gains, made by a reshape or by a broadcast. -/
theorem row_1024 (v : FVec Ideal S1024 .f32) : shapeCast S1x1024 v Cert.MixInKernelIdeal.Gen.shapeCasts_S1024_S1x1024 = broadcastInDim S1x1024 ![1] bcast_S1024_S1x1024_1 v := by
  funext i
  idx_vars i
  pointwise

end

section
open Cert.MixInKernelIdeal Cert.MixInKernelIdeal.Gen

variable (m : (ℓ : Loc nD τ sig) → Buf (Elt Ideal) ℓ) (c : Dev nD)

theorem V_back : YV m c = Cert.MixInReferenceIdeal.Read.val_main_v54 (F := Ideal) (m (c.tc.loc main_arg7)) (m (c.tc.loc main_arg9)) := by
  funext i
  idx_vars i
  rw [back_apply]
  unfold YV Y
  dsimp only [V]
  entry_read
  rfl

theorem V_o : V m c main_v31 = Cert.MixInReferenceIdeal.Read.val_main_v17 (F := Ideal) (m (c.tc.loc main_arg0)) (m (c.tc.loc main_arg1)) (m (c.tc.loc main_arg2)) (m (c.tc.loc main_arg3)) (m (c.tc.loc main_arg4)) := by
  dsimp only [V]
  entry_read
  erw [row_1024]
  rfl

theorem V_h : V m c main_v46 = Cert.MixInReferenceIdeal.Read.val_main_v36 (F := Ideal) (m (c.tc.loc main_arg0)) (m (c.tc.loc main_arg1)) (m (c.tc.loc main_arg2)) (m (c.tc.loc main_arg3)) (m (c.tc.loc main_arg4)) (m (c.tc.loc main_arg5)) := by
  dsimp only [V]
  entry_read
  erw [row_1024, row_1024]
  rfl

theorem H_eq : H m c = DH (m (c.tc.loc main_arg8)) (Cert.MixInReferenceIdeal.Read.val_main_v36 (F := Ideal) (m (c.tc.loc main_arg0)) (m (c.tc.loc main_arg1)) (m (c.tc.loc main_arg2)) (m (c.tc.loc main_arg3)) (m (c.tc.loc main_arg4)) (m (c.tc.loc main_arg5))) (Cert.MixInReferenceIdeal.Read.val_main_v54 (F := Ideal) (m (c.tc.loc main_arg7)) (m (c.tc.loc main_arg9))) (m (c.tc.loc main_arg6)) := by
  unfold H
  rw [V_back, V_h, V_main_arg8]

theorem kernel_dh : (dats m 0 c).arrAt 7 (cfgs 0).N = DH (m (c.tc.loc main_arg8)) (Cert.MixInReferenceIdeal.Read.val_main_v36 (F := Ideal) (m (c.tc.loc main_arg0)) (m (c.tc.loc main_arg1)) (m (c.tc.loc main_arg2)) (m (c.tc.loc main_arg3)) (m (c.tc.loc main_arg4)) (m (c.tc.loc main_arg5))) (Cert.MixInReferenceIdeal.Read.val_main_v54 (F := Ideal) (m (c.tc.loc main_arg7)) (m (c.tc.loc main_arg9))) (m (c.tc.loc main_arg6)) := (dh_final m c).trans (H_eq m c)

theorem kernel_do : (dats m 0 c).arrAt 8 (cfgs 0).N = DF (Cert.MixInReferenceIdeal.Read.val_main_v17 (F := Ideal) (m (c.tc.loc main_arg0)) (m (c.tc.loc main_arg1)) (m (c.tc.loc main_arg2)) (m (c.tc.loc main_arg3)) (m (c.tc.loc main_arg4))) (DH (m (c.tc.loc main_arg8)) (Cert.MixInReferenceIdeal.Read.val_main_v36 (F := Ideal) (m (c.tc.loc main_arg0)) (m (c.tc.loc main_arg1)) (m (c.tc.loc main_arg2)) (m (c.tc.loc main_arg3)) (m (c.tc.loc main_arg4)) (m (c.tc.loc main_arg5))) (Cert.MixInReferenceIdeal.Read.val_main_v54 (F := Ideal) (m (c.tc.loc main_arg7)) (m (c.tc.loc main_arg9))) (m (c.tc.loc main_arg6))) (m (c.tc.loc main_arg5)) := by
  rw [do_final, H_eq, V_o]

theorem kernel_dg : (dats m 0 c).arrAt 9 (cfgs 0).N = DG (Cert.MixInReferenceIdeal.Read.val_main_v36 (F := Ideal) (m (c.tc.loc main_arg0)) (m (c.tc.loc main_arg1)) (m (c.tc.loc main_arg2)) (m (c.tc.loc main_arg3)) (m (c.tc.loc main_arg4)) (m (c.tc.loc main_arg5))) (Cert.MixInReferenceIdeal.Read.val_main_v54 (F := Ideal) (m (c.tc.loc main_arg7)) (m (c.tc.loc main_arg9))) := by
  rw [dg_final, V_h, V_back]

theorem kernel_dp : (dats m 0 c).arrAt 10 (cfgs 0).N = FfnPost.DG (Cert.MixInReferenceIdeal.Read.val_main_v17 (F := Ideal) (m (c.tc.loc main_arg0)) (m (c.tc.loc main_arg1)) (m (c.tc.loc main_arg2)) (m (c.tc.loc main_arg3)) (m (c.tc.loc main_arg4))) (DH (m (c.tc.loc main_arg8)) (Cert.MixInReferenceIdeal.Read.val_main_v36 (F := Ideal) (m (c.tc.loc main_arg0)) (m (c.tc.loc main_arg1)) (m (c.tc.loc main_arg2)) (m (c.tc.loc main_arg3)) (m (c.tc.loc main_arg4)) (m (c.tc.loc main_arg5))) (Cert.MixInReferenceIdeal.Read.val_main_v54 (F := Ideal) (m (c.tc.loc main_arg7)) (m (c.tc.loc main_arg9))) (m (c.tc.loc main_arg6))) := by
  rw [dp_final, H_eq, V_o]

end

set_option maxHeartbeats 2000000 in
theorem algebraic : Cert.algebraic_MixInKernelIdeal_MixInReferenceIdeal := by
  pair_intro
  · run_from Cert.MixInKernelIdeal.Value.run_blocks m g
  · refine (θ_run Cert.MixInReferenceIdeal.defs _ _).mono (fun r h c => ?_) (Cert.MixInReferenceIdeal.Value.run m' g')
    obtain ⟨r0, r1, r2, r3, rest⟩ := h c
    obtain ⟨h0, h1, h2, h3, h4, h5, h6, h7, h8, h9⟩ := hagree c
    refine ⟨r0.trans ?_, r1.trans ?_, r2.trans ?_, r3.trans ?_, rest⟩
    · refine (Cert.MixInReferenceIdeal.Read.val_main_v75_eq (F := Ideal) (StableHlo.launchContents m' c)).trans ((reference_dh (m' (c.tc.loc Cert.MixInReferenceIdeal.main_arg0)) (m' (c.tc.loc Cert.MixInReferenceIdeal.main_arg1)) (m' (c.tc.loc Cert.MixInReferenceIdeal.main_arg2)) (m' (c.tc.loc Cert.MixInReferenceIdeal.main_arg3)) (m' (c.tc.loc Cert.MixInReferenceIdeal.main_arg4)) (m' (c.tc.loc Cert.MixInReferenceIdeal.main_arg5)) (m' (c.tc.loc Cert.MixInReferenceIdeal.main_arg6)) (m' (c.tc.loc Cert.MixInReferenceIdeal.main_arg7)) (m' (c.tc.loc Cert.MixInReferenceIdeal.main_arg8)) (m' (c.tc.loc Cert.MixInReferenceIdeal.main_arg9))).trans ?_)
      rw [h0, h1, h2, h3, h4, h5, h6, h7, h8, h9]
      exact (kernel_dh m c).symm
    · refine (Cert.MixInReferenceIdeal.Read.val_main_v99_eq (F := Ideal) (StableHlo.launchContents m' c)).trans ((reference_do (m' (c.tc.loc Cert.MixInReferenceIdeal.main_arg0)) (m' (c.tc.loc Cert.MixInReferenceIdeal.main_arg1)) (m' (c.tc.loc Cert.MixInReferenceIdeal.main_arg2)) (m' (c.tc.loc Cert.MixInReferenceIdeal.main_arg3)) (m' (c.tc.loc Cert.MixInReferenceIdeal.main_arg4)) (m' (c.tc.loc Cert.MixInReferenceIdeal.main_arg5)) (m' (c.tc.loc Cert.MixInReferenceIdeal.main_arg6)) (m' (c.tc.loc Cert.MixInReferenceIdeal.main_arg7)) (m' (c.tc.loc Cert.MixInReferenceIdeal.main_arg8)) (m' (c.tc.loc Cert.MixInReferenceIdeal.main_arg9))).trans ?_)
      rw [h0, h1, h2, h3, h4, h5, h6, h7, h8, h9]
      exact (kernel_do m c).symm
    · refine (Cert.MixInReferenceIdeal.Read.val_main_v100_eq (F := Ideal) (StableHlo.launchContents m' c)).trans ((reference_dg (m' (c.tc.loc Cert.MixInReferenceIdeal.main_arg0)) (m' (c.tc.loc Cert.MixInReferenceIdeal.main_arg1)) (m' (c.tc.loc Cert.MixInReferenceIdeal.main_arg2)) (m' (c.tc.loc Cert.MixInReferenceIdeal.main_arg3)) (m' (c.tc.loc Cert.MixInReferenceIdeal.main_arg4)) (m' (c.tc.loc Cert.MixInReferenceIdeal.main_arg5)) (m' (c.tc.loc Cert.MixInReferenceIdeal.main_arg7)) (m' (c.tc.loc Cert.MixInReferenceIdeal.main_arg9))).trans ?_)
      rw [h0, h1, h2, h3, h4, h5, h7, h9]
      exact (kernel_dg m c).symm
    · refine (Cert.MixInReferenceIdeal.Read.val_main_v101_eq (F := Ideal) (StableHlo.launchContents m' c)).trans ((reference_dp (m' (c.tc.loc Cert.MixInReferenceIdeal.main_arg0)) (m' (c.tc.loc Cert.MixInReferenceIdeal.main_arg1)) (m' (c.tc.loc Cert.MixInReferenceIdeal.main_arg2)) (m' (c.tc.loc Cert.MixInReferenceIdeal.main_arg3)) (m' (c.tc.loc Cert.MixInReferenceIdeal.main_arg4)) (m' (c.tc.loc Cert.MixInReferenceIdeal.main_arg5)) (m' (c.tc.loc Cert.MixInReferenceIdeal.main_arg6)) (m' (c.tc.loc Cert.MixInReferenceIdeal.main_arg7)) (m' (c.tc.loc Cert.MixInReferenceIdeal.main_arg8)) (m' (c.tc.loc Cert.MixInReferenceIdeal.main_arg9))).trans ?_)
      rw [h0, h1, h2, h3, h4, h5, h6, h7, h8, h9]
      exact (kernel_dp m c).symm

end Cert.K.MixIn

end
-- ==== Proof.Norm.Forward.lean ====
/- The norm of the rows of an array, and a residual sum with such a norm, as the forward programs compute them. -/
module

public import proofs.«01_k».proof.Proof.Norm.Host

@[expose] public section

set_option maxRecDepth 16384

noncomputable section

open Idealize.ShloMosaic Idealize.ShloMosaic.TcCoe

namespace Cert.K.Norm

open Cert.PleReferenceIdeal Cert.PleReferenceIdeal.Gen

variable (x h : FVec Ideal S4096x1024 .f32) (g : FVec Ideal S1024 .f32)

/-- The norm of every row, with its gain. -/
def RMS : FVec Ideal S4096x1024 .f32 := fun i => rms wd (rowOf x (i 0)) (fun k => g (ix1 k)) (i 1)

/-- The norm as the host lines of a reference write it. -/
def rmsH : FVec Ideal S4096x1024 .f32 := mulf (mulf x (invB x)) (gainB g)

theorem rmsH_eq : rmsH x g = RMS x g := by
  funext i
  idx_vars i
  pointwise [rmsH]
  rw [invB_apply, gainB_apply]
  rfl

/-- The norm of a row takes equal rows and equal gains to equal values. -/
theorem rms_congr {n : ℕ} {w : EReal} {x x' g g' : Fin n → EReal} (hx : ∀ k, x k = x' k) (hg : ∀ k, g k = g' k) (q : Fin n) :
    rms w x g q = rms w x' g' q := by
  rw [funext hx, funext hg]

/-- A residual sum with the norm of another array. -/
def ADD : FVec Ideal S4096x1024 .f32 := fun i => h i + RMS x g i

/-- The same with half of the norm. -/
def HALF : FVec Ideal S4096x1024 .f32 := fun i => h i + Ideal.ofBits .f32 0x3F000000#32 * RMS x g i

end Cert.K.Norm

end
-- ==== Proof.PreNorm.Value.lean ====
/- The norm before the first feed-forward: what the kernel leaves. -/
module

public import proofs.«01_k».proof.Proof.Gen.PreNormKernelIdeal.Value
public import proofs.«01_k».proof.Proof.Norm.Forward
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.K.PreNorm

open Cert.PreNormKernelIdeal Cert.PreNormKernelIdeal.Gen
open Cert.K.Norm (wd rms rms_congr rowOf RMS ADD one_val)

/-! ## The payloads at an entry -/

theorem pay_n (x : FVec Ideal S512x1024 .f32) (g : FVec Ideal S1x1024 .f32) (r : Fin 512) (q : Fin 1024) :
    k0_pay1 (F := Ideal) x g (ix2 r q) = rms wd (fun k => x (ix2 r k)) (fun k => g (ix2 0 k)) q := by
  pointwise [k0_pay1]
  rfl

/-! ## The blocks -/

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

theorem lt0 (t : Fin cfg0.N) (r : Fin 512) : t.val * 512 + r.val < 4096 := by
  have := lt_of_lt_of_eq t.isLt N_0; omega

/-- The arguments, as the pipeline's windows find them. -/
abbrev X : FVec Ideal S4096x1024 .f32 := m ((c : Thread nD τ).loc main_arg0)
abbrev G : FVec Ideal S1024 .f32 := m ((c : Thread nD τ).loc main_arg1)

theorem V_g (q : Fin 1024) : (show FVec Ideal S1x1024 .f32 from V m c main_v0) (ix2 0 q) = G m c (ix1 q) := by
  dsimp only [V]
  entry_read
  pointwise

variable (t : Fin cfg0.N) (r : Fin 512)

theorem blk0 (q : Fin 1024) : (show FVec Ideal S512x1024 .f32 from iblk m c 0 t) (ix2 r q) = X m c (ix2 ⟨t.val * 512 + r.val, lt0 t r⟩ q) := by
  refine Eq.trans ?_ (congrFun (V_main_arg0 m c) _)
  blk_ext! [iblk, idx t]

theorem blk1 (q : Fin 1024) : (show FVec Ideal S1x1024 .f32 from iblk m c 1 t) (ix2 0 q) = G m c (ix1 q) := by
  refine Eq.trans ?_ (V_g m c q)
  blk_ext! [iblk, idx t]

/-! ## The rows of a block -/

theorem n_row (q : Fin 1024) : k0_pay1 (F := Ideal) (iblk m c 0 t) (iblk m c 1 t) (ix2 r q) = RMS (X m c) (G m c) (ix2 ⟨t.val * 512 + r.val, lt0 t r⟩ q) :=
  (pay_n _ _ r q).trans (rms_congr (blk0 m c t r) (blk1 m c t) q)

/-! ## The arrays -/

theorem n_final : (dats m 0 c).arrAt 2 (cfgs 0).N = RMS (X m c) (G m c) := by
  refine (dats m 0 c).arrAt_eq_of_covers 2 _ (by decide +kernel) fun t _ y => ?_
  idx_vars y
  have he : ((cfg0.win 2).blk t).view.emb (show S512x1024.Idx from ix2 y0 y1) = (show S4096x1024.Idx from ix2 ⟨t.val * 512 + y0.val, lt0 t y0⟩ y1) := by
    blk_ext [idx t]
  refine Eq.trans ?_ (congrArg (RMS (X m c) (G m c)) he).symm
  blk_simp
  rw [after0_2]
  frame_out
  exact n_row m c t y0 y1

end Cert.K.PreNorm

end
-- ==== Proof.PreNorm.Claim.lean ====
/- The norm before the first feed-forward: what the reference computes, and that the kernel computes the same. -/
module

public import proofs.«01_k».proof.Proof.PreNorm.Value
public import proofs.«01_k».proof.Proof.Gen.PreNormReferenceIdeal.Run
public import proofs.«01_k».proof.Proof.Gen.PreNormReferenceIdeal.Read
public import proofs.«01_k».proof.Defs

@[expose] public section

set_option maxRecDepth 16384

noncomputable section

open Idealize.ShloMosaic Idealize.ShloMosaic.TcCoe Idealize.SL.Sem

namespace Cert.K.PreNorm

section
open Cert.PreNormReferenceIdeal Cert.PreNormReferenceIdeal.Read
open Cert.K.Norm (rmsH_eq RMS)

variable (x : FVec Ideal S4096x1024 .f32) (g : FVec Ideal S1024 .f32)

theorem reference_n : val_main_v13 (F := Ideal) x g = RMS x g := by
  refine Eq.trans ?_ (rmsH_eq x g)
  rfl

end

set_option maxHeartbeats 2000000 in
theorem algebraic : Cert.algebraic_PreNormKernelIdeal_PreNormReferenceIdeal := by
  pair_intro
  · run_from Cert.PreNormKernelIdeal.Value.run_blocks m g
  · refine (θ_run Cert.PreNormReferenceIdeal.defs _ _).mono (fun r h c => ?_) (Cert.PreNormReferenceIdeal.Value.run m' g')
    obtain ⟨r0, rest⟩ := h c
    obtain ⟨h0, h1⟩ := hagree c
    refine ⟨r0.trans ?_, rest⟩
    · refine (Cert.PreNormReferenceIdeal.Read.val_main_v13_eq (F := Ideal) (m' (c.tc.loc Cert.PreNormReferenceIdeal.main_arg0)) (m' (c.tc.loc Cert.PreNormReferenceIdeal.main_arg1))).trans ((reference_n (m' (c.tc.loc Cert.PreNormReferenceIdeal.main_arg0)) (m' (c.tc.loc Cert.PreNormReferenceIdeal.main_arg1))).trans ?_)
      rw [h0, h1]
      exact (n_final m c).symm

end Cert.K.PreNorm

end
-- ==== Proof.FfnDown.Value.lean ====
/- The down projection of a feed-forward, the residual sum and the next norm: what the kernel leaves. -/
module

public import proofs.«01_k».proof.Proof.Gen.FfnDownKernelIdeal.Value
public import proofs.«01_k».proof.Proof.Norm.Forward
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.K.FfnDown

open Cert.FfnDownKernelIdeal Cert.FfnDownKernelIdeal.Gen
open Cert.K.Norm (wd rms rms_congr rowOf RMS HALF)

/-- The product with the weight. -/
def PR (x : FVec Ideal S4096x2816 .f32) (w : FVec Ideal S2816x1024 .f32) : FVec Ideal S4096x1024 .f32 := fun i => ∑ k : Fin 2816, x (ix2 (i 0) k) * w (ix2 k (i 1))

/-! ## The payloads at an entry -/

theorem pay_acc (x : FVec Ideal S512x2816 .bf16) (w : FVec Ideal S2816x1024 .bf16) (r : Fin 512) (q : Fin 1024) :
    k0_pay2 (F := Ideal) x w (ix2 r q) = ∑ k : Fin 2816, x (ix2 r k) * w (ix2 k q) := by
  pointwise [k0_pay2]

theorem pay_h (x : FVec Ideal S512x2816 .bf16) (w : FVec Ideal S2816x1024 .bf16) (h : FVec Ideal S512x1024 .f32) (g : FVec Ideal S1x1024 .f32) (r : Fin 512) (q : Fin 1024) :
    k0_pay3 (F := Ideal) x w h g (ix2 r q) = h (ix2 r q) + Ideal.ofBits .f32 0x3F000000#32 * rms wd (fun k => k0_pay2 (F := Ideal) x w (ix2 r k)) (fun k => g (ix2 0 k)) q := by
  unfold k0_pay3
  generalize k0_pay2 (F := Ideal) x w = p
  pointwise
  rfl

theorem pay_n (x : FVec Ideal S512x2816 .bf16) (w : FVec Ideal S2816x1024 .bf16) (h : FVec Ideal S512x1024 .f32) (g g' : FVec Ideal S1x1024 .f32) (r : Fin 512) (q : Fin 1024) :
    k0_pay1 (F := Ideal) (k0_pay4 x w h g g') (ix2 r q) = rms wd (fun k => k0_pay3 (F := Ideal) x w h g (ix2 r k)) (fun k => g' (ix2 0 k)) q := by
  unfold k0_pay1 k0_pay4
  generalize k0_pay3 (F := Ideal) x w h g = p
  pointwise
  rfl

/-! ## The blocks -/

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

theorem lt0 (t : Fin cfg0.N) (r : Fin 512) : t.val * 512 + r.val < 4096 := by
  have := lt_of_lt_of_eq t.isLt N_0; omega

/-- The arguments, as the pipeline's windows find them. -/
abbrev X : FVec Ideal S4096x2816 .f32 := m ((c : Thread nD τ).loc main_arg0)
abbrev W : FVec Ideal S2816x1024 .f32 := m ((c : Thread nD τ).loc main_arg1)
abbrev H : FVec Ideal S4096x1024 .f32 := m ((c : Thread nD τ).loc main_arg2)
abbrev GP : FVec Ideal S1024 .f32 := m ((c : Thread nD τ).loc main_arg3)
abbrev GN : FVec Ideal S1024 .f32 := m ((c : Thread nD τ).loc main_arg4)

theorem V_x : V m c main_v0 = X m c := by
  dsimp only [V]
  entry_read
  rfl

theorem V_w : V m c main_v1 = W m c := by
  dsimp only [V]
  entry_read
  rfl

theorem V_gp (q : Fin 1024) : (show FVec Ideal S1x1024 .f32 from V m c main_v2) (ix2 0 q) = GP m c (ix1 q) := by
  dsimp only [V]
  entry_read
  pointwise

theorem V_gn (q : Fin 1024) : (show FVec Ideal S1x1024 .f32 from V m c main_v3) (ix2 0 q) = GN m c (ix1 q) := by
  dsimp only [V]
  entry_read
  pointwise

variable (t : Fin cfg0.N) (r : Fin 512)

theorem blk0 (k : Fin 2816) : (show FVec Ideal S512x2816 .bf16 from iblk m c 0 t) (ix2 r k) = X m c (ix2 ⟨t.val * 512 + r.val, lt0 t r⟩ k) := by
  refine Eq.trans ?_ (congrFun (V_x m c) _)
  blk_ext! [iblk, idx t]

theorem blk1 (k : Fin 2816) (q : Fin 1024) : (show FVec Ideal S2816x1024 .bf16 from iblk m c 1 t) (ix2 k q) = W m c (ix2 k q) := by
  refine Eq.trans ?_ (congrFun (V_w m c) _)
  blk_ext! [iblk, idx t]

theorem blk2 (q : Fin 1024) : (show FVec Ideal S512x1024 .f32 from iblk m c 2 t) (ix2 r q) = H m c (ix2 ⟨t.val * 512 + r.val, lt0 t r⟩ q) := by
  refine Eq.trans ?_ (congrFun (V_main_arg2 m c) _)
  blk_ext! [iblk, idx t]

theorem blk3 (q : Fin 1024) : (show FVec Ideal S1x1024 .f32 from iblk m c 3 t) (ix2 0 q) = GP m c (ix1 q) := by
  refine Eq.trans ?_ (V_gp m c q)
  blk_ext! [iblk, idx t]

theorem blk4 (q : Fin 1024) : (show FVec Ideal S1x1024 .f32 from iblk m c 4 t) (ix2 0 q) = GN m c (ix1 q) := by
  refine Eq.trans ?_ (V_gn m c q)
  blk_ext! [iblk, idx t]

/-! ## The rows of a block -/

theorem acc_row (q : Fin 1024) : k0_pay2 (F := Ideal) (iblk m c 0 t) (iblk m c 1 t) (ix2 r q) = PR (X m c) (W m c) (ix2 ⟨t.val * 512 + r.val, lt0 t r⟩ q) :=
  (pay_acc _ _ r q).trans (Finset.sum_congr (M := EReal) rfl fun k _ => Ideal.mul_congr (blk0 m c t r k) (blk1 m c t k q))

theorem h_row (q : Fin 1024) : k0_pay3 (F := Ideal) (iblk m c 0 t) (iblk m c 1 t) (iblk m c 2 t) (iblk m c 3 t) (ix2 r q)
    = HALF (PR (X m c) (W m c)) (H m c) (GP m c) (ix2 ⟨t.val * 512 + r.val, lt0 t r⟩ q) :=
  (pay_h _ _ _ _ r q).trans (congrArg₂ (fun a b : EReal => a + Ideal.ofBits .f32 0x3F000000#32 * b) (blk2 m c t r q) (rms_congr (acc_row m c t r) (blk3 m c t) q))

theorem n_row (q : Fin 1024) : k0_pay1 (F := Ideal) (k0_pay4 (iblk m c 0 t) (iblk m c 1 t) (iblk m c 2 t) (iblk m c 3 t) (iblk m c 4 t)) (ix2 r q)
    = RMS (HALF (PR (X m c) (W m c)) (H m c) (GP m c)) (GN m c) (ix2 ⟨t.val * 512 + r.val, lt0 t r⟩ q) :=
  (pay_n _ _ _ _ _ r q).trans (rms_congr (h_row m c t r) (blk4 m c t) q)

/-! ## The arrays -/

theorem acc_final : (dats m 0 c).arrAt 5 (cfgs 0).N = PR (X m c) (W m c) := by
  refine (dats m 0 c).arrAt_eq_of_covers 5 _ (by decide +kernel) fun t _ y => ?_
  idx_vars y
  have he : ((cfg0.win 5).blk t).view.emb (show S512x1024.Idx from ix2 y0 y1) = (show S4096x1024.Idx from ix2 ⟨t.val * 512 + y0.val, lt0 t y0⟩ y1) := by
    blk_ext [idx t]
  refine Eq.trans ?_ (congrArg (PR (X m c) (W m c)) he).symm
  blk_simp
  rw [after0_5]
  frame_out
  exact acc_row m c t y0 y1

theorem h_final : (dats m 0 c).arrAt 6 (cfgs 0).N = HALF (PR (X m c) (W m c)) (H m c) (GP m c) := by
  refine (dats m 0 c).arrAt_eq_of_covers 6 _ (by decide +kernel) fun t _ y => ?_
  idx_vars y
  have he : ((cfg0.win 6).blk t).view.emb (show S512x1024.Idx from ix2 y0 y1) = (show S4096x1024.Idx from ix2 ⟨t.val * 512 + y0.val, lt0 t y0⟩ y1) := by
    blk_ext [idx t]
  refine Eq.trans ?_ (congrArg (HALF (PR (X m c) (W m c)) (H m c) (GP m c)) he).symm
  blk_simp
  rw [after0_6]
  frame_out
  exact h_row m c t y0 y1

theorem n_final : (dats m 0 c).arrAt 7 (cfgs 0).N = RMS (HALF (PR (X m c) (W m c)) (H m c) (GP m c)) (GN m c) := by
  refine (dats m 0 c).arrAt_eq_of_covers 7 _ (by decide +kernel) fun t _ y => ?_
  idx_vars y
  have he : ((cfg0.win 7).blk t).view.emb (show S512x1024.Idx from ix2 y0 y1) = (show S4096x1024.Idx from ix2 ⟨t.val * 512 + y0.val, lt0 t y0⟩ y1) := by
    blk_ext [idx t]
  refine Eq.trans ?_ (congrArg (RMS (HALF (PR (X m c) (W m c)) (H m c) (GP m c)) (GN m c)) he).symm
  blk_simp
  rw [after0_7]
  frame_out
  exact n_row m c t y0 y1

end Cert.K.FfnDown

end
-- ==== Proof.FfnDown.Claim.lean ====
/- The down projection of a feed-forward, the residual sum and the next norm: what the reference computes, and that the kernel computes the same. -/
module

public import proofs.«01_k».proof.Proof.FfnDown.Value
public import proofs.«01_k».proof.Proof.Gen.FfnDownReferenceIdeal.Run
public import proofs.«01_k».proof.Proof.Gen.FfnDownReferenceIdeal.Read
public import proofs.«01_k».proof.Defs

@[expose] public section

set_option maxRecDepth 16384

noncomputable section

open Idealize.ShloMosaic Idealize.ShloMosaic.TcCoe Idealize.SL.Sem

namespace Cert.K.FfnDown

section
open Cert.FfnDownReferenceIdeal Cert.FfnDownReferenceIdeal.Read
open Cert.K.Norm (rmsH rmsH_eq RMS HALF)

variable (x : FVec Ideal S4096x2816 .f32) (w : FVec Ideal S2816x1024 .f32) (h : FVec Ideal S4096x1024 .f32) (gp gn : FVec Ideal S1024 .f32)

theorem reference_acc : val_main_v0 (F := Ideal) x w = PR x w := by
  funext i
  idx_vars i
  pointwise [val_main_v0, PR]

theorem half_apply (i : S4096x1024.Idx) : val_main_v15 (F := Ideal) x w gp i = Ideal.ofBits .f32 0x3F000000#32 * rmsH (val_main_v0 (F := Ideal) x w) gp i := by
  idx_vars i
  pointwise [val_main_v15, val_main_v14, val_main_cst_2]
  rfl

theorem reference_h : val_main_v16 (F := Ideal) x w h gp = HALF (PR x w) h gp := by
  funext i
  refine congrArg (h i + ·) ((half_apply x w gp i).trans ?_)
  rw [rmsH_eq, reference_acc]

theorem reference_n : val_main_v30 (F := Ideal) x w h gp gn = RMS (HALF (PR x w) h gp) gn := by
  refine Eq.trans ?_ (rmsH_eq _ _)
  rw [← reference_h]
  rfl

end

set_option maxHeartbeats 2000000 in
theorem algebraic : Cert.algebraic_FfnDownKernelIdeal_FfnDownReferenceIdeal := by
  pair_intro
  · run_from Cert.FfnDownKernelIdeal.Value.run_blocks m g
  · refine (θ_run Cert.FfnDownReferenceIdeal.defs _ _).mono (fun r h c => ?_) (Cert.FfnDownReferenceIdeal.Value.run m' g')
    obtain ⟨r0, r1, r2, rest⟩ := h c
    obtain ⟨h0, h1, h2, h3, h4⟩ := hagree c
    refine ⟨r0.trans ?_, r1.trans ?_, r2.trans ?_, rest⟩
    · refine (Cert.FfnDownReferenceIdeal.Read.val_main_v0_eq (F := Ideal) (m' (c.tc.loc Cert.FfnDownReferenceIdeal.main_arg0)) (m' (c.tc.loc Cert.FfnDownReferenceIdeal.main_arg1))).trans ((reference_acc (m' (c.tc.loc Cert.FfnDownReferenceIdeal.main_arg0)) (m' (c.tc.loc Cert.FfnDownReferenceIdeal.main_arg1))).trans ?_)
      rw [h0, h1]
      exact (acc_final m c).symm
    · refine (Cert.FfnDownReferenceIdeal.Read.val_main_v16_eq (F := Ideal) (m' (c.tc.loc Cert.FfnDownReferenceIdeal.main_arg0)) (m' (c.tc.loc Cert.FfnDownReferenceIdeal.main_arg1)) (m' (c.tc.loc Cert.FfnDownReferenceIdeal.main_arg2)) (m' (c.tc.loc Cert.FfnDownReferenceIdeal.main_arg3))).trans ((reference_h (m' (c.tc.loc Cert.FfnDownReferenceIdeal.main_arg0)) (m' (c.tc.loc Cert.FfnDownReferenceIdeal.main_arg1)) (m' (c.tc.loc Cert.FfnDownReferenceIdeal.main_arg2)) (m' (c.tc.loc Cert.FfnDownReferenceIdeal.main_arg3))).trans ?_)
      rw [h0, h1, h2, h3]
      exact (h_final m c).symm
    · refine (Cert.FfnDownReferenceIdeal.Read.val_main_v30_eq (F := Ideal) m' c).trans ((reference_n (m' (c.tc.loc Cert.FfnDownReferenceIdeal.main_arg0)) (m' (c.tc.loc Cert.FfnDownReferenceIdeal.main_arg1)) (m' (c.tc.loc Cert.FfnDownReferenceIdeal.main_arg2)) (m' (c.tc.loc Cert.FfnDownReferenceIdeal.main_arg3)) (m' (c.tc.loc Cert.FfnDownReferenceIdeal.main_arg4))).trans ?_)
      rw [h0, h1, h2, h3, h4]
      exact (n_final m c).symm

end Cert.K.FfnDown

end
-- ==== Proof.SsmGlu.Value.lean ====
/- The gate of the state-space branch and its norm, written into the right half of the mixer's input: what the kernel leaves. -/
module

public import proofs.«01_k».proof.Proof.Gen.SsmGluKernelIdeal.Value
public import proofs.«01_k».proof.Proof.Norm.Forward
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.K.SsmGlu

open Cert.SsmGluKernelIdeal Cert.SsmGluKernelIdeal.Gen
open Cert.K.Norm (rms rms_congr one_val)

/-- The Gaussian gate by the hyperbolic tangent. -/
def gelu (x : EReal) : EReal :=
  Ideal.ofBits .f32 0x3F000000#32 * x * (1 + Ideal.tanh (Ideal.ofBits .f32 0x3F4C422A#32 * (x + Ideal.ofBits .f32 0x3D372713#32 * x * x * x)))

/-- The gate of every entry, the gate's argument, the gated branch, its norm. -/
def Y (z : FVec Ideal S4096x512 .f32) : FVec Ideal S4096x512 .f32 := fun i => gelu (z i)
def T (z : FVec Ideal S4096x512 .f32) (w : FVec Ideal S512x512 .f32) (b : FVec Ideal S512 .f32) : FVec Ideal S4096x512 .f32 := fun i =>
  (∑ k : Fin 512, Y z (ix2 (i 0) k) * w (ix2 k (i 1))) + b (ix1 (i 1))
def SS (z : FVec Ideal S4096x512 .f32) (w : FVec Ideal S512x512 .f32) (b : FVec Ideal S512 .f32) : FVec Ideal S4096x512 .f32 := fun i =>
  Y z i * Norm.sig (T z w b i)
def NM (s : FVec Ideal S4096x512 .f32) (g : FVec Ideal S512 .f32) : FVec Ideal S4096x512 .f32 := fun i =>
  rms (Ideal.ofBits .f32 0x44000000#32) (fun k => s (ix2 (i 0) k)) (fun k => g (ix1 k)) (i 1)

/-- The right half of a wide array, where the norm goes. -/
def RIGHT (n : FVec Ideal S4096x512 .f32) : FVec Ideal S4096x1024 .bf16 := fun i => n (ix2 (i 0) ⟨(i 1).val % 512, Nat.mod_lt _ (by norm_num)⟩)

/-! ## The payloads at an entry -/

theorem pay_y (z : FVec Ideal S512x512 .f32) (r q : Fin 512) : k0_pay4 (F := Ideal) z (ix2 r q) = gelu (z (ix2 r q)) := by
  pointwise [k0_pay4]
  rfl

theorem pay_t (z : FVec Ideal S512x512 .f32) (w : FVec Ideal S512x512 .bf16) (b : FVec Ideal S1x512 .f32) (r q : Fin 512) :
    k0_pay5 (F := Ideal) z w b (ix2 r q) = (∑ k : Fin 512, gelu (z (ix2 r k)) * w (ix2 k q)) + b (ix2 0 q) := by
  pointwise [k0_pay5]
  rfl

theorem pay_s (y t : FVec Ideal S512x512 .f32) (r q : Fin 512) : k0_pay1 (F := Ideal) y t (ix2 r q) = y (ix2 r q) * Norm.sig (t (ix2 r q)) := by
  pointwise [k0_pay1]
  rw [Norm.zero_sub]
  rfl

theorem pay_n (g : FVec Ideal S1x512 .f32) (y t : FVec Ideal S512x512 .f32) (r q : Fin 512) :
    k0_pay2 (F := Ideal) (k0_pay3 g) y t (ix2 r q)
      = rms (Ideal.ofBits .f32 0x44000000#32) (fun k => k0_pay1 (F := Ideal) y t (ix2 r k)) (fun k => g (ix2 0 k)) q := by
  unfold k0_pay2 k0_pay3
  generalize k0_pay1 (F := Ideal) y t = s
  pointwise
  rfl

/-! ## The blocks -/

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] ∧ win0_8.index t = ![t.val, 1] :=
  (by decide +kernel : ∀ t : Fin grid0.N, _)

theorem lt0 (t : Fin cfg0.N) (r : Fin 512) : t.val * 512 + r.val < 4096 := by
  have := lt_of_lt_of_eq t.isLt N_0; omega

/-- The arguments, as the pipeline's windows find them. -/
abbrev Z : FVec Ideal S4096x512 .f32 := m ((c : Thread nD τ).loc main_arg0)
abbrev W : FVec Ideal S512x512 .f32 := m ((c : Thread nD τ).loc main_arg1)
abbrev B : FVec Ideal S512 .f32 := m ((c : Thread nD τ).loc main_arg2)
abbrev G : FVec Ideal S512 .f32 := m ((c : Thread nD τ).loc main_arg3)
abbrev MH : FVec Ideal S4096x1024 .f32 := m ((c : Thread nD τ).loc main_arg4)

theorem V_w : V m c main_v1 = W m c := by
  dsimp only [V]
  entry_read
  rfl

theorem V_b (q : Fin 512) : (show FVec Ideal S1x512 .f32 from V m c main_v2) (ix2 0 q) = B m c (ix1 q) := by
  dsimp only [V]
  entry_read
  pointwise

theorem V_g (q : Fin 512) : (show FVec Ideal S1x512 .f32 from V m c main_v3) (ix2 0 q) = G m c (ix1 q) := by
  dsimp only [V]
  entry_read
  pointwise

/-- The wide array starts as the last argument. -/
theorem V_into : V m c main_v4_3 = MH m c := by
  dsimp only [V]
  entry_read
  rfl

variable (t : Fin cfg0.N) (r : Fin 512)

theorem blk0 (q : Fin 512) : (show FVec Ideal S512x512 .f32 from iblk m c 0 t) (ix2 r q) = Z m c (ix2 ⟨t.val * 512 + r.val, lt0 t r⟩ q) := by
  refine Eq.trans ?_ (congrFun (V_main_arg0 m c) _)
  blk_ext! [iblk, idx t]

theorem blk2 (q : Fin 512) : (show FVec Ideal S512x512 .f32 from iblk m c 2 t) (ix2 r q) = Z m c (ix2 ⟨t.val * 512 + r.val, lt0 t r⟩ q) := by
  refine Eq.trans ?_ (congrFun (V_main_arg0 m c) _)
  blk_ext! [iblk, idx t]

theorem blk1 (k q : Fin 512) : (show FVec Ideal S512x512 .bf16 from iblk m c 1 t) (ix2 k q) = W m c (ix2 k q) := by
  refine Eq.trans ?_ (congrFun (V_w m c) _)
  blk_ext! [iblk, idx t]

theorem blk3 (q : Fin 512) : (show FVec Ideal S1x512 .f32 from iblk m c 3 t) (ix2 0 q) = B m c (ix1 q) := by
  refine Eq.trans ?_ (V_b m c q)
  blk_ext! [iblk, idx t]

theorem blk4 (q : Fin 512) : (show FVec Ideal S1x512 .f32 from iblk m c 4 t) (ix2 0 q) = G m c (ix1 q) := by
  refine Eq.trans ?_ (V_g m c q)
  blk_ext! [iblk, idx t]

/-! ## The rows of a block -/

theorem y_row (q : Fin 512) : k0_pay4 (F := Ideal) (iblk m c 2 t) (ix2 r q) = Y (Z m c) (ix2 ⟨t.val * 512 + r.val, lt0 t r⟩ q) :=
  (pay_y _ r q).trans (congrArg gelu (blk2 m c t r q))

theorem t_row (q : Fin 512) : k0_pay5 (F := Ideal) (iblk m c 0 t) (iblk m c 1 t) (iblk m c 3 t) (ix2 r q)
    = T (Z m c) (W m c) (B m c) (ix2 ⟨t.val * 512 + r.val, lt0 t r⟩ q) :=
  (pay_t _ _ _ r q).trans (congrArg₂ (fun a b : EReal => a + b)
    (Finset.sum_congr (M := EReal) rfl fun k _ => Ideal.mul_congr (congrArg gelu (blk0 m c t r k)) (blk1 m c t k q)) (blk3 m c t q))

theorem s_row (q : Fin 512) : k0_pay1 (F := Ideal) (k0_pay4 (iblk m c 2 t)) (k0_pay5 (iblk m c 0 t) (iblk m c 1 t) (iblk m c 3 t)) (ix2 r q)
    = SS (Z m c) (W m c) (B m c) (ix2 ⟨t.val * 512 + r.val, lt0 t r⟩ q) :=
  (pay_s _ _ r q).trans (congrArg₂ (fun a b : EReal => a * Norm.sig b) (y_row m c t r q) (t_row m c t r q))

theorem n_row (q : Fin 512) : k0_pay2 (F := Ideal) (k0_pay3 (iblk m c 4 t)) (k0_pay4 (iblk m c 2 t)) (k0_pay5 (iblk m c 0 t) (iblk m c 1 t) (iblk m c 3 t)) (ix2 r q)
    = NM (SS (Z m c) (W m c) (B m c)) (G m c) (ix2 ⟨t.val * 512 + r.val, lt0 t r⟩ q) :=
  (pay_n _ _ _ r q).trans (rms_congr (s_row m c t r) (blk4 m c t) q)

/-! ## The arrays -/

theorem y_final : (dats m 0 c).arrAt 5 (cfgs 0).N = Y (Z m c) := by
  refine (dats m 0 c).arrAt_eq_of_covers 5 _ (by decide +kernel) fun t _ y => ?_
  idx_vars y
  have he : ((cfg0.win 5).blk t).view.emb (show S512x512.Idx from ix2 y0 y1) = (show S4096x512.Idx from ix2 ⟨t.val * 512 + y0.val, lt0 t y0⟩ y1) := by
    blk_ext [idx t]
  refine Eq.trans ?_ (congrArg (Y (Z m c)) he).symm
  blk_simp
  rw [after0_5]
  unfold outsAt0
  frame_out
  exact y_row m c t y0 y1

theorem t_final : (dats m 0 c).arrAt 6 (cfgs 0).N = T (Z m c) (W m c) (B m c) := by
  refine (dats m 0 c).arrAt_eq_of_covers 6 _ (by decide +kernel) fun t _ y => ?_
  idx_vars y
  have he : ((cfg0.win 6).blk t).view.emb (show S512x512.Idx from ix2 y0 y1) = (show S4096x512.Idx from ix2 ⟨t.val * 512 + y0.val, lt0 t y0⟩ y1) := by
    blk_ext [idx t]
  refine Eq.trans ?_ (congrArg (T (Z m c) (W m c) (B m c)) he).symm
  blk_simp
  rw [after0_6]
  unfold outsAt0
  frame_out
  exact t_row m c t y0 y1

theorem s_final : (dats m 0 c).arrAt 7 (cfgs 0).N = SS (Z m c) (W m c) (B m c) := by
  refine (dats m 0 c).arrAt_eq_of_covers 7 _ (by decide +kernel) fun t _ y => ?_
  idx_vars y
  have he : ((cfg0.win 7).blk t).view.emb (show S512x512.Idx from ix2 y0 y1) = (show S4096x512.Idx from ix2 ⟨t.val * 512 + y0.val, lt0 t y0⟩ y1) := by
    blk_ext [idx t]
  refine Eq.trans ?_ (congrArg (SS (Z m c) (W m c) (B m c)) he).symm
  blk_simp
  rw [after0_7]
  unfold outsAt0
  frame_out
  exact s_row m c t y0 y1

/-- The right half holds the norm, the left half what it held. -/
theorem n_final : (dats m 0 c).arrAt 8 (cfgs 0).N
    = fun i : S4096x1024.Idx => if 1 ≤ (i 1).val / 512 then RIGHT (NM (SS (Z m c) (W m c) (B m c)) (G m c)) i else MH m c i := by
  refine ((dats m 0 c).arrAt_eq_of_coversWhere 8 (RIGHT (NM (SS (Z m c) (W m c) (B m c)) (G m c))) (P := fun i : S4096x1024.Idx => 1 ≤ (i 1).val / 512)
    (fun β => 1 ≤ β (1 : Fin 2)) (by decide +kernel) (fun t _ y => ?_) (fun j => Iff.rfl)).trans ?_
  · idx_vars y
    have he : ((cfg0.win 8).blk t).view.emb (show S512x512.Idx from ix2 y0 y1) = (show S4096x1024.Idx from ix2 ⟨t.val * 512 + y0.val, lt0 t y0⟩ ⟨512 + y1.val, by omega⟩) := by
      blk_ext [idx t]
    refine Eq.trans ?_ (congrArg (RIGHT (NM (SS (Z m c) (W m c) (B m c)) (G m c))) he).symm
    blk_simp
    rw [after0_8]
    unfold outsAt0
    frame_out
    refine (n_row m c t y0 y1).trans (congrArg (NM (SS (Z m c) (W m c) (B m c)) (G m c)) ?_)
    blk_ext
    all_goals simp [Nat.mod_eq_of_lt]
  · funext i
    refine if_congr Iff.rfl rfl ?_
    exact congrFun (V_into m c) i

end Cert.K.SsmGlu

end
-- ==== Proof.SsmGlu.Claim.lean ====
/- The gate of the state-space branch and its norm, beside the left half of the mixer's input: what the reference computes, and that the kernel computes the same. -/
module

public import proofs.«01_k».proof.Proof.SsmGlu.Value
public import proofs.«01_k».proof.Proof.Mix.Host
public import proofs.«01_k».proof.Proof.Gen.SsmGluReferenceIdeal.Run
public import proofs.«01_k».proof.Proof.Gen.SsmGluReferenceIdeal.Read
public import proofs.«01_k».proof.Defs

@[expose] public section

set_option maxRecDepth 16384

noncomputable section

open Idealize.ShloMosaic Idealize.ShloMosaic.TcCoe Idealize.SL.Sem

namespace Cert.K.SsmGlu

section
open Cert.SsmGluReferenceIdeal Cert.SsmGluReferenceIdeal.Read
open Cert.K.Norm (rms one_val)

variable (z : FVec Ideal S4096x512 .f32) (w : FVec Ideal S512x512 .f32) (b g : FVec Ideal S512 .f32) (mh : FVec Ideal S4096x1024 .f32)

theorem reference_y : val_main_v12 (F := Ideal) z = Y z := by
  funext i
  idx_vars i
  pointwise [val_main_v12, val_main_v11, val_main_v10, val_main_v9, val_main_v8, val_main_v7, val_main_v6, val_main_v5, val_main_v4, val_main_v3, val_main_v2,
    val_main_v1, val_main_v0, val_main_cst, val_main_cst_0, val_main_cst_1, val_main_cst_2]
  unfold Y gelu
  generalize z (ix2 i0 i1) = x
  have h : (Ideal.ofBits .f32 0x3D372713#32 * x * x * x : EReal) = Ideal.ofBits .f32 0x3D372713#32 * (x * x * x) := by ac_rfl
  rw [h]
  generalize (1 : EReal) + _ = e
  ac_rfl

theorem reference_t : val_main_v16 (F := Ideal) z w b = T z w b := by
  funext i
  idx_vars i
  unfold T
  rw [← reference_y]
  generalize hy : val_main_v12 (F := Ideal) z = y
  pointwise [val_main_v16, val_main_v15, val_main_v14, val_main_v13]
  rw [hy]

theorem reference_s : val_main_v23 (F := Ideal) z w b = SS z w b := by
  funext i
  idx_vars i
  unfold SS Norm.sig
  rw [← reference_y, ← reference_t]
  generalize hy : val_main_v12 (F := Ideal) z = y
  generalize ht : val_main_v16 (F := Ideal) z w b = t
  pointwise [val_main_v23, val_main_v22, val_main_v21, val_main_v20, val_main_v19, val_main_v18, val_main_v17, val_main_cst_3, val_main_cst_4]
  rw [hy, ht]

theorem reference_norm (r : Fin 4096) (q : Fin 512) : val_main_v37 (F := Ideal) z w b g (ix2 r q) = NM (SS z w b) g (ix2 r q) := by
  rw [← reference_s]
  unfold NM
  refine Eq.trans (b := Mix.invB (val_main_v23 (F := Ideal) z w b) (ix2 r q) |> fun v => val_main_v23 (F := Ideal) z w b (ix2 r q) * v * Mix.gainB g (ix2 r q)) rfl ?_
  show _ * _ * _ = _
  rw [Mix.invB_apply, Mix.gainB_apply]
  rfl

theorem reference_n : val_main_v39 (F := Ideal) z w b g mh
    = fun i : S4096x1024.Idx => if 1 ≤ (i 1).val / 512 then RIGHT (NM (SS z w b) g) i else mh i := by
  funext i
  idx_vars i
  have e : RIGHT (NM (SS z w b) g) (ix2 i0 i1) = val_main_v37 (F := Ideal) z w b g (ix2 i0 ⟨i1.val % 512, Nat.mod_lt _ (by norm_num)⟩) :=
    (reference_norm z w b g _ _).symm
  show _ = if 1 ≤ i1.val / 512 then RIGHT (NM (SS z w b) g) (ix2 i0 i1) else mh (ix2 i0 i1)
  rw [e]
  generalize hn : val_main_v37 (F := Ideal) z w b g = n
  pointwise [val_main_v39, val_main_v38, val_main_v24]
  rw [hn]
  by_cases h : i1.val < 512
  · rw [dif_pos h, if_neg (by omega)]
  · refine (dif_neg h).trans (Eq.trans ?_ (if_pos (show 1 ≤ i1.val / 512 by omega)).symm)
    exact congrArg n (congrArg (ix2 i0) (Fin.ext (show i1.val - 512 = i1.val % 512 by omega)))

end

set_option maxHeartbeats 2000000 in
theorem algebraic : Cert.algebraic_SsmGluKernelIdeal_SsmGluReferenceIdeal := by
  pair_intro
  · run_from Cert.SsmGluKernelIdeal.Value.run_blocks m g
  · refine (θ_run Cert.SsmGluReferenceIdeal.defs _ _).mono (fun r h c => ?_) (Cert.SsmGluReferenceIdeal.Value.run m' g')
    obtain ⟨r0, r1, r2, r3, rest⟩ := h c
    obtain ⟨h0, h1, h2, h3, h4⟩ := hagree c
    refine ⟨r0.trans ?_, r1.trans ?_, r2.trans ?_, r3.trans ?_, rest⟩
    · refine (Cert.SsmGluReferenceIdeal.Read.val_main_v12_eq (F := Ideal) (m' (c.tc.loc Cert.SsmGluReferenceIdeal.main_arg0))).trans ((reference_y (m' (c.tc.loc Cert.SsmGluReferenceIdeal.main_arg0))).trans ?_)
      rw [h0]
      exact (y_final m c).symm
    · refine (Cert.SsmGluReferenceIdeal.Read.val_main_v16_eq (F := Ideal) (m' (c.tc.loc Cert.SsmGluReferenceIdeal.main_arg0)) (m' (c.tc.loc Cert.SsmGluReferenceIdeal.main_arg1)) (m' (c.tc.loc Cert.SsmGluReferenceIdeal.main_arg2))).trans ((reference_t (m' (c.tc.loc Cert.SsmGluReferenceIdeal.main_arg0)) (m' (c.tc.loc Cert.SsmGluReferenceIdeal.main_arg1)) (m' (c.tc.loc Cert.SsmGluReferenceIdeal.main_arg2))).trans ?_)
      rw [h0, h1, h2]
      exact (t_final m c).symm
    · refine (Cert.SsmGluReferenceIdeal.Read.val_main_v23_eq (F := Ideal) (m' (c.tc.loc Cert.SsmGluReferenceIdeal.main_arg0)) (m' (c.tc.loc Cert.SsmGluReferenceIdeal.main_arg1)) (m' (c.tc.loc Cert.SsmGluReferenceIdeal.main_arg2))).trans ((reference_s (m' (c.tc.loc Cert.SsmGluReferenceIdeal.main_arg0)) (m' (c.tc.loc Cert.SsmGluReferenceIdeal.main_arg1)) (m' (c.tc.loc Cert.SsmGluReferenceIdeal.main_arg2))).trans ?_)
      rw [h0, h1, h2]
      exact (s_final m c).symm
    · refine (Cert.SsmGluReferenceIdeal.Read.val_main_v39_eq (F := Ideal) m' c).trans ((reference_n (m' (c.tc.loc Cert.SsmGluReferenceIdeal.main_arg0)) (m' (c.tc.loc Cert.SsmGluReferenceIdeal.main_arg1)) (m' (c.tc.loc Cert.SsmGluReferenceIdeal.main_arg2)) (m' (c.tc.loc Cert.SsmGluReferenceIdeal.main_arg3)) (m' (c.tc.loc Cert.SsmGluReferenceIdeal.main_arg4))).trans ?_)
      rw [h0, h1, h2, h3, h4]
      exact (n_final m c).symm

end Cert.K.SsmGlu

end
-- ==== Proof.WOut.Value.lean ====
/- The output projection of the mixer, the residual sum and the norm before the second feed-forward: what the kernel leaves. -/
module

public import proofs.«01_k».proof.Proof.Gen.WOutKernelIdeal.Value
public import proofs.«01_k».proof.Proof.Norm.Forward
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.K.WOut

open Cert.WOutKernelIdeal Cert.WOutKernelIdeal.Gen
open Cert.K.Norm (wd rms rms_congr rowOf RMS ADD)

/-- The product with the weight. -/
def PR (x : FVec Ideal S4096x1024 .f32) (w : FVec Ideal S1024x1024 .f32) : FVec Ideal S4096x1024 .f32 := fun i => ∑ k : Fin 1024, x (ix2 (i 0) k) * w (ix2 k (i 1))

/-! ## The payloads at an entry -/

theorem pay_acc (x : FVec Ideal S512x1024 .bf16) (w : FVec Ideal S1024x1024 .bf16) (r : Fin 512) (q : Fin 1024) :
    k0_pay2 (F := Ideal) x w (ix2 r q) = ∑ k : Fin 1024, x (ix2 r k) * w (ix2 k q) := by
  pointwise [k0_pay2]

theorem pay_h (x : FVec Ideal S512x1024 .bf16) (w : FVec Ideal S1024x1024 .bf16) (h : FVec Ideal S512x1024 .f32) (g : FVec Ideal S1x1024 .f32) (r : Fin 512) (q : Fin 1024) :
    k0_pay3 (F := Ideal) x w h g (ix2 r q) = h (ix2 r q) + rms wd (fun k => k0_pay2 (F := Ideal) x w (ix2 r k)) (fun k => g (ix2 0 k)) q := by
  unfold k0_pay3
  generalize k0_pay2 (F := Ideal) x w = p
  pointwise
  rfl

theorem pay_n (x : FVec Ideal S512x1024 .bf16) (w : FVec Ideal S1024x1024 .bf16) (h : FVec Ideal S512x1024 .f32) (g g' : FVec Ideal S1x1024 .f32) (r : Fin 512) (q : Fin 1024) :
    k0_pay1 (F := Ideal) (k0_pay4 x w h g g') (ix2 r q) = rms wd (fun k => k0_pay3 (F := Ideal) x w h g (ix2 r k)) (fun k => g' (ix2 0 k)) q := by
  unfold k0_pay1 k0_pay4
  generalize k0_pay3 (F := Ideal) x w h g = p
  pointwise
  rfl

/-! ## The blocks -/

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![t.val, 0] :=
  (by decide +kernel : ∀ t : Fin grid0.N, _)

theorem lt0 (t : Fin cfg0.N) (r : Fin 512) : t.val * 512 + r.val < 4096 := by
  have := lt_of_lt_of_eq t.isLt N_0; omega

/-- The arguments, as the pipeline's windows find them. -/
abbrev X : FVec Ideal S4096x1024 .f32 := m ((c : Thread nD τ).loc main_arg0)
abbrev W : FVec Ideal S1024x1024 .f32 := m ((c : Thread nD τ).loc main_arg1)
abbrev H : FVec Ideal S4096x1024 .f32 := m ((c : Thread nD τ).loc main_arg2)
abbrev GP : FVec Ideal S1024 .f32 := m ((c : Thread nD τ).loc main_arg3)
abbrev GN : FVec Ideal S1024 .f32 := m ((c : Thread nD τ).loc main_arg4)

theorem V_x : V m c main_v0 = X m c := by
  dsimp only [V]
  entry_read
  rfl

theorem V_w : V m c main_v1 = W m c := by
  dsimp only [V]
  entry_read
  rfl

theorem V_gp (q : Fin 1024) : (show FVec Ideal S1x1024 .f32 from V m c main_v2) (ix2 0 q) = GP m c (ix1 q) := by
  dsimp only [V]
  entry_read
  pointwise

theorem V_gn (q : Fin 1024) : (show FVec Ideal S1x1024 .f32 from V m c main_v3) (ix2 0 q) = GN m c (ix1 q) := by
  dsimp only [V]
  entry_read
  pointwise

variable (t : Fin cfg0.N) (r : Fin 512)

theorem blk0 (k : Fin 1024) : (show FVec Ideal S512x1024 .bf16 from iblk m c 0 t) (ix2 r k) = X m c (ix2 ⟨t.val * 512 + r.val, lt0 t r⟩ k) := by
  refine Eq.trans ?_ (congrFun (V_x m c) _)
  blk_ext! [iblk, idx t]

theorem blk1 (k : Fin 1024) (q : Fin 1024) : (show FVec Ideal S1024x1024 .bf16 from iblk m c 1 t) (ix2 k q) = W m c (ix2 k q) := by
  refine Eq.trans ?_ (congrFun (V_w m c) _)
  blk_ext! [iblk, idx t]

theorem blk2 (q : Fin 1024) : (show FVec Ideal S512x1024 .f32 from iblk m c 2 t) (ix2 r q) = H m c (ix2 ⟨t.val * 512 + r.val, lt0 t r⟩ q) := by
  refine Eq.trans ?_ (congrFun (V_main_arg2 m c) _)
  blk_ext! [iblk, idx t]

theorem blk3 (q : Fin 1024) : (show FVec Ideal S1x1024 .f32 from iblk m c 3 t) (ix2 0 q) = GP m c (ix1 q) := by
  refine Eq.trans ?_ (V_gp m c q)
  blk_ext! [iblk, idx t]

theorem blk4 (q : Fin 1024) : (show FVec Ideal S1x1024 .f32 from iblk m c 4 t) (ix2 0 q) = GN m c (ix1 q) := by
  refine Eq.trans ?_ (V_gn m c q)
  blk_ext! [iblk, idx t]

/-! ## The rows of a block -/

theorem acc_row (q : Fin 1024) : k0_pay2 (F := Ideal) (iblk m c 0 t) (iblk m c 1 t) (ix2 r q) = PR (X m c) (W m c) (ix2 ⟨t.val * 512 + r.val, lt0 t r⟩ q) :=
  (pay_acc _ _ r q).trans (Finset.sum_congr (M := EReal) rfl fun k _ => Ideal.mul_congr (blk0 m c t r k) (blk1 m c t k q))

theorem h_row (q : Fin 1024) : k0_pay3 (F := Ideal) (iblk m c 0 t) (iblk m c 1 t) (iblk m c 2 t) (iblk m c 3 t) (ix2 r q)
    = ADD (PR (X m c) (W m c)) (H m c) (GP m c) (ix2 ⟨t.val * 512 + r.val, lt0 t r⟩ q) :=
  (pay_h _ _ _ _ r q).trans (congrArg₂ (fun a b : EReal => a + b) (blk2 m c t r q) (rms_congr (acc_row m c t r) (blk3 m c t) q))

theorem n_row (q : Fin 1024) : k0_pay1 (F := Ideal) (k0_pay4 (iblk m c 0 t) (iblk m c 1 t) (iblk m c 2 t) (iblk m c 3 t) (iblk m c 4 t)) (ix2 r q)
    = RMS (ADD (PR (X m c) (W m c)) (H m c) (GP m c)) (GN m c) (ix2 ⟨t.val * 512 + r.val, lt0 t r⟩ q) :=
  (pay_n _ _ _ _ _ r q).trans (rms_congr (h_row m c t r) (blk4 m c t) q)

/-! ## The arrays -/

theorem acc_final : (dats m 0 c).arrAt 5 (cfgs 0).N = PR (X m c) (W m c) := by
  refine (dats m 0 c).arrAt_eq_of_covers 5 _ (by decide +kernel) fun t _ y => ?_
  idx_vars y
  have he : ((cfg0.win 5).blk t).view.emb (show S512x1024.Idx from ix2 y0 y1) = (show S4096x1024.Idx from ix2 ⟨t.val * 512 + y0.val, lt0 t y0⟩ y1) := by
    blk_ext [idx t]
  refine Eq.trans ?_ (congrArg (PR (X m c) (W m c)) he).symm
  blk_simp
  rw [after0_5]
  frame_out
  exact acc_row m c t y0 y1

theorem h_final : (dats m 0 c).arrAt 6 (cfgs 0).N = ADD (PR (X m c) (W m c)) (H m c) (GP m c) := by
  refine (dats m 0 c).arrAt_eq_of_covers 6 _ (by decide +kernel) fun t _ y => ?_
  idx_vars y
  have he : ((cfg0.win 6).blk t).view.emb (show S512x1024.Idx from ix2 y0 y1) = (show S4096x1024.Idx from ix2 ⟨t.val * 512 + y0.val, lt0 t y0⟩ y1) := by
    blk_ext [idx t]
  refine Eq.trans ?_ (congrArg (ADD (PR (X m c) (W m c)) (H m c) (GP m c)) he).symm
  blk_simp
  rw [after0_6]
  frame_out
  exact h_row m c t y0 y1

theorem n_final : (dats m 0 c).arrAt 7 (cfgs 0).N = RMS (ADD (PR (X m c) (W m c)) (H m c) (GP m c)) (GN m c) := by
  refine (dats m 0 c).arrAt_eq_of_covers 7 _ (by decide +kernel) fun t _ y => ?_
  idx_vars y
  have he : ((cfg0.win 7).blk t).view.emb (show S512x1024.Idx from ix2 y0 y1) = (show S4096x1024.Idx from ix2 ⟨t.val * 512 + y0.val, lt0 t y0⟩ y1) := by
    blk_ext [idx t]
  refine Eq.trans ?_ (congrArg (RMS (ADD (PR (X m c) (W m c)) (H m c) (GP m c)) (GN m c)) he).symm
  blk_simp
  rw [after0_7]
  frame_out
  exact n_row m c t y0 y1

end Cert.K.WOut

end
-- ==== Proof.WOut.Claim.lean ====
/- The output projection of the mixer, the residual sum and the norm before the second feed-forward: what the reference computes, and that the kernel computes the same. -/
module

public import proofs.«01_k».proof.Proof.WOut.Value
public import proofs.«01_k».proof.Proof.Gen.WOutReferenceIdeal.Run
public import proofs.«01_k».proof.Proof.Gen.WOutReferenceIdeal.Read
public import proofs.«01_k».proof.Defs

@[expose] public section

set_option maxRecDepth 16384

noncomputable section

open Idealize.ShloMosaic Idealize.ShloMosaic.TcCoe Idealize.SL.Sem

namespace Cert.K.WOut

section
open Cert.WOutReferenceIdeal Cert.WOutReferenceIdeal.Read
open Cert.K.Norm (rmsH rmsH_eq RMS ADD)

variable (x : FVec Ideal S4096x1024 .f32) (w : FVec Ideal S1024x1024 .f32) (h : FVec Ideal S4096x1024 .f32) (gp gn : FVec Ideal S1024 .f32)

theorem reference_acc : val_main_v0 (F := Ideal) x w = PR x w := by
  funext i
  idx_vars i
  pointwise [val_main_v0, PR]

theorem reference_h : val_main_v14 (F := Ideal) x w h gp = ADD (PR x w) h gp := by
  funext i
  refine congrArg (h i + ·) ?_
  refine (congrFun (rmsH_eq (val_main_v0 (F := Ideal) x w) gp) i).trans ?_
  rw [reference_acc]

theorem reference_n : val_main_v28 (F := Ideal) x w h gp gn = RMS (ADD (PR x w) h gp) gn := by
  refine Eq.trans ?_ (rmsH_eq _ _)
  rw [← reference_h]
  rfl

end

set_option maxHeartbeats 2000000 in
theorem algebraic : Cert.algebraic_WOutKernelIdeal_WOutReferenceIdeal := by
  pair_intro
  · run_from Cert.WOutKernelIdeal.Value.run_blocks m g
  · refine (θ_run Cert.WOutReferenceIdeal.defs _ _).mono (fun r h c => ?_) (Cert.WOutReferenceIdeal.Value.run m' g')
    obtain ⟨r0, r1, r2, rest⟩ := h c
    obtain ⟨h0, h1, h2, h3, h4⟩ := hagree c
    refine ⟨r0.trans ?_, r1.trans ?_, r2.trans ?_, rest⟩
    · refine (Cert.WOutReferenceIdeal.Read.val_main_v0_eq (F := Ideal) (m' (c.tc.loc Cert.WOutReferenceIdeal.main_arg0)) (m' (c.tc.loc Cert.WOutReferenceIdeal.main_arg1))).trans ((reference_acc (m' (c.tc.loc Cert.WOutReferenceIdeal.main_arg0)) (m' (c.tc.loc Cert.WOutReferenceIdeal.main_arg1))).trans ?_)
      rw [h0, h1]
      exact (acc_final m c).symm
    · refine (Cert.WOutReferenceIdeal.Read.val_main_v14_eq (F := Ideal) (m' (c.tc.loc Cert.WOutReferenceIdeal.main_arg0)) (m' (c.tc.loc Cert.WOutReferenceIdeal.main_arg1)) (m' (c.tc.loc Cert.WOutReferenceIdeal.main_arg2)) (m' (c.tc.loc Cert.WOutReferenceIdeal.main_arg3))).trans ((reference_h (m' (c.tc.loc Cert.WOutReferenceIdeal.main_arg0)) (m' (c.tc.loc Cert.WOutReferenceIdeal.main_arg1)) (m' (c.tc.loc Cert.WOutReferenceIdeal.main_arg2)) (m' (c.tc.loc Cert.WOutReferenceIdeal.main_arg3))).trans ?_)
      rw [h0, h1, h2, h3]
      exact (h_final m c).symm
    · refine (Cert.WOutReferenceIdeal.Read.val_main_v28_eq (F := Ideal) (m' (c.tc.loc Cert.WOutReferenceIdeal.main_arg0)) (m' (c.tc.loc Cert.WOutReferenceIdeal.main_arg1)) (m' (c.tc.loc Cert.WOutReferenceIdeal.main_arg2)) (m' (c.tc.loc Cert.WOutReferenceIdeal.main_arg3)) (m' (c.tc.loc Cert.WOutReferenceIdeal.main_arg4))).trans ((reference_n (m' (c.tc.loc Cert.WOutReferenceIdeal.main_arg0)) (m' (c.tc.loc Cert.WOutReferenceIdeal.main_arg1)) (m' (c.tc.loc Cert.WOutReferenceIdeal.main_arg2)) (m' (c.tc.loc Cert.WOutReferenceIdeal.main_arg3)) (m' (c.tc.loc Cert.WOutReferenceIdeal.main_arg4))).trans ?_)
      rw [h0, h1, h2, h3, h4]
      exact (n_final m c).symm

end Cert.K.WOut

end
-- ==== Proof.PleGate.Value.lean ====
/- The gate of the layer's embedding, the residual sum and the next norm: what the kernel leaves. -/
module

public import proofs.«01_k».proof.Proof.Gen.PleGateKernelIdeal.Value
public import proofs.«01_k».proof.Proof.Norm.Forward
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.K.PleGate

open Cert.PleGateKernelIdeal Cert.PleGateKernelIdeal.Gen
open Cert.K.Norm (wd rms rms_congr rowOf RMS ADD one_val)

/-- The product with the gate's weight. -/
def PR (x : FVec Ideal S4096x1024 .f32) (w : FVec Ideal S1024x1024 .f32) : FVec Ideal S4096x1024 .f32 := fun i => ∑ k : Fin 1024, x (ix2 (i 0) k) * w (ix2 k (i 1))

/-- The gated projection. -/
def GATED (p t : FVec Ideal S4096x1024 .f32) : FVec Ideal S4096x1024 .f32 := fun i => p i * Norm.sig (t i)

/-! ## The payloads at an entry -/

theorem pay_t (x : FVec Ideal S512x1024 .f32) (w : FVec Ideal S1024x1024 .bf16) (r : Fin 512) (q : Fin 1024) :
    k0_pay2 (F := Ideal) x w (ix2 r q) = ∑ k : Fin 1024, x (ix2 r k) * w (ix2 k q) := by
  pointwise [k0_pay2]

theorem pay_h (x : FVec Ideal S512x1024 .f32) (w : FVec Ideal S1024x1024 .bf16) (p h : FVec Ideal S512x1024 .f32) (g : FVec Ideal S1x1024 .f32) (r : Fin 512) (q : Fin 1024) :
    k0_pay4 (F := Ideal) x w p h g (ix2 r q)
      = h (ix2 r q) + rms wd (fun k => p (ix2 r k) * Norm.sig (k0_pay2 (F := Ideal) x w (ix2 r k))) (fun k => g (ix2 0 k)) q := by
  unfold k0_pay4
  generalize k0_pay2 (F := Ideal) x w = t
  pointwise
  unfold Norm.sig rms Norm.inv Norm.ms
  simp only [Norm.zero_sub, one_val]

theorem pay_n (x : FVec Ideal S512x1024 .f32) (w : FVec Ideal S1024x1024 .bf16) (p h : FVec Ideal S512x1024 .f32) (g g' : FVec Ideal S1x1024 .f32) (r : Fin 512) (q : Fin 1024) :
    k0_pay1 (F := Ideal) (k0_pay3 g') (k0_pay4 x w p h g) (k0_pay5 x w p h g) k0_pay6 (ix2 r q)
      = rms wd (fun k => k0_pay4 (F := Ideal) x w p h g (ix2 r k)) (fun k => g' (ix2 0 k)) q := by
  unfold k0_pay1 k0_pay5 k0_pay6 k0_pay3
  generalize k0_pay4 (F := Ideal) x w p h g = y
  pointwise
  rfl

/-! ## The blocks -/

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ win0_4.index t = ![0, 0] ∧ win0_5.index t = ![0, 0] ∧ win0_6.index t = ![t.val, 0] ∧ win0_7.index t = ![t.val, 0] ∧ win0_8.index t = ![t.val, 0] :=
  (by decide +kernel : ∀ t : Fin grid0.N, _)

theorem lt0 (t : Fin cfg0.N) (r : Fin 512) : t.val * 512 + r.val < 4096 := by
  have := lt_of_lt_of_eq t.isLt N_0; omega

/-- The arguments, as the pipeline's windows find them. -/
abbrev X : FVec Ideal S4096x1024 .f32 := m ((c : Thread nD τ).loc main_arg0)
abbrev W : FVec Ideal S1024x1024 .f32 := m ((c : Thread nD τ).loc main_arg1)
abbrev PU : FVec Ideal S4096x1024 .f32 := m ((c : Thread nD τ).loc main_arg2)
abbrev GP : FVec Ideal S1024 .f32 := m ((c : Thread nD τ).loc main_arg3)
abbrev GN : FVec Ideal S1024 .f32 := m ((c : Thread nD τ).loc main_arg4)

theorem V_w : V m c main_v0 = W m c := by
  dsimp only [V]
  entry_read
  rfl

theorem V_gp (q : Fin 1024) : (show FVec Ideal S1x1024 .f32 from V m c main_v1) (ix2 0 q) = GP m c (ix1 q) := by
  dsimp only [V]
  entry_read
  pointwise

theorem V_gn (q : Fin 1024) : (show FVec Ideal S1x1024 .f32 from V m c main_v2) (ix2 0 q) = GN m c (ix1 q) := by
  dsimp only [V]
  entry_read
  pointwise

variable (t : Fin cfg0.N) (r : Fin 512)

theorem blk0 (q : Fin 1024) : (show FVec Ideal S512x1024 .f32 from iblk m c 0 t) (ix2 r q) = X m c (ix2 ⟨t.val * 512 + r.val, lt0 t r⟩ q) := by
  refine Eq.trans ?_ (congrFun (V_main_arg0 m c) _)
  blk_ext! [iblk, idx t]

theorem blk1 (k : Fin 1024) (q : Fin 1024) : (show FVec Ideal S1024x1024 .bf16 from iblk m c 1 t) (ix2 k q) = W m c (ix2 k q) := by
  refine Eq.trans ?_ (congrFun (V_w m c) _)
  blk_ext! [iblk, idx t]

theorem blk2 (q : Fin 1024) : (show FVec Ideal S512x1024 .f32 from iblk m c 2 t) (ix2 r q) = PU m c (ix2 ⟨t.val * 512 + r.val, lt0 t r⟩ q) := by
  refine Eq.trans ?_ (congrFun (V_main_arg2 m c) _)
  blk_ext! [iblk, idx t]

theorem blk3 (q : Fin 1024) : (show FVec Ideal S512x1024 .f32 from iblk m c 3 t) (ix2 r q) = X m c (ix2 ⟨t.val * 512 + r.val, lt0 t r⟩ q) := by
  refine Eq.trans ?_ (congrFun (V_main_arg0 m c) _)
  blk_ext! [iblk, idx t]

theorem blk4 (q : Fin 1024) : (show FVec Ideal S1x1024 .f32 from iblk m c 4 t) (ix2 0 q) = GP m c (ix1 q) := by
  refine Eq.trans ?_ (V_gp m c q)
  blk_ext! [iblk, idx t]

theorem blk5 (q : Fin 1024) : (show FVec Ideal S1x1024 .f32 from iblk m c 5 t) (ix2 0 q) = GN m c (ix1 q) := by
  refine Eq.trans ?_ (V_gn m c q)
  blk_ext! [iblk, idx t]

/-! ## The rows of a block -/

theorem t_row (q : Fin 1024) : k0_pay2 (F := Ideal) (iblk m c 0 t) (iblk m c 1 t) (ix2 r q) = PR (X m c) (W m c) (ix2 ⟨t.val * 512 + r.val, lt0 t r⟩ q) :=
  (pay_t _ _ r q).trans (Finset.sum_congr (M := EReal) rfl fun k _ => Ideal.mul_congr (blk0 m c t r k) (blk1 m c t k q))

theorem h_row (q : Fin 1024) : k0_pay4 (F := Ideal) (iblk m c 0 t) (iblk m c 1 t) (iblk m c 2 t) (iblk m c 3 t) (iblk m c 4 t) (ix2 r q)
    = ADD (GATED (PU m c) (PR (X m c) (W m c))) (X m c) (GP m c) (ix2 ⟨t.val * 512 + r.val, lt0 t r⟩ q) :=
  (pay_h _ _ _ _ _ r q).trans (congrArg₂ (fun a b : EReal => a + b) (blk3 m c t r q)
    (rms_congr (fun k => congrArg₂ (fun a b : EReal => a * Norm.sig b) (blk2 m c t r k) (t_row m c t r k)) (blk4 m c t) q))

theorem n_row (q : Fin 1024) : k0_pay1 (F := Ideal) (k0_pay3 (iblk m c 5 t)) (k0_pay4 (iblk m c 0 t) (iblk m c 1 t) (iblk m c 2 t) (iblk m c 3 t) (iblk m c 4 t))
      (k0_pay5 (iblk m c 0 t) (iblk m c 1 t) (iblk m c 2 t) (iblk m c 3 t) (iblk m c 4 t)) k0_pay6 (ix2 r q)
    = RMS (ADD (GATED (PU m c) (PR (X m c) (W m c))) (X m c) (GP m c)) (GN m c) (ix2 ⟨t.val * 512 + r.val, lt0 t r⟩ q) :=
  (pay_n _ _ _ _ _ _ r q).trans (rms_congr (h_row m c t r) (blk5 m c t) q)

/-! ## The arrays -/

theorem t_final : (dats m 0 c).arrAt 6 (cfgs 0).N = PR (X m c) (W m c) := by
  refine (dats m 0 c).arrAt_eq_of_covers 6 _ (by decide +kernel) fun t _ y => ?_
  idx_vars y
  have he : ((cfg0.win 6).blk t).view.emb (show S512x1024.Idx from ix2 y0 y1) = (show S4096x1024.Idx from ix2 ⟨t.val * 512 + y0.val, lt0 t y0⟩ y1) := by
    blk_ext [idx t]
  refine Eq.trans ?_ (congrArg (PR (X m c) (W m c)) he).symm
  blk_simp
  rw [after0_6]
  frame_out
  exact t_row m c t y0 y1

theorem h_final : (dats m 0 c).arrAt 7 (cfgs 0).N = ADD (GATED (PU m c) (PR (X m c) (W m c))) (X m c) (GP m c) := by
  refine (dats m 0 c).arrAt_eq_of_covers 7 _ (by decide +kernel) fun t _ y => ?_
  idx_vars y
  have he : ((cfg0.win 7).blk t).view.emb (show S512x1024.Idx from ix2 y0 y1) = (show S4096x1024.Idx from ix2 ⟨t.val * 512 + y0.val, lt0 t y0⟩ y1) := by
    blk_ext [idx t]
  refine Eq.trans ?_ (congrArg (ADD (GATED (PU m c) (PR (X m c) (W m c))) (X m c) (GP m c)) he).symm
  blk_simp
  rw [after0_7]
  unfold out0_7 k0_pay7
  frame_out
  exact h_row m c t y0 y1

theorem n_final : (dats m 0 c).arrAt 8 (cfgs 0).N = RMS (ADD (GATED (PU m c) (PR (X m c) (W m c))) (X m c) (GP m c)) (GN m c) := by
  refine (dats m 0 c).arrAt_eq_of_covers 8 _ (by decide +kernel) fun t _ y => ?_
  idx_vars y
  have he : ((cfg0.win 8).blk t).view.emb (show S512x1024.Idx from ix2 y0 y1) = (show S4096x1024.Idx from ix2 ⟨t.val * 512 + y0.val, lt0 t y0⟩ y1) := by
    blk_ext [idx t]
  refine Eq.trans ?_ (congrArg (RMS (ADD (GATED (PU m c) (PR (X m c) (W m c))) (X m c) (GP m c)) (GN m c)) he).symm
  blk_simp
  rw [after0_8]
  unfold out0_8 k0_pay7
  frame_out
  exact n_row m c t y0 y1

end Cert.K.PleGate

end
-- ==== Proof.PleGate.Claim.lean ====
/- The gate of the layer's embedding, the residual sum and the next norm: what the reference computes, and that the kernel computes the same. -/
module

public import proofs.«01_k».proof.Proof.PleGate.Value
public import proofs.«01_k».proof.Proof.Gen.PleGateReferenceIdeal.Run
public import proofs.«01_k».proof.Proof.Gen.PleGateReferenceIdeal.Read
public import proofs.«01_k».proof.Defs

@[expose] public section

set_option maxRecDepth 16384

noncomputable section

open Idealize.ShloMosaic Idealize.ShloMosaic.TcCoe Idealize.SL.Sem

namespace Cert.K.PleGate

section
open Cert.PleGateReferenceIdeal Cert.PleGateReferenceIdeal.Read
open Cert.K.Norm (rmsH rmsH_eq RMS ADD one_val)

variable (x : FVec Ideal S4096x1024 .f32) (w : FVec Ideal S1024x1024 .f32) (p : FVec Ideal S4096x1024 .f32) (gp gn : FVec Ideal S1024 .f32)

theorem reference_t : val_main_v0 (F := Ideal) x w = PR x w := by
  funext i
  idx_vars i
  pointwise [val_main_v0, PR]

theorem reference_gated : val_main_v7 (F := Ideal) x w p = GATED p (PR x w) := by
  rw [← reference_t]
  funext i
  idx_vars i
  unfold GATED Norm.sig
  generalize hv : val_main_v0 (F := Ideal) x w = v
  pointwise [val_main_v7, val_main_v6, val_main_v5, val_main_v4, val_main_v3, val_main_v2, val_main_v1, val_main_cst, val_main_cst_0]
  rw [hv]

theorem reference_h : val_main_v21 (F := Ideal) x w p gp = ADD (GATED p (PR x w)) x gp := by
  funext i
  refine congrArg (x i + ·) ?_
  refine (congrFun (rmsH_eq (val_main_v7 (F := Ideal) x w p) gp) i).trans ?_
  rw [reference_gated]

theorem reference_n : val_main_v35 (F := Ideal) x w p gp gn = RMS (ADD (GATED p (PR x w)) x gp) gn := by
  refine Eq.trans ?_ (rmsH_eq _ _)
  rw [← reference_h]
  rfl

end

set_option maxHeartbeats 2000000 in
theorem algebraic : Cert.algebraic_PleGateKernelIdeal_PleGateReferenceIdeal := by
  pair_intro
  · run_from Cert.PleGateKernelIdeal.Value.run_blocks m g
  · refine (θ_run Cert.PleGateReferenceIdeal.defs _ _).mono (fun r h c => ?_) (Cert.PleGateReferenceIdeal.Value.run m' g')
    obtain ⟨r0, r1, r2, rest⟩ := h c
    obtain ⟨h0, h1, h2, h3, h4⟩ := hagree c
    refine ⟨r0.trans ?_, r1.trans ?_, r2.trans ?_, rest⟩
    · refine (Cert.PleGateReferenceIdeal.Read.val_main_v0_eq (F := Ideal) (m' (c.tc.loc Cert.PleGateReferenceIdeal.main_arg0)) (m' (c.tc.loc Cert.PleGateReferenceIdeal.main_arg1))).trans ((reference_t (m' (c.tc.loc Cert.PleGateReferenceIdeal.main_arg0)) (m' (c.tc.loc Cert.PleGateReferenceIdeal.main_arg1))).trans ?_)
      rw [h0, h1]
      exact (t_final m c).symm
    · refine (Cert.PleGateReferenceIdeal.Read.val_main_v21_eq (F := Ideal) (m' (c.tc.loc Cert.PleGateReferenceIdeal.main_arg0)) (m' (c.tc.loc Cert.PleGateReferenceIdeal.main_arg1)) (m' (c.tc.loc Cert.PleGateReferenceIdeal.main_arg2)) (m' (c.tc.loc Cert.PleGateReferenceIdeal.main_arg3))).trans ((reference_h (m' (c.tc.loc Cert.PleGateReferenceIdeal.main_arg0)) (m' (c.tc.loc Cert.PleGateReferenceIdeal.main_arg1)) (m' (c.tc.loc Cert.PleGateReferenceIdeal.main_arg2)) (m' (c.tc.loc Cert.PleGateReferenceIdeal.main_arg3))).trans ?_)
      rw [h0, h1, h2, h3]
      exact (h_final m c).symm
    · refine (Cert.PleGateReferenceIdeal.Read.val_main_v35_eq (F := Ideal) m' c).trans ((reference_n (m' (c.tc.loc Cert.PleGateReferenceIdeal.main_arg0)) (m' (c.tc.loc Cert.PleGateReferenceIdeal.main_arg1)) (m' (c.tc.loc Cert.PleGateReferenceIdeal.main_arg2)) (m' (c.tc.loc Cert.PleGateReferenceIdeal.main_arg3)) (m' (c.tc.loc Cert.PleGateReferenceIdeal.main_arg4))).trans ?_)
      rw [h0, h1, h2, h3, h4]
      exact (n_final m c).symm

end Cert.K.PleGate

end
-- ==== Proof.Rope.Streams.lean ====
/- The streams of the rotary embedding: what a block leaves of each, whatever its scratch held before. -/
module

public import proofs.«01_k».proof.Proof.Gen.RopeKernelIdeal.Value
public import proofs.«01_k».proof.Proof.Mix.Streams
public import Idealize.ShloMosaic.Lib.Pipeline.CanonAppend

@[expose] public section

set_option maxRecDepth 16384

noncomputable section

open Idealize.ShloMosaic Idealize.ShloMosaic.TcCoe Idealize.SL.Sem

namespace Cert.K.Rope

open Cert.K.Mix
open Cert.RopeKernelIdeal Cert.RopeKernelIdeal.Gen

section
variable (x : FVec Ideal S512x512 .f32) (rest : List (View.Piece (Elt Ideal) S4x512x128 .f32))

theorem over_apply (y : S4x512x128.Idx) : View.canon (groups x ++ rest) y = chunk x y :=
  View.canon_append_of_pieces (Val := Elt Ideal) (S := S4x512x128) (e := .f32) (chunk x) rest (groups x) (groups_all x) y (groups_cover x y)

/-- The four column groups stored over anything. -/
theorem over : View.canon (
  ⟨Rect.unit (s := S4x512x128) ![3, 0, 0] ![1, 512, 128] inb_S4x512x128_S1x512x128_3_0_0, shapeCast S1x512x128 (extractStridedSlice S512x128 ![0, 384] x slices_S512x512_o0_384_S512x128) shapeCasts_S512x128_S1x512x128⟩ ::
  ⟨Rect.unit (s := S4x512x128) ![2, 0, 0] ![1, 512, 128] inb_S4x512x128_S1x512x128_2_0_0, shapeCast S1x512x128 (extractStridedSlice S512x128 ![0, 256] x slices_S512x512_o0_256_S512x128) shapeCasts_S512x128_S1x512x128⟩ ::
  ⟨Rect.unit (s := S4x512x128) ![1, 0, 0] ![1, 512, 128] inb_S4x512x128_S1x512x128_1_0_0, shapeCast S1x512x128 (extractStridedSlice S512x128 ![0, 128] x slices_S512x512_o0_128_S512x128) shapeCasts_S512x128_S1x512x128⟩ ::
  ⟨Rect.unit (s := S4x512x128) ![0, 0, 0] ![1, 512, 128] inb_S4x512x128_S1x512x128_0_0_0, shapeCast S1x512x128 (extractStridedSlice S512x128 ![0, 0] x slices_S512x512_o0_0_S512x128) shapeCasts_S512x128_S1x512x128⟩ ::
  rest) = chunk x :=
  funext (over_apply x rest)

/-- A strided read of the column groups of a block. -/
theorem read_over (n d : ℕ) (hn : d * n = 512) (k : Fin (4 * d)) (c r : ℕ) (L : List (View.Piece (Elt Ideal) S4x512x128 .f32)) (hL : View.canon L = chunk x)
    (ec : c = k.val % 4) (er : r = k.val / 4)
    (hin : ∀ a, (![c, 0, 0] : Fin 3 → ℕ) a + (![1, 512, 128] : Fin 3 → ℕ) a ≤ S4x512x128.size a)
    (inb) (h0) (hs) (hu) (hR) :
    @LoadRect.valAlong (Rect.unit (s := S4x512x128) ![c, 0, 0] ![1, 512, 128] hin).shape S512x128 (⟨![r, 0], ![n, 128], ![d, 1], inb⟩ : LoadRect S512x128)
      (LoadRect.consLift (⟨![r, 0], ![n, 128], ![d, 1], inb⟩ : LoadRect S512x128) ![1, 512, 128] h0 hs) hR (Elt Ideal .f32)
      (fun j => View.canon L (((Rect.unit (s := S4x512x128) ![c, 0, 0] ![1, 512, 128] hin).withinL
        (LoadRect.consLift (⟨![r, 0], ![n, 128], ![d, 1], inb⟩ : LoadRect S512x128) ![1, 512, 128] h0 hs) hu).idx j)) = part x n d hn k := by
  rw [hL]
  exact read_part x n d hn k c r ec er hin inb h0 hs hu hR

theorem read_cov (v : View sig .tc .vmem S4x512x128 .f32) (n d : ℕ) (hn : d * n = 512) (k : Fin (4 * d)) (c r : ℕ) (L : List (View.Piece (Elt Ideal) S4x512x128 .f32))
    (hL : View.canon L = chunk x) (ec : c = k.val % 4) (er : r = k.val / 4)
    (hin : ∀ a, (![c, 0, 0] : Fin 3 → ℕ) a + (![1, 512, 128] : Fin 3 → ℕ) a ≤ S4x512x128.size a)
    (inb) (h0) (hs) (hu) (hR) :
    @LoadRect.valAlong (Rect.unit (s := S4x512x128) ![c, 0, 0] ![1, 512, 128] hin).shape S512x128 (⟨![r, 0], ![n, 128], ![d, 1], inb⟩ : LoadRect S512x128)
      (LoadRect.consLift (⟨![r, 0], ![n, 128], ![d, 1], inb⟩ : LoadRect S512x128) ![1, 512, 128] h0 hs) hR (Elt Ideal .f32)
      (v.readCov L ((Rect.unit (s := S4x512x128) ![c, 0, 0] ![1, 512, 128] hin).withinL
        (LoadRect.consLift (⟨![r, 0], ![n, 128], ![d, 1], inb⟩ : LoadRect S512x128) ![1, 512, 128] h0 hs) hu)) = part x n d hn k := by
  rw [View.readCov_eq_canon']
  exact read_over x n d hn k c r L hL ec er hin inb h0 hs hu hR

theorem read4 (v : View sig .tc .vmem S4x512x128 .f32) (k : Fin 16) (c r : ℕ) (L : List (View.Piece (Elt Ideal) S4x512x128 .f32))
    (hL : View.canon L = chunk x) (ec : c = k.val % 4) (er : r = k.val / 4)
    (hin : ∀ a, (![c, 0, 0] : Fin 3 → ℕ) a + S1x512x128.size a ≤ S4x512x128.size a)
    (inb) (h0) (hs) (hu) (hR) :
    @LoadRect.valAlong (Rect.unit (s := S4x512x128) ![c, 0, 0] S1x512x128.size hin).shape S512x128 (⟨![r, 0], S128x128.size, ![4, 1], inb⟩ : LoadRect S512x128)
      (LoadRect.consLift (⟨![r, 0], S128x128.size, ![4, 1], inb⟩ : LoadRect S512x128) ![1, 512, 128] h0 hs) hR (Elt Ideal .f32)
      (v.readCov L ((Rect.unit (s := S4x512x128) ![c, 0, 0] S1x512x128.size hin).withinL
        (LoadRect.consLift (⟨![r, 0], S128x128.size, ![4, 1], inb⟩ : LoadRect S512x128) ![1, 512, 128] h0 hs) hu)) = part x 128 4 rfl k :=
  read_cov x v 128 4 rfl k c r L hL ec er hin inb h0 hs hu hR

theorem read16 (v : View sig .tc .vmem S4x512x128 .f32) (k : Fin 64) (c r : ℕ) (L : List (View.Piece (Elt Ideal) S4x512x128 .f32))
    (hL : View.canon L = chunk x) (ec : c = k.val % 4) (er : r = k.val / 4)
    (hin : ∀ a, (![c, 0, 0] : Fin 3 → ℕ) a + S1x512x128.size a ≤ S4x512x128.size a)
    (inb) (h0) (hs) (hu) (hR) :
    @LoadRect.valAlong (Rect.unit (s := S4x512x128) ![c, 0, 0] S1x512x128.size hin).shape S512x128 (⟨![r, 0], S32x128.size, ![16, 1], inb⟩ : LoadRect S512x128)
      (LoadRect.consLift (⟨![r, 0], S32x128.size, ![16, 1], inb⟩ : LoadRect S512x128) ![1, 512, 128] h0 hs) hR (Elt Ideal .f32)
      (v.readCov L ((Rect.unit (s := S4x512x128) ![c, 0, 0] S1x512x128.size hin).withinL
        (LoadRect.consLift (⟨![r, 0], S32x128.size, ![16, 1], inb⟩ : LoadRect S512x128) ![1, 512, 128] h0 hs) hu)) = part x 32 16 rfl k :=
  read_cov x v 32 16 rfl k c r L hL ec er hin inb h0 hs hu hR

/-- The same, the groups' extents by their shape. -/
theorem over' : View.canon (
  ⟨Rect.unit (s := S4x512x128) ![3, 0, 0] S1x512x128.size inb_S4x512x128_S1x512x128_3_0_0, shapeCast S1x512x128 (extractStridedSlice S512x128 ![0, 384] x slices_S512x512_o0_384_S512x128) shapeCasts_S512x128_S1x512x128⟩ ::
  ⟨Rect.unit (s := S4x512x128) ![2, 0, 0] S1x512x128.size inb_S4x512x128_S1x512x128_2_0_0, shapeCast S1x512x128 (extractStridedSlice S512x128 ![0, 256] x slices_S512x512_o0_256_S512x128) shapeCasts_S512x128_S1x512x128⟩ ::
  ⟨Rect.unit (s := S4x512x128) ![1, 0, 0] S1x512x128.size inb_S4x512x128_S1x512x128_1_0_0, shapeCast S1x512x128 (extractStridedSlice S512x128 ![0, 128] x slices_S512x512_o0_128_S512x128) shapeCasts_S512x128_S1x512x128⟩ ::
  ⟨Rect.unit (s := S4x512x128) ![0, 0, 0] S1x512x128.size inb_S4x512x128_S1x512x128_0_0_0, shapeCast S1x512x128 (extractStridedSlice S512x128 ![0, 0] x slices_S512x512_o0_0_S512x128) shapeCasts_S512x128_S1x512x128⟩ ::
  rest) = chunk x := over x rest

end

theorem out45 (X : FVec Ideal S128x2048 .f32) (i) : k0_pay45 (F := Ideal) X i = X i := rfl
theorem out46 (X : FVec Ideal S128x2048 .f32) (i) : k0_pay46 (F := Ideal) X i = X i := rfl
theorem out47 (X : FVec Ideal S128x2048 .f32) (i) : k0_pay47 (F := Ideal) X i = X i := rfl
theorem out1 (X : FVec Ideal S32x8192 .f32) (i) : k0_pay1 (F := Ideal) X i = X i := rfl
theorem out2 (X : FVec Ideal S32x8192 .f32) (i) : k0_pay2 (F := Ideal) X i = X i := rfl
theorem out3 (X : FVec Ideal S32x8192 .f32) (i) : k0_pay3 (F := Ideal) X i = X i := rfl

variable (m : (ℓ : Loc nD τ sig) → Buf (Elt Ideal) ℓ) (c : Dev nD) (t : Fin cfg0.N)

/-- The rotated queries and keys of a block, and its values. -/
abbrev bq : FVec Ideal S512x512 .f32 := k0_pay7 (F := Ideal) (iblk m c 0 t) (iblk m c 3 t) (iblk m c 4 t) (iblk m c 5 t)
abbrev bk : FVec Ideal S512x512 .f32 := k0_pay8 (F := Ideal) (iblk m c 1 t) (iblk m c 3 t) (iblk m c 4 t) (iblk m c 5 t)
abbrev bv : FVec Ideal S512x512 .f32 := iblk m c 2 t

section
variable (a : Memref sig .tc .vmem S512x512 .f32) (ha : a.IsWhole) (X : FVec Ideal S512x512 .f32)

/-- A whole block loaded. -/
abbrev load : FVec Ideal S512x512 .f32 := View.readAt (Elt Ideal) a.view (Rect.unit (s := S512x512) ![0, 0] S512x512.size inb_S512x512_S512x512_0_0).toLoadRect (ha.unread X)

theorem load_eq : load a ha X = X := by
  unfold load
  rw [View.readAt_eq_ld, Memref.IsWhole.read_unread]
  exact View.ld_unit_lit' (S := S512x512) _ _ (by decide)

end

/-- The same of the blocks as the body loads them. -/
abbrev lq : FVec Ideal S512x512 .f32 := k0_pay7 (F := Ideal) (load (ms0_0 t) (hs0_0 t) (iblk m c 0 t)) (load (ms0_3 t) (hs0_3 t) (iblk m c 3 t))
  (load (ms0_4 t) (hs0_4 t) (iblk m c 4 t)) (load (ms0_5 t) (hs0_5 t) (iblk m c 5 t))
abbrev lk : FVec Ideal S512x512 .f32 := k0_pay8 (F := Ideal) (load (ms0_1 t) (hs0_1 t) (iblk m c 1 t)) (load (ms0_3 t) (hs0_3 t) (iblk m c 3 t))
  (load (ms0_4 t) (hs0_4 t) (iblk m c 4 t)) (load (ms0_5 t) (hs0_5 t) (iblk m c 5 t))
abbrev lv : FVec Ideal S512x512 .f32 := load (ms0_2 t) (hs0_2 t) (iblk m c 2 t)

theorem lq_eq : lq m c t = bq m c t := by
  unfold lq bq
  rw [load_eq, load_eq, load_eq, load_eq]

theorem lk_eq : lk m c t = bk m c t := by
  unfold lk bk
  rw [load_eq, load_eq, load_eq, load_eq]

theorem lv_eq : lv m c t = bv m c t := load_eq _ _ _

end Cert.K.Rope

end
-- ==== Proof.Rope.Four.lean ====
/- What a block leaves of the four streams. -/
module

public import proofs.«01_k».proof.Proof.Rope.Streams

@[expose] public section

set_option maxRecDepth 16384

noncomputable section

open Idealize.ShloMosaic Idealize.ShloMosaic.TcCoe Idealize.SL.Sem

namespace Cert.K.Rope

open Cert.K.Mix
open Cert.RopeKernelIdeal Cert.RopeKernelIdeal.Gen

variable (m : (ℓ : Loc nD τ sig) → Buf (Elt Ideal) ℓ) (c : Dev nD) (t : Fin cfg0.N)

set_option maxHeartbeats 4000000 in
theorem st4_q (i : Fin 128) (j : Fin 2048) : (show FVec Ideal S128x2048 .f32 from (outsAt0 m c t).2.2.2.1) (ix2 i j)
    = bq m c t (ix2 ⟨4 * i.val + j.val / 512, by omega⟩ ⟨j.val % 512, by omega⟩) := by
  rw [← lq_eq]
  unfold outsAt0
  frame_open
  rw [View.read_writes_junk_eq_canon]
  refine (congrFun (View.canon_cons_unit_lit' (S := S128x2048) (off := ![0, 0]) inb_S128x2048_S128x2048_0_0 _ [] (by decide)) _).trans ?_
  refine (out45 _ _).trans (streams4 (lq m c t) ?_ ?_ ?_ ?_ ?_ ?_ ?_ ?_ ?_ ?_ ?_ ?_ ?_ ?_ ?_ ?_ i j)
  all_goals
    refine read4 (lq m c t) _ _ _ _ _ ?_ ?_ ?_ _ _ _ _ _ _
    · exact over' (lq m c t) _
    · rfl
    · rfl

set_option maxHeartbeats 4000000 in
theorem st4_k (i : Fin 128) (j : Fin 2048) : (show FVec Ideal S128x2048 .f32 from (outsAt0 m c t).2.2.2.2.1) (ix2 i j)
    = bk m c t (ix2 ⟨4 * i.val + j.val / 512, by omega⟩ ⟨j.val % 512, by omega⟩) := by
  rw [← lk_eq]
  unfold outsAt0
  frame_open
  rw [View.read_writes_junk_eq_canon]
  refine (congrFun (View.canon_cons_unit_lit' (S := S128x2048) (off := ![0, 0]) inb_S128x2048_S128x2048_0_0 _ [] (by decide)) _).trans ?_
  refine (out46 _ _).trans (streams4 (lk m c t) ?_ ?_ ?_ ?_ ?_ ?_ ?_ ?_ ?_ ?_ ?_ ?_ ?_ ?_ ?_ ?_ i j)
  all_goals
    refine read4 (lk m c t) _ _ _ _ _ ?_ ?_ ?_ _ _ _ _ _ _
    · exact over' (lk m c t) _
    · rfl
    · rfl

set_option maxHeartbeats 4000000 in
theorem st4_v (i : Fin 128) (j : Fin 2048) : (show FVec Ideal S128x2048 .f32 from (outsAt0 m c t).2.2.2.2.2.1) (ix2 i j)
    = bv m c t (ix2 ⟨4 * i.val + j.val / 512, by omega⟩ ⟨j.val % 512, by omega⟩) := by
  rw [← lv_eq]
  unfold outsAt0
  frame_open
  rw [View.read_writes_junk_eq_canon]
  refine (congrFun (View.canon_cons_unit_lit' (S := S128x2048) (off := ![0, 0]) inb_S128x2048_S128x2048_0_0 _ [] (by decide)) _).trans ?_
  refine (out47 _ _).trans (streams4 (lv m c t) ?_ ?_ ?_ ?_ ?_ ?_ ?_ ?_ ?_ ?_ ?_ ?_ ?_ ?_ ?_ ?_ i j)
  all_goals
    refine read4 (lv m c t) _ _ _ _ _ ?_ ?_ ?_ _ _ _ _ _ _
    · exact over' (lv m c t) _
    · rfl
    · rfl

end Cert.K.Rope

end
-- ==== Proof.Rope.SixteenQ.lean ====
/- What a block leaves of the sixteen streams of the queries. -/
module

public import proofs.«01_k».proof.Proof.Rope.Streams

@[expose] public section

set_option maxRecDepth 16384

noncomputable section

open Idealize.ShloMosaic Idealize.ShloMosaic.TcCoe Idealize.SL.Sem

namespace Cert.K.Rope

open Cert.K.Mix
open Cert.RopeKernelIdeal Cert.RopeKernelIdeal.Gen

variable (m : (ℓ : Loc nD τ sig) → Buf (Elt Ideal) ℓ) (c : Dev nD) (t : Fin cfg0.N)

set_option maxHeartbeats 4000000 in
theorem st16_q (i : Fin 32) (j : Fin 8192) : (show FVec Ideal S32x8192 .f32 from (outsAt0 m c t).2.2.2.2.2.2.1) (ix2 i j)
    = bq m c t (ix2 ⟨16 * i.val + j.val / 512, by omega⟩ ⟨j.val % 512, by omega⟩) := by
  rw [← lq_eq]
  unfold outsAt0
  frame_open
  rw [View.read_writes_junk_eq_canon]
  refine (congrFun (View.canon_cons_unit_lit' (S := S32x8192) (off := ![0, 0]) inb_S32x8192_S32x8192_0_0 _ [] (by decide)) _).trans ?_
  refine (out1 _ _).trans (streams16 (lq m c t) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ i j)
  all_goals
    refine read16 (lq m c t) _ _ _ _ _ ?_ ?_ ?_ _ _ _ _ _ _
    · exact over' (lq m c t) _
    · rfl
    · rfl

end Cert.K.Rope

end
-- ==== Proof.Rope.SixteenK.lean ====
/- What a block leaves of the sixteen streams of the keys. -/
module

public import proofs.«01_k».proof.Proof.Rope.Streams

@[expose] public section

set_option maxRecDepth 16384

noncomputable section

open Idealize.ShloMosaic Idealize.ShloMosaic.TcCoe Idealize.SL.Sem

namespace Cert.K.Rope

open Cert.K.Mix
open Cert.RopeKernelIdeal Cert.RopeKernelIdeal.Gen

variable (m : (ℓ : Loc nD τ sig) → Buf (Elt Ideal) ℓ) (c : Dev nD) (t : Fin cfg0.N)

set_option maxHeartbeats 4000000 in
theorem st16_k (i : Fin 32) (j : Fin 8192) : (show FVec Ideal S32x8192 .f32 from (outsAt0 m c t).2.2.2.2.2.2.2.1) (ix2 i j)
    = bk m c t (ix2 ⟨16 * i.val + j.val / 512, by omega⟩ ⟨j.val % 512, by omega⟩) := by
  rw [← lk_eq]
  unfold outsAt0
  frame_open
  rw [View.read_writes_junk_eq_canon]
  refine (congrFun (View.canon_cons_unit_lit' (S := S32x8192) (off := ![0, 0]) inb_S32x8192_S32x8192_0_0 _ [] (by decide)) _).trans ?_
  refine (out2 _ _).trans (streams16 (lk m c t) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ i j)
  all_goals
    refine read16 (lk m c t) _ _ _ _ _ ?_ ?_ ?_ _ _ _ _ _ _
    · exact over' (lk m c t) _
    · rfl
    · rfl

end Cert.K.Rope

end
-- ==== Proof.Rope.SixteenV.lean ====
/- What a block leaves of the sixteen streams of the values. -/
module

public import proofs.«01_k».proof.Proof.Rope.Streams

@[expose] public section

set_option maxRecDepth 16384

noncomputable section

open Idealize.ShloMosaic Idealize.ShloMosaic.TcCoe Idealize.SL.Sem

namespace Cert.K.Rope

open Cert.K.Mix
open Cert.RopeKernelIdeal Cert.RopeKernelIdeal.Gen

variable (m : (ℓ : Loc nD τ sig) → Buf (Elt Ideal) ℓ) (c : Dev nD) (t : Fin cfg0.N)

set_option maxHeartbeats 4000000 in
theorem st16_v (i : Fin 32) (j : Fin 8192) : (show FVec Ideal S32x8192 .f32 from (outsAt0 m c t).2.2.2.2.2.2.2.2) (ix2 i j)
    = bv m c t (ix2 ⟨16 * i.val + j.val / 512, by omega⟩ ⟨j.val % 512, by omega⟩) := by
  rw [← lv_eq]
  unfold outsAt0
  frame_open
  rw [View.read_writes_junk_eq_canon]
  refine (congrFun (View.canon_cons_unit_lit' (S := S32x8192) (off := ![0, 0]) inb_S32x8192_S32x8192_0_0 _ [] (by decide)) _).trans ?_
  refine (out3 _ _).trans (streams16 (lv m c t) ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ i j)
  all_goals
    refine read16 (lv m c t) _ _ _ _ _ ?_ ?_ ?_ _ _ _ _ _ _
    · exact over' (lv m c t) _
    · rfl
    · rfl

end Cert.K.Rope

end
-- ==== Proof.Rope.Tables.lean ====
/- The rotary tables of the forward call, and the rotation of a block. -/
module

public import proofs.«01_k».proof.Proof.Rope.Streams
public import proofs.«01_k».proof.Proof.AttnSum.Tables

@[expose] public section

set_option maxRecDepth 16384

noncomputable section

open Idealize.ShloMosaic Idealize.ShloMosaic.TcCoe Idealize.SL.Sem

namespace Cert.K.Rope

open Cert.K.AttnSum (tab tab_apply cs sn Sq at2 at2_eq)
open Cert.RopeKernelIdeal Cert.RopeKernelIdeal.Gen

variable (m : (ℓ : Loc nD τ sig) → Buf (Elt Ideal) ℓ) (c : Dev nD) (t : Fin cfg0.N)

/-- The positions, and the projections. -/
abbrev A0 : IVec S4096 32 := m ((c : Thread nD τ).loc main_arg0)
abbrev A1 : FVec Ideal (Sq 4096 2048) .f32 := m ((c : Thread nD τ).loc main_arg1)

/-- What the host computes before the tables are put together. -/
def σ : Valuation τ sig (Elt Ideal) := StableHlo.after (hostOps0.take 22) (fun b => m (c, b))

theorem V_split (b : Ref sig .tc) : V m c b = StableHlo.after (hostOps0.drop 22) (σ m c) b := by
  unfold σ
  rw [← StableHlo.after_append, List.take_append_drop]

section
variable (s : Fin 4096) (j : Fin 512) (e : Fin 8) (k : Fin 48)

theorem V_23 : (show FVec Ideal (Sq 4096 512) .f32 from V m c main_v23) = tab (σ m c main_v12) (σ m c main_v12) (σ m c main_v14) := by
  rw [V_split]
  generalize σ m c = σ
  dsimp only [hostOps0, List.drop]
  entry_read
  rfl

theorem V_26 : (show FVec Ideal (Sq 4096 512) .f32 from V m c main_v26) = tab (σ m c main_v15) (σ m c main_v13) (σ m c main_v16) := by
  rw [V_split]
  generalize σ m c = σ
  dsimp only [hostOps0, List.drop]
  entry_read
  rfl

/-- The same after the third table's columns. -/
def σ' : Valuation τ sig (Elt Ideal) := StableHlo.after ((hostOps0.drop 22).take 3) (σ m c)

theorem V_split' (b : Ref sig .tc) : V m c b = StableHlo.after ((hostOps0.drop 22).drop 3) (σ' m c) b := by
  unfold σ'
  rw [← StableHlo.after_append, List.take_append_drop]
  exact V_split m c b

theorem σ'_19 : (show FVec Ideal S4096x8 .f32 from σ' m c main_v19) = Host.negf (show FVec Ideal S4096x8 .f32 from σ m c main_v13) := by
  unfold σ'
  generalize σ m c = σ
  dsimp only [hostOps0, List.drop, List.take]
  entry_read
  rfl

theorem σ'_15 : σ' m c main_v15 = σ m c main_v15 := by
  unfold σ'
  generalize σ m c = σ
  dsimp only [hostOps0, List.drop, List.take]
  entry_read
  rfl

theorem σ'_16 : σ' m c main_v16 = σ m c main_v16 := by
  unfold σ'
  generalize σ m c = σ
  dsimp only [hostOps0, List.drop, List.take]
  entry_read
  rfl

theorem V_29 : (show FVec Ideal (Sq 4096 512) .f32 from V m c main_v29) = tab (σ' m c main_v19) (σ m c main_v15) (σ m c main_v16) := by
  rw [← σ'_15, ← σ'_16, V_split']
  generalize σ' m c = σ
  dsimp only [hostOps0, List.drop]
  entry_read
  rfl

theorem σ_12 : (show FVec Ideal S4096x8 .f32 from σ m c main_v12) (ix2 s e) = cs (A0 m c) s e := by
  unfold σ
  dsimp only [hostOps0, List.take]
  entry_read
  pointwise
  rfl

theorem σ_13 : (show FVec Ideal S4096x8 .f32 from σ m c main_v13) (ix2 s e) = sn (A0 m c) s e := by
  unfold σ
  dsimp only [hostOps0, List.take]
  entry_read
  pointwise
  rfl

theorem σ_14 : (show FVec Ideal S4096x48 .f32 from σ m c main_v14) (ix2 s k) = 1 := by
  unfold σ
  dsimp only [hostOps0, List.take]
  entry_read
  pointwise

theorem σ_15 : (show FVec Ideal S4096x8 .f32 from σ m c main_v15) (ix2 s e) = 0 := by
  unfold σ
  dsimp only [hostOps0, List.take]
  entry_read
  pointwise

theorem σ_16 : (show FVec Ideal S4096x48 .f32 from σ m c main_v16) (ix2 s k) = 0 := by
  unfold σ
  dsimp only [hostOps0, List.take]
  entry_read
  pointwise

theorem V_c : (show FVec Ideal (Sq 4096 512) .f32 from V m c main_v23) (ix2 s j)
    = if h : j.val % 64 < 8 then cs (A0 m c) s ⟨j.val % 64, h⟩ else if h' : j.val % 64 < 16 then cs (A0 m c) s ⟨j.val % 64 - 8, by omega⟩ else 1 := by
  refine (congrFun (V_23 m c) _).trans ((tab_apply s j _ _ _).trans ?_)
  split
  · exact σ_12 m c s _
  · split
    · exact σ_12 m c s _
    · exact σ_14 m c s _

theorem V_s1 : (show FVec Ideal (Sq 4096 512) .f32 from V m c main_v26) (ix2 s j)
    = if h : j.val % 64 < 8 then 0 else if h' : j.val % 64 < 16 then sn (A0 m c) s ⟨j.val % 64 - 8, by omega⟩ else 0 := by
  refine (congrFun (V_26 m c) _).trans ((tab_apply s j _ _ _).trans ?_)
  split
  · exact σ_15 m c s _
  · split
    · exact σ_13 m c s _
    · exact σ_16 m c s _

theorem V_s2 : (show FVec Ideal (Sq 4096 512) .f32 from V m c main_v29) (ix2 s j)
    = if h : j.val % 64 < 8 then -sn (A0 m c) s ⟨j.val % 64, h⟩ else 0 := by
  refine (congrFun (V_29 m c) _).trans ((tab_apply s j _ _ _).trans ?_)
  split
  · next h =>
    refine (congrFun (σ'_19 m c) _).trans (Eq.trans ?_ (congrArg (fun x : EReal => -x) (σ_13 m c s ⟨j.val % 64, h⟩)))
    pointwise
  · split
    · exact σ_15 m c s _
    · exact σ_16 m c s _

end

end Cert.K.Rope

end
-- ==== Proof.Rope.Spec.lean ====
/- The rotary embedding: the rotation of a row, and the layout of an array in streams. -/
module

public import proofs.«01_k».proof.Proof.AttnSum.Spec

@[expose] public section

set_option maxRecDepth 16384

noncomputable section

open Idealize.ShloMosaic Idealize.ShloMosaic.TcCoe

namespace Cert.K.Rope

open Cert.K.AttnSum (cs sn Sq at2 at2_eq)

/-- The rotation of the first sixteen lanes of every head; `c`, `d` are the row's cosines and sines. -/
def rotF (c d : Fin 8 → EReal) (q : ℕ → EReal) (j : ℕ) : EReal :=
  if h : j % 64 < 8 then q j * c ⟨j % 64, h⟩ - q (j + 8) * d ⟨j % 64, h⟩
  else if h' : j % 64 < 16 then q j * c ⟨j % 64 - 8, by omega⟩ + q (j - 8) * d ⟨j % 64 - 8, by omega⟩
  else q j

/-- The rotated columns from `o` on, by row and column. -/
def gR (x : IVec (⟨1, ![4096]⟩ : Shape) 32) (P : FVec Ideal (Sq 4096 2048) .f32) (o s j : ℕ) : EReal :=
  if h : s < 4096 then rotF (cs x ⟨s, h⟩) (sn x ⟨s, h⟩) (fun j => at2 P s (o + j)) j else 0

/-- The values, by row and column. -/
def gV (P : FVec Ideal (Sq 4096 2048) .f32) (s j : ℕ) : EReal := at2 P s (1024 + j)

/-- Rows laid out in `d` streams side by side. -/
def lay (d : ℕ) {n w : ℕ} {φ : FTy} (g : ℕ → ℕ → EReal) : FVec Ideal (Sq n w) φ := fun i => g (d * (i 0).val + (i 1).val / 512) ((i 1).val % 512)

/-- The rotation by the tables. -/
theorem rot_tables (x : IVec (⟨1, ![4096]⟩ : Shape) 32) (s : Fin 4096) (q : ℕ → EReal) (j : Fin 512) (a b d : EReal)
    (ha : a = if h : j.val % 64 < 8 then cs x s ⟨j.val % 64, h⟩ else if h' : j.val % 64 < 16 then cs x s ⟨j.val % 64 - 8, by omega⟩ else 1)
    (hb : b = if h : j.val % 64 < 8 then 0 else if h' : j.val % 64 < 16 then sn x s ⟨j.val % 64 - 8, by omega⟩ else 0)
    (hd : d = if h : j.val % 64 < 8 then -sn x s ⟨j.val % 64, h⟩ else 0) :
    (q j.val * a + q ((j.val + 504) % 512) * b) + q ((j.val + 8) % 512) * d = rotF (cs x s) (sn x s) q j.val := by
  rw [ha, hb, hd]
  unfold rotF
  by_cases h : j.val % 64 < 8
  · rw [dif_pos h, dif_pos h, dif_pos h, dif_pos h, mul_zero, add_zero, mul_neg, show (j.val + 8) % 512 = j.val + 8 by omega, sub_eq_add_neg]
  · rw [dif_neg h, dif_neg h, dif_neg h, dif_neg h, mul_zero, add_zero]
    by_cases h' : j.val % 64 < 16
    · rw [dif_pos h', dif_pos h', dif_pos h', show (j.val + 504) % 512 = j.val - 8 by omega]
    · rw [dif_neg h', dif_neg h', dif_neg h', mul_one, mul_zero, add_zero]

end Cert.K.Rope

end
-- ==== Proof.Rope.Value.lean ====
/- The rotary embedding: what the kernel leaves. -/
module

public import proofs.«01_k».proof.Proof.Rope.Four
public import proofs.«01_k».proof.Proof.Rope.SixteenQ
public import proofs.«01_k».proof.Proof.Rope.SixteenK
public import proofs.«01_k».proof.Proof.Rope.SixteenV
public import proofs.«01_k».proof.Proof.Rope.Tables
public import proofs.«01_k».proof.Proof.Rope.Spec

@[expose] public section

set_option maxRecDepth 16384

noncomputable section

open Idealize.ShloMosaic Idealize.ShloMosaic.TcCoe Idealize.SL.Sem

namespace Cert.K.Rope

open Cert.K.AttnSum (cs sn Sq at2 at2_eq)
open Cert.RopeKernelIdeal Cert.RopeKernelIdeal.Gen

variable (m : (ℓ : Loc nD τ sig) → Buf (Elt Ideal) ℓ) (c : Dev nD) (t : Fin cfg0.N)

theorem idx : ∀ t : Fin cfg0.N, win0_0.index t = ![t.val, 0] ∧ win0_1.index t = ![t.val, 1] ∧ win0_2.index t = ![t.val, 2] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] :=
  (by decide +kernel : ∀ t : Fin grid0.N, _)

theorem t8 : t.val < 8 := lt_of_lt_of_eq t.isLt N_0

theorem lt0 (r : Fin 512) : t.val * 512 + r.val < 4096 := by
  have := t8 t
  omega

section
variable (r q : Fin 512)

theorem blk0 : (show FVec Ideal S512x512 .f32 from iblk m c 0 t) (ix2 r q) = at2 (A1 m c) (t.val * 512 + r.val) (0 + q.val) := by
  rw [at2_eq _ (lt0 t r) (by omega)]
  show _ = (show FVec Ideal S4096x2048 .f32 from m ((c : Thread nD τ).loc main_arg1)) _
  rw [← V_main_arg1 m c]
  blk_ext! [iblk, idx t]

theorem blk1 : (show FVec Ideal S512x512 .f32 from iblk m c 1 t) (ix2 r q) = at2 (A1 m c) (t.val * 512 + r.val) (512 + q.val) := by
  rw [at2_eq _ (lt0 t r) (by omega)]
  show _ = (show FVec Ideal S4096x2048 .f32 from m ((c : Thread nD τ).loc main_arg1)) _
  rw [← V_main_arg1 m c]
  blk_ext! [iblk, idx t]

theorem blk2 : (show FVec Ideal S512x512 .f32 from iblk m c 2 t) (ix2 r q) = at2 (A1 m c) (t.val * 512 + r.val) (1024 + q.val) := by
  rw [at2_eq _ (lt0 t r) (by omega)]
  show _ = (show FVec Ideal S4096x2048 .f32 from m ((c : Thread nD τ).loc main_arg1)) _
  rw [← V_main_arg1 m c]
  blk_ext! [iblk, idx t]

theorem blk3 : (show FVec Ideal S512x512 .f32 from iblk m c 3 t) (ix2 r q) = (show FVec Ideal (Sq 4096 512) .f32 from V m c main_v23) (ix2 ⟨t.val * 512 + r.val, lt0 t r⟩ q) := by
  blk_ext! [iblk, idx t]

theorem blk4 : (show FVec Ideal S512x512 .f32 from iblk m c 4 t) (ix2 r q) = (show FVec Ideal (Sq 4096 512) .f32 from V m c main_v26) (ix2 ⟨t.val * 512 + r.val, lt0 t r⟩ q) := by
  blk_ext! [iblk, idx t]

theorem blk5 : (show FVec Ideal S512x512 .f32 from iblk m c 5 t) (ix2 r q) = (show FVec Ideal (Sq 4096 512) .f32 from V m c main_v29) (ix2 ⟨t.val * 512 + r.val, lt0 t r⟩ q) := by
  blk_ext! [iblk, idx t]

/-- A block rotated. -/
theorem rot_apply (z a b d : FVec Ideal S512x512 .f32) : k0_pay7 (F := Ideal) z a b d (ix2 r q)
    = (z (ix2 r q) * a (ix2 r q) + z (ix2 r ⟨(q.val + 504) % 512, by omega⟩) * b (ix2 r q) : EReal) + (z (ix2 r ⟨(q.val + 8) % 512, by omega⟩) * d (ix2 r q) : EReal) := by
  have e1 := dynamicRotate_apply (1 : Fin S512x512.rank) 8#32 z rotates_S512x512_d1 (ix2 r q) (ix2 r ⟨(q.val + 504) % 512, by omega⟩) (fun b => by
    fin_cases b
    · rfl
    · show (q.val + 504) % 512 = (q.val + 512 - 8 % 512) % 512
      omega)
  have e2 := dynamicRotate_apply (1 : Fin S512x512.rank) 504#32 z rotates_S512x512_d1 (ix2 r q) (ix2 r ⟨(q.val + 8) % 512, by omega⟩) (fun b => by
    fin_cases b
    · rfl
    · show (q.val + 8) % 512 = (q.val + 512 - 504 % 512) % 512
      omega)
  have h4 : k0_pay4 (F := Ideal) a (ix2 r q) = a (ix2 r q) := by pointwise [k0_pay4]
  have h5 : k0_pay5 (F := Ideal) b (ix2 r q) = b (ix2 r q) := by pointwise [k0_pay5]
  have h6 : k0_pay6 (F := Ideal) d (ix2 r q) = d (ix2 r q) := by pointwise [k0_pay6]
  unfold k0_pay7
  exact Ideal.add_congr (Ideal.add_congr (Ideal.mul_congr rfl h4) (Ideal.mul_congr e1 h5)) (Ideal.mul_congr e2 h6)

theorem rot_block (z : FVec Ideal S512x512 .f32) (o : ℕ) (hz : ∀ q : Fin 512, z (ix2 r q) = at2 (A1 m c) (t.val * 512 + r.val) (o + q.val)) :
    k0_pay7 (F := Ideal) z (iblk m c 3 t) (iblk m c 4 t) (iblk m c 5 t) (ix2 r q) = gR (A0 m c) (A1 m c) o (t.val * 512 + r.val) q.val := by
  unfold gR
  rw [dif_pos (lt0 t r)]
  refine (rot_apply r q z _ _ _).trans (Eq.trans ?_ (rot_tables (A0 m c) ⟨t.val * 512 + r.val, lt0 t r⟩ (fun j => at2 (A1 m c) (t.val * 512 + r.val) (o + j)) q _ _ _
    ((blk3 m c t r q).trans (V_c m c _ q)) ((blk4 m c t r q).trans (V_s1 m c _ q)) ((blk5 m c t r q).trans (V_s2 m c _ q))))
  rw [hz, hz, hz]

theorem q_blk : bq m c t (ix2 r q) = gR (A0 m c) (A1 m c) 0 (t.val * 512 + r.val) q.val := rot_block m c t r q _ 0 (blk0 m c t r)
theorem k_blk : bk m c t (ix2 r q) = gR (A0 m c) (A1 m c) 512 (t.val * 512 + r.val) q.val := rot_block m c t r q _ 512 (blk1 m c t r)
theorem v_blk : bv m c t (ix2 r q) = gV (A1 m c) (t.val * 512 + r.val) q.val := blk2 m c t r q

end

theorem st1_q (i : Fin 512) (j : Fin 512) : (show FVec Ideal S512x512 .f32 from (outsAt0 m c t).1) (ix2 i j) = bq m c t (ix2 i j) := by
  rw [← lq_eq]
  unfold outsAt0
  frame_open
  rw [View.read_writes_junk_eq_canon]
  exact congrFun (View.canon_cons_unit_lit' (S := S512x512) (off := ![0, 0]) inb_S512x512_S512x512_0_0 _ [] (by decide)) _

theorem st1_k (i : Fin 512) (j : Fin 512) : (show FVec Ideal S512x512 .f32 from (outsAt0 m c t).2.1) (ix2 i j) = bk m c t (ix2 i j) := by
  rw [← lk_eq]
  unfold outsAt0
  frame_open
  rw [View.read_writes_junk_eq_canon]
  exact congrFun (View.canon_cons_unit_lit' (S := S512x512) (off := ![0, 0]) inb_S512x512_S512x512_0_0 _ [] (by decide)) _

theorem st1_v (i : Fin 512) (j : Fin 512) : (show FVec Ideal S512x512 .f32 from (outsAt0 m c t).2.2.1) (ix2 i j) = bv m c t (ix2 i j) := by
  rw [← lv_eq]
  unfold outsAt0
  frame_open
  rw [View.read_writes_junk_eq_canon]
  exact congrFun (View.canon_cons_unit_lit' (S := S512x512) (off := ![0, 0]) inb_S512x512_S512x512_0_0 _ [] (by decide)) _

theorem final1_q : (dats m 0 c).arrAt 6 (cfgs 0).N = lay 1 (n := 4096) (w := 512) (φ := .bf16) (gR (A0 m c) (A1 m c) 0) := by
  refine (dats m 0 c).arrAt_eq_of_covers 6 _ (by decide +kernel) fun t _ y => ?_
  idx_vars y
  have hb : t.val * 512 + y0.val < 4096 := by
    have := t8 t
    omega
  have he : ((cfg0.win 6).blk t).view.emb (show S512x512.Idx from ix2 y0 y1) = (show S4096x512.Idx from ix2 ⟨t.val * 512 + y0.val, hb⟩ y1) := by
    blk_ext [idx t]
  refine Eq.trans ?_ (congrArg (lay 1 (n := 4096) (w := 512) (φ := .bf16) (gR (A0 m c) (A1 m c) 0)) he).symm
  blk_simp
  rw [after0_6]
  refine (st1_q m c t y0 y1).trans ((q_blk m c t _ _).trans ?_)
  show gR (A0 m c) (A1 m c) 0 (t.val * 512 + y0.val) y1.val = gR (A0 m c) (A1 m c) 0 (1 * (t.val * 512 + y0.val) + y1.val / 512) (y1.val % 512)
  exact congrArg₂ (gR (A0 m c) (A1 m c) 0) (by omega) (by omega)

theorem final1_k : (dats m 0 c).arrAt 7 (cfgs 0).N = lay 1 (n := 4096) (w := 512) (φ := .bf16) (gR (A0 m c) (A1 m c) 512) := by
  refine (dats m 0 c).arrAt_eq_of_covers 7 _ (by decide +kernel) fun t _ y => ?_
  idx_vars y
  have hb : t.val * 512 + y0.val < 4096 := by
    have := t8 t
    omega
  have he : ((cfg0.win 7).blk t).view.emb (show S512x512.Idx from ix2 y0 y1) = (show S4096x512.Idx from ix2 ⟨t.val * 512 + y0.val, hb⟩ y1) := by
    blk_ext [idx t]
  refine Eq.trans ?_ (congrArg (lay 1 (n := 4096) (w := 512) (φ := .bf16) (gR (A0 m c) (A1 m c) 512)) he).symm
  blk_simp
  rw [after0_7]
  refine (st1_k m c t y0 y1).trans ((k_blk m c t _ _).trans ?_)
  show gR (A0 m c) (A1 m c) 512 (t.val * 512 + y0.val) y1.val = gR (A0 m c) (A1 m c) 512 (1 * (t.val * 512 + y0.val) + y1.val / 512) (y1.val % 512)
  exact congrArg₂ (gR (A0 m c) (A1 m c) 512) (by omega) (by omega)

theorem final1_v : (dats m 0 c).arrAt 8 (cfgs 0).N = lay 1 (n := 4096) (w := 512) (φ := .bf16) (gV (A1 m c)) := by
  refine (dats m 0 c).arrAt_eq_of_covers 8 _ (by decide +kernel) fun t _ y => ?_
  idx_vars y
  have hb : t.val * 512 + y0.val < 4096 := by
    have := t8 t
    omega
  have he : ((cfg0.win 8).blk t).view.emb (show S512x512.Idx from ix2 y0 y1) = (show S4096x512.Idx from ix2 ⟨t.val * 512 + y0.val, hb⟩ y1) := by
    blk_ext [idx t]
  refine Eq.trans ?_ (congrArg (lay 1 (n := 4096) (w := 512) (φ := .bf16) (gV (A1 m c))) he).symm
  blk_simp
  rw [after0_8]
  refine (st1_v m c t y0 y1).trans ((v_blk m c t _ _).trans ?_)
  show gV (A1 m c) (t.val * 512 + y0.val) y1.val = gV (A1 m c) (1 * (t.val * 512 + y0.val) + y1.val / 512) (y1.val % 512)
  exact congrArg₂ (gV (A1 m c)) (by omega) (by omega)

theorem final4_q : (dats m 0 c).arrAt 9 (cfgs 0).N = lay 4 (n := 1024) (w := 2048) (φ := .bf16) (gR (A0 m c) (A1 m c) 0) := by
  refine (dats m 0 c).arrAt_eq_of_covers 9 _ (by decide +kernel) fun t _ y => ?_
  idx_vars y
  have hb : t.val * 128 + y0.val < 1024 := by
    have := t8 t
    omega
  have he : ((cfg0.win 9).blk t).view.emb (show S128x2048.Idx from ix2 y0 y1) = (show S1024x2048.Idx from ix2 ⟨t.val * 128 + y0.val, hb⟩ y1) := by
    blk_ext [idx t]
  refine Eq.trans ?_ (congrArg (lay 4 (n := 1024) (w := 2048) (φ := .bf16) (gR (A0 m c) (A1 m c) 0)) he).symm
  blk_simp
  rw [after0_9]
  refine (st4_q m c t y0 y1).trans ((q_blk m c t _ _).trans ?_)
  show gR (A0 m c) (A1 m c) 0 (t.val * 512 + (4 * y0.val + y1.val / 512)) (y1.val % 512) = gR (A0 m c) (A1 m c) 0 (4 * (t.val * 128 + y0.val) + y1.val / 512) (y1.val % 512)
  exact congrArg (fun s => gR (A0 m c) (A1 m c) 0 s (y1.val % 512)) (by omega)

theorem final4_k : (dats m 0 c).arrAt 10 (cfgs 0).N = lay 4 (n := 1024) (w := 2048) (φ := .bf16) (gR (A0 m c) (A1 m c) 512) := by
  refine (dats m 0 c).arrAt_eq_of_covers 10 _ (by decide +kernel) fun t _ y => ?_
  idx_vars y
  have hb : t.val * 128 + y0.val < 1024 := by
    have := t8 t
    omega
  have he : ((cfg0.win 10).blk t).view.emb (show S128x2048.Idx from ix2 y0 y1) = (show S1024x2048.Idx from ix2 ⟨t.val * 128 + y0.val, hb⟩ y1) := by
    blk_ext [idx t]
  refine Eq.trans ?_ (congrArg (lay 4 (n := 1024) (w := 2048) (φ := .bf16) (gR (A0 m c) (A1 m c) 512)) he).symm
  blk_simp
  rw [after0_10]
  refine (st4_k m c t y0 y1).trans ((k_blk m c t _ _).trans ?_)
  show gR (A0 m c) (A1 m c) 512 (t.val * 512 + (4 * y0.val + y1.val / 512)) (y1.val % 512) = gR (A0 m c) (A1 m c) 512 (4 * (t.val * 128 + y0.val) + y1.val / 512) (y1.val % 512)
  exact congrArg (fun s => gR (A0 m c) (A1 m c) 512 s (y1.val % 512)) (by omega)

theorem final4_v : (dats m 0 c).arrAt 11 (cfgs 0).N = lay 4 (n := 1024) (w := 2048) (φ := .bf16) (gV (A1 m c)) := by
  refine (dats m 0 c).arrAt_eq_of_covers 11 _ (by decide +kernel) fun t _ y => ?_
  idx_vars y
  have hb : t.val * 128 + y0.val < 1024 := by
    have := t8 t
    omega
  have he : ((cfg0.win 11).blk t).view.emb (show S128x2048.Idx from ix2 y0 y1) = (show S1024x2048.Idx from ix2 ⟨t.val * 128 + y0.val, hb⟩ y1) := by
    blk_ext [idx t]
  refine Eq.trans ?_ (congrArg (lay 4 (n := 1024) (w := 2048) (φ := .bf16) (gV (A1 m c))) he).symm
  blk_simp
  rw [after0_11]
  refine (st4_v m c t y0 y1).trans ((v_blk m c t _ _).trans ?_)
  show gV (A1 m c) (t.val * 512 + (4 * y0.val + y1.val / 512)) (y1.val % 512) = gV (A1 m c) (4 * (t.val * 128 + y0.val) + y1.val / 512) (y1.val % 512)
  exact congrArg (fun s => gV (A1 m c) s (y1.val % 512)) (by omega)

theorem final16_q : (dats m 0 c).arrAt 12 (cfgs 0).N = lay 16 (n := 256) (w := 8192) (φ := .bf16) (gR (A0 m c) (A1 m c) 0) := by
  refine (dats m 0 c).arrAt_eq_of_covers 12 _ (by decide +kernel) fun t _ y => ?_
  idx_vars y
  have hb : t.val * 32 + y0.val < 256 := by
    have := t8 t
    omega
  have he : ((cfg0.win 12).blk t).view.emb (show S32x8192.Idx from ix2 y0 y1) = (show S256x8192.Idx from ix2 ⟨t.val * 32 + y0.val, hb⟩ y1) := by
    blk_ext [idx t]
  refine Eq.trans ?_ (congrArg (lay 16 (n := 256) (w := 8192) (φ := .bf16) (gR (A0 m c) (A1 m c) 0)) he).symm
  blk_simp
  rw [after0_12]
  refine (st16_q m c t y0 y1).trans ((q_blk m c t _ _).trans ?_)
  show gR (A0 m c) (A1 m c) 0 (t.val * 512 + (16 * y0.val + y1.val / 512)) (y1.val % 512) = gR (A0 m c) (A1 m c) 0 (16 * (t.val * 32 + y0.val) + y1.val / 512) (y1.val % 512)
  exact congrArg (fun s => gR (A0 m c) (A1 m c) 0 s (y1.val % 512)) (by omega)

theorem final16_k : (dats m 0 c).arrAt 13 (cfgs 0).N = lay 16 (n := 256) (w := 8192) (φ := .bf16) (gR (A0 m c) (A1 m c) 512) := by
  refine (dats m 0 c).arrAt_eq_of_covers 13 _ (by decide +kernel) fun t _ y => ?_
  idx_vars y
  have hb : t.val * 32 + y0.val < 256 := by
    have := t8 t
    omega
  have he : ((cfg0.win 13).blk t).view.emb (show S32x8192.Idx from ix2 y0 y1) = (show S256x8192.Idx from ix2 ⟨t.val * 32 + y0.val, hb⟩ y1) := by
    blk_ext [idx t]
  refine Eq.trans ?_ (congrArg (lay 16 (n := 256) (w := 8192) (φ := .bf16) (gR (A0 m c) (A1 m c) 512)) he).symm
  blk_simp
  rw [after0_13]
  refine (st16_k m c t y0 y1).trans ((k_blk m c t _ _).trans ?_)
  show gR (A0 m c) (A1 m c) 512 (t.val * 512 + (16 * y0.val + y1.val / 512)) (y1.val % 512) = gR (A0 m c) (A1 m c) 512 (16 * (t.val * 32 + y0.val) + y1.val / 512) (y1.val % 512)
  exact congrArg (fun s => gR (A0 m c) (A1 m c) 512 s (y1.val % 512)) (by omega)

theorem final16_v : (dats m 0 c).arrAt 14 (cfgs 0).N = lay 16 (n := 256) (w := 8192) (φ := .bf16) (gV (A1 m c)) := by
  refine (dats m 0 c).arrAt_eq_of_covers 14 _ (by decide +kernel) fun t _ y => ?_
  idx_vars y
  have hb : t.val * 32 + y0.val < 256 := by
    have := t8 t
    omega
  have he : ((cfg0.win 14).blk t).view.emb (show S32x8192.Idx from ix2 y0 y1) = (show S256x8192.Idx from ix2 ⟨t.val * 32 + y0.val, hb⟩ y1) := by
    blk_ext [idx t]
  refine Eq.trans ?_ (congrArg (lay 16 (n := 256) (w := 8192) (φ := .bf16) (gV (A1 m c))) he).symm
  blk_simp
  rw [after0_14]
  refine (st16_v m c t y0 y1).trans ((v_blk m c t _ _).trans ?_)
  show gV (A1 m c) (t.val * 512 + (16 * y0.val + y1.val / 512)) (y1.val % 512) = gV (A1 m c) (16 * (t.val * 32 + y0.val) + y1.val / 512) (y1.val % 512)
  exact congrArg (fun s => gV (A1 m c) s (y1.val % 512)) (by omega)

end Cert.K.Rope

end
-- ==== Proof.Rope.Ref.lean ====
/- What the reference computes of the rotary embedding. -/
module

public import proofs.«01_k».proof.Proof.Rope.Spec
public import proofs.«01_k».proof.Proof.Gen.RopeReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.K.Rope

open Cert.K.AttnSum (ang cs sn Sq at2 at2_eq)
open Cert.RopeReferenceIdeal Cert.RopeReferenceIdeal.Gen Cert.RopeReferenceIdeal.Read

section
variable (z : FVec Ideal S1x4096x8x64 .f32) (a b : FVec Ideal S1x4096x1x8 .f32)

abbrev lo : FVec Ideal S1x4096x8x8 .f32 := extractStridedSlice S1x4096x8x8 ![0, 0, 0, 0] z slices_S1x4096x8x64_S1x4096x8x8_0_0_0_0
abbrev hi : FVec Ideal S1x4096x8x8 .f32 := extractStridedSlice S1x4096x8x8 ![0, 0, 0, 8] z slices_S1x4096x8x64_S1x4096x8x8_0_0_0_8
abbrev rest : FVec Ideal S1x4096x8x48 .f32 := extractStridedSlice S1x4096x8x48 ![0, 0, 0, 16] z slices_S1x4096x8x64_S1x4096x8x48_0_0_0_16
abbrev wide : FVec Ideal S1x4096x8x8 .f32 := broadcastInDim S1x4096x8x8 ![0, 1, 2, 3] bcast_S1x4096x1x8_S1x4096x8x8_0_1_2_3 a

/-- Three groups of lanes side by side. -/
def side3 (p q : FVec Ideal S1x4096x8x8 .f32) (r : FVec Ideal S1x4096x8x48 .f32) : FVec Ideal S1x4096x8x64 .f32 :=
  concatenate S1x4096x8x64 3 [⟨S1x4096x8x8, p⟩, ⟨S1x4096x8x8, q⟩, ⟨S1x4096x8x48, r⟩] concatenates_S1x4096x8x8_S1x4096x8x8_S1x4096x8x48_S1x4096x8x64_d3

/-- The three groups of lanes apart, rotated, and side by side again. -/
def rotH : FVec Ideal S1x4096x8x64 .f32 :=
  side3 (subf (mulf (lo z) (wide a)) (mulf (hi z) (wide b))) (addf (mulf (hi z) (wide a)) (mulf (lo z) (wide b))) (rest z)

theorem side3_apply (p q : FVec Ideal S1x4096x8x8 .f32) (r : FVec Ideal S1x4096x8x48 .f32) (s : Fin 4096) (h : Fin 8) (e : Fin 64) : side3 p q r (ix4 0 s h e)
    = if h1 : e.val < 8 then p (ix4 0 s h ⟨e.val, h1⟩) else if h2 : e.val - 8 < 8 then q (ix4 0 s h ⟨e.val - 8, h2⟩) else r (ix4 0 s h ⟨e.val - 8 - 8, by omega⟩) := by
  pointwise [side3]

theorem lo_apply (s : Fin 4096) (h : Fin 8) (k : Fin 8) : lo z (ix4 0 s h k) = z (ix4 0 s h ⟨k.val, by omega⟩) := by
  pointwise [lo]
theorem hi_apply (s : Fin 4096) (h : Fin 8) (k : Fin 8) : hi z (ix4 0 s h k) = z (ix4 0 s h ⟨8 + k.val, by omega⟩) := by
  pointwise [hi]
theorem rest_apply (s : Fin 4096) (h : Fin 8) (k : Fin 48) : rest z (ix4 0 s h k) = z (ix4 0 s h ⟨16 + k.val, by omega⟩) := by
  pointwise [rest]
theorem wide_apply (s : Fin 4096) (h : Fin 8) (k : Fin 8) : wide a (ix4 0 s h k) = a (ix4 0 s 0 k) := by
  pointwise [wide]

theorem rotH_apply (s : Fin 4096) (h : Fin 8) (e : Fin 64) : rotH z a b (ix4 0 s h e)
    = if h' : e.val < 8 then z (ix4 0 s h e) * a (ix4 0 s 0 ⟨e.val, h'⟩) - z (ix4 0 s h ⟨e.val + 8, by omega⟩) * b (ix4 0 s 0 ⟨e.val, h'⟩)
      else if h' : e.val < 16 then z (ix4 0 s h e) * a (ix4 0 s 0 ⟨e.val - 8, by omega⟩) + z (ix4 0 s h ⟨e.val - 8, by omega⟩) * b (ix4 0 s 0 ⟨e.val - 8, by omega⟩)
      else z (ix4 0 s h e) := by
  have at_ (u v : Fin 64) (huv : u.val = v.val) : z (ix4 0 s h u) = z (ix4 0 s h v) := congrArg z (congrArg (ix4 0 s h) (Fin.ext huv))
  refine (side3_apply _ _ _ s h e).trans ?_
  by_cases h1 : e.val < 8
  · rw [dif_pos h1, dif_pos h1]
    exact congrArg₂ (fun p q : EReal => p - q) (Ideal.mul_congr (lo_apply z s h _) (wide_apply a s h _)) (Ideal.mul_congr ((hi_apply z s h _).trans (at_ _ _ (Nat.add_comm _ _))) (wide_apply b s h _))
  · rw [dif_neg h1, dif_neg h1]
    by_cases h2 : e.val < 16
    · rw [dif_pos (show e.val - 8 < 8 by omega), dif_pos h2]
      exact Ideal.add_congr (Ideal.mul_congr ((hi_apply z s h _).trans (at_ _ _ (by dsimp only; omega))) (wide_apply a s h _)) (Ideal.mul_congr (lo_apply z s h _) (wide_apply b s h _))
    · rw [dif_neg (show ¬ e.val - 8 < 8 by omega), dif_neg h2]
      exact (rest_apply z s h _).trans (at_ _ _ (by dsimp only; omega))

/-- By the lane of the whole row. -/
theorem rotH_row (s : Fin 4096) (f : ℕ → EReal) (c d : Fin 8 → EReal) (hz : ∀ (h : Fin 8) (e : Fin 64), z (ix4 0 s h e) = f (h.val * 64 + e.val))
    (ha : ∀ e, a (ix4 0 s 0 e) = c e) (hb : ∀ e, b (ix4 0 s 0 e) = d e) (h : Fin 8) (e : Fin 64) :
    rotH z a b (ix4 0 s h e) = rotF c d f (h.val * 64 + e.val) := by
  have hm : (h.val * 64 + e.val) % 64 = e.val := by omega
  rw [rotH_apply]
  simp only [hz, ha, hb]
  unfold rotF
  simp only [hm]
  by_cases h1 : e.val < 8
  · rw [dif_pos h1, dif_pos h1, Nat.add_assoc]
  · rw [dif_neg h1, dif_neg h1]
    by_cases h2 : e.val < 16
    · rw [dif_pos h2, dif_pos h2, show h.val * 64 + e.val - 8 = h.val * 64 + (e.val - 8) by omega]
    · rw [dif_neg h2, dif_neg h2]

end

section
variable (x0 : IVec S4096 32) (s : Fin 4096) (e : Fin 8)

theorem angle_apply : val_main_v16 (F := Ideal) x0 (ix4 0 s 0 e) = ang x0 s e := by
  pointwise [val_main_v16, val_main_v15, val_main_v14, val_main_v13, val_main_v12, val_main_v11, val_main_v10, val_main_v9, val_main_v8, val_main_v7, val_main_v6, val_main_v5, val_main_cst, val_main_cst_0]
  rfl

theorem cos_q : val_main_v17 (F := Ideal) x0 (ix4 0 s 0 e) = cs x0 s e := congrArg Ideal.cos (angle_apply x0 s e)
theorem sin_q : val_main_v18 (F := Ideal) x0 (ix4 0 s 0 e) = sn x0 s e := congrArg Ideal.sin (angle_apply x0 s e)
theorem cos_k : val_main_v47 (F := Ideal) x0 (ix4 0 s 0 e) = cs x0 s e := cos_q x0 s e
theorem sin_k : val_main_v48 (F := Ideal) x0 (ix4 0 s 0 e) = sn x0 s e := sin_q x0 s e

end

section
variable (x0 : IVec S4096 32) (x1 : FVec Ideal S4096x2048 .f32) (s : Fin 4096) (h : Fin 8) (e : Fin 64) (j : Fin 512)

theorem head_q : val_main_v4 (F := Ideal) x1 (ix4 0 s h e) = at2 x1 s.val (0 + (h.val * 64 + e.val)) := by
  rw [at2_eq x1 s.isLt (by omega)]
  pointwise [val_main_v4, val_main_v0]

theorem head_k : val_main_v34 (F := Ideal) x1 (ix4 0 s h e) = at2 x1 s.val (512 + (h.val * 64 + e.val)) := by
  rw [at2_eq x1 s.isLt (by omega)]
  pointwise [val_main_v34, val_main_v1]

theorem ref_q : val_main_v33 (F := Ideal) x0 x1 (ix4 0 s h e) = gR x0 x1 0 s.val (h.val * 64 + e.val) := by
  unfold gR
  rw [dif_pos s.isLt]
  exact rotH_row (val_main_v4 (F := Ideal) x1) (val_main_v17 (F := Ideal) x0) (val_main_v18 (F := Ideal) x0) s (fun j => at2 x1 s.val (0 + j)) _ _ (head_q x1 s) (cos_q x0 s) (sin_q x0 s) h e

theorem ref_k : val_main_v63 (F := Ideal) x0 x1 (ix4 0 s h e) = gR x0 x1 512 s.val (h.val * 64 + e.val) := by
  unfold gR
  rw [dif_pos s.isLt]
  exact rotH_row (val_main_v34 (F := Ideal) x1) (val_main_v47 (F := Ideal) x0) (val_main_v48 (F := Ideal) x0) s (fun j => at2 x1 s.val (512 + j)) _ _ (head_k x1 s) (cos_k x0 s) (sin_k x0 s) h e

theorem ref_v : val_main_v64 (F := Ideal) x1 (ix2 s j) = gV x1 s.val j.val := by
  unfold gV
  rw [at2_eq x1 s.isLt (by omega)]
  pointwise [val_main_v64, val_main_v2]

end

section
variable (w : FVec Ideal S1x4096x8x64 .bf16) (u : FVec Ideal S4096x512 .bf16) (g : ℕ → ℕ → EReal)

theorem heads1 (hw : ∀ (s : Fin 4096) (h : Fin 8) (e : Fin 64), w (ix4 0 s h e) = g s.val (h.val * 64 + e.val)) :
    shapeCast S4096x512 w shapeCasts_S1x4096x8x64_S4096x512 = lay 1 (n := 4096) (w := 512) (φ := .bf16) g := by
  funext i
  idx_vars i
  have e : shapeCast S4096x512 w shapeCasts_S1x4096x8x64_S4096x512 (ix2 i0 i1) = w (ix4 0 ⟨1 * i0.val + i1.val / 512, by omega⟩ ⟨i1.val % 512 / 64, by omega⟩ ⟨i1.val % 64, by omega⟩) := by
    pointwise
    blk_ext!
  exact e.trans ((hw _ _ _).trans (congrArg (g (1 * i0.val + i1.val / 512)) (show i1.val % 512 / 64 * 64 + i1.val % 64 = i1.val % 512 by omega)))

theorem heads4 (hw : ∀ (s : Fin 4096) (h : Fin 8) (e : Fin 64), w (ix4 0 s h e) = g s.val (h.val * 64 + e.val)) :
    shapeCast S1024x2048 w shapeCasts_S1x4096x8x64_S1024x2048 = lay 4 (n := 1024) (w := 2048) (φ := .bf16) g := by
  funext i
  idx_vars i
  have e : shapeCast S1024x2048 w shapeCasts_S1x4096x8x64_S1024x2048 (ix2 i0 i1) = w (ix4 0 ⟨4 * i0.val + i1.val / 512, by omega⟩ ⟨i1.val % 512 / 64, by omega⟩ ⟨i1.val % 64, by omega⟩) := by
    pointwise
    blk_ext!
  exact e.trans ((hw _ _ _).trans (congrArg (g (4 * i0.val + i1.val / 512)) (show i1.val % 512 / 64 * 64 + i1.val % 64 = i1.val % 512 by omega)))

theorem rows4 (hu : ∀ (s : Fin 4096) (j : Fin 512), u (ix2 s j) = g s.val j.val) :
    shapeCast S1024x2048 u shapeCasts_S4096x512_S1024x2048 = lay 4 (n := 1024) (w := 2048) (φ := .bf16) g := by
  funext i
  idx_vars i
  have e : shapeCast S1024x2048 u shapeCasts_S4096x512_S1024x2048 (ix2 i0 i1) = u (ix2 ⟨4 * i0.val + i1.val / 512, by omega⟩ ⟨i1.val % 512, by omega⟩) := by
    pointwise
    blk_ext!
  exact e.trans (hu _ _)

theorem heads16 (hw : ∀ (s : Fin 4096) (h : Fin 8) (e : Fin 64), w (ix4 0 s h e) = g s.val (h.val * 64 + e.val)) :
    shapeCast S256x8192 w shapeCasts_S1x4096x8x64_S256x8192 = lay 16 (n := 256) (w := 8192) (φ := .bf16) g := by
  funext i
  idx_vars i
  have e : shapeCast S256x8192 w shapeCasts_S1x4096x8x64_S256x8192 (ix2 i0 i1) = w (ix4 0 ⟨16 * i0.val + i1.val / 512, by omega⟩ ⟨i1.val % 512 / 64, by omega⟩ ⟨i1.val % 64, by omega⟩) := by
    pointwise
    blk_ext!
  exact e.trans ((hw _ _ _).trans (congrArg (g (16 * i0.val + i1.val / 512)) (show i1.val % 512 / 64 * 64 + i1.val % 64 = i1.val % 512 by omega)))

theorem rows16 (hu : ∀ (s : Fin 4096) (j : Fin 512), u (ix2 s j) = g s.val j.val) :
    shapeCast S256x8192 u shapeCasts_S4096x512_S256x8192 = lay 16 (n := 256) (w := 8192) (φ := .bf16) g := by
  funext i
  idx_vars i
  have e : shapeCast S256x8192 u shapeCasts_S4096x512_S256x8192 (ix2 i0 i1) = u (ix2 ⟨16 * i0.val + i1.val / 512, by omega⟩ ⟨i1.val % 512, by omega⟩) := by
    pointwise
    blk_ext!
  exact e.trans (hu _ _)

theorem rows1 (hu : ∀ (s : Fin 4096) (j : Fin 512), u (ix2 s j) = g s.val j.val) : u = lay 1 (n := 4096) (w := 512) (φ := .bf16) g := by
  funext i
  idx_vars i
  exact (hu i0 i1).trans (congrArg₂ g (show i0.val = 1 * i0.val + i1.val / 512 by omega) (show i1.val = i1.val % 512 by omega))

end

end Cert.K.Rope

end
-- ==== Proof.Rope.Claim.lean ====
/- The rotary embedding: the kernel computes what the reference computes. -/
module

public import proofs.«01_k».proof.Proof.Rope.Value
public import proofs.«01_k».proof.Proof.Rope.Ref
public import proofs.«01_k».proof.Proof.Gen.RopeReferenceIdeal.Run
public import proofs.«01_k».proof.Defs

@[expose] public section

set_option maxRecDepth 16384

noncomputable section

open Idealize.ShloMosaic Idealize.ShloMosaic.TcCoe Idealize.SL.Sem

namespace Cert.K.Rope

open Cert.RopeReferenceIdeal.Read

set_option maxHeartbeats 2000000 in
theorem algebraic : Cert.algebraic_RopeKernelIdeal_RopeReferenceIdeal := by
  pair_intro
  · run_from Cert.RopeKernelIdeal.Value.run_blocks m g
  · refine (θ_run Cert.RopeReferenceIdeal.defs _ _).mono (fun r h c => ?_) (Cert.RopeReferenceIdeal.Value.run m' g')
    obtain ⟨r0, r1, r2, r3, r4, r5, r6, r7, r8, rest⟩ := h c
    obtain ⟨h0, h1⟩ := hagree c
    refine ⟨r0.trans ?_, r1.trans ?_, r2.trans ?_, r3.trans ?_, r4.trans ?_, r5.trans ?_, r6.trans ?_, r7.trans ?_, r8.trans ?_, rest⟩
    · refine (val_main_v65_eq (F := Ideal) m' c).trans ((heads1 (val_main_v33 (F := Ideal) (m' (c.tc.loc Cert.RopeReferenceIdeal.main_arg0)) (m' (c.tc.loc Cert.RopeReferenceIdeal.main_arg1))) (gR (m' (c.tc.loc Cert.RopeReferenceIdeal.main_arg0)) (m' (c.tc.loc Cert.RopeReferenceIdeal.main_arg1)) 0) (ref_q _ _)).trans ?_)
      rw [h0, h1]
      exact (final1_q m c).symm
    · refine (val_main_v66_eq (F := Ideal) m' c).trans ((heads1 (val_main_v63 (F := Ideal) (m' (c.tc.loc Cert.RopeReferenceIdeal.main_arg0)) (m' (c.tc.loc Cert.RopeReferenceIdeal.main_arg1))) (gR (m' (c.tc.loc Cert.RopeReferenceIdeal.main_arg0)) (m' (c.tc.loc Cert.RopeReferenceIdeal.main_arg1)) 512) (ref_k _ _)).trans ?_)
      rw [h0, h1]
      exact (final1_k m c).symm
    · refine (val_main_v64_eq (F := Ideal) (m' (c.tc.loc Cert.RopeReferenceIdeal.main_arg1))).trans ((rows1 (val_main_v64 (F := Ideal) (m' (c.tc.loc Cert.RopeReferenceIdeal.main_arg1))) (gV (m' (c.tc.loc Cert.RopeReferenceIdeal.main_arg1))) (ref_v _)).trans ?_)
      rw [h1]
      exact (final1_v m c).symm
    · refine (val_main_v67_eq (F := Ideal) m' c).trans ((heads4 (val_main_v33 (F := Ideal) (m' (c.tc.loc Cert.RopeReferenceIdeal.main_arg0)) (m' (c.tc.loc Cert.RopeReferenceIdeal.main_arg1))) (gR (m' (c.tc.loc Cert.RopeReferenceIdeal.main_arg0)) (m' (c.tc.loc Cert.RopeReferenceIdeal.main_arg1)) 0) (ref_q _ _)).trans ?_)
      rw [h0, h1]
      exact (final4_q m c).symm
    · refine (val_main_v68_eq (F := Ideal) m' c).trans ((heads4 (val_main_v63 (F := Ideal) (m' (c.tc.loc Cert.RopeReferenceIdeal.main_arg0)) (m' (c.tc.loc Cert.RopeReferenceIdeal.main_arg1))) (gR (m' (c.tc.loc Cert.RopeReferenceIdeal.main_arg0)) (m' (c.tc.loc Cert.RopeReferenceIdeal.main_arg1)) 512) (ref_k _ _)).trans ?_)
      rw [h0, h1]
      exact (final4_k m c).symm
    · refine (val_main_v69_eq (F := Ideal) (m' (c.tc.loc Cert.RopeReferenceIdeal.main_arg1))).trans ((rows4 (val_main_v64 (F := Ideal) (m' (c.tc.loc Cert.RopeReferenceIdeal.main_arg1))) (gV (m' (c.tc.loc Cert.RopeReferenceIdeal.main_arg1))) (ref_v _)).trans ?_)
      rw [h1]
      exact (final4_v m c).symm
    · refine (val_main_v70_eq (F := Ideal) m' c).trans ((heads16 (val_main_v33 (F := Ideal) (m' (c.tc.loc Cert.RopeReferenceIdeal.main_arg0)) (m' (c.tc.loc Cert.RopeReferenceIdeal.main_arg1))) (gR (m' (c.tc.loc Cert.RopeReferenceIdeal.main_arg0)) (m' (c.tc.loc Cert.RopeReferenceIdeal.main_arg1)) 0) (ref_q _ _)).trans ?_)
      rw [h0, h1]
      exact (final16_q m c).symm
    · refine (val_main_v71_eq (F := Ideal) m' c).trans ((heads16 (val_main_v63 (F := Ideal) (m' (c.tc.loc Cert.RopeReferenceIdeal.main_arg0)) (m' (c.tc.loc Cert.RopeReferenceIdeal.main_arg1))) (gR (m' (c.tc.loc Cert.RopeReferenceIdeal.main_arg0)) (m' (c.tc.loc Cert.RopeReferenceIdeal.main_arg1)) 512) (ref_k _ _)).trans ?_)
      rw [h0, h1]
      exact (final16_k m c).symm
    · refine (val_main_v72_eq (F := Ideal) (m' (c.tc.loc Cert.RopeReferenceIdeal.main_arg1))).trans ((rows16 (val_main_v64 (F := Ideal) (m' (c.tc.loc Cert.RopeReferenceIdeal.main_arg1))) (gV (m' (c.tc.loc Cert.RopeReferenceIdeal.main_arg1))) (ref_v _)).trans ?_)
      rw [h1]
      exact (final16_v m c).symm

end Cert.K.Rope

end
-- ==== Proof.lean ====
module

public import proofs.«01_k».proof.Defs
public import proofs.«01_k».proof.Proof.Gen.FfnActKernel
public import proofs.«01_k».proof.Proof.Gen.FfnActKernel.Skeleton
public import proofs.«01_k».proof.Proof.Gen.FfnActKernel.Launch
public import proofs.«01_k».proof.Proof.Gen.FfnActKernel.Points
public import proofs.«01_k».proof.Proof.Gen.FfnActKernel.Frame
public import proofs.«01_k».proof.Proof.Gen.FfnActKernelIdeal
public import proofs.«01_k».proof.Proof.Gen.FfnActKernelIdeal.Skeleton
public import proofs.«01_k».proof.Proof.Gen.FfnActKernelIdeal.Launch
public import proofs.«01_k».proof.Proof.Gen.FfnActKernelIdeal.Points
public import proofs.«01_k».proof.Proof.Gen.FfnActKernelIdeal.Frame
public import proofs.«01_k».proof.Proof.Gen.FfnActReferenceIdeal
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossReferenceIdeal
public import proofs.«01_k».proof.Proof.Gen.DiagKernel
public import proofs.«01_k».proof.Proof.Gen.DiagKernel.Skeleton
public import proofs.«01_k».proof.Proof.Gen.DiagKernel.Launch
public import proofs.«01_k».proof.Proof.Gen.DiagKernel.Points
public import proofs.«01_k».proof.Proof.Gen.DiagKernel.Frame
public import proofs.«01_k».proof.Proof.Gen.DiagKernelIdeal
public import proofs.«01_k».proof.Proof.Gen.DiagKernelIdeal.Skeleton
public import proofs.«01_k».proof.Proof.Gen.DiagKernelIdeal.Launch
public import proofs.«01_k».proof.Proof.Gen.DiagKernelIdeal.Points
public import proofs.«01_k».proof.Proof.Gen.DiagKernelIdeal.Frame
public import proofs.«01_k».proof.Proof.Gen.DiagReferenceIdeal
public import proofs.«01_k».proof.Proof.Gen.Pre_ffn_finite
public import proofs.«01_k».proof.Proof.Gen.FfnActReferenceIdeal.Run
public import proofs.«01_k».proof.Proof.Gen.FfnActReferenceIdeal.Read
public import proofs.«01_k».proof.Proof.Gen.LossReferenceIdeal.Run
public import proofs.«01_k».proof.Proof.Gen.LossReferenceIdeal.Read
public import proofs.«01_k».proof.Proof.Gen.DiagReferenceIdeal.Run
public import proofs.«01_k».proof.Proof.Gen.DiagReferenceIdeal.Read
public import proofs.«01_k».proof.Proof.Gen.DiagKernelIdeal.Value
public import proofs.«01_k».proof.Proof.Gen.AttnKernel
public import proofs.«01_k».proof.Proof.Gen.AttnKernel.Skeleton
public import proofs.«01_k».proof.Proof.Gen.AttnKernel.Launch
public import proofs.«01_k».proof.Proof.Gen.AttnKernel.Points
public import proofs.«01_k».proof.Proof.Gen.AttnKernel.Frame
public import proofs.«01_k».proof.Proof.Gen.AttnKernelIdeal
public import proofs.«01_k».proof.Proof.Gen.AttnKernelIdeal.Skeleton
public import proofs.«01_k».proof.Proof.Gen.AttnKernelIdeal.Launch
public import proofs.«01_k».proof.Proof.Gen.AttnKernelIdeal.Points
public import proofs.«01_k».proof.Proof.Gen.AttnKernelIdeal.Frame
public import proofs.«01_k».proof.Proof.Gen.AttnReferenceIdeal
public import proofs.«01_k».proof.Proof.Gen.Pre_attn_finite
public import proofs.«01_k».proof.Proof.Gen.AttnReferenceIdeal.Run
public import proofs.«01_k».proof.Proof.Gen.AttnReferenceIdeal.Read
public import proofs.«01_k».proof.Proof.Attn.Claim
public import proofs.«01_k».proof.Proof.Ffn.Claim
public import proofs.«01_k».proof.Proof.Loss.Claim
public import proofs.«01_k».proof.Proof.Diag.Claim
public import Idealize.ShloMosaic.Adequacy
public import Idealize.ShloMosaic.Init
public import proofs.«01_k».proof.Proof.Gen.AttnSumKernel
public import proofs.«01_k».proof.Proof.Gen.AttnSumKernelIdeal
public import proofs.«01_k».proof.Proof.Gen.AttnSumKernel.Skeleton
public import proofs.«01_k».proof.Proof.Gen.AttnSumKernelIdeal.Skeleton
public import proofs.«01_k».proof.Proof.Gen.AttnSumKernel.Launch
public import proofs.«01_k».proof.Proof.Gen.AttnSumKernelIdeal.Launch
public import proofs.«01_k».proof.Proof.Gen.AttnSumKernel.Points
public import proofs.«01_k».proof.Proof.Gen.AttnSumKernelIdeal.Points
public import proofs.«01_k».proof.Proof.Gen.AttnSumKernel.Frame
public import proofs.«01_k».proof.Proof.Gen.AttnSumKernelIdeal.Frame
public import proofs.«01_k».proof.Proof.Gen.AttnSumKernelIdeal.Value
public import proofs.«01_k».proof.Proof.Gen.AttnSumReferenceIdeal
public import proofs.«01_k».proof.Proof.Gen.AttnSumReferenceIdeal.Run
public import proofs.«01_k».proof.Proof.Gen.AttnSumReferenceIdeal.Read
public import proofs.«01_k».proof.Proof.AttnSum.Claim
public import proofs.«01_k».proof.Proof.Gen.MixKernel
public import proofs.«01_k».proof.Proof.Gen.MixKernelIdeal
public import proofs.«01_k».proof.Proof.Gen.MixKernel.Skeleton
public import proofs.«01_k».proof.Proof.Gen.MixKernelIdeal.Skeleton
public import proofs.«01_k».proof.Proof.Gen.MixKernel.Launch
public import proofs.«01_k».proof.Proof.Gen.MixKernelIdeal.Launch
public import proofs.«01_k».proof.Proof.Gen.MixKernel.Points
public import proofs.«01_k».proof.Proof.Gen.MixKernelIdeal.Points
public import proofs.«01_k».proof.Proof.Gen.MixKernel.Frame
public import proofs.«01_k».proof.Proof.Gen.MixKernelIdeal.Frame
public import proofs.«01_k».proof.Proof.Gen.MixKernelIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Mix.Claim
public import proofs.«01_k».proof.Proof.Gen.GluKernel
public import proofs.«01_k».proof.Proof.Gen.GluKernelIdeal
public import proofs.«01_k».proof.Proof.Gen.GluKernel.Skeleton
public import proofs.«01_k».proof.Proof.Gen.GluKernelIdeal.Skeleton
public import proofs.«01_k».proof.Proof.Gen.GluKernel.Launch
public import proofs.«01_k».proof.Proof.Gen.GluKernelIdeal.Launch
public import proofs.«01_k».proof.Proof.Gen.GluKernel.Points
public import proofs.«01_k».proof.Proof.Gen.GluKernelIdeal.Points
public import proofs.«01_k».proof.Proof.Gen.GluKernel.Frame
public import proofs.«01_k».proof.Proof.Gen.GluKernelIdeal.Frame
public import proofs.«01_k».proof.Proof.Gen.GluKernelIdeal.Value
public import proofs.«01_k».proof.Proof.Gen.GluReferenceIdeal
public import proofs.«01_k».proof.Proof.Gen.GluReferenceIdeal.Run
public import proofs.«01_k».proof.Proof.Gen.GluReferenceIdeal.Read
public import proofs.«01_k».proof.Proof.Glu.Claim
public import proofs.«01_k».proof.Proof.Gen.PleKernel
public import proofs.«01_k».proof.Proof.Gen.PleKernelIdeal
public import proofs.«01_k».proof.Proof.Gen.PleKernel.Skeleton
public import proofs.«01_k».proof.Proof.Gen.PleKernelIdeal.Skeleton
public import proofs.«01_k».proof.Proof.Gen.PleKernel.Launch
public import proofs.«01_k».proof.Proof.Gen.PleKernelIdeal.Launch
public import proofs.«01_k».proof.Proof.Gen.PleKernel.Points
public import proofs.«01_k».proof.Proof.Gen.PleKernelIdeal.Points
public import proofs.«01_k».proof.Proof.Gen.PleKernel.Frame
public import proofs.«01_k».proof.Proof.Gen.PleKernelIdeal.Frame
public import proofs.«01_k».proof.Proof.Gen.PleKernelIdeal.Value
public import proofs.«01_k».proof.Proof.Gen.PleReferenceIdeal
public import proofs.«01_k».proof.Proof.Gen.PleReferenceIdeal.Run
public import proofs.«01_k».proof.Proof.Gen.PleReferenceIdeal.Read
public import proofs.«01_k».proof.Proof.Ple.Claim
public import proofs.«01_k».proof.Proof.Gen.FfnPostKernel
public import proofs.«01_k».proof.Proof.Gen.FfnPostKernelIdeal
public import proofs.«01_k».proof.Proof.Gen.FfnPostKernel.Skeleton
public import proofs.«01_k».proof.Proof.Gen.FfnPostKernelIdeal.Skeleton
public import proofs.«01_k».proof.Proof.Gen.FfnPostKernel.Launch
public import proofs.«01_k».proof.Proof.Gen.FfnPostKernelIdeal.Launch
public import proofs.«01_k».proof.Proof.Gen.FfnPostKernel.Points
public import proofs.«01_k».proof.Proof.Gen.FfnPostKernelIdeal.Points
public import proofs.«01_k».proof.Proof.Gen.FfnPostKernel.Frame
public import proofs.«01_k».proof.Proof.Gen.FfnPostKernelIdeal.Frame
public import proofs.«01_k».proof.Proof.Gen.FfnPostKernelIdeal.Value
public import proofs.«01_k».proof.Proof.Gen.FfnPostReferenceIdeal
public import proofs.«01_k».proof.Proof.Gen.FfnPostReferenceIdeal.Run
public import proofs.«01_k».proof.Proof.Gen.FfnPostReferenceIdeal.Read
public import proofs.«01_k».proof.Proof.FfnPost.Claim
public import proofs.«01_k».proof.Proof.Gen.FfnPreKernel
public import proofs.«01_k».proof.Proof.Gen.FfnPreKernelIdeal
public import proofs.«01_k».proof.Proof.Gen.FfnPreKernel.Skeleton
public import proofs.«01_k».proof.Proof.Gen.FfnPreKernelIdeal.Skeleton
public import proofs.«01_k».proof.Proof.Gen.FfnPreKernel.Launch
public import proofs.«01_k».proof.Proof.Gen.FfnPreKernelIdeal.Launch
public import proofs.«01_k».proof.Proof.Gen.FfnPreKernel.Points
public import proofs.«01_k».proof.Proof.Gen.FfnPreKernelIdeal.Points
public import proofs.«01_k».proof.Proof.Gen.FfnPreKernel.Frame
public import proofs.«01_k».proof.Proof.Gen.FfnPreKernelIdeal.Frame
public import proofs.«01_k».proof.Proof.Gen.FfnPreKernelIdeal.Value
public import proofs.«01_k».proof.Proof.Gen.FfnPreReferenceIdeal
public import proofs.«01_k».proof.Proof.Gen.FfnPreReferenceIdeal.Run
public import proofs.«01_k».proof.Proof.Gen.FfnPreReferenceIdeal.Read
public import proofs.«01_k».proof.Proof.FfnPre.Claim
public import proofs.«01_k».proof.Proof.Gen.MixInKernel
public import proofs.«01_k».proof.Proof.Gen.MixInKernelIdeal
public import proofs.«01_k».proof.Proof.Gen.MixInKernel.Skeleton
public import proofs.«01_k».proof.Proof.Gen.MixInKernelIdeal.Skeleton
public import proofs.«01_k».proof.Proof.Gen.MixInKernel.Launch
public import proofs.«01_k».proof.Proof.Gen.MixInKernelIdeal.Launch
public import proofs.«01_k».proof.Proof.Gen.MixInKernel.Points
public import proofs.«01_k».proof.Proof.Gen.MixInKernelIdeal.Points
public import proofs.«01_k».proof.Proof.Gen.MixInKernel.Frame
public import proofs.«01_k».proof.Proof.Gen.MixInKernelIdeal.Frame
public import proofs.«01_k».proof.Proof.Gen.MixInKernelIdeal.Value
public import proofs.«01_k».proof.Proof.Gen.MixInReferenceIdeal
public import proofs.«01_k».proof.Proof.Gen.MixInReferenceIdeal.Run
public import proofs.«01_k».proof.Proof.Gen.MixInReferenceIdeal.Read
public import proofs.«01_k».proof.Proof.MixIn.Claim
public import proofs.«01_k».proof.Proof.Gen.FfnInKernel
public import proofs.«01_k».proof.Proof.Gen.FfnInKernelIdeal
public import proofs.«01_k».proof.Proof.Gen.FfnInKernel.Skeleton
public import proofs.«01_k».proof.Proof.Gen.FfnInKernelIdeal.Skeleton
public import proofs.«01_k».proof.Proof.Gen.FfnInKernel.Launch
public import proofs.«01_k».proof.Proof.Gen.FfnInKernelIdeal.Launch
public import proofs.«01_k».proof.Proof.Gen.FfnInKernel.Points
public import proofs.«01_k».proof.Proof.Gen.FfnInKernelIdeal.Points
public import proofs.«01_k».proof.Proof.Gen.FfnInKernel.Frame
public import proofs.«01_k».proof.Proof.Gen.FfnInKernelIdeal.Frame
public import proofs.«01_k».proof.Proof.Gen.FfnInKernelIdeal.Value
public import proofs.«01_k».proof.Proof.Gen.FfnInReferenceIdeal
public import proofs.«01_k».proof.Proof.Gen.FfnInReferenceIdeal.Run
public import proofs.«01_k».proof.Proof.Gen.FfnInReferenceIdeal.Read
public import proofs.«01_k».proof.Proof.FfnIn.Claim
public import proofs.«01_k».proof.Proof.Gen.PreNormKernel
public import proofs.«01_k».proof.Proof.Gen.PreNormKernelIdeal
public import proofs.«01_k».proof.Proof.Gen.PreNormKernel.Skeleton
public import proofs.«01_k».proof.Proof.Gen.PreNormKernelIdeal.Skeleton
public import proofs.«01_k».proof.Proof.Gen.PreNormKernel.Launch
public import proofs.«01_k».proof.Proof.Gen.PreNormKernelIdeal.Launch
public import proofs.«01_k».proof.Proof.Gen.PreNormKernel.Points
public import proofs.«01_k».proof.Proof.Gen.PreNormKernelIdeal.Points
public import proofs.«01_k».proof.Proof.Gen.PreNormKernel.Frame
public import proofs.«01_k».proof.Proof.Gen.PreNormKernelIdeal.Frame
public import proofs.«01_k».proof.Proof.Gen.PreNormKernelIdeal.Value
public import proofs.«01_k».proof.Proof.Gen.PreNormReferenceIdeal
public import proofs.«01_k».proof.Proof.Gen.PreNormReferenceIdeal.Run
public import proofs.«01_k».proof.Proof.Gen.PreNormReferenceIdeal.Read
public import proofs.«01_k».proof.Proof.PreNorm.Claim
public import proofs.«01_k».proof.Proof.Gen.FfnDownKernel
public import proofs.«01_k».proof.Proof.Gen.FfnDownKernelIdeal
public import proofs.«01_k».proof.Proof.Gen.FfnDownKernel.Skeleton
public import proofs.«01_k».proof.Proof.Gen.FfnDownKernelIdeal.Skeleton
public import proofs.«01_k».proof.Proof.Gen.FfnDownKernel.Launch
public import proofs.«01_k».proof.Proof.Gen.FfnDownKernelIdeal.Launch
public import proofs.«01_k».proof.Proof.Gen.FfnDownKernel.Points
public import proofs.«01_k».proof.Proof.Gen.FfnDownKernelIdeal.Points
public import proofs.«01_k».proof.Proof.Gen.FfnDownKernel.Frame
public import proofs.«01_k».proof.Proof.Gen.FfnDownKernelIdeal.Frame
public import proofs.«01_k».proof.Proof.Gen.FfnDownKernelIdeal.Value
public import proofs.«01_k».proof.Proof.Gen.FfnDownReferenceIdeal
public import proofs.«01_k».proof.Proof.Gen.FfnDownReferenceIdeal.Run
public import proofs.«01_k».proof.Proof.Gen.FfnDownReferenceIdeal.Read
public import proofs.«01_k».proof.Proof.FfnDown.Claim
public import proofs.«01_k».proof.Proof.Gen.SsmGluKernel
public import proofs.«01_k».proof.Proof.Gen.SsmGluKernelIdeal
public import proofs.«01_k».proof.Proof.Gen.SsmGluKernel.Skeleton
public import proofs.«01_k».proof.Proof.Gen.SsmGluKernelIdeal.Skeleton
public import proofs.«01_k».proof.Proof.Gen.SsmGluKernel.Launch
public import proofs.«01_k».proof.Proof.Gen.SsmGluKernelIdeal.Launch
public import proofs.«01_k».proof.Proof.Gen.SsmGluKernel.Points
public import proofs.«01_k».proof.Proof.Gen.SsmGluKernelIdeal.Points
public import proofs.«01_k».proof.Proof.Gen.SsmGluKernel.Frame
public import proofs.«01_k».proof.Proof.Gen.SsmGluKernelIdeal.Frame
public import proofs.«01_k».proof.Proof.Gen.SsmGluKernelIdeal.Value
public import proofs.«01_k».proof.Proof.Gen.SsmGluReferenceIdeal
public import proofs.«01_k».proof.Proof.Gen.SsmGluReferenceIdeal.Run
public import proofs.«01_k».proof.Proof.Gen.SsmGluReferenceIdeal.Read
public import proofs.«01_k».proof.Proof.SsmGlu.Claim
public import proofs.«01_k».proof.Proof.Gen.WOutKernel
public import proofs.«01_k».proof.Proof.Gen.WOutKernelIdeal
public import proofs.«01_k».proof.Proof.Gen.WOutKernel.Skeleton
public import proofs.«01_k».proof.Proof.Gen.WOutKernelIdeal.Skeleton
public import proofs.«01_k».proof.Proof.Gen.WOutKernel.Launch
public import proofs.«01_k».proof.Proof.Gen.WOutKernelIdeal.Launch
public import proofs.«01_k».proof.Proof.Gen.WOutKernel.Points
public import proofs.«01_k».proof.Proof.Gen.WOutKernelIdeal.Points
public import proofs.«01_k».proof.Proof.Gen.WOutKernel.Frame
public import proofs.«01_k».proof.Proof.Gen.WOutKernelIdeal.Frame
public import proofs.«01_k».proof.Proof.Gen.WOutKernelIdeal.Value
public import proofs.«01_k».proof.Proof.Gen.WOutReferenceIdeal
public import proofs.«01_k».proof.Proof.Gen.WOutReferenceIdeal.Run
public import proofs.«01_k».proof.Proof.Gen.WOutReferenceIdeal.Read
public import proofs.«01_k».proof.Proof.WOut.Claim
public import proofs.«01_k».proof.Proof.Gen.PleGateKernel
public import proofs.«01_k».proof.Proof.Gen.PleGateKernelIdeal
public import proofs.«01_k».proof.Proof.Gen.PleGateKernel.Skeleton
public import proofs.«01_k».proof.Proof.Gen.PleGateKernelIdeal.Skeleton
public import proofs.«01_k».proof.Proof.Gen.PleGateKernel.Launch
public import proofs.«01_k».proof.Proof.Gen.PleGateKernelIdeal.Launch
public import proofs.«01_k».proof.Proof.Gen.PleGateKernel.Points
public import proofs.«01_k».proof.Proof.Gen.PleGateKernelIdeal.Points
public import proofs.«01_k».proof.Proof.Gen.PleGateKernel.Frame
public import proofs.«01_k».proof.Proof.Gen.PleGateKernelIdeal.Frame
public import proofs.«01_k».proof.Proof.Gen.PleGateKernelIdeal.Value
public import proofs.«01_k».proof.Proof.Gen.PleGateReferenceIdeal
public import proofs.«01_k».proof.Proof.Gen.PleGateReferenceIdeal.Run
public import proofs.«01_k».proof.Proof.Gen.PleGateReferenceIdeal.Read
public import proofs.«01_k».proof.Proof.PleGate.Claim
public import proofs.«01_k».proof.Proof.Gen.RopeKernel
public import proofs.«01_k».proof.Proof.Gen.RopeKernelIdeal
public import proofs.«01_k».proof.Proof.Gen.RopeKernel.Skeleton
public import proofs.«01_k».proof.Proof.Gen.RopeKernelIdeal.Skeleton
public import proofs.«01_k».proof.Proof.Gen.RopeKernel.Launch
public import proofs.«01_k».proof.Proof.Gen.RopeKernelIdeal.Launch
public import proofs.«01_k».proof.Proof.Gen.RopeKernel.Points
public import proofs.«01_k».proof.Proof.Gen.RopeKernelIdeal.Points
public import proofs.«01_k».proof.Proof.Gen.RopeKernel.Frame
public import proofs.«01_k».proof.Proof.Gen.RopeKernelIdeal.Frame
public import proofs.«01_k».proof.Proof.Gen.RopeKernelIdeal.Value
public import proofs.«01_k».proof.Proof.Gen.RopeReferenceIdeal
public import proofs.«01_k».proof.Proof.Gen.RopeReferenceIdeal.Run
public import proofs.«01_k».proof.Proof.Gen.RopeReferenceIdeal.Read
public import proofs.«01_k».proof.Proof.Rope.Claim

@[expose] public section

noncomputable section

namespace Cert.Proof

open Idealize.ShloMosaic Idealize.SL.Sem

/-- The frames of every kernel and reference, what each idealization changes, and that both of a pair compute the same. -/
theorem claim : Cert.Claim := ⟨Cert.FfnActKernel.Gen.facts, Cert.FfnActKernelIdeal.Gen.facts, Cert.FfnActReferenceIdeal.Gen.facts, Cert.LossKernel.Gen.facts,
  Cert.LossKernelIdeal.Gen.facts, Cert.LossReferenceIdeal.Gen.facts, Cert.DiagKernel.Gen.facts, Cert.DiagKernelIdeal.Gen.facts,
  Cert.DiagReferenceIdeal.Gen.facts, Cert.AttnKernel.Gen.facts, Cert.AttnKernelIdeal.Gen.facts, Cert.AttnReferenceIdeal.Gen.facts,
  Cert.AttnSumKernel.Gen.facts, Cert.AttnSumKernelIdeal.Gen.facts, Cert.AttnSumReferenceIdeal.Gen.facts, Cert.MixKernel.Gen.facts,
  Cert.MixKernelIdeal.Gen.facts, Cert.MixReferenceIdeal.Gen.facts, Cert.GluKernel.Gen.facts, Cert.GluKernelIdeal.Gen.facts,
  Cert.GluReferenceIdeal.Gen.facts, Cert.PleKernel.Gen.facts, Cert.PleKernelIdeal.Gen.facts, Cert.PleReferenceIdeal.Gen.facts,
  Cert.FfnPostKernel.Gen.facts, Cert.FfnPostKernelIdeal.Gen.facts, Cert.FfnPostReferenceIdeal.Gen.facts, Cert.FfnPreKernel.Gen.facts,
  Cert.FfnPreKernelIdeal.Gen.facts, Cert.FfnPreReferenceIdeal.Gen.facts, Cert.MixInKernel.Gen.facts, Cert.MixInKernelIdeal.Gen.facts,
  Cert.MixInReferenceIdeal.Gen.facts, Cert.FfnInKernel.Gen.facts, Cert.FfnInKernelIdeal.Gen.facts, Cert.FfnInReferenceIdeal.Gen.facts,
  Cert.PreNormKernel.Gen.facts, Cert.PreNormKernelIdeal.Gen.facts, Cert.PreNormReferenceIdeal.Gen.facts, Cert.FfnDownKernel.Gen.facts,
  Cert.FfnDownKernelIdeal.Gen.facts, Cert.FfnDownReferenceIdeal.Gen.facts, Cert.SsmGluKernel.Gen.facts, Cert.SsmGluKernelIdeal.Gen.facts,
  Cert.SsmGluReferenceIdeal.Gen.facts, Cert.WOutKernel.Gen.facts, Cert.WOutKernelIdeal.Gen.facts, Cert.WOutReferenceIdeal.Gen.facts,
  Cert.PleGateKernel.Gen.facts, Cert.PleGateKernelIdeal.Gen.facts, Cert.PleGateReferenceIdeal.Gen.facts, Cert.RopeKernel.Gen.facts,
  Cert.RopeKernelIdeal.Gen.facts, Cert.RopeReferenceIdeal.Gen.facts, Cert.Pre_ffn_finite.Gen.facts, Cert.Pre_attn_finite.Gen.facts,
  fun m ρ _ => Cert.FfnActKernel.Gen.frame m ρ,
  fun m ρ _ => Cert.FfnActKernelIdeal.Gen.frame m ρ,
  fun m ρ _ => Cert.FfnActKernelIdeal.Gen.frame m ρ,
  fun m ρ _ => (θ_run Cert.FfnActReferenceIdeal.defs _ _).mono (fun r h => ⟨fun c => (h c).2, sem_eq_zero_of_no_sems (by decide) r.2⟩) (Cert.FfnActReferenceIdeal.Value.run m ρ),
  fun m ρ _ => (θ_run Cert.FfnActReferenceIdeal.defs _ _).mono (fun r h => ⟨fun c => (h c).2, sem_eq_zero_of_no_sems (by decide) r.2⟩) (Cert.FfnActReferenceIdeal.Value.run m ρ),
  fun m ρ _ => Cert.LossKernel.Gen.frame m ρ,
  fun m ρ _ => Cert.LossKernelIdeal.Gen.frame m ρ,
  fun m ρ _ => (θ_run Cert.LossReferenceIdeal.defs _ _).mono (fun r h => ⟨fun c => (h c).2.2, sem_eq_zero_of_no_sems (by decide) r.2⟩) (Cert.LossReferenceIdeal.Value.run m ρ),
  fun m ρ _ => Cert.DiagKernel.Gen.frame m ρ,
  fun m ρ _ => Cert.DiagKernelIdeal.Gen.frame m ρ,
  fun m ρ _ => (θ_run Cert.DiagReferenceIdeal.defs _ _).mono (fun r h => ⟨fun c => (h c).2, sem_eq_zero_of_no_sems (by decide) r.2⟩) (Cert.DiagReferenceIdeal.Value.run m ρ),
  fun m ρ _ => Cert.AttnKernel.Gen.frame m ρ,
  fun m ρ _ => Cert.AttnKernelIdeal.Gen.frame m ρ,
  fun m ρ _ => Cert.AttnKernelIdeal.Gen.frame m ρ,
  fun m ρ _ => (θ_run Cert.AttnReferenceIdeal.defs _ _).mono (fun r h => ⟨fun c => (h c).2.2.2.2, sem_eq_zero_of_no_sems (by decide) r.2⟩) (Cert.AttnReferenceIdeal.Value.run m ρ),
  fun m ρ _ => (θ_run Cert.AttnReferenceIdeal.defs _ _).mono (fun r h => ⟨fun c => (h c).2.2.2.2, sem_eq_zero_of_no_sems (by decide) r.2⟩) (Cert.AttnReferenceIdeal.Value.run m ρ),
  fun m ρ _ => Cert.AttnSumKernel.Gen.frame m ρ,
  fun m ρ _ => Cert.AttnSumKernelIdeal.Gen.frame m ρ,
  fun m ρ _ => (θ_run Cert.AttnSumReferenceIdeal.defs _ _).mono (fun r h => ⟨fun c => (h c).2, sem_eq_zero_of_no_sems (by decide) r.2⟩) (Cert.AttnSumReferenceIdeal.Value.run m ρ),
  fun m ρ _ => Cert.MixKernel.Gen.frame m ρ,
  fun m ρ _ => Cert.MixKernelIdeal.Gen.frame m ρ,
  fun m ρ _ => (θ_run Cert.MixReferenceIdeal.defs _ _).mono (fun r h => ⟨fun c => (h c).2.2.2.2.2.2.2.2, sem_eq_zero_of_no_sems (by decide) r.2⟩) (Cert.MixReferenceIdeal.Value.run m ρ),
  fun m ρ _ => Cert.GluKernel.Gen.frame m ρ,
  fun m ρ _ => Cert.GluKernelIdeal.Gen.frame m ρ,
  fun m ρ _ => (θ_run Cert.GluReferenceIdeal.defs _ _).mono (fun r h => ⟨fun c => (h c).2.2.2, sem_eq_zero_of_no_sems (by decide) r.2⟩) (Cert.GluReferenceIdeal.Value.run m ρ),
  fun m ρ _ => Cert.PleKernel.Gen.frame m ρ,
  fun m ρ _ => Cert.PleKernelIdeal.Gen.frame m ρ,
  fun m ρ _ => (θ_run Cert.PleReferenceIdeal.defs _ _).mono (fun r h => ⟨fun c => (h c).2.2.2, sem_eq_zero_of_no_sems (by decide) r.2⟩) (Cert.PleReferenceIdeal.Value.run m ρ),
  fun m ρ _ => Cert.FfnPostKernel.Gen.frame m ρ,
  fun m ρ _ => Cert.FfnPostKernelIdeal.Gen.frame m ρ,
  fun m ρ _ => (θ_run Cert.FfnPostReferenceIdeal.defs _ _).mono (fun r h => ⟨fun c => (h c).2.2.2, sem_eq_zero_of_no_sems (by decide) r.2⟩) (Cert.FfnPostReferenceIdeal.Value.run m ρ),
  fun m ρ _ => Cert.FfnPreKernel.Gen.frame m ρ,
  fun m ρ _ => Cert.FfnPreKernelIdeal.Gen.frame m ρ,
  fun m ρ _ => (θ_run Cert.FfnPreReferenceIdeal.defs _ _).mono (fun r h => ⟨fun c => (h c).2.2.2.2, sem_eq_zero_of_no_sems (by decide) r.2⟩) (Cert.FfnPreReferenceIdeal.Value.run m ρ),
  fun m ρ _ => Cert.MixInKernel.Gen.frame m ρ,
  fun m ρ _ => Cert.MixInKernelIdeal.Gen.frame m ρ,
  fun m ρ _ => (θ_run Cert.MixInReferenceIdeal.defs _ _).mono (fun r h => ⟨fun c => (h c).2.2.2.2, sem_eq_zero_of_no_sems (by decide) r.2⟩) (Cert.MixInReferenceIdeal.Value.run m ρ),
  fun m ρ _ => Cert.FfnInKernel.Gen.frame m ρ,
  fun m ρ _ => Cert.FfnInKernelIdeal.Gen.frame m ρ,
  fun m ρ _ => (θ_run Cert.FfnInReferenceIdeal.defs _ _).mono (fun r h => ⟨fun c => (h c).2.2, sem_eq_zero_of_no_sems (by decide) r.2⟩) (Cert.FfnInReferenceIdeal.Value.run m ρ),
  fun m ρ _ => Cert.PreNormKernel.Gen.frame m ρ,
  fun m ρ _ => Cert.PreNormKernelIdeal.Gen.frame m ρ,
  fun m ρ _ => (θ_run Cert.PreNormReferenceIdeal.defs _ _).mono (fun r h => ⟨fun c => (h c).2, sem_eq_zero_of_no_sems (by decide) r.2⟩) (Cert.PreNormReferenceIdeal.Value.run m ρ),
  fun m ρ _ => Cert.FfnDownKernel.Gen.frame m ρ,
  fun m ρ _ => Cert.FfnDownKernelIdeal.Gen.frame m ρ,
  fun m ρ _ => (θ_run Cert.FfnDownReferenceIdeal.defs _ _).mono (fun r h => ⟨fun c => (h c).2.2.2, sem_eq_zero_of_no_sems (by decide) r.2⟩) (Cert.FfnDownReferenceIdeal.Value.run m ρ),
  fun m ρ _ => Cert.SsmGluKernel.Gen.frame m ρ,
  fun m ρ _ => Cert.SsmGluKernelIdeal.Gen.frame m ρ,
  fun m ρ _ => (θ_run Cert.SsmGluReferenceIdeal.defs _ _).mono (fun r h => ⟨fun c => (h c).2.2.2.2, sem_eq_zero_of_no_sems (by decide) r.2⟩) (Cert.SsmGluReferenceIdeal.Value.run m ρ),
  fun m ρ _ => Cert.WOutKernel.Gen.frame m ρ,
  fun m ρ _ => Cert.WOutKernelIdeal.Gen.frame m ρ,
  fun m ρ _ => (θ_run Cert.WOutReferenceIdeal.defs _ _).mono (fun r h => ⟨fun c => (h c).2.2.2, sem_eq_zero_of_no_sems (by decide) r.2⟩) (Cert.WOutReferenceIdeal.Value.run m ρ),
  fun m ρ _ => Cert.PleGateKernel.Gen.frame m ρ,
  fun m ρ _ => Cert.PleGateKernelIdeal.Gen.frame m ρ,
  fun m ρ _ => (θ_run Cert.PleGateReferenceIdeal.defs _ _).mono (fun r h => ⟨fun c => (h c).2.2.2, sem_eq_zero_of_no_sems (by decide) r.2⟩) (Cert.PleGateReferenceIdeal.Value.run m ρ),
  fun m ρ _ => Cert.RopeKernel.Gen.frame m ρ,
  fun m ρ _ => Cert.RopeKernelIdeal.Gen.frame m ρ,
  fun m ρ _ => (θ_run Cert.RopeReferenceIdeal.defs _ _).mono (fun r h => ⟨fun c => (h c).2.2.2.2.2.2.2.2.2, sem_eq_zero_of_no_sems (by decide) r.2⟩) (Cert.RopeReferenceIdeal.Value.run m ρ),
  trivial,
  Cert.K.Ffn.algebraic,
  trivial,
  Cert.K.Loss.algebraic,
  trivial,
  Cert.K.Diag.algebraic,
  Cert.K.Attn.preserves,
  Cert.K.Attn.algebraic,
  trivial,
  Cert.K.AttnSum.algebraic,
  trivial,
  Cert.K.Mix.algebraic,
  trivial,
  Cert.K.Glu.algebraic,
  trivial,
  Cert.K.Ple.algebraic,
  trivial,
  Cert.K.FfnPost.algebraic,
  trivial,
  Cert.K.FfnPre.algebraic,
  trivial,
  Cert.K.MixIn.algebraic,
  trivial,
  Cert.K.FfnIn.algebraic,
  trivial,
  Cert.K.PreNorm.algebraic,
  trivial,
  Cert.K.FfnDown.algebraic,
  trivial,
  Cert.K.SsmGlu.algebraic,
  trivial,
  Cert.K.WOut.algebraic,
  trivial,
  Cert.K.PleGate.algebraic,
  trivial,
  Cert.K.Rope.algebraic⟩

end Cert.Proof

end
